-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreKernelIdeal_pre_in_finite [hPre_pre_in_finite : Cert.Pre_pre_in_finite.Facts] (m : (ℓ : Loc Cert.PreKernelIdeal.nD Cert.PreKernelIdeal.τ Cert.PreKernelIdeal.sig) → Buf (Elt Ideal) ℓ) : Prop :=
  ∀ c : Dev Cert.PreKernelIdeal.nD,
    (Cert.Pre_pre_in_finite.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4))) = (fun _ => 1#1)

def Pre_PreReferenceIdeal (m : (ℓ : Loc Cert.PreReferenceIdeal.nD Cert.PreReferenceIdeal.τ Cert.PreReferenceIdeal.sig) → Buf (Elt Ideal) ℓ) : Prop :=
  True

def Pre_PreReferenceIdeal_pre_in_finite [hPre_pre_in_finite : Cert.Pre_pre_in_finite.Facts] (m : (ℓ : Loc Cert.PreReferenceIdeal.nD Cert.PreReferenceIdeal.τ Cert.PreReferenceIdeal.sig) → Buf (Elt Ideal) ℓ) : Prop :=
  ∀ c : Dev Cert.PreReferenceIdeal.nD,
    (Cert.Pre_pre_in_finite.fn (F := Ideal) (m ((c.tc : Thread Cert.PreReferenceIdeal.nD Cert.PreReferenceIdeal.τ).loc Cert.PreReferenceIdeal.main_arg0)) (m ((c.tc : Thread Cert.PreReferenceIdeal.nD Cert.PreReferenceIdeal.τ).loc Cert.PreReferenceIdeal.main_arg1)) (m ((c.tc : Thread Cert.PreReferenceIdeal.nD Cert.PreReferenceIdeal.τ).loc Cert.PreReferenceIdeal.main_arg2)) (m ((c.tc : Thread Cert.PreReferenceIdeal.nD Cert.PreReferenceIdeal.τ).loc Cert.PreReferenceIdeal.main_arg3)) (m ((c.tc : Thread Cert.PreReferenceIdeal.nD Cert.PreReferenceIdeal.τ).loc Cert.PreReferenceIdeal.main_arg4))) = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_mla_finite [hPre_mla_finite : Cert.Pre_mla_finite.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5)) (m ((c.tc : Thread Cert.MlaKernelIdeal.nD Cert.MlaKernelIdeal.τ).loc Cert.MlaKernelIdeal.main_arg6)) (m ((c.tc : Thread Cert.MlaKernelIdeal.nD Cert.MlaKernelIdeal.τ).loc Cert.MlaKernelIdeal.main_arg7)) (m ((c.tc : Thread Cert.MlaKernelIdeal.nD Cert.MlaKernelIdeal.τ).loc Cert.MlaKernelIdeal.main_arg8)) (m ((c.tc : Thread Cert.MlaKernelIdeal.nD Cert.MlaKernelIdeal.τ).loc Cert.MlaKernelIdeal.main_arg9))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4)) (m ((c.tc : Thread Cert.MlaReferenceIdeal.nD Cert.MlaReferenceIdeal.τ).loc Cert.MlaReferenceIdeal.main_arg5)) (m ((c.tc : Thread Cert.MlaReferenceIdeal.nD Cert.MlaReferenceIdeal.τ).loc Cert.MlaReferenceIdeal.main_arg6)) (m ((c.tc : Thread Cert.MlaReferenceIdeal.nD Cert.MlaReferenceIdeal.τ).loc Cert.MlaReferenceIdeal.main_arg7)) (m ((c.tc : Thread Cert.MlaReferenceIdeal.nD Cert.MlaReferenceIdeal.τ).loc Cert.MlaReferenceIdeal.main_arg8)) (m ((c.tc : Thread Cert.MlaReferenceIdeal.nD Cert.MlaReferenceIdeal.τ).loc Cert.MlaReferenceIdeal.main_arg9))) = (fun _ => 1#1)

def Pre_AttnfKernel (m : (ℓ : Loc Cert.AttnfKernel.nD Cert.AttnfKernel.τ Cert.AttnfKernel.sig) → Buf (Elt Bits) ℓ) : Prop :=
  True

def Pre_AttnfKernelIdeal (m : (ℓ : Loc Cert.AttnfKernelIdeal.nD Cert.AttnfKernelIdeal.τ Cert.AttnfKernelIdeal.sig) → Buf (Elt Ideal) ℓ) : Prop :=
  True

def Pre_AttnfKernelIdeal_attnf_finite [hPre_attnf_finite : Cert.Pre_attnf_finite.Facts] (m : (ℓ : Loc Cert.AttnfKernelIdeal.nD Cert.AttnfKernelIdeal.τ Cert.AttnfKernelIdeal.sig) → Buf (Elt Ideal) ℓ) : Prop :=
  ∀ c : Dev Cert.AttnfKernelIdeal.nD,
    (Cert.Pre_attnf_finite.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2))) = (fun _ => 1#1)

def Pre_AttnfReferenceIdeal (m : (ℓ : Loc Cert.AttnfReferenceIdeal.nD Cert.AttnfReferenceIdeal.τ Cert.AttnfReferenceIdeal.sig) → Buf (Elt Ideal) ℓ) : Prop :=
  True

def Pre_AttnfReferenceIdeal_attnf_finite [hPre_attnf_finite : Cert.Pre_attnf_finite.Facts] (m : (ℓ : Loc Cert.AttnfReferenceIdeal.nD Cert.AttnfReferenceIdeal.τ Cert.AttnfReferenceIdeal.sig) → Buf (Elt Ideal) ℓ) : Prop :=
  ∀ c : Dev Cert.AttnfReferenceIdeal.nD,
    (Cert.Pre_attnf_finite.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2))) = (fun _ => 1#1)

def Pre_PrefKernel (m : (ℓ : Loc Cert.PrefKernel.nD Cert.PrefKernel.τ Cert.PrefKernel.sig) → Buf (Elt Bits) ℓ) : Prop :=
  True

def Pre_PrefKernelIdeal (m : (ℓ : Loc Cert.PrefKernelIdeal.nD Cert.PrefKernelIdeal.τ Cert.PrefKernelIdeal.sig) → Buf (Elt Ideal) ℓ) : Prop :=
  True

def Pre_PrefReferenceIdeal (m : (ℓ : Loc Cert.PrefReferenceIdeal.nD Cert.PrefReferenceIdeal.τ Cert.PrefReferenceIdeal.sig) → Buf (Elt Ideal) ℓ) : Prop :=
  True

def Pre_MlafKernel (m : (ℓ : Loc Cert.MlafKernel.nD Cert.MlafKernel.τ Cert.MlafKernel.sig) → Buf (Elt Bits) ℓ) : Prop :=
  True

def Pre_MlafKernelIdeal (m : (ℓ : Loc Cert.MlafKernelIdeal.nD Cert.MlafKernelIdeal.τ Cert.MlafKernelIdeal.sig) → Buf (Elt Ideal) ℓ) : Prop :=
  True

def Pre_MlafReferenceIdeal (m : (ℓ : Loc Cert.MlafReferenceIdeal.nD Cert.MlafReferenceIdeal.τ Cert.MlafReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ r.2.sem = fun _ => 0)

def quiescent_PreKernelIdeal_pre_pre_in_finite [hPreKernelIdeal : Cert.PreKernelIdeal.Facts] [hPre_pre_in_finite : Cert.Pre_pre_in_finite.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal_pre_in_finite m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4))
      ∧ r.2.sem = fun _ => 0)

def quiescent_PreReferenceIdeal_pre_pre_in_finite [hPreReferenceIdeal : Cert.PreReferenceIdeal.Facts] [hPre_pre_in_finite : Cert.Pre_pre_in_finite.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal_pre_in_finite m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5)
      ∧ r.2.mem ((c.tc : Thread Cert.MlaKernel.nD Cert.MlaKernel.τ).loc Cert.MlaKernel.main_arg6) = m ((c.tc : Thread Cert.MlaKernel.nD Cert.MlaKernel.τ).loc Cert.MlaKernel.main_arg6)
      ∧ r.2.mem ((c.tc : Thread Cert.MlaKernel.nD Cert.MlaKernel.τ).loc Cert.MlaKernel.main_arg7) = m ((c.tc : Thread Cert.MlaKernel.nD Cert.MlaKernel.τ).loc Cert.MlaKernel.main_arg7)
      ∧ r.2.mem ((c.tc : Thread Cert.MlaKernel.nD Cert.MlaKernel.τ).loc Cert.MlaKernel.main_arg8) = m ((c.tc : Thread Cert.MlaKernel.nD Cert.MlaKernel.τ).loc Cert.MlaKernel.main_arg8)
      ∧ r.2.mem ((c.tc : Thread Cert.MlaKernel.nD Cert.MlaKernel.τ).loc Cert.MlaKernel.main_arg9) = m ((c.tc : Thread Cert.MlaKernel.nD Cert.MlaKernel.τ).loc Cert.MlaKernel.main_arg9))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
      ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9))
      ∧ r.2.sem = fun _ => 0)

def quiescent_MlaKernelIdeal_pre_mla_finite [hMlaKernelIdeal : Cert.MlaKernelIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_mla_finite m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
      ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8)
      ∧ r.2.mem ((c.tc : Thread Cert.MlaReferenceIdeal.nD Cert.MlaReferenceIdeal.τ).loc Cert.MlaReferenceIdeal.main_arg9) = m ((c.tc : Thread Cert.MlaReferenceIdeal.nD Cert.MlaReferenceIdeal.τ).loc Cert.MlaReferenceIdeal.main_arg9))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8)
      ∧ r.2.mem ((c.tc : Thread Cert.MlaReferenceIdeal.nD Cert.MlaReferenceIdeal.τ).loc Cert.MlaReferenceIdeal.main_arg9) = m ((c.tc : Thread Cert.MlaReferenceIdeal.nD Cert.MlaReferenceIdeal.τ).loc Cert.MlaReferenceIdeal.main_arg9))
      ∧ r.2.sem = fun _ => 0)

def quiescent_AttnfKernel [hAttnfKernel : Cert.AttnfKernel.Facts] : Prop :=
  ∀ (m : (ℓ : Loc Cert.AttnfKernel.nD Cert.AttnfKernel.τ Cert.AttnfKernel.sig) → Buf (Elt Bits) ℓ) (g : Dev Cert.AttnfKernel.nD → PrngReg), Pre_AttnfKernel m →
    θ_run (Cert.AttnfKernel.defs (F := Bits)) (onTc (τ := Cert.AttnfKernel.τ) (Cert.AttnfKernel.main (F := Bits))) ⟨m, fun _ => 0, g⟩ (fun r => (∀ c : Dev Cert.AttnfKernel.nD,
      r.2.mem ((c.tc : Thread Cert.AttnfKernel.nD Cert.AttnfKernel.τ).loc Cert.AttnfKernel.main_arg0) = m ((c.tc : Thread Cert.AttnfKernel.nD Cert.AttnfKernel.τ).loc Cert.AttnfKernel.main_arg0)
      ∧ r.2.mem ((c.tc : Thread Cert.AttnfKernel.nD Cert.AttnfKernel.τ).loc Cert.AttnfKernel.main_arg1) = m ((c.tc : Thread Cert.AttnfKernel.nD Cert.AttnfKernel.τ).loc Cert.AttnfKernel.main_arg1)
      ∧ r.2.mem ((c.tc : Thread Cert.AttnfKernel.nD Cert.AttnfKernel.τ).loc Cert.AttnfKernel.main_arg2) = m ((c.tc : Thread Cert.AttnfKernel.nD Cert.AttnfKernel.τ).loc Cert.AttnfKernel.main_arg2))
      ∧ r.2.sem = fun _ => 0)

def quiescent_AttnfKernelIdeal [hAttnfKernelIdeal : Cert.AttnfKernelIdeal.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2))
      ∧ r.2.sem = fun _ => 0)

def quiescent_AttnfKernelIdeal_pre_attnf_finite [hAttnfKernelIdeal : Cert.AttnfKernelIdeal.Facts] [hPre_attnf_finite : Cert.Pre_attnf_finite.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal_attnf_finite m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2))
      ∧ r.2.sem = fun _ => 0)

def quiescent_AttnfReferenceIdeal [hAttnfReferenceIdeal : Cert.AttnfReferenceIdeal.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2))
      ∧ r.2.sem = fun _ => 0)

def quiescent_AttnfReferenceIdeal_pre_attnf_finite [hAttnfReferenceIdeal : Cert.AttnfReferenceIdeal.Facts] [hPre_attnf_finite : Cert.Pre_attnf_finite.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal_attnf_finite m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2))
      ∧ r.2.sem = fun _ => 0)

def quiescent_PrefKernel [hPrefKernel : Cert.PrefKernel.Facts] : Prop :=
  ∀ (m : (ℓ : Loc Cert.PrefKernel.nD Cert.PrefKernel.τ Cert.PrefKernel.sig) → Buf (Elt Bits) ℓ) (g : Dev Cert.PrefKernel.nD → PrngReg), Pre_PrefKernel m →
    θ_run (Cert.PrefKernel.defs (F := Bits)) (onTc (τ := Cert.PrefKernel.τ) (Cert.PrefKernel.main (F := Bits))) ⟨m, fun _ => 0, g⟩ (fun r => (∀ c : Dev Cert.PrefKernel.nD,
      r.2.mem ((c.tc : Thread Cert.PrefKernel.nD Cert.PrefKernel.τ).loc Cert.PrefKernel.main_arg0) = m ((c.tc : Thread Cert.PrefKernel.nD Cert.PrefKernel.τ).loc Cert.PrefKernel.main_arg0)
      ∧ r.2.mem ((c.tc : Thread Cert.PrefKernel.nD Cert.PrefKernel.τ).loc Cert.PrefKernel.main_arg1) = m ((c.tc : Thread Cert.PrefKernel.nD Cert.PrefKernel.τ).loc Cert.PrefKernel.main_arg1)
      ∧ r.2.mem ((c.tc : Thread Cert.PrefKernel.nD Cert.PrefKernel.τ).loc Cert.PrefKernel.main_arg2) = m ((c.tc : Thread Cert.PrefKernel.nD Cert.PrefKernel.τ).loc Cert.PrefKernel.main_arg2))
      ∧ r.2.sem = fun _ => 0)

def quiescent_PrefKernelIdeal [hPrefKernelIdeal : Cert.PrefKernelIdeal.Facts] : Prop :=
  ∀ (m : (ℓ : Loc Cert.PrefKernelIdeal.nD Cert.PrefKernelIdeal.τ Cert.PrefKernelIdeal.sig) → Buf (Elt Ideal) ℓ) (g : Dev Cert.PrefKernelIdeal.nD → PrngReg), Pre_PrefKernelIdeal m →
    θ_run (Cert.PrefKernelIdeal.defs (F := Ideal)) (onTc (τ := Cert.PrefKernelIdeal.τ) (Cert.PrefKernelIdeal.main (F := Ideal))) ⟨m, fun _ => 0, g⟩ (fun r => (∀ c : Dev Cert.PrefKernelIdeal.nD,
      r.2.mem ((c.tc : Thread Cert.PrefKernelIdeal.nD Cert.PrefKernelIdeal.τ).loc Cert.PrefKernelIdeal.main_arg0) = m ((c.tc : Thread Cert.PrefKernelIdeal.nD Cert.PrefKernelIdeal.τ).loc Cert.PrefKernelIdeal.main_arg0)
      ∧ r.2.mem ((c.tc : Thread Cert.PrefKernelIdeal.nD Cert.PrefKernelIdeal.τ).loc Cert.PrefKernelIdeal.main_arg1) = m ((c.tc : Thread Cert.PrefKernelIdeal.nD Cert.PrefKernelIdeal.τ).loc Cert.PrefKernelIdeal.main_arg1)
      ∧ r.2.mem ((c.tc : Thread Cert.PrefKernelIdeal.nD Cert.PrefKernelIdeal.τ).loc Cert.PrefKernelIdeal.main_arg2) = m ((c.tc : Thread Cert.PrefKernelIdeal.nD Cert.PrefKernelIdeal.τ).loc Cert.PrefKernelIdeal.main_arg2))
      ∧ r.2.sem = fun _ => 0)

def quiescent_PrefReferenceIdeal [hPrefReferenceIdeal : Cert.PrefReferenceIdeal.Facts] : Prop :=
  ∀ (m : (ℓ : Loc Cert.PrefReferenceIdeal.nD Cert.PrefReferenceIdeal.τ Cert.PrefReferenceIdeal.sig) → Buf (Elt Ideal) ℓ) (g : Dev Cert.PrefReferenceIdeal.nD → PrngReg), Pre_PrefReferenceIdeal m →
    θ_run (Cert.PrefReferenceIdeal.defs (F := Ideal)) (onTc (τ := Cert.PrefReferenceIdeal.τ) (Cert.PrefReferenceIdeal.main (F := Ideal))) ⟨m, fun _ => 0, g⟩ (fun r => (∀ c : Dev Cert.PrefReferenceIdeal.nD,
      r.2.mem ((c.tc : Thread Cert.PrefReferenceIdeal.nD Cert.PrefReferenceIdeal.τ).loc Cert.PrefReferenceIdeal.main_arg0) = m ((c.tc : Thread Cert.PrefReferenceIdeal.nD Cert.PrefReferenceIdeal.τ).loc Cert.PrefReferenceIdeal.main_arg0)
      ∧ r.2.mem ((c.tc : Thread Cert.PrefReferenceIdeal.nD Cert.PrefReferenceIdeal.τ).loc Cert.PrefReferenceIdeal.main_arg1) = m ((c.tc : Thread Cert.PrefReferenceIdeal.nD Cert.PrefReferenceIdeal.τ).loc Cert.PrefReferenceIdeal.main_arg1)
      ∧ r.2.mem ((c.tc : Thread Cert.PrefReferenceIdeal.nD Cert.PrefReferenceIdeal.τ).loc Cert.PrefReferenceIdeal.main_arg2) = m ((c.tc : Thread Cert.PrefReferenceIdeal.nD Cert.PrefReferenceIdeal.τ).loc Cert.PrefReferenceIdeal.main_arg2))
      ∧ r.2.sem = fun _ => 0)

def quiescent_MlafKernel [hMlafKernel : Cert.MlafKernel.Facts] : Prop :=
  ∀ (m : (ℓ : Loc Cert.MlafKernel.nD Cert.MlafKernel.τ Cert.MlafKernel.sig) → Buf (Elt Bits) ℓ) (g : Dev Cert.MlafKernel.nD → PrngReg), Pre_MlafKernel m →
    θ_run (Cert.MlafKernel.defs (F := Bits)) (onTc (τ := Cert.MlafKernel.τ) (Cert.MlafKernel.main (F := Bits))) ⟨m, fun _ => 0, g⟩ (fun r => (∀ c : Dev Cert.MlafKernel.nD,
      r.2.mem ((c.tc : Thread Cert.MlafKernel.nD Cert.MlafKernel.τ).loc Cert.MlafKernel.main_arg0) = m ((c.tc : Thread Cert.MlafKernel.nD Cert.MlafKernel.τ).loc Cert.MlafKernel.main_arg0)
      ∧ r.2.mem ((c.tc : Thread Cert.MlafKernel.nD Cert.MlafKernel.τ).loc Cert.MlafKernel.main_arg1) = m ((c.tc : Thread Cert.MlafKernel.nD Cert.MlafKernel.τ).loc Cert.MlafKernel.main_arg1)
      ∧ r.2.mem ((c.tc : Thread Cert.MlafKernel.nD Cert.MlafKernel.τ).loc Cert.MlafKernel.main_arg2) = m ((c.tc : Thread Cert.MlafKernel.nD Cert.MlafKernel.τ).loc Cert.MlafKernel.main_arg2)
      ∧ r.2.mem ((c.tc : Thread Cert.MlafKernel.nD Cert.MlafKernel.τ).loc Cert.MlafKernel.main_arg3) = m ((c.tc : Thread Cert.MlafKernel.nD Cert.MlafKernel.τ).loc Cert.MlafKernel.main_arg3)
      ∧ r.2.mem ((c.tc : Thread Cert.MlafKernel.nD Cert.MlafKernel.τ).loc Cert.MlafKernel.main_arg4) = m ((c.tc : Thread Cert.MlafKernel.nD Cert.MlafKernel.τ).loc Cert.MlafKernel.main_arg4)
      ∧ r.2.mem ((c.tc : Thread Cert.MlafKernel.nD Cert.MlafKernel.τ).loc Cert.MlafKernel.main_arg5) = m ((c.tc : Thread Cert.MlafKernel.nD Cert.MlafKernel.τ).loc Cert.MlafKernel.main_arg5)
      ∧ r.2.mem ((c.tc : Thread Cert.MlafKernel.nD Cert.MlafKernel.τ).loc Cert.MlafKernel.main_arg6) = m ((c.tc : Thread Cert.MlafKernel.nD Cert.MlafKernel.τ).loc Cert.MlafKernel.main_arg6))
      ∧ r.2.sem = fun _ => 0)

def quiescent_MlafKernelIdeal [hMlafKernelIdeal : Cert.MlafKernelIdeal.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg), Pre_MlafKernelIdeal m →
    θ_run (Cert.MlafKernelIdeal.defs (F := Ideal)) (onTc (τ := Cert.MlafKernelIdeal.τ) (Cert.MlafKernelIdeal.main (F := Ideal))) ⟨m, fun _ => 0, g⟩ (fun r => (∀ c : Dev Cert.MlafKernelIdeal.nD,
      r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
      ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
      ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2)
      ∧ r.2.mem ((c.tc : Thread Cert.MlafKernelIdeal.nD Cert.MlafKernelIdeal.τ).loc Cert.MlafKernelIdeal.main_arg3) = m ((c.tc : Thread Cert.MlafKernelIdeal.nD Cert.MlafKernelIdeal.τ).loc Cert.MlafKernelIdeal.main_arg3)
      ∧ r.2.mem ((c.tc : Thread Cert.MlafKernelIdeal.nD Cert.MlafKernelIdeal.τ).loc Cert.MlafKernelIdeal.main_arg4) = m ((c.tc : Thread Cert.MlafKernelIdeal.nD Cert.MlafKernelIdeal.τ).loc Cert.MlafKernelIdeal.main_arg4)
      ∧ r.2.mem ((c.tc : Thread Cert.MlafKernelIdeal.nD Cert.MlafKernelIdeal.τ).loc Cert.MlafKernelIdeal.main_arg5) = m ((c.tc : Thread Cert.MlafKernelIdeal.nD Cert.MlafKernelIdeal.τ).loc Cert.MlafKernelIdeal.main_arg5)
      ∧ r.2.mem ((c.tc : Thread Cert.MlafKernelIdeal.nD Cert.MlafKernelIdeal.τ).loc Cert.MlafKernelIdeal.main_arg6) = m ((c.tc : Thread Cert.MlafKernelIdeal.nD Cert.MlafKernelIdeal.τ).loc Cert.MlafKernelIdeal.main_arg6))
      ∧ r.2.sem = fun _ => 0)

def quiescent_MlafReferenceIdeal [hMlafReferenceIdeal : Cert.MlafReferenceIdeal.Facts] : Prop :=
  ∀ (m : (ℓ : Loc Cert.MlafReferenceIdeal.nD Cert.MlafReferenceIdeal.τ Cert.MlafReferenceIdeal.sig) → Buf (Elt Ideal) ℓ) (g : Dev Cert.MlafReferenceIdeal.nD → PrngReg), Pre_MlafReferenceIdeal m →
    θ_run (Cert.MlafReferenceIdeal.defs (F := Ideal)) (onTc (τ := Cert.MlafReferenceIdeal.τ) (Cert.MlafReferenceIdeal.main (F := Ideal))) ⟨m, fun _ => 0, g⟩ (fun r => (∀ c : Dev Cert.MlafReferenceIdeal.nD,
      r.2.mem ((c.tc : Thread Cert.MlafReferenceIdeal.nD Cert.MlafReferenceIdeal.τ).loc Cert.MlafReferenceIdeal.main_arg0) = m ((c.tc : Thread Cert.MlafReferenceIdeal.nD Cert.MlafReferenceIdeal.τ).loc Cert.MlafReferenceIdeal.main_arg0)
      ∧ r.2.mem ((c.tc : Thread Cert.MlafReferenceIdeal.nD Cert.MlafReferenceIdeal.τ).loc Cert.MlafReferenceIdeal.main_arg1) = m ((c.tc : Thread Cert.MlafReferenceIdeal.nD Cert.MlafReferenceIdeal.τ).loc Cert.MlafReferenceIdeal.main_arg1)
      ∧ r.2.mem ((c.tc : Thread Cert.MlafReferenceIdeal.nD Cert.MlafReferenceIdeal.τ).loc Cert.MlafReferenceIdeal.main_arg2) = m ((c.tc : Thread Cert.MlafReferenceIdeal.nD Cert.MlafReferenceIdeal.τ).loc Cert.MlafReferenceIdeal.main_arg2)
      ∧ r.2.mem ((c.tc : Thread Cert.MlafReferenceIdeal.nD Cert.MlafReferenceIdeal.τ).loc Cert.MlafReferenceIdeal.main_arg3) = m ((c.tc : Thread Cert.MlafReferenceIdeal.nD Cert.MlafReferenceIdeal.τ).loc Cert.MlafReferenceIdeal.main_arg3)
      ∧ r.2.mem ((c.tc : Thread Cert.MlafReferenceIdeal.nD Cert.MlafReferenceIdeal.τ).loc Cert.MlafReferenceIdeal.main_arg4) = m ((c.tc : Thread Cert.MlafReferenceIdeal.nD Cert.MlafReferenceIdeal.τ).loc Cert.MlafReferenceIdeal.main_arg4)
      ∧ r.2.mem ((c.tc : Thread Cert.MlafReferenceIdeal.nD Cert.MlafReferenceIdeal.τ).loc Cert.MlafReferenceIdeal.main_arg5) = m ((c.tc : Thread Cert.MlafReferenceIdeal.nD Cert.MlafReferenceIdeal.τ).loc Cert.MlafReferenceIdeal.main_arg5)
      ∧ r.2.mem ((c.tc : Thread Cert.MlafReferenceIdeal.nD Cert.MlafReferenceIdeal.τ).loc Cert.MlafReferenceIdeal.main_arg6) = m ((c.tc : Thread Cert.MlafReferenceIdeal.nD Cert.MlafReferenceIdeal.τ).loc Cert.MlafReferenceIdeal.main_arg6))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v16) = v0 c
          ∧ r.2.mem ((c.tc : Thread Cert.LossReferenceIdeal.nD Cert.LossReferenceIdeal.τ).loc Cert.LossReferenceIdeal.main_v17) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AttnKernel_AttnKernelIdeal : Prop :=
  IdealRules.named_const.Statement Cert.AttnKernelIdeal.κ "log2e" .f32 0x3FB8AA3B#32 (((Real.log 2)⁻¹ : ℝ) : EReal)
  ∧ IdealRules.named_const.Statement Cert.AttnKernelIdeal.κ "mask" .f32 0xF149F2CA#32 ⊥
  ∧ IdealRules.named_const.Statement Cert.AttnKernelIdeal.κ "scale_log2e" .f32 0x3E16C740#32 (((Real.sqrt 96)⁻¹ * (Real.log 2)⁻¹ : ℝ) : EReal)
  ∧ IdealRules.named_const.Statement Cert.AttnKernelIdeal.κ "scale" .f32 0x3DD105EC#32 (((Real.sqrt 96)⁻¹ : ℝ) : EReal)

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v36_0)) (v1 : (c : Dev Cert.AttnKernelIdeal.nD) → Buf (Elt Ideal) ((c.tc : Thread Cert.AttnKernelIdeal.nD Cert.AttnKernelIdeal.τ).loc Cert.AttnKernelIdeal.main_v36_1)) (v2 : (c : Dev Cert.AttnKernelIdeal.nD) → Buf (Elt Ideal) ((c.tc : Thread Cert.AttnKernelIdeal.nD Cert.AttnKernelIdeal.τ).loc Cert.AttnKernelIdeal.main_v36_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v36_0) = v0 c
          ∧ r.2.mem ((c.tc : Thread Cert.AttnKernelIdeal.nD Cert.AttnKernelIdeal.τ).loc Cert.AttnKernelIdeal.main_v36_1) = v1 c
          ∧ r.2.mem ((c.tc : Thread Cert.AttnKernelIdeal.nD Cert.AttnKernelIdeal.τ).loc Cert.AttnKernelIdeal.main_v36_2) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v70) = v0 c
          ∧ r.2.mem ((c.tc : Thread Cert.AttnReferenceIdeal.nD Cert.AttnReferenceIdeal.τ).loc Cert.AttnReferenceIdeal.main_v71) = v1 c
          ∧ r.2.mem ((c.tc : Thread Cert.AttnReferenceIdeal.nD Cert.AttnReferenceIdeal.τ).loc Cert.AttnReferenceIdeal.main_v73) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v10_0)) (v1 : (c : Dev Cert.ConvKernelIdeal.nD) → Buf (Elt Ideal) ((c.tc : Thread Cert.ConvKernelIdeal.nD Cert.ConvKernelIdeal.τ).loc Cert.ConvKernelIdeal.main_v10_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v10_0) = v0 c
          ∧ r.2.mem ((c.tc : Thread Cert.ConvKernelIdeal.nD Cert.ConvKernelIdeal.τ).loc Cert.ConvKernelIdeal.main_v10_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v72) = v0 c
          ∧ r.2.mem ((c.tc : Thread Cert.ConvReferenceIdeal.nD Cert.ConvReferenceIdeal.τ).loc Cert.ConvReferenceIdeal.main_v73) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_PreKernel_PreKernelIdeal : Prop :=
  True

def algebraic_PreKernelIdeal_PreReferenceIdeal_pre_pre_in_finite [hPreKernelIdeal : Cert.PreKernelIdeal.Facts] [hPreReferenceIdeal : Cert.PreReferenceIdeal.Facts] [hPre_pre_in_finite : Cert.Pre_pre_in_finite.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreKernelIdeal_pre_in_finite m →
    (∀ c : Dev Cert.PreKernelIdeal.nD,
      m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)) →
    ∃ (v0 : (c : Dev Cert.PreKernelIdeal.nD) → Buf (Elt Ideal) ((c.tc : Thread Cert.PreKernelIdeal.nD Cert.PreKernelIdeal.τ).loc Cert.PreKernelIdeal.main_v23_0)) (v1 : (c : Dev Cert.PreKernelIdeal.nD) → Buf (Elt Ideal) ((c.tc : Thread Cert.PreKernelIdeal.nD Cert.PreKernelIdeal.τ).loc Cert.PreKernelIdeal.main_v23_1)) (v2 : (c : Dev Cert.PreKernelIdeal.nD) → Buf (Elt Ideal) ((c.tc : Thread Cert.PreKernelIdeal.nD Cert.PreKernelIdeal.τ).loc Cert.PreKernelIdeal.main_v23_2)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v23_0) = v0 c
          ∧ r.2.mem ((c.tc : Thread Cert.PreKernelIdeal.nD Cert.PreKernelIdeal.τ).loc Cert.PreKernelIdeal.main_v23_1) = v1 c
          ∧ r.2.mem ((c.tc : Thread Cert.PreKernelIdeal.nD Cert.PreKernelIdeal.τ).loc Cert.PreKernelIdeal.main_v23_2) = v2 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v50) = v0 c
          ∧ r.2.mem ((c.tc : Thread Cert.PreReferenceIdeal.nD Cert.PreReferenceIdeal.τ).loc Cert.PreReferenceIdeal.main_v51) = v1 c
          ∧ r.2.mem ((c.tc : Thread Cert.PreReferenceIdeal.nD Cert.PreReferenceIdeal.τ).loc Cert.PreReferenceIdeal.main_v52) = v2 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4))

def preserves_MlaKernel_MlaKernelIdeal : Prop :=
  True

def algebraic_MlaKernelIdeal_MlaReferenceIdeal_pre_mla_finite [hMlaKernelIdeal : Cert.MlaKernelIdeal.Facts] [hMlaReferenceIdeal : Cert.MlaReferenceIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal_mla_finite m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)
      ∧ m' ((c.tc : Thread Cert.MlaReferenceIdeal.nD Cert.MlaReferenceIdeal.τ).loc Cert.MlaReferenceIdeal.main_arg5) = m ((c.tc : Thread Cert.MlaKernelIdeal.nD Cert.MlaKernelIdeal.τ).loc Cert.MlaKernelIdeal.main_arg5)
      ∧ m' ((c.tc : Thread Cert.MlaReferenceIdeal.nD Cert.MlaReferenceIdeal.τ).loc Cert.MlaReferenceIdeal.main_arg6) = m ((c.tc : Thread Cert.MlaKernelIdeal.nD Cert.MlaKernelIdeal.τ).loc Cert.MlaKernelIdeal.main_arg6)
      ∧ m' ((c.tc : Thread Cert.MlaReferenceIdeal.nD Cert.MlaReferenceIdeal.τ).loc Cert.MlaReferenceIdeal.main_arg7) = m ((c.tc : Thread Cert.MlaKernelIdeal.nD Cert.MlaKernelIdeal.τ).loc Cert.MlaKernelIdeal.main_arg7)
      ∧ m' ((c.tc : Thread Cert.MlaReferenceIdeal.nD Cert.MlaReferenceIdeal.τ).loc Cert.MlaReferenceIdeal.main_arg8) = m ((c.tc : Thread Cert.MlaKernelIdeal.nD Cert.MlaKernelIdeal.τ).loc Cert.MlaKernelIdeal.main_arg8)
      ∧ m' ((c.tc : Thread Cert.MlaReferenceIdeal.nD Cert.MlaReferenceIdeal.τ).loc Cert.MlaReferenceIdeal.main_arg9) = m ((c.tc : Thread Cert.MlaKernelIdeal.nD Cert.MlaKernelIdeal.τ).loc Cert.MlaKernelIdeal.main_arg9)) →
    ∃ (v0 : (c : Dev Cert.MlaKernelIdeal.nD) → Buf (Elt Ideal) ((c.tc : Thread Cert.MlaKernelIdeal.nD Cert.MlaKernelIdeal.τ).loc Cert.MlaKernelIdeal.main_v50_0)) (v1 : (c : Dev Cert.MlaKernelIdeal.nD) → Buf (Elt Ideal) ((c.tc : Thread Cert.MlaKernelIdeal.nD Cert.MlaKernelIdeal.τ).loc Cert.MlaKernelIdeal.main_v50_1)) (v2 : (c : Dev Cert.MlaKernelIdeal.nD) → Buf (Elt Ideal) ((c.tc : Thread Cert.MlaKernelIdeal.nD Cert.MlaKernelIdeal.τ).loc Cert.MlaKernelIdeal.main_v50_2)) (v3 : (c : Dev Cert.MlaKernelIdeal.nD) → Buf (Elt Ideal) ((c.tc : Thread Cert.MlaKernelIdeal.nD Cert.MlaKernelIdeal.τ).loc Cert.MlaKernelIdeal.main_v50_3)) (v4 : (c : Dev Cert.MlaKernelIdeal.nD) → Buf (Elt Ideal) ((c.tc : Thread Cert.MlaKernelIdeal.nD Cert.MlaKernelIdeal.τ).loc Cert.MlaKernelIdeal.main_v50_4)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v50_0) = v0 c
          ∧ r.2.mem ((c.tc : Thread Cert.MlaKernelIdeal.nD Cert.MlaKernelIdeal.τ).loc Cert.MlaKernelIdeal.main_v50_1) = v1 c
          ∧ r.2.mem ((c.tc : Thread Cert.MlaKernelIdeal.nD Cert.MlaKernelIdeal.τ).loc Cert.MlaKernelIdeal.main_v50_2) = v2 c
          ∧ r.2.mem ((c.tc : Thread Cert.MlaKernelIdeal.nD Cert.MlaKernelIdeal.τ).loc Cert.MlaKernelIdeal.main_v50_3) = v3 c
          ∧ r.2.mem ((c.tc : Thread Cert.MlaKernelIdeal.nD Cert.MlaKernelIdeal.τ).loc Cert.MlaKernelIdeal.main_v50_4) = v4 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
          ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
          ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
          ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
          ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
          ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v178) = v0 c
          ∧ r.2.mem ((c.tc : Thread Cert.MlaReferenceIdeal.nD Cert.MlaReferenceIdeal.τ).loc Cert.MlaReferenceIdeal.main_v179) = v1 c
          ∧ r.2.mem ((c.tc : Thread Cert.MlaReferenceIdeal.nD Cert.MlaReferenceIdeal.τ).loc Cert.MlaReferenceIdeal.main_v180) = v2 c
          ∧ r.2.mem ((c.tc : Thread Cert.MlaReferenceIdeal.nD Cert.MlaReferenceIdeal.τ).loc Cert.MlaReferenceIdeal.main_v181) = v3 c
          ∧ r.2.mem ((c.tc : Thread Cert.MlaReferenceIdeal.nD Cert.MlaReferenceIdeal.τ).loc Cert.MlaReferenceIdeal.main_v182) = v4 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7)
          ∧ r.2.mem ((c.tc : Thread Cert.MlaReferenceIdeal.nD Cert.MlaReferenceIdeal.τ).loc Cert.MlaReferenceIdeal.main_arg8) = m' ((c.tc : Thread Cert.MlaReferenceIdeal.nD Cert.MlaReferenceIdeal.τ).loc Cert.MlaReferenceIdeal.main_arg8)
          ∧ r.2.mem ((c.tc : Thread Cert.MlaReferenceIdeal.nD Cert.MlaReferenceIdeal.τ).loc Cert.MlaReferenceIdeal.main_arg9) = m' ((c.tc : Thread Cert.MlaReferenceIdeal.nD Cert.MlaReferenceIdeal.τ).loc Cert.MlaReferenceIdeal.main_arg9))

def preserves_AttnfKernel_AttnfKernelIdeal : Prop :=
  IdealRules.named_const.Statement Cert.AttnfKernelIdeal.κ "mask" .f32 0xF149F2CA#32 ⊥
  ∧ IdealRules.named_const.Statement Cert.AttnfKernelIdeal.κ "scale_log2e" .f32 0x3E16C740#32 (((Real.sqrt 96)⁻¹ * (Real.log 2)⁻¹ : ℝ) : EReal)
  ∧ IdealRules.named_const.Statement Cert.AttnfKernelIdeal.κ "scale" .f32 0x3DD105EC#32 (((Real.sqrt 96)⁻¹ : ℝ) : EReal)

def algebraic_AttnfKernelIdeal_AttnfReferenceIdeal_pre_attnf_finite [hAttnfKernelIdeal : Cert.AttnfKernelIdeal.Facts] [hAttnfReferenceIdeal : Cert.AttnfReferenceIdeal.Facts] [hPre_attnf_finite : Cert.Pre_attnf_finite.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg)
    (m' : (ℓ : Loc Cert.AttnfReferenceIdeal.nD Cert.AttnfReferenceIdeal.τ Cert.AttnfReferenceIdeal.sig) → Buf (Elt Ideal) ℓ) (g' : Dev Cert.AttnfReferenceIdeal.nD → PrngReg), Pre_AttnfKernelIdeal_attnf_finite m →
    (∀ c : Dev Cert.AttnfKernelIdeal.nD,
      m' ((c.tc : Thread Cert.AttnfReferenceIdeal.nD Cert.AttnfReferenceIdeal.τ).loc Cert.AttnfReferenceIdeal.main_arg0) = m ((c.tc : Thread Cert.AttnfKernelIdeal.nD Cert.AttnfKernelIdeal.τ).loc Cert.AttnfKernelIdeal.main_arg0)
      ∧ m' ((c.tc : Thread Cert.AttnfReferenceIdeal.nD Cert.AttnfReferenceIdeal.τ).loc Cert.AttnfReferenceIdeal.main_arg1) = m ((c.tc : Thread Cert.AttnfKernelIdeal.nD Cert.AttnfKernelIdeal.τ).loc Cert.AttnfKernelIdeal.main_arg1)
      ∧ m' ((c.tc : Thread Cert.AttnfReferenceIdeal.nD Cert.AttnfReferenceIdeal.τ).loc Cert.AttnfReferenceIdeal.main_arg2) = m ((c.tc : Thread Cert.AttnfKernelIdeal.nD Cert.AttnfKernelIdeal.τ).loc Cert.AttnfKernelIdeal.main_arg2)) →
    ∃ (v0 : (c : Dev Cert.AttnfKernelIdeal.nD) → Buf (Elt Ideal) ((c.tc : Thread Cert.AttnfKernelIdeal.nD Cert.AttnfKernelIdeal.τ).loc Cert.AttnfKernelIdeal.main_v8_0)) (v1 : (c : Dev Cert.AttnfKernelIdeal.nD) → Buf (Elt Ideal) ((c.tc : Thread Cert.AttnfKernelIdeal.nD Cert.AttnfKernelIdeal.τ).loc Cert.AttnfKernelIdeal.main_v8_1)),
      θ_run (Cert.AttnfKernelIdeal.defs (F := Ideal)) (onTc (τ := Cert.AttnfKernelIdeal.τ) (Cert.AttnfKernelIdeal.main (F := Ideal))) ⟨m, fun _ => 0, g⟩ (fun r => ∀ c : Dev Cert.AttnfKernelIdeal.nD,
          r.2.mem ((c.tc : Thread Cert.AttnfKernelIdeal.nD Cert.AttnfKernelIdeal.τ).loc Cert.AttnfKernelIdeal.main_v8_0) = v0 c
          ∧ r.2.mem ((c.tc : Thread Cert.AttnfKernelIdeal.nD Cert.AttnfKernelIdeal.τ).loc Cert.AttnfKernelIdeal.main_v8_1) = v1 c
          ∧ r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
          ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
          ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2))
      ∧ θ_run (Cert.AttnfReferenceIdeal.defs (F := Ideal)) (onTc (τ := Cert.AttnfReferenceIdeal.τ) (Cert.AttnfReferenceIdeal.main (F := Ideal))) ⟨m', fun _ => 0, g'⟩ (fun r => ∀ c : Dev Cert.AttnfReferenceIdeal.nD,
          r.2.mem ((c.tc : Thread Cert.AttnfReferenceIdeal.nD Cert.AttnfReferenceIdeal.τ).loc Cert.AttnfReferenceIdeal.main_v24) = v0 c
          ∧ r.2.mem ((c.tc : Thread Cert.AttnfReferenceIdeal.nD Cert.AttnfReferenceIdeal.τ).loc Cert.AttnfReferenceIdeal.main_v36) = v1 c
          ∧ r.2.mem ((c.tc : Thread Cert.AttnfReferenceIdeal.nD Cert.AttnfReferenceIdeal.τ).loc Cert.AttnfReferenceIdeal.main_arg0) = m' ((c.tc : Thread Cert.AttnfReferenceIdeal.nD Cert.AttnfReferenceIdeal.τ).loc Cert.AttnfReferenceIdeal.main_arg0)
          ∧ r.2.mem ((c.tc : Thread Cert.AttnfReferenceIdeal.nD Cert.AttnfReferenceIdeal.τ).loc Cert.AttnfReferenceIdeal.main_arg1) = m' ((c.tc : Thread Cert.AttnfReferenceIdeal.nD Cert.AttnfReferenceIdeal.τ).loc Cert.AttnfReferenceIdeal.main_arg1)
          ∧ r.2.mem ((c.tc : Thread Cert.AttnfReferenceIdeal.nD Cert.AttnfReferenceIdeal.τ).loc Cert.AttnfReferenceIdeal.main_arg2) = m' ((c.tc : Thread Cert.AttnfReferenceIdeal.nD Cert.AttnfReferenceIdeal.τ).loc Cert.AttnfReferenceIdeal.main_arg2))

def preserves_PrefKernel_PrefKernelIdeal : Prop :=
  True

def algebraic_PrefKernelIdeal_PrefReferenceIdeal [hPrefKernelIdeal : Cert.PrefKernelIdeal.Facts] [hPrefReferenceIdeal : Cert.PrefReferenceIdeal.Facts] : Prop :=
  ∀ (m : (ℓ : Loc Cert.PrefKernelIdeal.nD Cert.PrefKernelIdeal.τ Cert.PrefKernelIdeal.sig) → Buf (Elt Ideal) ℓ) (g : Dev Cert.PrefKernelIdeal.nD → PrngReg)
    (m' : (ℓ : Loc Cert.PrefReferenceIdeal.nD Cert.PrefReferenceIdeal.τ Cert.PrefReferenceIdeal.sig) → Buf (Elt Ideal) ℓ) (g' : Dev Cert.PrefReferenceIdeal.nD → PrngReg), Pre_PrefKernelIdeal m →
    (∀ c : Dev Cert.PrefKernelIdeal.nD,
      m' ((c.tc : Thread Cert.PrefReferenceIdeal.nD Cert.PrefReferenceIdeal.τ).loc Cert.PrefReferenceIdeal.main_arg0) = m ((c.tc : Thread Cert.PrefKernelIdeal.nD Cert.PrefKernelIdeal.τ).loc Cert.PrefKernelIdeal.main_arg0)
      ∧ m' ((c.tc : Thread Cert.PrefReferenceIdeal.nD Cert.PrefReferenceIdeal.τ).loc Cert.PrefReferenceIdeal.main_arg1) = m ((c.tc : Thread Cert.PrefKernelIdeal.nD Cert.PrefKernelIdeal.τ).loc Cert.PrefKernelIdeal.main_arg1)
      ∧ m' ((c.tc : Thread Cert.PrefReferenceIdeal.nD Cert.PrefReferenceIdeal.τ).loc Cert.PrefReferenceIdeal.main_arg2) = m ((c.tc : Thread Cert.PrefKernelIdeal.nD Cert.PrefKernelIdeal.τ).loc Cert.PrefKernelIdeal.main_arg2)) →
    ∃ (v0 : (c : Dev Cert.PrefKernelIdeal.nD) → Buf (Elt Ideal) ((c.tc : Thread Cert.PrefKernelIdeal.nD Cert.PrefKernelIdeal.τ).loc Cert.PrefKernelIdeal.main_v11)),
      θ_run (Cert.PrefKernelIdeal.defs (F := Ideal)) (onTc (τ := Cert.PrefKernelIdeal.τ) (Cert.PrefKernelIdeal.main (F := Ideal))) ⟨m, fun _ => 0, g⟩ (fun r => ∀ c : Dev Cert.PrefKernelIdeal.nD,
          r.2.mem ((c.tc : Thread Cert.PrefKernelIdeal.nD Cert.PrefKernelIdeal.τ).loc Cert.PrefKernelIdeal.main_v11) = v0 c
          ∧ r.2.mem ((c.tc : Thread Cert.PrefKernelIdeal.nD Cert.PrefKernelIdeal.τ).loc Cert.PrefKernelIdeal.main_arg0) = m ((c.tc : Thread Cert.PrefKernelIdeal.nD Cert.PrefKernelIdeal.τ).loc Cert.PrefKernelIdeal.main_arg0)
          ∧ r.2.mem ((c.tc : Thread Cert.PrefKernelIdeal.nD Cert.PrefKernelIdeal.τ).loc Cert.PrefKernelIdeal.main_arg1) = m ((c.tc : Thread Cert.PrefKernelIdeal.nD Cert.PrefKernelIdeal.τ).loc Cert.PrefKernelIdeal.main_arg1)
          ∧ r.2.mem ((c.tc : Thread Cert.PrefKernelIdeal.nD Cert.PrefKernelIdeal.τ).loc Cert.PrefKernelIdeal.main_arg2) = m ((c.tc : Thread Cert.PrefKernelIdeal.nD Cert.PrefKernelIdeal.τ).loc Cert.PrefKernelIdeal.main_arg2))
      ∧ θ_run (Cert.PrefReferenceIdeal.defs (F := Ideal)) (onTc (τ := Cert.PrefReferenceIdeal.τ) (Cert.PrefReferenceIdeal.main (F := Ideal))) ⟨m', fun _ => 0, g'⟩ (fun r => ∀ c : Dev Cert.PrefReferenceIdeal.nD,
          r.2.mem ((c.tc : Thread Cert.PrefReferenceIdeal.nD Cert.PrefReferenceIdeal.τ).loc Cert.PrefReferenceIdeal.main_v22) = v0 c
          ∧ r.2.mem ((c.tc : Thread Cert.PrefReferenceIdeal.nD Cert.PrefReferenceIdeal.τ).loc Cert.PrefReferenceIdeal.main_arg0) = m' ((c.tc : Thread Cert.PrefReferenceIdeal.nD Cert.PrefReferenceIdeal.τ).loc Cert.PrefReferenceIdeal.main_arg0)
          ∧ r.2.mem ((c.tc : Thread Cert.PrefReferenceIdeal.nD Cert.PrefReferenceIdeal.τ).loc Cert.PrefReferenceIdeal.main_arg1) = m' ((c.tc : Thread Cert.PrefReferenceIdeal.nD Cert.PrefReferenceIdeal.τ).loc Cert.PrefReferenceIdeal.main_arg1)
          ∧ r.2.mem ((c.tc : Thread Cert.PrefReferenceIdeal.nD Cert.PrefReferenceIdeal.τ).loc Cert.PrefReferenceIdeal.main_arg2) = m' ((c.tc : Thread Cert.PrefReferenceIdeal.nD Cert.PrefReferenceIdeal.τ).loc Cert.PrefReferenceIdeal.main_arg2))

def preserves_MlafKernel_MlafKernelIdeal : Prop :=
  True

def algebraic_MlafKernelIdeal_MlafReferenceIdeal [hMlafKernelIdeal : Cert.MlafKernelIdeal.Facts] [hMlafReferenceIdeal : Cert.MlafReferenceIdeal.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg)
    (m' : (ℓ : Loc Cert.MlafReferenceIdeal.nD Cert.MlafReferenceIdeal.τ Cert.MlafReferenceIdeal.sig) → Buf (Elt Ideal) ℓ) (g' : Dev Cert.MlafReferenceIdeal.nD → PrngReg), Pre_MlafKernelIdeal m →
    (∀ c : Dev Cert.MlafKernelIdeal.nD,
      m' ((c.tc : Thread Cert.MlafReferenceIdeal.nD Cert.MlafReferenceIdeal.τ).loc Cert.MlafReferenceIdeal.main_arg0) = m ((c.tc : Thread Cert.MlafKernelIdeal.nD Cert.MlafKernelIdeal.τ).loc Cert.MlafKernelIdeal.main_arg0)
      ∧ m' ((c.tc : Thread Cert.MlafReferenceIdeal.nD Cert.MlafReferenceIdeal.τ).loc Cert.MlafReferenceIdeal.main_arg1) = m ((c.tc : Thread Cert.MlafKernelIdeal.nD Cert.MlafKernelIdeal.τ).loc Cert.MlafKernelIdeal.main_arg1)
      ∧ m' ((c.tc : Thread Cert.MlafReferenceIdeal.nD Cert.MlafReferenceIdeal.τ).loc Cert.MlafReferenceIdeal.main_arg2) = m ((c.tc : Thread Cert.MlafKernelIdeal.nD Cert.MlafKernelIdeal.τ).loc Cert.MlafKernelIdeal.main_arg2)
      ∧ m' ((c.tc : Thread Cert.MlafReferenceIdeal.nD Cert.MlafReferenceIdeal.τ).loc Cert.MlafReferenceIdeal.main_arg3) = m ((c.tc : Thread Cert.MlafKernelIdeal.nD Cert.MlafKernelIdeal.τ).loc Cert.MlafKernelIdeal.main_arg3)
      ∧ m' ((c.tc : Thread Cert.MlafReferenceIdeal.nD Cert.MlafReferenceIdeal.τ).loc Cert.MlafReferenceIdeal.main_arg4) = m ((c.tc : Thread Cert.MlafKernelIdeal.nD Cert.MlafKernelIdeal.τ).loc Cert.MlafKernelIdeal.main_arg4)
      ∧ m' ((c.tc : Thread Cert.MlafReferenceIdeal.nD Cert.MlafReferenceIdeal.τ).loc Cert.MlafReferenceIdeal.main_arg5) = m ((c.tc : Thread Cert.MlafKernelIdeal.nD Cert.MlafKernelIdeal.τ).loc Cert.MlafKernelIdeal.main_arg5)
      ∧ m' ((c.tc : Thread Cert.MlafReferenceIdeal.nD Cert.MlafReferenceIdeal.τ).loc Cert.MlafReferenceIdeal.main_arg6) = m ((c.tc : Thread Cert.MlafKernelIdeal.nD Cert.MlafKernelIdeal.τ).loc Cert.MlafKernelIdeal.main_arg6)) →
    ∃ (v0 : (c : Dev Cert.MlafKernelIdeal.nD) → Buf (Elt Ideal) ((c.tc : Thread Cert.MlafKernelIdeal.nD Cert.MlafKernelIdeal.τ).loc Cert.MlafKernelIdeal.main_v39_0)) (v1 : (c : Dev Cert.MlafKernelIdeal.nD) → Buf (Elt Ideal) ((c.tc : Thread Cert.MlafKernelIdeal.nD Cert.MlafKernelIdeal.τ).loc Cert.MlafKernelIdeal.main_v39_1)) (v2 : (c : Dev Cert.MlafKernelIdeal.nD) → Buf (Elt Ideal) ((c.tc : Thread Cert.MlafKernelIdeal.nD Cert.MlafKernelIdeal.τ).loc Cert.MlafKernelIdeal.main_v39_2)),
      θ_run (Cert.MlafKernelIdeal.defs (F := Ideal)) (onTc (τ := Cert.MlafKernelIdeal.τ) (Cert.MlafKernelIdeal.main (F := Ideal))) ⟨m, fun _ => 0, g⟩ (fun r => ∀ c : Dev Cert.MlafKernelIdeal.nD,
          r.2.mem ((c.tc : Thread Cert.MlafKernelIdeal.nD Cert.MlafKernelIdeal.τ).loc Cert.MlafKernelIdeal.main_v39_0) = v0 c
          ∧ r.2.mem ((c.tc : Thread Cert.MlafKernelIdeal.nD Cert.MlafKernelIdeal.τ).loc Cert.MlafKernelIdeal.main_v39_1) = v1 c
          ∧ r.2.mem ((c.tc : Thread Cert.MlafKernelIdeal.nD Cert.MlafKernelIdeal.τ).loc Cert.MlafKernelIdeal.main_v39_2) = v2 c
          ∧ r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
          ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
          ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2)
          ∧ r.2.mem ((c.tc : Thread Cert.MlafKernelIdeal.nD Cert.MlafKernelIdeal.τ).loc Cert.MlafKernelIdeal.main_arg3) = m ((c.tc : Thread Cert.MlafKernelIdeal.nD Cert.MlafKernelIdeal.τ).loc Cert.MlafKernelIdeal.main_arg3)
          ∧ r.2.mem ((c.tc : Thread Cert.MlafKernelIdeal.nD Cert.MlafKernelIdeal.τ).loc Cert.MlafKernelIdeal.main_arg4) = m ((c.tc : Thread Cert.MlafKernelIdeal.nD Cert.MlafKernelIdeal.τ).loc Cert.MlafKernelIdeal.main_arg4)
          ∧ r.2.mem ((c.tc : Thread Cert.MlafKernelIdeal.nD Cert.MlafKernelIdeal.τ).loc Cert.MlafKernelIdeal.main_arg5) = m ((c.tc : Thread Cert.MlafKernelIdeal.nD Cert.MlafKernelIdeal.τ).loc Cert.MlafKernelIdeal.main_arg5)
          ∧ r.2.mem ((c.tc : Thread Cert.MlafKernelIdeal.nD Cert.MlafKernelIdeal.τ).loc Cert.MlafKernelIdeal.main_arg6) = m ((c.tc : Thread Cert.MlafKernelIdeal.nD Cert.MlafKernelIdeal.τ).loc Cert.MlafKernelIdeal.main_arg6))
      ∧ θ_run (Cert.MlafReferenceIdeal.defs (F := Ideal)) (onTc (τ := Cert.MlafReferenceIdeal.τ) (Cert.MlafReferenceIdeal.main (F := Ideal))) ⟨m', fun _ => 0, g'⟩ (fun r => ∀ c : Dev Cert.MlafReferenceIdeal.nD,
          r.2.mem ((c.tc : Thread Cert.MlafReferenceIdeal.nD Cert.MlafReferenceIdeal.τ).loc Cert.MlafReferenceIdeal.main_v68) = v0 c
          ∧ r.2.mem ((c.tc : Thread Cert.MlafReferenceIdeal.nD Cert.MlafReferenceIdeal.τ).loc Cert.MlafReferenceIdeal.main_v72) = v1 c
          ∧ r.2.mem ((c.tc : Thread Cert.MlafReferenceIdeal.nD Cert.MlafReferenceIdeal.τ).loc Cert.MlafReferenceIdeal.main_v75) = v2 c
          ∧ r.2.mem ((c.tc : Thread Cert.MlafReferenceIdeal.nD Cert.MlafReferenceIdeal.τ).loc Cert.MlafReferenceIdeal.main_arg0) = m' ((c.tc : Thread Cert.MlafReferenceIdeal.nD Cert.MlafReferenceIdeal.τ).loc Cert.MlafReferenceIdeal.main_arg0)
          ∧ r.2.mem ((c.tc : Thread Cert.MlafReferenceIdeal.nD Cert.MlafReferenceIdeal.τ).loc Cert.MlafReferenceIdeal.main_arg1) = m' ((c.tc : Thread Cert.MlafReferenceIdeal.nD Cert.MlafReferenceIdeal.τ).loc Cert.MlafReferenceIdeal.main_arg1)
          ∧ r.2.mem ((c.tc : Thread Cert.MlafReferenceIdeal.nD Cert.MlafReferenceIdeal.τ).loc Cert.MlafReferenceIdeal.main_arg2) = m' ((c.tc : Thread Cert.MlafReferenceIdeal.nD Cert.MlafReferenceIdeal.τ).loc Cert.MlafReferenceIdeal.main_arg2)
          ∧ r.2.mem ((c.tc : Thread Cert.MlafReferenceIdeal.nD Cert.MlafReferenceIdeal.τ).loc Cert.MlafReferenceIdeal.main_arg3) = m' ((c.tc : Thread Cert.MlafReferenceIdeal.nD Cert.MlafReferenceIdeal.τ).loc Cert.MlafReferenceIdeal.main_arg3)
          ∧ r.2.mem ((c.tc : Thread Cert.MlafReferenceIdeal.nD Cert.MlafReferenceIdeal.τ).loc Cert.MlafReferenceIdeal.main_arg4) = m' ((c.tc : Thread Cert.MlafReferenceIdeal.nD Cert.MlafReferenceIdeal.τ).loc Cert.MlafReferenceIdeal.main_arg4)
          ∧ r.2.mem ((c.tc : Thread Cert.MlafReferenceIdeal.nD Cert.MlafReferenceIdeal.τ).loc Cert.MlafReferenceIdeal.main_arg5) = m' ((c.tc : Thread Cert.MlafReferenceIdeal.nD Cert.MlafReferenceIdeal.τ).loc Cert.MlafReferenceIdeal.main_arg5)
          ∧ r.2.mem ((c.tc : Thread Cert.MlafReferenceIdeal.nD Cert.MlafReferenceIdeal.τ).loc Cert.MlafReferenceIdeal.main_arg6) = m' ((c.tc : Thread Cert.MlafReferenceIdeal.nD Cert.MlafReferenceIdeal.τ).loc Cert.MlafReferenceIdeal.main_arg6))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v30_0)) (v1 : (c : Dev Cert.FfnKernelIdeal.nD) → Buf (Elt Ideal) ((c.tc : Thread Cert.FfnKernelIdeal.nD Cert.FfnKernelIdeal.τ).loc Cert.FfnKernelIdeal.main_v30_1)) (v2 : (c : Dev Cert.FfnKernelIdeal.nD) → Buf (Elt Ideal) ((c.tc : Thread Cert.FfnKernelIdeal.nD Cert.FfnKernelIdeal.τ).loc Cert.FfnKernelIdeal.main_v30_2)) (v3 : (c : Dev Cert.FfnKernelIdeal.nD) → Buf (Elt Ideal) ((c.tc : Thread Cert.FfnKernelIdeal.nD Cert.FfnKernelIdeal.τ).loc Cert.FfnKernelIdeal.main_v30_3)) (v4 : (c : Dev Cert.FfnKernelIdeal.nD) → Buf (Elt Ideal) ((c.tc : Thread Cert.FfnKernelIdeal.nD Cert.FfnKernelIdeal.τ).loc Cert.FfnKernelIdeal.main_v30_4)) (v5 : (c : Dev Cert.FfnKernelIdeal.nD) → Buf (Elt Ideal) ((c.tc : Thread Cert.FfnKernelIdeal.nD Cert.FfnKernelIdeal.τ).loc Cert.FfnKernelIdeal.main_v30_5)) (v6 : (c : Dev Cert.FfnKernelIdeal.nD) → Buf (Elt Ideal) ((c.tc : Thread Cert.FfnKernelIdeal.nD Cert.FfnKernelIdeal.τ).loc Cert.FfnKernelIdeal.main_v30_6)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v30_0) = v0 c
          ∧ r.2.mem ((c.tc : Thread Cert.FfnKernelIdeal.nD Cert.FfnKernelIdeal.τ).loc Cert.FfnKernelIdeal.main_v30_1) = v1 c
          ∧ r.2.mem ((c.tc : Thread Cert.FfnKernelIdeal.nD Cert.FfnKernelIdeal.τ).loc Cert.FfnKernelIdeal.main_v30_2) = v2 c
          ∧ r.2.mem ((c.tc : Thread Cert.FfnKernelIdeal.nD Cert.FfnKernelIdeal.τ).loc Cert.FfnKernelIdeal.main_v30_3) = v3 c
          ∧ r.2.mem ((c.tc : Thread Cert.FfnKernelIdeal.nD Cert.FfnKernelIdeal.τ).loc Cert.FfnKernelIdeal.main_v30_4) = v4 c
          ∧ r.2.mem ((c.tc : Thread Cert.FfnKernelIdeal.nD Cert.FfnKernelIdeal.τ).loc Cert.FfnKernelIdeal.main_v30_5) = v5 c
          ∧ r.2.mem ((c.tc : Thread Cert.FfnKernelIdeal.nD Cert.FfnKernelIdeal.τ).loc Cert.FfnKernelIdeal.main_v30_6) = v6 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v92) = v0 c
          ∧ r.2.mem ((c.tc : Thread Cert.FfnReferenceIdeal.nD Cert.FfnReferenceIdeal.τ).loc Cert.FfnReferenceIdeal.main_v94) = v1 c
          ∧ r.2.mem ((c.tc : Thread Cert.FfnReferenceIdeal.nD Cert.FfnReferenceIdeal.τ).loc Cert.FfnReferenceIdeal.main_v95) = v2 c
          ∧ r.2.mem ((c.tc : Thread Cert.FfnReferenceIdeal.nD Cert.FfnReferenceIdeal.τ).loc Cert.FfnReferenceIdeal.main_v97) = v3 c
          ∧ r.2.mem ((c.tc : Thread Cert.FfnReferenceIdeal.nD Cert.FfnReferenceIdeal.τ).loc Cert.FfnReferenceIdeal.main_v99) = v4 c
          ∧ r.2.mem ((c.tc : Thread Cert.FfnReferenceIdeal.nD Cert.FfnReferenceIdeal.τ).loc Cert.FfnReferenceIdeal.main_v100) = v5 c
          ∧ r.2.mem ((c.tc : Thread Cert.FfnReferenceIdeal.nD Cert.FfnReferenceIdeal.τ).loc Cert.FfnReferenceIdeal.main_v101) = v6 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def Claim : Prop :=
  ∃ (hLossKernel : Cert.LossKernel.Facts) (hLossKernelIdeal : Cert.LossKernelIdeal.Facts) (hLossReferenceIdeal : Cert.LossReferenceIdeal.Facts) (hAttnKernel : Cert.AttnKernel.Facts) (hAttnKernelIdeal : Cert.AttnKernelIdeal.Facts) (hAttnReferenceIdeal : Cert.AttnReferenceIdeal.Facts) (hConvKernel : Cert.ConvKernel.Facts) (hConvKernelIdeal : Cert.ConvKernelIdeal.Facts) (hConvReferenceIdeal : Cert.ConvReferenceIdeal.Facts) (hPreKernel : Cert.PreKernel.Facts) (hPreKernelIdeal : Cert.PreKernelIdeal.Facts) (hPreReferenceIdeal : Cert.PreReferenceIdeal.Facts) (hMlaKernel : Cert.MlaKernel.Facts) (hMlaKernelIdeal : Cert.MlaKernelIdeal.Facts) (hMlaReferenceIdeal : Cert.MlaReferenceIdeal.Facts) (hAttnfKernel : Cert.AttnfKernel.Facts) (hAttnfKernelIdeal : Cert.AttnfKernelIdeal.Facts) (hAttnfReferenceIdeal : Cert.AttnfReferenceIdeal.Facts) (hPrefKernel : Cert.PrefKernel.Facts) (hPrefKernelIdeal : Cert.PrefKernelIdeal.Facts) (hPrefReferenceIdeal : Cert.PrefReferenceIdeal.Facts) (hMlafKernel : Cert.MlafKernel.Facts) (hMlafKernelIdeal : Cert.MlafKernelIdeal.Facts) (hMlafReferenceIdeal : Cert.MlafReferenceIdeal.Facts) (hFfnKernel : Cert.FfnKernel.Facts) (hFfnKernelIdeal : Cert.FfnKernelIdeal.Facts) (hFfnReferenceIdeal : Cert.FfnReferenceIdeal.Facts) (hPre_attn_finite : Cert.Pre_attn_finite.Facts) (hPre_pre_in_finite : Cert.Pre_pre_in_finite.Facts) (hPre_mla_finite : Cert.Pre_mla_finite.Facts) (hPre_attnf_finite : Cert.Pre_attnf_finite.Facts) (hPre_ffn_finite : Cert.Pre_ffn_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_PreKernel (hPreKernel := hPreKernel)
    ∧ quiescent_PreKernelIdeal (hPreKernelIdeal := hPreKernelIdeal)
    ∧ quiescent_PreKernelIdeal_pre_pre_in_finite (hPreKernelIdeal := hPreKernelIdeal) (hPre_pre_in_finite := hPre_pre_in_finite)
    ∧ quiescent_PreReferenceIdeal (hPreReferenceIdeal := hPreReferenceIdeal)
    ∧ quiescent_PreReferenceIdeal_pre_pre_in_finite (hPreReferenceIdeal := hPreReferenceIdeal) (hPre_pre_in_finite := hPre_pre_in_finite)
    ∧ quiescent_MlaKernel (hMlaKernel := hMlaKernel)
    ∧ quiescent_MlaKernelIdeal (hMlaKernelIdeal := hMlaKernelIdeal)
    ∧ quiescent_MlaKernelIdeal_pre_mla_finite (hMlaKernelIdeal := hMlaKernelIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ quiescent_AttnfKernel (hAttnfKernel := hAttnfKernel)
    ∧ quiescent_AttnfKernelIdeal (hAttnfKernelIdeal := hAttnfKernelIdeal)
    ∧ quiescent_AttnfKernelIdeal_pre_attnf_finite (hAttnfKernelIdeal := hAttnfKernelIdeal) (hPre_attnf_finite := hPre_attnf_finite)
    ∧ quiescent_AttnfReferenceIdeal (hAttnfReferenceIdeal := hAttnfReferenceIdeal)
    ∧ quiescent_AttnfReferenceIdeal_pre_attnf_finite (hAttnfReferenceIdeal := hAttnfReferenceIdeal) (hPre_attnf_finite := hPre_attnf_finite)
    ∧ quiescent_PrefKernel (hPrefKernel := hPrefKernel)
    ∧ quiescent_PrefKernelIdeal (hPrefKernelIdeal := hPrefKernelIdeal)
    ∧ quiescent_PrefReferenceIdeal (hPrefReferenceIdeal := hPrefReferenceIdeal)
    ∧ quiescent_MlafKernel (hMlafKernel := hMlafKernel)
    ∧ quiescent_MlafKernelIdeal (hMlafKernelIdeal := hMlafKernelIdeal)
    ∧ quiescent_MlafReferenceIdeal (hMlafReferenceIdeal := hMlafReferenceIdeal)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ preserves_LossKernel_LossKernelIdeal
    ∧ algebraic_LossKernelIdeal_LossReferenceIdeal (hLossKernelIdeal := hLossKernelIdeal) (hLossReferenceIdeal := hLossReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_ConvKernel_ConvKernelIdeal
    ∧ algebraic_ConvKernelIdeal_ConvReferenceIdeal (hConvKernelIdeal := hConvKernelIdeal) (hConvReferenceIdeal := hConvReferenceIdeal)
    ∧ preserves_PreKernel_PreKernelIdeal
    ∧ algebraic_PreKernelIdeal_PreReferenceIdeal_pre_pre_in_finite (hPreKernelIdeal := hPreKernelIdeal) (hPreReferenceIdeal := hPreReferenceIdeal) (hPre_pre_in_finite := hPre_pre_in_finite)
    ∧ preserves_MlaKernel_MlaKernelIdeal
    ∧ algebraic_MlaKernelIdeal_MlaReferenceIdeal_pre_mla_finite (hMlaKernelIdeal := hMlaKernelIdeal) (hMlaReferenceIdeal := hMlaReferenceIdeal) (hPre_mla_finite := hPre_mla_finite)
    ∧ preserves_AttnfKernel_AttnfKernelIdeal
    ∧ algebraic_AttnfKernelIdeal_AttnfReferenceIdeal_pre_attnf_finite (hAttnfKernelIdeal := hAttnfKernelIdeal) (hAttnfReferenceIdeal := hAttnfReferenceIdeal) (hPre_attnf_finite := hPre_attnf_finite)
    ∧ preserves_PrefKernel_PrefKernelIdeal
    ∧ algebraic_PrefKernelIdeal_PrefReferenceIdeal (hPrefKernelIdeal := hPrefKernelIdeal) (hPrefReferenceIdeal := hPrefReferenceIdeal)
    ∧ preserves_MlafKernel_MlafKernelIdeal
    ∧ algebraic_MlafKernelIdeal_MlafReferenceIdeal (hMlafKernelIdeal := hMlafKernelIdeal) (hMlafReferenceIdeal := hMlafReferenceIdeal)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
-- ==== Pre_attn_finite.lean ====
abbrev S4096x8x96 : Shape := ⟨3, ![4096, 8, 96]⟩
abbrev S4096x8x64 : Shape := ⟨3, ![4096, 8, 64]⟩
abbrev S4096x512 : Shape := ⟨2, ![4096, 512]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x8x96 .f32) (main_arg1 : FVec F S4096x8x96 .f32) (main_arg2 : FVec F S4096x8x64 .f32) (main_arg3 : FVec F S4096x512 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_attnf_finite.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn {F : FTy → Type} [FloatOps F] (main_arg0 : FVec F S4096x8x96 .f32) (main_arg1 : FVec F S4096x8x96 .f32) (main_arg2 : FVec F S4096x8x64 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  main_v13
-- ==== Pre_ffn_finite.lean ====
abbrev S1x4096x1024 : Shape := ⟨3, ![1, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_arg6 : FVec F S1x4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S1x4096x1024 .f32 := Host.absf main_arg6
  let main_cst_10 : FVec F S_ .f32 := constant S_ .f32 0x7F800000#32
  let main_v30 : FVec F S1x4096x1024 .f32 := broadcastInDim S1x4096x1024 ![] bcast_S_S1x4096x1024 main_cst_10
  let main_v31 : IVec S1x4096x1024 1 := cmpf .olt main_v29 main_v30
  let main_c_11 : IVec S_ 1 := constantI S_ 1 1#1
  let main_v32 : IVec S_ 1 := (fun x v => Host.reduce IntOp.andi x v reducesTo_S1x4096x1024_S_d0_1_2 h_S_) main_v31 main_c_11
  let main_v33 : IVec S_ 1 := andi main_v28 main_v32
  main_v33

def fn {F : FTy → Type} [FloatOps F] (main_arg0 : FVec F S1x4096x1024 .f32) (main_arg1 : FVec F S1024 .f32) (main_arg2 : FVec F S1024 .f32) (main_arg3 : FVec F S1024x2816 .f32) (main_arg4 : FVec F S1024x2816 .f32) (main_arg5 : FVec F S2816x1024 .f32) (main_arg6 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_mla_finite.lean ====
abbrev S1x4096x1952 : Shape := ⟨3, ![1, 4096, 1952]⟩
abbrev S1x4096x16 : Shape := ⟨3, ![1, 4096, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1x4096x8x96 : Shape := ⟨4, ![1, 4096, 8, 96]⟩
abbrev S1x4096x8x64 : Shape := ⟨4, ![1, 4096, 8, 64]⟩
abbrev S_ : Shape := ⟨0, ![]⟩

class Facts : Prop where
  bcast_S_S1x4096x1952 : S_.BroadcastsInDim S1x4096x1952 (![] : Fin 0 → Fin S1x4096x1952.rank)
  reducesTo_S1x4096x1952_S_d0_1_2 : S1x4096x1952.ReducesTo [0, 1, 2] S_
  h_S_ : 0 < S_.numel
  bcast_S_S1x4096x16 : S_.BroadcastsInDim S1x4096x16 (![] : Fin 0 → Fin S1x4096x16.rank)
  reducesTo_S1x4096x16_S_d0_1_2 : S1x4096x16.ReducesTo [0, 1, 2] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1x4096x8x96 : S_.BroadcastsInDim S1x4096x8x96 (![] : Fin 0 → Fin S1x4096x8x96.rank)
  reducesTo_S1x4096x8x96_S_d0_1_2_3 : S1x4096x8x96.ReducesTo [0, 1, 2, 3] S_
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_

variable [Facts]

def fn_part2 {F : FTy → Type} [FloatOps F] (main_arg7 : FVec F S1x4096x8x96 .f32) (main_arg8 : FVec F S1x4096x8x96 .f32) (main_arg9 : FVec F S1x4096x8x64 .f32) (main_v33 : IVec S_ 1) : IVec S_ 1 :=
  let main_v34 : FVec F S1x4096x8x96 .f32 := Host.absf main_arg7
  let main_cst_12 : FVec F S_ .f32 := constant S_ .f32 0x7F800000#32
  let main_v35 : FVec F S1x4096x8x96 .f32 := broadcastInDim S1x4096x8x96 ![] bcast_S_S1x4096x8x96 main_cst_12
  let main_v36 : IVec S1x4096x8x96 1 := cmpf .olt main_v34 main_v35
  let main_c_13 : IVec S_ 1 := constantI S_ 1 1#1
  let main_v37 : IVec S_ 1 := (fun x v => Host.reduce IntOp.andi x v reducesTo_S1x4096x8x96_S_d0_1_2_3 h_S_) main_v36 main_c_13
  let main_v38 : IVec S_ 1 := andi main_v33 main_v37
  let main_v39 : FVec F S1x4096x8x96 .f32 := Host.absf main_arg8
  let main_cst_14 : FVec F S_ .f32 := constant S_ .f32 0x7F800000#32
  let main_v40 : FVec F S1x4096x8x96 .f32 := broadcastInDim S1x4096x8x96 ![] bcast_S_S1x4096x8x96 main_cst_14
  let main_v41 : IVec S1x4096x8x96 1 := cmpf .olt main_v39 main_v40
  let main_c_15 : IVec S_ 1 := constantI S_ 1 1#1
  let main_v42 : IVec S_ 1 := (fun x v => Host.reduce IntOp.andi x v reducesTo_S1x4096x8x96_S_d0_1_2_3 h_S_) main_v41 main_c_15
  let main_v43 : IVec S_ 1 := andi main_v38 main_v42
  let main_v44 : FVec F S1x4096x8x64 .f32 := Host.absf main_arg9
  let main_cst_16 : FVec F S_ .f32 := constant S_ .f32 0x7F800000#32
  let main_v45 : FVec F S1x4096x8x64 .f32 := broadcastInDim S1x4096x8x64 ![] bcast_S_S1x4096x8x64 main_cst_16
  let main_v46 : IVec S1x4096x8x64 1 := cmpf .olt main_v44 main_v45
  let main_c_17 : IVec S_ 1 := constantI S_ 1 1#1
  let main_v47 : IVec S_ 1 := (fun x v => Host.reduce IntOp.andi x v reducesTo_S1x4096x8x64_S_d0_1_2_3 h_S_) main_v46 main_c_17
  let main_v48 : IVec S_ 1 := andi main_v43 main_v47
  main_v48

def fn_part1 {F : FTy → Type} [FloatOps F] (main_arg4 : FVec F S384x768 .f32) (main_arg5 : FVec F S256 .f32) (main_arg6 : FVec F S256x1024 .f32) (main_arg7 : FVec F S1x4096x8x96 .f32) (main_arg8 : FVec F S1x4096x8x96 .f32) (main_arg9 : FVec F S1x4096x8x64 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384x768 .f32 := Host.absf main_arg4
  let main_cst_6 : FVec F S_ .f32 := constant S_ .f32 0x7F800000#32
  let main_v20 : FVec F S384x768 .f32 := broadcastInDim S384x768 ![] bcast_S_S384x768 main_cst_6
  let main_v21 : IVec S384x768 1 := cmpf .olt main_v19 main_v20
  let main_c_7 : IVec S_ 1 := constantI S_ 1 1#1
  let main_v22 : IVec S_ 1 := (fun x v => Host.reduce IntOp.andi x v reducesTo_S384x768_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x4096x1952 .f32) (main_arg1 : FVec F S1x4096x16 .f32) (main_arg2 : FVec F S1x4096x16 .f32) (main_arg3 : FVec F S384 .f32) (main_arg4 : FVec F S384x768 .f32) (main_arg5 : FVec F S256 .f32) (main_arg6 : FVec F S256x1024 .f32) (main_arg7 : FVec F S1x4096x8x96 .f32) (main_arg8 : FVec F S1x4096x8x96 .f32) (main_arg9 : FVec F S1x4096x8x64 .f32) : IVec S_ 1 :=
  let main_v0 : FVec F S1x4096x1952 .f32 := Host.absf main_arg0
  let main_cst : FVec F S_ .f32 := constant S_ .f32 0x7F800000#32
  let main_v1 : FVec F S1x4096x1952 .f32 := broadcastInDim S1x4096x1952 ![] bcast_S_S1x4096x1952 main_cst
  let main_v2 : IVec S1x4096x1952 1 := cmpf .olt main_v0 main_v1
  let main_c : IVec S_ 1 := constantI S_ 1 1#1
  let main_v3 : IVec S_ 1 := (fun x v => Host.reduce IntOp.andi x v reducesTo_S1x4096x1952_S_d0_1_2 h_S_) main_v2 main_c
  let main_v4 : FVec F S1x4096x16 .f32 := Host.absf main_arg1
  let main_cst_0 : FVec F S_ .f32 := constant S_ .f32 0x7F800000#32
  let main_v5 : FVec F S1x4096x16 .f32 := broadcastInDim S1x4096x16 ![] bcast_S_S1x4096x16 main_cst_0
  let main_v6 : IVec S1x4096x16 1 := cmpf .olt main_v4 main_v5
  let main_c_1 : IVec S_ 1 := constantI S_ 1 1#1
  let main_v7 : IVec S_ 1 := (fun x v => Host.reduce IntOp.andi x v reducesTo_S1x4096x16_S_d0_1_2 h_S_) main_v6 main_c_1
  let main_v8 : IVec S_ 1 := andi main_v3 main_v7
  let main_v9 : FVec F S1x4096x16 .f32 := Host.absf main_arg2
  let main_cst_2 : FVec F S_ .f32 := constant S_ .f32 0x7F800000#32
  let main_v10 : FVec F S1x4096x16 .f32 := broadcastInDim S1x4096x16 ![] bcast_S_S1x4096x16 main_cst_2
  let main_v11 : IVec S1x4096x16 1 := cmpf .olt main_v9 main_v10
  let main_c_3 : IVec S_ 1 := constantI S_ 1 1#1
  let main_v12 : IVec S_ 1 := (fun x v => Host.reduce IntOp.andi x v reducesTo_S1x4096x16_S_d0_1_2 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_arg7 main_arg8 main_arg9 main_v13 main_v16
-- ==== Pre_pre_in_finite.lean ====
abbrev S1x4096x1024 : Shape := ⟨3, ![1, 4096, 1024]⟩
abbrev S1024 : Shape := ⟨1, ![1024]⟩
abbrev S1024x1952 : Shape := ⟨2, ![1024, 1952]⟩
abbrev S1x4096x1952 : Shape := ⟨3, ![1, 4096, 1952]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1952 : S_.BroadcastsInDim S1024x1952 (![] : Fin 0 → Fin S1024x1952.rank)
  reducesTo_S1024x1952_S_d0_1 : S1024x1952.ReducesTo [0, 1] S_
  bcast_S_S1x4096x1952 : S_.BroadcastsInDim S1x4096x1952 (![] : Fin 0 → Fin S1x4096x1952.rank)
  reducesTo_S1x4096x1952_S_d0_1_2 : S1x4096x1952.ReducesTo [0, 1, 2] S_

variable [Facts]

def fn_part1 {F : FTy → Type} [FloatOps F] (main_v13 : IVec S_ 1) (main_v16 : IVec S1x4096x1952 1) : IVec S_ 1 :=
  let main_c_5 : IVec S_ 1 := constantI S_ 1 1#1
  let main_v17 : IVec S_ 1 := (fun x v => Host.reduce IntOp.andi x v reducesTo_S1x4096x1952_S_d0_1_2 h_S_) main_v16 main_c_5
  let main_v18 : IVec S_ 1 := andi main_v13 main_v17
  main_v18

def fn {F : FTy → Type} [FloatOps F] (main_arg0 : FVec F S1x4096x1024 .f32) (main_arg1 : FVec F S1024 .f32) (main_arg2 : FVec F S1024x1952 .f32) (main_arg3 : FVec F S1x4096x1024 .f32) (main_arg4 : FVec F S1x4096x1952 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1952 .f32 := Host.absf main_arg2
  let main_cst_2 : FVec F S_ .f32 := constant S_ .f32 0x7F800000#32
  let main_v10 : FVec F S1024x1952 .f32 := broadcastInDim S1024x1952 ![] bcast_S_S1024x1952 main_cst_2
  let main_v11 : IVec S1024x1952 1 := cmpf .olt main_v9 main_v10
  let main_c_3 : IVec S_ 1 := constantI S_ 1 1#1
  let main_v12 : IVec S_ 1 := (fun x v => Host.reduce IntOp.andi x v reducesTo_S1024x1952_S_d0_1 h_S_) main_v11 main_c_3
  let main_v13 : IVec S_ 1 := andi main_v8 main_v12
  let main_v14 : FVec F S1x4096x1952 .f32 := Host.absf main_arg4
  let main_cst_4 : FVec F S_ .f32 := constant S_ .f32 0x7F800000#32
  let main_v15 : FVec F S1x4096x1952 .f32 := broadcastInDim S1x4096x1952 ![] bcast_S_S1x4096x1952 main_cst_4
  let main_v16 : IVec S1x4096x1952 1 := cmpf .olt main_v14 main_v15
  fn_part1 (F := F) main_v13 main_v16
-- ==== LossKernel.lean ====
abbrev S1x4096x1024 : Shape := ⟨3, ![1, 4096, 1024]⟩
abbrev S4096x1024 : Shape := ⟨2, ![4096, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4096x1024, .f32⟩
  | .hbm, ⟨3, _⟩ => ⟨S4096x1024, .f32⟩
  | .hbm, ⟨4, _⟩ => ⟨S1x128, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S1x4096x1024 : Shape := ⟨3, ![1, 4096, 1024]⟩
abbrev S_ : Shape := ⟨0, ![]⟩
abbrev S1x4096 : Shape := ⟨2, ![1, 4096]⟩
abbrev S1x128 : Shape := ⟨2, ![1, 128]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S_, .f32⟩
  | .hbm, ⟨27, _⟩ => ⟨S1x128, .f32⟩
  | .hbm, ⟨28, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_7 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== AttnKernel.lean ====
abbrev S4096x8x96 : Shape := ⟨3, ![4096, 8, 96]⟩
abbrev S4096x8x64 : Shape := ⟨3, ![4096, 8, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8x1 : Shape := ⟨3, ![4096, 8, 1]⟩
abbrev S4096x8x128 : Shape := ⟨3, ![4096, 8, 128]⟩
abbrev S4096x1024 : Shape := ⟨2, ![4096, 1024]⟩
abbrev S4096x256 : Shape := ⟨2, ![4096, 256]⟩
abbrev S512x256 : Shape := ⟨2, ![512, 256]⟩
abbrev S512x128 : Shape := ⟨2, ![512, 128]⟩
abbrev S4096x128 : Shape := ⟨2, ![4096, 128]⟩
abbrev S512x512 : Shape := ⟨2, ![512, 512]⟩
abbrev S512 : Shape := ⟨1, ![512]⟩
abbrev S512x1 : Shape := ⟨2, ![512, 1]⟩

abbrev nBuf : Space → Nat
  | .hbm => 54
  | .vmem => 19
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x64x4096, .f32⟩
  | .hbm, ⟨32, _⟩ => ⟨S4096x8x64, .f32⟩
  | .hbm, ⟨33, _⟩ => ⟨S4096x512, .f32⟩
  | .hbm, ⟨34, _⟩ => ⟨S8x4096x1, .f32⟩
  | .hbm, ⟨35, _⟩ => ⟨S8x4096x1, .f32⟩
  | .hbm, ⟨36, _⟩ => ⟨S4096x8x1, .f32⟩
  | .hbm, ⟨37, _⟩ => ⟨S4096x8x128, .f32⟩
  | .hbm, ⟨38, _⟩ => ⟨S4096x1024, .f32⟩
  | .hbm, ⟨39, _⟩ => ⟨S_, .i32⟩
  | .hbm, ⟨40, _⟩ => ⟨S_, .f32⟩
  | .hbm, ⟨41, _⟩ => ⟨S4096x8x128, .f32⟩
  | .hbm, ⟨42, _⟩ => ⟨S4096x1024, .f32⟩
  | .hbm, ⟨43, _⟩ => ⟨S4096x1024, .bf16⟩
  | .hbm, ⟨44, _⟩ => ⟨S_, .i32⟩
  | .hbm, ⟨45, _⟩ => ⟨S_, .f32⟩
  | .hbm, ⟨46, _⟩ => ⟨S4096x8x128, .f32⟩
  | .hbm, ⟨47, _⟩ => ⟨S4096x1024, .f32⟩
  | .hbm, ⟨48, _⟩ => ⟨S4096x1024, .bf16⟩
  | .hbm, ⟨49, _⟩ => ⟨S4096x512, .f32⟩
  | .hbm, ⟨50, _⟩ => ⟨S4096x512, .bf16⟩
  | .hbm, ⟨51, _⟩ => ⟨S4096x1024, .bf16⟩
  | .hbm, ⟨52, _⟩ => ⟨S4096x1024, .bf16⟩
  | .hbm, ⟨53, _⟩ => ⟨S4096x512, .bf16⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .f32⟩
  | .local _ .vmem, ⟨7, _⟩ => ⟨S4096x128, .f32⟩
  | .local _ .vmem, ⟨8, _⟩ => ⟨S4096x256, .f32⟩
  | .local _ .vmem, ⟨9, _⟩ => ⟨S4096x256, .f32⟩
  | .local _ .vmem, ⟨10, _⟩ => ⟨S4096x128, .f32⟩
  | .local _ .vmem, ⟨11, _⟩ => ⟨S4096x128, .f32⟩
  | .local _ .vmem, ⟨12, _⟩ => ⟨S4096x256, .bf16⟩
  | .local _ .vmem, ⟨13, _⟩ => ⟨S4096x256, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S4096x256, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_call1_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_call2_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev main_v36_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v8 : BitVec 32 := Scalar.muli arg1 c512_i32
  v8
def k0_off1 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v10 : Index := Scalar.indexCast v9
  let c0 : Index := 0#32
  ![v10.toNat, 0]
def k0_off2 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v17 : Index := Scalar.indexCast v9
  let c0_5 : Index := 0#32
  ![v17.toNat, 0]
def k0_off3 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v89 : Index := Scalar.indexCast v9
  let c128 : Index := 128#32
  ![v89.toNat, 128]
@[reducible] def k0_t1_loop (i : grid0.Coords) : Scf.Loop 32 :=
  let c0_i32_58 : BitVec 32 := 0#32
  let c7_i32 : BitVec 32 := 7#32
  let arg1 : BitVec 32 := BitVec.ofNat 32 (i 1).val
  let v161 : BitVec 32 := Scalar.subi c7_i32 arg1
  let c0_i32_52 : BitVec 32 := 0#32
  let v163 : BitVec 1 := Scalar.cmpi .sgt v161 c0_i32_52
  let v164 : BitVec 32 := Scalar.extui v163
  let c0_i32_53 : BitVec 32 := 0#32
  let v165 : BitVec 1 := Scalar.cmpi .slt v161 c0_i32_53
  let v166 : BitVec 32 := Scalar.extui v165
  let v167 : BitVec 32 := Scalar.subi v164 v166
  let c2_i32 : BitVec 32 := 2#32
  let c0_i32_54 : BitVec 32 := 0#32
  let v168 : BitVec 1 := Scalar.cmpi .sgt c2_i32 c0_i32_54
  let v169 : BitVec 32 := Scalar.extui v168
  let c0_i32_55 : BitVec 32 := 0#32
  let v170 : BitVec 1 := Scalar.cmpi .slt c2_i32 c0_i32_55
  let v171 : BitVec 32 := Scalar.extui v170
  let v172 : BitVec 32 := Scalar.subi v169 v171
  let v173 : BitVec 1 := Scalar.cmpi .ne v167 v172
  let v174 : BitVec 32 := Scalar.remsi v161 c2_i32
  let c0_i32_56 : BitVec 32 := 0#32
  let v175 : BitVec 1 := Scalar.cmpi .ne v174 c0_i32_56
  let v176 : BitVec 1 := Scalar.andi v173 v175
  let v162 : BitVec 32 := Scalar.divsi v161 c2_i32
  let c1_i32_57 : BitVec 32 := 1#32
  let v177 : BitVec 32 := Scalar.subi v162 c1_i32_57
  let v178 : BitVec 32 := Scalar.select v176 v177 v162
  let v179 : BitVec 32 := Scalar.subi v178 c0_i32_58
  let c1_i32_59 : BitVec 32 := 1#32
  let v181 : BitVec 32 := Scalar.divsi v179 c1_i32_59
  let v182 : BitVec 32 := Scalar.muli v181 c1_i32_59
  let v183 : BitVec 32 := Scalar.addi c0_i32_58 v182
  let c1_i32_60 : BitVec 32 := 1#32
  ⟨c0_i32_58, v183, c1_i32_60⟩
def k0_mult2 (i : grid0.Coords) (k0_t1 : Fin (k0_t1_loop i).trips) : BitVec 32 :=
  let arg1 : BitVec 32 := BitVec.ofNat 32 (i 1).val
  let c1_i32_82 : BitVec 32 := 1#32
  let v215 : BitVec 32 := Scalar.addi arg1 c1_i32_82
  let c2_i32_83 : BitVec 32 := 2#32
  let c0_i32_58 : BitVec 32 := 0#32
  let c1_i32_60 : BitVec 32 := 1#32
  let arg12 : BitVec 32 := Scf.iv c0_i32_58 c1_i32_60 k0_t1
  let v216 : BitVec 32 := Scalar.muli c2_i32_83 arg12
  let v217 : BitVec 32 := Scalar.addi v215 v216
  let c512_i32_84 : BitVec 32 := 512#32
  let v218 : BitVec 32 := Scalar.muli v217 c512_i32_84
  v218
def k0_off4 (i : grid0.Coords) (k0_t1 : Fin (k0_t1_loop i).trips) (c1_i32_82 : BitVec 32) : Fin 2 → Nat :=
  let arg1 : BitVec 32 := BitVec.ofNat 32 (i 1).val
  let v215 : BitVec 32 := Scalar.addi arg1 c1_i32_82
  let c2_i32_83 : BitVec 32 := 2#32
  let c0_i32_58 : BitVec 32 := 0#32
  let c1_i32_60 : BitVec 32 := 1#32
  let arg12 : BitVec 32 := Scf.iv c0_i32_58 c1_i32_60 k0_t1
  let v216 : BitVec 32 := Scalar.muli c2_i32_83 arg12
  let v217 : BitVec 32 := Scalar.addi v215 v216
  let c512_i32_84 : BitVec 32 := 512#32
  let v218 : BitVec 32 := Scalar.muli v217 c512_i32_84
  let v219 : BitVec 32 := v218
  let v220 : Index := Scalar.indexCast v219
  let c0_85 : Index := 0#32
  ![v220.toNat, 0]
def k0_off5 (i : grid0.Coords) (k0_t1 : Fin (k0_t1_loop i).trips) (c1_i32_82 : BitVec 32) : Fin 2 → Nat :=
  let arg1 : BitVec 32 := BitVec.ofNat 32 (i 1).val
  let v215 : BitVec 32 := Scalar.addi arg1 c1_i32_82
  let c2_i32_83 : BitVec 32 := 2#32
  let c0_i32_58 : BitVec 32 := 0#32
  let c1_i32_60 : BitVec 32 := 1#32
  let arg12 : BitVec 32 := Scf.iv c0_i32_58 c1_i32_60 k0_t1
  let v216 : BitVec 32 := Scalar.muli c2_i32_83 arg12
  let v217 : BitVec 32 := Scalar.addi v215 v216
  let c512_i32_84 : BitVec 32 := 512#32
  let v218 : BitVec 32 := Scalar.muli v217 c512_i32_84
  let v219 : BitVec 32 := v218
  let v227 : Index := Scalar.indexCast v219
  let c0_89 : Index := 0#32
  ![v227.toNat, 0]
def k0_off6 (i : grid0.Coords) (k0_t1 : Fin (k0_t1_loop i).trips) (c1_i32_82 : BitVec 32) : Fin 2 → Nat :=
  let arg1 : BitVec 32 := BitVec.ofNat 32 (i 1).val
  let v215 : BitVec 32 := Scalar.addi arg1 c1_i32_82
  let c2_i32_83 : BitVec 32 := 2#32
  let c0_i32_58 : BitVec 32 := 0#32
  let c1_i32_60 : BitVec 32 := 1#32
  let arg12 : BitVec 32 := Scf.iv c0_i32_58 c1_i32_60 k0_t1
  let v216 : BitVec 32 := Scalar.muli c2_i32_83 arg12
  let v217 : BitVec 32 := Scalar.addi v215 v216
  let c512_i32_84 : BitVec 32 := 512#32
  let v218 : BitVec 32 := Scalar.muli v217 c512_i32_84
  let v219 : BitVec 32 := v218
  let v296 : Index := Scalar.indexCast v219
  let c128_113 : Index := 128#32
  ![v296.toNat, 128]
def k0_mult3 (i : grid0.Coords) (k0_t1 : Fin (k0_t1_loop i).trips) : BitVec 32 :=
  let arg1 : BitVec 32 := BitVec.ofNat 32 (i 1).val
  let c2_i32_80 : BitVec 32 := 2#32
  let v212 : BitVec 32 := Scalar.addi arg1 c2_i32_80
  let c2_i32_81 : BitVec 32 := 2#32
  let c0_i32_58 : BitVec 32 := 0#32
  let c1_i32_60 : BitVec 32 := 1#32
  let arg12 : BitVec 32 := Scf.iv c0_i32_58 c1_i32_60 k0_t1
  let v213 : BitVec 32 := Scalar.muli c2_i32_81 arg12
  let v214 : BitVec 32 := Scalar.addi v212 v213
  let c512_i32_137 : BitVec 32 := 512#32
  let v365 : BitVec 32 := Scalar.muli v214 c512_i32_137
  v365
@[reducible] def k0_t2_loop (i : grid0.Coords) : Scf.Loop 32 :=
  let c0_i32_58 : BitVec 32 := 0#32
  let c7_i32 : BitVec 32 := 7#32
  let arg1 : BitVec 32 := BitVec.ofNat 32 (i 1).val
  let v161 : BitVec 32 := Scalar.subi c7_i32 arg1
  let c0_i32_52 : BitVec 32 := 0#32
  let v163 : BitVec 1 := Scalar.cmpi .sgt v161 c0_i32_52
  let v164 : BitVec 32 := Scalar.extui v163
  let c0_i32_53 : BitVec 32 := 0#32
  let v165 : BitVec 1 := Scalar.cmpi .slt v161 c0_i32_53
  let v166 : BitVec 32 := Scalar.extui v165
  let v167 : BitVec 32 := Scalar.subi v164 v166
  let c2_i32 : BitVec 32 := 2#32
  let c0_i32_54 : BitVec 32 := 0#32
  let v168 : BitVec 1 := Scalar.cmpi .sgt c2_i32 c0_i32_54
  let v169 : BitVec 32 := Scalar.extui v168
  let c0_i32_55 : BitVec 32 := 0#32
  let v170 : BitVec 1 := Scalar.cmpi .slt c2_i32 c0_i32_55
  let v171 : BitVec 32 := Scalar.extui v170
  let v172 : BitVec 32 := Scalar.subi v169 v171
  let v173 : BitVec 1 := Scalar.cmpi .ne v167 v172
  let v174 : BitVec 32 := Scalar.remsi v161 c2_i32
  let c0_i32_56 : BitVec 32 := 0#32
  let v175 : BitVec 1 := Scalar.cmpi .ne v174 c0_i32_56
  let v176 : BitVec 1 := Scalar.andi v173 v175
  let v162 : BitVec 32 := Scalar.divsi v161 c2_i32
  let c1_i32_57 : BitVec 32 := 1#32
  let v177 : BitVec 32 := Scalar.subi v162 c1_i32_57
  let v178 : BitVec 32 := Scalar.select v176 v177 v162
  let v179 : BitVec 32 := Scalar.subi v178 c0_i32_58
  let c1_i32_59 : BitVec 32 := 1#32
  let v181 : BitVec 32 := Scalar.divsi v179 c1_i32_59
  let v182 : BitVec 32 := Scalar.muli v181 c1_i32_59
  let v183 : BitVec 32 := Scalar.addi c0_i32_58 v182
  let v180 : BitVec 32 := Scalar.addi c0_i32_58 v179
  let c1_i32_61 : BitVec 32 := 1#32
  ⟨v183, v180, c1_i32_61⟩
def k0_mult4 (i : grid0.Coords) (k0_t2 : Fin (k0_t2_loop i).trips) : BitVec 32 :=
  let arg1 : BitVec 32 := BitVec.ofNat 32 (i 1).val
  let c1_i32_82 : BitVec 32 := 1#32
  let v215 : BitVec 32 := Scalar.addi arg1 c1_i32_82
  let c2_i32_83 : BitVec 32 := 2#32
  let c0_i32_58 : BitVec 32 := 0#32
  let c7_i32 : BitVec 32 := 7#32
  let v161 : BitVec 32 := Scalar.subi c7_i32 arg1
  let c0_i32_52 : BitVec 32 := 0#32
  let v163 : BitVec 1 := Scalar.cmpi .sgt v161 c0_i32_52
  let v164 : BitVec 32 := Scalar.extui v163
  let c0_i32_53 : BitVec 32 := 0#32
  let v165 : BitVec 1 := Scalar.cmpi .slt v161 c0_i32_53
  let v166 : BitVec 32 := Scalar.extui v165
  let v167 : BitVec 32 := Scalar.subi v164 v166
  let c2_i32 : BitVec 32 := 2#32
  let c0_i32_54 : BitVec 32 := 0#32
  let v168 : BitVec 1 := Scalar.cmpi .sgt c2_i32 c0_i32_54
  let v169 : BitVec 32 := Scalar.extui v168
  let c0_i32_55 : BitVec 32 := 0#32
  let v170 : BitVec 1 := Scalar.cmpi .slt c2_i32 c0_i32_55
  let v171 : BitVec 32 := Scalar.extui v170
  let v172 : BitVec 32 := Scalar.subi v169 v171
  let v173 : BitVec 1 := Scalar.cmpi .ne v167 v172
  let v174 : BitVec 32 := Scalar.remsi v161 c2_i32
  let c0_i32_56 : BitVec 32 := 0#32
  let v175 : BitVec 1 := Scalar.cmpi .ne v174 c0_i32_56
  let v176 : BitVec 1 := Scalar.andi v173 v175
  let v162 : BitVec 32 := Scalar.divsi v161 c2_i32
  let c1_i32_57 : BitVec 32 := 1#32
  let v177 : BitVec 32 := Scalar.subi v162 c1_i32_57
  let v178 : BitVec 32 := Scalar.select v176 v177 v162
  let v179 : BitVec 32 := Scalar.subi v178 c0_i32_58
  let c1_i32_59 : BitVec 32 := 1#32
  let v181 : BitVec 32 := Scalar.divsi v179 c1_i32_59
  let v182 : BitVec 32 := Scalar.muli v181 c1_i32_59
  let v183 : BitVec 32 := Scalar.addi c0_i32_58 v182
  let c1_i32_61 : BitVec 32 := 1#32
  let arg12 : BitVec 32 := Scf.iv v183 c1_i32_61 k0_t2
  let v216 : BitVec 32 := Scalar.muli c2_i32_83 arg12
  let v217 : BitVec 32 := Scalar.addi v215 v216
  let c512_i32_84 : BitVec 32 := 512#32
  let v218 : BitVec 32 := Scalar.muli v217 c512_i32_84
  v218
def k0_off7 (i : grid0.Coords) (k0_t2 : Fin (k0_t2_loop i).trips) (c1_i32_82 : BitVec 32) : Fin 2 → Nat :=
  let arg1 : BitVec 32 := BitVec.ofNat 32 (i 1).val
  let v215 : BitVec 32 := Scalar.addi arg1 c1_i32_82
  let c2_i32_83 : BitVec 32 := 2#32
  let c0_i32_58 : BitVec 32 := 0#32
  let c7_i32 : BitVec 32 := 7#32
  let v161 : BitVec 32 := Scalar.subi c7_i32 arg1
  let c0_i32_52 : BitVec 32 := 0#32
  let v163 : BitVec 1 := Scalar.cmpi .sgt v161 c0_i32_52
  let v164 : BitVec 32 := Scalar.extui v163
  let c0_i32_53 : BitVec 32 := 0#32
  let v165 : BitVec 1 := Scalar.cmpi .slt v161 c0_i32_53
  let v166 : BitVec 32 := Scalar.extui v165
  let v167 : BitVec 32 := Scalar.subi v164 v166
  let c2_i32 : BitVec 32 := 2#32
  let c0_i32_54 : BitVec 32 := 0#32
  let v168 : BitVec 1 := Scalar.cmpi .sgt c2_i32 c0_i32_54
  let v169 : BitVec 32 := Scalar.extui v168
  let c0_i32_55 : BitVec 32 := 0#32
  let v170 : BitVec 1 := Scalar.cmpi .slt c2_i32 c0_i32_55
  let v171 : BitVec 32 := Scalar.extui v170
  let v172 : BitVec 32 := Scalar.subi v169 v171
  let v173 : BitVec 1 := Scalar.cmpi .ne v167 v172
  let v174 : BitVec 32 := Scalar.remsi v161 c2_i32
  let c0_i32_56 : BitVec 32 := 0#32
  let v175 : BitVec 1 := Scalar.cmpi .ne v174 c0_i32_56
  let v176 : BitVec 1 := Scalar.andi v173 v175
  let v162 : BitVec 32 := Scalar.divsi v161 c2_i32
  let c1_i32_57 : BitVec 32 := 1#32
  let v177 : BitVec 32 := Scalar.subi v162 c1_i32_57
  let v178 : BitVec 32 := Scalar.select v176 v177 v162
  let v179 : BitVec 32 := Scalar.subi v178 c0_i32_58
  let c1_i32_59 : BitVec 32 := 1#32
  let v181 : BitVec 32 := Scalar.divsi v179 c1_i32_59
  let v182 : BitVec 32 := Scalar.muli v181 c1_i32_59
  let v183 : BitVec 32 := Scalar.addi c0_i32_58 v182
  let c1_i32_61 : BitVec 32 := 1#32
  let arg12 : BitVec 32 := Scf.iv v183 c1_i32_61 k0_t2
  let v216 : BitVec 32 := Scalar.muli c2_i32_83 arg12
  let v217 : BitVec 32 := Scalar.addi v215 v216
  let c512_i32_84 : BitVec 32 := 512#32
  let v218 : BitVec 32 := Scalar.muli v217 c512_i32_84
  let v219 : BitVec 32 := v218
  let v220 : Index := Scalar.indexCast v219
  let c0_85 : Index := 0#32
  ![v220.toNat, 0]
def k0_off8 (i : grid0.Coords) (k0_t2 : Fin (k0_t2_loop i).trips) (c1_i32_82 : BitVec 32) : Fin 2 → Nat :=
  let arg1 : BitVec 32 := BitVec.ofNat 32 (i 1).val
  let v215 : BitVec 32 := Scalar.addi arg1 c1_i32_82
  let c2_i32_83 : BitVec 32 := 2#32
  let c0_i32_58 : BitVec 32 := 0#32
  let c7_i32 : BitVec 32 := 7#32
  let v161 : BitVec 32 := Scalar.subi c7_i32 arg1
  let c0_i32_52 : BitVec 32 := 0#32
  let v163 : BitVec 1 := Scalar.cmpi .sgt v161 c0_i32_52
  let v164 : BitVec 32 := Scalar.extui v163
  let c0_i32_53 : BitVec 32 := 0#32
  let v165 : BitVec 1 := Scalar.cmpi .slt v161 c0_i32_53
  let v166 : BitVec 32 := Scalar.extui v165
  let v167 : BitVec 32 := Scalar.subi v164 v166
  let c2_i32 : BitVec 32 := 2#32
  let c0_i32_54 : BitVec 32 := 0#32
  let v168 : BitVec 1 := Scalar.cmpi .sgt c2_i32 c0_i32_54
  let v169 : BitVec 32 := Scalar.extui v168
  let c0_i32_55 : BitVec 32 := 0#32
  let v170 : BitVec 1 := Scalar.cmpi .slt c2_i32 c0_i32_55
  let v171 : BitVec 32 := Scalar.extui v170
  let v172 : BitVec 32 := Scalar.subi v169 v171
  let v173 : BitVec 1 := Scalar.cmpi .ne v167 v172
  let v174 : BitVec 32 := Scalar.remsi v161 c2_i32
  let c0_i32_56 : BitVec 32 := 0#32
  let v175 : BitVec 1 := Scalar.cmpi .ne v174 c0_i32_56
  let v176 : BitVec 1 := Scalar.andi v173 v175
  let v162 : BitVec 32 := Scalar.divsi v161 c2_i32
  let c1_i32_57 : BitVec 32 := 1#32
  let v177 : BitVec 32 := Scalar.subi v162 c1_i32_57
  let v178 : BitVec 32 := Scalar.select v176 v177 v162
  let v179 : BitVec 32 := Scalar.subi v178 c0_i32_58
  let c1_i32_59 : BitVec 32 := 1#32
  let v181 : BitVec 32 := Scalar.divsi v179 c1_i32_59
  let v182 : BitVec 32 := Scalar.muli v181 c1_i32_59
  let v183 : BitVec 32 := Scalar.addi c0_i32_58 v182
  let c1_i32_61 : BitVec 32 := 1#32
  let arg12 : BitVec 32 := Scf.iv v183 c1_i32_61 k0_t2
  let v216 : BitVec 32 := Scalar.muli c2_i32_83 arg12
  let v217 : BitVec 32 := Scalar.addi v215 v216
  let c512_i32_84 : BitVec 32 := 512#32
  let v218 : BitVec 32 := Scalar.muli v217 c512_i32_84
  let v219 : BitVec 32 := v218
  let v227 : Index := Scalar.indexCast v219
  let c0_89 : Index := 0#32
  ![v227.toNat, 0]
def k0_off9 (i : grid0.Coords) (k0_t2 : Fin (k0_t2_loop i).trips) (c1_i32_82 : BitVec 32) : Fin 2 → Nat :=
  let arg1 : BitVec 32 := BitVec.ofNat 32 (i 1).val
  let v215 : BitVec 32 := Scalar.addi arg1 c1_i32_82
  let c2_i32_83 : BitVec 32 := 2#32
  let c0_i32_58 : BitVec 32 := 0#32
  let c7_i32 : BitVec 32 := 7#32
  let v161 : BitVec 32 := Scalar.subi c7_i32 arg1
  let c0_i32_52 : BitVec 32 := 0#32
  let v163 : BitVec 1 := Scalar.cmpi .sgt v161 c0_i32_52
  let v164 : BitVec 32 := Scalar.extui v163
  let c0_i32_53 : BitVec 32 := 0#32
  let v165 : BitVec 1 := Scalar.cmpi .slt v161 c0_i32_53
  let v166 : BitVec 32 := Scalar.extui v165
  let v167 : BitVec 32 := Scalar.subi v164 v166
  let c2_i32 : BitVec 32 := 2#32
  let c0_i32_54 : BitVec 32 := 0#32
  let v168 : BitVec 1 := Scalar.cmpi .sgt c2_i32 c0_i32_54
  let v169 : BitVec 32 := Scalar.extui v168
  let c0_i32_55 : BitVec 32 := 0#32
  let v170 : BitVec 1 := Scalar.cmpi .slt c2_i32 c0_i32_55
  let v171 : BitVec 32 := Scalar.extui v170
  let v172 : BitVec 32 := Scalar.subi v169 v171
  let v173 : BitVec 1 := Scalar.cmpi .ne v167 v172
  let v174 : BitVec 32 := Scalar.remsi v161 c2_i32
  let c0_i32_56 : BitVec 32 := 0#32
  let v175 : BitVec 1 := Scalar.cmpi .ne v174 c0_i32_56
  let v176 : BitVec 1 := Scalar.andi v173 v175
  let v162 : BitVec 32 := Scalar.divsi v161 c2_i32
  let c1_i32_57 : BitVec 32 := 1#32
  let v177 : BitVec 32 := Scalar.subi v162 c1_i32_57
  let v178 : BitVec 32 := Scalar.select v176 v177 v162
  let v179 : BitVec 32 := Scalar.subi v178 c0_i32_58
  let c1_i32_59 : BitVec 32 := 1#32
  let v181 : BitVec 32 := Scalar.divsi v179 c1_i32_59
  let v182 : BitVec 32 := Scalar.muli v181 c1_i32_59
  let v183 : BitVec 32 := Scalar.addi c0_i32_58 v182
  let c1_i32_61 : BitVec 32 := 1#32
  let arg12 : BitVec 32 := Scf.iv v183 c1_i32_61 k0_t2
  let v216 : BitVec 32 := Scalar.muli c2_i32_83 arg12
  let v217 : BitVec 32 := Scalar.addi v215 v216
  let c512_i32_84 : BitVec 32 := 512#32
  let v218 : BitVec 32 := Scalar.muli v217 c512_i32_84
  let v219 : BitVec 32 := v218
  let v296 : Index := Scalar.indexCast v219
  let c128_113 : Index := 128#32
  ![v296.toNat, 128]
def k0_mult5 (i : grid0.Coords) (k0_t2 : Fin (k0_t2_loop i).trips) : BitVec 32 :=
  let arg1 : BitVec 32 := BitVec.ofNat 32 (i 1).val
  let c2_i32_80 : BitVec 32 := 2#32
  let v212 : BitVec 32 := Scalar.addi arg1 c2_i32_80
  let c2_i32_81 : BitVec 32 := 2#32
  let c0_i32_58 : BitVec 32 := 0#32
  let c7_i32 : BitVec 32 := 7#32
  let v161 : BitVec 32 := Scalar.subi c7_i32 arg1
  let c0_i32_52 : BitVec 32 := 0#32
  let v163 : BitVec 1 := Scalar.cmpi .sgt v161 c0_i32_52
  let v164 : BitVec 32 := Scalar.extui v163
  let c0_i32_53 : BitVec 32 := 0#32
  let v165 : BitVec 1 := Scalar.cmpi .slt v161 c0_i32_53
  let v166 : BitVec 32 := Scalar.extui v165
  let v167 : BitVec 32 := Scalar.subi v164 v166
  let c2_i32 : BitVec 32 := 2#32
  let c0_i32_54 : BitVec 32 := 0#32
  let v168 : BitVec 1 := Scalar.cmpi .sgt c2_i32 c0_i32_54
  let v169 : BitVec 32 := Scalar.extui v168
  let c0_i32_55 : BitVec 32 := 0#32
  let v170 : BitVec 1 := Scalar.cmpi .slt c2_i32 c0_i32_55
  let v171 : BitVec 32 := Scalar.extui v170
  let v172 : BitVec 32 := Scalar.subi v169 v171
  let v173 : BitVec 1 := Scalar.cmpi .ne v167 v172
  let v174 : BitVec 32 := Scalar.remsi v161 c2_i32
  let c0_i32_56 : BitVec 32 := 0#32
  let v175 : BitVec 1 := Scalar.cmpi .ne v174 c0_i32_56
  let v176 : BitVec 1 := Scalar.andi v173 v175
  let v162 : BitVec 32 := Scalar.divsi v161 c2_i32
  let c1_i32_57 : BitVec 32 := 1#32
  let v177 : BitVec 32 := Scalar.subi v162 c1_i32_57
  let v178 : BitVec 32 := Scalar.select v176 v177 v162
  let v179 : BitVec 32 := Scalar.subi v178 c0_i32_58
  let c1_i32_59 : BitVec 32 := 1#32
  let v181 : BitVec 32 := Scalar.divsi v179 c1_i32_59
  let v182 : BitVec 32 := Scalar.muli v181 c1_i32_59
  let v183 : BitVec 32 := Scalar.addi c0_i32_58 v182
  let c1_i32_61 : BitVec 32 := 1#32
  let arg12 : BitVec 32 := Scf.iv v183 c1_i32_61 k0_t2
  let v213 : BitVec 32 := Scalar.muli c2_i32_81 arg12
  let v214 : BitVec 32 := Scalar.addi v212 v213
  let c512_i32_137 : BitVec 32 := 512#32
  let v365 : BitVec 32 := Scalar.muli v214 c512_i32_137
  v365
@[reducible] def k0_t3_loop (i : grid0.Coords) : Scf.Loop 32 :=
  let c0_i32_68 : BitVec 32 := 0#32
  let c7_i32 : BitVec 32 := 7#32
  let arg1 : BitVec 32 := BitVec.ofNat 32 (i 1).val
  let v161 : BitVec 32 := Scalar.subi c7_i32 arg1
  let c2_i32_62 : BitVec 32 := 2#32
  let c0_i32_63 : BitVec 32 := 0#32
  let v186 : BitVec 1 := Scalar.cmpi .eq c2_i32_62 c0_i32_63
  let c1_i32_64 : BitVec 32 := 1#32
  let v187 : BitVec 32 := Scalar.select v186 c1_i32_64 c2_i32_62
  let v188 : BitVec 32 := Scalar.remsi v161 v187
  let c0_i32_66 : BitVec 32 := 0#32
  let v190 : BitVec 1 := Scalar.cmpi .slt v188 c0_i32_66
  let c0_i32_67 : BitVec 32 := 0#32
  let v191 : BitVec 1 := Scalar.cmpi .slt v187 c0_i32_67
  let v192 : BitVec 1 := Scalar.xori v190 v191
  let c0_i32_65 : BitVec 32 := 0#32
  let v189 : BitVec 1 := Scalar.cmpi .ne v188 c0_i32_65
  let v193 : BitVec 1 := Scalar.andi v192 v189
  let v194 : BitVec 32 := Scalar.addi v188 v187
  let v195 : BitVec 32 := Scalar.select v193 v194 v188
  let v196 : BitVec 32 := Scalar.subi v195 c0_i32_68
  let c1_i32_69 : BitVec 32 := 1#32
  let v198 : BitVec 32 := Scalar.divsi v196 c1_i32_69
  let v199 : BitVec 32 := Scalar.muli v198 c1_i32_69
  let v200 : BitVec 32 := Scalar.addi c0_i32_68 v199
  let c1_i32_70 : BitVec 32 := 1#32
  ⟨c0_i32_68, v200, c1_i32_70⟩
def k0_mult6 : BitVec 32 :=
  let c3584_i32 : BitVec 32 := 3584#32
  c3584_i32
@[reducible] def k0_t4_loop (i : grid0.Coords) : Scf.Loop 32 :=
  let c0_i32_68 : BitVec 32 := 0#32
  let c7_i32 : BitVec 32 := 7#32
  let arg1 : BitVec 32 := BitVec.ofNat 32 (i 1).val
  let v161 : BitVec 32 := Scalar.subi c7_i32 arg1
  let c2_i32_62 : BitVec 32 := 2#32
  let c0_i32_63 : BitVec 32 := 0#32
  let v186 : BitVec 1 := Scalar.cmpi .eq c2_i32_62 c0_i32_63
  let c1_i32_64 : BitVec 32 := 1#32
  let v187 : BitVec 32 := Scalar.select v186 c1_i32_64 c2_i32_62
  let v188 : BitVec 32 := Scalar.remsi v161 v187
  let c0_i32_66 : BitVec 32 := 0#32
  let v190 : BitVec 1 := Scalar.cmpi .slt v188 c0_i32_66
  let c0_i32_67 : BitVec 32 := 0#32
  let v191 : BitVec 1 := Scalar.cmpi .slt v187 c0_i32_67
  let v192 : BitVec 1 := Scalar.xori v190 v191
  let c0_i32_65 : BitVec 32 := 0#32
  let v189 : BitVec 1 := Scalar.cmpi .ne v188 c0_i32_65
  let v193 : BitVec 1 := Scalar.andi v192 v189
  let v194 : BitVec 32 := Scalar.addi v188 v187
  let v195 : BitVec 32 := Scalar.select v193 v194 v188
  let v196 : BitVec 32 := Scalar.subi v195 c0_i32_68
  let c1_i32_69 : BitVec 32 := 1#32
  let v198 : BitVec 32 := Scalar.divsi v196 c1_i32_69
  let v199 : BitVec 32 := Scalar.muli v198 c1_i32_69
  let v200 : BitVec 32 := Scalar.addi c0_i32_68 v199
  let v197 : BitVec 32 := Scalar.addi c0_i32_68 v196
  let c1_i32_71 : BitVec 32 := 1#32
  ⟨v200, v197, c1_i32_71⟩
def k0_mult7 : BitVec 32 :=
  let c3584_i32 : BitVec 32 := 3584#32
  c3584_i32
def k0_cond2 (i : grid0.Coords) : BitVec 1 :=
  let arg1 : BitVec 32 := BitVec.ofNat 32 (i 1).val
  let c7_i32_78 : BitVec 32 := 7#32
  let v209 : BitVec 1 := Scalar.cmpi .eq arg1 c7_i32_78
  let v210 : BitVec 32 := Scalar.extui v209
  let c0_i32_79 : BitVec 32 := 0#32
  let v211 : BitVec 1 := Scalar.cmpi .ne v210 c0_i32_79
  v211

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnKernelIdeal.lean ====
variable {F : FTy → Type} [FloatOps F] [Named F]
def κ : String → Option EReal := fun
  | "log2e" => some (((Real.log 2)⁻¹ : ℝ) : EReal)
  | "mask" => some ⊥
  | "scale" => some (((Real.sqrt 96)⁻¹ : ℝ) : EReal)
  | "scale_log2e" => some (((Real.sqrt 96)⁻¹ * (Real.log 2)⁻¹ : ℝ) : EReal)
  | _ => none
-- ==== AttnReferenceIdeal.lean ====
abbrev S4096x8x96 : Shape := ⟨3, ![4096, 8, 96]⟩
abbrev S4096x8x64 : Shape := ⟨3, ![4096, 8, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x128 : Shape := ⟨3, ![4096, 8, 128]⟩
abbrev S4096x1024 : Shape := ⟨2, ![4096, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x64x4096, .f32⟩
  | .hbm, ⟨61, _⟩ => ⟨S4096x8x64, .f32⟩
  | .hbm, ⟨62, _⟩ => ⟨S4096x512, .f32⟩
  | .hbm, ⟨63, _⟩ => ⟨S4096x8x64, .f32⟩
  | .hbm, ⟨64, _⟩ => ⟨S8x64x4096, .f32⟩
  | .hbm, ⟨65, _⟩ => ⟨S8x4096x4096, .f32⟩
  | .hbm, ⟨66, _⟩ => ⟨S8x64x4096, .f32⟩
  | .hbm, ⟨67, _⟩ => ⟨S4096x8x64, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S8x4096x96, .f32⟩
  | .hbm, ⟨88, _⟩ => ⟨S4096x8x96, .f32⟩
  | .hbm, ⟨89, _⟩ => ⟨S8x4096x96, .f32⟩
  | .hbm, ⟨90, _⟩ => ⟨S4096x8x96, .f32⟩
  | .hbm, ⟨91, _⟩ => ⟨S_, .i32⟩
  | .hbm, ⟨92, _⟩ => ⟨S_, .f32⟩
  | .hbm, ⟨93, _⟩ => ⟨S4096x8x128, .f32⟩
  | .hbm, ⟨94, _⟩ => ⟨S4096x1024, .f32⟩
  | .hbm, ⟨95, _⟩ => ⟨S_, .i32⟩
  | .hbm, ⟨96, _⟩ => ⟨S_, .f32⟩
  | .hbm, ⟨97, _⟩ => ⟨S4096x8x128, .f32⟩
  | .hbm, ⟨98, _⟩ => ⟨S4096x1024, .f32⟩
  | .hbm, ⟨99, _⟩ => ⟨S4096x1024, .bf16⟩
  | .hbm, ⟨100, _⟩ => ⟨S4096x1024, .bf16⟩
  | .hbm, ⟨101, _⟩ => ⟨S4096x512, .f32⟩
  | .hbm, ⟨102, _⟩ => ⟨S4096x512, .bf16⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c : Ref sig .tc := ⟨.hbm, 91, rfl⟩
abbrev main_call2_v0 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_call3_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== ConvKernel.lean ====
abbrev S1x4096x1952 : Shape := ⟨3, ![1, 4096, 1952]⟩
abbrev S3x256 : Shape := ⟨2, ![3, 256]⟩
abbrev S1x4096x256 : Shape := ⟨3, ![1, 4096, 256]⟩
abbrev S4096x256 : Shape := ⟨2, ![4096, 256]⟩
abbrev S1x4096x768 : Shape := ⟨3, ![1, 4096, 768]⟩
abbrev S4096x768 : Shape := ⟨2, ![4096, 768]⟩
abbrev S1x4096x672 : Shape := ⟨3, ![1, 4096, 672]⟩
abbrev S4096x672 : Shape := ⟨2, ![4096, 672]⟩
abbrev S_ : Shape := ⟨0, ![]⟩
abbrev S4096x96 : Shape := ⟨2, ![4096, 96]⟩
abbrev S1x4096x512 : Shape := ⟨3, ![1, 4096, 512]⟩
abbrev S4096x512 : Shape := ⟨2, ![4096, 512]⟩
abbrev S4096x2048 : Shape := ⟨2, ![4096, 2048]⟩
abbrev S8x256 : Shape := ⟨2, ![8, 256]⟩
abbrev S1024x256 : Shape := ⟨2, ![1024, 256]⟩
abbrev S1024x768 : Shape := ⟨2, ![1024, 768]⟩
abbrev S16x768 : Shape := ⟨2, ![16, 768]⟩
abbrev S16x256 : Shape := ⟨2, ![16, 256]⟩
abbrev S1x256 : Shape := ⟨2, ![1, 256]⟩
abbrev S256 : Shape := ⟨1, ![256]⟩

abbrev nBuf : Space → Nat
  | .hbm => 16
  | .vmem => 14
  | .smem => 0
  | _ => 0

abbrev bufTy : (tb : Table) → Fin (tcTables nBuf tb) → BufTy
  | .hbm, ⟨0, _⟩ => ⟨S1x4096x1952, .f32⟩
  | .hbm, ⟨1, _⟩ => ⟨S3x256, .f32⟩
  | .hbm, ⟨2, _⟩ => ⟨S1x4096x256, .f32⟩
  | .hbm, ⟨3, _⟩ => ⟨S4096x256, .f32⟩
  | .hbm, ⟨4, _⟩ => ⟨S1x4096x768, .f32⟩
  | .hbm, ⟨5, _⟩ => ⟨S4096x768, .f32⟩
  | .hbm, ⟨6, _⟩ => ⟨S1x4096x672, .f32⟩
  | .hbm, ⟨7, _⟩ => ⟨S4096x672, .f32⟩
  | .hbm, ⟨8, _⟩ => ⟨S_, .f32⟩
  | .hbm, ⟨9, _⟩ => ⟨S4096x96, .f32⟩
  | .hbm, ⟨10, _⟩ => ⟨S1x4096x512, .f32⟩
  | .hbm, ⟨11, _⟩ => ⟨S4096x512, .f32⟩
  | .hbm, ⟨12, _⟩ => ⟨S4096x2048, .f32⟩
  | .hbm, ⟨13, _⟩ => ⟨S4096x2048, .bf16⟩
  | .hbm, ⟨14, _⟩ => ⟨S4096x768, .bf16⟩
  | .hbm, ⟨15, _⟩ => ⟨S8x256, .f32⟩
  | .local _ .vmem, ⟨0, _⟩ => ⟨S1024x256, .f32⟩
  | .local _ .vmem, ⟨1, _⟩ => ⟨S1024x256, .f32⟩
  | .local _ .vmem, ⟨2, _⟩ => ⟨S8x256, .f32⟩
  | .local _ .vmem, ⟨3, _⟩ => ⟨S8x256, .f32⟩
  | .local _ .vmem, ⟨4, _⟩ => ⟨S1024x768, .bf16⟩
  | .local _ .vmem, ⟨5, _⟩ => ⟨S1024x768, .bf16⟩
  | .local _ .vmem, ⟨6, _⟩ => ⟨S16x768, .bf16⟩
  | .local _ .vmem, ⟨7, _⟩ => ⟨S16x768, .bf16⟩
  | .local _ .vmem, ⟨8, _⟩ => ⟨S16x768, .bf16⟩
  | .local _ .vmem, ⟨9, _⟩ => ⟨S16x768, .bf16⟩
  | .local _ .vmem, ⟨10, _⟩ => ⟨S3x256, .f32⟩
  | .local _ .vmem, ⟨11, _⟩ => ⟨S1024x768, .bf16⟩
  | .local _ .vmem, ⟨12, _⟩ => ⟨S1024x768, .bf16⟩
  | .local _ .vmem, ⟨13, _⟩ => ⟨S8x256, .f32⟩
  | _, _ => ⟨S1x4096x1952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v129 : BitVec 32 := Scalar.extui v0
  let c0_i32_27 : BitVec 32 := 0#32
  let v130 : BitVec 1 := Scalar.cmpi .ne v129 c0_i32_27
  v130

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v131 : BitVec 1 := Scalar.xori v0 v_true
  let v132 : BitVec 32 := Scalar.extui v131
  let c0_i32_28 : BitVec 32 := 0#32
  let v133 : BitVec 1 := Scalar.cmpi .ne v132 c0_i32_28
  v133

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvReferenceIdeal.lean ====
abbrev S1x4096x1952 : Shape := ⟨3, ![1, 4096, 1952]⟩
abbrev S3x256 : Shape := ⟨2, ![3, 256]⟩
abbrev S1x4096x256 : Shape := ⟨3, ![1, 4096, 256]⟩
abbrev S_ : Shape := ⟨0, ![]⟩
abbrev S1x2x256 : Shape := ⟨3, ![1, 2, 256]⟩
abbrev S1x4098x256 : Shape := ⟨3, ![1, 4098, 256]⟩
abbrev S1x256 : Shape := ⟨2, ![1, 256]⟩
abbrev S256 : Shape := ⟨1, ![256]⟩
abbrev S1x1x256 : Shape := ⟨3, ![1, 1, 256]⟩
abbrev S1x4096x768 : Shape := ⟨3, ![1, 4096, 768]⟩
abbrev S4096x768 : Shape := ⟨2, ![4096, 768]⟩
abbrev S8x256 : Shape := ⟨2, ![8, 256]⟩

abbrev nBuf : Space → Nat
  | .hbm => 96
  | .vmem => 0
  | .smem => 0
  | _ => 0

abbrev bufTy : (tb : Table) → Fin (tcTables nBuf tb) → BufTy
  | .hbm, ⟨0, _⟩ => ⟨S1x4096x1952, .f32⟩
  | .hbm, ⟨1, _⟩ => ⟨S3x256, .f32⟩
  | .hbm, ⟨2, _⟩ => ⟨S1x4096x256, .f32⟩
  | .hbm, ⟨3, _⟩ => ⟨S1x4096x256, .f32⟩
  | .hbm, ⟨4, _⟩ => ⟨S1x4096x256, .f32⟩
  | .hbm, ⟨5, _⟩ => ⟨S1x4096x256, .f32⟩
  | .hbm, ⟨6, _⟩ => ⟨S1x4096x256, .f32⟩
  | .hbm, ⟨7, _⟩ => ⟨S_, .f32⟩
  | .hbm, ⟨8, _⟩ => ⟨S1x2x256, .f32⟩
  | .hbm, ⟨9, _⟩ => ⟨S1x4098x256, .f32⟩
  | .hbm, ⟨10, _⟩ => ⟨S_, .f32⟩
  | .hbm, ⟨11, _⟩ => ⟨S1x2x256, .f32⟩
  | .hbm, ⟨12, _⟩ => ⟨S1x4096x256, .f32⟩
  | .hbm, ⟨13, _⟩ => ⟨S1x256, .f32⟩
  | .hbm, ⟨14, _⟩ => ⟨S256, .f32⟩
  | .hbm, ⟨15, _⟩ => ⟨S1x1x256, .f32⟩
  | .hbm, ⟨16, _⟩ => ⟨S1x4096x256, .f32⟩
  | .hbm, ⟨17, _⟩ => ⟨S1x4096x256, .f32⟩
  | .hbm, ⟨18, _⟩ => ⟨S1x4096x256, .f32⟩
  | .hbm, ⟨19, _⟩ => ⟨S1x256, .f32⟩
  | .hbm, ⟨20, _⟩ => ⟨S256, .f32⟩
  | .hbm, ⟨21, _⟩ => ⟨S1x1x256, .f32⟩
  | .hbm, ⟨22, _⟩ => ⟨S1x4096x256, .f32⟩
  | .hbm, ⟨23, _⟩ => ⟨S1x4096x256, .f32⟩
  | .hbm, ⟨24, _⟩ => ⟨S1x4096x256, .f32⟩
  | .hbm, ⟨25, _⟩ => ⟨S1x4096x256, .f32⟩
  | .hbm, ⟨26, _⟩ => ⟨S1x256, .f32⟩
  | .hbm, ⟨27, _⟩ => ⟨S256, .f32⟩
  | .hbm, ⟨28, _⟩ => ⟨S1x1x256, .f32⟩
  | .hbm, ⟨29, _⟩ => ⟨S1x4096x256, .f32⟩
  | .hbm, ⟨30, _⟩ => ⟨S1x4096x256, .f32⟩
  | .hbm, ⟨31, _⟩ => ⟨S1x4096x256, .f32⟩
  | .hbm, ⟨32, _⟩ => ⟨S1x4096x256, .f32⟩
  | .hbm, ⟨33, _⟩ => ⟨S1x4096x256, .f32⟩
  | .hbm, ⟨34, _⟩ => ⟨S1x4096x256, .f32⟩
  | .hbm, ⟨35, _⟩ => ⟨S1x4096x256, .f32⟩
  | .hbm, ⟨36, _⟩ => ⟨S_, .f32⟩
  | .hbm, ⟨37, _⟩ => ⟨S1x256, .f32⟩
  | .hbm, ⟨38, _⟩ => ⟨S1x1x256, .f32⟩
  | .hbm, ⟨39, _⟩ => ⟨S1x4096x256, .f32⟩
  | .hbm, ⟨40, _⟩ => ⟨S1x4096x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S_, .f32⟩
  | .hbm, ⟨45, _⟩ => ⟨S3x256, .f32⟩
  | .hbm, ⟨46, _⟩ => ⟨S_, .f32⟩
  | .hbm, ⟨47, _⟩ => ⟨S1x4098x256, .f32⟩
  | .hbm, ⟨48, _⟩ => ⟨S1x4096x256, .f32⟩
  | .hbm, ⟨49, _⟩ => ⟨S_, .f32⟩
  | .hbm, ⟨50, _⟩ => ⟨S1x256, .f32⟩
  | .hbm, ⟨51, _⟩ => ⟨S1x1x256, .f32⟩
  | .hbm, ⟨52, _⟩ => ⟨S1x4096x256, .f32⟩
  | .hbm, ⟨53, _⟩ => ⟨S1x4096x256, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S_, .f32⟩
  | .hbm, ⟨58, _⟩ => ⟨S3x256, .f32⟩
  | .hbm, ⟨59, _⟩ => ⟨S3x256, .f32⟩
  | .hbm, ⟨60, _⟩ => ⟨S_, .f32⟩
  | .hbm, ⟨61, _⟩ => ⟨S1x4098x256, .f32⟩
  | .hbm, ⟨62, _⟩ => ⟨S1x4098x256, .f32⟩
  | .hbm, ⟨63, _⟩ => ⟨S1x4096x256, .f32⟩
  | .hbm, ⟨64, _⟩ => ⟨S_, .f32⟩
  | .hbm, ⟨65, _⟩ => ⟨S1x256, .f32⟩
  | .hbm, ⟨66, _⟩ => ⟨S1x1x256, .f32⟩
  | .hbm, ⟨67, _⟩ => ⟨S1x4096x256, .f32⟩
  | .hbm, ⟨68, _⟩ => ⟨S1x4096x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S_, .f32⟩
  | .hbm, ⟨73, _⟩ => ⟨S3x256, .f32⟩
  | .hbm, ⟨74, _⟩ => ⟨S3x256, .f32⟩
  | .hbm, ⟨75, _⟩ => ⟨S_, .f32⟩
  | .hbm, ⟨76, _⟩ => ⟨S1x4098x256, .f32⟩
  | .hbm, ⟨77, _⟩ => ⟨S1x4098x256, .f32⟩
  | .hbm, ⟨78, _⟩ => ⟨S1x2x256, .f32⟩
  | .hbm, ⟨79, _⟩ => ⟨S1x4096x256, .f32⟩
  | .hbm, ⟨80, _⟩ => ⟨S1x4096x256, .f32⟩
  | .hbm, ⟨81, _⟩ => ⟨S1x4096x256, .f32⟩
  | .hbm, ⟨82, _⟩ => ⟨S_, .f32⟩
  | .hbm, ⟨83, _⟩ => ⟨S1x4096x1952, .f32⟩
  | .hbm, ⟨84, _⟩ => ⟨S_, .f32⟩
  | .hbm, ⟨85, _⟩ => ⟨S1x4096x1952, .f32⟩
  | .hbm, ⟨86, _⟩ => ⟨S1x4096x1952, .f32⟩
  | .hbm, ⟨87, _⟩ => ⟨S_, .f32⟩
  | .hbm, ⟨88, _⟩ => ⟨S1x4096x1952, .f32⟩
  | .hbm, ⟨89, _⟩ => ⟨S1x4096x1952, .f32⟩
  | .hbm, ⟨90, _⟩ => ⟨S1x4096x768, .f32⟩
  | .hbm, ⟨91, _⟩ => ⟨S4096x768, .f32⟩
  | .hbm, ⟨92, _⟩ => ⟨S4096x768, .bf16⟩
  | .hbm, ⟨93, _⟩ => ⟨S_, .i32⟩
  | .hbm, ⟨94, _⟩ => ⟨S_, .f32⟩
  | .hbm, ⟨95, _⟩ => ⟨S8x256, .f32⟩
  | _, _ => ⟨S1x4096x1952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c : Ref sig .tc := ⟨.hbm, 93, rfl⟩
abbrev main_call0_v0 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== PreKernel.lean ====
abbrev S1x4096x1024 : Shape := ⟨3, ![1, 4096, 1024]⟩
abbrev S1024 : Shape := ⟨1, ![1024]⟩
abbrev S1024x1952 : Shape := ⟨2, ![1024, 1952]⟩
abbrev S1x4096x1952 : Shape := ⟨3, ![1, 4096, 1952]⟩
abbrev S1952x1024 : Shape := ⟨2, ![1952, 1024]⟩
abbrev S768x1024 : Shape := ⟨2, ![768, 1024]⟩
abbrev S672x1024 : Shape := ⟨2, ![672, 1024]⟩
abbrev S_ : Shape := ⟨0, ![]⟩
abbrev S96x1024 : Shape := ⟨2, ![96, 1024]⟩
abbrev S512x1024 : Shape := ⟨2, ![512, 1024]⟩
abbrev S2048x1024 : Shape := ⟨2, ![2048, 1024]⟩
abbrev S1x4096x672 : Shape := ⟨3, ![1, 4096, 672]⟩
abbrev S4096x672 : Shape := ⟨2, ![4096, 672]⟩
abbrev S4096x96 : Shape := ⟨2, ![4096, 96]⟩
abbrev S4096x768 : Shape := ⟨2, ![4096, 768]⟩
abbrev S4096x1024 : Shape := ⟨2, ![4096, 1024]⟩
abbrev S1x4096x768 : Shape := ⟨3, ![1, 4096, 768]⟩
abbrev S1x4096x512 : Shape := ⟨3, ![1, 4096, 512]⟩
abbrev S4096x512 : Shape := ⟨2, ![4096, 512]⟩
abbrev S1x1024 : Shape := ⟨2, ![1, 1024]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 33
  | .vmem => 17
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x1952, .f32⟩
  | .hbm, ⟨3, _⟩ => ⟨S1x4096x1024, .f32⟩
  | .hbm, ⟨4, _⟩ => ⟨S1x4096x1952, .f32⟩
  | .hbm, ⟨5, _⟩ => ⟨S1952x1024, .f32⟩
  | .hbm, ⟨6, _⟩ => ⟨S768x1024, .f32⟩
  | .hbm, ⟨7, _⟩ => ⟨S1952x1024, .f32⟩
  | .hbm, ⟨8, _⟩ => ⟨S672x1024, .f32⟩
  | .hbm, ⟨9, _⟩ => ⟨S_, .f32⟩
  | .hbm, ⟨10, _⟩ => ⟨S96x1024, .f32⟩
  | .hbm, ⟨11, _⟩ => ⟨S1952x1024, .f32⟩
  | .hbm, ⟨12, _⟩ => ⟨S512x1024, .f32⟩
  | .hbm, ⟨13, _⟩ => ⟨S2048x1024, .f32⟩
  | .hbm, ⟨14, _⟩ => ⟨S2048x1024, .bf16⟩
  | .hbm, ⟨15, _⟩ => ⟨S1x4096x672, .f32⟩
  | .hbm, ⟨16, _⟩ => ⟨S4096x672, .f32⟩
  | .hbm, ⟨17, _⟩ => ⟨S_, .f32⟩
  | .hbm, ⟨18, _⟩ => ⟨S4096x96, .f32⟩
  | .hbm, ⟨19, _⟩ => ⟨S4096x768, .f32⟩
  | .hbm, ⟨20, _⟩ => ⟨S4096x768, .bf16⟩
  | .hbm, ⟨21, _⟩ => ⟨S4096x1024, .f32⟩
  | .hbm, ⟨22, _⟩ => ⟨S4096x1024, .f32⟩
  | .hbm, ⟨23, _⟩ => ⟨S1x4096x768, .f32⟩
  | .hbm, ⟨24, _⟩ => ⟨S4096x768, .f32⟩
  | .hbm, ⟨25, _⟩ => ⟨S4096x768, .bf16⟩
  | .hbm, ⟨26, _⟩ => ⟨S1x4096x512, .f32⟩
  | .hbm, ⟨27, _⟩ => ⟨S4096x512, .f32⟩
  | .hbm, ⟨28, _⟩ => ⟨S4096x512, .bf16⟩
  | .hbm, ⟨29, _⟩ => ⟨S1x1024, .f32⟩
  | .hbm, ⟨30, _⟩ => ⟨S4096x1024, .f32⟩
  | .hbm, ⟨31, _⟩ => ⟨S2048x1024, .bf16⟩
  | .hbm, ⟨32, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x512, .bf16⟩
  | .local _ .vmem, ⟨9, _⟩ => ⟨S512x512, .bf16⟩
  | .local _ .vmem, ⟨10, _⟩ => ⟨S1x1024, .f32⟩
  | .local _ .vmem, ⟨11, _⟩ => ⟨S2048x1024, .bf16⟩
  | .local _ .vmem, ⟨12, _⟩ => ⟨S512x1024, .f32⟩
  | .local _ .vmem, ⟨13, _⟩ => ⟨S512x1024, .f32⟩
  | .local _ .vmem, ⟨14, _⟩ => ⟨S2048x1024, .bf16⟩
  | .local _ .vmem, ⟨15, _⟩ => ⟨S1x1024, .f32⟩
  | .local _ .vmem, ⟨16, _⟩ => ⟨S2048x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond5 (i : grid0.Coords) : BitVec 1 :=
  let arg0 : BitVec 32 := BitVec.ofNat 32 (i 0).val
  let c7_i32 : BitVec 32 := 7#32
  let v58 : BitVec 1 := Scalar.cmpi .eq arg0 c7_i32
  let v59 : BitVec 32 := Scalar.extui v58
  let c0_i32_27 : BitVec 32 := 0#32
  let v60 : BitVec 1 := Scalar.cmpi .ne v59 c0_i32_27
  v60

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v53 : BitVec 32 := Scalar.extui v0
  let c0_i32_24 : BitVec 32 := 0#32
  let v54 : BitVec 1 := Scalar.cmpi .ne v53 c0_i32_24
  v54

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_25 : BitVec 1 := 1#1
  let v55 : BitVec 1 := Scalar.xori v0 true_25
  let v56 : BitVec 32 := Scalar.extui v55
  let c0_i32_26 : BitVec 32 := 0#32
  let v57 : BitVec 1 := Scalar.cmpi .ne v56 c0_i32_26
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PreReferenceIdeal.lean ====
abbrev S1x4096x1024 : Shape := ⟨3, ![1, 4096, 1024]⟩
abbrev S1024 : Shape := ⟨1, ![1024]⟩
abbrev S1024x1952 : Shape := ⟨2, ![1024, 1952]⟩
abbrev S1x4096x1952 : Shape := ⟨3, ![1, 4096, 1952]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1952x1024 : Shape := ⟨2, ![1952, 1024]⟩
abbrev S1x1024 : Shape := ⟨2, ![1, 1024]⟩
abbrev S4096 : Shape := ⟨1, ![4096]⟩
abbrev S768x1024 : Shape := ⟨2, ![768, 1024]⟩
abbrev S672x1024 : Shape := ⟨2, ![672, 1024]⟩
abbrev S96x1024 : Shape := ⟨2, ![96, 1024]⟩
abbrev S512x1024 : Shape := ⟨2, ![512, 1024]⟩
abbrev S2048x1024 : Shape := ⟨2, ![2048, 1024]⟩
abbrev S4096x1024 : Shape := ⟨2, ![4096, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x1952, .f32⟩
  | .hbm, ⟨3, _⟩ => ⟨S1x4096x1024, .f32⟩
  | .hbm, ⟨4, _⟩ => ⟨S1x4096x1952, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x1952, .f32⟩
  | .hbm, ⟨26, _⟩ => ⟨S1952x1024, .f32⟩
  | .hbm, ⟨27, _⟩ => ⟨S1024x1952, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1952x1024, .f32⟩
  | .hbm, ⟨57, _⟩ => ⟨S768x1024, .f32⟩
  | .hbm, ⟨58, _⟩ => ⟨S1952x1024, .f32⟩
  | .hbm, ⟨59, _⟩ => ⟨S672x1024, .f32⟩
  | .hbm, ⟨60, _⟩ => ⟨S_, .f32⟩
  | .hbm, ⟨61, _⟩ => ⟨S96x1024, .f32⟩
  | .hbm, ⟨62, _⟩ => ⟨S1952x1024, .f32⟩
  | .hbm, ⟨63, _⟩ => ⟨S512x1024, .f32⟩
  | .hbm, ⟨64, _⟩ => ⟨S2048x1024, .f32⟩
  | .hbm, ⟨65, _⟩ => ⟨S4096x1024, .f32⟩
  | .hbm, ⟨66, _⟩ => ⟨S2048x1024, .bf16⟩
  | .hbm, ⟨67, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== MlaKernel.lean ====
abbrev S1x4096x1952 : Shape := ⟨3, ![1, 4096, 1952]⟩
abbrev S1x4096x16 : Shape := ⟨3, ![1, 4096, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1x4096x8x96 : Shape := ⟨4, ![1, 4096, 8, 96]⟩
abbrev S1x4096x8x64 : Shape := ⟨4, ![1, 4096, 8, 64]⟩
abbrev S_ : Shape := ⟨0, ![]⟩
abbrev S4096x64 : Shape := ⟨2, ![4096, 64]⟩
abbrev S4096x16 : Shape := ⟨2, ![4096, 16]⟩
abbrev S4096x32 : Shape := ⟨2, ![4096, 32]⟩
abbrev S4096x128 : Shape := ⟨2, ![4096, 128]⟩
abbrev S4096x48 : Shape := ⟨2, ![4096, 48]⟩
abbrev S4096x80 : Shape := ⟨2, ![4096, 80]⟩
abbrev S1x4096x768 : Shape := ⟨3, ![1, 4096, 768]⟩
abbrev S4096x768 : Shape := ⟨2, ![4096, 768]⟩
abbrev S1x4096x672 : Shape := ⟨3, ![1, 4096, 672]⟩
abbrev S4096x672 : Shape := ⟨2, ![4096, 672]⟩
abbrev S4096x96 : Shape := ⟨2, ![4096, 96]⟩
abbrev S1x4096x512 : Shape := ⟨3, ![1, 4096, 512]⟩
abbrev S4096x512 : Shape := ⟨2, ![4096, 512]⟩
abbrev S4096x2048 : Shape := ⟨2, ![4096, 2048]⟩
abbrev S768x384 : Shape := ⟨2, ![768, 384]⟩
abbrev S8x96x384 : Shape := ⟨3, ![8, 96, 384]⟩
abbrev S8x128x384 : Shape := ⟨3, ![8, 128, 384]⟩
abbrev S1024x384 : Shape := ⟨2, ![1024, 384]⟩
abbrev S1024x256 : Shape := ⟨2, ![1024, 256]⟩
abbrev S8x128x256 : Shape := ⟨3, ![8, 128, 256]⟩
abbrev S8x64x256 : Shape := ⟨3, ![8, 64, 256]⟩
abbrev S512x256 : Shape := ⟨2, ![512, 256]⟩
abbrev S1536x256 : Shape := ⟨2, ![1536, 256]⟩
abbrev S4096x8x96 : Shape := ⟨3, ![4096, 8, 96]⟩
abbrev S4096x8x128 : Shape := ⟨3, ![4096, 8, 128]⟩
abbrev S4096x1024 : Shape := ⟨2, ![4096, 1024]⟩
abbrev S4096x8x64 : Shape := ⟨3, ![4096, 8, 64]⟩
abbrev S1x384 : Shape := ⟨2, ![1, 384]⟩
abbrev S1x256 : Shape := ⟨2, ![1, 256]⟩
abbrev S384x1024 : Shape := ⟨2, ![384, 1024]⟩
abbrev S256x1536 : Shape := ⟨2, ![256, 1536]⟩
abbrev S1024x1024 : Shape := ⟨2, ![1024, 1024]⟩
abbrev S1024x512 : Shape := ⟨2, ![1024, 512]⟩
abbrev S1024x768 : Shape := ⟨2, ![1024, 768]⟩
abbrev S1024x128 : Shape := ⟨2, ![1024, 128]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 80
  | .vmem => 28
  | .smem => 0
  | _ => 0

abbrev bufTy : (tb : Table) → Fin (tcTables nBuf tb) → BufTy
  | .hbm, ⟨0, _⟩ => ⟨S1x4096x1952, .f32⟩
  | .hbm, ⟨1, _⟩ => ⟨S1x4096x16, .f32⟩
  | .hbm, ⟨2, _⟩ => ⟨S1x4096x16, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S1x4096x8x96, .f32⟩
  | .hbm, ⟨8, _⟩ => ⟨S1x4096x8x96, .f32⟩
  | .hbm, ⟨9, _⟩ => ⟨S1x4096x8x64, .f32⟩
  | .hbm, ⟨10, _⟩ => ⟨S_, .f32⟩
  | .hbm, ⟨11, _⟩ => ⟨S4096x64, .f32⟩
  | .hbm, ⟨12, _⟩ => ⟨S4096x16, .f32⟩
  | .hbm, ⟨13, _⟩ => ⟨S4096x16, .f32⟩
  | .hbm, ⟨14, _⟩ => ⟨S_, .f32⟩
  | .hbm, ⟨15, _⟩ => ⟨S4096x32, .f32⟩
  | .hbm, ⟨16, _⟩ => ⟨S4096x128, .f32⟩
  | .hbm, ⟨17, _⟩ => ⟨S_, .f32⟩
  | .hbm, ⟨18, _⟩ => ⟨S4096x64, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096x48, .f32⟩
  | .hbm, ⟨23, _⟩ => ⟨S4096x128, .f32⟩
  | .hbm, ⟨24, _⟩ => ⟨S_, .f32⟩
  | .hbm, ⟨25, _⟩ => ⟨S4096x80, .f32⟩
  | .hbm, ⟨26, _⟩ => ⟨S4096x16, .f32⟩
  | .hbm, ⟨27, _⟩ => ⟨S_, .f32⟩
  | .hbm, ⟨28, _⟩ => ⟨S4096x32, .f32⟩
  | .hbm, ⟨29, _⟩ => ⟨S4096x128, .f32⟩
  | .hbm, ⟨30, _⟩ => ⟨S1x4096x768, .f32⟩
  | .hbm, ⟨31, _⟩ => ⟨S4096x768, .f32⟩
  | .hbm, ⟨32, _⟩ => ⟨S1x4096x672, .f32⟩
  | .hbm, ⟨33, _⟩ => ⟨S4096x672, .f32⟩
  | .hbm, ⟨34, _⟩ => ⟨S_, .f32⟩
  | .hbm, ⟨35, _⟩ => ⟨S4096x96, .f32⟩
  | .hbm, ⟨36, _⟩ => ⟨S1x4096x512, .f32⟩
  | .hbm, ⟨37, _⟩ => ⟨S4096x512, .f32⟩
  | .hbm, ⟨38, _⟩ => ⟨S4096x2048, .f32⟩
  | .hbm, ⟨39, _⟩ => ⟨S4096x2048, .bf16⟩
  | .hbm, ⟨40, _⟩ => ⟨S768x384, .f32⟩
  | .hbm, ⟨41, _⟩ => ⟨S8x96x384, .f32⟩
  | .hbm, ⟨42, _⟩ => ⟨S_, .i32⟩
  | .hbm, ⟨43, _⟩ => ⟨S_, .f32⟩
  | .hbm, ⟨44, _⟩ => ⟨S8x128x384, .f32⟩
  | .hbm, ⟨45, _⟩ => ⟨S1024x384, .f32⟩
  | .hbm, ⟨46, _⟩ => ⟨S1024x256, .f32⟩
  | .hbm, ⟨47, _⟩ => ⟨S8x128x256, .f32⟩
  | .hbm, ⟨48, _⟩ => ⟨S8x64x256, .f32⟩
  | .hbm, ⟨49, _⟩ => ⟨S_, .i32⟩
  | .hbm, ⟨50, _⟩ => ⟨S_, .f32⟩
  | .hbm, ⟨51, _⟩ => ⟨S8x128x256, .f32⟩
  | .hbm, ⟨52, _⟩ => ⟨S1024x256, .f32⟩
  | .hbm, ⟨53, _⟩ => ⟨S8x64x256, .f32⟩
  | .hbm, ⟨54, _⟩ => ⟨S512x256, .f32⟩
  | .hbm, ⟨55, _⟩ => ⟨S1536x256, .f32⟩
  | .hbm, ⟨56, _⟩ => ⟨S4096x8x96, .f32⟩
  | .hbm, ⟨57, _⟩ => ⟨S_, .i32⟩
  | .hbm, ⟨58, _⟩ => ⟨S_, .f32⟩
  | .hbm, ⟨59, _⟩ => ⟨S4096x8x128, .f32⟩
  | .hbm, ⟨60, _⟩ => ⟨S4096x1024, .f32⟩
  | .hbm, ⟨61, _⟩ => ⟨S4096x1024, .bf16⟩
  | .hbm, ⟨62, _⟩ => ⟨S4096x8x96, .f32⟩
  | .hbm, ⟨63, _⟩ => ⟨S_, .i32⟩
  | .hbm, ⟨64, _⟩ => ⟨S_, .f32⟩
  | .hbm, ⟨65, _⟩ => ⟨S4096x8x128, .f32⟩
  | .hbm, ⟨66, _⟩ => ⟨S4096x1024, .f32⟩
  | .hbm, ⟨67, _⟩ => ⟨S4096x1024, .bf16⟩
  | .hbm, ⟨68, _⟩ => ⟨S4096x8x64, .f32⟩
  | .hbm, ⟨69, _⟩ => ⟨S4096x512, .f32⟩
  | .hbm, ⟨70, _⟩ => ⟨S4096x512, .bf16⟩
  | .hbm, ⟨71, _⟩ => ⟨S1x384, .f32⟩
  | .hbm, ⟨72, _⟩ => ⟨S1x256, .f32⟩
  | .hbm, ⟨73, _⟩ => ⟨S1024x384, .bf16⟩
  | .hbm, ⟨74, _⟩ => ⟨S1536x256, .bf16⟩
  | .hbm, ⟨75, _⟩ => ⟨S4096x768, .bf16⟩
  | .hbm, ⟨76, _⟩ => ⟨S384x1024, .bf16⟩
  | .hbm, ⟨77, _⟩ => ⟨S256x1536, .bf16⟩
  | .hbm, ⟨78, _⟩ => ⟨S1x384, .f32⟩
  | .hbm, ⟨79, _⟩ => ⟨S1x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x768, .bf16⟩
  | .local _ .vmem, ⟨7, _⟩ => ⟨S1024x768, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x384, .f32⟩
  | .local _ .vmem, ⟨15, _⟩ => ⟨S1x256, .f32⟩
  | .local _ .vmem, ⟨16, _⟩ => ⟨S1024x384, .bf16⟩
  | .local _ .vmem, ⟨17, _⟩ => ⟨S1536x256, .bf16⟩
  | .local _ .vmem, ⟨18, _⟩ => ⟨S1024x768, .bf16⟩
  | .local _ .vmem, ⟨19, _⟩ => ⟨S1024x768, .bf16⟩
  | .local _ .vmem, ⟨20, _⟩ => ⟨S384x1024, .bf16⟩
  | .local _ .vmem, ⟨21, _⟩ => ⟨S256x1536, .bf16⟩
  | .local _ .vmem, ⟨22, _⟩ => ⟨S1x384, .f32⟩
  | .local _ .vmem, ⟨23, _⟩ => ⟨S1x256, .f32⟩
  | .local _ .vmem, ⟨24, _⟩ => ⟨S1024x1024, .bf16⟩
  | .local _ .vmem, ⟨25, _⟩ => ⟨S1024x1536, .bf16⟩
  | .local _ .vmem, ⟨26, _⟩ => ⟨S384x1024, .f32⟩
  | .local _ .vmem, ⟨27, _⟩ => ⟨S256x1536, .f32⟩
  | _, _ => ⟨S1x4096x1952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_call2_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_call3_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev main_v50_3 : Ref sig .tc := ⟨.hbm, 78, rfl⟩
abbrev main_v50_4 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![4], ![false]⟩

def k0_cond9 (i : grid0.Coords) : BitVec 1 :=
  let arg0 : BitVec 32 := BitVec.ofNat 32 (i 0).val
  let c3_i32 : BitVec 32 := 3#32
  let v338 : BitVec 1 := Scalar.cmpi .eq arg0 c3_i32
  let v339 : BitVec 32 := Scalar.extui v338
  let c0_i32_147 : BitVec 32 := 0#32
  let v340 : BitVec 1 := Scalar.cmpi .ne v339 c0_i32_147
  v340

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v328 : BitVec 32 := Scalar.extui v0
  let c0_i32_141 : BitVec 32 := 0#32
  let v329 : BitVec 1 := Scalar.cmpi .ne v328 c0_i32_141
  v329

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_142 : BitVec 1 := 1#1
  let v330 : BitVec 1 := Scalar.xori v0 true_142
  let v331 : BitVec 32 := Scalar.extui v330
  let c0_i32_143 : BitVec 32 := 0#32
  let v332 : BitVec 1 := Scalar.cmpi .ne v331 c0_i32_143
  v332

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v333 : BitVec 32 := Scalar.extui v0
  let c0_i32_144 : BitVec 32 := 0#32
  let v334 : BitVec 1 := Scalar.cmpi .ne v333 c0_i32_144
  v334

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_145 : BitVec 1 := 1#1
  let v335 : BitVec 1 := Scalar.xori v0 true_145
  let v336 : BitVec 32 := Scalar.extui v335
  let c0_i32_146 : BitVec 32 := 0#32
  let v337 : BitVec 1 := Scalar.cmpi .ne v336 c0_i32_146
  v337

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S384x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MlaReferenceIdeal.lean ====
abbrev S1x4096x1952 : Shape := ⟨3, ![1, 4096, 1952]⟩
abbrev S1x4096x16 : Shape := ⟨3, ![1, 4096, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1x4096x8x96 : Shape := ⟨4, ![1, 4096, 8, 96]⟩
abbrev S1x4096x8x64 : Shape := ⟨4, ![1, 4096, 8, 64]⟩
abbrev S1x4096x384 : Shape := ⟨3, ![1, 4096, 384]⟩
abbrev S_ : Shape := ⟨0, ![]⟩
abbrev S1x4096 : Shape := ⟨2, ![1, 4096]⟩
abbrev S1x4096x1 : Shape := ⟨3, ![1, 4096, 1]⟩
abbrev S1x1x384 : Shape := ⟨3, ![1, 1, 384]⟩
abbrev S1x4096x768 : Shape := ⟨3, ![1, 4096, 768]⟩
abbrev S1x4096x8x32 : Shape := ⟨4, ![1, 4096, 8, 32]⟩
abbrev S1x4096x1x16 : Shape := ⟨4, ![1, 4096, 1, 16]⟩
abbrev S1x4096x8x16 : Shape := ⟨4, ![1, 4096, 8, 16]⟩
abbrev S1x4096x256 : Shape := ⟨3, ![1, 4096, 256]⟩
abbrev S1x1x256 : Shape := ⟨3, ![1, 1, 256]⟩
abbrev S1x4096x1024 : Shape := ⟨3, ![1, 4096, 1024]⟩
abbrev S1x4096x8x128 : Shape := ⟨4, ![1, 4096, 8, 128]⟩
abbrev S1x4096x32 : Shape := ⟨3, ![1, 4096, 32]⟩
abbrev S1x4096x1x32 : Shape := ⟨4, ![1, 4096, 1, 32]⟩
abbrev S4096x32 : Shape := ⟨2, ![4096, 32]⟩
abbrev S1024x256 : Shape := ⟨2, ![1024, 256]⟩
abbrev S1x256 : Shape := ⟨2, ![1, 256]⟩
abbrev S4096 : Shape := ⟨1, ![4096]⟩
abbrev S768x384 : Shape := ⟨2, ![768, 384]⟩
abbrev S1x384 : Shape := ⟨2, ![1, 384]⟩
abbrev S1x4096x672 : Shape := ⟨3, ![1, 4096, 672]⟩
abbrev S4096x672 : Shape := ⟨2, ![4096, 672]⟩
abbrev S4096x96 : Shape := ⟨2, ![4096, 96]⟩
abbrev S4096x768 : Shape := ⟨2, ![4096, 768]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩

abbrev nBuf : Space → Nat
  | .hbm => 225
  | .vmem => 0
  | .smem => 0
  | _ => 0

abbrev hbmTy0_0 (i : Nat) : BufTy := match i % 128 with
  | 0 => ⟨S1x4096x1952, .f32⟩
  | 1 => ⟨S1x4096x16, .f32⟩
  | 2 => ⟨S1x4096x16, .f32⟩
  | 3 => ⟨S384, .f32⟩
  | 4 => ⟨S384x768, .f32⟩
  | 5 => ⟨S256, .f32⟩
  | 6 => ⟨S256x1024, .f32⟩
  | 7 => ⟨S1x4096x8x96, .f32⟩
  | 8 => ⟨S1x4096x8x96, .f32⟩
  | 9 => ⟨S1x4096x8x64, .f32⟩
  | 10 => ⟨S1x4096x384, .f32⟩
  | 11 => ⟨S1x4096x384, .f32⟩
  | 12 => ⟨S_, .f32⟩
  | 13 => ⟨S1x4096, .f32⟩
  | 14 => ⟨S1x4096x1, .f32⟩
  | 15 => ⟨S_, .f32⟩
  | 16 => ⟨S1x4096x1, .f32⟩
  | 17 => ⟨S1x4096x1, .f32⟩
  | 18 => ⟨S_, .f32⟩
  | 19 => ⟨S1x4096x1, .f32⟩
  | 20 => ⟨S1x4096x1, .f32⟩
  | 21 => ⟨S1x4096x1, .f32⟩
  | 22 => ⟨S1x4096x1, .f32⟩
  | 23 => ⟨S_, .f32⟩
  | 24 => ⟨S1x4096x1, .f32⟩
  | 25 => ⟨S1x4096x1, .f32⟩
  | 26 => ⟨S1x4096x384, .f32⟩
  | 27 => ⟨S1x4096x384, .f32⟩
  | 28 => ⟨S1x1x384, .f32⟩
  | 29 => ⟨S1x4096x384, .f32⟩
  | 30 => ⟨S1x4096x384, .f32⟩
  | 31 => ⟨S1x4096x768, .f32⟩
  | 32 => ⟨S1x4096x8x96, .f32⟩
  | 33 => ⟨S1x4096x8x64, .f32⟩
  | 34 => ⟨S1x4096x8x32, .f32⟩
  | 35 => ⟨S1x4096x1x16, .f32⟩
  | 36 => ⟨S1x4096x1x16, .f32⟩
  | 37 => ⟨S1x4096x8x16, .f32⟩
  | 38 => ⟨S1x4096x8x16, .f32⟩
  | 39 => ⟨S1x4096x8x16, .f32⟩
  | 40 => ⟨S1x4096x8x16, .f32⟩
  | 41 => ⟨S1x4096x8x16, .f32⟩
  | 42 => ⟨S1x4096x8x16, .f32⟩
  | 43 => ⟨S1x4096x8x16, .f32⟩
  | 44 => ⟨S1x4096x8x16, .f32⟩
  | 45 => ⟨S1x4096x8x16, .f32⟩
  | 46 => ⟨S1x4096x8x16, .f32⟩
  | 47 => ⟨S1x4096x8x16, .f32⟩
  | 48 => ⟨S1x4096x8x16, .f32⟩
  | 49 => ⟨S1x4096x8x32, .f32⟩
  | 50 => ⟨S1x4096x256, .f32⟩
  | 51 => ⟨S1x4096x256, .f32⟩
  | 52 => ⟨S_, .f32⟩
  | 53 => ⟨S1x4096, .f32⟩
  | 54 => ⟨S1x4096x1, .f32⟩
  | 55 => ⟨S_, .f32⟩
  | 56 => ⟨S1x4096x1, .f32⟩
  | 57 => ⟨S1x4096x1, .f32⟩
  | 58 => ⟨S_, .f32⟩
  | 59 => ⟨S1x4096x1, .f32⟩
  | 60 => ⟨S1x4096x1, .f32⟩
  | 61 => ⟨S1x4096x1, .f32⟩
  | 62 => ⟨S1x4096x1, .f32⟩
  | 63 => ⟨S_, .f32⟩
  | 64 => ⟨S1x4096x1, .f32⟩
  | 65 => ⟨S1x4096x1, .f32⟩
  | 66 => ⟨S1x4096x256, .f32⟩
  | 67 => ⟨S1x4096x256, .f32⟩
  | 68 => ⟨S1x1x256, .f32⟩
  | 69 => ⟨S1x4096x256, .f32⟩
  | 70 => ⟨S1x4096x256, .f32⟩
  | 71 => ⟨S1x4096x1024, .f32⟩
  | 72 => ⟨S1x4096x8x128, .f32⟩
  | 73 => ⟨S1x4096x8x64, .f32⟩
  | 74 => ⟨S1x4096x8x64, .f32⟩
  | 75 => ⟨S1x4096x32, .f32⟩
  | 76 => ⟨S1x4096x16, .f32⟩
  | 77 => ⟨S1x4096x16, .f32⟩
  | 78 => ⟨S1x4096x16, .f32⟩
  | 79 => ⟨S1x4096x16, .f32⟩
  | 80 => ⟨S1x4096x16, .f32⟩
  | 81 => ⟨S1x4096x16, .f32⟩
  | 82 => ⟨S1x4096x16, .f32⟩
  | 83 => ⟨S1x4096x16, .f32⟩
  | 84 => ⟨S1x4096x32, .f32⟩
  | 85 => ⟨S1x4096x1x32, .f32⟩
  | 86 => ⟨S1x4096x8x32, .f32⟩
  | 87 => ⟨S1x4096x8x96, .f32⟩
  | 88 => ⟨S1x4096x8x96, .f32⟩
  | 89 => ⟨S1x4096x8x64, .f32⟩
  | 90 => ⟨S1x4096x8x32, .f32⟩
  | 91 => ⟨S1x4096x8x64, .f32⟩
  | 92 => ⟨S1x4096x8x32, .f32⟩
  | 93 => ⟨S_, .f32⟩
  | 94 => ⟨S4096x32, .f32⟩
  | 95 => ⟨S1x4096x1x32, .f32⟩
  | 96 => ⟨S_, .f32⟩
  | 97 => ⟨S4096x32, .f32⟩
  | 98 => ⟨S1x4096x32, .f32⟩
  | 99 => ⟨S1x4096x16, .f32⟩
  | 100 => ⟨S1x4096x16, .f32⟩
  | 101 => ⟨S1x4096x16, .f32⟩
  | 102 => ⟨S1x4096x16, .f32⟩
  | 103 => ⟨S1x4096x16, .f32⟩
  | 104 => ⟨S1x4096x16, .f32⟩
  | 105 => ⟨S1x4096x16, .f32⟩
  | 106 => ⟨S1x4096x16, .f32⟩
  | 107 => ⟨S1x4096x16, .f32⟩
  | 108 => ⟨S1x4096x32, .f32⟩
  | 109 => ⟨S_, .f32⟩
  | 110 => ⟨S1x4096x1952, .f32⟩
  | 111 => ⟨S_, .f32⟩
  | 112 => ⟨S1x4096x8x128, .f32⟩
  | 113 => ⟨S_, .f32⟩
  | 114 => ⟨S1x4096x8x128, .f32⟩
  | 115 => ⟨S1x4096x8x128, .f32⟩
  | 116 => ⟨S1x4096x1024, .f32⟩
  | 117 => ⟨S1024x256, .f32⟩
  | 118 => ⟨S256x1024, .f32⟩
  | 119 => ⟨S1x4096x256, .f32⟩
  | 120 => ⟨S1x4096x256, .f32⟩
  | 121 => ⟨S_, .f32⟩
  | 122 => ⟨S1x256, .f32⟩
  | 123 => ⟨S1x1x256, .f32⟩
  | 124 => ⟨S1x4096x256, .f32⟩
  | 125 => ⟨S1x4096x256, .f32⟩
  | 126 => ⟨S_, .f32⟩
  | 127 => ⟨S256, .f32⟩
  | _ => ⟨S1x4096x1952, .f32⟩

abbrev hbmTy0_1 (i : Nat) : BufTy := match i % 128 with
  | 0 => ⟨S1x4096x256, .f32⟩
  | 1 => ⟨S_, .f32⟩
  | 2 => ⟨S1x4096, .f32⟩
  | 3 => ⟨S1x4096x1, .f32⟩
  | 4 => ⟨S1x4096x256, .f32⟩
  | 5 => ⟨S1x4096x256, .f32⟩
  | 6 => ⟨S1x4096x1, .f32⟩
  | 7 => ⟨S_, .f32⟩
  | 8 => ⟨S1x4096x1, .f32⟩
  | 9 => ⟨S1x4096x1, .f32⟩
  | 10 => ⟨S_, .f32⟩
  | 11 => ⟨S4096, .f32⟩
  | 12 => ⟨S1x4096, .f32⟩
  | 13 => ⟨S1x4096x256, .f32⟩
  | 14 => ⟨S1x4096x256, .f32⟩
  | 15 => ⟨S1x4096x256, .f32⟩
  | 16 => ⟨S1x4096x256, .f32⟩
  | 17 => ⟨S1x4096x256, .f32⟩
  | 18 => ⟨S_, .f32⟩
  | 19 => ⟨S1x4096x1952, .f32⟩
  | 20 => ⟨S1x4096x1952, .f32⟩
  | 21 => ⟨S1x4096x8x16, .f32⟩
  | 22 => ⟨S1x4096x8x16, .f32⟩
  | 23 => ⟨S1x4096x8x16, .f32⟩
  | 24 => ⟨S1x4096x8x16, .f32⟩
  | 25 => ⟨S1x4096x8x16, .f32⟩
  | 26 => ⟨S1x4096x8x16, .f32⟩
  | 27 => ⟨S1x4096x8x16, .f32⟩
  | 28 => ⟨S1x4096x8x16, .f32⟩
  | 29 => ⟨S1x4096x8x16, .f32⟩
  | 30 => ⟨S1x4096x8x16, .f32⟩
  | 31 => ⟨S1x4096x8x16, .f32⟩
  | 32 => ⟨S1x4096x8x16, .f32⟩
  | 33 => ⟨S1x4096x8x16, .f32⟩
  | 34 => ⟨S1x4096x8x32, .f32⟩
  | 35 => ⟨S_, .f32⟩
  | 36 => ⟨S1x4096x8x96, .f32⟩
  | 37 => ⟨S_, .f32⟩
  | 38 => ⟨S1x4096x8x96, .f32⟩
  | 39 => ⟨S1x4096x8x96, .f32⟩
  | 40 => ⟨S1x4096x768, .f32⟩
  | 41 => ⟨S768x384, .f32⟩
  | 42 => ⟨S384x768, .f32⟩
  | 43 => ⟨S1x4096x384, .f32⟩
  | 44 => ⟨S1x4096x384, .f32⟩
  | 45 => ⟨S_, .f32⟩
  | 46 => ⟨S1x384, .f32⟩
  | 47 => ⟨S1x1x384, .f32⟩
  | 48 => ⟨S1x4096x384, .f32⟩
  | 49 => ⟨S1x4096x384, .f32⟩
  | 50 => ⟨S_, .f32⟩
  | 51 => ⟨S384, .f32⟩
  | 52 => ⟨S1x4096x384, .f32⟩
  | 53 => ⟨S_, .f32⟩
  | 54 => ⟨S1x4096, .f32⟩
  | 55 => ⟨S1x4096x1, .f32⟩
  | 56 => ⟨S1x4096x384, .f32⟩
  | 57 => ⟨S1x4096x384, .f32⟩
  | 58 => ⟨S1x4096x1, .f32⟩
  | 59 => ⟨S_, .f32⟩
  | 60 => ⟨S1x4096x1, .f32⟩
  | 61 => ⟨S1x4096x1, .f32⟩
  | 62 => ⟨S_, .f32⟩
  | 63 => ⟨S4096, .f32⟩
  | 64 => ⟨S1x4096, .f32⟩
  | 65 => ⟨S1x4096x384, .f32⟩
  | 66 => ⟨S1x4096x384, .f32⟩
  | 67 => ⟨S1x4096x384, .f32⟩
  | 68 => ⟨S1x4096x384, .f32⟩
  | 69 => ⟨S1x4096x384, .f32⟩
  | 70 => ⟨S_, .f32⟩
  | 71 => ⟨S1x4096x1952, .f32⟩
  | 72 => ⟨S1x4096x1952, .f32⟩
  | 73 => ⟨S1x4096x672, .f32⟩
  | 74 => ⟨S4096x672, .f32⟩
  | 75 => ⟨S_, .f32⟩
  | 76 => ⟨S4096x96, .f32⟩
  | 77 => ⟨S4096x768, .f32⟩
  | 78 => ⟨S384x8x96, .f32⟩
  | 79 => ⟨S_, .i32⟩
  | 80 => ⟨S_, .f32⟩
  | 81 => ⟨S384x8x128, .f32⟩
  | 82 => ⟨S384x1024, .f32⟩
  | 83 => ⟨S256x8x128, .f32⟩
  | 84 => ⟨S256x8x64, .f32⟩
  | 85 => ⟨S_, .i32⟩
  | 86 => ⟨S_, .f32⟩
  | 87 => ⟨S256x8x128, .f32⟩
  | 88 => ⟨S256x1024, .f32⟩
  | 89 => ⟨S256x8x64, .f32⟩
  | 90 => ⟨S256x512, .f32⟩
  | 91 => ⟨S256x1536, .f32⟩
  | 92 => ⟨S4096x768, .bf16⟩
  | 93 => ⟨S384x1024, .bf16⟩
  | 94 => ⟨S256x1536, .bf16⟩
  | 95 => ⟨S1x384, .f32⟩
  | 96 => ⟨S1x256, .f32⟩
  | _ => ⟨S1x4096x1952, .f32⟩

abbrev hbmTy (i : Nat) : BufTy := match i / 128 with
  | 0 => hbmTy0_0 i
  | 1 => hbmTy0_1 i
  | _ => ⟨S1x4096x1952, .f32⟩

abbrev bufTy : (tb : Table) → Fin (tcTables nBuf tb) → BufTy
  | .hbm, ⟨i, _⟩ => hbmTy i
  | _, _ => ⟨S1x4096x1952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_7 : Ref sig .tc := ⟨.hbm, 93, rfl⟩
abbrev main_v75 : Ref sig .tc := ⟨.hbm, 94, rfl⟩
abbrev main_v76 : Ref sig .tc := ⟨.hbm, 95, rfl⟩
abbrev main_cst_8 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_9 : Ref sig .tc := ⟨.hbm, 109, rfl⟩
abbrev main_v89 : Ref sig .tc := ⟨.hbm, 110, rfl⟩
abbrev main_cst_10 : Ref sig .tc := ⟨.hbm, 111, rfl⟩
abbrev main_v90 : Ref sig .tc := ⟨.hbm, 112, rfl⟩
abbrev main_cst_11 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_13 : Ref sig .tc := ⟨.hbm, 126, rfl⟩
abbrev main_v102 : Ref sig .tc := ⟨.hbm, 127, rfl⟩
abbrev main_v103 : Ref sig .tc := ⟨.hbm, 128, rfl⟩
abbrev main_cst_14 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_15 : Ref sig .tc := ⟨.hbm, 135, rfl⟩
abbrev main_v109 : Ref sig .tc := ⟨.hbm, 136, rfl⟩
abbrev main_v110 : Ref sig .tc := ⟨.hbm, 137, rfl⟩
abbrev main_cst_16 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_17 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_18 : Ref sig .tc := ⟨.hbm, 163, rfl⟩
abbrev main_v134 : Ref sig .tc := ⟨.hbm, 164, rfl⟩
abbrev main_cst_19 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_20 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_21 : Ref sig .tc := ⟨.hbm, 178, rfl⟩
abbrev main_v146 : Ref sig .tc := ⟨.hbm, 179, rfl⟩
abbrev main_v147 : Ref sig .tc := ⟨.hbm, 180, rfl⟩
abbrev main_cst_22 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_23 : Ref sig .tc := ⟨.hbm, 187, rfl⟩
abbrev main_v153 : Ref sig .tc := ⟨.hbm, 188, rfl⟩
abbrev main_v154 : Ref sig .tc := ⟨.hbm, 189, rfl⟩
abbrev main_cst_24 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_25 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_26 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_c : Ref sig .tc := ⟨.hbm, 207, rfl⟩
abbrev main_call0_v0 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_c_27 : Ref sig .tc := ⟨.hbm, 213, rfl⟩
abbrev main_call1_v0 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩

abbrev nD : Nat := 1
abbrev τ : Topo := Topo.v7x

variable {F : FTy → Type} [FloatOps F]
-- ==== AttnfKernel.lean ====
abbrev S4096x8x96 : Shape := ⟨3, ![4096, 8, 96]⟩
abbrev S4096x8x64 : Shape := ⟨3, ![4096, 8, 64]⟩
abbrev S_ : Shape := ⟨0, ![]⟩
abbrev S4096x8x128 : Shape := ⟨3, ![4096, 8, 128]⟩
abbrev S4096x1024 : Shape := ⟨2, ![4096, 1024]⟩
abbrev S4096x512 : Shape := ⟨2, ![4096, 512]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S512x512 : Shape := ⟨2, ![512, 512]⟩
abbrev S512x1 : Shape := ⟨2, ![512, 1]⟩
abbrev S512 : Shape := ⟨1, ![512]⟩

abbrev nBuf : Space → Nat
  | .hbm => 17
  | .vmem => 10
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S_, .i32⟩
  | .hbm, ⟨4, _⟩ => ⟨S_, .f32⟩
  | .hbm, ⟨5, _⟩ => ⟨S4096x8x128, .f32⟩
  | .hbm, ⟨6, _⟩ => ⟨S4096x1024, .f32⟩
  | .hbm, ⟨7, _⟩ => ⟨S4096x1024, .bf16⟩
  | .hbm, ⟨8, _⟩ => ⟨S_, .i32⟩
  | .hbm, ⟨9, _⟩ => ⟨S_, .f32⟩
  | .hbm, ⟨10, _⟩ => ⟨S4096x8x128, .f32⟩
  | .hbm, ⟨11, _⟩ => ⟨S4096x1024, .f32⟩
  | .hbm, ⟨12, _⟩ => ⟨S4096x1024, .bf16⟩
  | .hbm, ⟨13, _⟩ => ⟨S4096x512, .f32⟩
  | .hbm, ⟨14, _⟩ => ⟨S4096x512, .bf16⟩
  | .hbm, ⟨15, _⟩ => ⟨S4096x512, .f32⟩
  | .hbm, ⟨16, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x256, .f32⟩
  | .local _ .vmem, ⟨9, _⟩ => ⟨S512x256, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_6 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_2 : BitVec 32 := 0#32
  let v8 : BitVec 1 := Scalar.cmpi .slt arg1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi arg1 c2_i32
  let c0_i32_5 : BitVec 32 := 0#32
  let v18 : BitVec 1 := Scalar.cmpi .ne v17 c0_i32_5
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_6
  let c1_i32_7 : BitVec 32 := 1#32
  let v24 : BitVec 32 := Scalar.divsi v22 c1_i32_7
  let v25 : BitVec 32 := Scalar.muli v24 c1_i32_7
  let v26 : BitVec 32 := Scalar.addi c0_i32_6 v25
  let c1_i32_8 : BitVec 32 := 1#32
  ⟨c0_i32_6, v26, c1_i32_8⟩
def k0_mult1 (i : grid0.Coords) (k0_t1 : Fin (k0_t1_loop i).trips) : BitVec 32 :=
  let c2_i32_47 : BitVec 32 := 2#32
  let c0_i32_6 : BitVec 32 := 0#32
  let c1_i32_8 : BitVec 32 := 1#32
  let arg7 : BitVec 32 := Scf.iv c0_i32_6 c1_i32_8 k0_t1
  let v138 : BitVec 32 := Scalar.muli c2_i32_47 arg7
  let c0_i32_48 : BitVec 32 := 0#32
  let v139 : BitVec 32 := Scalar.addi v138 c0_i32_48
  let c512_i32_49 : BitVec 32 := 512#32
  let v140 : BitVec 32 := Scalar.muli v139 c512_i32_49
  v140
def k0_off1 (i : grid0.Coords) (k0_t1 : Fin (k0_t1_loop i).trips) (c0_i32_48 : BitVec 32) : Fin 2 → Nat :=
  let c2_i32_47 : BitVec 32 := 2#32
  let c0_i32_6 : BitVec 32 := 0#32
  let c1_i32_8 : BitVec 32 := 1#32
  let arg7 : BitVec 32 := Scf.iv c0_i32_6 c1_i32_8 k0_t1
  let v138 : BitVec 32 := Scalar.muli c2_i32_47 arg7
  let v139 : BitVec 32 := Scalar.addi v138 c0_i32_48
  let c512_i32_49 : BitVec 32 := 512#32
  let v140 : BitVec 32 := Scalar.muli v139 c512_i32_49
  let v141 : BitVec 32 := v140
  let v144 : Index := Scalar.indexCast v141
  let c0_52 : Index := 0#32
  ![v144.toNat, 0]
def k0_off2 (i : grid0.Coords) (k0_t1 : Fin (k0_t1_loop i).trips) (c0_i32_48 : BitVec 32) : Fin 2 → Nat :=
  let c2_i32_47 : BitVec 32 := 2#32
  let c0_i32_6 : BitVec 32 := 0#32
  let c1_i32_8 : BitVec 32 := 1#32
  let arg7 : BitVec 32 := Scf.iv c0_i32_6 c1_i32_8 k0_t1
  let v138 : BitVec 32 := Scalar.muli c2_i32_47 arg7
  let v139 : BitVec 32 := Scalar.addi v138 c0_i32_48
  let c512_i32_49 : BitVec 32 := 512#32
  let v140 : BitVec 32 := Scalar.muli v139 c512_i32_49
  let v141 : BitVec 32 := v140
  let v167 : Index := Scalar.indexCast v141
  let c0_58 : Index := 0#32
  ![v167.toNat, 0]
def k0_off3 (i : grid0.Coords) (k0_t1 : Fin (k0_t1_loop i).trips) (c0_i32_48 : BitVec 32) : Fin 2 → Nat :=
  let c2_i32_47 : BitVec 32 := 2#32
  let c0_i32_6 : BitVec 32 := 0#32
  let c1_i32_8 : BitVec 32 := 1#32
  let arg7 : BitVec 32 := Scf.iv c0_i32_6 c1_i32_8 k0_t1
  let v138 : BitVec 32 := Scalar.muli c2_i32_47 arg7
  let v139 : BitVec 32 := Scalar.addi v138 c0_i32_48
  let c512_i32_49 : BitVec 32 := 512#32
  let v140 : BitVec 32 := Scalar.muli v139 c512_i32_49
  let v141 : BitVec 32 := v140
  let v174 : Index := Scalar.indexCast v141
  let c128_62 : Index := 128#32
  ![v174.toNat, 128]
def k0_mult2 (i : grid0.Coords) (k0_t1 : Fin (k0_t1_loop i).trips) : BitVec 32 :=
  let c2_i32_70 : BitVec 32 := 2#32
  let c0_i32_6 : BitVec 32 := 0#32
  let c1_i32_8 : BitVec 32 := 1#32
  let arg7 : BitVec 32 := Scf.iv c0_i32_6 c1_i32_8 k0_t1
  let v202 : BitVec 32 := Scalar.muli c2_i32_70 arg7
  let c1_i32_71 : BitVec 32 := 1#32
  let v203 : BitVec 32 := Scalar.addi v202 c1_i32_71
  let c512_i32_72 : BitVec 32 := 512#32
  let v204 : BitVec 32 := Scalar.muli v203 c512_i32_72
  v204
@[reducible] def k0_t2_loop (i : grid0.Coords) : Scf.Loop 32 :=
  let c0_i32_6 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_2 : BitVec 32 := 0#32
  let v8 : BitVec 1 := Scalar.cmpi .slt arg1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi arg1 c2_i32
  let c0_i32_5 : BitVec 32 := 0#32
  let v18 : BitVec 1 := Scalar.cmpi .ne v17 c0_i32_5
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_6
  let c1_i32_7 : BitVec 32 := 1#32
  let v24 : BitVec 32 := Scalar.divsi v22 c1_i32_7
  let v25 : BitVec 32 := Scalar.muli v24 c1_i32_7
  let v26 : BitVec 32 := Scalar.addi c0_i32_6 v25
  let v23 : BitVec 32 := Scalar.addi c0_i32_6 v22
  let c1_i32_9 : BitVec 32 := 1#32
  ⟨v26, v23, c1_i32_9⟩
def k0_mult3 (i : grid0.Coords) (k0_t2 : Fin (k0_t2_loop i).trips) : BitVec 32 :=
  let c2_i32_47 : BitVec 32 := 2#32
  let c0_i32_6 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_2 : BitVec 32 := 0#32
  let v8 : BitVec 1 := Scalar.cmpi .slt arg1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi arg1 c2_i32
  let c0_i32_5 : BitVec 32 := 0#32
  let v18 : BitVec 1 := Scalar.cmpi .ne v17 c0_i32_5
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_6
  let c1_i32_7 : BitVec 32 := 1#32
  let v24 : BitVec 32 := Scalar.divsi v22 c1_i32_7
  let v25 : BitVec 32 := Scalar.muli v24 c1_i32_7
  let v26 : BitVec 32 := Scalar.addi c0_i32_6 v25
  let c1_i32_9 : BitVec 32 := 1#32
  let arg7 : BitVec 32 := Scf.iv v26 c1_i32_9 k0_t2
  let v138 : BitVec 32 := Scalar.muli c2_i32_47 arg7
  let c0_i32_48 : BitVec 32 := 0#32
  let v139 : BitVec 32 := Scalar.addi v138 c0_i32_48
  let c512_i32_49 : BitVec 32 := 512#32
  let v140 : BitVec 32 := Scalar.muli v139 c512_i32_49
  v140
def k0_off4 (i : grid0.Coords) (k0_t2 : Fin (k0_t2_loop i).trips) (c0_i32_48 : BitVec 32) : Fin 2 → Nat :=
  let c2_i32_47 : BitVec 32 := 2#32
  let c0_i32_6 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_2 : BitVec 32 := 0#32
  let v8 : BitVec 1 := Scalar.cmpi .slt arg1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi arg1 c2_i32
  let c0_i32_5 : BitVec 32 := 0#32
  let v18 : BitVec 1 := Scalar.cmpi .ne v17 c0_i32_5
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_6
  let c1_i32_7 : BitVec 32 := 1#32
  let v24 : BitVec 32 := Scalar.divsi v22 c1_i32_7
  let v25 : BitVec 32 := Scalar.muli v24 c1_i32_7
  let v26 : BitVec 32 := Scalar.addi c0_i32_6 v25
  let c1_i32_9 : BitVec 32 := 1#32
  let arg7 : BitVec 32 := Scf.iv v26 c1_i32_9 k0_t2
  let v138 : BitVec 32 := Scalar.muli c2_i32_47 arg7
  let v139 : BitVec 32 := Scalar.addi v138 c0_i32_48
  let c512_i32_49 : BitVec 32 := 512#32
  let v140 : BitVec 32 := Scalar.muli v139 c512_i32_49
  let v141 : BitVec 32 := v140
  let v144 : Index := Scalar.indexCast v141
  let c0_52 : Index := 0#32
  ![v144.toNat, 0]
def k0_off5 (i : grid0.Coords) (k0_t2 : Fin (k0_t2_loop i).trips) (c0_i32_48 : BitVec 32) : Fin 2 → Nat :=
  let c2_i32_47 : BitVec 32 := 2#32
  let c0_i32_6 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_2 : BitVec 32 := 0#32
  let v8 : BitVec 1 := Scalar.cmpi .slt arg1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi arg1 c2_i32
  let c0_i32_5 : BitVec 32 := 0#32
  let v18 : BitVec 1 := Scalar.cmpi .ne v17 c0_i32_5
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_6
  let c1_i32_7 : BitVec 32 := 1#32
  let v24 : BitVec 32 := Scalar.divsi v22 c1_i32_7
  let v25 : BitVec 32 := Scalar.muli v24 c1_i32_7
  let v26 : BitVec 32 := Scalar.addi c0_i32_6 v25
  let c1_i32_9 : BitVec 32 := 1#32
  let arg7 : BitVec 32 := Scf.iv v26 c1_i32_9 k0_t2
  let v138 : BitVec 32 := Scalar.muli c2_i32_47 arg7
  let v139 : BitVec 32 := Scalar.addi v138 c0_i32_48
  let c512_i32_49 : BitVec 32 := 512#32
  let v140 : BitVec 32 := Scalar.muli v139 c512_i32_49
  let v141 : BitVec 32 := v140
  let v167 : Index := Scalar.indexCast v141
  let c0_58 : Index := 0#32
  ![v167.toNat, 0]
def k0_off6 (i : grid0.Coords) (k0_t2 : Fin (k0_t2_loop i).trips) (c0_i32_48 : BitVec 32) : Fin 2 → Nat :=
  let c2_i32_47 : BitVec 32 := 2#32
  let c0_i32_6 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_2 : BitVec 32 := 0#32
  let v8 : BitVec 1 := Scalar.cmpi .slt arg1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi arg1 c2_i32
  let c0_i32_5 : BitVec 32 := 0#32
  let v18 : BitVec 1 := Scalar.cmpi .ne v17 c0_i32_5
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_6
  let c1_i32_7 : BitVec 32 := 1#32
  let v24 : BitVec 32 := Scalar.divsi v22 c1_i32_7
  let v25 : BitVec 32 := Scalar.muli v24 c1_i32_7
  let v26 : BitVec 32 := Scalar.addi c0_i32_6 v25
  let c1_i32_9 : BitVec 32 := 1#32
  let arg7 : BitVec 32 := Scf.iv v26 c1_i32_9 k0_t2
  let v138 : BitVec 32 := Scalar.muli c2_i32_47 arg7
  let v139 : BitVec 32 := Scalar.addi v138 c0_i32_48
  let c512_i32_49 : BitVec 32 := 512#32
  let v140 : BitVec 32 := Scalar.muli v139 c512_i32_49
  let v141 : BitVec 32 := v140
  let v174 : Index := Scalar.indexCast v141
  let c128_62 : Index := 128#32
  ![v174.toNat, 128]
def k0_mult4 (i : grid0.Coords) (k0_t2 : Fin (k0_t2_loop i).trips) : BitVec 32 :=
  let c2_i32_70 : BitVec 32 := 2#32
  let c0_i32_6 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_2 : BitVec 32 := 0#32
  let v8 : BitVec 1 := Scalar.cmpi .slt arg1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi arg1 c2_i32
  let c0_i32_5 : BitVec 32 := 0#32
  let v18 : BitVec 1 := Scalar.cmpi .ne v17 c0_i32_5
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_6
  let c1_i32_7 : BitVec 32 := 1#32
  let v24 : BitVec 32 := Scalar.divsi v22 c1_i32_7
  let v25 : BitVec 32 := Scalar.muli v24 c1_i32_7
  let v26 : BitVec 32 := Scalar.addi c0_i32_6 v25
  let c1_i32_9 : BitVec 32 := 1#32
  let arg7 : BitVec 32 := Scf.iv v26 c1_i32_9 k0_t2
  let v202 : BitVec 32 := Scalar.muli c2_i32_70 arg7
  let c1_i32_71 : BitVec 32 := 1#32
  let v203 : BitVec 32 := Scalar.addi v202 c1_i32_71
  let c512_i32_72 : BitVec 32 := 512#32
  let v204 : BitVec 32 := Scalar.muli v203 c512_i32_72
  v204
@[reducible] def k0_t3_loop (i : grid0.Coords) : Scf.Loop 32 :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let v40 : BitVec 32 := Scalar.subi arg1 v39
  let c1_i32_16 : BitVec 32 := 1#32
  let v42 : BitVec 32 := Scalar.divsi v40 c1_i32_16
  let v43 : BitVec 32 := Scalar.muli v42 c1_i32_16
  let v44 : BitVec 32 := Scalar.addi v39 v43
  let c1_i32_17 : BitVec 32 := 1#32
  ⟨v39, v44, c1_i32_17⟩
def k0_mult5 (i : grid0.Coords) (k0_t3 : Fin (k0_t3_loop i).trips) : BitVec 32 :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let c1_i32_17 : BitVec 32 := 1#32
  let arg7 : BitVec 32 := Scf.iv v39 c1_i32_17 k0_t3
  let c512_i32_47 : BitVec 32 := 512#32
  let v138 : BitVec 32 := Scalar.muli arg7 c512_i32_47
  v138
def k0_off7 (i : grid0.Coords) (k0_t3 : Fin (k0_t3_loop i).trips) : Fin 2 → Nat :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let c1_i32_17 : BitVec 32 := 1#32
  let arg7 : BitVec 32 := Scf.iv v39 c1_i32_17 k0_t3
  let c512_i32_47 : BitVec 32 := 512#32
  let v138 : BitVec 32 := Scalar.muli arg7 c512_i32_47
  let v139 : BitVec 32 := v138
  let v142 : Index := Scalar.indexCast v139
  let c0_50 : Index := 0#32
  ![v142.toNat, 0]
def k0_off8 (i : grid0.Coords) (k0_t3 : Fin (k0_t3_loop i).trips) : Fin 2 → Nat :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let c1_i32_17 : BitVec 32 := 1#32
  let arg7 : BitVec 32 := Scf.iv v39 c1_i32_17 k0_t3
  let c512_i32_47 : BitVec 32 := 512#32
  let v138 : BitVec 32 := Scalar.muli arg7 c512_i32_47
  let v139 : BitVec 32 := v138
  let v165 : Index := Scalar.indexCast v139
  let c0_56 : Index := 0#32
  ![v165.toNat, 0]
def k0_off9 (i : grid0.Coords) (k0_t3 : Fin (k0_t3_loop i).trips) : Fin 2 → Nat :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let c1_i32_17 : BitVec 32 := 1#32
  let arg7 : BitVec 32 := Scf.iv v39 c1_i32_17 k0_t3
  let c512_i32_47 : BitVec 32 := 512#32
  let v138 : BitVec 32 := Scalar.muli arg7 c512_i32_47
  let v139 : BitVec 32 := v138
  let v172 : Index := Scalar.indexCast v139
  let c128_60 : Index := 128#32
  ![v172.toNat, 128]
@[reducible] def k0_t4_loop (i : grid0.Coords) : Scf.Loop 32 :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let v40 : BitVec 32 := Scalar.subi arg1 v39
  let c1_i32_16 : BitVec 32 := 1#32
  let v42 : BitVec 32 := Scalar.divsi v40 c1_i32_16
  let v43 : BitVec 32 := Scalar.muli v42 c1_i32_16
  let v44 : BitVec 32 := Scalar.addi v39 v43
  let v41 : BitVec 32 := Scalar.addi v39 v40
  let c1_i32_18 : BitVec 32 := 1#32
  ⟨v44, v41, c1_i32_18⟩
def k0_mult6 (i : grid0.Coords) (k0_t4 : Fin (k0_t4_loop i).trips) : BitVec 32 :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let v40 : BitVec 32 := Scalar.subi arg1 v39
  let c1_i32_16 : BitVec 32 := 1#32
  let v42 : BitVec 32 := Scalar.divsi v40 c1_i32_16
  let v43 : BitVec 32 := Scalar.muli v42 c1_i32_16
  let v44 : BitVec 32 := Scalar.addi v39 v43
  let c1_i32_18 : BitVec 32 := 1#32
  let arg7 : BitVec 32 := Scf.iv v44 c1_i32_18 k0_t4
  let c512_i32_47 : BitVec 32 := 512#32
  let v138 : BitVec 32 := Scalar.muli arg7 c512_i32_47
  v138
def k0_off10 (i : grid0.Coords) (k0_t4 : Fin (k0_t4_loop i).trips) : Fin 2 → Nat :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let v40 : BitVec 32 := Scalar.subi arg1 v39
  let c1_i32_16 : BitVec 32 := 1#32
  let v42 : BitVec 32 := Scalar.divsi v40 c1_i32_16
  let v43 : BitVec 32 := Scalar.muli v42 c1_i32_16
  let v44 : BitVec 32 := Scalar.addi v39 v43
  let c1_i32_18 : BitVec 32 := 1#32
  let arg7 : BitVec 32 := Scf.iv v44 c1_i32_18 k0_t4
  let c512_i32_47 : BitVec 32 := 512#32
  let v138 : BitVec 32 := Scalar.muli arg7 c512_i32_47
  let v139 : BitVec 32 := v138
  let v142 : Index := Scalar.indexCast v139
  let c0_50 : Index := 0#32
  ![v142.toNat, 0]
def k0_off11 (i : grid0.Coords) (k0_t4 : Fin (k0_t4_loop i).trips) : Fin 2 → Nat :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let v40 : BitVec 32 := Scalar.subi arg1 v39
  let c1_i32_16 : BitVec 32 := 1#32
  let v42 : BitVec 32 := Scalar.divsi v40 c1_i32_16
  let v43 : BitVec 32 := Scalar.muli v42 c1_i32_16
  let v44 : BitVec 32 := Scalar.addi v39 v43
  let c1_i32_18 : BitVec 32 := 1#32
  let arg7 : BitVec 32 := Scf.iv v44 c1_i32_18 k0_t4
  let c512_i32_47 : BitVec 32 := 512#32
  let v138 : BitVec 32 := Scalar.muli arg7 c512_i32_47
  let v139 : BitVec 32 := v138
  let v165 : Index := Scalar.indexCast v139
  let c0_56 : Index := 0#32
  ![v165.toNat, 0]
def k0_off12 (i : grid0.Coords) (k0_t4 : Fin (k0_t4_loop i).trips) : Fin 2 → Nat :=
  let arg1 : BitVec 32 := BitVec.ofNat 32 (i 1).val
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi arg1 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.subi arg1 v38
  let v40 : BitVec 32 := Scalar.subi arg1 v39
  let c1_i32_16 : BitVec 32 := 1#32
  let v42 : BitVec 32 := Scalar.divsi v40 c1_i32_16
  let v43 : BitVec 32 := Scalar.muli v42 c1_i32_16
  let v44 : BitVec 32 := Scalar.addi v39 v43
  let c1_i32_18 : BitVec 32 := 1#32
  let arg7 : BitVec 32 := Scf.iv v44 c1_i32_18 k0_t4
  let c512_i32_47 : BitVec 32 := 512#32
  let v138 : BitVec 32 := Scalar.muli arg7 c512_i32_47
  let v139 : BitVec 32 := v138
  let v172 : Index := Scalar.indexCast v139
  let c128_60 : Index := 128#32
  ![v172.toNat, 128]
def k0_mult7 (i : grid0.Coords) : BitVec 32 :=
  let arg1 : BitVec 32 := BitVec.ofNat 32 (i 1).val
  let c512_i32 : BitVec 32 := 512#32
  let v47 : BitVec 32 := Scalar.muli arg1 c512_i32
  v47
def k0_off13 (i : grid0.Coords) : Fin 2 → Nat :=
  let arg1 : BitVec 32 := BitVec.ofNat 32 (i 1).val
  let c512_i32 : BitVec 32 := 512#32
  let v47 : BitVec 32 := Scalar.muli arg1 c512_i32
  let v48 : BitVec 32 := v47
  let v51 : Index := Scalar.indexCast v48
  let c0_20 : Index := 0#32
  ![v51.toNat, 0]
def k0_off14 (i : grid0.Coords) : Fin 2 → Nat :=
  let arg1 : BitVec 32 := BitVec.ofNat 32 (i 1).val
  let c512_i32 : BitVec 32 := 512#32
  let v47 : BitVec 32 := Scalar.muli arg1 c512_i32
  let v48 : BitVec 32 := v47
  let v77 : Index := Scalar.indexCast v48
  let c0_27 : Index := 0#32
  ![v77.toNat, 0]
def k0_off15 (i : grid0.Coords) : Fin 2 → Nat :=
  let arg1 : BitVec 32 := BitVec.ofNat 32 (i 1).val
  let c512_i32 : BitVec 32 := 512#32
  let v47 : BitVec 32 := Scalar.muli arg1 c512_i32
  let v48 : BitVec 32 := v47
  let v84 : Index := Scalar.indexCast v48
  let c128_30 : Index := 128#32
  ![v84.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnfKernelIdeal.lean ====
variable {F : FTy → Type} [FloatOps F] [Named F]
def κ : String → Option EReal := fun
  | "mask" => some ⊥
  | "scale" => some (((Real.sqrt 96)⁻¹ : ℝ) : EReal)
  | "scale_log2e" => some (((Real.sqrt 96)⁻¹ * (Real.log 2)⁻¹ : ℝ) : EReal)
  | _ => none
-- ==== AttnfReferenceIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x512 : Shape := ⟨2, ![4096, 512]⟩
abbrev S4096x8 : Shape := ⟨2, ![4096, 8]⟩
abbrev S4096x8x1 : Shape := ⟨3, ![4096, 8, 1]⟩
abbrev S4096x8x128 : Shape := ⟨3, ![4096, 8, 128]⟩
abbrev S4096x1024 : Shape := ⟨2, ![4096, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S8x4096x4096, .f32⟩
  | .hbm, ⟨4, _⟩ => ⟨S_, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x64x4096, .f32⟩
  | .hbm, ⟨34, _⟩ => ⟨S4096x8x64, .f32⟩
  | .hbm, ⟨35, _⟩ => ⟨S4096x512, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S4096x8, .f32⟩
  | .hbm, ⟨47, _⟩ => ⟨S4096x8x1, .f32⟩
  | .hbm, ⟨48, _⟩ => ⟨S4096x8x128, .f32⟩
  | .hbm, ⟨49, _⟩ => ⟨S4096x1024, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== PrefKernel.lean ====
abbrev S1x4096x1024 : Shape := ⟨3, ![1, 4096, 1024]⟩
abbrev S1024 : Shape := ⟨1, ![1024]⟩
abbrev S1024x1952 : Shape := ⟨2, ![1024, 1952]⟩
abbrev S1952x1024 : Shape := ⟨2, ![1952, 1024]⟩
abbrev S768x1024 : Shape := ⟨2, ![768, 1024]⟩
abbrev S672x1024 : Shape := ⟨2, ![672, 1024]⟩
abbrev S_ : Shape := ⟨0, ![]⟩
abbrev S96x1024 : Shape := ⟨2, ![96, 1024]⟩
abbrev S512x1024 : Shape := ⟨2, ![512, 1024]⟩
abbrev S2048x1024 : Shape := ⟨2, ![2048, 1024]⟩
abbrev S4096x1024 : Shape := ⟨2, ![4096, 1024]⟩
abbrev S1x1024 : Shape := ⟨2, ![1, 1024]⟩
abbrev S4096x2048 : Shape := ⟨2, ![4096, 2048]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 16
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x1952, .f32⟩
  | .hbm, ⟨3, _⟩ => ⟨S1952x1024, .f32⟩
  | .hbm, ⟨4, _⟩ => ⟨S768x1024, .f32⟩
  | .hbm, ⟨5, _⟩ => ⟨S1952x1024, .f32⟩
  | .hbm, ⟨6, _⟩ => ⟨S672x1024, .f32⟩
  | .hbm, ⟨7, _⟩ => ⟨S_, .f32⟩
  | .hbm, ⟨8, _⟩ => ⟨S96x1024, .f32⟩
  | .hbm, ⟨9, _⟩ => ⟨S1952x1024, .f32⟩
  | .hbm, ⟨10, _⟩ => ⟨S512x1024, .f32⟩
  | .hbm, ⟨11, _⟩ => ⟨S2048x1024, .f32⟩
  | .hbm, ⟨12, _⟩ => ⟨S2048x1024, .bf16⟩
  | .hbm, ⟨13, _⟩ => ⟨S4096x1024, .f32⟩
  | .hbm, ⟨14, _⟩ => ⟨S1x1024, .f32⟩
  | .hbm, ⟨15, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrefReferenceIdeal.lean ====
abbrev S1x4096x1024 : Shape := ⟨3, ![1, 4096, 1024]⟩
abbrev S1024 : Shape := ⟨1, ![1024]⟩
abbrev S1024x1952 : Shape := ⟨2, ![1024, 1952]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x1952 : Shape := ⟨3, ![1, 4096, 1952]⟩
abbrev S1x4096x768 : Shape := ⟨3, ![1, 4096, 768]⟩
abbrev S4096x768 : Shape := ⟨2, ![4096, 768]⟩
abbrev S1x4096x672 : Shape := ⟨3, ![1, 4096, 672]⟩
abbrev S4096x672 : Shape := ⟨2, ![4096, 672]⟩
abbrev S4096x96 : Shape := ⟨2, ![4096, 96]⟩
abbrev S1x4096x512 : Shape := ⟨3, ![1, 4096, 512]⟩
abbrev S4096x512 : Shape := ⟨2, ![4096, 512]⟩
abbrev S4096x2048 : Shape := ⟨2, ![4096, 2048]⟩

abbrev nBuf : Space → Nat
  | .hbm => 30
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x1952, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S1x4096x1952, .f32⟩
  | .hbm, ⟨20, _⟩ => ⟨S1x4096x768, .f32⟩
  | .hbm, ⟨21, _⟩ => ⟨S4096x768, .f32⟩
  | .hbm, ⟨22, _⟩ => ⟨S1x4096x672, .f32⟩
  | .hbm, ⟨23, _⟩ => ⟨S4096x672, .f32⟩
  | .hbm, ⟨24, _⟩ => ⟨S_, .f32⟩
  | .hbm, ⟨25, _⟩ => ⟨S4096x96, .f32⟩
  | .hbm, ⟨26, _⟩ => ⟨S1x4096x512, .f32⟩
  | .hbm, ⟨27, _⟩ => ⟨S4096x512, .f32⟩
  | .hbm, ⟨28, _⟩ => ⟨S4096x2048, .f32⟩
  | .hbm, ⟨29, _⟩ => ⟨S4096x2048, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== MlafKernel.lean ====
abbrev S1x4096x1952 : Shape := ⟨3, ![1, 4096, 1952]⟩
abbrev S1x4096x16 : Shape := ⟨3, ![1, 4096, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S4096x64 : Shape := ⟨2, ![4096, 64]⟩
abbrev S4096x16 : Shape := ⟨2, ![4096, 16]⟩
abbrev S4096x32 : Shape := ⟨2, ![4096, 32]⟩
abbrev S4096x128 : Shape := ⟨2, ![4096, 128]⟩
abbrev S4096x48 : Shape := ⟨2, ![4096, 48]⟩
abbrev S4096x80 : Shape := ⟨2, ![4096, 80]⟩
abbrev S1x4096x768 : Shape := ⟨3, ![1, 4096, 768]⟩
abbrev S4096x768 : Shape := ⟨2, ![4096, 768]⟩
abbrev S1x4096x672 : Shape := ⟨3, ![1, 4096, 672]⟩
abbrev S4096x672 : Shape := ⟨2, ![4096, 672]⟩
abbrev S4096x96 : Shape := ⟨2, ![4096, 96]⟩
abbrev S1x4096x512 : Shape := ⟨3, ![1, 4096, 512]⟩
abbrev S4096x512 : Shape := ⟨2, ![4096, 512]⟩
abbrev S4096x2048 : Shape := ⟨2, ![4096, 2048]⟩
abbrev S768x384 : Shape := ⟨2, ![768, 384]⟩
abbrev S8x96x384 : Shape := ⟨3, ![8, 96, 384]⟩
abbrev S8x128x384 : Shape := ⟨3, ![8, 128, 384]⟩
abbrev S1024x384 : Shape := ⟨2, ![1024, 384]⟩
abbrev S1024x256 : Shape := ⟨2, ![1024, 256]⟩
abbrev S8x128x256 : Shape := ⟨3, ![8, 128, 256]⟩
abbrev S8x64x256 : Shape := ⟨3, ![8, 64, 256]⟩
abbrev S512x256 : Shape := ⟨2, ![512, 256]⟩
abbrev S1536x256 : Shape := ⟨2, ![1536, 256]⟩
abbrev S1x384 : Shape := ⟨2, ![1, 384]⟩
abbrev S1x256 : Shape := ⟨2, ![1, 256]⟩
abbrev S4096x1024 : Shape := ⟨2, ![4096, 1024]⟩
abbrev S1024x768 : Shape := ⟨2, ![1024, 768]⟩
abbrev S1024x128 : Shape := ⟨2, ![1024, 128]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1024x1536 : Shape := ⟨2, ![1024, 1536]⟩

abbrev nBuf : Space → Nat
  | .hbm => 60
  | .vmem => 18
  | .smem => 0
  | _ => 0

abbrev bufTy : (tb : Table) → Fin (tcTables nBuf tb) → BufTy
  | .hbm, ⟨0, _⟩ => ⟨S1x4096x1952, .f32⟩
  | .hbm, ⟨1, _⟩ => ⟨S1x4096x16, .f32⟩
  | .hbm, ⟨2, _⟩ => ⟨S1x4096x16, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S_, .f32⟩
  | .hbm, ⟨8, _⟩ => ⟨S4096x64, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096x32, .f32⟩
  | .hbm, ⟨13, _⟩ => ⟨S4096x128, .f32⟩
  | .hbm, ⟨14, _⟩ => ⟨S_, .f32⟩
  | .hbm, ⟨15, _⟩ => ⟨S4096x64, .f32⟩
  | .hbm, ⟨16, _⟩ => ⟨S4096x16, .f32⟩
  | .hbm, ⟨17, _⟩ => ⟨S4096x16, .f32⟩
  | .hbm, ⟨18, _⟩ => ⟨S_, .f32⟩
  | .hbm, ⟨19, _⟩ => ⟨S4096x48, .f32⟩
  | .hbm, ⟨20, _⟩ => ⟨S4096x128, .f32⟩
  | .hbm, ⟨21, _⟩ => ⟨S_, .f32⟩
  | .hbm, ⟨22, _⟩ => ⟨S4096x80, .f32⟩
  | .hbm, ⟨23, _⟩ => ⟨S4096x16, .f32⟩
  | .hbm, ⟨24, _⟩ => ⟨S_, .f32⟩
  | .hbm, ⟨25, _⟩ => ⟨S4096x32, .f32⟩
  | .hbm, ⟨26, _⟩ => ⟨S4096x128, .f32⟩
  | .hbm, ⟨27, _⟩ => ⟨S1x4096x768, .f32⟩
  | .hbm, ⟨28, _⟩ => ⟨S4096x768, .f32⟩
  | .hbm, ⟨29, _⟩ => ⟨S1x4096x672, .f32⟩
  | .hbm, ⟨30, _⟩ => ⟨S4096x672, .f32⟩
  | .hbm, ⟨31, _⟩ => ⟨S_, .f32⟩
  | .hbm, ⟨32, _⟩ => ⟨S4096x96, .f32⟩
  | .hbm, ⟨33, _⟩ => ⟨S1x4096x512, .f32⟩
  | .hbm, ⟨34, _⟩ => ⟨S4096x512, .f32⟩
  | .hbm, ⟨35, _⟩ => ⟨S4096x2048, .f32⟩
  | .hbm, ⟨36, _⟩ => ⟨S4096x2048, .bf16⟩
  | .hbm, ⟨37, _⟩ => ⟨S768x384, .f32⟩
  | .hbm, ⟨38, _⟩ => ⟨S8x96x384, .f32⟩
  | .hbm, ⟨39, _⟩ => ⟨S_, .i32⟩
  | .hbm, ⟨40, _⟩ => ⟨S_, .f32⟩
  | .hbm, ⟨41, _⟩ => ⟨S8x128x384, .f32⟩
  | .hbm, ⟨42, _⟩ => ⟨S1024x384, .f32⟩
  | .hbm, ⟨43, _⟩ => ⟨S1024x256, .f32⟩
  | .hbm, ⟨44, _⟩ => ⟨S8x128x256, .f32⟩
  | .hbm, ⟨45, _⟩ => ⟨S8x64x256, .f32⟩
  | .hbm, ⟨46, _⟩ => ⟨S_, .i32⟩
  | .hbm, ⟨47, _⟩ => ⟨S_, .f32⟩
  | .hbm, ⟨48, _⟩ => ⟨S8x128x256, .f32⟩
  | .hbm, ⟨49, _⟩ => ⟨S1024x256, .f32⟩
  | .hbm, ⟨50, _⟩ => ⟨S8x64x256, .f32⟩
  | .hbm, ⟨51, _⟩ => ⟨S512x256, .f32⟩
  | .hbm, ⟨52, _⟩ => ⟨S1536x256, .f32⟩
  | .hbm, ⟨53, _⟩ => ⟨S1x384, .f32⟩
  | .hbm, ⟨54, _⟩ => ⟨S1x256, .f32⟩
  | .hbm, ⟨55, _⟩ => ⟨S1024x384, .bf16⟩
  | .hbm, ⟨56, _⟩ => ⟨S1536x256, .bf16⟩
  | .hbm, ⟨57, _⟩ => ⟨S4096x1024, .bf16⟩
  | .hbm, ⟨58, _⟩ => ⟨S4096x1024, .bf16⟩
  | .hbm, ⟨59, _⟩ => ⟨S4096x512, .bf16⟩
  | .local _ .vmem, ⟨0, _⟩ => ⟨S1024x768, .bf16⟩
  | .local _ .vmem, ⟨1, _⟩ => ⟨S1024x768, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x384, .f32⟩
  | .local _ .vmem, ⟨9, _⟩ => ⟨S1x256, .f32⟩
  | .local _ .vmem, ⟨10, _⟩ => ⟨S1024x384, .bf16⟩
  | .local _ .vmem, ⟨11, _⟩ => ⟨S1536x256, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x512, .bf16⟩
  | _, _ => ⟨S1x4096x1952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev main_v39_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlafReferenceIdeal.lean ====
abbrev S1x4096x1952 : Shape := ⟨3, ![1, 4096, 1952]⟩
abbrev S1x4096x16 : Shape := ⟨3, ![1, 4096, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1x4096x384 : Shape := ⟨3, ![1, 4096, 384]⟩
abbrev S_ : Shape := ⟨0, ![]⟩
abbrev S1x4096 : Shape := ⟨2, ![1, 4096]⟩
abbrev S1x4096x1 : Shape := ⟨3, ![1, 4096, 1]⟩
abbrev S1x1x384 : Shape := ⟨3, ![1, 1, 384]⟩
abbrev S1x4096x768 : Shape := ⟨3, ![1, 4096, 768]⟩
abbrev S1x4096x8x96 : Shape := ⟨4, ![1, 4096, 8, 96]⟩
abbrev S1x4096x8x64 : Shape := ⟨4, ![1, 4096, 8, 64]⟩
abbrev S1x4096x8x32 : Shape := ⟨4, ![1, 4096, 8, 32]⟩
abbrev S1x4096x1x16 : Shape := ⟨4, ![1, 4096, 1, 16]⟩
abbrev S1x4096x8x16 : Shape := ⟨4, ![1, 4096, 8, 16]⟩
abbrev S1x4096x256 : Shape := ⟨3, ![1, 4096, 256]⟩
abbrev S1x1x256 : Shape := ⟨3, ![1, 1, 256]⟩
abbrev S1x4096x1024 : Shape := ⟨3, ![1, 4096, 1024]⟩
abbrev S1x4096x8x128 : Shape := ⟨4, ![1, 4096, 8, 128]⟩
abbrev S1x4096x32 : Shape := ⟨3, ![1, 4096, 32]⟩
abbrev S1x4096x1x32 : Shape := ⟨4, ![1, 4096, 1, 32]⟩
abbrev S4096x8x96 : Shape := ⟨3, ![4096, 8, 96]⟩
abbrev S4096x8x128 : Shape := ⟨3, ![4096, 8, 128]⟩
abbrev S4096x1024 : Shape := ⟨2, ![4096, 1024]⟩
abbrev S4096x8x64 : Shape := ⟨3, ![4096, 8, 64]⟩
abbrev S4096x512 : Shape := ⟨2, ![4096, 512]⟩

abbrev nBuf : Space → Nat
  | .hbm => 93
  | .vmem => 0
  | .smem => 0
  | _ => 0

abbrev bufTy : (tb : Table) → Fin (tcTables nBuf tb) → BufTy
  | .hbm, ⟨0, _⟩ => ⟨S1x4096x1952, .f32⟩
  | .hbm, ⟨1, _⟩ => ⟨S1x4096x16, .f32⟩
  | .hbm, ⟨2, _⟩ => ⟨S1x4096x16, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S1x4096x384, .f32⟩
  | .hbm, ⟨8, _⟩ => ⟨S1x4096x384, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x384, .f32⟩
  | .hbm, ⟨20, _⟩ => ⟨S1x4096x384, .f32⟩
  | .hbm, ⟨21, _⟩ => ⟨S1x1x384, .f32⟩
  | .hbm, ⟨22, _⟩ => ⟨S1x4096x384, .f32⟩
  | .hbm, ⟨23, _⟩ => ⟨S1x4096x384, .f32⟩
  | .hbm, ⟨24, _⟩ => ⟨S1x4096x768, .f32⟩
  | .hbm, ⟨25, _⟩ => ⟨S1x4096x8x96, .f32⟩
  | .hbm, ⟨26, _⟩ => ⟨S1x4096x8x64, .f32⟩
  | .hbm, ⟨27, _⟩ => ⟨S1x4096x8x32, .f32⟩
  | .hbm, ⟨28, _⟩ => ⟨S1x4096x1x16, .f32⟩
  | .hbm, ⟨29, _⟩ => ⟨S1x4096x1x16, .f32⟩
  | .hbm, ⟨30, _⟩ => ⟨S1x4096x8x16, .f32⟩
  | .hbm, ⟨31, _⟩ => ⟨S1x4096x8x16, .f32⟩
  | .hbm, ⟨32, _⟩ => ⟨S1x4096x8x16, .f32⟩
  | .hbm, ⟨33, _⟩ => ⟨S1x4096x8x16, .f32⟩
  | .hbm, ⟨34, _⟩ => ⟨S1x4096x8x16, .f32⟩
  | .hbm, ⟨35, _⟩ => ⟨S1x4096x8x16, .f32⟩
  | .hbm, ⟨36, _⟩ => ⟨S1x4096x8x16, .f32⟩
  | .hbm, ⟨37, _⟩ => ⟨S1x4096x8x16, .f32⟩
  | .hbm, ⟨38, _⟩ => ⟨S1x4096x8x16, .f32⟩
  | .hbm, ⟨39, _⟩ => ⟨S1x4096x8x16, .f32⟩
  | .hbm, ⟨40, _⟩ => ⟨S1x4096x8x16, .f32⟩
  | .hbm, ⟨41, _⟩ => ⟨S1x4096x8x16, .f32⟩
  | .hbm, ⟨42, _⟩ => ⟨S1x4096x8x32, .f32⟩
  | .hbm, ⟨43, _⟩ => ⟨S1x4096x256, .f32⟩
  | .hbm, ⟨44, _⟩ => ⟨S1x4096x256, .f32⟩
  | .hbm, ⟨45, _⟩ => ⟨S_, .f32⟩
  | .hbm, ⟨46, _⟩ => ⟨S1x4096, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S1x4096x1, .f32⟩
  | .hbm, ⟨53, _⟩ => ⟨S1x4096x1, .f32⟩
  | .hbm, ⟨54, _⟩ => ⟨S1x4096x1, .f32⟩
  | .hbm, ⟨55, _⟩ => ⟨S1x4096x256, .f32⟩
  | .hbm, ⟨56, _⟩ => ⟨S1x4096x256, .f32⟩
  | .hbm, ⟨57, _⟩ => ⟨S1x1x256, .f32⟩
  | .hbm, ⟨58, _⟩ => ⟨S1x4096x256, .f32⟩
  | .hbm, ⟨59, _⟩ => ⟨S1x4096x256, .f32⟩
  | .hbm, ⟨60, _⟩ => ⟨S1x4096x1024, .f32⟩
  | .hbm, ⟨61, _⟩ => ⟨S1x4096x8x128, .f32⟩
  | .hbm, ⟨62, _⟩ => ⟨S1x4096x8x64, .f32⟩
  | .hbm, ⟨63, _⟩ => ⟨S1x4096x8x64, .f32⟩
  | .hbm, ⟨64, _⟩ => ⟨S1x4096x32, .f32⟩
  | .hbm, ⟨65, _⟩ => ⟨S1x4096x16, .f32⟩
  | .hbm, ⟨66, _⟩ => ⟨S1x4096x16, .f32⟩
  | .hbm, ⟨67, _⟩ => ⟨S1x4096x16, .f32⟩
  | .hbm, ⟨68, _⟩ => ⟨S1x4096x16, .f32⟩
  | .hbm, ⟨69, _⟩ => ⟨S1x4096x16, .f32⟩
  | .hbm, ⟨70, _⟩ => ⟨S1x4096x16, .f32⟩
  | .hbm, ⟨71, _⟩ => ⟨S1x4096x16, .f32⟩
  | .hbm, ⟨72, _⟩ => ⟨S1x4096x16, .f32⟩
  | .hbm, ⟨73, _⟩ => ⟨S1x4096x32, .f32⟩
  | .hbm, ⟨74, _⟩ => ⟨S1x4096x1x32, .f32⟩
  | .hbm, ⟨75, _⟩ => ⟨S1x4096x8x32, .f32⟩
  | .hbm, ⟨76, _⟩ => ⟨S1x4096x8x96, .f32⟩
  | .hbm, ⟨77, _⟩ => ⟨S1x4096x8x96, .f32⟩
  | .hbm, ⟨78, _⟩ => ⟨S4096x8x96, .f32⟩
  | .hbm, ⟨79, _⟩ => ⟨S_, .i32⟩
  | .hbm, ⟨80, _⟩ => ⟨S_, .f32⟩
  | .hbm, ⟨81, _⟩ => ⟨S4096x8x128, .f32⟩
  | .hbm, ⟨82, _⟩ => ⟨S4096x1024, .f32⟩
  | .hbm, ⟨83, _⟩ => ⟨S4096x1024, .bf16⟩
  | .hbm, ⟨84, _⟩ => ⟨S4096x8x96, .f32⟩
  | .hbm, ⟨85, _⟩ => ⟨S_, .i32⟩
  | .hbm, ⟨86, _⟩ => ⟨S_, .f32⟩
  | .hbm, ⟨87, _⟩ => ⟨S4096x8x128, .f32⟩
  | .hbm, ⟨88, _⟩ => ⟨S4096x1024, .f32⟩
  | .hbm, ⟨89, _⟩ => ⟨S4096x1024, .bf16⟩
  | .hbm, ⟨90, _⟩ => ⟨S4096x8x64, .f32⟩
  | .hbm, ⟨91, _⟩ => ⟨S4096x512, .f32⟩
  | .hbm, ⟨92, _⟩ => ⟨S4096x512, .bf16⟩
  | _, _ => ⟨S1x4096x1952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c : Ref sig .tc := ⟨.hbm, 79, rfl⟩
abbrev main_call0_v0 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_c_5 : Ref sig .tc := ⟨.hbm, 85, rfl⟩
abbrev main_call1_v0 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== FfnKernel.lean ====
abbrev S1x4096x1024 : Shape := ⟨3, ![1, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S8x352x1024 : Shape := ⟨3, ![8, 352, 1024]⟩
abbrev S8x1056x1024 : Shape := ⟨3, ![8, 1056, 1024]⟩
abbrev S4096x1024 : Shape := ⟨2, ![4096, 1024]⟩
abbrev S1x1024 : Shape := ⟨2, ![1, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S5632x1024 : Shape := ⟨2, ![5632, 1024]⟩
abbrev S24 : Shape := ⟨1, ![24]⟩
abbrev S1 : Shape := ⟨1, ![1]⟩
abbrev S352x1024 : Shape := ⟨2, ![352, 1024]⟩
abbrev S1x352x1024 : Shape := ⟨3, ![1, 352, 1024]⟩
abbrev S256 : Shape := ⟨1, ![256]⟩
abbrev S256x1 : Shape := ⟨2, ![256, 1]⟩
abbrev S256x256 : Shape := ⟨2, ![256, 256]⟩

abbrev nBuf : Space → Nat
  | .hbm => 55
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x2816, .f32⟩
  | .hbm, ⟨24, _⟩ => ⟨S1x4096x2816, .f32⟩
  | .hbm, ⟨25, _⟩ => ⟨S1x4096x2816, .f32⟩
  | .hbm, ⟨26, _⟩ => ⟨S_, .f32⟩
  | .hbm, ⟨27, _⟩ => ⟨S1x4096x2816, .f32⟩
  | .hbm, ⟨28, _⟩ => ⟨S1x4096x2816, .f32⟩
  | .hbm, ⟨29, _⟩ => ⟨S_, .f32⟩
  | .hbm, ⟨30, _⟩ => ⟨S1x4096x2816, .f32⟩
  | .hbm, ⟨31, _⟩ => ⟨S1x4096x2816, .f32⟩
  | .hbm, ⟨32, _⟩ => ⟨S1x4096x2816, .f32⟩
  | .hbm, ⟨33, _⟩ => ⟨S1x4096x2816, .f32⟩
  | .hbm, ⟨34, _⟩ => ⟨S1x4096x2816, .f32⟩
  | .hbm, ⟨35, _⟩ => ⟨S1x4096x1024, .f32⟩
  | .hbm, ⟨36, _⟩ => ⟨S2816x1024, .f32⟩
  | .hbm, ⟨37, _⟩ => ⟨S8x352x1024, .f32⟩
  | .hbm, ⟨38, _⟩ => ⟨S2816x1024, .f32⟩
  | .hbm, ⟨39, _⟩ => ⟨S8x352x1024, .f32⟩
  | .hbm, ⟨40, _⟩ => ⟨S8x352x1024, .f32⟩
  | .hbm, ⟨41, _⟩ => ⟨S8x1056x1024, .f32⟩
  | .hbm, ⟨42, _⟩ => ⟨S8x1056x1024, .bf16⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S1x1024, .f32⟩
  | .hbm, ⟨48, _⟩ => ⟨S4096x1024, .f32⟩
  | .hbm, ⟨49, _⟩ => ⟨S4096x1024, .bf16⟩
  | .hbm, ⟨50, _⟩ => ⟨S4096x5632, .bf16⟩
  | .hbm, ⟨51, _⟩ => ⟨S4096x2816, .bf16⟩
  | .hbm, ⟨52, _⟩ => ⟨S4096x1024, .bf16⟩
  | .hbm, ⟨53, _⟩ => ⟨S1x1024, .f32⟩
  | .hbm, ⟨54, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x5632, .bf16⟩
  | .local _ .vmem, ⟨13, _⟩ => ⟨S256x5632, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S256x5632, .f32⟩
  | .local _ .vmem, ⟨21, _⟩ => ⟨S256x2816, .f32⟩
  | .local _ .vmem, ⟨22, _⟩ => ⟨S5632x1024, .bf16⟩
  | .local _ .vmem, ⟨23, _⟩ => ⟨S2816x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v30_3 : Ref sig .tc := ⟨.hbm, 51, rfl⟩
abbrev main_v30_4 : Ref sig .tc := ⟨.hbm, 52, rfl⟩
abbrev main_v30_5 : Ref sig .tc := ⟨.hbm, 53, rfl⟩
abbrev main_v30_6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v496 : BitVec 32 := Scalar.extui v0
  let c0_i32_289 : BitVec 32 := 0#32
  let v497 : BitVec 1 := Scalar.cmpi .ne v496 c0_i32_289
  v497

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v498 : BitVec 1 := Scalar.xori v0 v_true
  let v499 : BitVec 32 := Scalar.extui v498
  let c0_i32_290 : BitVec 32 := 0#32
  let v500 : BitVec 1 := Scalar.cmpi .ne v499 c0_i32_290
  v500

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v501 : BitVec 32 := Scalar.extui v0
  let c0_i32_291 : BitVec 32 := 0#32
  let v502 : BitVec 1 := Scalar.cmpi .ne v501 c0_i32_291
  v502

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_292 : BitVec 1 := 1#1
  let v503 : BitVec 1 := Scalar.xori v0 true_292
  let v504 : BitVec 32 := Scalar.extui v503
  let c0_i32_293 : BitVec 32 := 0#32
  let v505 : BitVec 1 := Scalar.cmpi .ne v504 c0_i32_293
  v505

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S1x4096x1024 : Shape := ⟨3, ![1, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S1x1024 : Shape := ⟨2, ![1, 1024]⟩
abbrev S4096 : Shape := ⟨1, ![4096]⟩
abbrev S4096x2816 : Shape := ⟨2, ![4096, 2816]⟩
abbrev S4096x5632 : Shape := ⟨2, ![4096, 5632]⟩
abbrev S4096x1024 : Shape := ⟨2, ![4096, 1024]⟩

abbrev nBuf : Space → Nat
  | .hbm => 142
  | .vmem => 0
  | .smem => 0
  | _ => 0

abbrev hbmTy0_0 (i : Nat) : BufTy := match i % 128 with
  | 0 => ⟨S1x4096x1024, .f32⟩
  | 1 => ⟨S1024, .f32⟩
  | 2 => ⟨S1024, .f32⟩
  | 3 => ⟨S1024x2816, .f32⟩
  | 4 => ⟨S1024x2816, .f32⟩
  | 5 => ⟨S2816x1024, .f32⟩
  | 6 => ⟨S1x4096x1024, .f32⟩
  | 7 => ⟨S1x4096x1024, .f32⟩
  | 8 => ⟨S_, .f32⟩
  | 9 => ⟨S1x4096, .f32⟩
  | 10 => ⟨S1x4096x1, .f32⟩
  | 11 => ⟨S_, .f32⟩
  | 12 => ⟨S1x4096x1, .f32⟩
  | 13 => ⟨S1x4096x1, .f32⟩
  | 14 => ⟨S_, .f32⟩
  | 15 => ⟨S1x4096x1, .f32⟩
  | 16 => ⟨S1x4096x1, .f32⟩
  | 17 => ⟨S1x4096x1, .f32⟩
  | 18 => ⟨S1x4096x1, .f32⟩
  | 19 => ⟨S_, .f32⟩
  | 20 => ⟨S1x4096x1, .f32⟩
  | 21 => ⟨S1x4096x1, .f32⟩
  | 22 => ⟨S1x4096x1024, .f32⟩
  | 23 => ⟨S1x4096x1024, .f32⟩
  | 24 => ⟨S1x1x1024, .f32⟩
  | 25 => ⟨S1x4096x1024, .f32⟩
  | 26 => ⟨S1x4096x1024, .f32⟩
  | 27 => ⟨S1x4096x2816, .f32⟩
  | 28 => ⟨S1x4096x2816, .f32⟩
  | 29 => ⟨S1x4096x2816, .f32⟩
  | 30 => ⟨S1x4096x2816, .f32⟩
  | 31 => ⟨S_, .f32⟩
  | 32 => ⟨S1x4096x2816, .f32⟩
  | 33 => ⟨S1x4096x2816, .f32⟩
  | 34 => ⟨S_, .f32⟩
  | 35 => ⟨S1x4096x2816, .f32⟩
  | 36 => ⟨S1x4096x2816, .f32⟩
  | 37 => ⟨S_, .f32⟩
  | 38 => ⟨S1x4096x2816, .f32⟩
  | 39 => ⟨S1x4096x2816, .f32⟩
  | 40 => ⟨S1x4096x2816, .f32⟩
  | 41 => ⟨S1x4096x2816, .f32⟩
  | 42 => ⟨S1x4096x2816, .f32⟩
  | 43 => ⟨S1x4096x1024, .f32⟩
  | 44 => ⟨S1x4096x1024, .f32⟩
  | 45 => ⟨S_, .f32⟩
  | 46 => ⟨S1x4096, .f32⟩
  | 47 => ⟨S1x4096x1, .f32⟩
  | 48 => ⟨S_, .f32⟩
  | 49 => ⟨S1x4096x1, .f32⟩
  | 50 => ⟨S1x4096x1, .f32⟩
  | 51 => ⟨S_, .f32⟩
  | 52 => ⟨S1x4096x1, .f32⟩
  | 53 => ⟨S1x4096x1, .f32⟩
  | 54 => ⟨S1x4096x1, .f32⟩
  | 55 => ⟨S1x4096x1, .f32⟩
  | 56 => ⟨S_, .f32⟩
  | 57 => ⟨S1x4096x1, .f32⟩
  | 58 => ⟨S1x4096x1, .f32⟩
  | 59 => ⟨S1x4096x1024, .f32⟩
  | 60 => ⟨S1x4096x1024, .f32⟩
  | 61 => ⟨S1x1x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S1x4096x1024, .f32⟩
  | 67 => ⟨S_, .f32⟩
  | 68 => ⟨S1x1024, .f32⟩
  | 69 => ⟨S1x1x1024, .f32⟩
  | 70 => ⟨S1x4096x1024, .f32⟩
  | 71 => ⟨S1x4096x1024, .f32⟩
  | 72 => ⟨S_, .f32⟩
  | 73 => ⟨S1024, .f32⟩
  | 74 => ⟨S1x4096x1024, .f32⟩
  | 75 => ⟨S_, .f32⟩
  | 76 => ⟨S1x4096, .f32⟩
  | 77 => ⟨S1x4096x1, .f32⟩
  | 78 => ⟨S1x4096x1024, .f32⟩
  | 79 => ⟨S1x4096x1024, .f32⟩
  | 80 => ⟨S1x4096x1, .f32⟩
  | 81 => ⟨S_, .f32⟩
  | 82 => ⟨S1x4096x1, .f32⟩
  | 83 => ⟨S1x4096x1, .f32⟩
  | 84 => ⟨S_, .f32⟩
  | 85 => ⟨S4096, .f32⟩
  | 86 => ⟨S1x4096, .f32⟩
  | 87 => ⟨S1x4096x1024, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x4096x2816, .f32⟩
  | 93 => ⟨S1x4096x2816, .f32⟩
  | 94 => ⟨S1x4096x2816, .f32⟩
  | 95 => ⟨S1x4096x2816, .f32⟩
  | 96 => ⟨S1x4096x2816, .f32⟩
  | 97 => ⟨S1x4096x2816, .f32⟩
  | 98 => ⟨S1x4096x2816, .f32⟩
  | 99 => ⟨S1x4096x1024, .f32⟩
  | 100 => ⟨S1x4096x1024, .f32⟩
  | 101 => ⟨S1x4096x1024, .f32⟩
  | 102 => ⟨S1x4096x1024, .f32⟩
  | 103 => ⟨S_, .f32⟩
  | 104 => ⟨S1x1024, .f32⟩
  | 105 => ⟨S1x1x1024, .f32⟩
  | 106 => ⟨S1x4096x1024, .f32⟩
  | 107 => ⟨S1x4096x1024, .f32⟩
  | 108 => ⟨S_, .f32⟩
  | 109 => ⟨S1024, .f32⟩
  | 110 => ⟨S1x4096x1024, .f32⟩
  | 111 => ⟨S_, .f32⟩
  | 112 => ⟨S1x4096, .f32⟩
  | 113 => ⟨S1x4096x1, .f32⟩
  | 114 => ⟨S1x4096x1024, .f32⟩
  | 115 => ⟨S1x4096x1024, .f32⟩
  | 116 => ⟨S1x4096x1, .f32⟩
  | 117 => ⟨S_, .f32⟩
  | 118 => ⟨S1x4096x1, .f32⟩
  | 119 => ⟨S1x4096x1, .f32⟩
  | 120 => ⟨S_, .f32⟩
  | 121 => ⟨S4096, .f32⟩
  | 122 => ⟨S1x4096, .f32⟩
  | 123 => ⟨S1x4096x1024, .f32⟩
  | 124 => ⟨S1x4096x1024, .f32⟩
  | 125 => ⟨S1x4096x1024, .f32⟩
  | 126 => ⟨S1x4096x1024, .f32⟩
  | 127 => ⟨S1x4096x1024, .f32⟩
  | _ => ⟨S1x4096x1024, .f32⟩

abbrev hbmTy0_1 (i : Nat) : BufTy := match i % 128 with
  | 0 => ⟨S4096x2816, .f32⟩
  | 1 => ⟨S4096x2816, .f32⟩
  | 2 => ⟨S4096x5632, .f32⟩
  | 3 => ⟨S1x4096x1024, .f32⟩
  | 4 => ⟨S4096x1024, .f32⟩
  | 5 => ⟨S4096x1024, .f32⟩
  | 6 => ⟨S4096x1024, .bf16⟩
  | 7 => ⟨S4096x5632, .bf16⟩
  | 8 => ⟨S4096x2816, .f32⟩
  | 9 => ⟨S4096x2816, .bf16⟩
  | 10 => ⟨S4096x1024, .f32⟩
  | 11 => ⟨S4096x1024, .bf16⟩
  | 12 => ⟨S1x1024, .f32⟩
  | 13 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]
-- ==== Proof.Scalars.lean ====
/- Numbers and small facts of the extended reals that several of the value proofs use. -/
module

public import Idealize.ShloMosaic.Lib.Pointwise

@[expose] public section

noncomputable section

namespace Cert.Scalars

open Idealize.ShloMosaic

/-- The word of one half. -/
theorem half_word : Ideal.ofBits .f32 0x3F000000#32 = ((1 / 2 : ℝ) : EReal) := by
  simp [Ideal.ofBits, Ideal.ieee, -EReal.coe_mul]; norm_num

/-- The word of two. -/
theorem two_word : Ideal.ofBits .f32 0x40000000#32 = ((2 : ℝ) : EReal) := by
  simp [Ideal.ofBits, Ideal.ieee, -EReal.coe_mul]; norm_num

/-- The word of 1024. -/
theorem kilo_word : Ideal.ofBits .f32 0x44800000#32 = ((1024 : ℝ) : EReal) := by
  simp [Ideal.ofBits, Ideal.ieee, -EReal.coe_mul]; norm_num

/-- The word of 2048. -/
theorem two_kilo_word : Ideal.ofBits .f32 0x45000000#32 = ((2048 : ℝ) : EReal) := by
  simp [Ideal.ofBits, Ideal.ieee, -EReal.coe_mul]; norm_num

/-- The word of 1/1024. -/
theorem milli_word : Ideal.ofBits .f32 0x3A800000#32 = ((1 / 1024 : ℝ) : EReal) := by
  simp [Ideal.ofBits, Ideal.ieee, -EReal.coe_mul]; norm_num

/-- The word of 96. -/
theorem ninety_six_word : Ideal.ofBits .f32 0x42C00000#32 = ((96 : ℝ) : EReal) := by
  simp [Ideal.ofBits, Ideal.ieee, -EReal.coe_mul]; norm_num

/-- The word of one. -/
theorem one_word : Ideal.ofBits .f32 0x3F800000#32 = ((1 : ℝ) : EReal) := by
  simp [Ideal.ofBits, Ideal.ieee, -EReal.coe_mul, -EReal.coe_one]; norm_num

/-- The word of −∞. -/
theorem bot_word : Ideal.ofBits .f32 0xFF800000#32 = ⊥ := by
  simp [Ideal.ofBits, Ideal.ieee]

/-- The word of ∞. -/
theorem top_word : Ideal.ofBits .f32 0x7F800000#32 = ⊤ := by
  simp [Ideal.ofBits, Ideal.ieee]

/-- A nonnegative real factor moves into a finite sum, whatever the terms are. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hr) (EReal.coe_ne_top r)]

/-- A nonnegative real factor moves into a finite sum from the right. -/
theorem sum_mul_coe {ι : Type} (s : Finset ι) (r : ℝ) (hr : 0 ≤ r) (f : ι → EReal) :
    (∑ i ∈ s, f i) * (r : EReal) = ∑ i ∈ s, f i * (r : EReal) := by
  rw [mul_comm, coe_mul_sum s r hr]
  exact Finset.sum_congr rfl fun i _ => mul_comm _ _

end Cert.Scalars

end
-- ==== Proof.LossValue.lean ====
/- The loss head: the sum of the squared differences and the gradient of the loss, both of the
   512-row blocks the kernel walks and of the whole arrays. -/
module

public import proofs.«01_k».proof.Proof.Gen.LossKernelIdeal.Value
public import proofs.«01_k».proof.Proof.Gen.LossReferenceIdeal.Run
public import proofs.«01_k».proof.Defs
public import proofs.«01_k».proof.Proof.Scalars
public import Idealize.ShloMosaic.Lib.Pipeline.ValueKit
public import Idealize.ShloMosaic.Lib.Claim

@[expose] public section

set_option maxRecDepth 16384

noncomputable section

namespace Cert.Loss

open Idealize.ShloMosaic Idealize.ShloMosaic.TcCoe Idealize.SL.Sem
open Cert.LossKernelIdeal Cert.LossKernelIdeal.Gen

/-- The sum of the squared differences, repeated over one row of 128 lanes. -/
def total (x y : FVec Ideal S1x4096x1024 .f32) : FVec Ideal S1x128 .f32 :=
  fun _ => ∑ r : Fin 4096, ∑ d : Fin 1024,
    (x (ix3 0 r d) - y (ix3 0 r d)) * (x (ix3 0 r d) - y (ix3 0 r d))

/-- The gradient of the loss: the difference over the width. -/
def slope (x y : FVec Ideal S1x4096x1024 .f32) : FVec Ideal S4096x1024 .f32 :=
  fun i => (x (ix3 0 (i 0) (i 1)) - y (ix3 0 (i 0) (i 1))) * ((1 / 1024 : ℝ) : EReal)

/-! ## The kernel -/

section Kernel

/-- What one block stores of the gradient. -/
theorem slope_block (x y : FVec Ideal S512x1024 .f32) (r : Fin 512) (d : Fin 1024) :
    k0_pay3 (F := Ideal) x y (ix2 r d) = (x (ix2 r d) - y (ix2 r d)) * ((1 / 1024 : ℝ) : EReal) := by
  pointwise [k0_pay3, k0_pay2]
  rw [Scalars.milli_word]

/-- The accumulator starts at zero. -/
theorem total_zero (j : S1x128.Idx) : k0_pay1 (F := Ideal) j = 0 := by pointwise [k0_pay1]

/-- What one block adds to the accumulator. -/
theorem total_block (x y : FVec Ideal S512x1024 .f32) (a : FVec Ideal S1x128 .f32) (j : S1x128.Idx) :
    k0_pay4 (F := Ideal) x y a j = a j + ∑ r : Fin 512, ∑ d : Fin 1024,
      (x (ix2 r d) - y (ix2 r d)) * (x (ix2 r d) - y (ix2 r d)) := by
  pointwise [k0_pay4, k0_pay2]

/-- Block `t` of each argument and of the gradient is its `t`-th block of rows. -/
theorem block_index : ∀ t : Fin cfg0.N, win0_0.index t = ![t.val, 0] ∧ win0_1.index t = ![t.val, 0]
    ∧ win0_3.index t = ![t.val, 0] :=
  (by decide +kernel : ∀ t : Fin grid0.N, _)

variable (m : (ℓ : Loc nD τ sig) → Buf (Elt Ideal) ℓ)

/-- The gradient the kernel leaves, whatever the case of the point. -/
theorem slope_at (c : Dev nD) (t : Fin cfg0.N) (y : S512x1024.Idx) :
    (outsAt0 m c t.val t.isLt).2 y = k0_pay3 (F := Ideal) (iblk m c 0 t) (iblk m c 1 t) y := by
  by_cases h : t.val % 8 = 0
  · rw [outsAt0_A m c t h]; frame_out
  · rw [outsAt0_B m c t h]; frame_out

/-- The kernel's second array is the gradient of the loss. -/
theorem slope_final (c : Dev nD) : (dats m 0 c).arrAt 3 (cfgs 0).N
    = slope (m ((c : Thread nD τ).loc main_arg0)) (m ((c : Thread nD τ).loc main_arg1)) := by
  refine (dats m 0 c).arrAt_eq_of_covers 3 _ (by decide +kernel) fun t _ y => ?_
  blk_simp
  rw [after0_3, slope_at]
  idx_vars y
  rw [slope_block]
  pointwise [slope]
  blk_point [iblk, V, block_index t]

/-- The kernel's first array is the sum of the squared differences. -/
theorem total_final (c : Dev nD) : (dats m 0 c).arrAt 2 (cfgs 0).N
    = total (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => (outsAt0 m c n h).1) 8 (fun _ => 0) _
    (fun t h j => by rw [outsAt0_A m c t h]; frame_out; rw [total_block, total_zero])
    (fun t h j => by rw [outsAt0_B m c t h]; frame_out; rw [total_block])
    (le_of_eq N_0) t0_7 rfl j, zero_add]
  unfold total
  refine Fin.sum_mul_add_congr fun t r hr => ?_
  refine Fin.sum_fin_congr fun d => ?_
  blk_point [iblk, V, block_index t]

end Kernel

end Cert.Loss

namespace Cert.Loss
open Idealize.ShloMosaic Idealize.ShloMosaic.TcCoe Idealize.SL.Sem

/-- The loss head and the gradient of the loss end with the same two arrays. -/
theorem algebraic : Cert.algebraic_LossKernelIdeal_LossReferenceIdeal := by
  pair_intro
  · run_from Cert.LossKernelIdeal.Gen.run_main m g
  · hlo_run
    · rw [total_final]
      funext i
      pointwise [total]
      rw [Scalars.two_kilo_word, Scalars.half_word, Scalars.kilo_word, Fin.sum_univ_one]
      simp only [Ideal.div_coe (by norm_num : (1024 : ℝ) ≠ 0)]
      rw [← Scalars.sum_mul_coe _ _ (by norm_num), mul_comm (((1 / 2 : ℝ) : EReal)), mul_assoc, mul_comm, mul_assoc,
        ← EReal.coe_mul, ← EReal.coe_mul]
      norm_num
    · rw [slope_final]
      funext i
      idx_vars i
      pointwise [slope]
      rw [Scalars.two_word, Scalars.half_word, Scalars.kilo_word, Ideal.div_coe (by norm_num : (1024 : ℝ) ≠ 0), ← mul_assoc,
        ← EReal.coe_mul, ← EReal.coe_mul, mul_comm]
      norm_num

end Cert.Loss
end
-- ==== Proof.LossClaim.lean ====
/- The five claims about the loss head. -/
module

public import proofs.«01_k».proof.Proof.LossValue
public import proofs.«01_k».proof.Proof.Gen.LossKernel.Frame

@[expose] public section

set_option maxRecDepth 16384

noncomputable section

namespace Cert.Loss

open Idealize.ShloMosaic Idealize.SL.Sem

/-- Every run ends, its arguments unchanged and its semaphores at rest. -/
theorem frame_kernel : Cert.quiescent_LossKernel :=
  fun m ρ _ => Cert.LossKernel.Gen.frame m ρ

/-- The same on the extended reals. -/
theorem frame_ideal : Cert.quiescent_LossKernelIdeal :=
  fun m ρ _ => Cert.LossKernelIdeal.Gen.frame m ρ

/-- Every run of the reference ends, its arguments unchanged; it has no semaphore. -/
theorem frame_reference : Cert.quiescent_LossReferenceIdeal := fun m ρ _ =>
  (θ_run Cert.LossReferenceIdeal.defs _ _).mono
    (fun r h => ⟨fun c => (h c).2.2, sem_eq_zero_of_no_sems (by decide) r.2⟩)
    (Cert.LossReferenceIdeal.Value.run (F := Ideal) m ρ)

/-- Idealizing changes no operation but those named. -/
theorem preserves : Cert.preserves_LossKernel_LossKernelIdeal := trivial

end Cert.Loss

end
-- ==== Proof.AttnLoops.lean ====
/- The counted loop of attn_bwd over pairs of query blocks, and the loop over an odd number of such pairs, which never
   runs: the rectangles a trip reads and writes in closed form, one trip, and the invariant. -/
module

public import proofs.«01_k».proof.Proof.Gen.AttnKernelIdeal.Loops

@[expose] public section

set_option maxRecDepth 8192

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! ## The rectangles of a trip -/

theorem k0_off4_one : ∀ (i : grid0.Coords) (k : Fin (k0_t1_loop i).trips),
    k0_off4 i k 1#32 = ![512 * ((i 1).val + 1 + 2 * k.val), 0] := by decide +kernel
theorem k0_off4_two : ∀ (i : grid0.Coords) (k : Fin (k0_t1_loop i).trips),
    k0_off4 i k 2#32 = ![512 * ((i 1).val + 2 + 2 * k.val), 0] := by decide +kernel
theorem k0_off5_one : ∀ (i : grid0.Coords) (k : Fin (k0_t1_loop i).trips),
    k0_off5 i k 1#32 = ![512 * ((i 1).val + 1 + 2 * k.val), 0] := by decide +kernel
theorem k0_off5_two : ∀ (i : grid0.Coords) (k : Fin (k0_t1_loop i).trips),
    k0_off5 i k 2#32 = ![512 * ((i 1).val + 2 + 2 * k.val), 0] := by decide +kernel
theorem k0_off6_one : ∀ (i : grid0.Coords) (k : Fin (k0_t1_loop i).trips),
    k0_off6 i k 1#32 = ![512 * ((i 1).val + 1 + 2 * k.val), 128] := by decide +kernel
theorem k0_off6_two : ∀ (i : grid0.Coords) (k : Fin (k0_t1_loop i).trips),
    k0_off6 i k 2#32 = ![512 * ((i 1).val + 2 + 2 * k.val), 128] := by decide +kernel

instance (i : grid0.Coords) (k : Fin (k0_t1_loop i).trips) : ClosedOff (k0_off4 i k 1#32) := ⟨_, k0_off4_one i k⟩
instance (i : grid0.Coords) (k : Fin (k0_t1_loop i).trips) : ClosedOff (k0_off4 i k 2#32) := ⟨_, k0_off4_two i k⟩
instance (i : grid0.Coords) (k : Fin (k0_t1_loop i).trips) : ClosedOff (k0_off5 i k 1#32) := ⟨_, k0_off5_one i k⟩
instance (i : grid0.Coords) (k : Fin (k0_t1_loop i).trips) : ClosedOff (k0_off5 i k 2#32) := ⟨_, k0_off5_two i k⟩
instance (i : grid0.Coords) (k : Fin (k0_t1_loop i).trips) : ClosedOff (k0_off6 i k 1#32) := ⟨_, k0_off6_one i k⟩
instance (i : grid0.Coords) (k : Fin (k0_t1_loop i).trips) : ClosedOff (k0_off6 i k 2#32) := ⟨_, k0_off6_two i k⟩

/-- What a trip carries: the sums for the two heads' keys, and for the values. -/
abbrev Carry (F : FTy → Type) : Type := FVec F S512x128 .f32 × FVec F S512x128 .f32 × FVec F S512x128 .f32

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .f32) (harg5 : arg5.IsWhole)
  (arg6 : Memref sig .tc .vmem S4096x256 .f32) (harg6 : arg6.IsWhole) (arg7 : Memref sig .tc .vmem S4096x128 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S512x128 .bf16) (harg10 : arg10.IsWhole) (arg11 : Memref sig .tc .vmem S4096x256 .f32) (harg11 : arg11.IsWhole)
  (arg1 : BitVec 32) (v5 : IVec S512x128 32) (v80 v150 v152 : FVec F S512x128 .f32) (v161 c2 v162 v167 v169 c0 v183 : BitVec 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)

/-- The six arrays a trip reads, and the sums for the queries that it reads and writes. -/
abbrev TripOwns (f : BufTy.Contents (Elt F) arg11.view.ty) : sProp 𝕄G :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg11.view.loc (c : Thread nD τ) ↦[arg11.view.set]{fullShare} f))

/-- One trip of the loop over pairs of query blocks. -/
@[irreducible] def pairTrip (𝒱 : Variants) (bd : Option 𝒱.V) (k : Fin (k0_t1_loop i).trips) :
    Σ' (R : Carry F → BufTy.Contents (Elt F) arg11.view.ty → Carry F),
      { L : Carry F → BufTy.Contents (Elt F) arg11.view.ty → List (View.Piece (Elt F) S4096x256 .f32) //
        ∀ (E : Set ℕ) (acc : Carry F) (f : BufTy.Contents (Elt F) arg11.view.ty),
          TripOwns c arg2 arg3 arg4 arg5 arg6 arg7 arg11 X2 X3 X4 X5 X6 X7 f
          ⊢ wp frame (wpE (defs₀ (F := F)) 𝒱 (c : Thread nD τ) bd) E
              (k0_t1_body (F := F) i arg2 harg2 arg3 harg3 arg4 harg4 arg5 harg5 arg6 harg6 arg7 harg7 arg8 harg8 arg9 harg9 arg10 harg10
                arg11 harg11 arg1 v5 v80 v150 v152 v161 c2 v162 v167 v169 c0 k acc)
              (fun r => iprop(⌜r = R acc f⌝ ∗ TripOwns c arg2 arg3 arg4 arg5 arg6 arg7 arg11 X2 X3 X4 X5 X6 X7
                (arg11.view.writes (Elt F) f (L acc f)))) } := by
  refine ⟨?_, ?_, fun E acc f => ?run⟩
  case run =>
    unfold k0_t1_body
    iintro ⟨HR2, HR3, HR4, HR5, HR6, HR7, HW⟩
    sl_exec
    sl_step
    sl_close

/-- What the trips before trip `k` leave: the carried sums, and the pieces written into the queries' sums, last first. -/
def pairState (𝒱 : Variants) (bd : Option 𝒱.V) (init : Carry F) (G : BufTy.Contents (Elt F) arg11.view.ty) :
    ℕ → Carry F × List (View.Piece (Elt F) S4096x256 .f32)
  | 0 => (init, [])
  | k + 1 =>
    let s := pairState 𝒱 bd init G k
    if h : k < (k0_t1_loop i).trips then
      let t := pairTrip (F := F) c i arg2 harg2 arg3 harg3 arg4 harg4 arg5 harg5 arg6 harg6 arg7 harg7 arg8 harg8 arg9 harg9 arg10 harg10
        arg11 harg11 arg1 v5 v80 v150 v152 v161 c2 v162 v167 v169 c0 X2 X3 X4 X5 X6 X7 𝒱 bd ⟨k, h⟩
      let f := arg11.view.writes (Elt F) G s.2
      (t.1 s.1 f, t.2.1 s.1 f ++ s.2)
    else s

theorem pairState_succ (𝒱 : Variants) (bd : Option 𝒱.V) (init : Carry F) (G : BufTy.Contents (Elt F) arg11.view.ty)
    (k : Fin (k0_t1_loop i).trips) (s : Carry F × List (View.Piece (Elt F) S4096x256 .f32))
    (hs : s = pairState c i arg2 harg2 arg3 harg3 arg4 harg4 arg5 harg5 arg6 harg6 arg7 harg7 arg8 harg8 arg9 harg9 arg10 harg10
      arg11 harg11 arg1 v5 v80 v150 v152 v161 c2 v162 v167 v169 c0 X2 X3 X4 X5 X6 X7 𝒱 bd init G k.val) :
    pairState c i arg2 harg2 arg3 harg3 arg4 harg4 arg5 harg5 arg6 harg6 arg7 harg7 arg8 harg8 arg9 harg9 arg10 harg10
      arg11 harg11 arg1 v5 v80 v150 v152 v161 c2 v162 v167 v169 c0 X2 X3 X4 X5 X6 X7 𝒱 bd init G (k.val + 1)
      = ((pairTrip (F := F) c i arg2 harg2 arg3 harg3 arg4 harg4 arg5 harg5 arg6 harg6 arg7 harg7 arg8 harg8 arg9 harg9 arg10 harg10
      arg11 harg11 arg1 v5 v80 v150 v152 v161 c2 v162 v167 v169 c0 X2 X3 X4 X5 X6 X7 𝒱 bd k).1 s.1 (arg11.view.writes (Elt F) G s.2),
        (pairTrip (F := F) c i arg2 harg2 arg3 harg3 arg4 harg4 arg5 harg5 arg6 harg6 arg7 harg7 arg8 harg8 arg9 harg9 arg10 harg10
      arg11 harg11 arg1 v5 v80 v150 v152 v161 c2 v162 v167 v169 c0 X2 X3 X4 X5 X6 X7 𝒱 bd k).2.1 s.1 (arg11.view.writes (Elt F) G s.2) ++ s.2) := by
  subst hs
  rw [pairState.eq_2]
  exact dif_pos k.isLt

/-- The loop over pairs of query blocks by its invariant. -/
@[sl_loop] def pairLoop (𝒱 : Variants) (bd : Option 𝒱.V) (E : Set ℕ) (init : Carry F) (G : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7
      arg8 harg8 arg9 harg9 arg10 harg10 arg11 harg11 arg1 v5 v80 v150 v152 v161 c2 v162 v167 v169 c0 init where
  inv k acc := iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (∃ f, (arg11.view.loc (c : Thread nD τ) ↦[arg11.view.set]{fullShare} f)
      ∗ ⌜f = arg11.view.writes (Elt F) G (pairState (F := F) c i arg2 harg2 arg3 harg3 arg4 harg4 arg5 harg5 arg6 harg6 arg7 harg7 arg8 harg8 arg9 harg9 arg10 harg10
      arg11 harg11 arg1 v5 v80 v150 v152 v161 c2 v162 v167 v169 c0 X2 X3 X4 X5 X6 X7 𝒱 bd init G k).2⌝)
    ∗ ⌜acc = (pairState (F := F) c i arg2 harg2 arg3 harg3 arg4 harg4 arg5 harg5 arg6 harg6 arg7 harg7 arg8 harg8 arg9 harg9 arg10 harg10
      arg11 harg11 arg1 v5 v80 v150 v152 v161 c2 v162 v167 v169 c0 X2 X3 X4 X5 X6 X7 𝒱 bd init G k).1⌝)
  step k acc := by
    iintro ⟨HR2, HR3, HR4, HR5, HR6, HR7, ⟨%f, HW, %hf⟩, %hacc⟩
    subst hacc
    subst hf
    iapply (wp_wand_r Idealize.ShloMosaic.frame (wpE (defs₀ (F := F)) 𝒱 (c : Thread nD τ) bd) E)
    isplitl [HR2 HR3 HR4 HR5 HR6 HR7 HW]
    · iapply ((pairTrip (F := F) c i arg2 harg2 arg3 harg3 arg4 harg4 arg5 harg5 arg6 harg6 arg7 harg7 arg8 harg8 arg9 harg9 arg10 harg10
      arg11 harg11 arg1 v5 v80 v150 v152 v161 c2 v162 v167 v169 c0 X2 X3 X4 X5 X6 X7 𝒱 bd k).2.2 E _ _)
      isplitl [HR2]; · iexact HR2
      isplitl [HR3]; · iexact HR3
      isplitl [HR4]; · iexact HR4
      isplitl [HR5]; · iexact HR5
      isplitl [HR6]; · iexact HR6
      isplitl [HR7]; · iexact HR7
      iexact HW
    · iintro %r ⟨%hr, HR2, HR3, HR4, HR5, HR6, HR7, HW⟩
      isplitl [HR2]; · iexact HR2
      isplitl [HR3]; · iexact HR3
      isplitl [HR4]; · iexact HR4
      isplitl [HR5]; · iexact HR5
      isplitl [HR6]; · iexact HR6
      isplitl [HR7]; · iexact HR7
      isplitl [HW]
      · iexists _; isplitl [HW]; · iexact HW
        ipureintro
        rw [pairState_succ (hs := rfl), ← View.writes_append]
      · ipureintro
        rw [pairState_succ (hs := rfl)]
        exact hr

/-- The loop over the rest of the pairs never runs. -/
@[sl_loop] def restLoop (𝒱 : Variants) (bd : Option 𝒱.V) (E : Set ℕ) (init : Carry F) :
    LoopInvTy_k0_t2 (F := F) Unit ℕ (UR sig nD τ) ℕ 𝒱 c bd E i arg2 harg2 arg3 harg3 arg4 harg4 arg5 harg5 arg6 harg6 arg7 harg7
      arg8 harg8 arg9 harg9 arg10 harg10 arg11 harg11 arg1 v5 v80 v150 v152 v161 c2 v162 v167 v169 c0 v183 init where
  inv k acc := iprop(⌜acc = init⌝)
  step k acc := absurd k.isLt (Nat.not_lt.2 (Nat.le_trans (k0_t2_abs i).2.1 (Nat.zero_le _)))

end Cert.AttnKernelIdeal.Gen

end
-- ==== Proof.AttnRun.lean ====
module

public import proofs.«01_k».proof.Proof.AttnLoops
public import proofs.«01_k».proof.Proof.Gen.AttnKernelIdeal.Frame
public import Idealize.ShloMosaic.Lib.VecWindow

/-! The body of the attention's backward kernel at one grid point, run once. -/

@[expose] public section

set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .f32) (harg5 : arg5.IsWhole)
  (arg6 : Memref sig .tc .vmem S4096x256 .f32) (harg6 : arg6.IsWhole) (arg7 : Memref sig .tc .vmem S4096x128 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S512x128 .bf16) (harg10 : arg10.IsWhole) (arg11 : Memref sig .tc .vmem S4096x256 .f32) (harg11 : arg11.IsWhole)
  (x0 : Vec F S4096x256 .bf16) (x1 : Vec F S512x256 .bf16) (x2 : Vec F S512x128 .bf16)
  (x3 : Vec F S4096x128 .f32) (x4 : Vec F S4096x256 .f32) (x5 : Vec F S4096x128 .f32) (xs : Vec F S4096x256 .f32)

/-- The six blocks the body reads. -/
abbrev Ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- Whether this is the first block of keys. -/
abbrev cond0_0 (i : grid0.Coords) : Prop :=
  Scalar.cmpi .ne (Scalar.extui (Scalar.cmpi .eq (BitVec.ofNat 32 (i 1).val) 0#32)) 0#32 = 1#1

omit [Named F] in
/-- The queries' sums after the zeros are stored over all of them. -/
theorem writes_zero (arg11 : Memref sig .tc .vmem S4096x256 .f32) (harg11 : arg11.IsWhole)
    (f : BufTy.Contents (Elt F) arg11.view.ty) (z : Vec F S4096x256 .f32) :
    arg11.view.writes (Elt F) f [⟨Rect.unit (s := S4096x256) ![0, 0] S4096x256.size inb_S4096x256_S4096x256_0_0, z⟩] = harg11.unread z :=
  harg11.eq_unread (View.read_writes_full _ _ _ _ _)

/-- The body at a point. -/
abbrev body : Prog (TpuEff nD τ sig (Elt F) Λ₀ .tc) PUnit :=
  cc0_attn_bwd (F := F) i arg2 harg2 arg3 harg3 arg4 harg4 arg5 harg5 arg6 harg6 arg7 harg7 arg8 harg8 arg9 harg9 arg10 harg10 arg11 harg11

set_option maxHeartbeats 4000000 in
/-- The run at a point that is its pair of heads' first. -/
def runFirst (hc0 : cond0_0 i) (hc1 : ¬ k0_cond2 i = 1#1) :
    Σ' (L9 : List (View.Piece (Elt F) S512x256 .bf16)) (L10 : List (View.Piece (Elt F) S512x128 .bf16)),
      { G11 : BufTy.Contents (Elt F) arg11.view.ty //
        ∀ (E : Set ℕ) (K : PUnit → sProp 𝕄),
          iprop(Ins c arg2 arg3 arg4 arg5 arg6 arg7 x0 x1 x2 x3 x4 x5
            ∗ (∃ d, owns (c : Thread nD τ) arg9 fullShare d) ∗ (∃ d, owns (c : Thread nD τ) arg10 fullShare d)
            ∗ (∃ d, owns (c : Thread nD τ) arg11 fullShare d)
            ∗ (iprop(Ins c arg2 arg3 arg4 arg5 arg6 arg7 x0 x1 x2 x3 x4 x5
              ∗ (∃ f, arg9.view.loc (c : Thread nD τ) ↦[arg9.view.set]{fullShare} arg9.view.writes (Elt F) f L9)
              ∗ (∃ f, arg10.view.loc (c : Thread nD τ) ↦[arg10.view.set]{fullShare} arg10.view.writes (Elt F) f L10)
              ∗ (arg11.view.loc (c : Thread nD τ) ↦[arg11.view.set]{fullShare} G11)) -∗ K ⟨⟩))
          ⊢ wp frame (wpE (defs₀ (F := F)) Variants.none (c : Thread nD τ) none) E
              (body i arg2 harg2 arg3 harg3 arg4 harg4 arg5 harg5 arg6 harg6 arg7 harg7 arg8 harg8 arg9 harg9 arg10 harg10 arg11 harg11) K } := by
  refine ⟨?_, ?_, ?_, fun E K => ?run⟩
  case run =>
    unfold body
    simp only [cc0_attn_bwd_eq_skeleton]; unfold cc0_attn_bwd_skel
    simp only [k0_part21_eq_skeleton, k0_part22_eq_skeleton, k0_part23_eq_skeleton, k0_part24_eq_skeleton, k0_part25_eq_skeleton]
    unfold Ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
      ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    set_option sl_exec.maxSteps 4 in sl_exec (disch := first | sl_exact hc0 | sl_exact hc1)
    rw [writes_zero arg11 harg11 f11]
    sl_exec (disch := first | sl_exact hc0 | sl_exact hc1)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H9]; · iexists _; iexact H9
    isplitl [H10]; · iexists _; iexact H10
    iexact H11

set_option maxHeartbeats 4000000 in
/-- The run at a point that is neither its pair of heads' first nor its last. -/
def runMid (hc0 : ¬ cond0_0 i) (hc1 : ¬ k0_cond2 i = 1#1) :
    Σ' (L9 : List (View.Piece (Elt F) S512x256 .bf16)) (L10 : List (View.Piece (Elt F) S512x128 .bf16)),
      { G11 : BufTy.Contents (Elt F) arg11.view.ty //
        ∀ (E : Set ℕ) (K : PUnit → sProp 𝕄),
          iprop(Ins c arg2 arg3 arg4 arg5 arg6 arg7 x0 x1 x2 x3 x4 x5
            ∗ (∃ d, owns (c : Thread nD τ) arg9 fullShare d) ∗ (∃ d, owns (c : Thread nD τ) arg10 fullShare d)
            ∗ owns (c : Thread nD τ) arg11 fullShare xs
            ∗ (iprop(Ins c arg2 arg3 arg4 arg5 arg6 arg7 x0 x1 x2 x3 x4 x5
              ∗ (∃ f, arg9.view.loc (c : Thread nD τ) ↦[arg9.view.set]{fullShare} arg9.view.writes (Elt F) f L9)
              ∗ (∃ f, arg10.view.loc (c : Thread nD τ) ↦[arg10.view.set]{fullShare} arg10.view.writes (Elt F) f L10)
              ∗ (arg11.view.loc (c : Thread nD τ) ↦[arg11.view.set]{fullShare} G11)) -∗ K ⟨⟩))
          ⊢ wp frame (wpE (defs₀ (F := F)) Variants.none (c : Thread nD τ) none) E
              (body i arg2 harg2 arg3 harg3 arg4 harg4 arg5 harg5 arg6 harg6 arg7 harg7 arg8 harg8 arg9 harg9 arg10 harg10 arg11 harg11) K } := by
  refine ⟨?_, ?_, ?_, fun E K => ?run⟩
  case run =>
    unfold body
    simp only [cc0_attn_bwd_eq_skeleton]; unfold cc0_attn_bwd_skel
    simp only [k0_part21_eq_skeleton, k0_part22_eq_skeleton, k0_part23_eq_skeleton, k0_part24_eq_skeleton, k0_part25_eq_skeleton]
    unfold Ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
      ⟨%d9, %f9, -, H9⟩, ⟨%d10, %f10, -, H10⟩, ⟨%f11, %hf11, H11⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg11.eq_unread hf11
    sl_exec (disch := first | sl_exact hc0 | sl_exact hc1)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H9]; · iexists _; iexact H9
    isplitl [H10]; · iexists _; iexact H10
    iexact H11

set_option maxHeartbeats 4000000 in
/-- The run at a point that is its pair of heads' last. -/
def runLast (hc0 : ¬ cond0_0 i) (hc1 : k0_cond2 i = 1#1) :
    Σ' (L8 : List (View.Piece (Elt F) S4096x256 .bf16)) (L9 : List (View.Piece (Elt F) S512x256 .bf16)) (L10 : List (View.Piece (Elt F) S512x128 .bf16)),
      { G11 : BufTy.Contents (Elt F) arg11.view.ty //
        ∀ (E : Set ℕ) (K : PUnit → sProp 𝕄),
          iprop(Ins c arg2 arg3 arg4 arg5 arg6 arg7 x0 x1 x2 x3 x4 x5
            ∗ (∃ d, owns (c : Thread nD τ) arg8 fullShare d) ∗ (∃ d, owns (c : Thread nD τ) arg9 fullShare d) ∗ (∃ d, owns (c : Thread nD τ) arg10 fullShare d)
            ∗ owns (c : Thread nD τ) arg11 fullShare xs
            ∗ (iprop(Ins c arg2 arg3 arg4 arg5 arg6 arg7 x0 x1 x2 x3 x4 x5
              ∗ (∃ f, arg8.view.loc (c : Thread nD τ) ↦[arg8.view.set]{fullShare} arg8.view.writes (Elt F) f L8)
              ∗ (∃ f, arg9.view.loc (c : Thread nD τ) ↦[arg9.view.set]{fullShare} arg9.view.writes (Elt F) f L9)
              ∗ (∃ f, arg10.view.loc (c : Thread nD τ) ↦[arg10.view.set]{fullShare} arg10.view.writes (Elt F) f L10)
              ∗ (arg11.view.loc (c : Thread nD τ) ↦[arg11.view.set]{fullShare} G11)) -∗ K ⟨⟩))
          ⊢ wp frame (wpE (defs₀ (F := F)) Variants.none (c : Thread nD τ) none) E
              (body i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    unfold body
    simp only [cc0_attn_bwd_eq_skeleton]; unfold cc0_attn_bwd_skel
    simp only [k0_part21_eq_skeleton, k0_part22_eq_skeleton, k0_part23_eq_skeleton, k0_part24_eq_skeleton, k0_part25_eq_skeleton]
    unfold Ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
      ⟨%d8, %f8, -, H8⟩, ⟨%d9, %f9, -, H9⟩, ⟨%d10, %f10, -, H10⟩, ⟨%f11, %hf11, H11⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg11.eq_unread hf11
    sl_exec (disch := first | sl_exact hc0 | sl_exact hc1)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H8]; · iexists _; iexact H8
    isplitl [H9]; · iexists _; iexact H9
    isplitl [H10]; · iexists _; iexact H10
    iexact H11

end Cert.AttnKernelIdeal.Gen

end
-- ==== Proof.AttnFrame.lean ====
module

public import proofs.«01_k».proof.Proof.AttnRun
public import Idealize.ShloMosaic.Lib.Claim

/-! The attention's backward kernel runs to its end: what every block holds after every point, the body's obligation at a
    point, the whole run, and the arguments unchanged. Stated over any arithmetic. -/

@[expose] public section

set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first block of keys is at the points divisible by eight. -/
theorem hcond0_0 : ∀ t : Fin cfg0.N, cond0_0 (grid0.coords t) ↔ t.val % 8 = 0 :=
  (by decide +kernel : ∀ t : Fin grid0.N, cond0_0 (grid0.coords t) ↔ t.val % 8 = 0)

/-- The last block of keys is at the points that are seven past one divisible by eight. -/
theorem hcond0_1 : ∀ t : Fin cfg0.N, k0_cond2 (grid0.coords t) = 1#1 ↔ t.val % 8 = 7 :=
  (by decide +kernel : ∀ t : Fin grid0.N, k0_cond2 (grid0.coords t) = 1#1 ↔ t.val % 8 = 7)

/-- The queries' gradient is written at a pair of heads' last point only. -/
theorem idle6 (t : Fin cfg0.N) : cfg0.idle 6 (grid0.coords t) = !(k0_cond2 (grid0.coords t) == 1#1) := rfl

/-- Window 0's buffer at a point. -/
abbrev ms0_0 (t : Fin cfg0.N) : Memref sig .tc .vmem S4096x256 .bf16 := win0_0.stage (cfg0.slots t 0)
theorem hs0_0 (t : Fin cfg0.N) : (ms0_0 t).IsWhole := hstage0_0 ((cfg0.slots t 0).cast nbuf0_0)
/-- Window 1's buffer at a point. -/
abbrev ms0_1 (t : Fin cfg0.N) : Memref sig .tc .vmem S512x256 .bf16 := win0_1.stage (cfg0.slots t 1)
theorem hs0_1 (t : Fin cfg0.N) : (ms0_1 t).IsWhole := hstage0_1 ((cfg0.slots t 1).cast nbuf0_1)
/-- Window 2's buffer at a point. -/
abbrev ms0_2 (t : Fin cfg0.N) : Memref sig .tc .vmem S512x128 .bf16 := win0_2.stage (cfg0.slots t 2)
theorem hs0_2 (t : Fin cfg0.N) : (ms0_2 t).IsWhole := hstage0_2 ((cfg0.slots t 2).cast nbuf0_2)
/-- Window 3's buffer at a point. -/
abbrev ms0_3 (t : Fin cfg0.N) : Memref sig .tc .vmem S4096x128 .f32 := win0_3.stage (cfg0.slots t 3)
theorem hs0_3 (t : Fin cfg0.N) : (ms0_3 t).IsWhole := hstage0_3 ((cfg0.slots t 3).cast nbuf0_3)
/-- Window 4's buffer at a point. -/
abbrev ms0_4 (t : Fin cfg0.N) : Memref sig .tc .vmem S4096x256 .f32 := win0_4.stage (cfg0.slots t 4)
theorem hs0_4 (t : Fin cfg0.N) : (ms0_4 t).IsWhole := hstage0_4 ((cfg0.slots t 4).cast nbuf0_4)
/-- Window 5's buffer at a point. -/
abbrev ms0_5 (t : Fin cfg0.N) : Memref sig .tc .vmem S4096x128 .f32 := win0_5.stage (cfg0.slots t 5)
theorem hs0_5 (t : Fin cfg0.N) : (ms0_5 t).IsWhole := hstage0_5 ((cfg0.slots t 5).cast nbuf0_5)
/-- Window 6's buffer at a point. -/
abbrev ms0_6 (t : Fin cfg0.N) : Memref sig .tc .vmem S4096x256 .bf16 := win0_6.stage (cfg0.slots t 6)
theorem hs0_6 (t : Fin cfg0.N) : (ms0_6 t).IsWhole := hstage0_6 ((cfg0.slots t 6).cast nbuf0_6)
/-- Window 7's buffer at a point. -/
abbrev ms0_7 (t : Fin cfg0.N) : Memref sig .tc .vmem S512x256 .bf16 := win0_7.stage (cfg0.slots t 7)
theorem hs0_7 (t : Fin cfg0.N) : (ms0_7 t).IsWhole := hstage0_7 ((cfg0.slots t 7).cast nbuf0_7)
/-- Window 8's buffer at a point. -/
abbrev ms0_8 (t : Fin cfg0.N) : Memref sig .tc .vmem S512x128 .bf16 := win0_8.stage (cfg0.slots t 8)
theorem hs0_8 (t : Fin cfg0.N) : (ms0_8 t).IsWhole := hstage0_8 ((cfg0.slots t 8).cast nbuf0_8)
/-- The queries' sums. -/
abbrev scM0 : Memref sig .tc .vmem S4096x256 .f32 := Memref.whole cc0_scratch0

/-- What the launch hands the region: the queries' sums at anything, and the generator's register. -/
theorem PhiA0_eq (c : Dev nD) :
    (Pipeline.ΦA spec0 c : sProp 𝕄) = iprop(iprop(∃ d, owns (c : Thread nD τ) scM0 fullShare d) ∗ (∃ r, prngReg c r)) := by
  unfold Pipeline.ΦA; rw [scopedRest0_eq]; simp only [scM0, owns_whole]; try rfl

variable (c : Dev nD)

/-- The run at a pair of heads' first point. -/
abbrev firstAt (t : Fin cfg0.N) (h0 : t.val % 8 = 0) (h1 : ¬ t.val % 8 = 7) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
    (iblk m c 0 t) (iblk m c 1 t) (iblk m c 2 t) (iblk m c 3 t) (iblk m c 4 t) (iblk m c 5 t) ((hcond0_0 t).mpr h0) (fun h => h1 ((hcond0_1 t).mp h))

/-- The run at a point between. -/
abbrev midAt (t : Fin cfg0.N) (xs : Vec F S4096x256 .f32) (h0 : ¬ t.val % 8 = 0) (h1 : ¬ t.val % 8 = 7) :=
  runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
    (iblk m c 0 t) (iblk m c 1 t) (iblk m c 2 t) (iblk m c 3 t) (iblk m c 4 t) (iblk m c 5 t) xs (fun h => h0 ((hcond0_0 t).mp h)) (fun h => h1 ((hcond0_1 t).mp h))

/-- The run at a pair of heads' last point. -/
abbrev lastAt (t : Fin cfg0.N) (xs : Vec F S4096x256 .f32) (h0 : ¬ t.val % 8 = 0) (h1 : t.val % 8 = 7) :=
  runLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
    (iblk m c 0 t) (iblk m c 1 t) (iblk m c 2 t) (iblk m c 3 t) (iblk m c 4 t) (iblk m c 5 t) xs (fun h => h0 ((hcond0_0 t).mp h)) ((hcond0_1 t).mpr h1)

/-- The queries' sums after a point, from those before it. -/
def sumsOf (t : Fin cfg0.N) (xs : Vec F S4096x256 .f32) : Vec F S4096x256 .f32 :=
  if h0 : t.val % 8 = 0 then scM0.view.read (Elt F) (firstAt m c t h0 (by omega)).2.2.1
  else if h1 : t.val % 8 = 7 then scM0.view.read (Elt F) (lastAt m c t xs h0 h1).2.2.2.1
  else scM0.view.read (Elt F) (midAt m c t xs h0 h1).2.2.1

/-- The keys' gradient at a point, from the queries' sums before it. -/
def keysOf (t : Fin cfg0.N) (xs : Vec F S4096x256 .f32) : Vec F S512x256 .bf16 :=
  let V := (ms0_7 t).view
  if h0 : t.val % 8 = 0 then V.read (Elt F) (V.writes (Elt F) V.junk (firstAt m c t h0 (by omega)).1)
  else if h1 : t.val % 8 = 7 then V.read (Elt F) (V.writes (Elt F) V.junk (lastAt m c t xs h0 h1).2.1)
  else V.read (Elt F) (V.writes (Elt F) V.junk (midAt m c t xs h0 h1).1)

/-- The values' gradient at a point, from the queries' sums before it. -/
def valsOf (t : Fin cfg0.N) (xs : Vec F S4096x256 .f32) : Vec F S512x128 .bf16 :=
  let V := (ms0_8 t).view
  if h0 : t.val % 8 = 0 then V.read (Elt F) (V.writes (Elt F) V.junk (firstAt m c t h0 (by omega)).2.1)
  else if h1 : t.val % 8 = 7 then V.read (Elt F) (V.writes (Elt F) V.junk (lastAt m c t xs h0 h1).2.2.1)
  else V.read (Elt F) (V.writes (Elt F) V.junk (midAt m c t xs h0 h1).2.1)

theorem sumsOf_first (t : Fin cfg0.N) (xs) (h0 : t.val % 8 = 0) (h1 : ¬ t.val % 8 = 7) : sumsOf m c t xs = scM0.view.read (Elt F) (firstAt m c t h0 h1).2.2.1 := by
  unfold sumsOf; exact dif_pos h0
theorem sumsOf_mid (t : Fin cfg0.N) (xs) (h0 : ¬ t.val % 8 = 0) (h1 : ¬ t.val % 8 = 7) : sumsOf m c t xs = scM0.view.read (Elt F) (midAt m c t xs h0 h1).2.2.1 := by
  unfold sumsOf; exact (dif_neg h0).trans (dif_neg h1)
theorem sumsOf_last (t : Fin cfg0.N) (xs) (h0 : ¬ t.val % 8 = 0) (h1 : t.val % 8 = 7) : sumsOf m c t xs = scM0.view.read (Elt F) (lastAt m c t xs h0 h1).2.2.2.1 := by
  unfold sumsOf; exact (dif_neg h0).trans (dif_pos h1)
theorem keysOf_first (t : Fin cfg0.N) (xs) (h0 : t.val % 8 = 0) (h1 : ¬ t.val % 8 = 7) : keysOf m c t xs = (ms0_7 t).view.read (Elt F) ((ms0_7 t).view.writes (Elt F) (ms0_7 t).view.junk (firstAt m c t h0 h1).1) := by
  unfold keysOf; exact dif_pos h0
theorem keysOf_mid (t : Fin cfg0.N) (xs) (h0 : ¬ t.val % 8 = 0) (h1 : ¬ t.val % 8 = 7) : keysOf m c t xs = (ms0_7 t).view.read (Elt F) ((ms0_7 t).view.writes (Elt F) (ms0_7 t).view.junk (midAt m c t xs h0 h1).1) := by
  unfold keysOf; exact (dif_neg h0).trans (dif_neg h1)
theorem keysOf_last (t : Fin cfg0.N) (xs) (h0 : ¬ t.val % 8 = 0) (h1 : t.val % 8 = 7) : keysOf m c t xs = (ms0_7 t).view.read (Elt F) ((ms0_7 t).view.writes (Elt F) (ms0_7 t).view.junk (lastAt m c t xs h0 h1).2.1) := by
  unfold keysOf; exact (dif_neg h0).trans (dif_pos h1)
theorem valsOf_first (t : Fin cfg0.N) (xs) (h0 : t.val % 8 = 0) (h1 : ¬ t.val % 8 = 7) : valsOf m c t xs = (ms0_8 t).view.read (Elt F) ((ms0_8 t).view.writes (Elt F) (ms0_8 t).view.junk (firstAt m c t h0 h1).2.1) := by
  unfold valsOf; exact dif_pos h0
theorem valsOf_mid (t : Fin cfg0.N) (xs) (h0 : ¬ t.val % 8 = 0) (h1 : ¬ t.val % 8 = 7) : valsOf m c t xs = (ms0_8 t).view.read (Elt F) ((ms0_8 t).view.writes (Elt F) (ms0_8 t).view.junk (midAt m c t xs h0 h1).2.1) := by
  unfold valsOf; exact (dif_neg h0).trans (dif_neg h1)
theorem valsOf_last (t : Fin cfg0.N) (xs) (h0 : ¬ t.val % 8 = 0) (h1 : t.val % 8 = 7) : valsOf m c t xs = (ms0_8 t).view.read (Elt F) ((ms0_8 t).view.writes (Elt F) (ms0_8 t).view.junk (lastAt m c t xs h0 h1).2.2.1) := by
  unfold valsOf; exact (dif_neg h0).trans (dif_pos h1)

/-- The queries' sums before a point. -/
def sumsBefore : (n : ℕ) → n ≤ cfg0.N → Vec F S4096x256 .f32
  | 0, _ => k0_pay142
  | n + 1, hn => sumsOf m c ⟨n, hn⟩ (sumsBefore n (Nat.le_of_lt hn))

/-- The queries' sums after a point. -/
abbrev sumsAfter (t : Fin cfg0.N) : Vec F S4096x256 .f32 := sumsOf m c t (sumsBefore m c t.val (Nat.le_of_lt t.isLt))

/-- Before the first point the queries' sums hold anything, before a later one what the point before left. -/
def PhiS : (n : ℕ) → n ≤ cfg0.N → sProp 𝕄
  | 0, _ => Pipeline.ΦA spec0 c
  | n + 1, hn => iprop(owns (c : Thread nD τ) scM0 fullShare (sumsBefore m c (n + 1) hn) ∗ (∃ r, prngReg c r))

theorem PhiS_pos (n : ℕ) (h : n ≤ cfg0.N) (hz : n ≠ 0) :
    PhiS m c n h = iprop(owns (c : Thread nD τ) scM0 fullShare (sumsBefore m c n h) ∗ (∃ r, prngReg c r)) := by
  cases n with
  | zero => exact absurd rfl hz
  | succ n => rfl

/-- Before any point the queries' sums hold something. -/
theorem PhiS_any (n : ℕ) (h : n ≤ cfg0.N) :
    PhiS m c n h ⊢ iprop(iprop(∃ d, owns (c : Thread nD τ) scM0 fullShare d) ∗ (∃ r, prngReg c r)) := by
  cases n with
  | zero => rw [← PhiA0_eq]; exact Idealize.SL.BI.Entails.refl _
  | succ n =>
    unfold PhiS
    iintro ⟨HS, Hg⟩
    isplitl [HS]
    · iexists _; iexact HS
    iexact Hg

/-- The proof data: the arrays as the region finds them, what each window's buffer holds after a point, and the queries' sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay1 (sumsAfter m c t)
    | ⟨7, _⟩ => keysOf m c t (sumsBefore m c t.val (Nat.le_of_lt t.isLt))
    | ⟨8, _⟩ => valsOf m c t (sumsBefore m c t.val (Nat.le_of_lt t.isLt))
  Φ t := PhiS m c t.val (Nat.le_of_lt_succ t.isLt)
  q _ := fullShare
  owed _ := 0

theorem A_eq (w : Fin cfg0.W) : (dats m 0 c).A w = V m c (Pipeline.arrRef spec0 w) := by
  dsimp only [dats]

theorem PhiS_castSucc (t : Fin cfg0.N) : (dats m 0 c).Φ t.castSucc = PhiS m c t.val (Nat.le_of_lt t.isLt) := by
  dsimp only [dats]; exact Pipeline.Dat.Φ_castSucc (PhiS m c) t

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = k0_pay1 (sumsAfter m c t) := by dsimp only [dats]
theorem after0_7 (t : Fin cfg0.N) : (dats m 0 c).after 7 t = keysOf m c t (sumsBefore m c t.val (Nat.le_of_lt t.isLt)) := by dsimp only [dats]
theorem after0_8 (t : Fin cfg0.N) : (dats m 0 c).after 8 t = valsOf m c t (sumsBefore m c t.val (Nat.le_of_lt t.isLt)) := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d

/-- What the body is called with at a point. -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t
    ∗ owns (c : Thread nD τ) (ms0_7 t) fullShare ((dats m 0 c).after 7 t)
    ∗ owns (c : Thread nD τ) (ms0_8 t) fullShare ((dats m 0 c).after 8 t))

set_option maxHeartbeats 4000000 in
/-- The body at any point: the run of the case that the point is in. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = iprop(owns (c : Thread nD τ) scM0 fullShare (sumsAfter m c t) ∗ (∃ r, prngReg c r)) from rfl,
    show (dats m 0 c).owesAt () t.succ = (dats m 0 c).owesAt () t.castSucc from rfl, PhiS_castSucc,
    after0_0, after0_1, after0_2, after0_3, after0_4, after0_5, after0_7, after0_8]
  by_cases h0 : t.val % 8 = 0
  · have h1 : ¬ t.val % 8 = 7 := by omega
    rw [(dats m 0 c).leavesExact_idle 6 t (by rw [idle6, beq_false_of_ne (fun h => h1 ((hcond0_1 t).mp h))]; rfl)
      (Bool.eq_false_iff.mpr fun h => h1 ((flush0_6 t).mp h))]
    refine (sep_mono (PhiS_any m c _ _) .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstAt m c t h0 h1).2.2.2 Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H7]; · iexists _; iexact H7
    isplitl [H8]; · iexists _; iexact H8
    isplitl [HS]; · iexact HS
    iintro ⟨⟨H0, H1, H2, H3, H4, H5⟩, ⟨%e7, H7⟩, ⟨%e8, H8⟩, HS⟩
    isplitl [HS Hg]
    · isplitl [HS]
      · unfold owns; iexists _; isplitr
        swap; · iexact HS
        ipureintro; exact (sumsOf_first m c t _ h0 h1).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]
    · unfold owns; iexists _; isplitr
      swap; · iexact H7
      ipureintro
      exact (View.read_writes_of_cover _ _ _ _ _ (View.cover_of_tiledL (firstAt m c t h0 h1).1 S512x128.size (by sl_kernel_rfl))).trans (keysOf_first m c t _ h0 h1).symm
    unfold owns; iexists _; isplitr
    swap; · iexact H8
    ipureintro
    exact (View.read_writes_of_cover _ _ _ _ _ (View.cover_of_tiledL (firstAt m c t h0 h1).2.1 S512x128.size (by sl_kernel_rfl))).trans (valsOf_first m c t _ h0 h1).symm
  · by_cases h1 : t.val % 8 = 7
    · rw [show (dats m 0 c).leavesExact 6 t = owns (c : Thread nD τ) (ms0_6 t) fullShare ((dats m 0 c).after 6 t) from by
        unfold Dat.leavesExact; rw [idle6, beq_iff_eq.mpr ((hcond0_1 t).mpr h1)]; rfl, after0_6]
      rw [PhiS_pos m c t.val (Nat.le_of_lt t.isLt) (by omega)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((lastAt m c t _ h0 h1).2.2.2.2 Set.univ _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [H8]; · iexists _; iexact H8
      isplitl [HS]; · iexact HS
      iintro ⟨⟨H0, H1, H2, H3, H4, H5⟩, ⟨%e6, H6⟩, ⟨%e7, H7⟩, ⟨%e8, H8⟩, HS⟩
      isplitl [HS Hg]
      · isplitl [HS]
        · unfold owns; iexists _; isplitr
          swap; · iexact HS
          ipureintro; exact (sumsOf_last m c t _ h0 h1).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro
        refine (View.read_writes_full _ _ _ _ _).trans ?_
        refine congrArg k0_pay1 ((View.readAt_full _ _ _).trans ?_)
        exact (sumsOf_last m c t _ h0 h1).symm
      isplitl [H7]
      · unfold owns; iexists _; isplitr
        swap; · iexact H7
        ipureintro
        exact (View.read_writes_of_cover _ _ _ _ _ (View.cover_of_tiledL (lastAt m c t _ h0 h1).2.1 S512x128.size (by sl_kernel_rfl))).trans (keysOf_last m c t _ h0 h1).symm
      unfold owns; iexists _; isplitr
      swap; · iexact H8
      ipureintro
      exact (View.read_writes_of_cover _ _ _ _ _ (View.cover_of_tiledL (lastAt m c t _ h0 h1).2.2.1 S512x128.size (by sl_kernel_rfl))).trans (valsOf_last m c t _ h0 h1).symm
    · rw [(dats m 0 c).leavesExact_idle 6 t (by rw [idle6, beq_false_of_ne (fun h => h1 ((hcond0_1 t).mp h))]; rfl)
        (Bool.eq_false_iff.mpr fun h => h1 ((flush0_6 t).mp h))]
      rw [PhiS_pos m c t.val (Nat.le_of_lt t.isLt) (by omega)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((midAt m c t _ h0 h1).2.2.2 Set.univ _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H7]; · iexists _; iexact H7
      isplitl [H8]; · iexists _; iexact H8
      isplitl [HS]; · iexact HS
      iintro ⟨⟨H0, H1, H2, H3, H4, H5⟩, ⟨%e7, H7⟩, ⟨%e8, H8⟩, HS⟩
      isplitl [HS Hg]
      · isplitl [HS]
        · unfold owns; iexists _; isplitr
          swap; · iexact HS
          ipureintro; exact (sumsOf_mid m c t _ h0 h1).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      isplitl [H7]
      · unfold owns; iexists _; isplitr
        swap; · iexact H7
        ipureintro
        exact (View.read_writes_of_cover _ _ _ _ _ (View.cover_of_tiledL (midAt m c t _ h0 h1).1 S512x128.size (by sl_kernel_rfl))).trans (keysOf_mid m c t _ h0 h1).symm
      unfold owns; iexists _; isplitr
      swap; · iexact H8
      ipureintro
      exact (View.read_writes_of_cover _ _ _ _ _ (View.cover_of_tiledL (midAt m c t _ h0 h1).2.1 S512x128.size (by sl_kernel_rfl))).trans (valsOf_mid m c t _ h0 h1).symm

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-- After the last point the invariant gives back what the launch handed over. -/
theorem hout : (dats m 0 c).Φ (Fin.last cfg0.N) ⊢ Pipeline.ΦA spec0 c := by
  rw [PhiA0_eq]
  exact PhiS_any m c cfg0.N (Nat.le_refl _)

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl) (hout := hout m)

/-- The launch: every array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnKernelIdeal.Gen

end
-- ==== Proof.AttnStep.lean ====
module

public import proofs.«01_k».proof.Proof.AttnFrame
public import Idealize.ShloMosaic.Lib.VecWindow

/-! One step of the attention's backward kernel, a block of 512 queries against a block of 512 keys, on plain arrays; the
    trips of the kernel's loops are such steps. Stated over any arithmetic. -/

@[expose] public section

set_option maxRecDepth 16384

noncomputable section

namespace Cert.AttnKernelIdeal.Gen

open Idealize.ShloMosaic Idealize.ShloMosaic.TcCoe Idealize.ShloMosaic.Tactic

variable {F : FTy → Type} [FloatOps F] [Named F]

/-- The lanes of one of the two heads, the other's at zero: `v5` numbers the lanes, `h` is the head. -/
def headLanes (v5 : IVec S512x128 32) (h : BitVec 32) (x : FVec F S512x128 .f32) : FVec F S512x128 .f32 :=
  select (cmpi .eq
    (select
      (andi
        (cmpi .ne
          (subi (extui 32 (cmpi .sgt v5 (broadcast S512x128 0#32)) natLt_1_32) (extui 32 (cmpi .slt v5 (broadcast S512x128 0#32)) natLt_1_32))
          (broadcast S512x128 (Scalar.subi (Scalar.extui (Scalar.cmpi .sgt 64#32 0#32)) (Scalar.extui (Scalar.cmpi .slt 64#32 0#32)))))
        (cmpi .ne (remsi v5 (broadcast S512x128 64#32)) (broadcast S512x128 0#32)))
      (subi (divsi v5 (broadcast S512x128 64#32)) (broadcast S512x128 1#32))
      (divsi v5 (broadcast S512x128 64#32)))
    (broadcast S512x128 h)) x (broadcast S512x128 (Scalar.ofBits .f32 0x00000000#32))

/-- The scores of a block, those of later keys masked on the diagonal. -/
def scores (masked : Bool) (q k : FVec F S512x128 .bf16) : FVec F S512x512 .f32 :=
  let s := matmul dot_S512x128_S512x128_S512x512_1_1_0_0_n_n none (shapeCast S512x128 q shapeCasts_S512x128_S512x128)
    (shapeCast S512x128 k shapeCasts_S512x128_S512x128) (constant S512x512 .f32 0x00000000#32)
  match masked with
  | true => select (cmpi .sle (iota .tc S512x512 32 [1] iota_S512x512_d1_w32) (iota .tc S512x512 32 [0] iota_S512x512_d0_w32)) s
      (broadcast S512x512 (Named.named κ "mask" 0xF149F2CA#32 : F .f32))
  | false => s

/-- The probabilities of a block. -/
def probs (masked : Bool) (q k : FVec F S512x128 .bf16) (lse : FVec F S512x128 .f32) : FVec F S512x512 .f32 :=
  exp2 (subf (mulf (scores masked q k) (broadcast S512x512 (Named.named κ "scale_log2e" 0x3E16C740#32 : F .f32)))
    (broadcastTo S512x512
      (mulf (extractStridedSlice S512x1 ![0, 0] (shapeCast S512x128 lse shapeCasts_S512x128_S512x128) slices_S512x128_o0_0_S512x1)
        (broadcast S512x1 (Named.named κ "log2e" 0x3FB8AA3B#32 : F .f32)))
      broadcasts_S512x1_S512x512))

/-- The scores' gradient of a block: `dh` are the head's lanes of the cotangent. -/
def dScores (masked : Bool) (q k : FVec F S512x128 .bf16) (lse : FVec F S512x128 .f32) (dh o : FVec F S512x128 .f32)
    (v : FVec F S512x128 .bf16) : FVec F S512x512 .bf16 :=
  truncf .bf16
    (mulf
      (mulf (probs masked q k lse)
        (subf
          (matmul dot_S512x128_S512x128_S512x512_1_1_0_0_n_n none (truncf .bf16 dh bitsLt_bf16_f32)
            (shapeCast S512x128 v shapeCasts_S512x128_S512x128) (constant S512x512 .f32 0x00000000#32))
          (broadcastTo S512x512
            (shapeCast S512x1
              (multiReduction .add [1] S512 (mulf dh (shapeCast S512x128 o shapeCasts_S512x128_S512x128)) 0x00000000#32 reduces_S512x128_S512 (.inl rfl) rfl)
              shapeCasts_S512_S512x1)
            broadcasts_S512x1_S512x512)))
      (broadcast S512x512 (Named.named κ "scale" 0x3DD105EC#32 : F .f32)))
    bitsLt_bf16_f32

/-- The keys' sums after a block. -/
def keysStep (ds : FVec F S512x512 .bf16) (q : FVec F S512x128 .bf16) (acc : FVec F S512x128 .f32) : FVec F S512x128 .f32 :=
  addf acc (matmul dot_S512x512_S512x128_S512x128_0_0_1_1_n_n none ds (shapeCast S512x128 q shapeCasts_S512x128_S512x128)
    (constant S512x128 .f32 0x00000000#32))

/-- The values' sums after a block. -/
def valsStep (p : FVec F S512x512 .f32) (dh : FVec F S512x128 .f32) (acc : FVec F S512x128 .f32) : FVec F S512x128 .f32 :=
  addf acc (matmul dot_S512x512_S512x128_S512x128_0_0_1_1_n_n none (truncf .bf16 p bitsLt_bf16_f32) (truncf .bf16 dh bitsLt_bf16_f32)
    (constant S512x128 .f32 0x00000000#32))

/-- The queries' sums after a block. -/
def queriesStep (ds : FVec F S512x512 .bf16) (k : FVec F S512x128 .bf16) (acc : FVec F S512x128 .f32) : FVec F S512x128 .f32 :=
  shapeCast S512x128
    (addf acc (matmul dot_S512x512_S512x128_S512x128_1_0_0_1_n_n none ds (shapeCast S512x128 k shapeCasts_S512x128_S512x128)
      (constant S512x128 .f32 0x00000000#32)))
    shapeCasts_S512x128_S512x128

/-- The numbers of the lanes. -/
abbrev laneIota : IVec S512x128 32 := iota .tc S512x128 32 [1] iota_S512x128_d1_w32

/-- A head's half of a block of 512 rows. -/
abbrev half {e : EltTy} (x : Vec F S4096x256 e) (n : ℕ) (hn : n < 8) (h : Fin 2) : Vec F S512x128 e :=
  VecWindow.window x ![512 * n, 128 * h.val] S512x128.size (fun a => by
    match a with
    | ⟨0, _⟩ => show 512 * n + 512 ≤ 4096; omega
    | ⟨1, _⟩ => show 128 * h.val + 128 ≤ 256; omega)

/-- A block of 512 rows. -/
abbrev rows {e : EltTy} (x : Vec F S4096x128 e) (n : ℕ) (hn : n < 8) : Vec F S512x128 e :=
  VecWindow.window x ![512 * n, 0] S512x128.size (fun a => by
    match a with
    | ⟨0, _⟩ => show 512 * n + 512 ≤ 4096; omega
    | ⟨1, _⟩ => show 0 + 128 ≤ 128; omega)

/-- A head's half of the keys' block. -/
abbrev keyHalf {e : EltTy} (x : Vec F S512x256 e) (h : Fin 2) : Vec F S512x128 e :=
  VecWindow.window x ![0, 128 * h.val] S512x128.size (fun a => by
    match a with
    | ⟨0, _⟩ => show 0 + 512 ≤ 512; omega
    | ⟨1, _⟩ => show 128 * h.val + 128 ≤ 256; omega)

section Step

variable (x0 : Vec F S4096x256 .bf16) (x1 : Vec F S512x256 .bf16) (x2 : Vec F S512x128 .bf16)
  (x3 : Vec F S4096x128 .f32) (x4 : Vec F S4096x256 .f32) (x5 : Vec F S4096x128 .f32)

/-- The head's lanes of the cotangent's block. -/
abbrev dOut (n : ℕ) (hn : n < 8) (h : Fin 2) : FVec F S512x128 .f32 := headLanes laneIota (BitVec.ofNat 32 h.val) (rows x5 n hn)

/-- A head's probabilities of a block. -/
abbrev pAt (masked : Bool) (n : ℕ) (hn : n < 8) (h : Fin 2) : FVec F S512x512 .f32 :=
  probs masked (half x0 n hn h) (keyHalf x1 h) (half x4 n hn h)

/-- A head's scores' gradient of a block. -/
abbrev dsAt (masked : Bool) (n : ℕ) (hn : n < 8) (h : Fin 2) : FVec F S512x512 .bf16 :=
  dScores masked (half x0 n hn h) (keyHalf x1 h) (half x4 n hn h) (dOut x5 n hn h) (rows x3 n hn) x2

/-- What a step carries: the sums of the two heads' keys, of the values, and of the queries. -/
abbrev StepState (F : FTy → Type) : Type := Carry F × Vec F S4096x256 .f32

/-- The queries' sums after one head's half of a block. -/
def queriesPut (masked : Bool) (n : ℕ) (hn : n < 8) (h : Fin 2) (dq : Vec F S4096x256 .f32) : Vec F S4096x256 .f32 :=
  VecWindow.put dq ![512 * n, 128 * h.val] S512x128.size
    (queriesStep (dsAt x0 x1 x2 x3 x4 x5 masked n hn h) (keyHalf x1 h) (half dq n hn h))

/-- The step of a block. -/
def stepV (masked : Bool) (n : ℕ) (hn : n < 8) (s : StepState F) : StepState F :=
  ((keysStep (dsAt x0 x1 x2 x3 x4 x5 masked n hn 0) (half x0 n hn 0) s.1.1,
    keysStep (dsAt x0 x1 x2 x3 x4 x5 masked n hn 1) (half x0 n hn 1) s.1.2.1,
    valsStep (pAt x0 x1 x4 masked n hn 1) (dOut x5 n hn 1) (valsStep (pAt x0 x1 x4 masked n hn 0) (dOut x5 n hn 0) s.1.2.2)),
    queriesPut x0 x1 x2 x3 x4 x5 masked n hn 1 (queriesPut x0 x1 x2 x3 x4 x5 masked n hn 0 s.2))

end Step

section Trips

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .f32) (harg5 : arg5.IsWhole)
  (arg6 : Memref sig .tc .vmem S4096x256 .f32) (harg6 : arg6.IsWhole) (arg7 : Memref sig .tc .vmem S4096x128 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S512x128 .bf16) (harg10 : arg10.IsWhole) (arg11 : Memref sig .tc .vmem S4096x256 .f32) (harg11 : arg11.IsWhole)
  (arg1 : BitVec 32) (v80 : FVec F S512x128 .f32) (v150 : FVec F S512x128 .f32) (v152 : FVec F S512x128 .f32)
  (v161 c2 v162 v167 v169 c0 : BitVec 32)
  (x0 : Vec F S4096x256 .bf16) (x1 : Vec F S512x256 .bf16) (x2 : Vec F S512x128 .bf16)
  (x3 : Vec F S4096x128 .f32) (x4 : Vec F S4096x256 .f32) (x5 : Vec F S4096x128 .f32)

/-- A trip of the loop over pairs of query blocks, at the blocks' arrays. -/
abbrev pairTripAt (𝒱 : Variants) (bd : Option 𝒱.V) (k : Fin (k0_t1_loop i).trips) :=
  pairTrip (F := F) c i arg2 harg2 arg3 harg3 arg4 harg4 arg5 harg5 arg6 harg6 arg7 harg7 arg8 harg8 arg9 harg9 arg10 harg10
      arg11 harg11 arg1 laneIota v80 v150 v152 v161 c2 v162 v167 v169 c0 (harg2.unread x0) (harg3.unread x1) (harg4.unread x2)
      (harg5.unread x3) (harg6.unread x4) (harg7.unread x5) 𝒱 bd k

omit [Named F] in
/-- A load from a whole buffer is a window of what it holds. -/
theorem window_eq {s : Shape} {e : EltTy} {arg : Memref sig .tc .vmem s e} (f : BufTy.Contents (Elt F) arg.view.ty) (x : Vec F s e)
    (hx : arg.view.read (Elt F) f = x)
    {off off' size : Fin s.rank → ℕ} (he : off = off') (inb' : ∀ a, off' a + size a ≤ s.size a) :
    VecWindow.window x off' size inb' = arg.view.readAt (Elt F) (Rect.unit off size (by rw [he]; exact inb')).toLoadRect f := by
  rw [View.readAt_unit arg.view _ _ he inb', hx]

omit [Named F] in
/-- A load of a whole buffer is what it holds. -/
theorem whole_eq (x : Vec F S512x128 .bf16) :
    x = arg4.view.readAt (Elt F) (Rect.unit ![0, 0] S512x128.size inb_S512x128_S512x128_0_0).toLoadRect (harg4.unread x) := by
  rw [View.readAt_full, harg4.read_unread]

omit [Named F] in
/-- A put of the other half does not change a half. -/
theorem half_put_half (dq : Vec F S4096x256 .f32) (n : ℕ) (hn : n < 8) (w) :
    half (VecWindow.put dq ![512 * n, 128 * (0 : Fin 2).val] S512x128.size w) n hn 1 = half dq n hn 1 :=
  VecWindow.window_put_of_disjoint _ _ _ _ _ _ _ 1 (Or.inr (Nat.le_refl 128))

omit [Named F] in
/-- A put of another block does not change a half. -/
theorem half_put_rows (dq : Vec F S4096x256 .f32) (n n' : ℕ) (hn' : n' < 8) (h h' : Fin 2) (w) (hne : n < n') :
    half (VecWindow.put dq ![512 * n, 128 * h.val] S512x128.size w) n' hn' h' = half dq n' hn' h' :=
  VecWindow.window_put_of_disjoint _ _ _ _ _ _ _ 0 (Or.inr (by show 512 * n + 512 ≤ 512 * n'; omega))

theorem pair_bound : ∀ (i : grid0.Coords) (k : Fin (k0_t1_loop i).trips), (i 1).val + 2 + 2 * k.val < 8 := by decide +kernel
theorem pair_bound' (i : grid0.Coords) (k : Fin (k0_t1_loop i).trips) : (i 1).val + 1 + 2 * k.val < 8 := by have := pair_bound i k; omega

set_option maxHeartbeats 4000000 in
/-- A trip carries two steps' sums of the keys and the values. -/
theorem pairTrip_carry (𝒱 : Variants) (bd : Option 𝒱.V) (k : Fin (k0_t1_loop i).trips) (acc : Carry F)
    (f : BufTy.Contents (Elt F) arg11.view.ty) (dq : Vec F S4096x256 .f32) :
    (pairTripAt c i arg2 harg2 arg3 harg3 arg4 harg4 arg5 harg5 arg6 harg6 arg7 harg7 arg8 harg8 arg9 harg9 arg10 harg10
      arg11 harg11 arg1 v80 v150 v152 v161 c2 v162 v167 v169 c0 x0 x1 x2 x3 x4 x5 𝒱 bd k).1 acc f
      = (stepV x0 x1 x2 x3 x4 x5 false ((i 1).val + 2 + 2 * k.val) (pair_bound i k)
          (stepV x0 x1 x2 x3 x4 x5 false ((i 1).val + 1 + 2 * k.val) (pair_bound' i k) (acc, dq))).1 := by
  unfold pairTripAt pairTrip
  dsimp only
  simp only [stepV, dsAt, pAt, dOut]
  rw [(show half x0 ((i 1).val + 1 + 2 * k.val) (pair_bound' i k) 0 = _ from window_eq (arg := arg2) _ _ (harg2.read_unread _) (k0_off5_one i k) _),
    (show half x4 ((i 1).val + 1 + 2 * k.val) (pair_bound' i k) 0 = _ from window_eq (arg := arg6) _ _ (harg6.read_unread _) (k0_off5_one i k) _),
    (show half x0 ((i 1).val + 1 + 2 * k.val) (pair_bound' i k) 1 = _ from window_eq (arg := arg2) _ _ (harg2.read_unread _) (k0_off6_one i k) _),
    (show half x4 ((i 1).val + 1 + 2 * k.val) (pair_bound' i k) 1 = _ from window_eq (arg := arg6) _ _ (harg6.read_unread _) (k0_off6_one i k) _),
    (show rows x3 ((i 1).val + 1 + 2 * k.val) (pair_bound' i k) = _ from window_eq (arg := arg5) _ _ (harg5.read_unread _) (k0_off4_one i k) _),
    (show rows x5 ((i 1).val + 1 + 2 * k.val) (pair_bound' i k) = _ from window_eq (arg := arg7) _ _ (harg7.read_unread _) (k0_off4_one i k) _),
    (show half x0 ((i 1).val + 2 + 2 * k.val) (pair_bound i k) 0 = _ from window_eq (arg := arg2) _ _ (harg2.read_unread _) (k0_off5_two i k) _),
    (show half x4 ((i 1).val + 2 + 2 * k.val) (pair_bound i k) 0 = _ from window_eq (arg := arg6) _ _ (harg6.read_unread _) (k0_off5_two i k) _),
    (show half x0 ((i 1).val + 2 + 2 * k.val) (pair_bound i k) 1 = _ from window_eq (arg := arg2) _ _ (harg2.read_unread _) (k0_off6_two i k) _),
    (show half x4 ((i 1).val + 2 + 2 * k.val) (pair_bound i k) 1 = _ from window_eq (arg := arg6) _ _ (harg6.read_unread _) (k0_off6_two i k) _),
    (show rows x3 ((i 1).val + 2 + 2 * k.val) (pair_bound i k) = _ from window_eq (arg := arg5) _ _ (harg5.read_unread _) (k0_off4_two i k) _),
    (show rows x5 ((i 1).val + 2 + 2 * k.val) (pair_bound i k) = _ from window_eq (arg := arg7) _ _ (harg7.read_unread _) (k0_off4_two i k) _),
    (show keyHalf x1 0 = _ from window_eq (arg := arg3) (off := ![0, 0]) _ _ (harg3.read_unread _) rfl _),
    (show keyHalf x1 1 = _ from window_eq (arg := arg3) (off := ![0, 128]) _ _ (harg3.read_unread _) rfl _)]
  conv_rhs => rw [whole_eq arg4 harg4 x2]
  rfl

set_option maxHeartbeats 4000000 in
/-- A trip writes two steps' sums of the queries. -/
theorem pairTrip_queries (𝒱 : Variants) (bd : Option 𝒱.V) (k : Fin (k0_t1_loop i).trips) (acc : Carry F)
    (f : BufTy.Contents (Elt F) arg11.view.ty) (dq : Vec F S4096x256 .f32) (hf : arg11.view.read (Elt F) f = dq) :
    arg11.view.read (Elt F) (arg11.view.writes (Elt F) f ((pairTripAt c i arg2 harg2 arg3 harg3 arg4 harg4 arg5 harg5 arg6 harg6 arg7 harg7 arg8 harg8 arg9 harg9 arg10 harg10
      arg11 harg11 arg1 v80 v150 v152 v161 c2 v162 v167 v169 c0 x0 x1 x2 x3 x4 x5 𝒱 bd k).2.1 acc f))
      = (stepV x0 x1 x2 x3 x4 x5 false ((i 1).val + 2 + 2 * k.val) (pair_bound i k)
          (stepV x0 x1 x2 x3 x4 x5 false ((i 1).val + 1 + 2 * k.val) (pair_bound' i k) (acc, dq))).2 := by
  have hlt : (i 1).val + 1 + 2 * k.val < (i 1).val + 2 + 2 * k.val := by omega
  unfold pairTripAt pairTrip
  dsimp only
  simp only [stepV, queriesPut]
  rw [half_put_half, half_put_rows _ _ _ _ 1 0 _ hlt, half_put_rows _ _ _ _ 0 0 _ hlt, half_put_half,
    half_put_rows _ _ _ _ 1 1 _ hlt, half_put_rows _ _ _ _ 0 1 _ hlt]
  rw [View.read_writes_cons_put _ _ _ _ _ (k0_off6_two i k), View.read_writes_cons_put _ _ _ _ _ (k0_off5_two i k),
    View.read_writes_cons_put _ _ _ _ _ (k0_off6_one i k), View.read_writes_cons_put _ _ _ _ _ (k0_off5_one i k), View.writes_nil, hf]
  simp only [dsAt, pAt, dOut]
  rw [(show half x0 ((i 1).val + 1 + 2 * k.val) (pair_bound' i k) 0 = _ from window_eq (arg := arg2) _ _ (harg2.read_unread _) (k0_off5_one i k) _),
    (show half x4 ((i 1).val + 1 + 2 * k.val) (pair_bound' i k) 0 = _ from window_eq (arg := arg6) _ _ (harg6.read_unread _) (k0_off5_one i k) _),
    (show half x0 ((i 1).val + 1 + 2 * k.val) (pair_bound' i k) 1 = _ from window_eq (arg := arg2) _ _ (harg2.read_unread _) (k0_off6_one i k) _),
    (show half x4 ((i 1).val + 1 + 2 * k.val) (pair_bound' i k) 1 = _ from window_eq (arg := arg6) _ _ (harg6.read_unread _) (k0_off6_one i k) _),
    (show rows x3 ((i 1).val + 1 + 2 * k.val) (pair_bound' i k) = _ from window_eq (arg := arg5) _ _ (harg5.read_unread _) (k0_off4_one i k) _),
    (show rows x5 ((i 1).val + 1 + 2 * k.val) (pair_bound' i k) = _ from window_eq (arg := arg7) _ _ (harg7.read_unread _) (k0_off4_one i k) _),
    (show half x0 ((i 1).val + 2 + 2 * k.val) (pair_bound i k) 0 = _ from window_eq (arg := arg2) _ _ (harg2.read_unread _) (k0_off5_two i k) _),
    (show half x4 ((i 1).val + 2 + 2 * k.val) (pair_bound i k) 0 = _ from window_eq (arg := arg6) _ _ (harg6.read_unread _) (k0_off5_two i k) _),
    (show half x0 ((i 1).val + 2 + 2 * k.val) (pair_bound i k) 1 = _ from window_eq (arg := arg2) _ _ (harg2.read_unread _) (k0_off6_two i k) _),
    (show half x4 ((i 1).val + 2 + 2 * k.val) (pair_bound i k) 1 = _ from window_eq (arg := arg6) _ _ (harg6.read_unread _) (k0_off6_two i k) _),
    (show rows x3 ((i 1).val + 2 + 2 * k.val) (pair_bound i k) = _ from window_eq (arg := arg5) _ _ (harg5.read_unread _) (k0_off4_two i k) _),
    (show rows x5 ((i 1).val + 2 + 2 * k.val) (pair_bound i k) = _ from window_eq (arg := arg7) _ _ (harg7.read_unread _) (k0_off4_two i k) _),
    (show keyHalf x1 0 = _ from window_eq (arg := arg3) (off := ![0, 0]) _ _ (harg3.read_unread _) rfl _),
    (show keyHalf x1 1 = _ from window_eq (arg := arg3) (off := ![0, 128]) _ _ (harg3.read_unread _) rfl _)]
  conv_rhs => rw [whole_eq arg4 harg4 x2]
  rw [(show half dq ((i 1).val + 1 + 2 * k.val) (pair_bound' i k) 0 = _ from window_eq (arg := arg11) f _ hf (k0_off5_one i k) _),
    (show half dq ((i 1).val + 1 + 2 * k.val) (pair_bound' i k) 1 = _ from window_eq (arg := arg11) f _ hf (k0_off6_one i k) _),
    (show half dq ((i 1).val + 2 + 2 * k.val) (pair_bound i k) 0 = _ from window_eq (arg := arg11) f _ hf (k0_off5_two i k) _),
    (show half dq ((i 1).val + 2 + 2 * k.val) (pair_bound i k) 1 = _ from window_eq (arg := arg11) f _ hf (k0_off6_two i k) _)]
  rfl

end Trips

end Cert.AttnKernelIdeal.Gen

end
-- ==== Proof.AttnArith.lean ====
/- One step of the attention's backward kernel over the real numbers: a block of 512 queries against a block of 512 keys. -/
module

public import proofs.«01_k».proof.Proof.AttnStep
public import Idealize.ShloMosaic.Lib.Pipeline.ValueKit

@[expose] public section

set_option maxRecDepth 16384

noncomputable section

namespace Cert.Attn

open Idealize.ShloMosaic Idealize.ShloMosaic.TcCoe
open Cert.AttnKernelIdeal Cert.AttnKernelIdeal.Gen

/-- A matrix of real numbers as an array: entry `(r, l)` is `f r l`. -/
def lift {a b : ℕ} {φ : FTy} (f : ℕ → ℕ → ℝ) : FVec Ideal ⟨2, ![a, b]⟩ φ := fun y => ((f (y 0).val (y 1).val : ℝ) : EReal)

theorem lift_ix2 {a b : ℕ} {φ : FTy} (f : ℕ → ℕ → ℝ) (r : Fin a) (l : Fin b) :
    lift (φ := φ) f (ix2 r l) = ((f r.val l.val : ℝ) : EReal) := rfl

/-- A finite sum of real numbers is the real sum. -/
theorem sum_coe {n : ℕ} (f : ℕ → ℝ) : (∑ i : Fin n, ((f i.val : ℝ) : EReal)) = ((∑ i ∈ Finset.range n, f i : ℝ) : EReal) := by
  rw [Finset.sum_range]
  induction (Finset.univ : Finset (Fin n)) using Finset.induction_on with
  | empty => simp
  | insert a s ha ih => rw [Finset.sum_insert ha, Finset.sum_insert ha, ih, EReal.coe_add]

/-- The scale of the scores. -/
abbrev scale : ℝ := (Real.sqrt 96)⁻¹
/-- The base-two logarithm of `e`. -/
abbrev log2e : ℝ := (Real.log 2)⁻¹

/-- A score. -/
def score (q k : ℕ → ℕ → ℝ) (r c : ℕ) : ℝ := ∑ l ∈ Finset.range 128, q r l * k c l

/-- A key is seen by a query: on the diagonal block, no later key is. -/
def sees (masked : Bool) (r c : ℕ) : Prop := masked = true → c ≤ r

open Classical in
/-- A probability. -/
def prob (masked : Bool) (q k L : ℕ → ℕ → ℝ) (r c : ℕ) : ℝ :=
  if sees masked r c then Real.rpow 2 (score q k r c * (scale * log2e) - L r 0 * log2e) else 0

/-- A score's gradient. -/
def dScore (masked : Bool) (q k L dh o v : ℕ → ℕ → ℝ) (r c : ℕ) : ℝ :=
  prob masked q k L r c * ((∑ l ∈ Finset.range 128, dh r l * v c l) - ∑ l ∈ Finset.range 128, dh r l * o r l) * scale

theorem mask_word : Named.named (F := Ideal) κ "mask" (φ := .f32) 0xF149F2CA#32 = ⊥ :=
  IdealRules.named_const.ideal_named_scalar _ _ _ _ rfl
theorem scale_word : Named.named (F := Ideal) κ "scale" (φ := .f32) 0x3DD105EC#32 = ((scale : ℝ) : EReal) :=
  IdealRules.named_const.ideal_named_scalar _ _ _ _ rfl
theorem log2e_word : Named.named (F := Ideal) κ "log2e" (φ := .f32) 0x3FB8AA3B#32 = ((log2e : ℝ) : EReal) :=
  IdealRules.named_const.ideal_named_scalar _ _ _ _ rfl
theorem scale_log2e_word : Named.named (F := Ideal) κ "scale_log2e" (φ := .f32) 0x3E16C740#32 = ((scale * log2e : ℝ) : EReal) :=
  IdealRules.named_const.ideal_named_scalar _ _ _ _ rfl

theorem scale_pos : 0 < scale := inv_pos.mpr (Real.sqrt_pos.mpr (by norm_num))
theorem log2e_pos : 0 < log2e := inv_pos.mpr (Real.log_pos (by norm_num))

/-- The comparison of two lane numbers below 512 is the comparison of the numbers. -/
theorem sle_ofNat (c r : Fin 512) : (IntOp.cmpi .sle (BitVec.ofNat 32 c.val) (BitVec.ofNat 32 r.val) = 1) ↔ c.val ≤ r.val := by
  have h : ∀ n : Fin 512, (BitVec.ofNat 32 n.val).toInt = (n.val : ℤ) := by decide +kernel
  simp only [IntOp.cmpi, BitVec.sle, h]
  by_cases hc : c.val ≤ r.val
  · simp [hc]
  · simp [hc]

theorem scores_lift (masked : Bool) (q k : ℕ → ℕ → ℝ) (r c : Fin 512) :
    scores (F := Ideal) masked (lift q) (lift k) (ix2 r c) = if masked = true → c.val ≤ r.val then ((score q k r.val c.val : ℝ) : EReal) else ⊥ := by
  have h : (∑ x : Fin 128, lift (a := 512) (b := 128) (φ := .bf16) q (ix2 r x) * lift (a := 512) (b := 128) (φ := .bf16) k (ix2 c x))
      = ((score q k r.val c.val : ℝ) : EReal) := by
    simp only [lift_ix2, ← EReal.coe_mul]
    exact sum_coe fun l => q r.val l * k c.val l
  cases masked
  · pointwise [scores, h]
    simp
  · pointwise [scores, h, mask_word]
    unfold Scalar.select
    simp only [sle_ofNat, true_imp_iff]

open Classical in
theorem probs_lift (masked : Bool) (q k L : ℕ → ℕ → ℝ) (r c : Fin 512) :
    probs (F := Ideal) masked (lift q) (lift k) (lift L) (ix2 r c) = ((prob masked q k L r.val c.val : ℝ) : EReal) := by
  pointwise [probs, scores_lift, lift_ix2, scale_log2e_word, log2e_word]
  unfold prob sees
  split
  · rw [← EReal.coe_mul, ← EReal.coe_mul, ← EReal.coe_sub]; rfl
  · rw [EReal.bot_mul_coe_of_pos (mul_pos scale_pos log2e_pos), ← EReal.coe_mul, EReal.bot_sub]; rfl

/-- The lanes of one head of a matrix of 128 lanes. -/
def lanes (h : ℕ) (x : ℕ → ℕ → ℝ) (r l : ℕ) : ℝ := if l / 64 = h then x r l else 0

/-- Lane `l` is of head `h` where its number over 64 is `h`, as the kernel's integer arithmetic finds it. -/
theorem lane_head : ∀ (h : Fin 2) (l : Fin 128),
    (IntOp.cmpi .eq
        (Scalar.select
          (IntOp.andi
            (IntOp.cmpi .ne
              (IntOp.subi (BitVec.setWidth 32 (IntOp.cmpi .sgt (BitVec.ofNat 32 l.val) 0#32))
                (BitVec.setWidth 32 (IntOp.cmpi .slt (BitVec.ofNat 32 l.val) 0#32)))
              (Scalar.subi (Scalar.extui (Scalar.cmpi .sgt 64#32 0#32)) (Scalar.extui (Scalar.cmpi .slt 64#32 0#32))))
            (IntOp.cmpi .ne (IntOp.remsi ArithUnit.vector (BitVec.ofNat 32 l.val) 64#32) 0#32))
          (IntOp.subi (IntOp.divsi ArithUnit.vector (BitVec.ofNat 32 l.val) 64#32) 1#32)
          (IntOp.divsi ArithUnit.vector (BitVec.ofNat 32 l.val) 64#32))
        (BitVec.ofNat 32 h.val) = 1) ↔ l.val / 64 = h.val := by decide +kernel

theorem headLanes_lift (h : Fin 2) (x : ℕ → ℕ → ℝ) :
    headLanes (F := Ideal) laneIota (BitVec.ofNat 32 h.val) (lift x) = lift (lanes h.val x) := by
  funext y
  idx_vars y
  pointwise [headLanes, lift_ix2]
  refine (if_congr (lane_head h y1) rfl rfl).trans ?_
  unfold lanes
  split <;> rfl

/-- A matrix given at every entry. -/
theorem eq_lift {a b : ℕ} {φ : FTy} (x : FVec Ideal ⟨2, ![a, b]⟩ φ) (f : ℕ → ℕ → ℝ)
    (h : ∀ (r : Fin a) (l : Fin b), x (ix2 r l) = ((f r.val l.val : ℝ) : EReal)) : x = lift f := by
  funext y
  rw [eq_ix2 y]
  exact h (y 0) (y 1)

theorem dScores_lift (masked : Bool) (q k L dh o v : ℕ → ℕ → ℝ) :
    dScores (F := Ideal) masked (lift q) (lift k) (lift L) (lift dh) (lift o) (lift v) = lift (dScore masked q k L dh o v) := by
  refine eq_lift _ _ fun r c => ?_
  pointwise [dScores, probs_lift, scale_word, lift_ix2]
  simp only [← EReal.coe_mul]
  rw [sum_coe fun l => dh r.val l * v c.val l, sum_coe fun l => dh r.val l * o r.val l, ← EReal.coe_sub, ← EReal.coe_mul, ← EReal.coe_mul]
  rfl

theorem keysStep_lift (ds q acc : ℕ → ℕ → ℝ) :
    keysStep (F := Ideal) (lift ds) (lift q) (lift acc) = lift fun c l => acc c l + ∑ r ∈ Finset.range 512, ds r c * q r l := by
  refine eq_lift _ _ fun c l => ?_
  pointwise [keysStep, lift_ix2]
  simp only [← EReal.coe_mul]
  rw [sum_coe fun r => ds r c.val * q r l.val, ← EReal.coe_add]

theorem valsStep_lift (p dh acc : ℕ → ℕ → ℝ) :
    valsStep (F := Ideal) (lift p) (lift dh) (lift acc) = lift fun c l => acc c l + ∑ r ∈ Finset.range 512, p r c * dh r l := by
  refine eq_lift _ _ fun c l => ?_
  pointwise [valsStep, lift_ix2]
  simp only [← EReal.coe_mul]
  rw [sum_coe fun r => p r c.val * dh r l.val, ← EReal.coe_add]

theorem queriesStep_lift (ds k acc : ℕ → ℕ → ℝ) :
    queriesStep (F := Ideal) (lift ds) (lift k) (lift acc) = lift fun r l => acc r l + ∑ c ∈ Finset.range 512, ds r c * k c l := by
  refine eq_lift _ _ fun r l => ?_
  pointwise [queriesStep, lift_ix2]
  simp only [← EReal.coe_mul]
  rw [sum_coe fun c => ds r.val c * k c l.val, ← EReal.coe_add]

/-- A window of rows and lanes. -/
def shift (r₀ l₀ : ℕ) (x : ℕ → ℕ → ℝ) (r l : ℕ) : ℝ := x (r₀ + r) (l₀ + l)

theorem lift_congr {a b : ℕ} {φ : FTy} (f g : ℕ → ℕ → ℝ) (h : ∀ r < a, ∀ l < b, f r l = g r l) :
    lift (a := a) (b := b) (φ := φ) f = lift g := by
  funext y
  exact congrArg _ (h _ (y 0).isLt _ (y 1).isLt)

theorem window_lift {a b a' b' : ℕ} {φ : FTy} (x : ℕ → ℕ → ℝ) (r₀ l₀ : ℕ)
    (inb : ∀ d, (![r₀, l₀] : Fin 2 → ℕ) d + (![a', b'] : Fin 2 → ℕ) d ≤ (⟨2, ![a, b]⟩ : Shape).size d) :
    VecWindow.window (s := ⟨2, ![a, b]⟩) (lift (φ := φ) x) ![r₀, l₀] ![a', b'] inb = lift (a := a') (b := b') (φ := φ) (shift r₀ l₀ x) := by
  funext y
  show ((x (r₀ + 1 * (y 0).val) (l₀ + 1 * (y 1).val) : ℝ) : EReal) = _
  rw [one_mul, one_mul]
  rfl

theorem put_lift {a b a' b' : ℕ} {φ : FTy} (x w : ℕ → ℕ → ℝ) (r₀ l₀ : ℕ) :
    VecWindow.put (s := ⟨2, ![a, b]⟩) (lift (φ := φ) x) ![r₀, l₀] ![a', b'] (lift (a := a') (b := b') (φ := φ) w)
      = lift fun r l => if (r₀ ≤ r ∧ r < r₀ + a') ∧ (l₀ ≤ l ∧ l < l₀ + b') then w (r - r₀) (l - l₀) else x r l := by
  funext y
  unfold VecWindow.put
  by_cases h : (r₀ ≤ (y 0).val ∧ (y 0).val < r₀ + a') ∧ (l₀ ≤ (y 1).val ∧ (y 1).val < l₀ + b')
  · rw [dif_pos (fun d => by match d with | ⟨0, _⟩ => exact h.1 | ⟨1, _⟩ => exact h.2)]
    exact congrArg (fun z : ℝ => (z : EReal)) (if_pos (c := (r₀ ≤ (y 0).val ∧ (y 0).val < r₀ + a') ∧ (l₀ ≤ (y 1).val ∧ (y 1).val < l₀ + b')) h).symm
  · rw [dif_neg (fun h' => h ⟨h' 0, h' 1⟩)]
    exact congrArg (fun z : ℝ => (z : EReal)) (if_neg (c := (r₀ ≤ (y 0).val ∧ (y 0).val < r₀ + a') ∧ (l₀ ≤ (y 1).val ∧ (y 1).val < l₀ + b')) h).symm

/-- Real numbers for what a step carries. -/
abbrev RealState : Type := ((ℕ → ℕ → ℝ) × (ℕ → ℕ → ℝ) × (ℕ → ℕ → ℝ)) × (ℕ → ℕ → ℝ)

/-- What a step carries, of real numbers. -/
def liftS (s : RealState) : StepState Ideal := ((lift (φ := .f32) s.1.1, lift (φ := .f32) s.1.2.1, lift (φ := .f32) s.1.2.2), lift (φ := .f32) s.2)

section Step

variable (x0 x1 x2 x3 x4 x5 : ℕ → ℕ → ℝ)

/-- A head's probabilities of a block. -/
def probAt (masked : Bool) (n h : ℕ) : ℕ → ℕ → ℝ :=
  prob masked (shift (512 * n) (128 * h) x0) (shift 0 (128 * h) x1) (shift (512 * n) (128 * h) x4)

/-- A head's lanes of the cotangent's block. -/
def dOutAt (n h : ℕ) : ℕ → ℕ → ℝ := lanes h (shift (512 * n) 0 x5)

/-- A head's scores' gradient of a block. -/
def dScoreAt (masked : Bool) (n h : ℕ) : ℕ → ℕ → ℝ :=
  dScore masked (shift (512 * n) (128 * h) x0) (shift 0 (128 * h) x1) (shift (512 * n) (128 * h) x4) (dOutAt x5 n h)
    (shift (512 * n) 0 x3) x2

/-- A step on real numbers. -/
def stepR (masked : Bool) (n : ℕ) (s : RealState) : RealState :=
  ((fun c l => s.1.1 c l + ∑ r ∈ Finset.range 512, dScoreAt x0 x1 x2 x3 x4 x5 masked n 0 r c * shift (512 * n) (128 * 0) x0 r l,
    fun c l => s.1.2.1 c l + ∑ r ∈ Finset.range 512, dScoreAt x0 x1 x2 x3 x4 x5 masked n 1 r c * shift (512 * n) (128 * 1) x0 r l,
    fun c l => (s.1.2.2 c l + ∑ r ∈ Finset.range 512, probAt x0 x1 x4 masked n 0 r c * dOutAt x5 n 0 r l)
      + ∑ r ∈ Finset.range 512, probAt x0 x1 x4 masked n 1 r c * dOutAt x5 n 1 r l),
    fun R l => if 512 * n ≤ R ∧ R < 512 * n + 512 then
      s.2 R l + ∑ c ∈ Finset.range 512, dScoreAt x0 x1 x2 x3 x4 x5 masked n (l / 128) (R - 512 * n) c * x1 c l else s.2 R l)

theorem pAt_lift (masked : Bool) (n : ℕ) (hn : n < 8) (h : Fin 2) :
    pAt (F := Ideal) (lift (φ := .bf16) x0) (lift (φ := .bf16) x1) (lift (φ := .f32) x4) masked n hn h = lift (φ := .f32) (probAt x0 x1 x4 masked n h.val) := by
  refine eq_lift _ _ fun r c => ?_
  unfold pAt half keyHalf
  exact (congrFun (congrArg₂ (fun q k => probs (F := Ideal) masked q k _) (window_lift x0 _ _ _) (window_lift x1 _ _ _)) (ix2 r c)).trans
    ((congrFun (congrArg (probs (F := Ideal) masked _ _) (window_lift x4 _ _ _)) (ix2 r c)).trans (probs_lift masked _ _ _ r c))

theorem dOut_lift (n : ℕ) (hn : n < 8) (h : Fin 2) : dOut (F := Ideal) (lift (φ := .f32) x5) n hn h = lift (φ := .f32) (dOutAt x5 n h.val) := by
  unfold dOut rows
  exact (congrArg (headLanes (F := Ideal) laneIota (BitVec.ofNat 32 h.val)) (window_lift x5 _ _ _)).trans (headLanes_lift h _)

theorem dsAt_lift (masked : Bool) (n : ℕ) (hn : n < 8) (h : Fin 2) :
    dsAt (F := Ideal) (lift (φ := .bf16) x0) (lift (φ := .bf16) x1) (lift (φ := .bf16) x2) (lift (φ := .f32) x3) (lift (φ := .f32) x4) (lift (φ := .f32) x5) masked n hn h
      = lift (φ := .bf16) (dScoreAt x0 x1 x2 x3 x4 x5 masked n h.val) := by
  have e0 : half (F := Ideal) (e := .bf16) (lift (φ := .bf16) x0) n hn h = lift (φ := .bf16) (shift (512 * n) (128 * h.val) x0) := window_lift x0 _ _ _
  have e1 : keyHalf (F := Ideal) (e := .bf16) (lift (φ := .bf16) x1) h = lift (φ := .bf16) (shift 0 (128 * h.val) x1) := window_lift x1 _ _ _
  have e4 : half (F := Ideal) (e := .f32) (lift (φ := .f32) x4) n hn h = lift (φ := .f32) (shift (512 * n) (128 * h.val) x4) := window_lift x4 _ _ _
  have e3 : rows (F := Ideal) (e := .f32) (lift (φ := .f32) x3) n hn = lift (φ := .f32) (shift (512 * n) 0 x3) := window_lift x3 _ _ _
  show dScores masked (half (F := Ideal) (e := .bf16) (lift (φ := .bf16) x0) n hn h) (keyHalf (F := Ideal) (e := .bf16) (lift (φ := .bf16) x1) h)
    (half (F := Ideal) (e := .f32) (lift (φ := .f32) x4) n hn h) (dOut (F := Ideal) (lift (φ := .f32) x5) n hn h) (rows (F := Ideal) (e := .f32) (lift (φ := .f32) x3) n hn) (lift (φ := .bf16) x2) = _
  rw [e0, e1, e4, e3, dOut_lift]
  exact dScores_lift masked _ _ _ _ _ _

theorem stepV_lift (masked : Bool) (n : ℕ) (hn : n < 8) (s : RealState) :
    stepV (F := Ideal) (lift (φ := .bf16) x0) (lift (φ := .bf16) x1) (lift (φ := .bf16) x2) (lift (φ := .f32) x3) (lift (φ := .f32) x4) (lift (φ := .f32) x5) masked n hn (liftS s)
      = liftS (stepR x0 x1 x2 x3 x4 x5 masked n s) := by
  have e0 : ∀ h, half (F := Ideal) (e := .bf16) (lift (φ := .bf16) x0) n hn h = lift (φ := .bf16) (shift (512 * n) (128 * h.val) x0) := fun h => window_lift x0 _ _ _
  have e1 : ∀ h, keyHalf (F := Ideal) (e := .bf16) (lift (φ := .bf16) x1) h = lift (φ := .bf16) (shift 0 (128 * h.val) x1) := fun h => window_lift x1 _ _ _
  have eq : ∀ f h, half (F := Ideal) (e := .f32) (lift (φ := .f32) f) n hn h = lift (φ := .f32) (shift (512 * n) (128 * h.val) f) := fun f h => window_lift f _ _ _
  have ep : ∀ (f w : ℕ → ℕ → ℝ) (h : Fin 2), VecWindow.put (lift (a := 4096) (b := 256) (φ := .f32) f) ![512 * n, 128 * h.val] S512x128.size
      (lift (a := 512) (b := 128) (φ := .f32) w) = lift (φ := .f32) fun r l => if (512 * n ≤ r ∧ r < 512 * n + 512) ∧ (128 * h.val ≤ l ∧ l < 128 * h.val + 128)
        then w (r - 512 * n) (l - 128 * h.val) else f r l := fun f w h => put_lift f w _ _
  unfold stepV liftS queriesPut
  rw [dsAt_lift, dsAt_lift, pAt_lift, pAt_lift, dOut_lift, dOut_lift]
  simp only [e0, e1, eq, keysStep_lift, valsStep_lift, queriesStep_lift, ep]
  refine congrArg₂ Prod.mk rfl (lift_congr _ _ fun R hR l hl => ?_)
  simp only [stepR, shift, show ((0 : Fin 2) : ℕ) = 0 from rfl, show ((1 : Fin 2) : ℕ) = 1 from rfl, Nat.zero_add, Nat.mul_zero, Nat.mul_one]
  by_cases hr : 512 * n ≤ R ∧ R < 512 * n + 512
  · by_cases hl2 : 128 ≤ l
    · rw [if_pos ⟨hr, hl2, by omega⟩, if_neg (by omega), if_pos hr]
      have e1 : 512 * n + (R - 512 * n) = R := by omega
      have e2 : 128 + (l - 128) = l := by omega
      have e3 : l / 128 = 1 := by omega
      rw [e1, e2, e3]
    · rw [if_neg (by omega), if_pos ⟨hr, by omega, by omega⟩, if_pos hr]
      have e1 : 512 * n + (R - 512 * n) = R := by omega
      have e2 : l - 0 = l := by omega
      have e3 : l / 128 = 0 := by omega
      rw [e1, e2, e3]
  · rw [if_neg (fun h => hr h.1), if_neg (fun h => hr h.1), if_neg hr]

end Step

end Cert.Attn

end
-- ==== Proof.AttnPoint.lean ====
module

public import proofs.«01_k».proof.Proof.AttnStep

/-! What the body of the attention's backward kernel leaves at a grid point: one masked step at the diagonal, then one step
    for every later block of queries. Stated over any arithmetic. -/

@[expose] public section

set_option maxRecDepth 16384

noncomputable section

namespace Cert.AttnKernelIdeal.Gen

open Idealize.ShloMosaic Idealize.ShloMosaic.TcCoe Idealize.ShloMosaic.Tactic

variable {F : FTy → Type} [FloatOps F] [Named F]

section Steps

variable (x0 : Vec F S4096x256 .bf16) (x1 : Vec F S512x256 .bf16) (x2 : Vec F S512x128 .bf16)
  (x3 : Vec F S4096x128 .f32) (x4 : Vec F S4096x256 .f32) (x5 : Vec F S4096x128 .f32)

/-- The steps of the `n` blocks of queries that follow block `j`. -/
def stepsFrom (j : ℕ) (s : StepState F) : (n : ℕ) → j + n < 8 → StepState F
  | 0, _ => s
  | n + 1, h => stepV x0 x1 x2 x3 x4 x5 false (j + 1 + n) (by omega) (stepsFrom j s n (by omega))

/-- A point's steps: the diagonal block, then every later one. -/
def pointSteps (j : ℕ) (hj : j < 8) (dq : Vec F S4096x256 .f32) : StepState F :=
  stepsFrom x0 x1 x2 x3 x4 x5 j
    (stepV x0 x1 x2 x3 x4 x5 true j hj ((k0_pay143, k0_pay143, k0_pay144), dq)) (7 - j) (by omega)

/-- Steps of equal number and equal start. -/
theorem stepV_congr (b : Bool) {n n' : ℕ} (e : n = n') (hn : n < 8) (hn' : n' < 8) (s : StepState F) :
    stepV x0 x1 x2 x3 x4 x5 b n hn s = stepV x0 x1 x2 x3 x4 x5 b n' hn' s := by subst e; rfl

theorem stepsFrom_congr (j : ℕ) (s : StepState F) {n n' : ℕ} (e : n = n') (h : j + n < 8) (h' : j + n' < 8) :
    stepsFrom x0 x1 x2 x3 x4 x5 j s n h = stepsFrom x0 x1 x2 x3 x4 x5 j s n' h' := by subst e; rfl

end Steps

section Trips

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .f32) (harg5 : arg5.IsWhole)
  (arg6 : Memref sig .tc .vmem S4096x256 .f32) (harg6 : arg6.IsWhole) (arg7 : Memref sig .tc .vmem S4096x128 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S512x128 .bf16) (harg10 : arg10.IsWhole) (arg11 : Memref sig .tc .vmem S4096x256 .f32) (harg11 : arg11.IsWhole)
  (arg1 : BitVec 32) (v80 : FVec F S512x128 .f32) (v150 : FVec F S512x128 .f32) (v152 : FVec F S512x128 .f32)
  (v161 c2 v162 v167 v169 c0 v200 : BitVec 32)
  (x0 : Vec F S4096x256 .bf16) (x1 : Vec F S512x256 .bf16) (x2 : Vec F S512x128 .bf16)
  (x3 : Vec F S4096x128 .f32) (x4 : Vec F S4096x256 .f32) (x5 : Vec F S4096x128 .f32)

/-- The state of the loop over pairs, at the blocks' arrays. -/
abbrev pairStateAt :=
  pairState (F := F) c i arg2 harg2 arg3 harg3 arg4 harg4 arg5 harg5 arg6 harg6 arg7 harg7 arg8 harg8 arg9 harg9 arg10 harg10 arg11 harg11
      arg1 laneIota v80 v150 v152 v161 c2 v162 v167 v169 c0 (harg2.unread x0) (harg3.unread x1) (harg4.unread x2) (harg5.unread x3) (harg6.unread x4) (harg7.unread x5) Variants.none none

theorem coord_lt (i : grid0.Coords) : (i 1).val < 8 := (i 1).isLt
theorem pair_trips : ∀ i : grid0.Coords, (k0_t1_loop i).trips = (7 - (i 1).val) / 2 := by decide +kernel
theorem rest_trips : ∀ i : grid0.Coords, (k0_t3_loop i).trips = (7 - (i 1).val) % 2 := by decide +kernel
theorem none_trips : ∀ i : grid0.Coords, (k0_t4_loop i).trips = 0 := by decide +kernel

/-- The loop over pairs is steps. -/
theorem pairState_steps (init : Carry F) (G : BufTy.Contents (Elt F) arg11.view.ty) (n : ℕ) (hn : n ≤ (k0_t1_loop i).trips)
    (h : (i 1).val + 2 * n < 8) :
    (pairStateAt c i arg2 harg2 arg3 harg3 arg4 harg4 arg5 harg5 arg6 harg6 arg7 harg7 arg8 harg8 arg9 harg9 arg10 harg10 arg11 harg11 arg1 v80 v150 v152 v161 c2 v162 v167 v169 c0 x0 x1 x2 x3 x4 x5 init G n).1
        = (stepsFrom x0 x1 x2 x3 x4 x5 (i 1).val (init, arg11.view.read (Elt F) G) (2 * n) h).1
      ∧ arg11.view.read (Elt F) (arg11.view.writes (Elt F) G
          (pairStateAt c i arg2 harg2 arg3 harg3 arg4 harg4 arg5 harg5 arg6 harg6 arg7 harg7 arg8 harg8 arg9 harg9 arg10 harg10 arg11 harg11 arg1 v80 v150 v152 v161 c2 v162 v167 v169 c0 x0 x1 x2 x3 x4 x5 init G n).2)
        = (stepsFrom x0 x1 x2 x3 x4 x5 (i 1).val (init, arg11.view.read (Elt F) G) (2 * n) h).2 := by
  induction n with
  | zero => exact ⟨rfl, rfl⟩
  | succ n ih =>
    obtain ⟨h1, h2⟩ := ih (by omega) (by omega)
    have hk : n < (k0_t1_loop i).trips := by omega
    have hs := pairState_succ c i arg2 harg2 arg3 harg3 arg4 harg4 arg5 harg5 arg6 harg6 arg7 harg7 arg8 harg8 arg9 harg9 arg10 harg10 arg11 harg11 arg1 laneIota v80 v150 v152 v161 c2 v162 v167 v169 c0 (harg2.unread x0) (harg3.unread x1) (harg4.unread x2) (harg5.unread x3) (harg6.unread x4) (harg7.unread x5) Variants.none none init G ⟨n, hk⟩ _ rfl
    rw [show 2 * (n + 1) = 2 * n + 1 + 1 from rfl] at *
    simp only [stepsFrom]
    constructor
    · refine (congrArg Prod.fst hs).trans ?_
      refine (pairTrip_carry c i arg2 harg2 arg3 harg3 arg4 harg4 arg5 harg5 arg6 harg6 arg7 harg7 arg8 harg8 arg9 harg9 arg10 harg10 arg11 harg11 arg1 v80 v150 v152 v161 c2 v162 v167 v169 c0 x0 x1 x2 x3 x4 x5 Variants.none none ⟨n, hk⟩ _ _
        (stepsFrom x0 x1 x2 x3 x4 x5 (i 1).val (init, arg11.view.read (Elt F) G) (2 * n) (by omega)).2).trans ?_
      rw [h1]
      exact congrArg Prod.fst (stepV_congr x0 x1 x2 x3 x4 x5 false (show (i 1).val + 2 + 2 * n = (i 1).val + 1 + (2 * n + 1) by omega) _ _ _)
    · rw [congrArg Prod.snd hs, View.writes_append]
      refine (pairTrip_queries c i arg2 harg2 arg3 harg3 arg4 harg4 arg5 harg5 arg6 harg6 arg7 harg7 arg8 harg8 arg9 harg9 arg10 harg10 arg11 harg11 arg1 v80 v150 v152 v161 c2 v162 v167 v169 c0 x0 x1 x2 x3 x4 x5 Variants.none none ⟨n, hk⟩ _ _ _ h2).trans ?_
      rw [h1]
      exact congrArg Prod.snd (stepV_congr x0 x1 x2 x3 x4 x5 false (show (i 1).val + 2 + 2 * n = (i 1).val + 1 + (2 * n + 1) by omega) _ _ _)

set_option maxHeartbeats 4000000 in
/-- The trip over an odd last block carries a step's sums of the keys and the values. -/
theorem restTrip_carry (k : Fin (k0_t3_loop i).trips) (acc : Carry F) (f : BufTy.Contents (Elt F) arg11.view.ty) (dq : Vec F S4096x256 .f32) :
    (trip_k0_t3 (F := F) Variants.none c none i arg2 harg2 arg3 harg3 arg4 harg4 arg5 harg5 arg6 harg6 arg7 harg7 arg8 harg8 arg9 harg9 arg10 harg10 arg11 harg11 arg1 laneIota v80 v150 v152 v161 c2 v162 v167 v169 c0 (harg2.unread x0) (harg3.unread x1) (harg4.unread x2) (harg5.unread x3) (harg6.unread x4) (harg7.unread x5) k).1 acc f = (stepV x0 x1 x2 x3 x4 x5 false 7 (by omega) (acc, dq)).1 := by
  unfold trip_k0_t3
  dsimp only
  simp only [stepV, dsAt, pAt, dOut]
  rw [(show half x0 7 (by omega) 0 = _ from window_eq (arg := arg2) (off := ![3584, 0]) _ _ (harg2.read_unread _) rfl _),
    (show half x4 7 (by omega) 0 = _ from window_eq (arg := arg6) (off := ![3584, 0]) _ _ (harg6.read_unread _) rfl _),
    (show half x0 7 (by omega) 1 = _ from window_eq (arg := arg2) (off := ![3584, 128]) _ _ (harg2.read_unread _) rfl _),
    (show half x4 7 (by omega) 1 = _ from window_eq (arg := arg6) (off := ![3584, 128]) _ _ (harg6.read_unread _) rfl _),
    (show rows x3 7 (by omega) = _ from window_eq (arg := arg5) (off := ![3584, 0]) _ _ (harg5.read_unread _) rfl _),
    (show rows x5 7 (by omega) = _ from window_eq (arg := arg7) (off := ![3584, 0]) _ _ (harg7.read_unread _) rfl _),
    (show keyHalf x1 0 = _ from window_eq (arg := arg3) (off := ![0, 0]) _ _ (harg3.read_unread _) rfl _),
    (show keyHalf x1 1 = _ from window_eq (arg := arg3) (off := ![0, 128]) _ _ (harg3.read_unread _) rfl _)]
  conv_rhs => rw [whole_eq arg4 harg4 x2]
  rfl

set_option maxHeartbeats 4000000 in
/-- The trip over an odd last block writes a step's sums of the queries. -/
theorem restTrip_queries (k : Fin (k0_t3_loop i).trips) (acc : Carry F) (f : BufTy.Contents (Elt F) arg11.view.ty) (dq : Vec F S4096x256 .f32)
    (hf : arg11.view.read (Elt F) f = dq) :
    arg11.view.read (Elt F) (arg11.view.writes (Elt F) f ((trip_k0_t3 (F := F) Variants.none c none i arg2 harg2 arg3 harg3 arg4 harg4 arg5 harg5 arg6 harg6 arg7 harg7 arg8 harg8 arg9 harg9 arg10 harg10 arg11 harg11 arg1 laneIota v80 v150 v152 v161 c2 v162 v167 v169 c0 (harg2.unread x0) (harg3.unread x1) (harg4.unread x2) (harg5.unread x3) (harg6.unread x4) (harg7.unread x5) k).2.1 acc f)) = (stepV x0 x1 x2 x3 x4 x5 false 7 (by omega) (acc, dq)).2 := by
  unfold trip_k0_t3
  dsimp only
  simp only [stepV, queriesPut]
  rw [half_put_half]
  rw [View.read_writes_cons_put _ _ _ _ _ (show (![3584, 128] : Fin 2 → ℕ) = ![512 * 7, 128 * (1 : Fin 2).val] from rfl),
    View.read_writes_cons_put _ _ _ _ _ (show (![3584, 0] : Fin 2 → ℕ) = ![512 * 7, 128 * (0 : Fin 2).val] from rfl), View.writes_nil, hf]
  simp only [dsAt, pAt, dOut]
  rw [(show half x0 7 (by omega) 0 = _ from window_eq (arg := arg2) (off := ![3584, 0]) _ _ (harg2.read_unread _) rfl _),
    (show half x4 7 (by omega) 0 = _ from window_eq (arg := arg6) (off := ![3584, 0]) _ _ (harg6.read_unread _) rfl _),
    (show half x0 7 (by omega) 1 = _ from window_eq (arg := arg2) (off := ![3584, 128]) _ _ (harg2.read_unread _) rfl _),
    (show half x4 7 (by omega) 1 = _ from window_eq (arg := arg6) (off := ![3584, 128]) _ _ (harg6.read_unread _) rfl _),
    (show rows x3 7 (by omega) = _ from window_eq (arg := arg5) (off := ![3584, 0]) _ _ (harg5.read_unread _) rfl _),
    (show rows x5 7 (by omega) = _ from window_eq (arg := arg7) (off := ![3584, 0]) _ _ (harg7.read_unread _) rfl _),
    (show keyHalf x1 0 = _ from window_eq (arg := arg3) (off := ![0, 0]) _ _ (harg3.read_unread _) rfl _),
    (show keyHalf x1 1 = _ from window_eq (arg := arg3) (off := ![0, 128]) _ _ (harg3.read_unread _) rfl _)]
  conv_rhs => rw [whole_eq arg4 harg4 x2]
  rw [(show half dq 7 (by omega) 0 = _ from window_eq (arg := arg11) (off := ![3584, 0]) f _ hf rfl _),
    (show half dq 7 (by omega) 1 = _ from window_eq (arg := arg11) (off := ![3584, 128]) f _ hf rfl _)]
  rfl

/-- The state of the loop over an odd last block, at the blocks' arrays. -/
abbrev restStateAt :=
  st_k0_t3 (F := F) Variants.none c none i arg2 harg2 arg3 harg3 arg4 harg4 arg5 harg5 arg6 harg6 arg7 harg7 arg8 harg8 arg9 harg9 arg10 harg10 arg11 harg11
      arg1 laneIota v80 v150 v152 v161 c2 v162 v167 v169 c0 (harg2.unread x0) (harg3.unread x1) (harg4.unread x2) (harg5.unread x3) (harg6.unread x4) (harg7.unread x5)

/-- The loop over an odd last block is steps. -/
theorem restState_steps (init : Carry F) (G : BufTy.Contents (Elt F) arg11.view.ty) (s : StepState F)
    (hs : (init, arg11.view.read (Elt F) G) = stepsFrom x0 x1 x2 x3 x4 x5 (i 1).val s (2 * ((7 - (i 1).val) / 2)) (by have := coord_lt i; omega)) :
    (restStateAt c i arg2 harg2 arg3 harg3 arg4 harg4 arg5 harg5 arg6 harg6 arg7 harg7 arg8 harg8 arg9 harg9 arg10 harg10 arg11 harg11 arg1 v80 v150 v152 v161 c2 v162 v167 v169 c0 x0 x1 x2 x3 x4 x5 G init (k0_t3_loop i).trips).1
        = (stepsFrom x0 x1 x2 x3 x4 x5 (i 1).val s (7 - (i 1).val) (by have := coord_lt i; omega)).1
      ∧ arg11.view.read (Elt F) (arg11.view.writes (Elt F) G
          (restStateAt c i arg2 harg2 arg3 harg3 arg4 harg4 arg5 harg5 arg6 harg6 arg7 harg7 arg8 harg8 arg9 harg9 arg10 harg10 arg11 harg11 arg1 v80 v150 v152 v161 c2 v162 v167 v169 c0 x0 x1 x2 x3 x4 x5 G init (k0_t3_loop i).trips).2)
        = (stepsFrom x0 x1 x2 x3 x4 x5 (i 1).val s (7 - (i 1).val) (by have := coord_lt i; omega)).2 := by
  have hj : (i 1).val < 8 := (i 1).isLt
  rcases Nat.mod_two_eq_zero_or_one (7 - (i 1).val) with he | he
  · have ht : (k0_t3_loop i).trips = 0 := (rest_trips i).trans he
    rw [ht, ← stepsFrom_congr x0 x1 x2 x3 x4 x5 (i 1).val s (show 2 * ((7 - (i 1).val) / 2) = 7 - (i 1).val by omega) (by omega) _, ← hs]
    exact ⟨rfl, rfl⟩
  · have ht : (k0_t3_loop i).trips = 1 := (rest_trips i).trans he
    rw [ht, ← stepsFrom_congr x0 x1 x2 x3 x4 x5 (i 1).val s (show 2 * ((7 - (i 1).val) / 2) + 1 = 7 - (i 1).val by omega) (by omega) _]
    simp only [stepsFrom]
    rw [← hs, stepV_congr x0 x1 x2 x3 x4 x5 false (show (i 1).val + 1 + 2 * ((7 - (i 1).val) / 2) = 7 by omega) _ (by omega)]
    have h1 := st_k0_t3_succ (F := F) Variants.none c none i arg2 harg2 arg3 harg3 arg4 harg4 arg5 harg5 arg6 harg6 arg7 harg7 arg8 harg8 arg9 harg9 arg10 harg10 arg11 harg11 arg1 laneIota v80 v150 v152 v161 c2 v162 v167 v169 c0 (harg2.unread x0) (harg3.unread x1) (harg4.unread x2) (harg5.unread x3) (harg6.unread x4) (harg7.unread x5) G init ⟨0, by omega⟩
    constructor
    · refine (congrArg Prod.fst h1).trans ?_
      exact restTrip_carry c i arg2 harg2 arg3 harg3 arg4 harg4 arg5 harg5 arg6 harg6 arg7 harg7 arg8 harg8 arg9 harg9 arg10 harg10 arg11 harg11 arg1 v80 v150 v152 v161 c2 v162 v167 v169 c0 x0 x1 x2 x3 x4 x5 ⟨0, by omega⟩ _ _ _
    · rw [show restStateAt c i arg2 harg2 arg3 harg3 arg4 harg4 arg5 harg5 arg6 harg6 arg7 harg7 arg8 harg8 arg9 harg9 arg10 harg10 arg11 harg11 arg1 v80 v150 v152 v161 c2 v162 v167 v169 c0 x0 x1 x2 x3 x4 x5 G init 1 = _ from h1, View.writes_append]
      exact restTrip_queries c i arg2 harg2 arg3 harg3 arg4 harg4 arg5 harg5 arg6 harg6 arg7 harg7 arg8 harg8 arg9 harg9 arg10 harg10 arg11 harg11 arg1 v80 v150 v152 v161 c2 v162 v167 v169 c0 x0 x1 x2 x3 x4 x5 ⟨0, by omega⟩ _ _ _ rfl

/-- The loop over what is left after it never runs. -/
theorem noneState (init : Carry F) (G : BufTy.Contents (Elt F) arg11.view.ty) :
    st_k0_t4 (F := F) Variants.none c none i arg2 harg2 arg3 harg3 arg4 harg4 arg5 harg5 arg6 harg6 arg7 harg7 arg8 harg8 arg9 harg9 arg10 harg10 arg11 harg11
      arg1 laneIota v80 v150 v152 v161 c2 v162 v167 v169 c0 v200 (harg2.unread x0) (harg3.unread x1) (harg4.unread x2) (harg5.unread x3) (harg6.unread x4) (harg7.unread x5) G init (k0_t4_loop i).trips = (init, []) := by
  rw [none_trips]; rfl

end Trips

end Cert.AttnKernelIdeal.Gen

end
-- ==== Proof.AttnPointReal.lean ====
/- A grid point of the attention's backward kernel over the real numbers: the sums over every later block of queries, as sums over
   all the queries of whole arrays. -/
module

public import proofs.«01_k».proof.Proof.AttnArith
public import proofs.«01_k».proof.Proof.AttnPoint

@[expose] public section

set_option maxRecDepth 16384

noncomputable section

namespace Cert.Attn

open Idealize.ShloMosaic Idealize.ShloMosaic.TcCoe
open Cert.AttnKernelIdeal Cert.AttnKernelIdeal.Gen

section Whole

variable (q k v o L g : ℕ → ℕ → ℝ)

/-- The probability of key `C` for query `R` in head `H`. -/
def P (H R C : ℕ) : ℝ :=
  if C ≤ R then Real.rpow 2 ((∑ l ∈ Finset.range 128, q R (128 * H + l) * k C (128 * H + l)) * (scale * log2e) - L R (128 * H) * log2e) else 0

/-- The gradient of the score of key `C` for query `R` in head `H`. -/
def dS (H R C : ℕ) : ℝ :=
  P q k L H R C * ((∑ l ∈ Finset.range 64, g R (64 * H + l) * v C (64 * H + l))
    - ∑ l ∈ Finset.range 64, g R (64 * H + l) * o R (64 * H + l)) * scale

theorem P_late (H R C : ℕ) (h : R < C) : P q k L H R C = 0 := if_neg (by omega)
theorem dS_late (H R C : ℕ) (h : R < C) : dS q k v o L g H R C = 0 := by unfold dS; rw [P_late q k L H R C h, zero_mul, zero_mul]

/-- A sum over the lanes of one head of two. -/
theorem sum_lanes (h : ℕ) (hh : h < 2) (x y : ℕ → ℝ) :
    (∑ l ∈ Finset.range 128, (if l / 64 = h then x l else 0) * y l) = ∑ l ∈ Finset.range 64, x (64 * h + l) * y (64 * h + l) := by
  rw [show (128 : ℕ) = 64 + 64 from rfl, Finset.sum_range_add]
  have e : ∀ l ∈ Finset.range 64, l / 64 = 0 := fun l hl => by have := Finset.mem_range.mp hl; omega
  have e' : ∀ l ∈ Finset.range 64, (64 + l) / 64 = 1 := fun l hl => by have := Finset.mem_range.mp hl; omega
  match h, hh with
  | 0, _ =>
    refine (congrArg₂ (· + ·) (Finset.sum_congr rfl fun l hl => ?_) (Finset.sum_eq_zero fun l hl => ?_)).trans (add_zero _)
    · rw [if_pos (e l hl), Nat.mul_zero, Nat.zero_add]
    · rw [if_neg (by rw [e' l hl]; decide), zero_mul]
  | 1, _ =>
    refine (congrArg₂ (· + ·) (Finset.sum_eq_zero fun l hl => ?_) (Finset.sum_congr rfl fun l hl => ?_)).trans (zero_add _)
    · rw [if_neg (by rw [e l hl]; decide), zero_mul]
    · rw [if_pos (e' l hl), Nat.mul_one]

variable (p j : ℕ)

theorem probAt_whole (masked : Bool) (n h r c : ℕ) (hr : r < 512) (hc : c < 512) (hn : masked = true ∧ n = j ∨ masked = false ∧ j < n) :
    probAt (shift 0 (256 * p) q) (shift (512 * j) (256 * p) k) (shift 0 (256 * p) L) masked n h r c
      = P q k L (2 * p + h) (512 * n + r) (512 * j + c) := by
  unfold probAt prob P score shift sees
  have e : (masked = true → c ≤ r) ↔ 512 * j + c ≤ 512 * n + r := by
    rcases hn with ⟨h, rfl⟩ | ⟨h, h'⟩
    · simp [h]
    · simp [h]; omega
  simp only [e]
  have e2 : ∀ l, 256 * p + (128 * h + l) = 128 * (2 * p + h) + l := fun l => by omega
  simp only [e2, Nat.zero_add, Nat.add_zero]
  rw [show 256 * p + 128 * h = 128 * (2 * p + h) by omega]

theorem dScoreAt_whole (masked : Bool) (n h r c : ℕ) (hh : h < 2) (hr : r < 512) (hc : c < 512) (hn : masked = true ∧ n = j ∨ masked = false ∧ j < n) :
    dScoreAt (shift 0 (256 * p) q) (shift (512 * j) (256 * p) k) (shift (512 * j) (128 * p) v) (shift 0 (128 * p) o) (shift 0 (256 * p) L)
      (shift 0 (128 * p) g) masked n h r c
      = dS q k v o L g (2 * p + h) (512 * n + r) (512 * j + c) := by
  unfold dScoreAt dScore dS
  have := probAt_whole q k L p j masked n h r c hr hc hn
  unfold probAt at this
  rw [this]
  unfold dOutAt lanes
  rw [sum_lanes h hh, sum_lanes h hh]
  unfold shift
  have e2 : ∀ l, 128 * p + (64 * h + l) = 64 * (2 * p + h) + l := fun l => by omega
  simp only [e2, Nat.zero_add]

/-- The real numbers a point holds once the blocks of queries before row `N` are done. -/
def upTo (N : ℕ) (dq : ℕ → ℕ → ℝ) : RealState :=
  ((fun c l => ∑ R ∈ Finset.range N, dS q k v o L g (2 * p) R (512 * j + c) * q R (128 * (2 * p) + l),
    fun c l => ∑ R ∈ Finset.range N, dS q k v o L g (2 * p + 1) R (512 * j + c) * q R (128 * (2 * p + 1) + l),
    fun c l => ∑ R ∈ Finset.range N, P q k L (2 * p + l / 64) R (512 * j + c) * g R (128 * p + l)),
    fun R l => if R < N then dq R l + ∑ c ∈ Finset.range 512, dS q k v o L g (2 * p + l / 128) R (512 * j + c) * k (512 * j + c) (256 * p + l)
      else dq R l)

/-- Before a point's own block no query sees its keys. -/
theorem upTo_start (dq : ℕ → ℕ → ℝ) (N : ℕ) (hN : N ≤ 512 * j) : upTo q k v o L g p j N dq = ((0, 0, 0), dq) := by
  have e : ∀ H R c, R < N → dS q k v o L g H R (512 * j + c) = 0 := fun H R c h => dS_late q k v o L g H R _ (by omega)
  have e' : ∀ H R c, R < N → P q k L H R (512 * j + c) = 0 := fun H R c h => P_late q k L H R _ (by omega)
  unfold upTo
  refine congrArg₂ Prod.mk (congrArg₂ Prod.mk ?_ (congrArg₂ Prod.mk ?_ ?_)) ?_
  · funext c l; exact Finset.sum_eq_zero fun R hR => by rw [e _ _ _ (Finset.mem_range.mp hR), zero_mul]
  · funext c l; exact Finset.sum_eq_zero fun R hR => by rw [e _ _ _ (Finset.mem_range.mp hR), zero_mul]
  · funext c l; exact Finset.sum_eq_zero fun R hR => by rw [e' _ _ _ (Finset.mem_range.mp hR), zero_mul]
  · funext R l
    split
    · next h => rw [Finset.sum_eq_zero fun c _ => by rw [e _ _ _ h, zero_mul], add_zero]
    · rfl

/-- What a step carries depends on the entries inside the arrays only. -/
theorem liftS_congr (s s' : RealState) (h0 : ∀ c < 512, ∀ l < 128, s.1.1 c l = s'.1.1 c l) (h1 : ∀ c < 512, ∀ l < 128, s.1.2.1 c l = s'.1.2.1 c l)
    (h2 : ∀ c < 512, ∀ l < 128, s.1.2.2 c l = s'.1.2.2 c l) (h3 : ∀ R < 4096, ∀ l < 256, s.2 R l = s'.2 R l) : liftS s = liftS s' := by
  unfold liftS
  rw [lift_congr _ _ h0, lift_congr _ _ h1, lift_congr _ _ h2, lift_congr _ _ h3]

/-- A block's step takes a point from the blocks before it to the blocks up to it. -/
theorem step_upTo (masked : Bool) (n : ℕ) (hn : n < 8) (h : masked = true ∧ n = j ∨ masked = false ∧ j < n) (dq : ℕ → ℕ → ℝ) :
    stepV (F := Ideal) (lift (φ := .bf16) (shift 0 (256 * p) q)) (lift (φ := .bf16) (shift (512 * j) (256 * p) k))
        (lift (φ := .bf16) (shift (512 * j) (128 * p) v)) (lift (φ := .f32) (shift 0 (128 * p) o))
        (lift (φ := .f32) (shift 0 (256 * p) L)) (lift (φ := .f32) (shift 0 (128 * p) g)) masked n hn (liftS (upTo q k v o L g p j (512 * n) dq))
      = liftS (upTo q k v o L g p j (512 * n + 512) dq) := by
  rw [stepV_lift]
  refine liftS_congr _ _ (fun c hc l hl => ?_) (fun c hc l hl => ?_) (fun c hc l hl => ?_) (fun R hR l hl => ?_)
  · show _ + ∑ r ∈ Finset.range 512, _ = ∑ R ∈ Finset.range (512 * n + 512), _
    rw [Finset.sum_range_add]
    refine congrArg _ (Finset.sum_congr rfl fun r hr => ?_)
    rw [dScoreAt_whole q k v o L g p j masked n 0 r c (by omega) (Finset.mem_range.mp hr) hc h]
    unfold shift
    rw [show 0 + (512 * n + r) = 512 * n + r by omega, show 256 * p + (128 * 0 + l) = 128 * (2 * p) + l by omega, show 2 * p + 0 = 2 * p from rfl]
  · show _ + ∑ r ∈ Finset.range 512, _ = ∑ R ∈ Finset.range (512 * n + 512), _
    rw [Finset.sum_range_add]
    refine congrArg _ (Finset.sum_congr rfl fun r hr => ?_)
    rw [dScoreAt_whole q k v o L g p j masked n 1 r c (by omega) (Finset.mem_range.mp hr) hc h]
    unfold shift
    rw [show 0 + (512 * n + r) = 512 * n + r by omega, show 256 * p + (128 * 1 + l) = 128 * (2 * p + 1) + l by omega]
  · show _ + (∑ r ∈ Finset.range 512, _) + (∑ r ∈ Finset.range 512, _) = ∑ R ∈ Finset.range (512 * n + 512), _
    rw [Finset.sum_range_add, add_assoc, ← Finset.sum_add_distrib]
    refine congrArg _ (Finset.sum_congr rfl fun r hr => ?_)
    rw [probAt_whole q k L p j masked n 0 r c (Finset.mem_range.mp hr) hc h, probAt_whole q k L p j masked n 1 r c (Finset.mem_range.mp hr) hc h]
    unfold dOutAt lanes shift
    rw [show 0 + (512 * n + r) = 512 * n + r by omega, show 0 + l = l by omega]
    by_cases hl2 : l < 64
    · rw [if_pos (by omega), if_neg (by omega), mul_zero, add_zero, show l / 64 = 0 by omega]
    · rw [if_neg (by omega), if_pos (by omega), mul_zero, zero_add, show l / 64 = 1 by omega]
  · show (if 512 * n ≤ R ∧ R < 512 * n + 512 then _ else _) = (if R < 512 * n + 512 then _ else _)
    by_cases hr : 512 * n ≤ R ∧ R < 512 * n + 512
    · rw [if_pos hr, if_pos hr.2]
      show (if R < 512 * n then _ else _) + _ = _
      rw [if_neg (by omega)]
      refine congrArg _ (Finset.sum_congr rfl fun c hc => ?_)
      rw [dScoreAt_whole q k v o L g p j masked n (l / 128) _ c (by omega) (by omega) (Finset.mem_range.mp hc) h,
        show 512 * n + (R - 512 * n) = R by omega]
      rfl
    · rw [if_neg hr]
      show (if R < 512 * n then _ else _) = _
      by_cases hr2 : R < 512 * n
      · rw [if_pos hr2, if_pos (by omega)]
      · rw [if_neg hr2, if_neg (by omega)]

theorem zero_keys : (k0_pay143 (F := Ideal)) = lift (φ := .f32) 0 := by
  refine eq_lift _ _ fun r l => ?_
  pointwise [k0_pay143]
  rfl
theorem zero_vals : (k0_pay144 (F := Ideal)) = lift (φ := .f32) 0 := by
  refine eq_lift _ _ fun r l => ?_
  pointwise [k0_pay144]
  rfl
theorem zero_sums : (k0_pay142 (F := Ideal)) = lift (φ := .f32) 0 := by
  refine eq_lift _ _ fun r l => ?_
  pointwise [k0_pay142]
  rfl

/-- A point's steps leave the sums over all the queries. -/
theorem pointSteps_lift (hj : j < 8) (dq : ℕ → ℕ → ℝ) :
    pointSteps (F := Ideal) (lift (φ := .bf16) (shift 0 (256 * p) q)) (lift (φ := .bf16) (shift (512 * j) (256 * p) k))
        (lift (φ := .bf16) (shift (512 * j) (128 * p) v)) (lift (φ := .f32) (shift 0 (128 * p) o))
        (lift (φ := .f32) (shift 0 (256 * p) L)) (lift (φ := .f32) (shift 0 (128 * p) g)) j hj (lift (φ := .f32) dq)
      = liftS (upTo q k v o L g p j 4096 dq) := by
  have h0 : ((k0_pay143 (F := Ideal), k0_pay143 (F := Ideal), k0_pay144 (F := Ideal)), lift (φ := .f32) dq)
      = liftS (upTo q k v o L g p j (512 * j) dq) := by
    rw [upTo_start q k v o L g p j dq (512 * j) le_rfl, zero_keys, zero_vals]; rfl
  have hs : ∀ (n : ℕ) (h : j + n < 8), stepsFrom (F := Ideal) (lift (φ := .bf16) (shift 0 (256 * p) q)) (lift (φ := .bf16) (shift (512 * j) (256 * p) k))
        (lift (φ := .bf16) (shift (512 * j) (128 * p) v)) (lift (φ := .f32) (shift 0 (128 * p) o))
        (lift (φ := .f32) (shift 0 (256 * p) L)) (lift (φ := .f32) (shift 0 (128 * p) g)) j (liftS (upTo q k v o L g p j (512 * j + 512) dq)) n h
      = liftS (upTo q k v o L g p j (512 * (j + 1 + n)) dq) := by
    intro n
    induction n with
    | zero => intro h; unfold stepsFrom; rw [show 512 * (j + 1 + 0) = 512 * j + 512 by omega]
    | succ n ih =>
      intro h
      unfold stepsFrom
      rw [ih (by omega), step_upTo q k v o L g p j false (j + 1 + n) (by omega) (Or.inr ⟨rfl, by omega⟩),
        show 512 * (j + 1 + (n + 1)) = 512 * (j + 1 + n) + 512 by omega]
  unfold pointSteps
  rw [h0, step_upTo q k v o L g p j true j hj (Or.inl ⟨rfl, rfl⟩), hs]
  rw [show 512 * (j + 1 + (7 - j)) = 4096 by omega]

end Whole

end Cert.Attn

end
-- ==== Proof.AttnResult.lean ====
module

public import proofs.«01_k».proof.Proof.AttnPoint

/-! What the attention's backward kernel leaves at a grid point, and over the points: the blocks of the three results and the
    queries' sums, as steps on plain arrays. Stated over any arithmetic. -/

@[expose] public section

set_option maxRecDepth 16384

noncomputable section

namespace Cert.AttnKernelIdeal.Gen

open Idealize.ShloMosaic Idealize.ShloMosaic.TcCoe Idealize.ShloMosaic.Tactic

variable {F : FTy → Type} [FloatOps F] [Named F]

section Run

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .f32) (harg5 : arg5.IsWhole)
  (arg6 : Memref sig .tc .vmem S4096x256 .f32) (harg6 : arg6.IsWhole) (arg7 : Memref sig .tc .vmem S4096x128 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S512x128 .bf16) (harg10 : arg10.IsWhole) (arg11 : Memref sig .tc .vmem S4096x256 .f32) (harg11 : arg11.IsWhole)
  (x0 : Vec F S4096x256 .bf16) (x1 : Vec F S512x256 .bf16) (x2 : Vec F S512x128 .bf16)
  (x3 : Vec F S4096x128 .f32) (x4 : Vec F S4096x256 .f32) (x5 : Vec F S4096x128 .f32) (xs : Vec F S4096x256 .f32)

/-- The diagonal block's sums of the keys and the values. -/
def diagCarry : Carry F := ((runMid.sl.r_6 c i arg2 harg2 arg3 harg3 arg4 harg4 arg5 harg5 arg6 harg6 arg7 harg7 x0 x1 x2 x3 x4 x5), (runMid.sl.r_15 c i arg2 harg2 arg3 harg3 arg4 harg4 arg5 harg5 arg6 harg6 arg7 harg7 x0 x1 x2 x3 x4 x5), (runMid.sl.r_14 c i arg2 harg2 arg3 harg3 arg6 harg6 arg7 harg7 x0 x1 x4 x5))

/-- The diagonal block's writes into the queries' sums. -/
def diagPieces : List (View.Piece (Elt F) S4096x256 .f32) :=
  [⟨Rect.unit (k0_off3 i) S512x128.size (k0_off3_inb i), k0_pay170 runMid.sl.v3 runMid.sl.v4 (runMid.sl.r_2 c arg4 harg4 x2) (runMid.sl.r_9 c i arg2 harg2 x0)
      (runMid.sl.r_10 c arg3 harg3 x1) (runMid.sl.r_11 c i arg7 harg7 x5) (runMid.sl.r_12 c i arg5 harg5 arg7 harg7 x3 x5)
      (runMid.sl.r_13 c i arg6 harg6 x4) (runMid.sl.v154 c i arg11 harg11 xs)⟩,
    ⟨Rect.unit (k0_off2 i) S512x128.size (k0_off2_inb i), k0_pay159 (runMid.sl.r_7 c i arg11 harg11 xs)
      (runMid.sl.r_8 c i arg2 harg2 arg3 harg3 arg4 harg4 arg5 harg5 arg6 harg6 arg7 harg7 x0 x1 x2 x3 x4 x5)⟩]

set_option maxHeartbeats 4000000 in
theorem diagCarry_eq : (diagCarry c i arg2 harg2 arg3 harg3 arg4 harg4 arg5 harg5 arg6 harg6 arg7 harg7 x0 x1 x2 x3 x4 x5) = (stepV x0 x1 x2 x3 x4 x5 true (i 1).val (coord_lt i) ((k0_pay143, k0_pay143, k0_pay144), xs)).1 := by
  simp only [stepV, dsAt, pAt, dOut]
  rw [(show half x0 (i 1).val (coord_lt i) 0 = _ from window_eq (arg := arg2) _ _ (harg2.read_unread _) (k0_off2_eq i) _),
    (show half x4 (i 1).val (coord_lt i) 0 = _ from window_eq (arg := arg6) _ _ (harg6.read_unread _) (k0_off2_eq i) _),
    (show half x0 (i 1).val (coord_lt i) 1 = _ from window_eq (arg := arg2) _ _ (harg2.read_unread _) (k0_off3_eq i) _),
    (show half x4 (i 1).val (coord_lt i) 1 = _ from window_eq (arg := arg6) _ _ (harg6.read_unread _) (k0_off3_eq i) _),
    (show rows x3 (i 1).val (coord_lt i) = _ from window_eq (arg := arg5) _ _ (harg5.read_unread _) (k0_off1_eq i) _),
    (show rows x5 (i 1).val (coord_lt i) = _ from window_eq (arg := arg7) _ _ (harg7.read_unread _) (k0_off1_eq i) _),
    (show keyHalf x1 0 = _ from window_eq (arg := arg3) (off := ![0, 0]) _ _ (harg3.read_unread _) rfl _),
    (show keyHalf x1 1 = _ from window_eq (arg := arg3) (off := ![0, 128]) _ _ (harg3.read_unread _) rfl _)]
  conv_rhs => rw [whole_eq arg4 harg4 x2]
  rfl

set_option maxHeartbeats 4000000 in
theorem diagPieces_eq : arg11.view.read (Elt F) (arg11.view.writes (Elt F) (harg11.unread xs) (diagPieces c i arg2 harg2 arg3 harg3 arg4 harg4 arg5 harg5 arg6 harg6 arg7 harg7 arg11 harg11 x0 x1 x2 x3 x4 x5 xs)) = (stepV x0 x1 x2 x3 x4 x5 true (i 1).val (coord_lt i) ((k0_pay143, k0_pay143, k0_pay144), xs)).2 := by
  unfold diagPieces
  simp only [stepV, queriesPut]
  rw [half_put_half]
  rw [View.read_writes_cons_put _ _ _ _ _ (k0_off3_eq i), View.read_writes_cons_put _ _ _ _ _ (k0_off2_eq i), View.writes_nil, harg11.read_unread]
  simp only [dsAt, pAt, dOut]
  rw [(show half x0 (i 1).val (coord_lt i) 0 = _ from window_eq (arg := arg2) _ _ (harg2.read_unread _) (k0_off2_eq i) _),
    (show half x4 (i 1).val (coord_lt i) 0 = _ from window_eq (arg := arg6) _ _ (harg6.read_unread _) (k0_off2_eq i) _),
    (show half x0 (i 1).val (coord_lt i) 1 = _ from window_eq (arg := arg2) _ _ (harg2.read_unread _) (k0_off3_eq i) _),
    (show half x4 (i 1).val (coord_lt i) 1 = _ from window_eq (arg := arg6) _ _ (harg6.read_unread _) (k0_off3_eq i) _),
    (show rows x3 (i 1).val (coord_lt i) = _ from window_eq (arg := arg5) _ _ (harg5.read_unread _) (k0_off1_eq i) _),
    (show rows x5 (i 1).val (coord_lt i) = _ from window_eq (arg := arg7) _ _ (harg7.read_unread _) (k0_off1_eq i) _),
    (show keyHalf x1 0 = _ from window_eq (arg := arg3) (off := ![0, 0]) _ _ (harg3.read_unread _) rfl _),
    (show keyHalf x1 1 = _ from window_eq (arg := arg3) (off := ![0, 128]) _ _ (harg3.read_unread _) rfl _)]
  conv_rhs => rw [whole_eq arg4 harg4 x2]
  rw [(show half xs (i 1).val (coord_lt i) 0 = _ from window_eq (arg := arg11) _ _ (harg11.read_unread _) (k0_off2_eq i) _),
    (show half xs (i 1).val (coord_lt i) 1 = _ from window_eq (arg := arg11) _ _ (harg11.read_unread _) (k0_off3_eq i) _)]
  rfl

/-- What a point leaves: the sums of the keys and the values, and the queries' sums' buffer. -/
def pointRaw : Carry F × BufTy.Contents (Elt F) arg11.view.ty :=
  let D := (diagPieces c i arg2 harg2 arg3 harg3 arg4 harg4 arg5 harg5 arg6 harg6 arg7 harg7 arg11 harg11 x0 x1 x2 x3 x4 x5 xs)
  let P := pairStateAt c i arg2 harg2 arg3 harg3 arg4 harg4 arg5 harg5 arg6 harg6 arg7 harg7 arg8 harg8 arg9 harg9 arg10 harg10 arg11 harg11 (BitVec.ofNat 32 (i 1).val) (runMid.sl.r_6 c i arg2 harg2 arg3 harg3 arg4 harg4 arg5 harg5 arg6 harg6 arg7 harg7 x0 x1 x2 x3 x4 x5) (runMid.sl.r_14 c i arg2 harg2 arg3 harg3 arg6 harg6 arg7 harg7 x0 x1 x4 x5) (runMid.sl.r_15 c i arg2 harg2 arg3 harg3 arg4 harg4 arg5 harg5 arg6 harg6 arg7 harg7 x0 x1 x2 x3 x4 x5) (runMid.sl.v161 i) 2#32 (runMid.sl.v162 i) (runMid.sl.v167 i) 1#32 0#32 x0 x1 x2 x3 x4 x5 (diagCarry c i arg2 harg2 arg3 harg3 arg4 harg4 arg5 harg5 arg6 harg6 arg7 harg7 x0 x1 x2 x3 x4 x5) (arg11.view.writes (Elt F) (harg11.unread xs) D) (k0_t1_loop i).trips
  let L1 := P.2 ++ D
  let R := restStateAt c i arg2 harg2 arg3 harg3 arg4 harg4 arg5 harg5 arg6 harg6 arg7 harg7 arg8 harg8 arg9 harg9 arg10 harg10 arg11 harg11 (BitVec.ofNat 32 (i 1).val) (runMid.sl.r_6 c i arg2 harg2 arg3 harg3 arg4 harg4 arg5 harg5 arg6 harg6 arg7 harg7 x0 x1 x2 x3 x4 x5) (runMid.sl.r_14 c i arg2 harg2 arg3 harg3 arg6 harg6 arg7 harg7 x0 x1 x4 x5) (runMid.sl.r_15 c i arg2 harg2 arg3 harg3 arg4 harg4 arg5 harg5 arg6 harg6 arg7 harg7 x0 x1 x2 x3 x4 x5) (runMid.sl.v161 i) 2#32 (runMid.sl.v162 i) (runMid.sl.v167 i) 1#32 0#32 x0 x1 x2 x3 x4 x5 (arg11.view.writes (Elt F) (harg11.unread xs) L1) P.1 (k0_t3_loop i).trips
  let L2 := R.2 ++ L1
  let E := st_k0_t4 (F := F) Variants.none c none i arg2 harg2 arg3 harg3 arg4 harg4 arg5 harg5 arg6 harg6 arg7 harg7 arg8 harg8 arg9 harg9 arg10 harg10 arg11 harg11 (BitVec.ofNat 32 (i 1).val) laneIota (runMid.sl.r_6 c i arg2 harg2 arg3 harg3 arg4 harg4 arg5 harg5 arg6 harg6 arg7 harg7 x0 x1 x2 x3 x4 x5) (runMid.sl.r_14 c i arg2 harg2 arg3 harg3 arg6 harg6 arg7 harg7 x0 x1 x4 x5) (runMid.sl.r_15 c i arg2 harg2 arg3 harg3 arg4 harg4 arg5 harg5 arg6 harg6 arg7 harg7 x0 x1 x2 x3 x4 x5)
    (runMid.sl.v161 i) 2#32 (runMid.sl.v162 i) (runMid.sl.v167 i) 1#32 0#32 (runMid.sl.v200 i) (harg2.unread x0) (harg3.unread x1) (harg4.unread x2) (harg5.unread x3) (harg6.unread x4) (harg7.unread x5)
    (arg11.view.writes (Elt F) (harg11.unread xs) L2) R.1 (k0_t4_loop i).trips
  (E.1, arg11.view.writes (Elt F) (harg11.unread xs) (E.2 ++ L2))

/-- It is the point's steps. -/
theorem pointRaw_eq :
    (pointRaw c i arg2 harg2 arg3 harg3 arg4 harg4 arg5 harg5 arg6 harg6 arg7 harg7 arg8 harg8 arg9 harg9 arg10 harg10 arg11 harg11 x0 x1 x2 x3 x4 x5 xs).1 = (pointSteps x0 x1 x2 x3 x4 x5 (i 1).val (coord_lt i) xs).1
      ∧ arg11.view.read (Elt F) (pointRaw c i arg2 harg2 arg3 harg3 arg4 harg4 arg5 harg5 arg6 harg6 arg7 harg7 arg8 harg8 arg9 harg9 arg10 harg10 arg11 harg11 x0 x1 x2 x3 x4 x5 xs).2 = (pointSteps x0 x1 x2 x3 x4 x5 (i 1).val (coord_lt i) xs).2 := by
  unfold pointRaw
  dsimp only
  rw [noneState]
  rw [List.nil_append, View.writes_append, View.writes_append]
  have hp := pairState_steps c i arg2 harg2 arg3 harg3 arg4 harg4 arg5 harg5 arg6 harg6 arg7 harg7 arg8 harg8 arg9 harg9 arg10 harg10 arg11 harg11 (BitVec.ofNat 32 (i 1).val) (runMid.sl.r_6 c i arg2 harg2 arg3 harg3 arg4 harg4 arg5 harg5 arg6 harg6 arg7 harg7 x0 x1 x2 x3 x4 x5) (runMid.sl.r_14 c i arg2 harg2 arg3 harg3 arg6 harg6 arg7 harg7 x0 x1 x4 x5) (runMid.sl.r_15 c i arg2 harg2 arg3 harg3 arg4 harg4 arg5 harg5 arg6 harg6 arg7 harg7 x0 x1 x2 x3 x4 x5) (runMid.sl.v161 i) 2#32 (runMid.sl.v162 i) (runMid.sl.v167 i) 1#32 0#32 x0 x1 x2 x3 x4 x5 (diagCarry c i arg2 harg2 arg3 harg3 arg4 harg4 arg5 harg5 arg6 harg6 arg7 harg7 x0 x1 x2 x3 x4 x5)
    (arg11.view.writes (Elt F) (harg11.unread xs) (diagPieces c i arg2 harg2 arg3 harg3 arg4 harg4 arg5 harg5 arg6 harg6 arg7 harg7 arg11 harg11 x0 x1 x2 x3 x4 x5 xs)) (k0_t1_loop i).trips (Nat.le_refl _)
    (by rw [pair_trips]; have := coord_lt i; omega)
  rw [diagPieces_eq, diagCarry_eq] at hp
  rw [View.writes_append] at *
  refine restState_steps c i arg2 harg2 arg3 harg3 arg4 harg4 arg5 harg5 arg6 harg6 arg7 harg7 arg8 harg8 arg9 harg9 arg10 harg10 arg11 harg11 (BitVec.ofNat 32 (i 1).val) (runMid.sl.r_6 c i arg2 harg2 arg3 harg3 arg4 harg4 arg5 harg5 arg6 harg6 arg7 harg7 x0 x1 x2 x3 x4 x5) (runMid.sl.r_14 c i arg2 harg2 arg3 harg3 arg6 harg6 arg7 harg7 x0 x1 x4 x5) (runMid.sl.r_15 c i arg2 harg2 arg3 harg3 arg4 harg4 arg5 harg5 arg6 harg6 arg7 harg7 x0 x1 x2 x3 x4 x5) (runMid.sl.v161 i) 2#32 (runMid.sl.v162 i) (runMid.sl.v167 i) 1#32 0#32 x0 x1 x2 x3 x4 x5 _ _ (stepV x0 x1 x2 x3 x4 x5 true (i 1).val (coord_lt i) ((k0_pay143, k0_pay143, k0_pay144), xs)) ?_
  rw [← stepsFrom_congr x0 x1 x2 x3 x4 x5 (i 1).val (stepV x0 x1 x2 x3 x4 x5 true (i 1).val (coord_lt i) ((k0_pay143, k0_pay143, k0_pay144), xs)) (show 2 * (k0_t1_loop i).trips = 2 * ((7 - (i 1).val) / 2) by rw [pair_trips]) (by rw [pair_trips]; have := coord_lt i; omega) _]
  rw [diagCarry_eq]
  exact Prod.ext hp.1 hp.2

set_option maxHeartbeats 4000000 in
theorem runMid_eq (hc0 : ¬ cond0_0 i) (hc1 : ¬ k0_cond2 i = 1#1) :
    (runMid c i arg2 harg2 arg3 harg3 arg4 harg4 arg5 harg5 arg6 harg6 arg7 harg7 arg8 harg8 arg9 harg9 arg10 harg10 arg11 harg11 x0 x1 x2 x3 x4 x5 xs hc0 hc1).1 = [⟨Rect.unit ![0, 128] S512x128.size inb_S512x256_S512x128_0_128, k0_pay180 (pointRaw c i arg2 harg2 arg3 harg3 arg4 harg4 arg5 harg5 arg6 harg6 arg7 harg7 arg8 harg8 arg9 harg9 arg10 harg10 arg11 harg11 x0 x1 x2 x3 x4 x5 xs).1.2.1⟩,
          ⟨Rect.unit ![0, 0] S512x128.size inb_S512x256_S512x128_0_0, k0_pay179 (pointRaw c i arg2 harg2 arg3 harg3 arg4 harg4 arg5 harg5 arg6 harg6 arg7 harg7 arg8 harg8 arg9 harg9 arg10 harg10 arg11 harg11 x0 x1 x2 x3 x4 x5 xs).1.1⟩]
      ∧ (runMid c i arg2 harg2 arg3 harg3 arg4 harg4 arg5 harg5 arg6 harg6 arg7 harg7 arg8 harg8 arg9 harg9 arg10 harg10 arg11 harg11 x0 x1 x2 x3 x4 x5 xs hc0 hc1).2.1 = [⟨Rect.unit ![0, 0] S512x128.size inb_S512x128_S512x128_0_0, k0_pay181 (pointRaw c i arg2 harg2 arg3 harg3 arg4 harg4 arg5 harg5 arg6 harg6 arg7 harg7 arg8 harg8 arg9 harg9 arg10 harg10 arg11 harg11 x0 x1 x2 x3 x4 x5 xs).1.2.2⟩]
      ∧ (runMid c i arg2 harg2 arg3 harg3 arg4 harg4 arg5 harg5 arg6 harg6 arg7 harg7 arg8 harg8 arg9 harg9 arg10 harg10 arg11 harg11 x0 x1 x2 x3 x4 x5 xs hc0 hc1).2.2.1 = (pointRaw c i arg2 harg2 arg3 harg3 arg4 harg4 arg5 harg5 arg6 harg6 arg7 harg7 arg8 harg8 arg9 harg9 arg10 harg10 arg11 harg11 x0 x1 x2 x3 x4 x5 xs).2 := ⟨rfl, rfl, rfl⟩

set_option maxHeartbeats 4000000 in
theorem runLast_eq (hc0 : ¬ cond0_0 i) (hc1 : k0_cond2 i = 1#1) :
    (runLast c i arg2 harg2 arg3 harg3 arg4 harg4 arg5 harg5 arg6 harg6 arg7 harg7 arg8 harg8 arg9 harg9 arg10 harg10 arg11 harg11 x0 x1 x2 x3 x4 x5 xs hc0 hc1).2.1 = [⟨Rect.unit ![0, 128] S512x128.size inb_S512x256_S512x128_0_128, k0_pay180 (pointRaw c i arg2 harg2 arg3 harg3 arg4 harg4 arg5 harg5 arg6 harg6 arg7 harg7 arg8 harg8 arg9 harg9 arg10 harg10 arg11 harg11 x0 x1 x2 x3 x4 x5 xs).1.2.1⟩,
          ⟨Rect.unit ![0, 0] S512x128.size inb_S512x256_S512x128_0_0, k0_pay179 (pointRaw c i arg2 harg2 arg3 harg3 arg4 harg4 arg5 harg5 arg6 harg6 arg7 harg7 arg8 harg8 arg9 harg9 arg10 harg10 arg11 harg11 x0 x1 x2 x3 x4 x5 xs).1.1⟩]
      ∧ (runLast c i arg2 harg2 arg3 harg3 arg4 harg4 arg5 harg5 arg6 harg6 arg7 harg7 arg8 harg8 arg9 harg9 arg10 harg10 arg11 harg11 x0 x1 x2 x3 x4 x5 xs hc0 hc1).2.2.1 = [⟨Rect.unit ![0, 0] S512x128.size inb_S512x128_S512x128_0_0, k0_pay181 (pointRaw c i arg2 harg2 arg3 harg3 arg4 harg4 arg5 harg5 arg6 harg6 arg7 harg7 arg8 harg8 arg9 harg9 arg10 harg10 arg11 harg11 x0 x1 x2 x3 x4 x5 xs).1.2.2⟩]
      ∧ (runLast c i arg2 harg2 arg3 harg3 arg4 harg4 arg5 harg5 arg6 harg6 arg7 harg7 arg8 harg8 arg9 harg9 arg10 harg10 arg11 harg11 x0 x1 x2 x3 x4 x5 xs hc0 hc1).2.2.2.1 = (pointRaw c i arg2 harg2 arg3 harg3 arg4 harg4 arg5 harg5 arg6 harg6 arg7 harg7 arg8 harg8 arg9 harg9 arg10 harg10 arg11 harg11 x0 x1 x2 x3 x4 x5 xs).2 := ⟨rfl, rfl, rfl⟩

set_option maxHeartbeats 4000000 in
theorem runFirst_eq (hc0 : cond0_0 i) (hc1 : ¬ k0_cond2 i = 1#1) :
    (runFirst c i arg2 harg2 arg3 harg3 arg4 harg4 arg5 harg5 arg6 harg6 arg7 harg7 arg8 harg8 arg9 harg9 arg10 harg10 arg11 harg11 x0 x1 x2 x3 x4 x5  hc0 hc1).1 = [⟨Rect.unit ![0, 128] S512x128.size inb_S512x256_S512x128_0_128, k0_pay180 (pointRaw c i arg2 harg2 arg3 harg3 arg4 harg4 arg5 harg5 arg6 harg6 arg7 harg7 arg8 harg8 arg9 harg9 arg10 harg10 arg11 harg11 x0 x1 x2 x3 x4 x5 k0_pay142).1.2.1⟩,
          ⟨Rect.unit ![0, 0] S512x128.size inb_S512x256_S512x128_0_0, k0_pay179 (pointRaw c i arg2 harg2 arg3 harg3 arg4 harg4 arg5 harg5 arg6 harg6 arg7 harg7 arg8 harg8 arg9 harg9 arg10 harg10 arg11 harg11 x0 x1 x2 x3 x4 x5 k0_pay142).1.1⟩]
      ∧ (runFirst c i arg2 harg2 arg3 harg3 arg4 harg4 arg5 harg5 arg6 harg6 arg7 harg7 arg8 harg8 arg9 harg9 arg10 harg10 arg11 harg11 x0 x1 x2 x3 x4 x5  hc0 hc1).2.1 = [⟨Rect.unit ![0, 0] S512x128.size inb_S512x128_S512x128_0_0, k0_pay181 (pointRaw c i arg2 harg2 arg3 harg3 arg4 harg4 arg5 harg5 arg6 harg6 arg7 harg7 arg8 harg8 arg9 harg9 arg10 harg10 arg11 harg11 x0 x1 x2 x3 x4 x5 k0_pay142).1.2.2⟩]
      ∧ (runFirst c i arg2 harg2 arg3 harg3 arg4 harg4 arg5 harg5 arg6 harg6 arg7 harg7 arg8 harg8 arg9 harg9 arg10 harg10 arg11 harg11 x0 x1 x2 x3 x4 x5  hc0 hc1).2.2.1 = (pointRaw c i arg2 harg2 arg3 harg3 arg4 harg4 arg5 harg5 arg6 harg6 arg7 harg7 arg8 harg8 arg9 harg9 arg10 harg10 arg11 harg11 x0 x1 x2 x3 x4 x5 k0_pay142).2 := ⟨rfl, rfl, rfl⟩

end Run

end Cert.AttnKernelIdeal.Gen

end
-- ==== Proof.AttnFinal.lean ====
/- The three arrays the attention's backward kernel leaves, over the real numbers: every point's blocks put together. -/
module

public import proofs.«01_k».proof.Proof.AttnPointReal
public import proofs.«01_k».proof.Proof.AttnResult

@[expose] public section

set_option maxRecDepth 16384

noncomputable section

namespace Cert.Attn

open Idealize.ShloMosaic Idealize.ShloMosaic.TcCoe Idealize.SL.Sem
open Cert.AttnKernelIdeal Cert.AttnKernelIdeal.Gen

/-- Block `t` of each window: the pair of heads `t / 8`, the block of keys `t % 8`. -/
theorem block_index : ∀ t : Fin cfg0.N, win0_0.index t = ![0, t.val / 8] ∧ win0_1.index t = ![t.val % 8, t.val / 8]
    ∧ win0_2.index t = ![t.val % 8, t.val / 8] ∧ win0_3.index t = ![0, t.val / 8] ∧ win0_4.index t = ![0, t.val / 8]
    ∧ win0_5.index t = ![0, t.val / 8] ∧ win0_6.index t = ![0, t.val / 8] ∧ win0_7.index t = ![t.val % 8, t.val / 8]
    ∧ win0_8.index t = ![t.val % 8, t.val / 8] :=
  (by decide +kernel : ∀ t : Fin grid0.N, _)

theorem block_coord : ∀ t : Fin cfg0.N, ((grid0.coords t) 1).val = t.val % 8 := (by decide +kernel : ∀ t : Fin grid0.N, _)

theorem keys_word (f : ℕ → ℕ → ℝ) : k0_pay179 (F := Ideal) (lift (φ := .f32) f) = lift (φ := .bf16) f := by
  refine eq_lift _ _ fun r l => ?_
  pointwise [k0_pay179, lift_ix2]
theorem keys_word' (f : ℕ → ℕ → ℝ) : k0_pay180 (F := Ideal) (lift (φ := .f32) f) = lift (φ := .bf16) f := by
  refine eq_lift _ _ fun r l => ?_
  pointwise [k0_pay180, lift_ix2]
theorem vals_word (f : ℕ → ℕ → ℝ) : k0_pay181 (F := Ideal) (lift (φ := .f32) f) = lift (φ := .bf16) f := by
  refine eq_lift _ _ fun r l => ?_
  pointwise [k0_pay181, lift_ix2]
theorem sums_word (f : ℕ → ℕ → ℝ) : k0_pay1 (F := Ideal) (lift (φ := .f32) f) = lift (φ := .bf16) f := by
  refine eq_lift _ _ fun r l => ?_
  pointwise [k0_pay1, lift_ix2]

/-- Two halves put side by side, whatever was there before. -/
theorem put_halves (z : FVec Ideal S512x256 .bf16) (f₀ f₁ : ℕ → ℕ → ℝ) :
    VecWindow.put (VecWindow.put z ![0, 0] S512x128.size (lift (a := 512) (b := 128) (φ := .bf16) f₀)) ![0, 128] S512x128.size
        (lift (a := 512) (b := 128) (φ := .bf16) f₁)
      = lift (φ := .bf16) fun r l => if l < 128 then f₀ r l else f₁ r (l - 128) := by
  refine eq_lift _ _ fun r l => ?_
  unfold VecWindow.put
  by_cases h : l.val < 128
  · rw [dif_neg (fun h' => absurd (h' 1).1 (show ¬ 128 ≤ l.val by omega)),
      dif_pos (fun d => by match d with | ⟨0, _⟩ => exact ⟨Nat.zero_le _, show r.val < 0 + 512 by omega⟩ | ⟨1, _⟩ => exact ⟨Nat.zero_le _, show l.val < 0 + 128 by omega⟩)]
    exact congrArg (fun z : ℝ => (z : EReal)) (if_pos h).symm
  · rw [dif_pos (fun d => by match d with | ⟨0, _⟩ => exact ⟨Nat.zero_le _, show r.val < 0 + 512 by omega⟩ | ⟨1, _⟩ => exact ⟨show 128 ≤ l.val by omega, show l.val < 128 + 128 by omega⟩)]
    exact congrArg (fun z : ℝ => (z : EReal)) (if_neg h).symm

section Point

variable (m : (ℓ : Loc nD τ sig) → Buf (Elt Ideal) ℓ) (c : Dev nD) (q k v o L g : ℕ → ℕ → ℝ)

/-- The kernel's arrays are matrices of real numbers. -/
structure Holds : Prop where
  q : V m c (Pipeline.arrRef spec0 0) = lift (φ := .bf16) q
  k : V m c (Pipeline.arrRef spec0 1) = lift (φ := .bf16) k
  v : V m c (Pipeline.arrRef spec0 2) = lift (φ := .bf16) v
  o : V m c (Pipeline.arrRef spec0 3) = lift (φ := .f32) o
  L : V m c (Pipeline.arrRef spec0 4) = lift (φ := .f32) L
  g : V m c (Pipeline.arrRef spec0 5) = lift (φ := .f32) g

variable {m c q k v o L g} (H : Holds m c q k v o L g)
include H

theorem block_q (t : Fin cfg0.N) : (iblk m c 0 t : FVec Ideal S4096x256 .bf16) = lift (φ := .bf16) (shift (0) (256 * (t.val / 8)) q) := by
  unfold iblk
  rw [H.q]
  funext y
  have e := block_index t
  blk_simp
  blk_point [lift, shift, e]
  simp only [Nat.mul_comm]

theorem block_k (t : Fin cfg0.N) : (iblk m c 1 t : FVec Ideal S512x256 .bf16) = lift (φ := .bf16) (shift (512 * (t.val % 8)) (256 * (t.val / 8)) k) := by
  unfold iblk
  rw [H.k]
  funext y
  have e := block_index t
  blk_simp
  blk_point [lift, shift, e]
  simp only [Nat.mul_comm]

theorem block_v (t : Fin cfg0.N) : (iblk m c 2 t : FVec Ideal S512x128 .bf16) = lift (φ := .bf16) (shift (512 * (t.val % 8)) (128 * (t.val / 8)) v) := by
  unfold iblk
  rw [H.v]
  funext y
  have e := block_index t
  blk_simp
  blk_point [lift, shift, e]
  simp only [Nat.mul_comm]

theorem block_o (t : Fin cfg0.N) : (iblk m c 3 t : FVec Ideal S4096x128 .f32) = lift (φ := .f32) (shift (0) (128 * (t.val / 8)) o) := by
  unfold iblk
  rw [H.o]
  funext y
  have e := block_index t
  blk_simp
  blk_point [lift, shift, e]
  simp only [Nat.mul_comm]

theorem block_L (t : Fin cfg0.N) : (iblk m c 4 t : FVec Ideal S4096x256 .f32) = lift (φ := .f32) (shift (0) (256 * (t.val / 8)) L) := by
  unfold iblk
  rw [H.L]
  funext y
  have e := block_index t
  blk_simp
  blk_point [lift, shift, e]
  simp only [Nat.mul_comm]

theorem block_g (t : Fin cfg0.N) : (iblk m c 5 t : FVec Ideal S4096x128 .f32) = lift (φ := .f32) (shift (0) (128 * (t.val / 8)) g) := by
  unfold iblk
  rw [H.g]
  funext y
  have e := block_index t
  blk_simp
  blk_point [lift, shift, e]
  simp only [Nat.mul_comm]

/-- The point's result from the queries' sums before it. -/
abbrev rawAt (t : Fin cfg0.N) (xs : Vec Ideal S4096x256 .f32) :=
  pointRaw (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
    (iblk m c 0 t) (iblk m c 1 t) (iblk m c 2 t) (iblk m c 3 t) (iblk m c 4 t) (iblk m c 5 t) xs

/-- The point's real numbers from the queries' sums before it. -/
abbrev realAt (t : Fin cfg0.N) (dq : ℕ → ℕ → ℝ) : RealState := upTo q k v o L g (t.val / 8) (t.val % 8) 4096 dq

theorem rawAt_eq (t : Fin cfg0.N) (dq : ℕ → ℕ → ℝ) :
    (rawAt (m := m) (c := c) t (lift (φ := .f32) dq)).1 = (liftS (realAt (q := q) (k := k) (v := v) (o := o) (L := L) (g := g) t dq)).1
      ∧ scM0.view.read (Elt Ideal) (rawAt (m := m) (c := c) t (lift (φ := .f32) dq)).2
        = (liftS (realAt (q := q) (k := k) (v := v) (o := o) (L := L) (g := g) t dq)).2 := by
  have h := pointRaw_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
    (iblk m c 0 t) (iblk m c 1 t) (iblk m c 2 t) (iblk m c 3 t) (iblk m c 4 t) (iblk m c 5 t) (lift (φ := .f32) dq)
  have e := pointSteps_lift q k v o L g (t.val / 8) (t.val % 8) (by omega) dq
  rw [← block_q H t, ← block_k H t, ← block_v H t, ← block_o H t, ← block_L H t, ← block_g H t] at e
  have hj : ∀ j (hj : j < 8), j = t.val % 8 → pointSteps (F := Ideal) (iblk m c 0 t) (iblk m c 1 t) (iblk m c 2 t) (iblk m c 3 t) (iblk m c 4 t) (iblk m c 5 t) j hj (lift (φ := .f32) dq)
      = pointSteps (F := Ideal) (iblk m c 0 t) (iblk m c 1 t) (iblk m c 2 t) (iblk m c 3 t) (iblk m c 4 t) (iblk m c 5 t) (t.val % 8) (by omega) (lift (φ := .f32) dq) := fun j hj h => by subst h; rfl
  rw [hj _ _ (block_coord t), e] at h
  exact h

/-- The queries' sums after a point. -/
theorem sums_point (t : Fin cfg0.N) (dq : ℕ → ℕ → ℝ) (h0 : ¬ t.val % 8 = 0) :
    sumsOf m c t (lift (φ := .f32) dq) = lift (φ := .f32) (realAt (q := q) (k := k) (v := v) (o := o) (L := L) (g := g) t dq).2 := by
  by_cases h1 : t.val % 8 = 7
  · rw [sumsOf_last m c t _ h0 h1]
    rw [(runLast_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
      (iblk m c 0 t) (iblk m c 1 t) (iblk m c 2 t) (iblk m c 3 t) (iblk m c 4 t) (iblk m c 5 t) (lift (φ := .f32) dq) (fun h => h0 ((hcond0_0 t).mp h)) ((hcond0_1 t).mpr h1)).2.2]
    exact (rawAt_eq H t dq).2
  · rw [sumsOf_mid m c t _ h0 h1]
    rw [(runMid_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
      (iblk m c 0 t) (iblk m c 1 t) (iblk m c 2 t) (iblk m c 3 t) (iblk m c 4 t) (iblk m c 5 t) (lift (φ := .f32) dq) (fun h => h0 ((hcond0_0 t).mp h)) (fun h => h1 ((hcond0_1 t).mp h))).2.2]
    exact (rawAt_eq H t dq).2

/-- The queries' sums after a pair of heads' first point, whatever they were before. -/
theorem sums_first (t : Fin cfg0.N) (xs) (h0 : t.val % 8 = 0) :
    sumsOf m c t xs = lift (φ := .f32) (realAt (q := q) (k := k) (v := v) (o := o) (L := L) (g := g) t 0).2 := by
  have h1 : ¬ t.val % 8 = 7 := by omega
  rw [sumsOf_first m c t _ h0 h1]
  refine (congrArg _ (runFirst_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
      (iblk m c 0 t) (iblk m c 1 t) (iblk m c 2 t) (iblk m c 3 t) (iblk m c 4 t) (iblk m c 5 t) ((hcond0_0 t).mpr h0) (fun h => h1 ((hcond0_1 t).mp h))).2.2).trans ?_
  rw [zero_sums]
  exact (rawAt_eq H t 0).2

/-- The queries' sums after a point, the blocks of keys up to the point's. -/
def sumsUpTo (p n R l : ℕ) : ℝ := ∑ C ∈ Finset.range (512 * n), dS q k v o L g (2 * p + l / 128) R C * k C (256 * p + l)

omit H in
theorem realAt_sums (t : Fin cfg0.N) :
    lift (a := 4096) (b := 256) (φ := .f32) (realAt (q := q) (k := k) (v := v) (o := o) (L := L) (g := g) t
        (sumsUpTo (q := q) (k := k) (v := v) (o := o) (L := L) (g := g) (t.val / 8) (t.val % 8))).2
      = lift (φ := .f32) (sumsUpTo (q := q) (k := k) (v := v) (o := o) (L := L) (g := g) (t.val / 8) (t.val % 8 + 1)) := by
  refine lift_congr _ _ fun R hR l _ => ?_
  show (if R < 4096 then _ else _) = _
  rw [if_pos hR]
  unfold sumsUpTo
  rw [Nat.mul_add, Nat.mul_one, Finset.sum_range_add]

theorem sums_after (t : Fin cfg0.N) :
    sumsAfter m c t = lift (φ := .f32) (sumsUpTo (q := q) (k := k) (v := v) (o := o) (L := L) (g := g) (t.val / 8) (t.val % 8 + 1)) := by
  obtain ⟨n, hn⟩ := t
  induction n with
  | zero =>
    rw [sumsAfter, sums_first H ⟨0, hn⟩ _ (Nat.zero_mod 8)]
    rw [← realAt_sums]
    refine congrArg (fun d => lift (φ := .f32) (realAt (q := q) (k := k) (v := v) (o := o) (L := L) (g := g) ⟨0, hn⟩ d).2) (funext fun R => funext fun l => ?_)
    unfold sumsUpTo
    rw [show 512 * (0 % 8) = 0 from rfl, Finset.range_zero, Finset.sum_empty]
    rfl
  | succ n ih =>
    by_cases h0 : (n + 1) % 8 = 0
    · rw [sumsAfter, sums_first H ⟨n + 1, hn⟩ _ h0]
      rw [← realAt_sums]
      refine congrArg (fun d => lift (φ := .f32) (realAt (q := q) (k := k) (v := v) (o := o) (L := L) (g := g) ⟨n + 1, hn⟩ d).2) (funext fun R => funext fun l => ?_)
      unfold sumsUpTo
      rw [show 512 * ((n + 1) % 8) = 0 by omega, Finset.range_zero, Finset.sum_empty]
      rfl
    · have ih := ih (by omega)
      show sumsOf m c ⟨n + 1, hn⟩ (sumsAfter m c ⟨n, by omega⟩) = _
      rw [ih, sums_point H ⟨n + 1, hn⟩ _ h0, ← realAt_sums]
      show lift (φ := .f32) (realAt ⟨n + 1, hn⟩ (sumsUpTo (n / 8) (n % 8 + 1))).2 = lift (φ := .f32) (realAt ⟨n + 1, hn⟩ (sumsUpTo ((n + 1) / 8) ((n + 1) % 8))).2
      rw [show (n + 1) / 8 = n / 8 by omega, show (n + 1) % 8 = n % 8 + 1 by omega]

/-- What the keys' and the values' gradients are at a point depends on the queries' sums nowhere. -/
theorem keys_point (t : Fin cfg0.N) (dq : ℕ → ℕ → ℝ) :
    keysOf m c t (lift (φ := .f32) dq) = lift (φ := .bf16) fun r l => if l < 128 then (realAt (q := q) (k := k) (v := v) (o := o) (L := L) (g := g) t dq).1.1 r l
      else (realAt (q := q) (k := k) (v := v) (o := o) (L := L) (g := g) t dq).1.2.1 r (l - 128) := by
  have key : ∀ xs : Vec Ideal S4096x256 .f32, ∀ d, xs = lift (φ := .f32) d → (ms0_7 t).view.read (Elt Ideal) ((ms0_7 t).view.writes (Elt Ideal) (ms0_7 t).view.junk
        [⟨Rect.unit ![0, 128] S512x128.size inb_S512x256_S512x128_0_128, k0_pay180 (rawAt (m := m) (c := c) t xs).1.2.1⟩,
          ⟨Rect.unit ![0, 0] S512x128.size inb_S512x256_S512x128_0_0, k0_pay179 (rawAt (m := m) (c := c) t xs).1.1⟩])
      = lift (φ := .bf16) fun r l => if l < 128 then (realAt (q := q) (k := k) (v := v) (o := o) (L := L) (g := g) t d).1.1 r l
        else (realAt (q := q) (k := k) (v := v) (o := o) (L := L) (g := g) t d).1.2.1 r (l - 128) := by
    intro xs d e
    subst e
    rw [View.read_writes_cons_put _ _ _ _ _ rfl, View.read_writes_cons_put _ _ _ _ _ rfl, (rawAt_eq H t d).1]
    unfold liftS
    rw [keys_word, keys_word']
    exact put_halves _ _ _
  by_cases h0 : t.val % 8 = 0
  · have h1 : ¬ t.val % 8 = 7 := by omega
    rw [keysOf_first m c t _ h0 h1]
    rw [(runFirst_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
      (iblk m c 0 t) (iblk m c 1 t) (iblk m c 2 t) (iblk m c 3 t) (iblk m c 4 t) (iblk m c 5 t) ((hcond0_0 t).mpr h0) (fun h => h1 ((hcond0_1 t).mp h))).1]
    exact key _ 0 zero_sums
  · by_cases h1 : t.val % 8 = 7
    · rw [keysOf_last m c t _ h0 h1]
      rw [(runLast_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
        (iblk m c 0 t) (iblk m c 1 t) (iblk m c 2 t) (iblk m c 3 t) (iblk m c 4 t) (iblk m c 5 t) (lift (φ := .f32) dq) (fun h => h0 ((hcond0_0 t).mp h)) ((hcond0_1 t).mpr h1)).1]
      exact key _ dq rfl
    · rw [keysOf_mid m c t _ h0 h1]
      rw [(runMid_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
        (iblk m c 0 t) (iblk m c 1 t) (iblk m c 2 t) (iblk m c 3 t) (iblk m c 4 t) (iblk m c 5 t) (lift (φ := .f32) dq) (fun h => h0 ((hcond0_0 t).mp h)) (fun h => h1 ((hcond0_1 t).mp h))).1]
      exact key _ dq rfl

theorem vals_point (t : Fin cfg0.N) (dq : ℕ → ℕ → ℝ) :
    valsOf m c t (lift (φ := .f32) dq) = lift (φ := .bf16) (realAt (q := q) (k := k) (v := v) (o := o) (L := L) (g := g) t dq).1.2.2 := by
  have key : ∀ xs : Vec Ideal S4096x256 .f32, ∀ d, xs = lift (φ := .f32) d → (ms0_8 t).view.read (Elt Ideal) ((ms0_8 t).view.writes (Elt Ideal) (ms0_8 t).view.junk
        [⟨Rect.unit ![0, 0] S512x128.size inb_S512x128_S512x128_0_0, k0_pay181 (rawAt (m := m) (c := c) t xs).1.2.2⟩])
      = lift (φ := .bf16) (realAt (q := q) (k := k) (v := v) (o := o) (L := L) (g := g) t d).1.2.2 := by
    intro xs d e
    subst e
    rw [(rawAt_eq H t d).1]
    unfold liftS
    rw [vals_word]
    exact View.read_writes_full _ _ _ _ _
  by_cases h0 : t.val % 8 = 0
  · have h1 : ¬ t.val % 8 = 7 := by omega
    rw [valsOf_first m c t _ h0 h1]
    rw [(runFirst_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
      (iblk m c 0 t) (iblk m c 1 t) (iblk m c 2 t) (iblk m c 3 t) (iblk m c 4 t) (iblk m c 5 t) ((hcond0_0 t).mpr h0) (fun h => h1 ((hcond0_1 t).mp h))).2.1]
    exact key _ 0 zero_sums
  · by_cases h1 : t.val % 8 = 7
    · rw [valsOf_last m c t _ h0 h1]
      rw [(runLast_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
        (iblk m c 0 t) (iblk m c 1 t) (iblk m c 2 t) (iblk m c 3 t) (iblk m c 4 t) (iblk m c 5 t) (lift (φ := .f32) dq) (fun h => h0 ((hcond0_0 t).mp h)) ((hcond0_1 t).mpr h1)).2.1]
      exact key _ dq rfl
    · rw [valsOf_mid m c t _ h0 h1]
      rw [(runMid_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
        (iblk m c 0 t) (iblk m c 1 t) (iblk m c 2 t) (iblk m c 3 t) (iblk m c 4 t) (iblk m c 5 t) (lift (φ := .f32) dq) (fun h => h0 ((hcond0_0 t).mp h)) (fun h => h1 ((hcond0_1 t).mp h))).2.1]
      exact key _ dq rfl

/-- The queries' sums before a point are real numbers. -/
theorem sums_before (t : Fin cfg0.N) : ∃ dq : ℕ → ℕ → ℝ, sumsBefore m c t.val (Nat.le_of_lt t.isLt) = lift (φ := .f32) dq := by
  obtain ⟨n, hn⟩ := t
  cases n with
  | zero => exact ⟨0, zero_sums⟩
  | succ n => exact ⟨_, sums_after H ⟨n, by omega⟩⟩

/-- The queries' gradient. -/
theorem queries_final : (dats m 0 c).arrAt 6 (cfgs 0).N
    = lift (a := 4096) (b := 1024) (φ := .bf16) fun R X => ∑ C ∈ Finset.range 4096, dS q k v o L g (X / 128) R C * k C X := by
  refine (dats m 0 c).arrAt_eq_of_covers 6 _ (by decide +kernel) fun t ht y => ?_
  have h7 : t.val % 8 = 7 := (flush0_6 t).mp ht
  have e := block_index t
  blk_simp
  rw [after0_6, sums_after H t, sums_word]
  blk_point [lift, e]
  refine congrArg (fun z : ℝ => (z : EReal)) ?_
  unfold sumsUpTo
  rw [h7, show (t.val / 8 * 256 + (y 1).val) / 128 = 2 * (t.val / 8) + (y 1).val / 128 by omega, Nat.mul_comm (t.val / 8) 256]

/-- The keys' gradient. -/
theorem keys_final : (dats m 0 c).arrAt 7 (cfgs 0).N
    = lift (a := 4096) (b := 1024) (φ := .bf16) fun C X => ∑ R ∈ Finset.range 4096, dS q k v o L g (X / 128) R C * q R X := by
  refine (dats m 0 c).arrAt_eq_of_covers 7 _ (by decide +kernel) fun t ht y => ?_
  obtain ⟨d, hd⟩ := sums_before H t
  have e := block_index t
  blk_simp
  rw [after0_7, hd, keys_point H]
  blk_point [lift, e]
  refine congrArg (fun z : ℝ => (z : EReal)) ?_
  split
  · unfold realAt upTo
    dsimp only
    refine Finset.sum_congr rfl fun R _ => ?_
    rw [show (t.val / 8 * 256 + (y 1).val) / 128 = 2 * (t.val / 8) by omega, Nat.mul_comm (t.val % 8) 512,
      show t.val / 8 * 256 + (y 1).val = 128 * (2 * (t.val / 8)) + (y 1).val by omega]
  · unfold realAt upTo
    dsimp only
    refine Finset.sum_congr rfl fun R _ => ?_
    rw [show (t.val / 8 * 256 + (y 1).val) / 128 = 2 * (t.val / 8) + 1 by omega, Nat.mul_comm (t.val % 8) 512,
      show t.val / 8 * 256 + (y 1).val = 128 * (2 * (t.val / 8) + 1) + ((y 1).val - 128) by omega]

/-- The values' gradient. -/
theorem vals_final : (dats m 0 c).arrAt 8 (cfgs 0).N
    = lift (a := 4096) (b := 512) (φ := .bf16) fun C X => ∑ R ∈ Finset.range 4096, P q k L (X / 64) R C * g R X := by
  refine (dats m 0 c).arrAt_eq_of_covers 8 _ (by decide +kernel) fun t ht y => ?_
  obtain ⟨d, hd⟩ := sums_before H t
  have e := block_index t
  blk_simp
  rw [after0_8, hd, vals_point H]
  blk_point [lift, e]
  refine congrArg (fun z : ℝ => (z : EReal)) ?_
  unfold realAt upTo
  dsimp only
  refine Finset.sum_congr rfl fun R _ => ?_
  rw [show (t.val / 8 * 128 + (y 1).val) / 64 = 2 * (t.val / 8) + (y 1).val / 64 by omega, Nat.mul_comm (t.val % 8) 512,
    Nat.mul_comm (t.val / 8) 128]

end Point

end Cert.Attn

end
-- ==== Proof.AttnHost.lean ====
/- What the host lines hand to the attention's backward kernel, in stages: the scores, their row maxima, the exponentials, the row
   sums and the shares of the rows. -/
module

public import proofs.«01_k».proof.Proof.AttnFinal

@[expose] public section

set_option maxRecDepth 16384

noncomputable section

namespace Cert.Attn

open Idealize.ShloMosaic Idealize.ShloMosaic.TcCoe Idealize.ShloMosaic.StableHlo
open Cert.AttnKernelIdeal Cert.AttnKernelIdeal.Gen

/-- The scores: products over the root of the head's size, later keys masked out. -/
def scoresOf (q k : FVec Ideal S4096x8x96 .f32) : FVec Ideal S8x4096x4096 .f32 :=
  select (broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (Host.divf (Host.dotGeneral dot_S4096x8x96_S4096x8x96_S8x4096x4096_2_2_0_0_1_1 none q k) (broadcastInDim S8x4096x4096 ![] bcast_S_S8x4096x4096 (Host.sqrt (constant S_ .f32 0x42C00000#32))))
    (broadcastInDim S8x4096x4096 ![] bcast_S_S8x4096x4096 (constant S_ .f32 0xFF800000#32))

/-- The greatest score of each row. -/
def topOf (s : FVec Ideal S8x4096x4096 .f32) : FVec Ideal S8x4096 .f32 :=
  Host.reduce FloatOps.maximumf s (constant S_ .f32 0xFF800000#32) reducesTo_S8x4096x4096_S8x4096_d2 h_S_

/-- One number per row, as a column. -/
def column (x : FVec Ideal S8x4096 .f32) : FVec Ideal S8x4096x1 .f32 := broadcastInDim S8x4096x1 ![0, 1] bcast_S8x4096_S8x4096x1_0_1 x

/-- A column, repeated along the row. -/
def along (x : FVec Ideal S8x4096x1 .f32) : FVec Ideal S8x4096x4096 .f32 :=
  broadcastInDim S8x4096x4096 ![0, 1, 2] bcast_S8x4096x1_S8x4096x4096_0_1_2 x

/-- The exponentials of the scores' distances from their row's greatest. -/
def weightsOf (s : FVec Ideal S8x4096x4096 .f32) (t : FVec Ideal S8x4096 .f32) : FVec Ideal S8x4096x4096 .f32 := Host.exp (subf s (along (column t)))

/-- The row sums. -/
def totalOf (w : FVec Ideal S8x4096x4096 .f32) : FVec Ideal S8x4096 .f32 :=
  Host.reduceAdd w (constant S_ .f32 0x00000000#32) reducesTo_S8x4096x4096_S8x4096_d2 h_S_

/-- The shares of the rows. -/
def sharesOf (w : FVec Ideal S8x4096x4096 .f32) : FVec Ideal S8x4096x4096 .f32 := Host.divf w (along (column (totalOf w)))

/-- The attention's result, one row per position. -/
def outOf (w : FVec Ideal S8x4096x4096 .f32) (v : FVec Ideal S4096x8x64 .f32) : FVec Ideal S4096x512 .f32 :=
  shapeCast _ (transpose S4096x8x64 [2, 0, 1] (Host.dotGeneral dot_S4096x8x64_S8x4096x4096_S8x64x4096_0_2_2_1_1_0 none v (sharesOf w)) transposes_S8x64x4096_S4096x8x64_2_0_1) shapeCasts_S4096x8x64_S4096x512

/-- The logarithms of the row sums, over 128 lanes a head. -/
def logSumOf (w : FVec Ideal S8x4096x4096 .f32) (t : FVec Ideal S8x4096 .f32) : FVec Ideal S4096x1024 .f32 :=
  shapeCast _ (broadcastInDim S4096x8x128 ![0, 1, 2] bcast_S4096x8x1_S4096x8x128_0_1_2 (transpose S4096x8x1 [1, 0, 2] (addf (column t) (Host.log (column (totalOf w)))) transposes_S8x4096x1_S4096x8x1_1_0_2)) shapeCasts_S4096x8x128_S4096x1024

/-- Heads of 96 lanes, each padded to 128. -/
def padded (x : FVec Ideal S4096x8x96 .f32) : FVec Ideal S4096x1024 .bf16 :=
  truncf .bf16 (shapeCast _ (pad S4096x8x128 ![0, 0, 0] ![0, 0, 32] ![0, 0, 0] x (sitofp .f32 (constantI S_ 32 0#32)) pads_S4096x8x96_S4096x8x128_000_000_0320 h_S_) shapeCasts_S4096x8x128_S4096x1024) bitsLt_bf16_f32

/-- Heads of 64 lanes, one after the other. -/
def headless (x : FVec Ideal S4096x8x64 .f32) : FVec Ideal S4096x512 .bf16 :=
  truncf .bf16 (shapeCast _ x shapeCasts_S4096x8x64_S4096x512) bitsLt_bf16_f32

variable (m : (ℓ : Loc nD τ sig) → Buf (Elt Ideal) ℓ) (c : Dev nD)

/-- The arrays the kernel is given. -/
theorem operands :
    V m c main_v30 = padded (m ((c.tc : Thread nD τ).loc main_arg0))
    ∧ V m c main_v33 = padded (m ((c.tc : Thread nD τ).loc main_arg1))
    ∧ V m c main_v35 = headless (m ((c.tc : Thread nD τ).loc main_arg2)) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  refine ⟨rfl, rfl, rfl⟩

/-- The saved results the kernel is given. -/
theorem saved :
    V m c main_v22 = outOf (weightsOf (scoresOf (m ((c.tc : Thread nD τ).loc main_arg0)) (m ((c.tc : Thread nD τ).loc main_arg1))) (topOf (scoresOf (m ((c.tc : Thread nD τ).loc main_arg0)) (m ((c.tc : Thread nD τ).loc main_arg1))))) (m ((c.tc : Thread nD τ).loc main_arg2))
    ∧ V m c main_v27 = logSumOf (weightsOf (scoresOf (m ((c.tc : Thread nD τ).loc main_arg0)) (m ((c.tc : Thread nD τ).loc main_arg1))) (topOf (scoresOf (m ((c.tc : Thread nD τ).loc main_arg0)) (m ((c.tc : Thread nD τ).loc main_arg1))))) (topOf (scoresOf (m ((c.tc : Thread nD τ).loc main_arg0)) (m ((c.tc : Thread nD τ).loc main_arg1)))) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  refine ⟨rfl, rfl⟩
-- ==== Proof.AttnSoftmax.lean ====
/- The softmax's stages over the real numbers. -/
module

public import proofs.«01_k».proof.Proof.AttnHost
public import proofs.«01_k».proof.Proof.Scalars
public import Mathlib.Data.Finset.Fold

@[expose] public section

set_option maxRecDepth 16384

noncomputable section

namespace Cert.Attn

open Idealize.ShloMosaic Idealize.ShloMosaic.TcCoe Cert.Scalars
open Cert.AttnKernelIdeal Cert.AttnKernelIdeal.Gen

/-- Real numbers as an array of three axes: entry `(x, y, z)` is `f x y z`. -/
def lift3 {a b c : ℕ} {φ : FTy} (f : ℕ → ℕ → ℕ → ℝ) : FVec Ideal ⟨3, ![a, b, c]⟩ φ :=
  fun y => ((f (y 0).val (y 1).val (y 2).val : ℝ) : EReal)

/-- An array of numbers, none infinite, is a matrix of real numbers. -/
theorem exists_lift {a b : ℕ} {φ : FTy} (x : FVec Ideal ⟨2, ![a, b]⟩ φ) (h : ∀ y, x y ≠ ⊥ ∧ x y ≠ ⊤) : ∃ f, x = lift f := by
  refine ⟨fun r l => if hr : r < a then if hl : l < b then EReal.toReal (x (ix2 ⟨r, hr⟩ ⟨l, hl⟩)) else 0 else 0, ?_⟩
  funext y
  have e : (ix2 ⟨(y 0).val, (y 0).isLt⟩ ⟨(y 1).val, (y 1).isLt⟩ : Shape.Idx ⟨2, ![a, b]⟩) = y := by
    funext i; fin_cases i <;> rfl
  unfold lift
  simp only [dif_pos (show (y 0).val < a from (y 0).isLt), dif_pos (show (y 1).val < b from (y 1).isLt), e]
  exact (EReal.coe_toReal (h y).2 (h y).1).symm

/-- An array of numbers of three axes, none infinite, is one of real numbers. -/
theorem exists_lift3 {a b c : ℕ} {φ : FTy} (x : FVec Ideal ⟨3, ![a, b, c]⟩ φ) (h : ∀ y, x y ≠ ⊥ ∧ x y ≠ ⊤) : ∃ f, x = lift3 f := by
  refine ⟨fun r s l => if hr : r < a then if hs : s < b then if hl : l < c then EReal.toReal (x (ix3 ⟨r, hr⟩ ⟨s, hs⟩ ⟨l, hl⟩)) else 0 else 0 else 0, ?_⟩
  funext y
  have e : (ix3 ⟨(y 0).val, (y 0).isLt⟩ ⟨(y 1).val, (y 1).isLt⟩ ⟨(y 2).val, (y 2).isLt⟩ : Shape.Idx ⟨3, ![a, b, c]⟩) = y := by
    funext i; fin_cases i <;> rfl
  unfold lift3
  simp only [dif_pos (show (y 0).val < a from (y 0).isLt), dif_pos (show (y 1).val < b from (y 1).isLt), dif_pos (show (y 2).val < c from (y 2).isLt), e]
  exact (EReal.coe_toReal (h y).2 (h y).1).symm

variable (q k v : ℕ → ℕ → ℕ → ℝ)

/-- A score of head `h`. -/
def headScore (h r c : ℕ) : ℝ := (∑ l ∈ Finset.range 96, q r h l * k c h l) * scale

/-- Division by the root of 96. -/
theorem div_root (x : ℝ) : Ideal.div (x : EReal) (Ideal.sqrt (Ideal.ofBits .f32 0x42C00000#32)) = ((x * scale : ℝ) : EReal) := by
  rw [ninety_six_word, Ideal.sqrt_coe, if_neg (by norm_num), Ideal.div_coe (Real.sqrt_pos.mpr (by norm_num)).ne', one_div, ← EReal.coe_mul]

/-- Two positions below 4096 compare as their words do. -/
theorem sle_position (a b : Fin 4096) : (IntOp.cmpi .sle (BitVec.ofNat 32 a.val) (BitVec.ofNat 32 b.val) = 1) ↔ a.val ≤ b.val := by
  rw [show (1 : BitVec 1) = 1#1 from rfl, IntOp.cmpi_sle]
  have h : ∀ n : Fin 4096, (BitVec.ofNat 32 n.val).toInt = (n.val : ℤ) := fun n => by
    rw [BitVec.toInt_eq_toNat_of_lt (by rw [BitVec.toNat_ofNat, Nat.mod_eq_of_lt (by omega)]; omega), BitVec.toNat_ofNat, Nat.mod_eq_of_lt (by omega)]
  rw [h, h]
  omega

theorem scoresOf_lift : scoresOf (lift3 (φ := .f32) q) (lift3 (φ := .f32) k)
    = fun y => if (y 2).val ≤ (y 1).val then ((headScore q k (y 0).val (y 1).val (y 2).val : ℝ) : EReal) else ⊥ := by
  funext y
  pointwise [scoresOf, lift3]
  simp only [← EReal.coe_mul]
  rw [sum_coe fun x => q (y 1).val (y 0).val x * k (y 2).val (y 0).val x, div_root, bot_word]
  unfold Scalar.select
  simp only [sle_position (y 2) (y 1)]
  rfl

/-- The greatest score of a row is a number: the row's own position is not masked. -/
theorem topOf_lift : ∃ M, topOf (scoresOf (lift3 (φ := .f32) q) (lift3 (φ := .f32) k)) = lift (a := 8) (b := 4096) (φ := .f32) M := by
  refine exists_lift _ fun y => ?_
  rw [scoresOf_lift]
  pointwise [topOf]
  rw [bot_word]
  refine ⟨((Finset.lt_fold_max _).mpr (Or.inr ⟨y 1, Finset.mem_univ _, ?_⟩)).ne', ((Finset.fold_max_lt _).mpr ⟨bot_lt_top, fun x _ => ?_⟩).ne⟩
  · rw [if_pos le_rfl]; exact EReal.bot_lt_coe _
  · split
    · exact EReal.coe_lt_top _
    · exact bot_lt_top

variable (M : ℕ → ℕ → ℝ)

/-- An exponential. -/
def weight (h r c : ℕ) : ℝ := if c ≤ r then Real.exp (headScore q k h r c - M h r) else 0

/-- A row sum. -/
def rowSum (h r : ℕ) : ℝ := ∑ c ∈ Finset.range 4096, weight q k M h r c

theorem rowSum_pos (h r : ℕ) : 0 < rowSum q k M h r := by
  refine Finset.sum_pos' (fun c _ => ?_) ⟨0, Finset.mem_range.mpr (by norm_num), ?_⟩
  · unfold weight; split
    · exact (Real.exp_pos _).le
    · exact le_rfl
  · unfold weight; rw [if_pos (Nat.zero_le _)]; exact Real.exp_pos _

theorem along_column (x : FVec Ideal S8x4096 .f32) (y : S8x4096x4096.Idx) : along (column x) y = x (ix2 (y 0) (y 1)) := by
  pointwise [along, column]

theorem weightsOf_lift : weightsOf (scoresOf (lift3 (φ := .f32) q) (lift3 (φ := .f32) k)) (lift (φ := .f32) M)
    = lift3 (φ := .f32) (weight q k M) := by
  rw [scoresOf_lift]
  funext y
  pointwise [weightsOf, along_column, lift, lift3]
  unfold weight
  split
  · rw [← EReal.coe_sub, Ideal.exp_coe]
  · rw [EReal.bot_sub, Ideal.exp_bot]; rfl

theorem totalOf_lift : totalOf (lift3 (φ := .f32) (weight q k M)) = lift (φ := .f32) (rowSum q k M) := by
  funext y
  pointwise [totalOf, lift, lift3]
  exact sum_coe fun x => weight q k M (y 0).val (y 1).val x

theorem sharesOf_lift : sharesOf (lift3 (φ := .f32) (weight q k M)) = lift3 (φ := .f32) fun h r c => weight q k M h r c / rowSum q k M h r := by
  funext y
  pointwise [sharesOf, totalOf_lift, along_column, lift, lift3]
  rw [Ideal.div_coe (rowSum_pos q k M _ _).ne', ← EReal.coe_mul, mul_one_div]

theorem outOf_lift : outOf (lift3 (φ := .f32) (weight q k M)) (lift3 (φ := .f32) v)
    = lift (φ := .f32) fun r X => ∑ c ∈ Finset.range 4096, v c (X / 64) (X % 64) * (weight q k M (X / 64) r c / rowSum q k M (X / 64) r) := by
  funext y
  pointwise [outOf, sharesOf_lift, lift, lift3]
  simp only [← EReal.coe_mul]
  exact sum_coe fun x => v x ((y 1).val / 64) ((y 1).val % 64) * (weight q k M ((y 1).val / 64) (y 0).val x / rowSum q k M ((y 1).val / 64) (y 0).val)

theorem logSumOf_lift : logSumOf (lift3 (φ := .f32) (weight q k M)) (lift (φ := .f32) M)
    = lift (φ := .f32) fun r X => M (X / 128) r + Real.log (rowSum q k M (X / 128) r) := by
  funext y
  pointwise [logSumOf, totalOf_lift, column, lift, lift3]
  rw [Ideal.log_coe, if_neg (not_le.mpr (rowSum_pos q k M _ _)), EReal.coe_add]

theorem padded_lift : padded (lift3 (φ := .f32) q)
    = lift (φ := .bf16) fun r X => if X % 128 < 96 then q r (X / 128) (X % 128) else 0 := by
  funext y
  pointwise [padded, lift, lift3]
  have hy : (y 1).val < 1024 := (y 1).isLt
  have hz : FloatOps.sitofp (F := Ideal) (w := 32) FTy.f32 0#32 = ((0 : ℝ) : EReal) := by
    show (((0#32 : BitVec 32).toInt : ℝ) : EReal) = _; simp
  by_cases h : (y 1).val % 128 < 96
  · rw [dif_pos ⟨by omega, h⟩, if_pos h]
  · rw [dif_neg fun e => h e.2, if_neg h, hz]

theorem headless_lift : headless (lift3 (φ := .f32) v) = lift (φ := .bf16) fun r X => v r (X / 64) (X % 64) := by
  funext y
  pointwise [headless, lift, lift3]

end Cert.Attn

end
-- ==== Proof.AttnReference.lean ====
/- The reference's derivative of the attention, in stages and over the real numbers. -/
module

public import proofs.«01_k».proof.Proof.AttnSoftmax
public import proofs.«01_k».proof.Proof.Gen.AttnReferenceIdeal.Run

@[expose] public section

set_option maxRecDepth 16384

noncomputable section

namespace Cert.Attn

open Idealize.ShloMosaic Idealize.ShloMosaic.TcCoe Cert.Scalars
open Cert.AttnReferenceIdeal Cert.AttnReferenceIdeal.Gen

/-- The row maxima the reference subtracts. -/
def guarded (t : FVec Ideal S8x4096 .f32) : FVec Ideal S8x4096 .f32 :=
  maximumf (broadcastInDim S8x4096 ![] bcast_S_S8x4096 (constant S_ .f32 0xFF800000#32)) t

/-- The cotangent's rows, by head. -/
def cotangent (g : FVec Ideal S4096x512 .f32) : FVec Ideal S8x64x4096 .f32 :=
  transpose S8x64x4096 [1, 2, 0] (shapeCast _ g shapeCasts_S4096x512_S4096x8x64) transposes_S4096x8x64_S8x64x4096_1_2_0

/-- The shares' gradients. -/
def dSharesOf (g : FVec Ideal S4096x512 .f32) (v : FVec Ideal S4096x8x64 .f32) : FVec Ideal S8x4096x4096 .f32 :=
  Host.dotGeneral dot_S8x64x4096_S4096x8x64_S8x4096x4096_1_2_2_0_0_1 none (cotangent g) v

/-- The values' gradients. -/
def dValuesOf (g : FVec Ideal S4096x512 .f32) (w : FVec Ideal S8x4096x4096 .f32) : FVec Ideal S4096x8x64 .f32 :=
  transpose S4096x8x64 [2, 0, 1] (Host.dotGeneral dot_S8x64x4096_S8x4096x4096_S8x64x4096_2_1_1_2_0_0 none (cotangent g) (sharesOf w)) transposes_S8x64x4096_S4096x8x64_2_0_1

/-- What the row sums' gradient adds to every exponential's. -/
def drainOf (d w : FVec Ideal S8x4096x4096 .f32) : FVec Ideal S8x4096 .f32 :=
  Host.reduceAdd (Host.negf (shapeCast _ (Host.reduceAdd (mulf (mulf d (along (Host.divf (broadcastInDim S8x4096x1 ![] bcast_S_S8x4096x1 (constant S_ .f32 0x3F800000#32)) (mulf (column (totalOf w)) (column (totalOf w)))))) w) (constant S_ .f32 0x00000000#32) reducesTo_S8x4096x4096_S8x4096_d2 h_S_) shapeCasts_S8x4096_S8x4096x1)) (constant S_ .f32 0x00000000#32) reducesTo_S8x4096x1_S8x4096_d2 h_S_

/-- The products' gradients. -/
def dScoresOf (d w : FVec Ideal S8x4096x4096 .f32) : FVec Ideal S8x4096x4096 .f32 :=
  Host.divf
    (select (broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
      (mulf (addf (Host.divf d (along (column (totalOf w)))) (broadcastInDim S8x4096x4096 ![0, 1] bcast_S8x4096_S8x4096x4096_0_1 (drainOf d w))) w)
      (broadcastInDim S8x4096x4096 ![] bcast_S_S8x4096x4096 (constant S_ .f32 0x00000000#32)))
    (broadcastInDim S8x4096x4096 ![] bcast_S_S8x4096x4096 (Host.sqrt (constant S_ .f32 0x42C00000#32)))

/-- The queries' gradients. -/
def dQueriesOf (s : FVec Ideal S8x4096x4096 .f32) (k : FVec Ideal S4096x8x96 .f32) : FVec Ideal S4096x8x96 .f32 :=
  transpose S4096x8x96 [1, 0, 2] (Host.dotGeneral dot_S8x4096x4096_S4096x8x96_S8x4096x96_2_0_1_2_0_1 none s k) transposes_S8x4096x96_S4096x8x96_1_0_2

/-- The keys' gradients. -/
def dKeysOf (s : FVec Ideal S8x4096x4096 .f32) (q : FVec Ideal S4096x8x96 .f32) : FVec Ideal S4096x8x96 .f32 :=
  transpose S4096x8x96 [1, 0, 2] (Host.dotGeneral dot_S8x4096x4096_S4096x8x96_S8x4096x96_1_0_2_2_0_1 none s q) transposes_S8x4096x96_S4096x8x96_1_0_2

/-- The exponentials the reference takes. -/
def refWeights (q k : FVec Ideal S4096x8x96 .f32) : FVec Ideal S8x4096x4096 .f32 := weightsOf (scoresOf q k) (guarded (topOf (scoresOf q k)))

section
variable (m : (ℓ : Loc nD τ sig) → Buf (Elt Ideal) ℓ) (c : Dev nD)

theorem result_queries : Value.res_main_v70 m c = padded (dQueriesOf (dScoresOf (dSharesOf (m ((c.tc : Thread nD τ).loc main_arg3)) (m ((c.tc : Thread nD τ).loc main_arg2))) (refWeights (m ((c.tc : Thread nD τ).loc main_arg0)) (m ((c.tc : Thread nD τ).loc main_arg1)))) (m ((c.tc : Thread nD τ).loc main_arg1))) := by
  unfold Value.res_main_v70; rfl

theorem result_keys : Value.res_main_v71 m c = padded (dKeysOf (dScoresOf (dSharesOf (m ((c.tc : Thread nD τ).loc main_arg3)) (m ((c.tc : Thread nD τ).loc main_arg2))) (refWeights (m ((c.tc : Thread nD τ).loc main_arg0)) (m ((c.tc : Thread nD τ).loc main_arg1)))) (m ((c.tc : Thread nD τ).loc main_arg0))) := by
  unfold Value.res_main_v71; rfl

theorem result_values : Value.res_main_v73 m c = headless (dValuesOf (m ((c.tc : Thread nD τ).loc main_arg3)) (refWeights (m ((c.tc : Thread nD τ).loc main_arg0)) (m ((c.tc : Thread nD τ).loc main_arg1)))) := by
  unfold Value.res_main_v73; rfl
end

variable (q k v : ℕ → ℕ → ℕ → ℝ) (M g : ℕ → ℕ → ℝ)

theorem guarded_eq (t : FVec Ideal S8x4096 .f32) : guarded t = t := by
  funext y
  pointwise [guarded]
  rw [bot_word]
  exact max_bot_left _

/-- A share's gradient. -/
def dShare (h r c : ℕ) : ℝ := ∑ d ∈ Finset.range 64, g r (64 * h + d) * v c h d

theorem cotangent_lift : cotangent (lift (φ := .f32) g) = lift3 (φ := .f32) fun h d r => g r (64 * h + d) := by
  funext y
  pointwise [cotangent, lift, lift3]
  rw [Nat.mul_comm]

theorem dSharesOf_lift : dSharesOf (lift (φ := .f32) g) (lift3 (φ := .f32) v) = lift3 (φ := .f32) (dShare v g) := by
  funext y
  pointwise [dSharesOf, cotangent_lift, lift3]
  simp only [← EReal.coe_mul]
  exact sum_coe fun d => g (y 1).val (64 * (y 0).val + d) * v (y 2).val (y 0).val d

theorem dValuesOf_lift : dValuesOf (lift (φ := .f32) g) (lift3 (φ := .f32) (weight q k M))
    = lift3 (φ := .f32) fun c h d => ∑ r ∈ Finset.range 4096, g r (64 * h + d) * (weight q k M h r c / rowSum q k M h r) := by
  funext y
  pointwise [dValuesOf, cotangent_lift, sharesOf_lift, lift3]
  simp only [← EReal.coe_mul]
  exact sum_coe fun r => g r (64 * (y 1).val + (y 2).val) * (weight q k M (y 1).val r (y 0).val / rowSum q k M (y 1).val r)

/-- What the row sums' gradient adds. -/
def drain (h r : ℕ) : ℝ := -∑ c ∈ Finset.range 4096, dShare v g h r c * (1 / (rowSum q k M h r * rowSum q k M h r)) * weight q k M h r c

theorem drainOf_lift : drainOf (lift3 (φ := .f32) (dShare v g)) (lift3 (φ := .f32) (weight q k M)) = lift (φ := .f32) (drain q k v M g) := by
  funext y
  pointwise [drainOf, totalOf_lift, along, column, lift, lift3]
  have hr := (rowSum_pos q k M (y 0).val (y 1).val).ne'
  simp only [← EReal.coe_mul, Ideal.div_coe (mul_ne_zero hr hr), one_mul]
  rw [sum_coe fun x => dShare v g (y 0).val (y 1).val x * (1 / (rowSum q k M (y 0).val (y 1).val * rowSum q k M (y 0).val (y 1).val)) * weight q k M (y 0).val (y 1).val x]
  exact Fin.sum_univ_one _

/-- A product's gradient. -/
def dProduct (h r c : ℕ) : ℝ :=
  (if c ≤ r then (dShare v g h r c / rowSum q k M h r + drain q k v M g h r) * weight q k M h r c else 0) * scale

theorem dScoresOf_lift : dScoresOf (lift3 (φ := .f32) (dShare v g)) (lift3 (φ := .f32) (weight q k M)) = lift3 (φ := .f32) (dProduct q k v M g) := by
  funext y
  pointwise [dScoresOf, drainOf_lift, totalOf_lift, along_column, lift, lift3]
  rw [Ideal.div_coe (rowSum_pos q k M _ _).ne', ← EReal.coe_mul, ← EReal.coe_add, ← EReal.coe_mul, mul_one_div]
  unfold Scalar.select dProduct
  simp only [sle_position (y 2) (y 1)]
  split
  · exact div_root _
  · exact (div_root 0).trans (by rw [zero_mul])

theorem dQueriesOf_lift (s : ℕ → ℕ → ℕ → ℝ) : dQueriesOf (lift3 (φ := .f32) s) (lift3 (φ := .f32) k)
    = lift3 (φ := .f32) fun r h l => ∑ c ∈ Finset.range 4096, s h r c * k c h l := by
  funext y
  pointwise [dQueriesOf, lift3]
  simp only [← EReal.coe_mul]
  exact sum_coe fun c => s (y 1).val (y 0).val c * k c (y 1).val (y 2).val

theorem dKeysOf_lift (s : ℕ → ℕ → ℕ → ℝ) : dKeysOf (lift3 (φ := .f32) s) (lift3 (φ := .f32) q)
    = lift3 (φ := .f32) fun c h l => ∑ r ∈ Finset.range 4096, s h r c * q r h l := by
  funext y
  pointwise [dKeysOf, lift3]
  simp only [← EReal.coe_mul]
  exact sum_coe fun r => s (y 1).val r (y 0).val * q r (y 1).val (y 2).val

end Cert.Attn

end
-- ==== Proof.AttnValue.lean ====
/- The attention's backward kernel computes the derivative of the attention. -/
module

public import proofs.«01_k».proof.Proof.AttnReference
public import proofs.«01_k».proof.Defs
public import Idealize.ShloMosaic.Lib.Claim
public import Idealize.ShloMosaic.Lib.ReduceAll

@[expose] public section

set_option maxRecDepth 16384

noncomputable section

namespace Cert.Attn

open Idealize.ShloMosaic Idealize.ShloMosaic.TcCoe Cert.Scalars

section reals
variable (q k v : ℕ → ℕ → ℕ → ℝ) (M g : ℕ → ℕ → ℝ)

/-- Heads of 96 lanes among heads of 128. -/
def wide (x : ℕ → ℕ → ℕ → ℝ) (r X : ℕ) : ℝ := if X % 128 < 96 then x r (X / 128) (X % 128) else 0
/-- Heads of 64 lanes, one after the other. -/
def flat (x : ℕ → ℕ → ℕ → ℝ) (r X : ℕ) : ℝ := x r (X / 64) (X % 64)
/-- The attention's result. -/
def attended (r X : ℕ) : ℝ := ∑ c ∈ Finset.range 4096, v c (X / 64) (X % 64) * (weight q k M (X / 64) r c / rowSum q k M (X / 64) r)
/-- The logarithms of the row sums. -/
def logSum (r X : ℕ) : ℝ := M (X / 128) r + Real.log (rowSum q k M (X / 128) r)

theorem wide_score (r c h : ℕ) : (∑ l ∈ Finset.range 128, wide q r (128 * h + l) * wide k c (128 * h + l)) = ∑ l ∈ Finset.range 96, q r h l * k c h l := by
  rw [show 128 = 96 + 32 from rfl, Finset.sum_range_add]
  rw [Finset.sum_eq_zero (s := Finset.range 32), add_zero]
  · refine Finset.sum_congr rfl fun l hl => ?_
    have := Finset.mem_range.mp hl
    unfold wide
    rw [show (96 + 32) * h + l = 128 * h + l from rfl, show (128 * h + l) % 128 = l by omega, show (128 * h + l) / 128 = h by omega, if_pos this, if_pos this]
  · intro l hl
    have := Finset.mem_range.mp hl
    unfold wide
    rw [if_neg (by omega), zero_mul]

/-- The kernel's probability is the softmax's share. -/
theorem share_eq (h r c : ℕ) : P (wide q) (wide k) (logSum q k M) h r c = weight q k M h r c / rowSum q k M h r := by
  unfold P weight
  split
  · rw [wide_score]
    unfold logSum
    rw [show 128 * h / 128 = h by omega]
    have hT := rowSum_pos q k M h r
    have h2 : Real.log 2 ≠ 0 := (Real.log_pos (by norm_num)).ne'
    rw [Real.rpow_eq_pow]
    rw [Real.rpow_def_of_pos (by norm_num)]
    rw [show Real.log 2 * ((∑ l ∈ Finset.range 96, q r h l * k c h l) * (scale * log2e) - (M h r + Real.log (rowSum q k M h r)) * log2e)
      = headScore q k h r c - M h r - Real.log (rowSum q k M h r) by unfold headScore; field_simp; ring]
    rw [Real.exp_sub, Real.exp_log hT]
  · rw [zero_div]

theorem flat_lane (x : ℕ → ℕ → ℕ → ℝ) (r h l : ℕ) (hl : l < 64) : flat x r (64 * h + l) = x r h l := by
  unfold flat
  rw [show (64 * h + l) / 64 = h by omega, show (64 * h + l) % 64 = l by omega]

/-- What the kernel subtracts from a share's gradient is the shares' mean of those gradients. -/
theorem mean_eq (h r : ℕ) : (∑ l ∈ Finset.range 64, g r (64 * h + l) * attended q k v M r (64 * h + l))
    = ∑ c ∈ Finset.range 4096, weight q k M h r c / rowSum q k M h r * dShare v g h r c := by
  unfold dShare
  simp only [Finset.mul_sum]
  rw [Finset.sum_comm]
  refine Finset.sum_congr rfl fun l hl => ?_
  have := Finset.mem_range.mp hl
  unfold attended
  rw [show (64 * h + l) / 64 = h by omega, show (64 * h + l) % 64 = l by omega, Finset.mul_sum]
  exact Finset.sum_congr rfl fun c _ => by ring

/-- The kernel's score gradient is the reference's. -/
theorem product_eq (h r c : ℕ) : dS (wide q) (wide k) (flat v) (attended q k v M) (logSum q k M) g h r c = dProduct q k v M g h r c := by
  have hT := (rowSum_pos q k M h r).ne'
  have e : (∑ l ∈ Finset.range 64, g r (64 * h + l) * flat v c (64 * h + l)) = dShare v g h r c :=
    Finset.sum_congr rfl fun l hl => by rw [flat_lane _ _ _ _ (Finset.mem_range.mp hl)]
  have d : drain q k v M g h r = -(∑ c ∈ Finset.range 4096, weight q k M h r c / rowSum q k M h r * dShare v g h r c) / rowSum q k M h r := by
    unfold drain
    rw [neg_div, Finset.sum_div]
    exact congrArg _ (Finset.sum_congr rfl fun c _ => by field_simp)
  unfold dS dProduct
  rw [share_eq, mean_eq, e, d]
  split
  · field_simp; ring
  · unfold weight; rw [if_neg (by assumption)]; ring

/-- The queries' gradients, as the kernel and as the reference sum them. -/
theorem queries_eq : (lift (a := 4096) (b := 1024) (φ := .bf16) fun R X => ∑ C ∈ Finset.range 4096,
      dS (wide q) (wide k) (flat v) (attended q k v M) (logSum q k M) g (X / 128) R C * wide k C X)
    = padded (lift3 (φ := .f32) fun r h l => ∑ c ∈ Finset.range 4096, dProduct q k v M g h r c * k c h l) := by
  rw [padded_lift]
  refine congrArg (lift (φ := .bf16)) (funext fun R => funext fun X => ?_)
  simp only [product_eq]
  unfold wide
  split
  · rfl
  · exact Finset.sum_eq_zero fun _ _ => mul_zero _

/-- The keys' gradients, as the kernel and as the reference sum them. -/
theorem keys_eq : (lift (a := 4096) (b := 1024) (φ := .bf16) fun C X => ∑ R ∈ Finset.range 4096,
      dS (wide q) (wide k) (flat v) (attended q k v M) (logSum q k M) g (X / 128) R C * wide q R X)
    = padded (lift3 (φ := .f32) fun c h l => ∑ r ∈ Finset.range 4096, dProduct q k v M g h r c * q r h l) := by
  rw [padded_lift]
  refine congrArg (lift (φ := .bf16)) (funext fun C => funext fun X => ?_)
  simp only [product_eq]
  unfold wide
  split
  · rfl
  · exact Finset.sum_eq_zero fun _ _ => mul_zero _

/-- The values' gradients, as the kernel and as the reference sum them. -/
theorem values_eq : (lift (a := 4096) (b := 512) (φ := .bf16) fun C X => ∑ R ∈ Finset.range 4096,
      P (wide q) (wide k) (logSum q k M) (X / 64) R C * g R X)
    = headless (lift3 (φ := .f32) fun c h d => ∑ r ∈ Finset.range 4096, g r (64 * h + d) * (weight q k M h r c / rowSum q k M h r)) := by
  rw [headless_lift]
  refine congrArg (lift (φ := .bf16)) (funext fun C => funext fun X => Finset.sum_congr rfl fun R _ => ?_)
  rw [share_eq, mul_comm, Nat.div_add_mod]

theorem refWeights_lift (hM : topOf (scoresOf (lift3 (φ := .f32) q) (lift3 (φ := .f32) k)) = lift (a := 8) (b := 4096) (φ := .f32) M) :
    refWeights (lift3 (φ := .f32) q) (lift3 (φ := .f32) k) = lift3 (φ := .f32) (weight q k M) := by
  unfold refWeights
  rw [guarded_eq, hM, weightsOf_lift]

end reals

section results
open Cert.AttnReferenceIdeal
variable {m : (ℓ : Loc nD τ sig) → Buf (Elt Ideal) ℓ} {c : Dev nD} {q k v : ℕ → ℕ → ℕ → ℝ} {M g : ℕ → ℕ → ℝ}
variable (hq : (m ((c.tc : Thread nD τ).loc main_arg0) : FVec Ideal S4096x8x96 .f32) = lift3 (φ := .f32) q)
  (hk : (m ((c.tc : Thread nD τ).loc main_arg1) : FVec Ideal S4096x8x96 .f32) = lift3 (φ := .f32) k)
  (hv : (m ((c.tc : Thread nD τ).loc main_arg2) : FVec Ideal S4096x8x64 .f32) = lift3 (φ := .f32) v)
  (hg : (m ((c.tc : Thread nD τ).loc main_arg3) : FVec Ideal S4096x512 .f32) = lift (φ := .f32) g)
  (hM : topOf (scoresOf (lift3 (φ := .f32) q) (lift3 (φ := .f32) k)) = lift (a := 8) (b := 4096) (φ := .f32) M)
include hq hk hv hg hM

theorem ref_queries : Value.res_main_v70 m c = padded (lift3 (φ := .f32) fun r h l => ∑ c ∈ Finset.range 4096, dProduct q k v M g h r c * k c h l) := by
  rw [result_queries, hq, hk, hv, hg, refWeights_lift q k M hM, dSharesOf_lift, dScoresOf_lift, dQueriesOf_lift]

theorem ref_keys : Value.res_main_v71 m c = padded (lift3 (φ := .f32) fun c h l => ∑ r ∈ Finset.range 4096, dProduct q k v M g h r c * q r h l) := by
  rw [result_keys, hq, hk, hv, hg, refWeights_lift q k M hM, dSharesOf_lift, dScoresOf_lift, dKeysOf_lift]

omit hv in
theorem ref_values : Value.res_main_v73 m c = headless (lift3 (φ := .f32) fun c h d => ∑ r ∈ Finset.range 4096, g r (64 * h + d) * (weight q k M h r c / rowSum q k M h r)) := by
  rw [result_values, hq, hk, hg, refWeights_lift q k M hM, dValuesOf_lift]
end results

/-- An array whose printed test of finiteness holds has no infinite entry. -/
theorem ne_of_lt_top {x : EReal} (h : Ideal.cmp .olt (max x (-x)) ⊤ = 1#1) : x ≠ ⊥ ∧ x ≠ ⊤ := by
  have e : max x (-x) < ⊤ := by
    by_contra hn
    simp [Ideal.cmp, hn] at h
  refine ⟨fun hb => ?_, fun ht => ?_⟩
  · rw [hb] at e; simp at e
  · rw [ht] at e; simp at e

section pre
open Cert.Pre_attn_finite
variable [Facts] (q k : FVec Ideal S4096x8x96 .f32) (v : FVec Ideal S4096x8x64 .f32) (g : FVec Ideal S4096x512 .f32)

/-- The precondition says that no entry of the four arrays is infinite. -/
theorem finite_of_pre (h : fn q k v g = fun _ => 1#1) :
    (∀ y, q y ≠ ⊥ ∧ q y ≠ ⊤) ∧ (∀ y, k y ≠ ⊥ ∧ k y ≠ ⊤) ∧ (∀ y, v y ≠ ⊥ ∧ v y ≠ ⊤) ∧ (∀ y, g y ≠ ⊥ ∧ g y ≠ ⊤) := by
  have e := congrFun h (fun i => i.elim0)
  dsimp only [fn, fn_part1] at e
  obtain ⟨e, eg⟩ := IntOp.andi_eq_one.1 e
  obtain ⟨e, ev⟩ := IntOp.andi_eq_one.1 e
  obtain ⟨eq, ek⟩ := IntOp.andi_eq_one.1 e
  refine ⟨fun y => ne_of_lt_top ?_, fun y => ne_of_lt_top ?_, fun y => ne_of_lt_top ?_, fun y => ne_of_lt_top ?_⟩
  · exact (congrArg (Ideal.cmp .olt (max (q y) (-q y))) top_word).symm.trans (Host.reduce_andi_all _ _ _ _ _ eq y)
  · exact (congrArg (Ideal.cmp .olt (max (k y) (-k y))) top_word).symm.trans (Host.reduce_andi_all _ _ _ _ _ ek y)
  · exact (congrArg (Ideal.cmp .olt (max (v y) (-v y))) top_word).symm.trans (Host.reduce_andi_all _ _ _ _ _ ev y)
  · exact (congrArg (Ideal.cmp .olt (max (g y) (-g y))) top_word).symm.trans (Host.reduce_andi_all _ _ _ _ _ eg y)
end pre

section claim
open Cert.AttnKernelIdeal Cert.AttnKernelIdeal.Gen
variable (m : (ℓ : Loc nD τ sig) → Buf (Elt Ideal) ℓ)

/-- Where the precondition holds, the arguments are arrays of real numbers. -/
theorem reals_of_pre [Cert.Pre_attn_finite.Facts] (h : Pre_AttnKernelIdeal_attn_finite m) (c : Dev nD) :
    ∃ (q k v : ℕ → ℕ → ℕ → ℝ) (g : ℕ → ℕ → ℝ),
      (m ((c.tc : Thread nD τ).loc main_arg0) : FVec Ideal S4096x8x96 .f32) = lift3 (φ := .f32) q
      ∧ (m ((c.tc : Thread nD τ).loc main_arg1) : FVec Ideal S4096x8x96 .f32) = lift3 (φ := .f32) k
      ∧ (m ((c.tc : Thread nD τ).loc main_arg2) : FVec Ideal S4096x8x64 .f32) = lift3 (φ := .f32) v
      ∧ (m ((c.tc : Thread nD τ).loc main_arg3) : FVec Ideal S4096x512 .f32) = lift (φ := .f32) g := by
  obtain ⟨e0, e1, e2, e3⟩ := finite_of_pre _ _ _ _ (h c)
  obtain ⟨q, hq⟩ := exists_lift3 _ e0
  obtain ⟨k, hk⟩ := exists_lift3 _ e1
  obtain ⟨v, hv⟩ := exists_lift3 _ e2
  obtain ⟨g, hg⟩ := exists_lift _ e3
  exact ⟨q, k, v, g, hq, hk, hv, hg⟩

/-- What the kernel is given, as real numbers. -/
theorem holds_of {c : Dev nD} {q k v : ℕ → ℕ → ℕ → ℝ} {M g : ℕ → ℕ → ℝ}
    (hq : (m ((c.tc : Thread nD τ).loc main_arg0) : FVec Ideal S4096x8x96 .f32) = lift3 (φ := .f32) q)
    (hk : (m ((c.tc : Thread nD τ).loc main_arg1) : FVec Ideal S4096x8x96 .f32) = lift3 (φ := .f32) k)
    (hv : (m ((c.tc : Thread nD τ).loc main_arg2) : FVec Ideal S4096x8x64 .f32) = lift3 (φ := .f32) v)
    (hg : (m ((c.tc : Thread nD τ).loc main_arg3) : FVec Ideal S4096x512 .f32) = lift (φ := .f32) g)
    (hM : topOf (scoresOf (lift3 (φ := .f32) q) (lift3 (φ := .f32) k)) = lift (a := 8) (b := 4096) (φ := .f32) M) :
    Holds m c (wide q) (wide k) (flat v) (attended q k v M) (logSum q k M) g := by
  have a := operands m c
  have s := saved m c
  rw [hq, hk, hv, hM, weightsOf_lift, outOf_lift, logSumOf_lift] at s
  rw [hq, hk, hv, padded_lift, padded_lift, headless_lift] at a
  exact ⟨a.1, a.2.1, a.2.2, s.1, s.2, (V_main_arg3 m c).trans hg⟩

/-- The launch ends with the three arrays of the proof data, the arguments unchanged. -/
theorem run_arrays (ρ : Dev nD → PrngReg) : θ_run defs (onTc (τ := τ) (main (F := Ideal))) ⟨m, fun _ => 0, ρ⟩ fun r => ∀ c : Dev nD,
    r.2.mem ((c.tc : Thread nD τ).loc main_v36_0) = (dats m 0 c).arrAt 6 (cfgs 0).N
    ∧ r.2.mem ((c.tc : Thread nD τ).loc main_v36_1) = (dats m 0 c).arrAt 7 (cfgs 0).N
    ∧ r.2.mem ((c.tc : Thread nD τ).loc main_v36_2) = (dats m 0 c).arrAt 8 (cfgs 0).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h.1 c).1 6, (h.1 c).1 7, (h.1 c).1 8, h.2 c⟩)
    (θ_run_and (run_main m ρ) (frame_of m ρ (dats m) (A_eq m) (run_main m ρ)))

/-- The attention's backward kernel and the derivative of the attention end with the same three arrays. -/
theorem algebraic [Cert.Pre_attn_finite.Facts] : Cert.algebraic_AttnKernelIdeal_AttnReferenceIdeal_pre_attn_finite := by
  intro m g m' g' hpre hagree
  choose q k v go hq hk hv hg using reals_of_pre m hpre
  choose M hM using fun c => topOf_lift (q c) (k c)
  refine ⟨fun c => (dats m 0 c).arrAt 6 (cfgs 0).N, fun c => (dats m 0 c).arrAt 7 (cfgs 0).N, fun c => (dats m 0 c).arrAt 8 (cfgs 0).N, ?_, ?_⟩
  · exact run_arrays m g
  · refine (θ_run _ _ _).mono (fun r h c => ?_) (Cert.AttnReferenceIdeal.Value.run m' g')
    have H := holds_of m (hq c) (hk c) (hv c) (hg c) (hM c)
    obtain ⟨h0, h1, h2, ha⟩ := h c
    obtain ⟨e0, e1, e2, e3⟩ := hagree c
    refine ⟨h0.trans ((ref_queries (e0.trans (hq c)) (e1.trans (hk c)) (e2.trans (hv c)) (e3.trans (hg c)) (hM c)).trans ?_),
      h1.trans ((ref_keys (e0.trans (hq c)) (e1.trans (hk c)) (e2.trans (hv c)) (e3.trans (hg c)) (hM c)).trans ?_),
      h2.trans ((ref_values (e0.trans (hq c)) (e1.trans (hk c)) (e3.trans (hg c)) (hM c)).trans ?_), ha⟩
    · exact ((queries_final H).trans (queries_eq _ _ _ _ _)).symm
    · exact ((keys_final H).trans (keys_eq _ _ _ _ _)).symm
    · exact ((vals_final H).trans (values_eq _ _ _ _)).symm
end claim

end Cert.Attn

end
-- ==== Proof.AttnBits.lean ====
module

public import proofs.«01_k».proof.Defs
public import proofs.«01_k».proof.Proof.AttnFrame
public import proofs.«01_k».proof.Proof.Gen.AttnKernel
public import Idealize.ShloMosaic.Lib.Claim

/-! The frame of the attention's backward kernel over the machine's own numbers. The kernel and its idealised form have one
    text but for the named constants; read at the word each of them stands for, the idealised form is the kernel. -/

@[expose] public section

set_option maxRecDepth 16384

noncomputable section

namespace Cert.Attn

open Idealize.ShloMosaic Idealize.ShloMosaic.TcCoe Idealize.ShloMosaic.Tactic
open Idealize.SL Idealize.SL.RA Idealize.SL.BI

/-- Over the machine's numbers a named constant is its word. -/
def namedWord : Named Bits where
  named _ _ {φ} bits := FloatOps.ofBits φ bits

local instance : Named Bits := namedWord

theorem frame_kernel (m : (ℓ : Loc Cert.AttnKernel.nD Cert.AttnKernel.τ Cert.AttnKernel.sig) → Buf (Elt Bits) ℓ)
    (ρ : Dev Cert.AttnKernel.nD → PrngReg) :
    θ_run Cert.AttnKernel.defs (onTc (τ := Cert.AttnKernel.τ) (Cert.AttnKernel.main (F := Bits))) ⟨m, fun _ => 0, ρ⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0) := by
  refine cast ?_ (Cert.AttnKernelIdeal.Gen.frame (F := Bits) m ρ)
  sl_kernel_rfl

end Cert.Attn

end
-- ==== Proof.AttnClaim.lean ====
/- The claims about the attention's backward call. -/
module

public import proofs.«01_k».proof.Proof.AttnValue
public import proofs.«01_k».proof.Proof.AttnBits

@[expose] public section

set_option maxRecDepth 16384

noncomputable section

namespace Cert.Attn

open Idealize.ShloMosaic Idealize.SL.Sem

/-- Every run ends, its arguments unchanged and its semaphores at rest. -/
theorem quiescent_kernel : Cert.quiescent_AttnKernel := fun m ρ _ => frame_kernel m ρ

/-- The same on the extended reals. -/
theorem quiescent_ideal : Cert.quiescent_AttnKernelIdeal := fun m ρ _ => Cert.AttnKernelIdeal.Gen.frame m ρ

/-- The same of finite arguments. -/
theorem quiescent_ideal_finite [Cert.Pre_attn_finite.Facts] : Cert.quiescent_AttnKernelIdeal_pre_attn_finite :=
  fun m ρ _ => Cert.AttnKernelIdeal.Gen.frame m ρ

/-- Every run of the reference ends, its arguments unchanged; it has no semaphore. -/
theorem quiescent_reference : Cert.quiescent_AttnReferenceIdeal := fun m ρ _ =>
  (θ_run Cert.AttnReferenceIdeal.defs _ _).mono
    (fun r h => ⟨fun c => (h c).2.2.2, sem_eq_zero_of_no_sems (by decide) r.2⟩)
    (Cert.AttnReferenceIdeal.Value.run (F := Ideal) m ρ)

/-- The same of finite arguments. -/
theorem quiescent_reference_finite [Cert.Pre_attn_finite.Facts] : Cert.quiescent_AttnReferenceIdeal_pre_attn_finite :=
  fun m ρ _ => quiescent_reference m ρ trivial

/-- Idealizing changes no operation but the four named constants. -/
theorem preserves : Cert.preserves_AttnKernel_AttnKernelIdeal :=
  ⟨IdealRules.named_const.statement Cert.AttnKernelIdeal.κ "log2e" .f32 0x3FB8AA3B#32 (((Real.log 2)⁻¹ : ℝ) : EReal) rfl,
    IdealRules.named_const.statement Cert.AttnKernelIdeal.κ "mask" .f32 0xF149F2CA#32 ⊥ rfl,
    IdealRules.named_const.statement Cert.AttnKernelIdeal.κ "scale_log2e" .f32 0x3E16C740#32
      (((Real.sqrt 96)⁻¹ * (Real.log 2)⁻¹ : ℝ) : EReal) rfl,
    IdealRules.named_const.statement Cert.AttnKernelIdeal.κ "scale" .f32 0x3DD105EC#32 (((Real.sqrt 96)⁻¹ : ℝ) : EReal) rfl⟩

end Cert.Attn

end
-- ==== Proof.Tables.lean ====
/- Arrays of extended reals as functions of natural numbers. -/
module

public import Idealize.ShloMosaic.Lib.Pointwise.ShapeOps
public import Idealize.ShloMosaic.Lib.Pipeline.ValueKit

@[expose] public section

noncomputable section

namespace Cert.Tables

open Idealize.ShloMosaic

/-- The vector of a function's values. -/
def tab1 {a : ℕ} {φ : FTy} (f : ℕ → EReal) : FVec Ideal ⟨1, ![a]⟩ φ := fun y => f (y 0).val

/-- The matrix of a function's values. -/
def tab2 {a b : ℕ} {φ : FTy} (f : ℕ → ℕ → EReal) : FVec Ideal ⟨2, ![a, b]⟩ φ := fun y => f (y 0).val (y 1).val

/-- The array of rank three of a function's values. -/
def tab3 {a b c : ℕ} {φ : FTy} (f : ℕ → ℕ → ℕ → EReal) : FVec Ideal ⟨3, ![a, b, c]⟩ φ := fun y => f (y 0).val (y 1).val (y 2).val

/-- Every vector is one of a function that is zero outside it. -/
theorem exists_tab1 {a : ℕ} {φ : FTy} (x : FVec Ideal ⟨1, ![a]⟩ φ) : ∃ f, x = tab1 f ∧ ∀ i, ¬ i < a → f i = 0 := by
  refine ⟨fun i => if h : i < a then x (ix1 ⟨i, h⟩) else 0, ?_, fun i h => dif_neg h⟩
  funext y
  have e : (ix1 ⟨(y 0).val, (y 0).isLt⟩ : Shape.Idx ⟨1, ![a]⟩) = y := by funext i; fin_cases i; rfl
  unfold tab1
  simp only [dif_pos (show (y 0).val < a from (y 0).isLt), e]

/-- Every matrix is one of a function that is zero outside it. -/
theorem exists_tab2 {a b : ℕ} {φ : FTy} (x : FVec Ideal ⟨2, ![a, b]⟩ φ) :
    ∃ f, x = tab2 f ∧ ∀ i j, ¬ (i < a ∧ j < b) → f i j = 0 := by
  refine ⟨fun i j => if h : i < a ∧ j < b then x (ix2 ⟨i, h.1⟩ ⟨j, h.2⟩) else 0, ?_, fun i j h => dif_neg h⟩
  funext y
  have e : (ix2 ⟨(y 0).val, (y 0).isLt⟩ ⟨(y 1).val, (y 1).isLt⟩ : Shape.Idx ⟨2, ![a, b]⟩) = y := by
    funext i; fin_cases i <;> rfl
  unfold tab2
  simp only [dif_pos (show (y 0).val < a ∧ (y 1).val < b from ⟨(y 0).isLt, (y 1).isLt⟩), e]

/-- Every array of rank three is one of a function that is zero outside it. -/
theorem exists_tab3 {a b c : ℕ} {φ : FTy} (x : FVec Ideal ⟨3, ![a, b, c]⟩ φ) :
    ∃ f, x = tab3 f ∧ ∀ i j k, ¬ (i < a ∧ j < b ∧ k < c) → f i j k = 0 := by
  refine ⟨fun i j k => if h : i < a ∧ j < b ∧ k < c then x (ix3 ⟨i, h.1⟩ ⟨j, h.2.1⟩ ⟨k, h.2.2⟩) else 0, ?_, fun i j k h => dif_neg h⟩
  funext y
  have e : (ix3 ⟨(y 0).val, (y 0).isLt⟩ ⟨(y 1).val, (y 1).isLt⟩ ⟨(y 2).val, (y 2).isLt⟩ : Shape.Idx ⟨3, ![a, b, c]⟩) = y := by
    funext i; fin_cases i <;> rfl
  unfold tab3
  simp only [dif_pos (show (y 0).val < a ∧ (y 1).val < b ∧ (y 2).val < c from ⟨(y 0).isLt, (y 1).isLt, (y 2).isLt⟩), e]

theorem tab1_ix1 {a : ℕ} {φ : FTy} (f : ℕ → EReal) (i : Fin a) : tab1 (φ := φ) f (ix1 i) = f i.val := rfl

theorem tab2_ix2 {a b : ℕ} {φ : FTy} (f : ℕ → ℕ → EReal) (i : Fin a) (j : Fin b) :
    tab2 (φ := φ) f (ix2 i j) = f i.val j.val := rfl

theorem tab3_ix3 {a b c : ℕ} {φ : FTy} (f : ℕ → ℕ → ℕ → EReal) (i : Fin a) (j : Fin b) (k : Fin c) :
    tab3 (φ := φ) f (ix3 i j k) = f i.val j.val k.val := rfl

/-- Selecting by the equality of two small natural numbers. -/
theorem select_eq {α : Type} {a b : ℕ} (ha : a < 4294967296) (hb : b < 4294967296) (x y : α) :
    Scalar.select (IntOp.cmpi .eq (BitVec.ofNat 32 a) (BitVec.ofNat 32 b)) x y = if a = b then x else y := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · subst h; simp [Scalar.select, IntOp.cmpi]
  · have e' : (BitVec.ofNat 32 a == BitVec.ofNat 32 b) = false := beq_eq_false_iff_ne.mpr fun h' => h (e.mp h')
    simp only [Scalar.select, IntOp.cmpi, e', if_neg h]
    rfl

end Cert.Tables

end
-- ==== Proof.ConvBlock.lean ====
/- The gated short convolution's backward call, one block of 1024 rows: with the rows before and after the
   block at hand, its values are those of the whole arrays. -/
module

public import proofs.«01_k».proof.Proof.Gen.ConvKernelIdeal.Value
public import proofs.«01_k».proof.Proof.Tables

@[expose] public section

set_option maxRecDepth 16384

noncomputable section

namespace Cert.Conv

open Idealize.ShloMosaic Idealize.ShloMosaic.TcCoe Idealize.SL.Sem
open Cert.ConvKernelIdeal Cert.ConvKernelIdeal.Gen Cert.Tables

/-- The value `k` rows before; zero before the first row. -/
def past (k : ℕ) (f : ℕ → ℕ → EReal) (r d : ℕ) : EReal := if k ≤ r then f (r - k) d else 0

/-- The value `k` rows later; zero after the last row. -/
def next (k : ℕ) (f : ℕ → ℕ → EReal) (r d : ℕ) : EReal := if r + k < 4096 then f (r + k) d else 0

variable (Z : ℕ → ℕ → EReal) (G : ℕ → ℕ → EReal) (W : ℕ → ℕ → EReal)

/-- The gated input of the convolution: columns 256–511 times columns 512–767. -/
def gated (r d : ℕ) : EReal := Z r (256 + d) * Z r (512 + d)
/-- The convolution of three taps. -/
def conv (r d : ℕ) : EReal := past 2 (gated Z) r d * W 0 d + past 1 (gated Z) r d * W 1 d + gated Z r d * W 2 d
/-- The cotangent of the convolution. -/
def dConv (r d : ℕ) : EReal := G r d * Z r d
/-- The cotangent of the gated input. -/
def dGated (r d : ℕ) : EReal := dConv Z G r d * W 2 d + next 1 (dConv Z G) r d * W 1 d + next 2 (dConv Z G) r d * W 0 d

variable (t : ℕ) (ht : t < 4) (i : grid0.Coords) (hi : (i 0).val = t)

/-- The block's rows. -/
abbrev rows (f : ℕ → ℕ → EReal) : FVec Ideal S1024x256 .f32 := tab2 fun r d => f (1024 * t + r) d
/-- The block's rows of the projection. -/
abbrev zrows : FVec Ideal S1024x768 .bf16 := tab2 fun r d => Z (1024 * t + r) d
/-- The three taps. -/
abbrev taps : FVec Ideal S3x256 .f32 := tab2 W
/-- The sixteen rows before the block. -/
abbrev head : FVec Ideal S16x768 .bf16 := tab2 fun r d => Z (16 * (64 * t - 1) + r) d

theorem gated_rows : k0_pay8 (F := Ideal) (zrows Z t) = rows t (gated Z) := by
  funext y
  idx_vars y
  pointwise [k0_pay8, k0_pay6, k0_pay7, k0_pay4, tab2_ix2]
  rfl

include ht hi

theorem gated_head (r : Fin 16) (d : Fin 256) : k0_pay9 (F := Ideal) i (head Z t) (ix2 r d)
    = if t = 0 then 0 else gated Z (16 * (64 * t - 1) + r.val) d.val := by
  pointwise [k0_pay9, tab2_ix2]
  rw [hi]
  exact select_eq (by omega) (by omega) _ _

theorem past_one : k0_pay10 (F := Ideal) i (zrows Z t) (head Z t) = rows t (past 1 (gated Z)) := by
  funext y
  idx_vars y
  pointwise [k0_pay10, gated_rows, tab2_ix2]
  rw [gated_head Z t ht i hi]
  refine (select_eq (by omega) (by omega) _ _).trans ?_
  unfold past
  split_ifs <;> first | omega | rfl | (refine congrArg (gated Z · _) ?_; simp; omega)

theorem past_two : k0_pay11 (F := Ideal) i (zrows Z t) (head Z t) = rows t (past 2 (gated Z)) := by
  funext y
  idx_vars y
  pointwise [k0_pay11, gated_rows, tab2_ix2]
  rw [gated_head Z t ht i hi, gated_head Z t ht i hi]
  refine (select_eq (by omega) (by omega) _ _).trans ?_
  rw [show ∀ a b : EReal, Scalar.select (IntOp.cmpi .eq (BitVec.ofNat 32 y0.val) 0#32) a b = if y0.val = 0 then a else b from fun a b => select_eq (by omega) (by omega) a b]
  unfold past
  split_ifs <;> first | omega | rfl | (refine congrArg (gated Z · _) ?_; simp; omega)

theorem conv_rows : k0_pay13 (F := Ideal) (taps W) (rows t (gated Z)) (rows t (past 1 (gated Z)))
    (k0_pay12 i (taps W) (zrows Z t) (head Z t)) = rows t (conv Z W) := by
  funext y
  idx_vars y
  pointwise [k0_pay13, k0_pay12, past_two Z t ht i hi, tab2_ix2]
  rfl

/-- The eight rows after the block, of the cotangent. -/
abbrev tailG : FVec Ideal S8x256 .f32 := tab2 fun r d => G (8 * min (128 * (t + 1)) 511 + r) d
/-- The eight rows after the block, of the first columns of the projection. -/
abbrev tailZ : FVec Ideal S8x256 .bf16 := tab2 fun r d => Z (16 * min (64 * (t + 1)) 255 + r) d

omit ht hi in
theorem dconv_rows : k0_pay15 (F := Ideal) (k0_pay5 (zrows Z t)) (rows t G) = rows t (dConv Z G) := by
  funext y
  idx_vars y
  pointwise [k0_pay15, k0_pay14, k0_pay5, k0_pay4, tab2_ix2]
  rfl

theorem dconv_tail (r : Fin 8) (d : Fin 256) : k0_pay16 (F := Ideal) (Scalar.cmpi CmpIPredicate.eq (BitVec.ofNat 32 (i 0).val) 3#32)
      (tailG G t) (tailZ Z t) (ix2 r d)
    = if t = 3 then 0 else dConv Z G (1024 * (t + 1) + r.val) d.val := by
  pointwise [k0_pay16, tab2_ix2]
  rw [hi]
  refine (select_eq (by omega) (by omega) _ _).trans ?_
  split_ifs with h
  · rfl
  · rw [Nat.min_eq_left (by omega), Nat.min_eq_left (by omega), show 8 * (128 * (t + 1)) = 1024 * (t + 1) by omega,
      show 16 * (64 * (t + 1)) = 1024 * (t + 1) by omega]
    rfl

theorem next_two : k0_pay17 (F := Ideal) (Scalar.cmpi CmpIPredicate.eq (BitVec.ofNat 32 (i 0).val) 3#32) (k0_pay5 (zrows Z t)) (rows t G)
      (tailG G t) (tailZ Z t) = rows t (next 2 (dConv Z G)) := by
  funext y
  idx_vars y
  pointwise [k0_pay17, dconv_rows, tab2_ix2]
  rw [dconv_tail Z G t ht i hi, dconv_tail Z G t ht i hi]
  refine (select_eq (by omega) (by omega) _ _).trans ?_
  rw [show ∀ a b : EReal, Scalar.select (IntOp.cmpi .eq (BitVec.ofNat 32 y0.val) 1022#32) a b = if y0.val = 1022 then a else b from fun a b => select_eq (by omega) (by omega) a b]
  unfold next
  split_ifs <;> first | omega | rfl | (refine congrArg (dConv Z G · _) ?_; simp; omega)

theorem dgated_part : k0_pay18 (F := Ideal) (Scalar.cmpi CmpIPredicate.eq (BitVec.ofNat 32 (i 0).val) 3#32) (taps W) (k0_pay5 (zrows Z t)) (rows t G)
      (tailG G t) (tailZ Z t)
    = rows t (fun r d => dConv Z G r d * W 2 d + next 1 (dConv Z G) r d * W 1 d) := by
  funext y
  idx_vars y
  pointwise [k0_pay18, dconv_rows, tab2_ix2]
  rw [dconv_tail Z G t ht i hi]
  rw [show ∀ a b : EReal, Scalar.select (IntOp.cmpi .eq (BitVec.ofNat 32 y0.val) 1023#32) a b = if y0.val = 1023 then a else b from fun a b => select_eq (by omega) (by omega) a b]
  refine congrArg (fun z : EReal => dConv Z G (1024 * t + y0.val) y1.val * W 2 y1.val + z * W 1 y1.val) ?_
  unfold next
  split_ifs <;> first | omega | rfl | (refine congrArg (dConv Z G · _) ?_; simp; omega)

/-- The gradient of the projection, by column. -/
def dZ (r d : ℕ) : EReal :=
  if d < 256 then G r d * conv Z W r d
  else if d < 512 then dGated Z G W r (d - 256) * Z r (512 + (d - 256))
  else dGated Z G W r (d - 512) * Z r (256 + (d - 512))

omit ht hi in
theorem dz_rows (r : Fin 1024) (d : Fin 768) : k0_pay1 (F := Ideal) (taps W) (k0_pay6 (zrows Z t)) (k0_pay7 (zrows Z t)) (rows t (conv Z W)) (k0_pay14 (rows t G))
      (rows t (next 2 (dConv Z G))) (rows t (fun r d => dConv Z G r d * W 2 d + next 1 (dConv Z G) r d * W 1 d)) (ix2 r d)
    = dZ Z G W (1024 * t + r.val) d.val := by
  pointwise [k0_pay1, k0_pay14, k0_pay6, k0_pay7, k0_pay4, tab2_ix2]
  unfold dZ
  simp only [Nat.sub_sub, show (d.val - 256 < 256) = (d.val < 512) by rw [eq_iff_iff]; omega, dite_eq_ite]
  rfl

/-- What row `r` adds to the gradient of tap `k`. -/
def dTap (k r d : ℕ) : EReal :=
  if k = 0 then dConv Z G r d * past 2 (gated Z) r d
  else if k = 1 then dConv Z G r d * past 1 (gated Z) r d
  else if k = 2 then dConv Z G r d * gated Z r d else 0

omit ht hi in
/-- The gradient of the taps, one block's part. -/
theorem dtaps_block (a : Vec Ideal S8x256 .f32) (k : Fin 8) (d : Fin 256) :
    k0_pay3 (F := Ideal) (rows t (gated Z)) (rows t (past 1 (gated Z))) (rows t (past 2 (gated Z))) (rows t (dConv Z G)) a (ix2 k d)
    = a (ix2 k d) + ∑ r : Fin 1024, dTap Z G k.val (1024 * t + r.val) d.val := by
  pointwise [k0_pay3, k0_pay2, tab2_ix2]
  refine congrArg (a (ix2 k d) + ·) ?_
  rw [show ∀ a b : EReal, Scalar.select (IntOp.cmpi .eq (BitVec.ofNat 32 k.val) 0#32) a b = if k.val = 0 then a else b
    from fun a b => select_eq (by omega) (by omega) a b, show ∀ a b : EReal, Scalar.select (IntOp.cmpi .eq (BitVec.ofNat 32 k.val) 1#32) a b = if k.val = 1 then a else b
    from fun a b => select_eq (by omega) (by omega) a b, show ∀ a b : EReal, Scalar.select (IntOp.cmpi .eq (BitVec.ofNat 32 k.val) 2#32) a b = if k.val = 2 then a else b
    from fun a b => select_eq (by omega) (by omega) a b]
  unfold dTap
  split_ifs <;> simp

omit ht hi in
/-- The first block's part. -/
theorem dtaps_first (k : Fin 8) (d : Fin 256) :
    k0_pay2 (F := Ideal) (rows t (gated Z)) (rows t (past 1 (gated Z))) (rows t (past 2 (gated Z))) (rows t (dConv Z G)) (ix2 k d)
    = ∑ r : Fin 1024, dTap Z G k.val (1024 * t + r.val) d.val := by
  have h := dtaps_block Z G t (fun _ => 0) k d
  rw [zero_add] at h
  refine Eq.trans ?_ h
  pointwise [k0_pay3]

end Cert.Conv
end
-- ==== Proof.ConvSums.lean ====
/- The gated short convolution's reference: the gradient of the taps, each a sum over the rows. -/
module

public import proofs.«01_k».proof.Proof.Gen.ConvReferenceIdeal.Run
public import proofs.«01_k».proof.Proof.Tables

@[expose] public section

set_option maxRecDepth 16384

noncomputable section

namespace Cert.Conv

open Idealize.ShloMosaic Idealize.ShloMosaic.TcCoe Idealize.SL.Sem Idealize.ShloMosaic.StableHlo
open Cert.ConvReferenceIdeal Cert.ConvReferenceIdeal.Gen

/-- The sum over the rows. -/
def tapSum (x : FVec Ideal S1x4096x256 .f32) : FVec Ideal S256 .f32 :=
  Host.reduceAdd (shapeCast S1x1x256 (Host.reduceAdd x (constant S_ .f32 0x00000000#32)
    reducesTo_S1x4096x256_S1x256_d1 h_S_) shapeCasts_S1x256_S1x1x256)
    (constant S_ .f32 0x00000000#32) reducesTo_S1x1x256_S256_d0_1 h_S_

theorem tapSum_at (x : FVec Ideal S1x4096x256 .f32) (d : Fin 256) : tapSum x (ix1 d) = ∑ r : Fin 4096, x (ix3 0 r d) := by
  have keep (x : FVec Ideal S1x1x256 .f32) (init : EReal) : Ideal.hostReduceAdd reducesTo_S1x1x256_S256_d0_1 x init (ix1 d) = init + x (ix3 0 0 d) := by
    unfold Ideal.hostReduceAdd
    refine congrArg (init + ·) ?_
    refine (Finset.sum_eq_single_of_mem (ix3 0 0 d) ?_ ?_).trans rfl
    · refine Finset.mem_filter.mpr ⟨Finset.mem_univ _, ?_⟩
      funext a
      fin_cases a
      exact Fin.ext (Shape.ReducesTo.drop_apply_val reducesTo_S1x1x256_S256_d0_1 _ 0)
    · intro i hi ne
      have e := (Finset.mem_filter.mp hi).2
      have v : ((reducesTo_S1x1x256_S256_d0_1.drop i) 0).val = (i 2).val := Shape.ReducesTo.drop_apply_val reducesTo_S1x1x256_S256_d0_1 i 0
      rw [e] at v
      refine absurd ?_ ne
      idx_vars i
      have : d = i2 := Fin.ext v
      rw [this, Subsingleton.elim i0 0, Subsingleton.elim i1 0]
  pointwise [tapSum, keep]

/-- The three taps' sums as rows, five rows of zeros after them. -/
def placed (a b c : FVec Ideal S256 .f32) : FVec Ideal S8x256 .f32 :=
  pad S8x256 ![0, 0] ![5, 0] ![0, 0] (addf (addf
    (pad S3x256 ![2, 0] ![0, 0] ![0, 0] (broadcastInDim S1x256 ![1] bcast_S256_S1x256_1 a) (constant S_ .f32 0x00000000#32) pads_S1x256_S3x256_200_000 h_S_)
    (pad S3x256 ![1, 0] ![1, 0] ![0, 0] (broadcastInDim S1x256 ![1] bcast_S256_S1x256_1 b) (constant S_ .f32 0x00000000#32) pads_S1x256_S3x256_110_000 h_S_))
    (pad S3x256 ![0, 0] ![2, 0] ![0, 0] (broadcastInDim S1x256 ![1] bcast_S256_S1x256_1 c) (constant S_ .f32 0x00000000#32) pads_S1x256_S3x256_020_000 h_S_))
    (sitofp .f32 (constantI S_ 32 0#32)) pads_S3x256_S8x256_050_000 h_S_

theorem placed_at (a b c : FVec Ideal S256 .f32) (k : Fin 8) (d : Fin 256) : placed a b c (ix2 k d)
    = if k.val = 0 then c (ix1 d) else if k.val = 1 then b (ix1 d) else if k.val = 2 then a (ix1 d) else 0 := by
  pointwise [placed]
  have z : ((((0#32 : BitVec 32).toInt : ℝ)) : EReal) = 0 := by simp
  fin_cases k <;> first | simp; done | (simp; exact z)

end Cert.Conv
end
-- ==== Proof.ConvValue.lean ====
/- The gated short convolution's backward call computes the gradients of the gated short convolution. -/
module

public import proofs.«01_k».proof.Proof.ConvBlock
public import proofs.«01_k».proof.Proof.ConvSums
public import proofs.«01_k».proof.Defs
public import proofs.«01_k».proof.Proof.Scalars
public import Idealize.ShloMosaic.Lib.Claim

@[expose] public section

set_option maxRecDepth 16384

noncomputable section

namespace Cert.Conv

open Idealize.ShloMosaic Idealize.ShloMosaic.TcCoe Idealize.SL.Sem Idealize.ShloMosaic.StableHlo
open Cert.ConvKernelIdeal Cert.ConvKernelIdeal.Gen Cert.Tables

section Kernel

/-- The convolution's columns first. -/
def columns (z : FVec Ideal S1x4096x1952 .f32) : FVec Ideal S4096x2048 .bf16 :=
  truncf .bf16 (concatenate S4096x2048 1 [⟨S4096x768, shapeCast S4096x768 (extractStridedSlice S1x4096x768 ![0, 0, 1184] z slices_S1x4096x1952_S1x4096x768_0_0_1184) shapeCasts_S1x4096x768_S4096x768⟩,
    ⟨S4096x672, shapeCast S4096x672 (extractStridedSlice S1x4096x672 ![0, 0, 0] z slices_S1x4096x1952_S1x4096x672_0_0_0) shapeCasts_S1x4096x672_S4096x672⟩,
    ⟨S4096x96, broadcastInDim S4096x96 ![] bcast_S_S4096x96 (constant S_ .f32 0x00000000#32)⟩,
    ⟨S4096x512, shapeCast S4096x512 (extractStridedSlice S1x4096x512 ![0, 0, 672] z slices_S1x4096x1952_S1x4096x512_0_0_672) shapeCasts_S1x4096x512_S4096x512⟩]
    concatenates_S4096x768_S4096x672_S4096x96_S4096x512_S4096x2048_d1) bitsLt_bf16_f32

/-- The cotangent's one batch. -/
def batch (g : FVec Ideal S1x4096x256 .f32) : FVec Ideal S4096x256 .f32 := shapeCast S4096x256 g shapeCasts_S1x4096x256_S4096x256

variable (m : (ℓ : Loc nD τ sig) → Buf (Elt Ideal) ℓ) (c : Dev nD)

/-- The arrays the kernel is given. -/
theorem operands : V m c main_v9 = columns (m ((c.tc : Thread nD τ).loc main_arg0)) ∧ V m c main_v0 = batch (m ((c.tc : Thread nD τ).loc main_arg2)) ∧ V m c main_arg1 = m ((c.tc : Thread nD τ).loc main_arg1) := by
  simp only [V, hostOps0, List.flatten_cons, List.flatten_nil, List.append_nil, List.cons_append, List.nil_append, TRef.binary, TRef.nullary, TRef.ternary, TRef.unary, TRef.toBuf, TRef.ofBuf, cast_eq]
  after_results_simp
  refine ⟨rfl, rfl, trivial⟩

theorem columns_at (z : ℕ → ℕ → ℕ → EReal) (r : Fin 4096) (d : Fin 2048) (h : d.val < 768) : columns (tab3 z) (ix2 r d) = z 0 r.val (1184 + d.val) := by
  pointwise [columns, tab3_ix3]
  rw [dif_pos h]

theorem batch_tab (g : ℕ → ℕ → ℕ → EReal) : batch (tab3 g) = tab2 (φ := .f32) (g 0) := by
  funext y
  idx_vars y
  pointwise [batch, tab3_ix3, tab2_ix2]

theorem block_index : ∀ t : Fin cfg0.N, win0_0.index t = ![t.val, 0] ∧ win0_1.index t = ![min (128 * (t.val + 1)) 511, 0]
    ∧ win0_2.index t = ![t.val, 0] ∧ win0_3.index t = ![64 * t.val - 1, 0] ∧ win0_4.index t = ![min (64 * (t.val + 1)) 255, 0]
    ∧ win0_5.index t = ![0, 0] ∧ win0_6.index t = ![t.val, 0] :=
  (by decide +kernel : ∀ t : Fin grid0.N, _)

variable {Z G W : ℕ → ℕ → EReal}

/-- The kernel's arrays, as functions. -/
structure Holds : Prop where
  z : ∀ (r : Fin 4096) (d : Fin 2048), d.val < 768 → (V m c main_v9 : FVec Ideal S4096x2048 .bf16) (ix2 r d) = Z r.val d.val
  g : V m c main_v0 = tab2 (φ := .f32) G
  w : V m c main_arg1 = tab2 (φ := .f32) W

variable {m c} (H : Holds (Z := Z) (G := G) (W := W) m c)
include H

theorem block_z (t : Fin cfg0.N) : X0_2 m c t = zrows Z t.val := by
  funext y
  have e := (block_index t).2.2.1
  have h0 : (y 0).val < 1024 := (y 0).isLt
  have h1 : (y 1).val < 768 := (y 1).isLt
  have ht : t.val < 4 := lt_of_lt_of_eq t.isLt N_0
  unfold X0_2 Pipeline.Window.fill
  rw [dif_pos (moved0_2 t y)]
  have q : (win0_2.blk t).view.emb (fun a => ⟨(y a).val, (win0_2.moved_iff _ y).mp (moved0_2 t y) a⟩)
      = (ix2 ⟨1024 * t.val + (y 0).val, by omega⟩ ⟨(y 1).val, by omega⟩ : S4096x2048.Idx) := by
    funext a
    match a with
    | ⟨0, _⟩ => exact Fin.ext (show win0_2.index t 0 * 1024 + 1 * (y 0).val = 1024 * t.val + (y 0).val by
        rw [e]; show t.val * 1024 + 1 * (y 0).val = _; omega)
    | ⟨1, _⟩ => exact Fin.ext (show win0_2.index t 1 * 768 + 1 * (y 1).val = (y 1).val by
        rw [e]; show 0 * 768 + 1 * (y 1).val = _; omega)
  exact (congrArg (V m c main_v9 : FVec Ideal S4096x2048 .bf16) q).trans (H.z _ _ h1)

theorem block_head (t : Fin cfg0.N) : X0_3 m c t = head Z t.val := by
  funext y
  have e := (block_index t).2.2.2.1
  have h0 : (y 0).val < 16 := (y 0).isLt
  have h1 : (y 1).val < 768 := (y 1).isLt
  have ht : t.val < 4 := lt_of_lt_of_eq t.isLt N_0
  unfold X0_3 Pipeline.Window.fill
  rw [dif_pos (moved0_3 t y)]
  have q : (win0_3.blk t).view.emb (fun a => ⟨(y a).val, (win0_3.moved_iff _ y).mp (moved0_3 t y) a⟩)
      = (ix2 ⟨16 * (64 * t.val - 1) + (y 0).val, by omega⟩ ⟨(y 1).val, by omega⟩ : S4096x2048.Idx) := by
    funext a
    match a with
    | ⟨0, _⟩ => exact Fin.ext (show win0_3.index t 0 * 16 + 1 * (y 0).val = 16 * (64 * t.val - 1) + (y 0).val by
        rw [e]; show (64 * t.val - 1) * 16 + 1 * (y 0).val = _; omega)
    | ⟨1, _⟩ => exact Fin.ext (show win0_3.index t 1 * 768 + 1 * (y 1).val = (y 1).val by
        rw [e]; show 0 * 768 + 1 * (y 1).val = _; omega)
  exact (congrArg (V m c main_v9 : FVec Ideal S4096x2048 .bf16) q).trans (H.z _ _ h1)

theorem block_tailZ (t : Fin cfg0.N) : View.ld (X0_4 m c t) (Rect.unit ![0, 0] ![8, 256] inb_S16x768_S8x256_0_0) = tailZ Z t.val := by
  funext y
  have e := (block_index t).2.2.2.2.1
  have h0 : (y 0).val < 8 := (y 0).isLt
  have h1 : (y 1).val < 256 := (y 1).isLt
  have ht : t.val < 4 := lt_of_lt_of_eq t.isLt N_0
  show X0_4 m c t (fun a => (Rect.unit (s := S16x768) ![0, 0] ![8, 256] inb_S16x768_S8x256_0_0).emb y a) = _
  generalize hx : (fun a => (Rect.unit (s := S16x768) ![0, 0] ![8, 256] inb_S16x768_S8x256_0_0).emb y a) = x
  have x0 : (x 0).val = (y 0).val := by rw [← hx]; show 0 + 1 * (y 0).val = _; omega
  have x1 : (x 1).val = (y 1).val := by rw [← hx]; show 0 + 1 * (y 1).val = _; omega
  unfold X0_4 Pipeline.Window.fill
  rw [dif_pos (moved0_4 t x)]
  have q : (win0_4.blk t).view.emb (fun a => ⟨(x a).val, (win0_4.moved_iff _ x).mp (moved0_4 t x) a⟩)
      = (ix2 ⟨16 * min (64 * (t.val + 1)) 255 + (y 0).val, by omega⟩ ⟨(y 1).val, by omega⟩ : S4096x2048.Idx) := by
    funext a
    match a with
    | ⟨0, _⟩ => exact Fin.ext (show win0_4.index t 0 * 16 + 1 * (x 0).val = 16 * min (64 * (t.val + 1)) 255 + (y 0).val by
        rw [e]; show min (64 * (t.val + 1)) 255 * 16 + 1 * (x 0).val = _; omega)
    | ⟨1, _⟩ => exact Fin.ext (show win0_4.index t 1 * 768 + 1 * (x 1).val = (y 1).val by
        rw [e]; show 0 * 768 + 1 * (x 1).val = _; omega)
  exact (congrArg (V m c main_v9 : FVec Ideal S4096x2048 .bf16) q).trans (H.z _ _ (show (y 1).val < 768 by omega))

theorem block_g (t : Fin cfg0.N) : (iblk m c 0 t : FVec Ideal S1024x256 .f32) = rows t.val G := by
  unfold iblk
  rw [show V m c (Pipeline.arrRef spec0 0) = _ from H.g]
  funext y
  have e := block_index t
  blk_simp
  blk_point [tab2, e]
  simp only [Nat.mul_comm]

theorem block_tail (t : Fin cfg0.N) : (iblk m c 1 t : FVec Ideal S8x256 .f32) = tailG G t.val := by
  unfold iblk
  rw [show V m c (Pipeline.arrRef spec0 1) = _ from H.g]
  funext y
  have e := block_index t
  blk_simp
  blk_point [tab2, e]
  simp only [Nat.mul_comm]

theorem block_w (t : Fin cfg0.N) : (iblk m c 5 t : FVec Ideal S3x256 .f32) = taps W := by
  unfold iblk
  rw [show V m c (Pipeline.arrRef spec0 5) = _ from H.w]
  funext y
  show W (win0_5.index t 0 * 3 + 1 * (y 0).val) (win0_5.index t 1 * 256 + 1 * (y 1).val) = W (y 0).val (y 1).val
  rw [(block_index t).2.2.2.2.2.1]
  show W (0 * 3 + 1 * (y 0).val) (0 * 256 + 1 * (y 1).val) = W (y 0).val (y 1).val
  simp

theorem coord (t : Fin cfg0.N) : ((grid0.coords t) 0).val = t.val := by
  revert t
  exact (by decide +kernel : ∀ t : Fin grid0.N, ((grid0.coords t) 0).val = t.val)

/-- The gradient of the projection at any point. -/
theorem dz_at (t : Fin cfg0.N) (y : S1024x768.Idx) : (outsAt0 m c t.val t.isLt).1 y = dZ Z G W (1024 * t.val + (y 0).val) (y 1).val := by
  have ht : t.val < 4 := lt_of_lt_of_eq t.isLt N_0
  have hi := coord (m := m) (c := c) H t
  have e : (outsAt0 m c t.val t.isLt).1 = k0_pay1 (F := Ideal) (iblk m c 5 t) (k0_pay6 (X0_2 m c t)) (k0_pay7 (X0_2 m c t))
      (k0_pay13 (iblk m c 5 t) (k0_pay8 (X0_2 m c t)) (k0_pay10 (grid0.coords t) (X0_2 m c t) (X0_3 m c t))
        (k0_pay12 (grid0.coords t) (iblk m c 5 t) (X0_2 m c t) (X0_3 m c t)))
      (k0_pay14 (iblk m c 0 t))
      (k0_pay17 (Scalar.cmpi CmpIPredicate.eq (BitVec.ofNat 32 ((grid0.coords t) 0).val) 3#32) (k0_pay5 (X0_2 m c t))
        (iblk m c 0 t) (iblk m c 1 t) (View.ld (X0_4 m c t) (Rect.unit ![0, 0] ![8, 256] inb_S16x768_S8x256_0_0)))
      (k0_pay18 (Scalar.cmpi CmpIPredicate.eq (BitVec.ofNat 32 ((grid0.coords t) 0).val) 3#32) (iblk m c 5 t)
        (k0_pay5 (X0_2 m c t)) (iblk m c 0 t) (iblk m c 1 t)
        (View.ld (X0_4 m c t) (Rect.unit ![0, 0] ![8, 256] inb_S16x768_S8x256_0_0))) := by
    funext y
    by_cases h : t.val % 4 = 0
    · rw [outsAt0_A m c t h (by omega)]; frame_out; rfl
    · rw [outsAt0_B m c t h (by omega)]; frame_out; rfl
  rw [e, block_z H, block_head H, block_tailZ H, block_g H, block_tail H, block_w H, gated_rows, past_one Z _ ht _ hi, conv_rows Z W _ ht _ hi,
    next_two Z G _ ht _ hi, dgated_part Z G W _ ht _ hi]
  idx_vars y
  exact dz_rows Z G W _ _ _

/-- The kernel's first array. -/
theorem dz_final : (dats m 0 c).arrAt 6 (cfgs 0).N = (tab2 (φ := .bf16) (dZ Z G W) : FVec Ideal S4096x768 .bf16) := by
  refine (dats m 0 c).arrAt_eq_of_covers 6 _ (by decide +kernel) fun t _ y => ?_
  blk_simp
  rw [after0_6, dz_at H]
  have e := (block_index t).2.2.2.2.2.2
  show _ = dZ Z G W (win0_6.index t 0 * 1024 + 1 * (y 0).val) (win0_6.index t 1 * 768 + 1 * (y 1).val)
  rw [e]
  show _ = dZ Z G W (t.val * 1024 + 1 * (y 0).val) (0 * 768 + 1 * (y 1).val)
  rw [Nat.mul_comm t.val, one_mul, one_mul, zero_mul, zero_add]

/-- The gradient of the taps. -/
def dTaps (k d : ℕ) : EReal := ∑ r : Fin 4096, dTap Z G k r.val d

/-- The kernel's second array. -/
theorem dtaps_final : (dats m 0 c).arrAt 7 (cfgs 0).N = (tab2 (φ := .f32) (dTaps (Z := Z) (G := G)) : FVec Ideal S8x256 .f32) := by
  refine (dats m 0 c).arrAt_eq_of_after_last 7 t0_3 (by decide +kernel) _ fun j => ?_
  blk_simp
  rw [after0_7, Pipeline.eq_sum_fin_of_reset_step_apply_last (fun n h => (outsAt0 m c n h).2) 4 (fun _ => 0)
    (fun n j => ∑ r : Fin 1024, dTap Z G (j 0).val (1024 * n.val + r.val) (j 1).val)
    (fun t h j => by
      have ht : t.val < 4 := lt_of_lt_of_eq t.isLt N_0
      have hi := coord (m := m) (c := c) H t
      rw [outsAt0_A m c t h (by omega)]; frame_out
      rw [block_z H, block_head H, block_g H, gated_rows, past_one Z _ ht _ hi, past_two Z _ ht _ hi, dconv_rows]
      idx_vars j
      exact (dtaps_first Z G t.val _ _).trans (zero_add _).symm)
    (fun t h j => by
      have ht : t.val < 4 := lt_of_lt_of_eq t.isLt N_0
      have hi := coord (m := m) (c := c) H t
      rw [outsAt0_B m c t h (by omega)]; frame_out
      rw [block_z H, block_head H, block_g H, gated_rows, past_one Z _ ht _ hi, past_two Z _ ht _ hi, dconv_rows]
      idx_vars j
      exact dtaps_block Z G t.val _ _ _)
    (le_of_eq N_0) t0_3 rfl j, zero_add]
  unfold dTaps
  refine Fin.sum_mul_add_congr fun t r hr => ?_
  show dTap Z G (j 0).val (1024 * t.val + r.val) (j 1).val = dTap Z G (j 0).val (t.val * 1024 + r.val) (j 1).val
  rw [Nat.mul_comm]

omit H in
/-- The arguments and what the kernel is given of them. -/
theorem arguments (m : (ℓ : Loc nD τ sig) → Buf (Elt Ideal) ℓ) (c : Dev nD) : ∃ (z : ℕ → ℕ → ℕ → EReal) (w : ℕ → ℕ → EReal) (g : ℕ → ℕ → ℕ → EReal),
    m ((c.tc : Thread nD τ).loc main_arg0) = tab3 (φ := .f32) z ∧ m ((c.tc : Thread nD τ).loc main_arg1) = tab2 (φ := .f32) w
      ∧ m ((c.tc : Thread nD τ).loc main_arg2) = tab3 (φ := .f32) g ∧ Holds (Z := fun r d => z 0 r (1184 + d)) (G := g 0) (W := w) m c := by
  obtain ⟨z, hz, -⟩ := exists_tab3 (φ := .f32) (m ((c.tc : Thread nD τ).loc main_arg0))
  obtain ⟨w, hw, -⟩ := exists_tab2 (φ := .f32) (m ((c.tc : Thread nD τ).loc main_arg1))
  obtain ⟨g, hg, -⟩ := exists_tab3 (φ := .f32) (m ((c.tc : Thread nD τ).loc main_arg2))
  obtain ⟨e, f, h⟩ := operands m c
  refine ⟨z, w, g, hz, hw, hg, fun r d hd => ?_, ?_, ?_⟩
  · rw [e, hz]; exact columns_at z r d hd
  · rw [f, hg]; exact batch_tab g
  · rw [h, hw]

end Kernel

/-- The cotangent of the gated input, the terms past the last row left out. -/
theorem dGated_terms (Z G W : ℕ → ℕ → EReal) (r n : ℕ) (hr : r < 4096) (hn : n < 256) :
    ((if n < 256 then Z r n * G r n * W 2 n else 0) + if (1 ≤ 2 + r ∧ 2 + r - 1 < 4096) ∧ n < 256 then Z (2 + r - 1) n * G (2 + r - 1) n * W 1 n else 0)
      + (if 2 + r < 4096 ∧ n < 256 then Z (2 + r) n * G (2 + r) n * W 0 n else 0) = dGated Z G W r n := by
  have a : 2 + r - 1 = r + 1 := by omega
  have b : 2 + r = r + 2 := by omega
  have e : r + 2 - 1 = r + 1 := by omega
  have d : 1 ≤ r + 2 := by omega
  unfold dGated dConv next
  simp only [a, b, e, hn, d, and_true, true_and, if_true, ite_mul, zero_mul, mul_comm (Z _ _)]

/-- The convolution, the terms before the first row zero. -/
theorem conv_terms (Z W : ℕ → ℕ → EReal) (r n : ℕ) :
    (if r < 2 then 0 else Z (r - 2) (256 + n) * Z (r - 2) (512 + n)) * W 0 n + (if 1 + r < 2 then 0 else Z (1 + r - 2) (256 + n) * Z (1 + r - 2) (512 + n)) * W 1 n
      + Z r (256 + n) * Z r (512 + n) * W 2 n = conv Z W r n := by
  have a : 1 + r - 2 = r - 1 := by omega
  have b : (1 + r < 2) = ¬ 1 ≤ r := propext (by omega)
  have d : (r < 2) = ¬ 2 ≤ r := propext (by omega)
  unfold conv past gated
  simp only [a, b, d, ite_not]

set_option maxHeartbeats 2000000 in
/-- The call's arrays are the gradients of the gated short convolution. -/
theorem algebraic : Cert.algebraic_ConvKernelIdeal_ConvReferenceIdeal := by
  pair_intro
  · run_from Cert.ConvKernelIdeal.Gen.run_main m g
  · hlo_run
    · obtain ⟨z, w, b, hz, hw, hb, H⟩ := arguments m c
      rw [dz_final H, hz, hw, hb]
      funext y
      idx_vars y
      pointwise [tab3_ix3, tab2_ix2]
      have hr := y0.isLt
      have hd := y1.isLt
      generalize y0.val = r at *
      generalize y1.val = d at *
      simp only [dite_eq_ite]
      unfold dZ
      by_cases h1 : d < 256
      · have a : ¬ 1696 ≤ 1184 + d := by omega
        have e : ¬ 1440 ≤ 1184 + d := by omega
        simp only [a, e, h1, false_and, if_false, if_true, zero_add]
        rw [← conv_terms]
        simp only [← Nat.add_assoc, Nat.reduceAdd]
      by_cases h2 : d < 512
      · obtain ⟨n, rfl⟩ : ∃ n, d = 256 + n := ⟨d - 256, by omega⟩
        have hn : n < 256 := by omega
        have a : ¬ 1696 ≤ 1184 + (256 + n) := by omega
        have e : 1440 ≤ 1184 + (256 + n) := by omega
        simp only [show 1184 + (256 + n) - 1440 = n by omega, show 256 + n - 256 = n by omega, a, e, h1, h2, false_and, hn, if_false, if_true, zero_add, add_zero]
        rw [← dGated_terms _ _ _ r n hr hn]
        simp only [← Nat.add_assoc, Nat.reduceAdd, hn, e, true_and, if_true]
      · obtain ⟨n, rfl⟩ : ∃ n, d = 512 + n := ⟨d - 512, by omega⟩
        have hn : n < 256 := by omega
        have a : 1696 ≤ 1184 + (512 + n) := by omega
        have e : ¬ 512 + n < 256 := by omega
        have f : ¬ 1184 + (512 + n) - 1440 < 256 := by omega
        simp only [show 1184 + (512 + n) - 1696 = n by omega, show 512 + n - 512 = n by omega, a, e, f, h1, h2, and_false, if_false, add_zero]
        rw [← dGated_terms _ _ _ r n hr hn]
        simp only [← Nat.add_assoc, Nat.reduceAdd, hn, true_and, if_true]
        exact mul_comm _ _
    · obtain ⟨z, w, b, hz, hw, hb, H⟩ := arguments m ‹_›
      rw [dtaps_final H, hz, hb]
      funext y
      idx_vars y
      show placed (tapSum _) (tapSum _) (tapSum _) (ix2 y0 y1) = _
      rw [placed_at, tapSum_at, tapSum_at, tapSum_at]
      pointwise [tab3_ix3, tab2_ix2]
      unfold dTaps dTap past gated dConv
      split_ifs
      · refine Eq.trans ?_ (Fin.sum_univ_add (a := 2) (b := 4094) _).symm
        refine congrArg₂ (· + ·) (Finset.sum_congr rfl fun x _ => ?_) (Finset.sum_congr rfl fun x _ => ?_)
        · have h : ¬ 2 ≤ x.val := by omega
          show _ = _ * (if 2 ≤ x.val then _ else 0)
          rw [if_neg h, zero_mul, mul_zero]
        · show _ = b 0 (2 + x.val) y1.val * z 0 (2 + x.val) (1184 + y1.val)
            * (if 2 ≤ 2 + x.val then z 0 (2 + x.val - 2) (1184 + (256 + y1.val)) * z 0 (2 + x.val - 2) (1184 + (512 + y1.val)) else 0)
          rw [if_pos (by omega), show 2 + x.val - 2 = x.val by omega]
          simp only [← Nat.add_assoc, Nat.reduceAdd]
          rw [mul_comm, mul_comm (z 0 _ (1184 + _))]
      · refine Finset.sum_congr rfl fun x _ => ?_
        have h : (1 + x.val < 2) = ¬ 1 ≤ x.val := propext (by omega)
        simp only [h, dite_eq_ite, ite_not, show 1 + x.val - 2 = x.val - 1 by omega, ← Nat.add_assoc, Nat.reduceAdd]
        rw [mul_comm, mul_comm (z 0 _ (1184 + _))]
      · refine Finset.sum_congr rfl fun x _ => ?_
        simp only [← Nat.add_assoc, Nat.reduceAdd]
        rw [mul_comm, mul_comm (z 0 _ (1184 + _))]
      · exact Finset.sum_const_zero.symm

end Cert.Conv
end
-- ==== Proof.ConvClaim.lean ====
/- The five claims about the gated short convolution. -/
module

public import proofs.«01_k».proof.Proof.ConvValue
public import proofs.«01_k».proof.Proof.Gen.ConvKernel.Frame

@[expose] public section

set_option maxRecDepth 16384

noncomputable section

namespace Cert.Conv

open Idealize.ShloMosaic Idealize.SL.Sem

/-- Every run ends, its arguments unchanged and its semaphores at rest. -/
theorem frame_kernel : Cert.quiescent_ConvKernel :=
  fun m ρ _ => Cert.ConvKernel.Gen.frame m ρ

/-- The same on the extended reals. -/
theorem frame_ideal : Cert.quiescent_ConvKernelIdeal :=
  fun m ρ _ => Cert.ConvKernelIdeal.Gen.frame m ρ

/-- Every run of the reference ends, its arguments unchanged; it has no semaphore. -/
theorem frame_reference : Cert.quiescent_ConvReferenceIdeal := fun m ρ _ =>
  (θ_run Cert.ConvReferenceIdeal.defs _ _).mono
    (fun r h => ⟨fun c => (h c).2.2, sem_eq_zero_of_no_sems (by decide) r.2⟩)
    (Cert.ConvReferenceIdeal.Value.run (F := Ideal) m ρ)

/-- Idealizing changes no operation but those named. -/
theorem preserves : Cert.preserves_ConvKernel_ConvKernelIdeal := trivial

end Cert.Conv

end
-- ==== Proof.Reals.lean ====
/- Arrays of real numbers among those of extended reals, and the root-mean-square norm of a row of real numbers with its derivative. -/
module

public import Idealize.ShloMosaic.Lib.Pointwise
public import Idealize.ShloMosaic.PureOps.Ideal

@[expose] public section

noncomputable section

namespace Cert.Reals

open Idealize.ShloMosaic

/-- The array of one axis whose values are the real numbers `f i`. -/
def real1 {a : ℕ} {φ : FTy} (f : ℕ → ℝ) : FVec Ideal ⟨1, ![a]⟩ φ := fun y => ((f (y 0).val : ℝ) : EReal)

/-- The array of two axes whose values are the real numbers `f i j`. -/
def real2 {a b : ℕ} {φ : FTy} (f : ℕ → ℕ → ℝ) : FVec Ideal ⟨2, ![a, b]⟩ φ := fun y => ((f (y 0).val (y 1).val : ℝ) : EReal)

/-- The array of three axes whose values are the real numbers `f i j k`. -/
def real3 {a b c : ℕ} {φ : FTy} (f : ℕ → ℕ → ℕ → ℝ) : FVec Ideal ⟨3, ![a, b, c]⟩ φ :=
  fun y => ((f (y 0).val (y 1).val (y 2).val : ℝ) : EReal)

/-- The array of four axes whose values are the real numbers `f i j k l`. -/
def real4 {a b c d : ℕ} {φ : FTy} (f : ℕ → ℕ → ℕ → ℕ → ℝ) : FVec Ideal ⟨4, ![a, b, c, d]⟩ φ :=
  fun y => ((f (y 0).val (y 1).val (y 2).val (y 3).val : ℝ) : EReal)

theorem real1_ix1 {a : ℕ} {φ : FTy} (f : ℕ → ℝ) (i : Fin a) : real1 (φ := φ) f (ix1 i) = ((f i.val : ℝ) : EReal) := rfl

theorem real2_ix2 {a b : ℕ} {φ : FTy} (f : ℕ → ℕ → ℝ) (i : Fin a) (j : Fin b) :
    real2 (φ := φ) f (ix2 i j) = ((f i.val j.val : ℝ) : EReal) := rfl

theorem real3_ix3 {a b c : ℕ} {φ : FTy} (f : ℕ → ℕ → ℕ → ℝ) (i : Fin a) (j : Fin b) (k : Fin c) :
    real3 (φ := φ) f (ix3 i j k) = ((f i.val j.val k.val : ℝ) : EReal) := rfl

theorem real4_ix4 {a b c d : ℕ} {φ : FTy} (f : ℕ → ℕ → ℕ → ℕ → ℝ) (i : Fin a) (j : Fin b) (k : Fin c) (l : Fin d) :
    real4 (φ := φ) f (ix4 i j k l) = ((f i.val j.val k.val l.val : ℝ) : EReal) := rfl

/-- An array of one axis without infinite values is one of real numbers. -/
theorem exists_real1 {a : ℕ} {φ : FTy} (x : FVec Ideal ⟨1, ![a]⟩ φ) (h : ∀ y, x y ≠ ⊥ ∧ x y ≠ ⊤) : ∃ f, x = real1 f := by
  refine ⟨fun i => if hi : i < a then EReal.toReal (x (ix1 ⟨i, hi⟩)) else 0, funext fun y => ?_⟩
  have e : (ix1 ⟨(y 0).val, (y 0).isLt⟩ : Shape.Idx ⟨1, ![a]⟩) = y := by funext i; fin_cases i; rfl
  unfold real1
  simp only [dif_pos (show (y 0).val < a from (y 0).isLt), e]
  exact (EReal.coe_toReal (h y).2 (h y).1).symm

/-- An array of two axes without infinite values is one of real numbers. -/
theorem exists_real2 {a b : ℕ} {φ : FTy} (x : FVec Ideal ⟨2, ![a, b]⟩ φ) (h : ∀ y, x y ≠ ⊥ ∧ x y ≠ ⊤) : ∃ f, x = real2 f := by
  refine ⟨fun i j => if hi : i < a then if hj : j < b then EReal.toReal (x (ix2 ⟨i, hi⟩ ⟨j, hj⟩)) else 0 else 0, funext fun y => ?_⟩
  have e : (ix2 ⟨(y 0).val, (y 0).isLt⟩ ⟨(y 1).val, (y 1).isLt⟩ : Shape.Idx ⟨2, ![a, b]⟩) = y := by funext i; fin_cases i <;> rfl
  unfold real2
  simp only [dif_pos (show (y 0).val < a from (y 0).isLt), dif_pos (show (y 1).val < b from (y 1).isLt), e]
  exact (EReal.coe_toReal (h y).2 (h y).1).symm

/-- An array of three axes without infinite values is one of real numbers. -/
theorem exists_real3 {a b c : ℕ} {φ : FTy} (x : FVec Ideal ⟨3, ![a, b, c]⟩ φ) (h : ∀ y, x y ≠ ⊥ ∧ x y ≠ ⊤) : ∃ f, x = real3 f := by
  refine ⟨fun i j k => if hi : i < a then if hj : j < b then if hk : k < c then EReal.toReal (x (ix3 ⟨i, hi⟩ ⟨j, hj⟩ ⟨k, hk⟩)) else 0 else 0 else 0,
    funext fun y => ?_⟩
  have e : (ix3 ⟨(y 0).val, (y 0).isLt⟩ ⟨(y 1).val, (y 1).isLt⟩ ⟨(y 2).val, (y 2).isLt⟩ : Shape.Idx ⟨3, ![a, b, c]⟩) = y := by
    funext i; fin_cases i <;> rfl
  unfold real3
  simp only [dif_pos (show (y 0).val < a from (y 0).isLt), dif_pos (show (y 1).val < b from (y 1).isLt), dif_pos (show (y 2).val < c from (y 2).isLt), e]
  exact (EReal.coe_toReal (h y).2 (h y).1).symm

/-- An array of four axes without infinite values is one of real numbers. -/
theorem exists_real4 {a b c d : ℕ} {φ : FTy} (x : FVec Ideal ⟨4, ![a, b, c, d]⟩ φ) (h : ∀ y, x y ≠ ⊥ ∧ x y ≠ ⊤) : ∃ f, x = real4 f := by
  refine ⟨fun i j k l => if h : i < a ∧ j < b ∧ k < c ∧ l < d then EReal.toReal (x (ix4 ⟨i, h.1⟩ ⟨j, h.2.1⟩ ⟨k, h.2.2.1⟩ ⟨l, h.2.2.2⟩)) else 0,
    funext fun y => ?_⟩
  have e : (ix4 ⟨(y 0).val, (y 0).isLt⟩ ⟨(y 1).val, (y 1).isLt⟩ ⟨(y 2).val, (y 2).isLt⟩ ⟨(y 3).val, (y 3).isLt⟩ : Shape.Idx ⟨4, ![a, b, c, d]⟩) = y := by
    funext i; fin_cases i <;> rfl
  unfold real4
  simp only [dif_pos (show (y 0).val < a ∧ (y 1).val < b ∧ (y 2).val < c ∧ (y 3).val < d from ⟨(y 0).isLt, (y 1).isLt, (y 2).isLt, (y 3).isLt⟩), e]
  exact (EReal.coe_toReal (h y).2 (h y).1).symm

/-- A number whose magnitude is below infinity is not infinite. -/
theorem finite_of_lt {x : EReal} (h : Ideal.cmp .olt (max x (-x)) ⊤ = 1#1) : x ≠ ⊥ ∧ x ≠ ⊤ := by
  constructor <;> rintro rfl <;> simp [Ideal.cmp] at h

/-- A finite sum of real numbers is the real sum. -/
theorem sum_real {n : ℕ} (f : ℕ → ℝ) : (∑ i : Fin n, ((f i.val : ℝ) : EReal)) = ((∑ i ∈ Finset.range n, f i : ℝ) : EReal) := by
  rw [Finset.sum_range]
  induction (Finset.univ : Finset (Fin n)) using Finset.induction_on with
  | empty => simp
  | insert a s ha ih => rw [Finset.sum_insert ha, Finset.sum_insert ha, ih, EReal.coe_add]

/-- The quotient of two real numbers. -/
theorem div_real {x y : ℝ} (h : y ≠ 0) : Ideal.div (x : EReal) (y : EReal) = ((x / y : ℝ) : EReal) := by
  rw [Ideal.div_coe h, ← EReal.coe_mul, mul_one_div]

/-- The offset under the root of the norms. -/
def eps : ℝ := 8796093 / 2 ^ 43

theorem eps_pos : 0 < eps := by unfold eps; norm_num

theorem eps_word : Ideal.ofBits .f32 0x358637BD#32 = ((eps : ℝ) : EReal) := by
  unfold eps
  simp [Ideal.ofBits, Ideal.ieee, -EReal.coe_mul]; norm_num

/-- The mean of the squares of the first `n` numbers of a row, plus the offset. -/
def meanSq (n : ℕ) (x : ℕ → ℝ) : ℝ := (∑ k ∈ Finset.range n, x k * x k) / (n : ℝ) + eps

theorem meanSq_pos (n : ℕ) (x : ℕ → ℝ) : 0 < meanSq n x :=
  add_pos_of_nonneg_of_pos (div_nonneg (Finset.sum_nonneg fun k _ => mul_self_nonneg (x k)) (Nat.cast_nonneg n)) eps_pos

/-- The reciprocal root of the mean square of a row. -/
def rms (n : ℕ) (x : ℕ → ℝ) : ℝ := (Real.sqrt (meanSq n x))⁻¹

theorem rsqrt_meanSq (n : ℕ) (x : ℕ → ℝ) : Ideal.rsqrt ((meanSq n x : ℝ) : EReal) = ((rms n x : ℝ) : EReal) := by
  rw [Ideal.rsqrt_coe, if_neg (meanSq_pos n x).not_gt, if_neg (meanSq_pos n x).ne', rms]

theorem rms_sq (n : ℕ) (x : ℕ → ℝ) : rms n x * rms n x * meanSq n x = 1 := by
  have h := Real.mul_self_sqrt (meanSq_pos n x).le
  have p := Real.sqrt_pos.2 (meanSq_pos n x)
  unfold rms
  rw [← mul_inv, h, inv_mul_cancel₀ (meanSq_pos n x).ne']

theorem rms_div (n : ℕ) (x : ℕ → ℝ) : rms n x / meanSq n x = rms n x * (rms n x * rms n x) := by
  rw [div_eq_iff (meanSq_pos n x).ne', mul_assoc, rms_sq, mul_one]

/-- The derivative of a row times its reciprocal root mean square, against a cotangent row `u`. -/
def rmsGrad (n : ℕ) (x u : ℕ → ℝ) (d : ℕ) : ℝ :=
  rms n x * (u d - x d * rms n x * ((∑ k ∈ Finset.range n, u k * (x k * rms n x)) / (n : ℝ)))

/-- The same derivative collected from the three places where the row enters: as the factor, and twice in the mean square. -/
theorem rmsGrad_eq (n : ℕ) (x u : ℕ → ℝ) (d : ℕ) :
    u d * rms n x + x d * ((∑ k ∈ Finset.range n, x k * u k) * (-(1 / 2) * (rms n x / meanSq n x)) / (n : ℝ))
      + (∑ k ∈ Finset.range n, x k * u k) * (-(1 / 2) * (rms n x / meanSq n x)) / (n : ℝ) * x d = rmsGrad n x u d := by
  have e : ∑ k ∈ Finset.range n, u k * (x k * rms n x) = (∑ k ∈ Finset.range n, x k * u k) * rms n x := by
    rw [Finset.sum_mul]; exact Finset.sum_congr rfl fun k _ => by ring
  unfold rmsGrad
  rw [rms_div, e]
  ring

end Cert.Reals

end
-- ==== Proof.PreBlock.lean ====
/- The backward call of the first norm and the projection into the mix, one block of 512 rows: real inputs give real values. -/
module

public import proofs.«01_k».proof.Proof.Gen.PreKernelIdeal.Value
public import proofs.«01_k».proof.Proof.Scalars
public import proofs.«01_k».proof.Proof.Reals

@[expose] public section

set_option maxRecDepth 16384

noncomputable section

namespace Cert.Pre

open Idealize.ShloMosaic Idealize.ShloMosaic.TcCoe Idealize.SL.Sem
open Cert.PreKernelIdeal Cert.PreKernelIdeal.Gen Cert.Reals Cert.Scalars

variable (X A W : ℕ → ℕ → ℝ) (g : ℕ → ℝ)

/-- A row divided by its root mean square. -/
def unit (r d : ℕ) : ℝ := X r d * rms 1024 (X r)
/-- The cotangent of the scaled norm: the projection's cotangent times the projection, over the kernel's 2048 columns. -/
def dNorm (r d : ℕ) : ℝ := ∑ j ∈ Finset.range 2048, A r j * W j d
/-- The gradient of the norm's input. -/
def dIn (r d : ℕ) : ℝ := rmsGrad 1024 (X r) (fun k => dNorm A W r k * g k) d

variable (t : ℕ)

/-- The block's rows. -/
abbrev rows (f : ℕ → ℕ → ℝ) : FVec Ideal S512x1024 .f32 := real2 fun r d => f (512 * t + r) d
/-- The scale. -/
abbrev scale : FVec Ideal S1x1024 .f32 := real2 fun _ d => g d
/-- The projection. -/
abbrev proj : FVec Ideal S2048x1024 .bf16 := real2 W
/-- The first 768 columns of the cotangent's block. -/
abbrev colsA : FVec Ideal S512x768 .bf16 := real2 fun r j => A (512 * t + r) j
/-- The next 768 columns. -/
abbrev colsB : FVec Ideal S512x768 .bf16 := real2 fun r j => A (512 * t + r) (768 + j)
/-- The last 512 columns. -/
abbrev colsC : FVec Ideal S512x512 .bf16 := real2 fun r j => A (512 * t + r) (1536 + j)

theorem root_rows (r : Fin 512) : k0_pay10 (F := Ideal) (rows t X) (ix2 r 0) = ((rms 1024 (X (512 * t + r.val)) : ℝ) : EReal) := by
  pointwise [k0_pay10, k0_pay9, real2_ix2]
  simp only [← EReal.coe_mul]
  rw [sum_real fun x => X (512 * t + r.val) x * X (512 * t + r.val) x, kilo_word, eps_word, div_real (by norm_num), ← EReal.coe_add]
  exact rsqrt_meanSq 1024 (X (512 * t + r.val))

theorem unit_rows : k0_pay11 (F := Ideal) (rows t X) = rows t (unit X) := by
  funext y
  idx_vars y
  pointwise [k0_pay11, k0_pay9, root_rows, real2_ix2]
  rw [← EReal.coe_mul]
  rfl

theorem scaled_rows : k0_pay12 (F := Ideal) (scale g) (rows t X) = rows t (fun r d => unit X r d * g d) := by
  funext y
  idx_vars y
  pointwise [k0_pay12, k0_pay8, unit_rows, real2_ix2]
  rw [← EReal.coe_mul]

theorem cols_all : k0_pay13 (F := Ideal) (colsA A t) (colsB A t) (colsC A t) = (real2 fun r j => A (512 * t + r) j : FVec Ideal S512x2048 .bf16) := by
  funext y
  idx_vars y
  pointwise [k0_pay13, real2_ix2]
  split_ifs with h1 h2
  · rfl
  · rw [show 768 + (y1.val - 768) = y1.val by omega]
  · rw [show 1536 + (y1.val - 768 - 768) = y1.val by omega]

theorem dnorm_rows : k0_pay14 (F := Ideal) (colsA A t) (colsB A t) (colsC A t) (proj W) = rows t (dNorm A W) := by
  funext y
  idx_vars y
  pointwise [k0_pay14, cols_all, real2_ix2]
  simp only [← EReal.coe_mul]
  exact sum_real fun x => A (512 * t + y0.val) x * W x y1.val

theorem din_rows : k0_pay15 (F := Ideal) (scale g) (rows t X) (colsA A t) (colsB A t) (colsC A t) (proj W) = rows t (dIn X A W g) := by
  funext y
  idx_vars y
  pointwise [k0_pay15, k0_pay8, unit_rows, dnorm_rows, real2_ix2]
  rw [root_rows]
  simp only [← EReal.coe_mul]
  rw [sum_real fun x => dNorm A W (512 * t + y0.val) x * g x * unit X (512 * t + y0.val) x, kilo_word, div_real (by norm_num)]
  simp only [← EReal.coe_mul, ← EReal.coe_sub]
  rfl

theorem dscale_rows : k0_pay16 (F := Ideal) (rows t X) (colsA A t) (colsB A t) (colsC A t) (proj W)
    = rows t (fun r d => dNorm A W r d * unit X r d) := by
  funext y
  idx_vars y
  pointwise [k0_pay16, unit_rows, dnorm_rows, real2_ix2]
  rw [← EReal.coe_mul]

/-- The first `n` rows' sum. -/
abbrev upTo (n : ℕ) (f : ℕ → ℝ) : ℝ := ∑ r ∈ Finset.range n, f r

theorem upTo_step (f : ℕ → ℝ) : upTo (512 * t) f + ∑ r ∈ Finset.range 512, f (512 * t + r) = upTo (512 * (t + 1)) f := by
  unfold upTo
  rw [Nat.mul_succ, Finset.sum_range_add]

/-- The scale's gradient over a block. -/
theorem dscale_block (f : ℕ → ℕ → ℝ) : k0_pay1 (F := Ideal) (rows t f)
    = (real2 fun _ d => ∑ r ∈ Finset.range 512, f (512 * t + r) d : FVec Ideal S1x1024 .f32) := by
  funext y
  idx_vars y
  pointwise [k0_pay1, real2_ix2]
  exact sum_real fun x => f (512 * t + x) y1.val

theorem dscale_step (f : ℕ → ℕ → ℝ) : k0_pay6 (F := Ideal) (rows t f) (real2 (φ := .f32) fun _ d => upTo (512 * t) (f · d))
    = (real2 fun _ d => upTo (512 * (t + 1)) (f · d) : FVec Ideal S1x1024 .f32) := by
  funext y
  idx_vars y
  pointwise [k0_pay6, dscale_block, real2_ix2]
  rw [← EReal.coe_add, upTo_step]

/-- The projection's gradient over a block. -/
theorem dproj_block (f : ℕ → ℕ → ℝ) : k0_pay3 (F := Ideal) (rows t f) (real2 fun r j => A (512 * t + r) j)
    = (real2 fun j d => ∑ r ∈ Finset.range 512, A (512 * t + r) j * f (512 * t + r) d : FVec Ideal S2048x1024 .f32) := by
  funext y
  idx_vars y
  pointwise [k0_pay3, real2_ix2]
  simp only [← EReal.coe_mul]
  exact sum_real fun x => A (512 * t + x) y0.val * f (512 * t + x) y1.val

theorem dproj_first (f : ℕ → ℕ → ℝ) : k0_pay4 (F := Ideal) (rows t f) (real2 fun r j => A (512 * t + r) j)
    = (real2 fun j d => ∑ r ∈ Finset.range 512, A (512 * t + r) j * f (512 * t + r) d : FVec Ideal S2048x1024 .f32) := by
  funext y
  idx_vars y
  pointwise [k0_pay4, dproj_block, real2_ix2]

theorem dproj_step (f : ℕ → ℕ → ℝ) : k0_pay5 (F := Ideal) (rows t f) (real2 fun r j => A (512 * t + r) j)
      (real2 (φ := .f32) fun j d => upTo (512 * t) fun r => A r j * f r d)
    = (real2 fun j d => upTo (512 * (t + 1)) fun r => A r j * f r d : FVec Ideal S2048x1024 .f32) := by
  funext y
  idx_vars y
  pointwise [k0_pay5, dproj_block, real2_ix2]
  rw [← EReal.coe_add, upTo_step t fun r => A r y0.val * f r y1.val]

theorem dproj_out (f : ℕ → ℕ → ℝ) : k0_pay7 (F := Ideal) (real2 (φ := .f32) f) = (real2 f : FVec Ideal S2048x1024 .bf16) := by
  funext y
  idx_vars y
  pointwise [k0_pay7, real2_ix2]

end Cert.Pre
end
-- ==== Proof.PreSums.lean ====
/- The reference of the first norm and the projection into the mix: its stages on real inputs. -/
module

public import proofs.«01_k».proof.Proof.Gen.PreReferenceIdeal.Run
public import proofs.«01_k».proof.Proof.Reals
public import proofs.«01_k».proof.Proof.Scalars

@[expose] public section

set_option maxRecDepth 16384

noncomputable section

namespace Cert.Pre

open Idealize.ShloMosaic Idealize.ShloMosaic.TcCoe Idealize.SL.Sem Idealize.ShloMosaic.StableHlo
open Cert.PreReferenceIdeal Cert.PreReferenceIdeal.Gen Cert.Reals Cert.Scalars

/-- The word of minus one half. -/
theorem neg_half_word : Ideal.ofBits .f32 0xBF000000#32 = ((-(1 / 2) : ℝ) : EReal) := by
  simp [Ideal.ofBits, Ideal.ieee, -EReal.coe_mul]; norm_num

/-- The mean square of each row plus the offset. -/
def meanRow (x : FVec Ideal S1x4096x1024 .f32) : FVec Ideal S1x4096x1 .f32 :=
  addf (Host.divf (broadcastInDim S1x4096x1 ![0, 1] bcast_S1x4096_S1x4096x1_0_1 (Host.reduceAdd (mulf x x) (constant S_ .f32 0x00000000#32) reducesTo_S1x4096x1024_S1x4096_d2 h_S_))
    (broadcastInDim S1x4096x1 ![] bcast_S_S1x4096x1 (constant S_ .f32 0x44800000#32))) (broadcastInDim S1x4096x1 ![] bcast_S_S1x4096x1 (constant S_ .f32 0x358637BD#32))

/-- Each row's reciprocal root mean square, along the row. -/
def rootRow (x : FVec Ideal S1x4096x1024 .f32) : FVec Ideal S1x4096x1024 .f32 :=
  broadcastInDim S1x4096x1024 ![0, 1, 2] bcast_S1x4096x1_S1x4096x1024_0_1_2 (Host.rsqrt (meanRow x))

/-- The scale along the rows. -/
def scaleRow (g : FVec Ideal S1024 .f32) : FVec Ideal S1x4096x1024 .f32 :=
  broadcastInDim S1x4096x1024 ![0, 1, 2] bcast_S1x1x1024_S1x4096x1024_0_1_2 (broadcastInDim S1x1x1024 ![2] bcast_S1024_S1x1x1024_2 g)

/-- The cotangent of the scaled norm. -/
def dScaled (z : FVec Ideal S1x4096x1952 .f32) (w : FVec Ideal S1024x1952 .f32) : FVec Ideal S1x4096x1024 .f32 :=
  Host.dotGeneral dot_S1x4096x1952_S1024x1952_S1x4096x1024_2_1_01_0_n_n none z w

/-- What the mean square's derivative adds to each entry of a row, before the row itself. -/
def dMean (x u : FVec Ideal S1x4096x1024 .f32) : FVec Ideal S1x4096x1024 .f32 :=
  broadcastInDim S1x4096x1024 ![0, 1] bcast_S1x4096_S1x4096x1024_0_1 (broadcastInDim S1x4096 ![1] bcast_S4096_S1x4096_1
    (Host.reduceAdd (Host.divf (mulf (shapeCast S1x4096x1 (Host.reduceAdd (mulf x u) (constant S_ .f32 0x00000000#32) reducesTo_S1x4096x1024_S1x4096_d2 h_S_) shapeCasts_S1x4096_S1x4096x1)
      (mulf (broadcastInDim S1x4096x1 ![] bcast_S_S1x4096x1 (constant S_ .f32 0xBF000000#32)) (Host.divf (Host.rsqrt (meanRow x)) (meanRow x))))
      (broadcastInDim S1x4096x1 ![] bcast_S_S1x4096x1 (constant S_ .f32 0x44800000#32))) (constant S_ .f32 0x00000000#32) reducesTo_S1x4096x1_S4096_d0_2 h_S_))

/-- The reference's gradient of the norm's input, the cotangent that passes by added. -/
def dInput (x : FVec Ideal S1x4096x1024 .f32) (g : FVec Ideal S1024 .f32) (w : FVec Ideal S1024x1952 .f32) (d : FVec Ideal S1x4096x1024 .f32)
    (z : FVec Ideal S1x4096x1952 .f32) : FVec Ideal S4096x1024 .f32 :=
  shapeCast S4096x1024 (addf (addf (addf d (mulf (mulf (dScaled z w) (scaleRow g)) (rootRow x))) (mulf x (dMean x (mulf (dScaled z w) (scaleRow g)))))
    (mulf (dMean x (mulf (dScaled z w) (scaleRow g))) x)) shapeCasts_S1x4096x1024_S4096x1024

/-- The sum over the rows. -/
def scaleSum (x : FVec Ideal S1x4096x1024 .f32) : FVec Ideal S1x1024 .f32 :=
  shapeCast S1x1024 (Host.reduceAdd (shapeCast S1x1x1024 (Host.reduceAdd x (constant S_ .f32 0x00000000#32)
    reducesTo_S1x4096x1024_S1x1024_d1 h_S_) shapeCasts_S1x1024_S1x1x1024)
    (constant S_ .f32 0x00000000#32) reducesTo_S1x1x1024_S1024_d0_1 h_S_) shapeCasts_S1024_S1x1024

theorem scaleSum_at (x : FVec Ideal S1x4096x1024 .f32) (i : Fin 1) (d : Fin 1024) : scaleSum x (ix2 i d) = ∑ r : Fin 4096, x (ix3 0 r d) := by
  have keep (x : FVec Ideal S1x1x1024 .f32) (init : EReal) : Ideal.hostReduceAdd reducesTo_S1x1x1024_S1024_d0_1 x init (ix1 d) = init + x (ix3 0 0 d) := by
    unfold Ideal.hostReduceAdd
    refine congrArg (init + ·) ?_
    refine (Finset.sum_eq_single_of_mem (ix3 0 0 d) ?_ ?_).trans rfl
    · refine Finset.mem_filter.mpr ⟨Finset.mem_univ _, ?_⟩
      funext a
      fin_cases a
      exact Fin.ext (Shape.ReducesTo.drop_apply_val reducesTo_S1x1x1024_S1024_d0_1 _ 0)
    · intro i hi ne
      have e := (Finset.mem_filter.mp hi).2
      have v : ((reducesTo_S1x1x1024_S1024_d0_1.drop i) 0).val = (i 2).val := Shape.ReducesTo.drop_apply_val reducesTo_S1x1x1024_S1024_d0_1 i 0
      rw [e] at v
      refine absurd ?_ ne
      idx_vars i
      have : d = i2 := Fin.ext v
      rw [this, Subsingleton.elim i0 0, Subsingleton.elim i1 0]
  pointwise [scaleSum, keep]

theorem meanRow_real (x : ℕ → ℕ → ℕ → ℝ) : meanRow (real3 x) = real3 (fun b r _ => meanSq 1024 (x b r)) := by
  funext y
  idx_vars y
  pointwise [meanRow, real3_ix3]
  simp only [← EReal.coe_mul]
  rw [sum_real fun k => x 0 y1.val k * x 0 y1.val k, kilo_word, eps_word, div_real (by norm_num), ← EReal.coe_add]
  rfl

theorem rootRow_real (x : ℕ → ℕ → ℕ → ℝ) : rootRow (real3 x) = real3 (fun b r _ => rms 1024 (x b r)) := by
  funext y
  idx_vars y
  pointwise [rootRow, meanRow_real, real3_ix3]
  exact rsqrt_meanSq 1024 (x 0 y1.val)

theorem scaleRow_real (g : ℕ → ℝ) : scaleRow (real1 g) = real3 (fun _ _ d => g d) := by
  funext y
  idx_vars y
  pointwise [scaleRow, real1_ix1, real3_ix3]

theorem dScaled_real (z : ℕ → ℕ → ℕ → ℝ) (w : ℕ → ℕ → ℝ) : dScaled (real3 z) (real2 w)
    = real3 (fun b r d => ∑ j ∈ Finset.range 1952, z b r j * w d j) := by
  funext y
  idx_vars y
  pointwise [dScaled, real2_ix2, real3_ix3]
  simp only [← EReal.coe_mul]
  exact sum_real fun j => z 0 y1.val j * w y2.val j

/-- The sum over the two axes of length one. -/
theorem unitSum_at (x : FVec Ideal S1x4096x1 .f32) (init : EReal) (r : Fin 4096) :
    Ideal.hostReduceAdd reducesTo_S1x4096x1_S4096_d0_2 x init (ix1 r) = init + x (ix3 0 r 0) := by
  unfold Ideal.hostReduceAdd
  refine congrArg (init + ·) ?_
  refine (Finset.sum_eq_single_of_mem (ix3 0 r 0) ?_ ?_).trans rfl
  · refine Finset.mem_filter.mpr ⟨Finset.mem_univ _, ?_⟩
    funext a
    fin_cases a
    exact Fin.ext (Shape.ReducesTo.drop_apply_val reducesTo_S1x4096x1_S4096_d0_2 _ 0)
  · intro i hi ne
    have e := (Finset.mem_filter.mp hi).2
    have v : ((reducesTo_S1x4096x1_S4096_d0_2.drop i) 0).val = (i 1).val := Shape.ReducesTo.drop_apply_val reducesTo_S1x4096x1_S4096_d0_2 i 0
    rw [e] at v
    refine absurd ?_ ne
    idx_vars i
    have : r = i1 := Fin.ext v
    rw [this, Subsingleton.elim i0 0, Subsingleton.elim i2 0]

theorem dMean_real (x u : ℕ → ℕ → ℕ → ℝ) : dMean (real3 x) (real3 u)
    = real3 (fun b r _ => (∑ k ∈ Finset.range 1024, x b r k * u b r k) * (-(1 / 2) * (rms 1024 (x b r) / meanSq 1024 (x b r))) / ((1024 : ℕ) : ℝ)) := by
  funext y
  idx_vars y
  have h0 : y0 = 0 := Subsingleton.elim _ _
  subst h0
  pointwise [dMean, meanRow_real, unitSum_at, real3_ix3]
  rw [rsqrt_meanSq, kilo_word, neg_half_word]
  simp only [← EReal.coe_mul]
  rw [sum_real fun k => x 0 y1.val k * u 0 y1.val k, div_real (meanSq_pos _ _).ne']
  simp only [← EReal.coe_mul]
  rw [div_real (by norm_num)]
  simp

theorem dInput_real (x : ℕ → ℕ → ℕ → ℝ) (g : ℕ → ℝ) (w : ℕ → ℕ → ℝ) (d : FVec Ideal S1x4096x1024 .f32) (z : ℕ → ℕ → ℕ → ℝ) (r : Fin 4096) (k : Fin 1024) :
    dInput (real3 x) (real1 g) (real2 w) d (real3 z) (ix2 r k)
      = d (ix3 0 r k) + ((rmsGrad 1024 (x 0 r.val) (fun k => (∑ j ∈ Finset.range 1952, z 0 r.val j * w k j) * g k) k.val : ℝ) : EReal) := by
  have e : mulf (dScaled (real3 z) (real2 w)) (scaleRow (real1 g)) = real3 (fun b r k => (∑ j ∈ Finset.range 1952, z b r j * w k j) * g k) := by
    funext y
    idx_vars y
    pointwise [dScaled_real, scaleRow_real, real3_ix3]
    rw [← EReal.coe_mul]
  unfold dInput
  rw [e, dMean_real, rootRow_real]
  pointwise [real3_ix3]
  simp only [← EReal.coe_mul]
  rw [add_assoc, add_assoc, ← EReal.coe_add, ← EReal.coe_add, ← rmsGrad_eq, add_assoc]

/-- The cotangent times the normed and scaled rows, summed over the rows. -/
def dWeight (x : FVec Ideal S1x4096x1024 .f32) (g : FVec Ideal S1024 .f32) (z : FVec Ideal S1x4096x1952 .f32) : FVec Ideal S1952x1024 .f32 :=
  Host.dotGeneral dot_S1x4096x1952_S1x4096x1024_S1952x1024_01_01_2_2_n_n none z (mulf (mulf x (rootRow x)) (scaleRow g))

/-- The kernel's order of the projection's rows. -/
def layRows (y : FVec Ideal S1952x1024 .f32) : FVec Ideal S2048x1024 .bf16 :=
  truncf .bf16 (concatenate S2048x1024 0
    [⟨S768x1024, extractStridedSlice S768x1024 ![1184, 0] (transpose S1952x1024 [1, 0] (transpose S1024x1952 [1, 0] y transposes_S1952x1024_S1024x1952_1_0) transposes_S1024x1952_S1952x1024_1_0) slices_S1952x1024_S768x1024_1184_0⟩,
      ⟨S672x1024, extractStridedSlice S672x1024 ![0, 0] (transpose S1952x1024 [1, 0] (transpose S1024x1952 [1, 0] y transposes_S1952x1024_S1024x1952_1_0) transposes_S1024x1952_S1952x1024_1_0) slices_S1952x1024_S672x1024_0_0⟩,
      ⟨S96x1024, broadcastInDim S96x1024 ![] bcast_S_S96x1024 (constant S_ .f32 0x00000000#32)⟩,
      ⟨S512x1024, extractStridedSlice S512x1024 ![672, 0] (transpose S1952x1024 [1, 0] (transpose S1024x1952 [1, 0] y transposes_S1952x1024_S1024x1952_1_0) transposes_S1024x1952_S1952x1024_1_0) slices_S1952x1024_S512x1024_672_0⟩]
    concatenates_S768x1024_S672x1024_S96x1024_S512x1024_S2048x1024_d0) bitsLt_bf16_f32

/-- The kernel's order of the projection's 1952 columns, with 96 zeros between. -/
def laid (f : ℕ → ℝ) (j : ℕ) : ℝ := if j < 768 then f (1184 + j) else if j < 1440 then f (j - 768) else if j < 1536 then 0 else f (672 + (j - 1536))

theorem laid_mul (f h : ℕ → ℝ) (j : ℕ) : laid f j * laid h j = laid (fun k => f k * h k) j := by
  unfold laid
  split_ifs <;> simp

/-- A sum over the columns in the kernel's order is the sum over the columns. -/
theorem sum_laid (f : ℕ → ℝ) : ∑ j ∈ Finset.range 2048, laid f j = ∑ j ∈ Finset.range 1952, f j := by
  rw [show 2048 = 768 + 672 + 96 + 512 from rfl, show 1952 = 672 + 512 + 768 from rfl]
  simp only [Finset.sum_range_add]
  have a : ∑ j ∈ Finset.range 768, laid f j = ∑ j ∈ Finset.range 768, f (672 + 512 + j) :=
    Finset.sum_congr rfl fun j hj => by rw [Finset.mem_range] at hj; unfold laid; rw [if_pos hj]
  have b : ∑ j ∈ Finset.range 672, laid f (768 + j) = ∑ j ∈ Finset.range 672, f j :=
    Finset.sum_congr rfl fun j hj => by
      rw [Finset.mem_range] at hj; unfold laid; rw [if_neg (by omega), if_pos (by omega), show 768 + j - 768 = j by omega]
  have c : ∑ j ∈ Finset.range 96, laid f (768 + 672 + j) = 0 :=
    Finset.sum_eq_zero fun j hj => by
      rw [Finset.mem_range] at hj; unfold laid; rw [if_neg (by omega), if_neg (by omega), if_pos (by omega)]
  have d : ∑ j ∈ Finset.range 512, laid f (768 + 672 + 96 + j) = ∑ j ∈ Finset.range 512, f (672 + j) :=
    Finset.sum_congr rfl fun j hj => by
      unfold laid; rw [if_neg (by omega), if_neg (by omega), if_neg (by omega), show 768 + 672 + 96 + j - 1536 = j by omega]
  rw [a, b, c, d]
  ring

theorem layRows_real (f : ℕ → ℕ → ℝ) : layRows (real2 f) = real2 (fun j d => laid (f · d) j) := by
  funext y
  idx_vars y
  pointwise [layRows, real2_ix2]
  unfold laid
  have h := y0.isLt
  split_ifs <;> first | omega | rfl | (refine congrArg (fun k => ((f k _ : ℝ) : EReal)) ?_; omega)

theorem dWeight_real (x z : ℕ → ℕ → ℕ → ℝ) (g : ℕ → ℝ) : dWeight (real3 x) (real1 g) (real3 z)
    = real2 (fun j d => ∑ r ∈ Finset.range 4096, z 0 r j * (x 0 r d * rms 1024 (x 0 r) * g d)) := by
  funext y
  idx_vars y
  pointwise [dWeight, rootRow_real, scaleRow_real, real2_ix2, real3_ix3]
  simp only [← EReal.coe_mul]
  rw [Fin.sum_univ_one]
  exact sum_real fun r => z 0 r y0.val * (x 0 r y1.val * rms 1024 (x 0 r) * g y1.val)

/-- The scale's gradient: the normed rows times the cotangent, summed. -/
def dGain (x : FVec Ideal S1x4096x1024 .f32) (w : FVec Ideal S1024x1952 .f32) (z : FVec Ideal S1x4096x1952 .f32) : FVec Ideal S1x1024 .f32 :=
  scaleSum (mulf (mulf x (rootRow x)) (dScaled z w))

theorem dGain_real (x z : ℕ → ℕ → ℕ → ℝ) (w : ℕ → ℕ → ℝ) : dGain (real3 x) (real2 w) (real3 z)
    = real2 (fun _ d => ∑ r ∈ Finset.range 4096, (x 0 r d * rms 1024 (x 0 r)) * ∑ j ∈ Finset.range 1952, z 0 r j * w d j) := by
  unfold dGain
  funext y
  idx_vars y
  rw [scaleSum_at, rootRow_real, dScaled_real]
  pointwise [real2_ix2, real3_ix3]
  simp only [← EReal.coe_mul]
  exact sum_real fun r => (x 0 r y1.val * rms 1024 (x 0 r)) * ∑ j ∈ Finset.range 1952, z 0 r j * w y1.val j

/-- The reference's three arrays, by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = dInput (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v51) = layRows (dWeight (m ((c.tc : Thread nD τ).loc main_arg0)) (m ((c.tc : Thread nD τ).loc main_arg1))
        (m ((c.tc : Thread nD τ).loc main_arg4)))
      ∧ r.2.mem ((c.tc : Thread nD τ).loc main_v52) = dGain (m ((c.tc : Thread nD τ).loc main_arg0)) (m ((c.tc : Thread nD τ).loc main_arg2))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Pre
end
-- ==== Proof.PreFinite.lean ====
/- The precondition of the backward call of the first norm and the projection into the mix. -/
module

public import proofs.«01_k».proof.Proof.Gen.Pre_pre_in_finite
public import proofs.«01_k».proof.Proof.Scalars
public import Idealize.ShloMosaic.Lib.ReduceAll
public import proofs.«01_k».proof.Proof.Reals

@[expose] public section

noncomputable section

namespace Cert.Pre

open Idealize.ShloMosaic Cert.Reals Cert.Scalars Cert.Pre_pre_in_finite

variable [Facts] (x : FVec Ideal S1x4096x1024 .f32) (g : FVec Ideal S1024 .f32) (w : FVec Ideal S1024x1952 .f32) (d : FVec Ideal S1x4096x1024 .f32)
  (z : FVec Ideal S1x4096x1952 .f32)

/-- The precondition says that no entry of four of the arrays is infinite. -/
theorem finite_of_pre (h : fn x g w d z = fun _ => 1#1) :
    (∀ y, x y ≠ ⊥ ∧ x y ≠ ⊤) ∧ (∀ y, g y ≠ ⊥ ∧ g y ≠ ⊤) ∧ (∀ y, w y ≠ ⊥ ∧ w y ≠ ⊤) ∧ (∀ y, z y ≠ ⊥ ∧ z y ≠ ⊤) := by
  have e := congrFun h (fun i => i.elim0)
  dsimp only [fn, fn_part1] at e
  obtain ⟨e, ez⟩ := IntOp.andi_eq_one.1 e
  obtain ⟨e, ew⟩ := IntOp.andi_eq_one.1 e
  obtain ⟨ex, eg⟩ := IntOp.andi_eq_one.1 e
  refine ⟨fun y => finite_of_lt ?_, fun y => finite_of_lt ?_, fun y => finite_of_lt ?_, fun y => finite_of_lt ?_⟩
  · exact (congrArg (Ideal.cmp .olt (max (x y) (-x y))) top_word).symm.trans (Host.reduce_andi_all _ _ _ _ _ ex y)
  · exact (congrArg (Ideal.cmp .olt (max (g y) (-g y))) top_word).symm.trans (Host.reduce_andi_all _ _ _ _ _ eg y)
  · exact (congrArg (Ideal.cmp .olt (max (w y) (-w y))) top_word).symm.trans (Host.reduce_andi_all _ _ _ _ _ ew y)
  · exact (congrArg (Ideal.cmp .olt (max (z y) (-z y))) top_word).symm.trans (Host.reduce_andi_all _ _ _ _ _ ez y)

end Cert.Pre
end
-- ==== Proof.PreValue.lean ====
/- The backward call of the first norm and the projection into the mix computes the gradients of the two. -/
module

public import proofs.«01_k».proof.Proof.PreBlock
public import proofs.«01_k».proof.Proof.PreSums
public import proofs.«01_k».proof.Proof.Tables
public import proofs.«01_k».proof.Proof.PreFinite
public import proofs.«01_k».proof.Defs
public import Idealize.ShloMosaic.Lib.Claim

@[expose] public section

set_option maxRecDepth 16384

noncomputable section

namespace Cert.Pre

open Idealize.ShloMosaic Idealize.ShloMosaic.TcCoe Idealize.SL.Sem Idealize.ShloMosaic.StableHlo
open Cert.PreKernelIdeal Cert.PreKernelIdeal.Gen Cert.Reals Cert.Scalars Cert.Tables

section Kernel

/-- The projection's rows in the kernel's order. -/
def layWeight (w : FVec Ideal S1024x1952 .f32) : FVec Ideal S2048x1024 .bf16 :=
  truncf .bf16 (concatenate S2048x1024 0
    [⟨S768x1024, extractStridedSlice S768x1024 ![1184, 0] (transpose S1952x1024 [1, 0] w transposes_S1024x1952_S1952x1024_1_0) slices_S1952x1024_S768x1024_1184_0⟩,
      ⟨S672x1024, extractStridedSlice S672x1024 ![0, 0] (transpose S1952x1024 [1, 0] w transposes_S1024x1952_S1952x1024_1_0) slices_S1952x1024_S672x1024_0_0⟩,
      ⟨S96x1024, broadcastInDim S96x1024 ![] bcast_S_S96x1024 (constant S_ .f32 0x00000000#32)⟩,
      ⟨S512x1024, extractStridedSlice S512x1024 ![672, 0] (transpose S1952x1024 [1, 0] w transposes_S1024x1952_S1952x1024_1_0) slices_S1952x1024_S512x1024_672_0⟩]
    concatenates_S768x1024_S672x1024_S96x1024_S512x1024_S2048x1024_d0) bitsLt_bf16_f32

/-- The cotangent's three groups of columns. -/
def layFirst (z : FVec Ideal S1x4096x1952 .f32) : FVec Ideal S4096x768 .bf16 :=
  truncf .bf16 (shapeCast S4096x768 (extractStridedSlice S1x4096x768 ![0, 0, 1184] z slices_S1x4096x1952_S1x4096x768_0_0_1184) shapeCasts_S1x4096x768_S4096x768) bitsLt_bf16_f32
@[inherit_doc layFirst] def layMiddle (z : FVec Ideal S1x4096x1952 .f32) : FVec Ideal S4096x768 .bf16 :=
  truncf .bf16 (concatenate S4096x768 1
    [⟨S4096x672, shapeCast S4096x672 (extractStridedSlice S1x4096x672 ![0, 0, 0] z slices_S1x4096x1952_S1x4096x672_0_0_0) shapeCasts_S1x4096x672_S4096x672⟩,
      ⟨S4096x96, broadcastInDim S4096x96 ![] bcast_S_S4096x96 (constant S_ .f32 0x00000000#32)⟩] concatenates_S4096x672_S4096x96_S4096x768_d1) bitsLt_bf16_f32
@[inherit_doc layFirst] def layLast (z : FVec Ideal S1x4096x1952 .f32) : FVec Ideal S4096x512 .bf16 :=
  truncf .bf16 (shapeCast S4096x512 (extractStridedSlice S1x4096x512 ![0, 0, 672] z slices_S1x4096x1952_S1x4096x512_0_0_672) shapeCasts_S1x4096x512_S4096x512) bitsLt_bf16_f32

variable (m : (ℓ : Loc nD τ sig) → Buf (Elt Ideal) ℓ) (c : Dev nD)

/-- The arrays the kernel is given. -/
theorem operands : V m c main_v8 = layWeight (m ((c.tc : Thread nD τ).loc main_arg2)) ∧ V m c main_v18 = layFirst (m ((c.tc : Thread nD τ).loc main_arg4))
    ∧ V m c main_v13 = layMiddle (m ((c.tc : Thread nD τ).loc main_arg4)) ∧ V m c main_v21 = layLast (m ((c.tc : Thread nD τ).loc main_arg4))
    ∧ V m c main_v14 = shapeCast S4096x1024 (m ((c.tc : Thread nD τ).loc main_arg0)) shapeCasts_S1x4096x1024_S4096x1024
    ∧ V m c main_v15 = shapeCast S4096x1024 (m ((c.tc : Thread nD τ).loc main_arg3)) shapeCasts_S1x4096x1024_S4096x1024
    ∧ V m c main_v22 = shapeCast S1x1024 (m ((c.tc : Thread nD τ).loc main_arg1)) shapeCasts_S1024_S1x1024 := by
  simp only [V, hostOps0, List.flatten_cons, List.flatten_nil, List.append_nil, List.cons_append, List.nil_append, TRef.binary, TRef.nullary, TRef.ternary, TRef.unary, TRef.toBuf, TRef.ofBuf, cast_eq]
  after_results_simp
  refine ⟨rfl, rfl, rfl, rfl, rfl, rfl, rfl⟩

theorem layWeight_real (w : ℕ → ℕ → ℝ) : layWeight (real2 w) = real2 (fun j d => laid (w d) j) := by
  funext y
  idx_vars y
  pointwise [layWeight, real2_ix2]
  unfold laid
  have h := y0.isLt
  split_ifs <;> first | omega | rfl | (refine congrArg (fun k => ((w _ k : ℝ) : EReal)) ?_; omega)

theorem layFirst_real (z : ℕ → ℕ → ℕ → ℝ) : layFirst (real3 z) = real2 (fun r j => laid (z 0 r) j) := by
  funext y
  idx_vars y
  have h := y1.isLt
  pointwise [layFirst, real2_ix2, real3_ix3]
  unfold laid
  rw [if_pos h]

theorem layMiddle_real (z : ℕ → ℕ → ℕ → ℝ) : layMiddle (real3 z) = real2 (fun r j => laid (z 0 r) (768 + j)) := by
  funext y
  idx_vars y
  have h := y1.isLt
  pointwise [layMiddle, real2_ix2, real3_ix3]
  unfold laid
  split_ifs <;> first | omega | rfl | (refine congrArg (fun k => ((z _ _ k : ℝ) : EReal)) ?_; omega)

theorem layLast_real (z : ℕ → ℕ → ℕ → ℝ) : layLast (real3 z) = real2 (fun r j => laid (z 0 r) (1536 + j)) := by
  funext y
  idx_vars y
  have h := y1.isLt
  pointwise [layLast, real2_ix2, real3_ix3]
  unfold laid
  split_ifs <;> first | omega | rfl | (refine congrArg (fun k => ((z _ _ k : ℝ) : EReal)) ?_; omega)

theorem batch_real (x : ℕ → ℕ → ℕ → ℝ) : shapeCast S4096x1024 (real3 x : FVec Ideal S1x4096x1024 .f32) shapeCasts_S1x4096x1024_S4096x1024 = real2 (φ := .f32) (x 0) := by
  funext y
  idx_vars y
  pointwise [real2_ix2, real3_ix3]

theorem batch_tab (x : ℕ → ℕ → ℕ → EReal) : shapeCast S4096x1024 (tab3 x : FVec Ideal S1x4096x1024 .f32) shapeCasts_S1x4096x1024_S4096x1024 = tab2 (φ := .f32) (x 0) := by
  funext y
  idx_vars y
  pointwise [tab2_ix2, tab3_ix3]

theorem row_real (g : ℕ → ℝ) : shapeCast S1x1024 (real1 g : FVec Ideal S1024 .f32) shapeCasts_S1024_S1x1024 = real2 (φ := .f32) fun _ d => g d := by
  funext y
  idx_vars y
  pointwise [real2_ix2, real1_ix1]

theorem block_index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] ∧ win0_7.index t = ![t.val, 0] :=
  (by decide +kernel : ∀ t : Fin grid0.N, _)

variable {X A W : ℕ → ℕ → ℝ} {g : ℕ → ℝ} {D : ℕ → ℕ → EReal}

/-- The kernel's arrays, as functions. -/
structure Holds (X A W : ℕ → ℕ → ℝ) (g : ℕ → ℝ) (D : ℕ → ℕ → EReal) : Prop where
  x : V m c main_v14 = real2 (φ := .f32) X
  d : V m c main_v15 = tab2 (φ := .f32) D
  a : V m c main_v18 = real2 (φ := .bf16) A
  b : V m c main_v13 = real2 (φ := .bf16) fun r j => A r (768 + j)
  e : V m c main_v21 = real2 (φ := .bf16) fun r j => A r (1536 + j)
  g : V m c main_v22 = real2 (φ := .f32) fun _ d => g d
  w : V m c main_v8 = real2 (φ := .bf16) W

variable {m c} (H : Holds m c X A W g D)
include H

theorem block_x (t : Fin cfg0.N) : (iblk m c 0 t : FVec Ideal S512x1024 .f32) = rows t.val X := by
  unfold iblk
  rw [show V m c (Pipeline.arrRef spec0 0) = _ from H.x]
  funext y
  show ((X (win0_0.index t 0 * 512 + 1 * (y 0).val) (win0_0.index t 1 * 1024 + 1 * (y 1).val) : ℝ) : EReal) = ((X (512 * t.val + (y 0).val) (y 1).val : ℝ) : EReal)
  rw [(block_index t).1]
  show ((X (t.val * 512 + 1 * (y 0).val) (0 * 1024 + 1 * (y 1).val) : ℝ) : EReal) = _
  rw [Nat.mul_comm t.val, one_mul, one_mul, zero_mul, zero_add]

theorem block_d (t : Fin cfg0.N) : (iblk m c 1 t : FVec Ideal S512x1024 .f32) = tab2 (φ := .f32) fun r d => D (512 * t.val + r) d := by
  unfold iblk
  rw [show V m c (Pipeline.arrRef spec0 1) = _ from H.d]
  funext y
  show D (win0_1.index t 0 * 512 + 1 * (y 0).val) (win0_1.index t 1 * 1024 + 1 * (y 1).val) = D (512 * t.val + (y 0).val) (y 1).val
  rw [(block_index t).2.1]
  show D (t.val * 512 + 1 * (y 0).val) (0 * 1024 + 1 * (y 1).val) = _
  rw [Nat.mul_comm t.val, one_mul, one_mul, zero_mul, zero_add]

theorem block_a (t : Fin cfg0.N) : (iblk m c 2 t : FVec Ideal S512x768 .bf16) = colsA A t.val := by
  unfold iblk
  rw [show V m c (Pipeline.arrRef spec0 2) = _ from H.a]
  funext y
  show ((A (win0_2.index t 0 * 512 + 1 * (y 0).val) (win0_2.index t 1 * 768 + 1 * (y 1).val) : ℝ) : EReal) = ((A (512 * t.val + (y 0).val) (y 1).val : ℝ) : EReal)
  rw [(block_index t).2.2.1]
  show ((A (t.val * 512 + 1 * (y 0).val) (0 * 768 + 1 * (y 1).val) : ℝ) : EReal) = _
  rw [Nat.mul_comm t.val, one_mul, one_mul, zero_mul, zero_add]

theorem block_b (t : Fin cfg0.N) : (iblk m c 3 t : FVec Ideal S512x768 .bf16) = colsB A t.val := by
  unfold iblk
  rw [show V m c (Pipeline.arrRef spec0 3) = _ from H.b]
  funext y
  show ((A (win0_3.index t 0 * 512 + 1 * (y 0).val) (768 + (win0_3.index t 1 * 768 + 1 * (y 1).val)) : ℝ) : EReal) = ((A (512 * t.val + (y 0).val) (768 + (y 1).val) : ℝ) : EReal)
  rw [(block_index t).2.2.2.1]
  show ((A (t.val * 512 + 1 * (y 0).val) (768 + (0 * 768 + 1 * (y 1).val)) : ℝ) : EReal) = _
  rw [Nat.mul_comm t.val, one_mul, one_mul, zero_mul, zero_add]

theorem block_e (t : Fin cfg0.N) : (iblk m c 4 t : FVec Ideal S512x512 .bf16) = colsC A t.val := by
  unfold iblk
  rw [show V m c (Pipeline.arrRef spec0 4) = _ from H.e]
  funext y
  show ((A (win0_4.index t 0 * 512 + 1 * (y 0).val) (1536 + (win0_4.index t 1 * 512 + 1 * (y 1).val)) : ℝ) : EReal) = ((A (512 * t.val + (y 0).val) (1536 + (y 1).val) : ℝ) : EReal)
  rw [(block_index t).2.2.2.2.1]
  show ((A (t.val * 512 + 1 * (y 0).val) (1536 + (0 * 512 + 1 * (y 1).val)) : ℝ) : EReal) = _
  rw [Nat.mul_comm t.val, one_mul, one_mul, zero_mul, zero_add]

theorem block_g (t : Fin cfg0.N) : (iblk m c 5 t : FVec Ideal S1x1024 .f32) = scale g := by
  unfold iblk
  rw [show V m c (Pipeline.arrRef spec0 5) = _ from H.g]
  funext y
  show ((g (win0_5.index t 1 * 1024 + 1 * (y 1).val) : ℝ) : EReal) = ((g (y 1).val : ℝ) : EReal)
  rw [(block_index t).2.2.2.2.2.1]
  show ((g (0 * 1024 + 1 * (y 1).val) : ℝ) : EReal) = _
  rw [one_mul, zero_mul, zero_add]

theorem block_w (t : Fin cfg0.N) : (iblk m c 6 t : FVec Ideal S2048x1024 .bf16) = proj W := by
  unfold iblk
  rw [show V m c (Pipeline.arrRef spec0 6) = _ from H.w]
  funext y
  show ((W (win0_6.index t 0 * 2048 + 1 * (y 0).val) (win0_6.index t 1 * 1024 + 1 * (y 1).val) : ℝ) : EReal) = ((W (y 0).val (y 1).val : ℝ) : EReal)
  rw [(block_index t).2.2.2.2.2.2.1]
  show ((W (0 * 2048 + 1 * (y 0).val) (0 * 1024 + 1 * (y 1).val) : ℝ) : EReal) = _
  simp only [one_mul, zero_mul, zero_add]

/-- The gradient of the norm's input at any point. -/
theorem dx_at (t : Fin cfg0.N) (y : S512x1024.Idx) : (outsAt0 m c t.val t.isLt).1 y
    = D (512 * t.val + (y 0).val) (y 1).val + ((dIn X A W g (512 * t.val + (y 0).val) (y 1).val : ℝ) : EReal) := by
  have ht : t.val < 8 := lt_of_lt_of_eq t.isLt N_0
  have e : (outsAt0 m c t.val t.isLt).1 = k0_pay2 (F := Ideal) (k0_pay15 (iblk m c 5 t) (iblk m c 0 t) (iblk m c 2 t) (iblk m c 3 t) (iblk m c 4 t) (iblk m c 6 t))
      (iblk m c 1 t) := by
    funext y
    by_cases h : t.val % 8 = 0
    · rw [outsAt0_A m c t h (by omega) h (by omega) (by omega)]; frame_out
    · by_cases h7 : t.val % 8 = 7
      · rw [outsAt0_C m c t h (by omega) h (by omega) h7]; frame_out
      · rw [outsAt0_B m c t h (by omega) h (by omega) h7]; frame_out
  rw [e, block_x H, block_d H, block_a H, block_b H, block_e H, block_g H, block_w H, din_rows]
  idx_vars y
  pointwise [k0_pay2, real2_ix2, tab2_ix2]

/-- What row `r` adds to the scale's gradient. -/
def dScale (X A W : ℕ → ℕ → ℝ) (r d : ℕ) : ℝ := dNorm A W r d * unit X r d

/-- What row `r` adds to the projection's gradient. -/
def dProj (X A : ℕ → ℕ → ℝ) (g : ℕ → ℝ) (j r d : ℕ) : ℝ := A r j * (unit X r d * g d)

/-- The two sums the kernel carries from block to block. -/
theorem sums_at (n : ℕ) (h : n < cfg0.N) : (outsAt0 m c n h).2.2.1 = (real2 fun _ d => upTo (512 * (n + 1)) (dScale X A W · d) : FVec Ideal S1x1024 .f32)
    ∧ (outsAt0 m c n h).2.2.2 = (real2 fun j d => upTo (512 * (n + 1)) (dProj X A g j · d) : FVec Ideal S2048x1024 .f32) := by
  have hn : n < 8 := lt_of_lt_of_eq h N_0
  have first (f : ℕ → ℝ) : ∑ r ∈ Finset.range 512, f (512 * 0 + r) = upTo (512 * (0 + 1)) f := by
    rw [← upTo_step]; unfold upTo; simp
  induction n with
  | zero =>
    have q := outsAt0_A m c ⟨0, h⟩ rfl (by show ¬ 1 ≤ 0; decide) rfl (by show ¬ 1 ≤ 0; decide) (by show ¬ 0 % 8 = 7; decide)
    rw [show outsAt0 m c 0 h = _ from q]
    constructor
    · frame_out
      rw [block_x H, block_a H, block_b H, block_e H, block_w H, dscale_rows]
      refine (dscale_block _ _).trans ?_
      exact congrArg (fun f => (real2 f : FVec Ideal S1x1024 .f32)) (funext fun _ => funext fun d => first (dScale X A W · d))
    · frame_out
      rw [block_x H, block_a H, block_b H, block_e H, block_g H, scaled_rows, cols_all]
      refine (dproj_first _ _ _).trans ?_
      exact congrArg (fun f => (real2 f : FVec Ideal S2048x1024 .f32)) (funext fun j => funext fun d => first (dProj X A g j · d))
  | succ n ih =>
    obtain ⟨i1, i2⟩ := ih (by omega) (by omega)
    by_cases h7 : (n + 1) % 8 = 7
    · have q := outsAt0_C m c ⟨n + 1, h⟩ (by show ¬ (n + 1) % 8 = 0; omega) (by show 1 ≤ n + 1; omega) (by show ¬ (n + 1) % 8 = 0; omega) (by show 1 ≤ n + 1; omega) h7
      rw [show outsAt0 m c (n + 1) h = _ from q]
      constructor
      · frame_out
        rw [block_x H, block_a H, block_b H, block_e H, block_w H, dscale_rows, show (outsAt0 m c (n + 1 - 1) _).2.2.1 = _ from i1]
        exact dscale_step (n + 1) (dScale X A W)
      · frame_out
        rw [block_x H, block_a H, block_b H, block_e H, block_g H, scaled_rows, cols_all, show (outsAt0 m c (n + 1 - 1) _).2.2.2 = _ from i2]
        exact (congrArg (k0_pay5 _ _) (Memref.IsWhole.read_unread _ _)).trans (dproj_step A (n + 1) fun r d => unit X r d * g d)
    · have q := outsAt0_B m c ⟨n + 1, h⟩ (by show ¬ (n + 1) % 8 = 0; omega) (by show 1 ≤ n + 1; omega) (by show ¬ (n + 1) % 8 = 0; omega) (by show 1 ≤ n + 1; omega) h7
      rw [show outsAt0 m c (n + 1) h = _ from q]
      constructor
      · frame_out
        rw [block_x H, block_a H, block_b H, block_e H, block_w H, dscale_rows, show (outsAt0 m c (n + 1 - 1) _).2.2.1 = _ from i1]
        exact dscale_step (n + 1) (dScale X A W)
      · frame_out
        rw [block_x H, block_a H, block_b H, block_e H, block_g H, scaled_rows, cols_all, show (outsAt0 m c (n + 1 - 1) _).2.2.2 = _ from i2]
        exact (congrArg (k0_pay5 _ _) (Memref.IsWhole.read_unread _ _)).trans (dproj_step A (n + 1) fun r d => unit X r d * g d)

/-- The projection's gradient, written at the last point. -/
theorem dw_last (h : 7 < cfg0.N) : (outsAt0 m c 7 h).2.1 = (real2 fun j d => upTo 4096 (dProj X A g j · d) : FVec Ideal S2048x1024 .bf16) := by
  obtain ⟨-, i2⟩ := sums_at H 6 (by omega)
  have q := outsAt0_C m c ⟨7, h⟩ (by show ¬ 7 % 8 = 0; decide) (by show 1 ≤ 7; decide) (by show ¬ 7 % 8 = 0; decide) (by show 1 ≤ 7; decide) rfl
  rw [show outsAt0 m c 7 h = _ from q]
  frame_out
  rw [block_x H, block_a H, block_b H, block_e H, block_g H, scaled_rows, cols_all, show (outsAt0 m c (7 - 1) _).2.2.2 = _ from i2]
  exact (congrArg k0_pay7 ((congrArg (k0_pay5 _ _) (Memref.IsWhole.read_unread _ _)).trans
    (dproj_step A 7 fun r d => unit X r d * g d))).trans (dproj_out _)

/-- The kernel's first array. -/
theorem dx_final : (dats m 0 c).arrAt 7 (cfgs 0).N = (tab2 (φ := .f32) fun r d => D r d + ((dIn X A W g r d : ℝ) : EReal) : FVec Ideal S4096x1024 .f32) := by
  refine (dats m 0 c).arrAt_eq_of_covers 7 _ (by decide +kernel) fun t _ y => ?_
  blk_simp
  rw [after0_7, dx_at H]
  have e := (block_index t).2.2.2.2.2.2.2
  show _ = D (win0_7.index t 0 * 512 + 1 * (y 0).val) (win0_7.index t 1 * 1024 + 1 * (y 1).val)
    + ((dIn X A W g (win0_7.index t 0 * 512 + 1 * (y 0).val) (win0_7.index t 1 * 1024 + 1 * (y 1).val) : ℝ) : EReal)
  rw [e]
  show _ = D (t.val * 512 + 1 * (y 0).val) (0 * 1024 + 1 * (y 1).val) + ((dIn X A W g (t.val * 512 + 1 * (y 0).val) (0 * 1024 + 1 * (y 1).val) : ℝ) : EReal)
  rw [Nat.mul_comm t.val, one_mul, one_mul, zero_mul, zero_add]

/-- The kernel's second array. -/
theorem dw_final : (dats m 0 c).arrAt 8 (cfgs 0).N = (real2 (φ := .bf16) fun j d => upTo 4096 (dProj X A g j · d) : FVec Ideal S2048x1024 .bf16) := by
  refine (dats m 0 c).arrAt_eq_of_after_last 8 t0_7 (by decide +kernel) _ fun j => ?_
  blk_simp
  rw [after0_8]
  exact congrFun (dw_last H _) j

/-- The kernel's third array. -/
theorem dg_final : (dats m 0 c).arrAt 9 (cfgs 0).N = (real2 (φ := .f32) fun _ d => upTo 4096 (dScale X A W · d) : FVec Ideal S1x1024 .f32) := by
  refine (dats m 0 c).arrAt_eq_of_after_last 9 t0_7 (by decide +kernel) _ fun j => ?_
  blk_simp
  rw [after0_9]
  exact congrFun (sums_at H 7 _).1 j

omit H in
/-- Real arguments and what the kernel is given of them. -/
theorem holds_of {x : ℕ → ℕ → ℕ → ℝ} {w : ℕ → ℕ → ℝ} {z : ℕ → ℕ → ℕ → ℝ} {d : ℕ → ℕ → ℕ → EReal}
    (hx : m ((c.tc : Thread nD τ).loc main_arg0) = real3 (φ := .f32) x) (hg : m ((c.tc : Thread nD τ).loc main_arg1) = real1 (φ := .f32) g)
    (hw : m ((c.tc : Thread nD τ).loc main_arg2) = real2 (φ := .f32) w) (hd : m ((c.tc : Thread nD τ).loc main_arg3) = tab3 (φ := .f32) d)
    (hz : m ((c.tc : Thread nD τ).loc main_arg4) = real3 (φ := .f32) z) :
    Holds m c (x 0) (fun r j => laid (z 0 r) j) (fun j d => laid (w d) j) g (d 0) := by
  obtain ⟨e8, e18, e13, e21, e14, e15, e22⟩ := operands m c
  refine ⟨?_, ?_, ?_, ?_, ?_, ?_, ?_⟩
  · rw [e14, hx]; exact batch_real x
  · rw [e15, hd]; exact batch_tab d
  · rw [e18, hz]; exact layFirst_real z
  · rw [e13, hz]; exact layMiddle_real z
  · rw [e21, hz]; exact layLast_real z
  · rw [e22, hg]; exact row_real g
  · rw [e8, hw]; exact layWeight_real w

end Kernel

/-- Where the precondition holds, the arguments are arrays of real numbers, but for the cotangent that passes by. -/
theorem reals_of_pre [Cert.Pre_pre_in_finite.Facts] {m : (ℓ : Loc nD τ sig) → Buf (Elt Ideal) ℓ} (h : Pre_PreKernelIdeal_pre_in_finite m) (c : Dev nD) :
    ∃ (x : ℕ → ℕ → ℕ → ℝ) (g : ℕ → ℝ) (w : ℕ → ℕ → ℝ) (d : ℕ → ℕ → ℕ → EReal) (z : ℕ → ℕ → ℕ → ℝ),
      m ((c.tc : Thread nD τ).loc main_arg0) = real3 (φ := .f32) x ∧ m ((c.tc : Thread nD τ).loc main_arg1) = real1 (φ := .f32) g
      ∧ m ((c.tc : Thread nD τ).loc main_arg2) = real2 (φ := .f32) w ∧ m ((c.tc : Thread nD τ).loc main_arg3) = tab3 (φ := .f32) d
      ∧ m ((c.tc : Thread nD τ).loc main_arg4) = real3 (φ := .f32) z
      ∧ Holds m c (x 0) (fun r j => laid (z 0 r) j) (fun j d => laid (w d) j) g (d 0) := by
  obtain ⟨ex, eg, ew, ez⟩ := finite_of_pre _ _ _ _ _ (h c)
  obtain ⟨x, hx⟩ := exists_real3 _ ex
  obtain ⟨g, hg⟩ := exists_real1 _ eg
  obtain ⟨w, hw⟩ := exists_real2 _ ew
  obtain ⟨d, hd, -⟩ := exists_tab3 (φ := .f32) (m ((c.tc : Thread nD τ).loc main_arg3))
  obtain ⟨z, hz⟩ := exists_real3 _ ez
  exact ⟨x, g, w, d, z, hx, hg, hw, hd, hz, holds_of hx hg hw hd hz⟩

/-- The projection's cotangent times the projection, over the kernel's columns and over the reference's. -/
theorem dNorm_laid (z w : ℕ → ℕ → ℝ) (r d : ℕ) : dNorm (fun r j => laid (z r) j) (fun j d => laid (w d) j) r d = ∑ j ∈ Finset.range 1952, z r j * w d j := by
  unfold dNorm
  simp only [laid_mul]
  exact sum_laid _

theorem laid_sum (f : ℕ → ℕ → ℝ) (u : ℕ → ℝ) (n j : ℕ) : ∑ r ∈ Finset.range n, laid (f r) j * u r = laid (fun k => ∑ r ∈ Finset.range n, f r k * u r) j := by
  unfold laid
  split_ifs <;> first | rfl | simp only [zero_mul, Finset.sum_const_zero]

/-- The kernel's three arrays. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23_0) = (dats m 0 c).arrAt 7 (cfgs 0).N
      ∧ r.2.mem ((c.tc : Thread nD τ).loc main_v23_1) = (dats m 0 c).arrAt 8 (cfgs 0).N
      ∧ r.2.mem ((c.tc : Thread nD τ).loc main_v23_2) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 7, (h.1 c).1 8, (h.1 c).1 9, h.2 c⟩)
    (θ_run_and (run_main m ρ) (frame_of m ρ (dats m) (A_eq m) (run_main m ρ)))

/-- The call's arrays are the gradients of the norm and the projection. -/
theorem algebraic [Cert.Pre_pre_in_finite.Facts] : Cert.algebraic_PreKernelIdeal_PreReferenceIdeal_pre_pre_in_finite := by
  intro m ρ m' ρ' hpre hagree
  choose x g w d z hx hg hw hd hz H using reals_of_pre hpre
  refine ⟨fun c => (dats m 0 c).arrAt 7 (cfgs 0).N, fun c => (dats m 0 c).arrAt 8 (cfgs 0).N, fun c => (dats m 0 c).arrAt 9 (cfgs 0).N, run_arrays m ρ, ?_⟩
  refine (θ_run _ _ _).mono (fun r h c => ?_) (run_stages m' ρ')
  obtain ⟨h0, h1, h2, ha⟩ := h c
  obtain ⟨e0, e1, e2, e3, e4⟩ := hagree c
  rw [e0, e1, e2, e3, e4, hx, hg, hw, hd, hz] at h0
  rw [e0, e1, e4, hx, hg, hz] at h1
  rw [e0, e2, e4, hx, hw, hz] at h2
  refine ⟨h0.trans ?_, h1.trans ?_, h2.trans ?_, ha⟩
  · refine Eq.trans ?_ (dx_final (H c)).symm
    funext y
    idx_vars y
    refine (dInput_real _ _ _ _ _ _ _).trans ?_
    exact congrArg (fun u => d c 0 y0.val y1.val + ((rmsGrad 1024 (x c 0 y0.val) u y1.val : ℝ) : EReal))
      (funext fun k => congrArg (· * g c k) (dNorm_laid (z c 0) (w c) y0.val k).symm)
  · refine Eq.trans ?_ (dw_final (H c)).symm
    refine (congrArg layRows (dWeight_real _ _ _)).trans ((layRows_real _).trans ?_)
    exact congrArg (fun f => (real2 f : FVec Ideal S2048x1024 .bf16)) (funext fun j => funext fun k => (laid_sum (z c 0) (fun r => unit (x c 0) r k * g c k) 4096 j).symm)
  · refine Eq.trans ?_ (dg_final (H c)).symm
    refine (dGain_real _ _ _).trans ?_
    refine congrArg (fun f => (real2 f : FVec Ideal S1x1024 .f32)) (funext fun j => funext fun k => Finset.sum_congr rfl fun r _ => ?_)
    show _ = dNorm _ _ r k * unit (x c 0) r k
    rw [dNorm_laid, mul_comm]
    rfl

end Cert.Pre
end
-- ==== Proof.PreClaim.lean ====
/- The claims about the backward call of the first norm and the projection into the mix. -/
module

public import proofs.«01_k».proof.Proof.PreValue
public import proofs.«01_k».proof.Proof.Gen.PreKernel.Frame

@[expose] public section

set_option maxRecDepth 16384

noncomputable section

namespace Cert.Pre

open Idealize.ShloMosaic Idealize.SL.Sem

/-- Every run ends, its arguments unchanged and its semaphores at rest. -/
theorem frame_kernel : Cert.quiescent_PreKernel :=
  fun m ρ _ => Cert.PreKernel.Gen.frame m ρ

/-- The same on the extended reals. -/
theorem frame_ideal : Cert.quiescent_PreKernelIdeal :=
  fun m ρ _ => Cert.PreKernelIdeal.Gen.frame m ρ

/-- The same of finite arguments. -/
theorem frame_ideal_finite [Cert.Pre_pre_in_finite.Facts] : Cert.quiescent_PreKernelIdeal_pre_pre_in_finite :=
  fun m ρ _ => Cert.PreKernelIdeal.Gen.frame m ρ

/-- Every run of the reference ends, its arguments unchanged; it has no semaphore. -/
theorem frame_reference : Cert.quiescent_PreReferenceIdeal := fun m ρ _ =>
  (θ_run Cert.PreReferenceIdeal.defs _ _).mono
    (fun r h => ⟨fun c => (h c).2.2.2, sem_eq_zero_of_no_sems (by decide) r.2⟩)
    (Cert.PreReferenceIdeal.Value.run (F := Ideal) m ρ)

/-- The same of finite arguments. -/
theorem frame_reference_finite [Cert.Pre_pre_in_finite.Facts] : Cert.quiescent_PreReferenceIdeal_pre_pre_in_finite :=
  fun m ρ _ => frame_reference m ρ trivial

/-- Idealizing changes no operation but those named. -/
theorem preserves : Cert.preserves_PreKernel_PreKernelIdeal := trivial

end Cert.Pre

end
-- ==== Proof.MlaRows.lean ====
/- The latent projections' backward call: the orders of the columns, the rotation of a row and its derivative, in real numbers. -/
module

public import proofs.«01_k».proof.Proof.Reals

@[expose] public section

noncomputable section

namespace Cert.Mla

open Cert.Reals

/-- A sum over consecutive groups of equal length. -/
theorem sum_groups (a b : ℕ) (f : ℕ → ℝ) : ∑ j ∈ Finset.range (b * a), f j = ∑ h ∈ Finset.range a, ∑ l ∈ Finset.range b, f (b * h + l) := by
  induction a with
  | zero => simp
  | succ a ih => rw [Nat.mul_succ, Finset.sum_range_add, ih, Finset.sum_range_succ]

/-- Eight groups of 96 columns, each with 32 zeros behind it. -/
def padQ (f : ℕ → ℝ) (j : ℕ) : ℝ := if j % 128 < 96 then f (96 * (j / 128) + j % 128) else 0

theorem padQ_mul (f h : ℕ → ℝ) (j : ℕ) : padQ f j * padQ h j = padQ (fun k => f k * h k) j := by
  unfold padQ
  split_ifs <;> simp

theorem sum_padQ (f : ℕ → ℝ) : ∑ j ∈ Finset.range 1024, padQ f j = ∑ j ∈ Finset.range 768, f j := by
  rw [show 1024 = 128 * 8 from rfl, show 768 = 96 * 8 from rfl, sum_groups, sum_groups]
  refine Finset.sum_congr rfl fun h _ => ?_
  rw [show 128 = 96 + 32 from rfl, Finset.sum_range_add]
  have a : ∑ l ∈ Finset.range 32, padQ f ((96 + 32) * h + (96 + l)) = 0 :=
    Finset.sum_eq_zero fun l hl => by rw [Finset.mem_range] at hl; unfold padQ; rw [if_neg (by omega)]
  rw [a, add_zero]
  refine Finset.sum_congr rfl fun l hl => ?_
  rw [Finset.mem_range] at hl
  unfold padQ
  rw [if_pos (by omega)]
  exact congrArg f (by omega)

theorem sum_mul_padQ (n : ℕ) (u : ℕ → ℝ) (f : ℕ → ℕ → ℝ) (j : ℕ) :
    ∑ r ∈ Finset.range n, u r * padQ (f r) j = padQ (fun k => ∑ r ∈ Finset.range n, u r * f r k) j := by
  unfold padQ
  split_ifs <;> simp

/-- The 64 key columns of each of eight groups of 128, with 64 zeros behind them, then the 64 value columns of each group. -/
def padK (f : ℕ → ℝ) (j : ℕ) : ℝ :=
  if j < 1024 then if j % 128 < 64 then f j else 0 else f (128 * ((j - 1024) / 64) + (64 + (j - 1024) % 64))

theorem padK_mul (f h : ℕ → ℝ) (j : ℕ) : padK f j * padK h j = padK (fun k => f k * h k) j := by
  unfold padK
  split_ifs <;> simp

theorem sum_padK (f : ℕ → ℝ) : ∑ j ∈ Finset.range 1536, padK f j = ∑ j ∈ Finset.range 1024, f j := by
  rw [show 1536 = 128 * 8 + 64 * 8 from rfl, Finset.sum_range_add, show 1024 = 128 * 8 from rfl, sum_groups, sum_groups, sum_groups, ← Finset.sum_add_distrib]
  refine Finset.sum_congr rfl fun h hh => ?_
  rw [Finset.mem_range] at hh
  rw [show 128 = 64 + 64 from rfl, Finset.sum_range_add, Finset.sum_range_add]
  have a : ∑ l ∈ Finset.range 64, padK f ((64 + 64) * h + (64 + l)) = 0 :=
    Finset.sum_eq_zero fun l hl => by rw [Finset.mem_range] at hl; unfold padK; rw [if_pos (by omega), if_neg (by omega)]
  rw [a, add_zero]
  refine congrArg₂ (· + ·) (Finset.sum_congr rfl fun l hl => ?_) (Finset.sum_congr rfl fun l hl => ?_) <;> rw [Finset.mem_range] at hl <;> unfold padK
  · rw [if_pos (by omega), if_pos (by omega)]
  · rw [if_neg (by omega)]
    exact congrArg f (by omega)

theorem sum_mul_padK (n : ℕ) (u : ℕ → ℝ) (f : ℕ → ℕ → ℝ) (j : ℕ) :
    ∑ r ∈ Finset.range n, u r * padK (f r) j = padK (fun k => ∑ r ∈ Finset.range n, u r * f r k) j := by
  unfold padK
  split_ifs <;> simp

variable (co si : ℕ → ℝ)

/-- The derivative of the rotation of 32 numbers by 16 angles. -/
def unturn (t : ℕ → ℝ) (p : ℕ) : ℝ :=
  if p < 16 then t (16 + p) * si p + t p * co p else t p * co (p - 16) + -(t (p - 16)) * si (p - 16)

/-- A group's 96 columns: the last 32 were rotated. -/
def unturnHead (d : ℕ → ℝ) (l : ℕ) : ℝ := if l < 64 then d l else unturn co si (fun p => d (64 + p)) (l - 64)

/-- The kernel's three tables of a row: the factors of a lane, of the lane 16 below it and of the lane 16 above it. -/
def tableA (l : ℕ) : ℝ := if l < 64 then 1 else if l < 80 then co (l - 64) else if l < 96 then co (l - 80) else 0
@[inherit_doc tableA] def tableB (l : ℕ) : ℝ := if l < 64 then 0 else if l < 80 then -si (l - 64) else 0
@[inherit_doc tableA] def tableC (l : ℕ) : ℝ := if l < 80 then 0 else if l < 96 then si (l - 80) else 0

/-- A row of 128 lanes times the first table, plus its product with the second moved up by 16, plus that with the third moved down by 16. -/
def turnLanes (a b c d : ℕ → ℝ) (l : ℕ) : ℝ :=
  d l * a l + d ((l + 112) % 128) * b ((l + 112) % 128) + d ((l + 16) % 128) * c ((l + 16) % 128)

/-- The kernel's three products are the derivative of the rotation. -/
theorem turnLanes_eq (d : ℕ → ℝ) (l : ℕ) (h : l < 128) :
    turnLanes (tableA co) (tableB si) (tableC si) (fun l => if l < 96 then d l else 0) l = if l < 96 then unturnHead co si d l else 0 := by
  unfold turnLanes tableA tableB tableC unturnHead unturn
  by_cases h1 : l < 64
  · have e2 : (if (l + 16) % 128 < 80 then (0 : ℝ) else if (l + 16) % 128 < 96 then si ((l + 16) % 128 - 80) else 0) = 0 := by rw [if_pos (by omega)]
    have e1 : (if (l + 112) % 128 < 64 then (0 : ℝ) else if (l + 112) % 128 < 80 then -si ((l + 112) % 128 - 64) else 0) = 0 := by
      split_ifs <;> first | rfl | omega
    rw [e1, e2]
    simp only [h1, show l < 96 by omega, if_true]
    ring
  · by_cases h2 : l < 80
    · have e1 : (l + 112) % 128 = l - 16 := by omega
      have e2 : (l + 16) % 128 = l + 16 := by omega
      rw [e1, e2]
      simp only [h1, h2, show l < 96 by omega, show l - 16 < 64 by omega, show ¬ l + 16 < 80 by omega, show l + 16 < 96 by omega, show l - 64 < 16 by omega, if_true, if_false,
        show l + 16 - 80 = l - 64 by omega, show 64 + (16 + (l - 64)) = l + 16 by omega, show 64 + (l - 64) = l by omega]
      ring
    · by_cases h3 : l < 96
      · have e1 : (l + 112) % 128 = l - 16 := by omega
        have e2 : (l + 16) % 128 = l + 16 := by omega
        rw [e1, e2]
        simp only [h1, h2, h3, show ¬ l - 16 < 64 by omega, show l - 16 < 80 by omega, show l - 16 < 96 by omega, show ¬ l + 16 < 80 by omega, show ¬ l + 16 < 96 by omega,
          show ¬ l - 64 < 16 by omega, if_true, if_false, show l - 64 - 16 = l - 80 by omega, show l - 16 - 64 = l - 80 by omega,
          show 64 + (l - 80) = l - 16 by omega, show 64 + (l - 64) = l by omega]
        ring
      · have e1 : (l + 112) % 128 = l - 16 := by omega
        rw [e1]
        have e2 : (if (l + 16) % 128 < 80 then (0 : ℝ) else if (l + 16) % 128 < 96 then si ((l + 16) % 128 - 80) else 0) = 0 := by
          split_ifs <;> first | rfl | omega
        rw [e2]
        simp only [h1, h2, h3, show ¬ l - 16 < 64 by omega, show ¬ l - 16 < 80 by omega, if_false]
        ring

variable (q k v : ℕ → ℕ → ℝ)

/-- The query's cotangent of one row before the rotation, eight groups of 96 columns. -/
def backQ (j : ℕ) : ℝ := unturnHead co si (q (j / 96)) (j % 96)

/-- The cotangents of the keys' unrotated columns and of the values, eight groups of 64 and 64. -/
def backK (j : ℕ) : ℝ := if j % 128 < 64 then k (j / 128) (j % 128) else v (j / 128) (j % 128 - 64)

/-- The cotangent of the rotated columns that all eight groups of keys share. -/
def shared (p : ℕ) : ℝ := ∑ h ∈ Finset.range 8, k h (64 + p)

end Cert.Mla
end
-- ==== Proof.MlaBlock.lean ====
/- The latent projections' backward call, one block of 1024 rows: real inputs give real values. -/
module

public import proofs.«01_k».proof.Proof.Gen.MlaKernelIdeal.Skeleton
public import proofs.«01_k».proof.Proof.Scalars
public import proofs.«01_k».proof.Proof.Tables
public import proofs.«01_k».proof.Proof.MlaRows

@[expose] public section

set_option maxRecDepth 16384

noncomputable section

namespace Cert.Mla

open Idealize.ShloMosaic Idealize.ShloMosaic.TcCoe Idealize.SL.Sem
open Cert.MlaKernelIdeal Cert.MlaKernelIdeal.Gen Cert.Reals Cert.Scalars

/-- The word of 384. -/
theorem q_rank_word : Ideal.ofBits .f32 0x43C00000#32 = ((384 : ℝ) : EReal) := by
  simp [Ideal.ofBits, Ideal.ieee, -EReal.coe_mul]; norm_num

/-- The word of 256. -/
theorem kv_rank_word : Ideal.ofBits .f32 0x43800000#32 = ((256 : ℝ) : EReal) := by
  simp [Ideal.ofBits, Ideal.ieee, -EReal.coe_mul]; norm_num

/-- A comparison of two small numbers, the first below the second. -/
theorem select_slt {α : Type} {a b : ℕ} (ha : a < 128) (hb : b < 128) (x y : α) :
    Scalar.select (IntOp.cmpi .slt (BitVec.ofNat 32 a) (BitVec.ofNat 32 b)) x y = if a < b then x else y := by
  have e : IntOp.cmpi .slt (BitVec.ofNat 32 a) (BitVec.ofNat 32 b) = if a < b then 1#1 else 0#1 := by
    have h : ∀ a b : Fin 128, IntOp.cmpi .slt (BitVec.ofNat 32 a.val) (BitVec.ofNat 32 b.val) = if a.val < b.val then 1#1 else 0#1 := by decide +kernel
    exact h ⟨a, ha⟩ ⟨b, hb⟩
  rw [e]
  by_cases h : a < b <;> simp [h, Scalar.select]

@[inherit_doc select_slt] theorem select_sge {α : Type} {a b : ℕ} (ha : a < 128) (hb : b < 128) (x y : α) :
    Scalar.select (IntOp.cmpi .sge (BitVec.ofNat 32 a) (BitVec.ofNat 32 b)) x y = if b ≤ a then x else y := by
  have e : IntOp.cmpi .sge (BitVec.ofNat 32 a) (BitVec.ofNat 32 b) = if b ≤ a then 1#1 else 0#1 := by
    have h : ∀ a b : Fin 128, IntOp.cmpi .sge (BitVec.ofNat 32 a.val) (BitVec.ofNat 32 b.val) = if b.val ≤ a.val then 1#1 else 0#1 := by decide +kernel
    exact h ⟨a, ha⟩ ⟨b, hb⟩
  rw [e]
  by_cases h : b ≤ a <;> simp [h, Scalar.select]

/-- The rotation's derivative over a block of 128 lanes. -/
theorem turn_block (A B C D : ℕ → ℕ → ℝ) : k0_pay17 (F := Ideal) (real2 A) (real2 B) (real2 C) (real2 (φ := .bf16) D)
    = (real2 fun r l => turnLanes (A r) (B r) (C r) (D r) l : FVec Ideal S1024x128 .bf16) := by
  funext y
  idx_vars y
  pointwise [k0_pay17, real2_ix2]
  rw [show y1.val + 128 - 16 = y1.val + 112 by omega, show y1.val + 128 - 112 = y1.val + 16 by omega]
  simp only [← EReal.coe_mul, ← EReal.coe_add]
  rfl

/-- The keys' unrotated columns of a block of 128 lanes. -/
theorem key_block (D : ℕ → ℕ → ℝ) : k0_pay20 (F := Ideal) (real2 (φ := .bf16) D)
    = (real2 fun r l => if l < 64 then D r l else 0 : FVec Ideal S1024x128 .bf16) := by
  funext y
  idx_vars y
  pointwise [k0_pay20, k0_pay18, real2_ix2]
  rw [show (64#32 : BitVec 32) = BitVec.ofNat 32 64 from rfl, select_slt y1.isLt (by decide)]
  split_ifs <;> simp

/-- The shared rotated columns: what is left of the sum is turned and moved to the first 32 lanes. -/
theorem shared_block (A B C S D : ℕ → ℕ → ℝ) :
    k0_pay52 (F := Ideal) (real2 A) (real2 B) (real2 C) (iota .tc S1024x128 32 [1] iota_S1024x128_d1_w32) (real2 S) (real2 (φ := .bf16) D)
    = (real2 fun r l => if l < 32 then turnLanes (A r) (B r) (C r) (fun l => if 64 ≤ l then S r l + D r l else 0) (64 + l) else 0 : FVec Ideal S1024x128 .f32) := by
  have z : ((0 : ℝ) : EReal) = 0 := rfl
  have p (x : ℝ) (c : Prop) [Decidable c] : (if c then (x : EReal) else 0) = ((if c then x else 0 : ℝ) : EReal) := by split_ifs <;> rfl
  funext y
  idx_vars y
  pointwise [k0_pay52, k0_pay49, real2_ix2]
  rw [show (64#32 : BitVec 32) = BitVec.ofNat 32 64 from rfl, show (32#32 : BitVec 32) = BitVec.ofNat 32 32 from rfl, select_slt y1.isLt (by decide)]
  by_cases h : y1.val < 32
  · rw [if_pos h, if_pos h, select_sge (by omega) (by decide), select_sge (by omega) (by decide), select_sge (by omega) (by decide)]
    have e0 : (y1.val + 128 - 64) % 128 = 64 + y1.val := by omega
    have e1 : (64 + y1.val + 128 - 16) % 128 = (64 + y1.val + 112) % 128 := by omega
    have e2 : (64 + y1.val + 128 - 112) % 128 = (64 + y1.val + 16) % 128 := by omega
    rw [e0, e1, e2]
    simp only [← EReal.coe_add, p, ← EReal.coe_mul, turnLanes, ite_mul, zero_mul]
  · rw [if_neg h, if_neg h]
    rfl

/-- The rows' reciprocal root mean squares, of the query's and of the keys' columns. -/
theorem root_q (Z : ℕ → ℕ → ℝ) : k0_pay10 (F := Ideal) (real2 (φ := .bf16) Z) = (real2 fun r _ => rms 384 (Z r) : FVec Ideal S1024x1 .f32) := by
  funext y
  idx_vars y
  pointwise [k0_pay10, k0_pay9, k0_pay3, real2_ix2]
  simp only [← EReal.coe_mul]
  rw [sum_real fun x => Z y0.val x * Z y0.val x, q_rank_word, eps_word, div_real (by norm_num), ← EReal.coe_add]
  exact rsqrt_meanSq 384 (Z y0.val)

@[inherit_doc root_q] theorem root_k (Z : ℕ → ℕ → ℝ) : k0_pay14 (F := Ideal) (real2 (φ := .bf16) Z)
    = (real2 fun r _ => rms 256 (fun k => Z r (384 + k)) : FVec Ideal S1024x1 .f32) := by
  funext y
  idx_vars y
  pointwise [k0_pay14, k0_pay13, k0_pay3, real2_ix2]
  simp only [← EReal.coe_mul]
  rw [sum_real fun x => Z y0.val (384 + x) * Z y0.val (384 + x), kv_rank_word, eps_word, div_real (by norm_num), ← EReal.coe_add]
  exact rsqrt_meanSq 256 fun k => Z y0.val (384 + k)

/-- The normed rows. -/
theorem unit_q (Z : ℕ → ℕ → ℝ) : k0_pay11 (F := Ideal) (real2 (φ := .bf16) Z) = (real2 fun r d => Z r d * rms 384 (Z r) : FVec Ideal S1024x384 .f32) := by
  funext y
  idx_vars y
  pointwise [k0_pay11, k0_pay9, k0_pay3, root_q, real2_ix2]
  rw [← EReal.coe_mul]

@[inherit_doc unit_q] theorem unit_k (Z : ℕ → ℕ → ℝ) : k0_pay15 (F := Ideal) (real2 (φ := .bf16) Z)
    = (real2 fun r d => Z r (384 + d) * rms 256 (fun k => Z r (384 + k)) : FVec Ideal S1024x256 .f32) := by
  funext y
  idx_vars y
  pointwise [k0_pay15, k0_pay13, k0_pay3, root_k, real2_ix2]
  rw [← EReal.coe_mul]

/-- The normed and scaled rows. -/
theorem scaled_q (Z : ℕ → ℕ → ℝ) (g : ℕ → ℝ) : k0_pay12 (F := Ideal) (real2 (φ := .bf16) Z) (real2 (φ := .f32) fun _ d => g d)
    = (real2 fun r d => Z r d * rms 384 (Z r) * g d : FVec Ideal S1024x384 .f32) := by
  funext y
  idx_vars y
  pointwise [k0_pay12, k0_pay7, unit_q, real2_ix2]
  rw [← EReal.coe_mul]

@[inherit_doc scaled_q] theorem scaled_k (Z : ℕ → ℕ → ℝ) (g : ℕ → ℝ) : k0_pay16 (F := Ideal) (real2 (φ := .bf16) Z) (real2 (φ := .f32) fun _ d => g d)
    = (real2 fun r d => Z r (384 + d) * rms 256 (fun k => Z r (384 + k)) * g d : FVec Ideal S1024x256 .f32) := by
  funext y
  idx_vars y
  pointwise [k0_pay16, k0_pay8, unit_k, real2_ix2]
  rw [← EReal.coe_mul]

variable (Q W : ℕ → ℕ → ℝ)

/-- The cotangents of the normed and scaled rows. -/
theorem back_q : k0_pay53 (F := Ideal) (real2 (φ := .bf16) Q) (real2 (φ := .bf16) W) = (real2 fun r d => ∑ j ∈ Finset.range 1024, Q r j * W j d : FVec Ideal S1024x384 .f32) := by
  funext y
  idx_vars y
  pointwise [k0_pay53, real2_ix2]
  simp only [← EReal.coe_mul]
  exact sum_real fun x => Q y0.val x * W x y1.val

@[inherit_doc back_q] theorem back_k : k0_pay54 (F := Ideal) (real2 (φ := .bf16) Q) (real2 (φ := .bf16) W)
    = (real2 fun r d => ∑ j ∈ Finset.range 1536, Q r j * W j d : FVec Ideal S1024x256 .f32) := by
  funext y
  idx_vars y
  pointwise [k0_pay54, real2_ix2]
  simp only [← EReal.coe_mul]
  exact sum_real fun x => Q y0.val x * W x y1.val

/-- The scales' gradients over a block. -/
theorem gain_q (U : ℕ → ℕ → ℝ) : k0_pay55 (F := Ideal) (real2 (φ := .f32) U) (real2 (φ := .bf16) Q) (real2 (φ := .bf16) W)
    = (real2 fun _ d => ∑ r ∈ Finset.range 1024, (∑ j ∈ Finset.range 1024, Q r j * W j d) * U r d : FVec Ideal S1x384 .f32) := by
  funext y
  idx_vars y
  pointwise [k0_pay55, back_q, real2_ix2]
  simp only [← EReal.coe_mul]
  exact sum_real fun r => (∑ j ∈ Finset.range 1024, Q r j * W j y1.val) * U r y1.val

@[inherit_doc gain_q] theorem gain_k (U : ℕ → ℕ → ℝ) : k0_pay56 (F := Ideal) (real2 (φ := .f32) U) (real2 (φ := .bf16) Q) (real2 (φ := .bf16) W)
    = (real2 fun _ d => ∑ r ∈ Finset.range 1024, (∑ j ∈ Finset.range 1536, Q r j * W j d) * U r d : FVec Ideal S1x256 .f32) := by
  funext y
  idx_vars y
  pointwise [k0_pay56, back_k, real2_ix2]
  simp only [← EReal.coe_mul]
  exact sum_real fun r => (∑ j ∈ Finset.range 1536, Q r j * W j y1.val) * U r y1.val

/-- The gradient of the block's columns. -/
theorem columns_block (Z R K V : ℕ → ℕ → ℝ) (g h : ℕ → ℝ) :
    k0_pay57 (F := Ideal) (real2 (φ := .f32) fun _ d => g d) (real2 (φ := .f32) fun _ d => h d) (real2 (φ := .f32) fun r _ => rms 384 (Z r)) (real2 (φ := .f32) fun r d => Z r d * rms 384 (Z r))
      (real2 (φ := .f32) fun r _ => rms 256 (fun k => Z r (384 + k))) (real2 (φ := .f32) fun r d => Z r (384 + d) * rms 256 (fun k => Z r (384 + k))) (real2 (φ := .f32) R)
      (real2 (φ := .bf16) Q) (real2 (φ := .bf16) W) (real2 (φ := .bf16) K) (real2 (φ := .bf16) V)
    = (real2 fun r d => if d < 384 then rmsGrad 384 (Z r) (fun k => (∑ j ∈ Finset.range 1024, Q r j * W j k) * g k) d
        else if d < 640 then rmsGrad 256 (fun k => Z r (384 + k)) (fun k => (∑ j ∈ Finset.range 1536, K r j * V j k) * h k) (d - 384)
        else R r (d - 640) : FVec Ideal S1024x768 .bf16) := by
  funext y
  idx_vars y
  pointwise [k0_pay57, back_q, back_k, real2_ix2]
  simp only [← EReal.coe_mul]
  rw [sum_real fun x => (∑ j ∈ Finset.range 1024, Q y0.val j * W j x) * g x * (Z y0.val x * rms 384 (Z y0.val)),
    sum_real fun x => (∑ j ∈ Finset.range 1536, K y0.val j * V j x) * h x * (Z y0.val (384 + x) * rms 256 fun k => Z y0.val (384 + k)),
    q_rank_word, kv_rank_word, div_real (by norm_num), div_real (by norm_num)]
  simp only [← EReal.coe_mul, ← EReal.coe_sub]
  by_cases h1 : y1.val < 384
  · rw [dif_pos h1, if_pos h1]
    rfl
  · by_cases h2 : y1.val < 640
    · rw [dif_neg h1, dif_pos (by omega), if_neg h1, if_pos h2]
      rfl
    · rw [dif_neg h1, dif_neg (by omega), if_neg h1, if_neg h2, Nat.sub_sub]

/-- The projections' gradients over a block. -/
theorem weight_q (U : ℕ → ℕ → ℝ) : k0_pay59 (F := Ideal) (real2 (φ := .bf16) U) (real2 (φ := .bf16) Q)
    = (real2 fun d j => ∑ r ∈ Finset.range 1024, U r d * Q r j : FVec Ideal S384x1024 .f32) := by
  funext y
  idx_vars y
  pointwise [k0_pay59, real2_ix2]
  simp only [← EReal.coe_mul]
  exact sum_real fun r => U r y0.val * Q r y1.val

@[inherit_doc weight_q] theorem weight_k (U : ℕ → ℕ → ℝ) : k0_pay62 (F := Ideal) (real2 (φ := .f32) U) (real2 (φ := .bf16) Q)
    = (real2 fun d j => ∑ r ∈ Finset.range 1024, U r d * Q r j : FVec Ideal S256x1536 .f32) := by
  funext y
  idx_vars y
  pointwise [k0_pay62, real2_ix2]
  simp only [← EReal.coe_mul]
  exact sum_real fun r => U r y0.val * Q r y1.val

/-- A sum over the first rows. -/
abbrev upTo (n : ℕ) (f : ℕ → ℝ) : ℝ := ∑ r ∈ Finset.range n, f r

theorem upTo_step (t : ℕ) (f : ℕ → ℝ) : upTo (1024 * t) f + ∑ r ∈ Finset.range 1024, f (1024 * t + r) = upTo (1024 * (t + 1)) f := by
  unfold upTo
  rw [Nat.mul_succ, Finset.sum_range_add]

/-- The projections' gradients: the first block's, and what a block adds. -/
theorem weight_q_first (U : ℕ → ℕ → ℝ) : k0_pay60 (F := Ideal) (k0_pay58 (real2 (φ := .f32) U)) (real2 (φ := .bf16) Q)
    = (real2 fun d j => ∑ r ∈ Finset.range 1024, U r d * Q r j : FVec Ideal S384x1024 .f32) := by
  funext y
  idx_vars y
  pointwise [k0_pay60, real2_ix2]
  exact congrFun (weight_q Q U) _

@[inherit_doc weight_q_first] theorem weight_k_first (U : ℕ → ℕ → ℝ) : k0_pay63 (F := Ideal) (real2 (φ := .f32) U) (real2 (φ := .bf16) Q)
    = (real2 fun d j => ∑ r ∈ Finset.range 1024, U r d * Q r j : FVec Ideal S256x1536 .f32) := by
  funext y
  idx_vars y
  pointwise [k0_pay63, weight_k, real2_ix2]

@[inherit_doc weight_q_first] theorem weight_q_step (U S : ℕ → ℕ → ℝ) : k0_pay61 (F := Ideal) (k0_pay58 (real2 (φ := .f32) U)) (real2 (φ := .bf16) Q) (real2 (φ := .f32) S)
    = (real2 fun d j => S d j + ∑ r ∈ Finset.range 1024, U r d * Q r j : FVec Ideal S384x1024 .f32) := by
  funext y
  idx_vars y
  pointwise [k0_pay61, real2_ix2]
  rw [EReal.coe_add]
  exact congrArg (_ + ·) (congrFun (weight_q Q U) _)

@[inherit_doc weight_q_first] theorem weight_k_step (U S : ℕ → ℕ → ℝ) : k0_pay64 (F := Ideal) (real2 (φ := .f32) U) (real2 (φ := .bf16) Q) (real2 (φ := .f32) S)
    = (real2 fun d j => S d j + ∑ r ∈ Finset.range 1024, U r d * Q r j : FVec Ideal S256x1536 .f32) := by
  funext y
  idx_vars y
  pointwise [k0_pay64, weight_k, real2_ix2]
  rw [EReal.coe_add]

/-- What a block adds to the scales' gradients. -/
theorem gain_q_step (U S : ℕ → ℕ → ℝ) : k0_pay65 (F := Ideal) (real2 (φ := .f32) U) (real2 (φ := .f32) S) = (real2 fun r d => S r d + U r d : FVec Ideal S1x384 .f32) := by
  funext y
  idx_vars y
  pointwise [k0_pay65, real2_ix2]
  rw [EReal.coe_add]

@[inherit_doc gain_q_step] theorem gain_k_step (U S : ℕ → ℕ → ℝ) : k0_pay66 (F := Ideal) (real2 (φ := .f32) U) (real2 (φ := .f32) S) = (real2 fun r d => S r d + U r d : FVec Ideal S1x256 .f32) := by
  funext y
  idx_vars y
  pointwise [k0_pay66, real2_ix2]
  rw [EReal.coe_add]

/-- What the kernel only reshapes or rounds. -/
theorem kept_a (f : ℕ → ℕ → ℝ) : k0_pay4 (F := Ideal) (real2 (φ := .f32) f) = (real2 f : FVec Ideal S1024x128 .f32) := by
  funext y; idx_vars y; pointwise [k0_pay4, real2_ix2]
@[inherit_doc kept_a] theorem kept_b (f : ℕ → ℕ → ℝ) : k0_pay5 (F := Ideal) (real2 (φ := .f32) f) = (real2 f : FVec Ideal S1024x128 .f32) := by
  funext y; idx_vars y; pointwise [k0_pay5, real2_ix2]
@[inherit_doc kept_a] theorem kept_c (f : ℕ → ℕ → ℝ) : k0_pay6 (F := Ideal) (real2 (φ := .f32) f) = (real2 f : FVec Ideal S1024x128 .f32) := by
  funext y; idx_vars y; pointwise [k0_pay6, real2_ix2]
@[inherit_doc kept_a] theorem kept_gq (f : ℕ → ℕ → ℝ) : k0_pay7 (F := Ideal) (real2 (φ := .f32) f) = (real2 f : FVec Ideal S1x384 .f32) := by
  funext y; idx_vars y; pointwise [k0_pay7, real2_ix2]
@[inherit_doc kept_a] theorem kept_gk (f : ℕ → ℕ → ℝ) : k0_pay8 (F := Ideal) (real2 (φ := .f32) f) = (real2 f : FVec Ideal S1x256 .f32) := by
  funext y; idx_vars y; pointwise [k0_pay8, real2_ix2]
@[inherit_doc kept_a] theorem kept_wq (f : ℕ → ℕ → ℝ) : k0_pay1 (F := Ideal) (real2 (φ := .f32) f) = (real2 f : FVec Ideal S384x1024 .bf16) := by
  funext y; idx_vars y; pointwise [k0_pay1, real2_ix2]
@[inherit_doc kept_a] theorem kept_wk (f : ℕ → ℕ → ℝ) : k0_pay2 (F := Ideal) (real2 (φ := .f32) f) = (real2 f : FVec Ideal S256x1536 .bf16) := by
  funext y; idx_vars y; pointwise [k0_pay2, real2_ix2]

end Cert.Mla
end
-- ==== Proof.MlaStore.lean ====
/- The latent projections' backward call: what the kernel writes tile by tile and reads back whole. -/
module

public import proofs.«01_k».proof.Proof.MlaBlock
public import Idealize.ShloMosaic.Lib.Pipeline.ValueKit.Tiles

@[expose] public section

set_option maxRecDepth 16384

noncomputable section

namespace Cert.Mla

open Idealize.ShloMosaic Idealize.ShloMosaic.TcCoe Idealize.SL.Sem
open Cert.MlaKernelIdeal Cert.MlaKernelIdeal.Gen Cert.Reals Cert.Scalars

variable (A B C D : ℕ → ℕ → ℝ)

/-- A block's 128 lanes from `o` on. -/
abbrev tile (D : FVec Ideal S1024x1024 .bf16) (o : ℕ) (inb : ∀ a, (![0, o] : Fin 2 → ℕ) a + (![1024, 128] : Fin 2 → ℕ) a ≤ S1024x1024.size a) :
    FVec Ideal S1024x128 .bf16 := View.ld (Val := Elt Ideal) (e' := .bf16) D (Rect.unit (s := S1024x1024) ![0, o] ![1024, 128] inb)

/-- Of real lanes. -/
theorem load_tile (o : ℕ) (inb : ∀ a, (![0, o] : Fin 2 → ℕ) a + (![1024, 128] : Fin 2 → ℕ) a ≤ S1024x1024.size a) :
    tile (real2 D) o inb = (real2 fun r l => D r (o + l) : FVec Ideal S1024x128 .bf16) := by
  funext y
  show ((D (0 + 1 * (y 0).val) (o + 1 * (y 1).val) : ℝ) : EReal) = ((D (y 0).val (o + (y 1).val) : ℝ) : EReal)
  rw [one_mul, one_mul, zero_add]

theorem turn_tile (o : ℕ) (inb : ∀ a, (![0, o] : Fin 2 → ℕ) a + (![1024, 128] : Fin 2 → ℕ) a ≤ S1024x1024.size a) :
    k0_pay17 (F := Ideal) (real2 A) (real2 B) (real2 C) (tile (real2 D) o inb)
    = (real2 fun r l => turnLanes (A r) (B r) (C r) (fun l => D r (o + l)) l : FVec Ideal S1024x128 .bf16) := by
  rw [load_tile, turn_block]

theorem key_tile (o : ℕ) (inb : ∀ a, (![0, o] : Fin 2 → ℕ) a + (![1024, 128] : Fin 2 → ℕ) a ≤ S1024x1024.size a) :
    k0_pay20 (F := Ideal) (tile (real2 D) o inb)
    = (real2 fun r l => if l < 64 then D r (o + l) else 0 : FVec Ideal S1024x128 .bf16) := by
  rw [load_tile, key_block]

/-- The queries' eight tiles, read back whole. -/
theorem queries_stored {G : ℕ → ℕ → ℝ} (hG : ∀ r j, turnLanes (A r) (B r) (C r) (fun l => D r (128 * (j / 128) + l)) (j % 128) = G r j)
    (v : View sig .tc .vmem S1024x1024 .bf16) :
    v.readCov (Val := Elt Ideal)
      [⟨Rect.unit ![0, 896] ![1024, 128] inb_S1024x1024_S1024x128_0_896, k0_pay48 (k0_pay47 (F := Ideal) (real2 A) (real2 B) (real2 C) (tile (real2 D) 896 inb_S1024x1024_S1024x128_0_896))⟩,
        ⟨Rect.unit ![0, 768] ![1024, 128] inb_S1024x1024_S1024x128_0_768, k0_pay43 (F := Ideal) (real2 A) (real2 B) (real2 C) (tile (real2 D) 768 inb_S1024x1024_S1024x128_0_768)⟩,
        ⟨Rect.unit ![0, 640] ![1024, 128] inb_S1024x1024_S1024x128_0_640, k0_pay38 (F := Ideal) (real2 A) (real2 B) (real2 C) (tile (real2 D) 640 inb_S1024x1024_S1024x128_0_640)⟩,
        ⟨Rect.unit ![0, 512] ![1024, 128] inb_S1024x1024_S1024x128_0_512, k0_pay35 (k0_pay34 (F := Ideal) (real2 A) (real2 B) (real2 C) (tile (real2 D) 512 inb_S1024x1024_S1024x128_0_512))⟩,
        ⟨Rect.unit ![0, 384] ![1024, 128] inb_S1024x1024_S1024x128_0_384, k0_pay30 (F := Ideal) (real2 A) (real2 B) (real2 C) (tile (real2 D) 384 inb_S1024x1024_S1024x128_0_384)⟩,
        ⟨Rect.unit ![0, 256] ![1024, 128] inb_S1024x1024_S1024x128_0_256, k0_pay25 (F := Ideal) (real2 A) (real2 B) (real2 C) (tile (real2 D) 256 inb_S1024x1024_S1024x128_0_256)⟩,
        ⟨Rect.unit ![0, 128] ![1024, 128] inb_S1024x1024_S1024x128_0_128, k0_pay22 (k0_pay21 (F := Ideal) (real2 A) (real2 B) (real2 C) (tile (real2 D) 128 inb_S1024x1024_S1024x128_0_128))⟩,
        ⟨Rect.unit ![0, 0] ![1024, 128] inb_S1024x1024_S1024x128_0_0, k0_pay17 (F := Ideal) (real2 A) (real2 B) (real2 C) (tile (real2 D) 0 inb_S1024x1024_S1024x128_0_0)⟩]
      (Rect.unit ![0, 0] ![1024, 1024] inb_S1024x1024_S1024x1024_0_0).toLoadRect
    = (real2 G : FVec Ideal S1024x1024 .bf16) := by
  obtain rfl : (fun r j => turnLanes (A r) (B r) (C r) (fun l => D r (128 * (j / 128) + l)) (j % 128)) = G := funext fun r => funext fun j => hG r j
  rw [View.readCov_eq_canon']
  refine (View.ld_unit_lit (Val := Elt Ideal) inb_S1024x1024_S1024x1024_0_0 _ (by decide)).trans ?_
  funext y
  have e (n : ℕ) {l r : ℕ} (hl : l < 128) (h0 : (y 0).val = r) (h1 : (y 1).val = 128 * n + l) :
      ((turnLanes (A r) (B r) (C r) (fun l => D r (128 * n + l)) l : ℝ) : EReal)
        = (real2 fun r j => turnLanes (A r) (B r) (C r) (fun l => D r (128 * (j / 128) + l)) (j % 128) : FVec Ideal S1024x1024 .bf16) y := by
    show _ = ((turnLanes (A (y 0).val) (B (y 0).val) (C (y 0).val) (fun l => D (y 0).val (128 * ((y 1).val / 128) + l)) ((y 1).val % 128) : ℝ) : EReal)
    rw [h0, show (y 1).val / 128 = n by omega, show (y 1).val % 128 = l by omega]
  canon_tiles x h
  · exact (congrFun (turn_tile A B C D 896 _) x).trans (e 7 x1_lt h0 (by omega))
  · exact (congrFun (turn_tile A B C D 768 _) x).trans (e 6 x1_lt h0 (by omega))
  · exact (congrFun (turn_tile A B C D 640 _) x).trans (e 5 x1_lt h0 (by omega))
  · exact (congrFun (turn_tile A B C D 512 _) x).trans (e 4 x1_lt h0 (by omega))
  · exact (congrFun (turn_tile A B C D 384 _) x).trans (e 3 x1_lt h0 (by omega))
  · exact (congrFun (turn_tile A B C D 256 _) x).trans (e 2 x1_lt h0 (by omega))
  · exact (congrFun (turn_tile A B C D 128 _) x).trans (e 1 x1_lt h0 (by omega))
  · exact (congrFun (turn_tile A B C D 0 _) x).trans (e 0 x1_lt h0 (by omega))

theorem values_block (E : ℕ → ℕ → ℝ) : k0_pay51 (F := Ideal) (real2 (φ := .bf16) E) = (real2 E : FVec Ideal S1024x512 .bf16) := by
  funext y
  idx_vars y
  pointwise [k0_pay51, real2_ix2]

/-- The nine tiles cover the keys' and values' lanes. -/
theorem keys_cover (u : FVec Ideal S1024x512 .bf16) (w7 w6 w5 w4 w3 w2 w1 w0 : FVec Ideal S1024x128 .bf16) (y : S1024x1536.Idx) :
    ∃ p ∈ ([
      ⟨Rect.unit ![0, 1024] ![1024, 512] inb_S1024x1536_S1024x512_0_1024, u⟩,
      ⟨Rect.unit ![0, 896] ![1024, 128] inb_S1024x1536_S1024x128_0_896, w7⟩,
      ⟨Rect.unit ![0, 768] ![1024, 128] inb_S1024x1536_S1024x128_0_768, w6⟩,
      ⟨Rect.unit ![0, 640] ![1024, 128] inb_S1024x1536_S1024x128_0_640, w5⟩,
      ⟨Rect.unit ![0, 512] ![1024, 128] inb_S1024x1536_S1024x128_0_512, w4⟩,
      ⟨Rect.unit ![0, 384] ![1024, 128] inb_S1024x1536_S1024x128_0_384, w3⟩,
      ⟨Rect.unit ![0, 256] ![1024, 128] inb_S1024x1536_S1024x128_0_256, w2⟩,
      ⟨Rect.unit ![0, 128] ![1024, 128] inb_S1024x1536_S1024x128_0_128, w1⟩,
      ⟨Rect.unit ![0, 0] ![1024, 128] inb_S1024x1536_S1024x128_0_0, w0⟩] :
        List (View.Piece (Elt Ideal) S1024x1536 .bf16)), y ∈ p.1.set := by
  have c (o w : ℕ) (inb : ∀ a, (![0, o] : Fin 2 → ℕ) a + (![1024, w] : Fin 2 → ℕ) a ≤ S1024x1536.size a) (h0 : o ≤ (y 1).val) (h1 : (y 1).val < o + w) :
      y ∈ (Rect.unit (s := S1024x1536) ![0, o] ![1024, w] inb).set :=
    Rect.mem_set_unit.2 fun a => by
      fin_cases a
      · exact ⟨Nat.zero_le _, by have h : (y 0).val < 1024 := (y 0).isLt; show (y 0).val < 0 + 1024; omega⟩
      · exact ⟨h0, h1⟩
  have hy : (y 1).val < 1536 := (y 1).isLt
  by_cases h8 : 1024 ≤ (y 1).val
  · exact ⟨_, List.mem_cons_self, c 1024 512 inb_S1024x1536_S1024x512_0_1024 h8 (by omega)⟩
  by_cases h7 : 896 ≤ (y 1).val
  · exact ⟨_, (List.mem_cons_of_mem _ List.mem_cons_self), c 896 128 inb_S1024x1536_S1024x128_0_896 h7 (by omega)⟩
  by_cases h6 : 768 ≤ (y 1).val
  · exact ⟨_, (List.mem_cons_of_mem _ (List.mem_cons_of_mem _ List.mem_cons_self)), c 768 128 inb_S1024x1536_S1024x128_0_768 h6 (by omega)⟩
  by_cases h5 : 640 ≤ (y 1).val
  · exact ⟨_, (List.mem_cons_of_mem _ (List.mem_cons_of_mem _ (List.mem_cons_of_mem _ List.mem_cons_self))), c 640 128 inb_S1024x1536_S1024x128_0_640 h5 (by omega)⟩
  by_cases h4 : 512 ≤ (y 1).val
  · exact ⟨_, (List.mem_cons_of_mem _ (List.mem_cons_of_mem _ (List.mem_cons_of_mem _ (List.mem_cons_of_mem _ List.mem_cons_self)))), c 512 128 inb_S1024x1536_S1024x128_0_512 h4 (by omega)⟩
  by_cases h3 : 384 ≤ (y 1).val
  · exact ⟨_, (List.mem_cons_of_mem _ (List.mem_cons_of_mem _ (List.mem_cons_of_mem _ (List.mem_cons_of_mem _ (List.mem_cons_of_mem _ List.mem_cons_self))))), c 384 128 inb_S1024x1536_S1024x128_0_384 h3 (by omega)⟩
  by_cases h2 : 256 ≤ (y 1).val
  · exact ⟨_, (List.mem_cons_of_mem _ (List.mem_cons_of_mem _ (List.mem_cons_of_mem _ (List.mem_cons_of_mem _ (List.mem_cons_of_mem _ (List.mem_cons_of_mem _ List.mem_cons_self)))))), c 256 128 inb_S1024x1536_S1024x128_0_256 h2 (by omega)⟩
  by_cases h1 : 128 ≤ (y 1).val
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), c 128 128 inb_S1024x1536_S1024x128_0_128 h1 (by omega)⟩
  exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), c 0 128 inb_S1024x1536_S1024x128_0_0 (Nat.zero_le _) (by omega)⟩

/-- The keys' eight tiles and the values, read back whole. -/
theorem keys_stored (E : ℕ → ℕ → ℝ) {G : ℕ → ℕ → ℝ}
    (hG : ∀ r, ∀ j < 1536, (if j < 1024 then if j % 128 < 64 then D r j else 0 else E r (j - 1024)) = G r j) (v : View sig .tc .vmem S1024x1536 .bf16) :
    v.readCov (Val := Elt Ideal)
      [⟨Rect.unit ![0, 1024] ![1024, 512] inb_S1024x1536_S1024x512_0_1024, k0_pay51 (F := Ideal) (real2 (φ := .bf16) E)⟩,
        ⟨Rect.unit ![0, 896] ![1024, 128] inb_S1024x1536_S1024x128_0_896, k0_pay50 (F := Ideal) (iota .tc S1024x128 32 [1] iota_S1024x128_d1_w32) (tile (real2 D) 896 inb_S1024x1024_S1024x128_0_896)⟩,
        ⟨Rect.unit ![0, 768] ![1024, 128] inb_S1024x1536_S1024x128_0_768, k0_pay46 (F := Ideal) (iota .tc S1024x128 32 [1] iota_S1024x128_d1_w32) (tile (real2 D) 768 inb_S1024x1024_S1024x128_0_768)⟩,
        ⟨Rect.unit ![0, 640] ![1024, 128] inb_S1024x1536_S1024x128_0_640, k0_pay42 (k0_pay41 (F := Ideal) (iota .tc S1024x128 32 [1] iota_S1024x128_d1_w32) (tile (real2 D) 640 inb_S1024x1024_S1024x128_0_640))⟩,
        ⟨Rect.unit ![0, 512] ![1024, 128] inb_S1024x1536_S1024x128_0_512, k0_pay37 (F := Ideal) (iota .tc S1024x128 32 [1] iota_S1024x128_d1_w32) (tile (real2 D) 512 inb_S1024x1024_S1024x128_0_512)⟩,
        ⟨Rect.unit ![0, 384] ![1024, 128] inb_S1024x1536_S1024x128_0_384, k0_pay33 (F := Ideal) (iota .tc S1024x128 32 [1] iota_S1024x128_d1_w32) (tile (real2 D) 384 inb_S1024x1024_S1024x128_0_384)⟩,
        ⟨Rect.unit ![0, 256] ![1024, 128] inb_S1024x1536_S1024x128_0_256, k0_pay29 (k0_pay28 (F := Ideal) (iota .tc S1024x128 32 [1] iota_S1024x128_d1_w32) (tile (real2 D) 256 inb_S1024x1024_S1024x128_0_256))⟩,
        ⟨Rect.unit ![0, 128] ![1024, 128] inb_S1024x1536_S1024x128_0_128, k0_pay24 (F := Ideal) (iota .tc S1024x128 32 [1] iota_S1024x128_d1_w32) (tile (real2 D) 128 inb_S1024x1024_S1024x128_0_128)⟩,
        ⟨Rect.unit ![0, 0] ![1024, 128] inb_S1024x1536_S1024x128_0_0, k0_pay20 (F := Ideal) (tile (real2 D) 0 inb_S1024x1024_S1024x128_0_0)⟩]
      (Rect.unit ![0, 0] ![1024, 1536] inb_S1024x1536_S1024x1536_0_0).toLoadRect
    = (real2 G : FVec Ideal S1024x1536 .bf16) := by
  refine Eq.trans ?_ (show (real2 fun r j => if j < 1024 then if j % 128 < 64 then D r j else 0 else E r (j - 1024) : FVec Ideal S1024x1536 .bf16) = real2 G from
    funext fun y => congrArg (fun x : ℝ => (x : EReal)) (hG _ _ (y 1).isLt))
  rw [View.readCov_eq_canon']
  refine (View.ld_unit_lit (Val := Elt Ideal) inb_S1024x1536_S1024x1536_0_0 _ (by decide)).trans ?_
  funext y
  have e (n : ℕ) {l r : ℕ} (hn : n < 8) (hl : l < 128) (h0 : (y 0).val = r) (h1 : (y 1).val = 128 * n + l) :
      ((if l < 64 then D r (128 * n + l) else 0 : ℝ) : EReal)
        = (real2 fun r j => if j < 1024 then if j % 128 < 64 then D r j else 0 else E r (j - 1024) : FVec Ideal S1024x1536 .bf16) y := by
    show _ = ((if (y 1).val < 1024 then if (y 1).val % 128 < 64 then D (y 0).val (y 1).val else 0 else E (y 0).val ((y 1).val - 1024) : ℝ) : EReal)
    rw [h0, h1, if_pos (show 128 * n + l < 1024 by omega), show (128 * n + l) % 128 = l by omega]
  canon_tiles x h using (keys_cover _ _ _ _ _ _ _ _ _ y)
  · refine (congrFun (values_block E) x).trans ?_
    show ((E (x 0).val (x 1).val : ℝ) : EReal) = ((if (y 1).val < 1024 then if (y 1).val % 128 < 64 then D (y 0).val (y 1).val else 0 else E (y 0).val ((y 1).val - 1024) : ℝ) : EReal)
    rw [if_neg (by omega), h0, show (y 1).val - 1024 = (x 1).val by omega]
  · exact (congrFun (key_tile D 896 _) x).trans (e 7 (by decide) x1_lt h0 (by omega))
  · exact (congrFun (key_tile D 768 _) x).trans (e 6 (by decide) x1_lt h0 (by omega))
  · exact (congrFun (key_tile D 640 _) x).trans (e 5 (by decide) x1_lt h0 (by omega))
  · exact (congrFun (key_tile D 512 _) x).trans (e 4 (by decide) x1_lt h0 (by omega))
  · exact (congrFun (key_tile D 384 _) x).trans (e 3 (by decide) x1_lt h0 (by omega))
  · exact (congrFun (key_tile D 256 _) x).trans (e 2 (by decide) x1_lt h0 (by omega))
  · exact (congrFun (key_tile D 128 _) x).trans (e 1 (by decide) x1_lt h0 (by omega))
  · exact (congrFun (key_tile D 0 _) x).trans (e 0 (by decide) x1_lt h0 (by omega))

/-- The lanes of seven of the keys' tiles, added. -/
theorem tiles_added : k0_pay45 (F := Ideal) (k0_pay40 (k0_pay32 (k0_pay27 (k0_pay19 (tile (real2 D) 0 inb_S1024x1024_S1024x128_0_0)) (tile (real2 D) 128 inb_S1024x1024_S1024x128_0_128)
      (tile (real2 D) 256 inb_S1024x1024_S1024x128_0_256)) (tile (real2 D) 384 inb_S1024x1024_S1024x128_0_384)) (tile (real2 D) 512 inb_S1024x1024_S1024x128_0_512)
      (tile (real2 D) 640 inb_S1024x1024_S1024x128_0_640)) (tile (real2 D) 768 inb_S1024x1024_S1024x128_0_768)
    = (real2 fun r l => ∑ h ∈ Finset.range 7, D r (128 * h + l) : FVec Ideal S1024x128 .f32) := by
  simp only [load_tile]
  funext y
  idx_vars y
  pointwise [k0_pay45, k0_pay44, k0_pay40, k0_pay39, k0_pay36, k0_pay32, k0_pay31, k0_pay27, k0_pay26, k0_pay23, k0_pay19, k0_pay18, real2_ix2]
  simp only [zero_add, ← EReal.coe_add, Finset.sum_range_succ, Finset.sum_range_zero, Nat.mul_zero]

/-- The shared columns of a block. -/
theorem shared_stored {G : ℕ → ℕ → ℝ}
    (hG : ∀ r, ∀ l < 128, (if l < 32 then turnLanes (A r) (B r) (C r) (fun l => if 64 ≤ l then ∑ h ∈ Finset.range 8, D r (128 * h + l) else 0) (64 + l) else 0) = G r l) :
    k0_pay52 (F := Ideal) (real2 A) (real2 B) (real2 C) (iota .tc S1024x128 32 [1] iota_S1024x128_d1_w32)
      (k0_pay45 (k0_pay40 (k0_pay32 (k0_pay27 (k0_pay19 (tile (real2 D) 0 inb_S1024x1024_S1024x128_0_0)) (tile (real2 D) 128 inb_S1024x1024_S1024x128_0_128)
      (tile (real2 D) 256 inb_S1024x1024_S1024x128_0_256)) (tile (real2 D) 384 inb_S1024x1024_S1024x128_0_384)) (tile (real2 D) 512 inb_S1024x1024_S1024x128_0_512)
      (tile (real2 D) 640 inb_S1024x1024_S1024x128_0_640)) (tile (real2 D) 768 inb_S1024x1024_S1024x128_0_768)) (tile (real2 D) 896 inb_S1024x1024_S1024x128_0_896)
    = (real2 G : FVec Ideal S1024x128 .f32) := by
  rw [tiles_added, load_tile, shared_block]
  refine funext fun y => congrArg (fun x : ℝ => (x : EReal)) (Eq.trans ?_ (hG _ _ (y 1).isLt))
  simp only [Finset.sum_range_succ _ 7]

end Cert.Mla
end
-- ==== Proof.MlaLanes.lean ====
/- The latent projections' backward call over the reals: the kernel's lanes hold the cotangents of the reference's columns. -/
module

public import proofs.«01_k».proof.Proof.MlaRows

@[expose] public section

noncomputable section

namespace Cert.Mla

/-- Eight groups of 96 columns, each in 128 lanes. -/
def lanes (q : ℕ → ℕ → ℝ) (j : ℕ) : ℝ := if j % 128 < 96 then q (j / 128) (j % 128) else 0

theorem lanes_tile (q : ℕ → ℕ → ℝ) (h l : ℕ) (hl : l < 128) : lanes q (128 * h + l) = if l < 96 then q h l else 0 := by
  unfold lanes
  rw [show (128 * h + l) % 128 = l by omega, show (128 * h + l) / 128 = h by omega]

theorem turnLanes_congr (a b c : ℕ → ℝ) {d e : ℕ → ℝ} (h : ∀ l < 128, d l = e l) (l : ℕ) (hl : l < 128) : turnLanes a b c d l = turnLanes a b c e l := by
  unfold turnLanes
  rw [h l hl, h _ (Nat.mod_lt _ (by decide)), h _ (Nat.mod_lt _ (by decide))]

variable (co si : ℕ → ℝ) (q k v : ℕ → ℕ → ℝ)

/-- The queries' lanes turned back are the cotangents of the queries' columns. -/
theorem turned_lanes (j : ℕ) : turnLanes (tableA co) (tableB si) (tableC si) (fun l => lanes q (128 * (j / 128) + l)) (j % 128) = padQ (backQ co si q) j := by
  have hl : j % 128 < 128 := Nat.mod_lt _ (by decide)
  rw [turnLanes_congr _ _ _ (fun l hl => lanes_tile q (j / 128) l hl) _ hl, turnLanes_eq _ _ _ _ hl]
  unfold padQ
  by_cases h : j % 128 < 96
  · rw [if_pos h, if_pos h]
    unfold backQ
    rw [show (96 * (j / 128) + j % 128) / 96 = j / 128 by omega, show (96 * (j / 128) + j % 128) % 96 = j % 128 by omega]
  · rw [if_neg h, if_neg h]

/-- The keys' unrotated lanes and the values. -/
theorem kept_lanes (j : ℕ) (hj : j < 1536) :
    (if j < 1024 then if j % 128 < 64 then lanes k j else 0 else v ((j - 1024) / 64) ((j - 1024) % 64)) = padK (backK k v) j := by
  unfold padK backK
  by_cases h : j < 1024
  · rw [if_pos h, if_pos h]
    by_cases h' : j % 128 < 64
    · rw [if_pos h', if_pos h', if_pos h']
      unfold lanes
      rw [if_pos (by omega)]
    · rw [if_neg h', if_neg h']
  · rw [if_neg h, if_neg h, if_neg (by omega), show (128 * ((j - 1024) / 64) + (64 + (j - 1024) % 64)) / 128 = (j - 1024) / 64 by omega,
      show (128 * ((j - 1024) / 64) + (64 + (j - 1024) % 64)) % 128 - 64 = (j - 1024) % 64 by omega]

/-- The eight groups' rotated lanes, added and turned back, are the cotangent of the columns they share. -/
theorem shared_lanes (l : ℕ) (hl : l < 128) :
    (if l < 32 then turnLanes (tableA co) (tableB si) (tableC si) (fun l => if 64 ≤ l then ∑ h ∈ Finset.range 8, lanes k (128 * h + l) else 0) (64 + l) else 0)
      = if l < 32 then unturn co si (shared k) l else 0 := by
  by_cases h : l < 32
  · rw [if_pos h, if_pos h]
    have e : ∀ p < 128, (if 64 ≤ p then ∑ h ∈ Finset.range 8, lanes k (128 * h + p) else 0)
        = if p < 96 then (if 64 ≤ p then ∑ h ∈ Finset.range 8, k h p else 0) else 0 := by
      intro p hp
      simp only [lanes_tile k _ p hp]
      split_ifs <;> simp
    rw [turnLanes_congr _ _ _ e _ (by omega), turnLanes_eq _ _ (fun p => if 64 ≤ p then ∑ h ∈ Finset.range 8, k h p else 0) _ (by omega), if_pos (by omega)]
    unfold unturnHead
    rw [if_neg (by omega), show 64 + l - 64 = l by omega]
    refine congrArg (fun f => unturn co si f l) (funext fun p => ?_)
    exact if_pos (show 64 ≤ 64 + p by omega)
  · rw [if_neg h, if_neg h]

end Cert.Mla
end
-- ==== Proof.MlaLay.lean ====
/- The arrays the latent projections' backward call is given, made of its arguments. -/
module

public import proofs.«01_k».proof.Proof.Gen.MlaKernelIdeal.Skeleton
public import proofs.«01_k».proof.Proof.MlaLanes
public import proofs.«01_k».proof.Proof.Scalars

@[expose] public section

set_option maxRecDepth 16384

noncomputable section

namespace Cert.Mla

open Idealize.ShloMosaic Idealize.ShloMosaic.TcCoe Idealize.SL.Sem Idealize.ShloMosaic.StableHlo
open Cert.MlaKernelIdeal Cert.MlaKernelIdeal.Gen Cert.Reals Cert.Scalars

/-- The three tables of the rotation. -/
def layA (co : FVec Ideal S1x4096x16 .f32) : FVec Ideal S4096x128 .f32 :=
  concatenate S4096x128 1 [⟨S4096x64, broadcastInDim S4096x64 ![] bcast_S_S4096x64 (constant S_ .f32 0x3F800000#32)⟩,
    ⟨S4096x16, shapeCast S4096x16 co shapeCasts_S1x4096x16_S4096x16⟩, ⟨S4096x16, shapeCast S4096x16 co shapeCasts_S1x4096x16_S4096x16⟩,
    ⟨S4096x32, broadcastInDim S4096x32 ![] bcast_S_S4096x32 (constant S_ .f32 0x00000000#32)⟩] concatenates_S4096x64_S4096x16_S4096x16_S4096x32_S4096x128_d1
@[inherit_doc layA] def layB (si : FVec Ideal S1x4096x16 .f32) : FVec Ideal S4096x128 .f32 :=
  concatenate S4096x128 1 [⟨S4096x64, broadcastInDim S4096x64 ![] bcast_S_S4096x64 (constant S_ .f32 0x00000000#32)⟩,
    ⟨S4096x16, Host.negf (shapeCast S4096x16 si shapeCasts_S1x4096x16_S4096x16)⟩,
    ⟨S4096x48, broadcastInDim S4096x48 ![] bcast_S_S4096x48 (constant S_ .f32 0x00000000#32)⟩] concatenates_S4096x64_S4096x16_S4096x48_S4096x128_d1
@[inherit_doc layA] def layC (si : FVec Ideal S1x4096x16 .f32) : FVec Ideal S4096x128 .f32 :=
  concatenate S4096x128 1 [⟨S4096x80, broadcastInDim S4096x80 ![] bcast_S_S4096x80 (constant S_ .f32 0x00000000#32)⟩,
    ⟨S4096x16, shapeCast S4096x16 si shapeCasts_S1x4096x16_S4096x16⟩,
    ⟨S4096x32, broadcastInDim S4096x32 ![] bcast_S_S4096x32 (constant S_ .f32 0x00000000#32)⟩] concatenates_S4096x80_S4096x16_S4096x32_S4096x128_d1

/-- The columns of the first projection in the kernel's order. -/
def layZ (z : FVec Ideal S1x4096x1952 .f32) : FVec Ideal S4096x2048 .bf16 :=
  truncf .bf16 (concatenate S4096x2048 1
    [⟨S4096x768, shapeCast S4096x768 (extractStridedSlice S1x4096x768 ![0, 0, 1184] z slices_S1x4096x1952_S1x4096x768_0_0_1184) shapeCasts_S1x4096x768_S4096x768⟩,
      ⟨S4096x672, shapeCast S4096x672 (extractStridedSlice S1x4096x672 ![0, 0, 0] z slices_S1x4096x1952_S1x4096x672_0_0_0) shapeCasts_S1x4096x672_S4096x672⟩,
      ⟨S4096x96, broadcastInDim S4096x96 ![] bcast_S_S4096x96 (constant S_ .f32 0x00000000#32)⟩,
      ⟨S4096x512, shapeCast S4096x512 (extractStridedSlice S1x4096x512 ![0, 0, 672] z slices_S1x4096x1952_S1x4096x512_0_0_672) shapeCasts_S1x4096x512_S4096x512⟩]
    concatenates_S4096x768_S4096x672_S4096x96_S4096x512_S4096x2048_d1) bitsLt_bf16_f32

/-- The query's second projection, a group's 96 rows filled up to 128. -/
def layUq (w : FVec Ideal S384x768 .f32) : FVec Ideal S1024x384 .bf16 :=
  truncf .bf16 (shapeCast S1024x384 (pad S8x128x384 ![0, 0, 0] ![0, 32, 0] ![0, 0, 0]
    (shapeCast S8x96x384 (transpose S768x384 [1, 0] w transposes_S384x768_S768x384_1_0) shapeCasts_S768x384_S8x96x384) (sitofp .f32 (constantI S_ 32 0#32))
    pads_S8x96x384_S8x128x384_000_0320_000 h_S_) shapeCasts_S8x128x384_S1024x384) bitsLt_bf16_f32

/-- The second projection of keys and values, the keys' 64 rows of a group filled up to 128, the values' rows behind. -/
def layUkv (w : FVec Ideal S256x1024 .f32) : FVec Ideal S1536x256 .bf16 :=
  truncf .bf16 (concatenate S1536x256 0
    [⟨S1024x256, shapeCast S1024x256 (pad S8x128x256 ![0, 0, 0] ![0, 64, 0] ![0, 0, 0] (extractStridedSlice S8x64x256 ![0, 0, 0]
        (shapeCast S8x128x256 (transpose S1024x256 [1, 0] w transposes_S256x1024_S1024x256_1_0) shapeCasts_S1024x256_S8x128x256) slices_S8x128x256_S8x64x256_0_0_0)
        (sitofp .f32 (constantI S_ 32 0#32)) pads_S8x64x256_S8x128x256_000_0640_000 h_S_) shapeCasts_S8x128x256_S1024x256⟩,
      ⟨S512x256, shapeCast S512x256 (extractStridedSlice S8x64x256 ![0, 64, 0]
        (shapeCast S8x128x256 (transpose S1024x256 [1, 0] w transposes_S256x1024_S1024x256_1_0) shapeCasts_S1024x256_S8x128x256) slices_S8x128x256_S8x64x256_0_64_0)
        shapeCasts_S8x64x256_S512x256⟩] concatenates_S1024x256_S512x256_S1536x256_d0) bitsLt_bf16_f32

/-- A cotangent's eight groups of 96 columns, filled up to 128. -/
def layHeads (q : FVec Ideal S1x4096x8x96 .f32) : FVec Ideal S4096x1024 .bf16 :=
  truncf .bf16 (shapeCast S4096x1024 (pad S4096x8x128 ![0, 0, 0] ![0, 0, 32] ![0, 0, 0] (shapeCast S4096x8x96 q shapeCasts_S1x4096x8x96_S4096x8x96)
    (sitofp .f32 (constantI S_ 32 0#32)) pads_S4096x8x96_S4096x8x128_000_000_0320 h_S_) shapeCasts_S4096x8x128_S4096x1024) bitsLt_bf16_f32

/-- The values' cotangent. -/
def layV (v : FVec Ideal S1x4096x8x64 .f32) : FVec Ideal S4096x512 .bf16 :=
  truncf .bf16 (shapeCast S4096x512 (shapeCast S4096x8x64 v shapeCasts_S1x4096x8x64_S4096x8x64) shapeCasts_S4096x8x64_S4096x512) bitsLt_bf16_f32

/-- A row of the first projection in the kernel's order. -/
def ordered (z : ℕ → ℝ) (j : ℕ) : ℝ := if j < 768 then z (1184 + j) else if j < 1440 then z (j - 768) else if j < 1536 then 0 else z (j - 864)

/-- The 768 columns of the first projection the kernel reads: 672 of its own and 96 zeros. -/
def latent (z : ℕ → ℝ) (j : ℕ) : ℝ := ordered z (768 + j)

theorem latent_eq (z : ℕ → ℝ) {j : ℕ} (h : j < 672) : latent z j = z j := by
  unfold latent ordered
  rw [if_neg (by omega), if_pos (by omega)]
  exact congrArg z (by omega)

/-- The norms look at the first 384 columns and the 256 behind them. -/
theorem rms_congr (n : ℕ) {x y : ℕ → ℝ} (h : ∀ d < n, x d = y d) : rms n x = rms n y := by
  unfold rms meanSq
  rw [Finset.sum_congr rfl fun d hd => by rw [h d (Finset.mem_range.1 hd)]]

theorem rmsGrad_congr (n : ℕ) {x y u w : ℕ → ℝ} (h : ∀ d < n, x d = y d) (hu : ∀ d < n, u d = w d) {d : ℕ} (hd : d < n) : rmsGrad n x u d = rmsGrad n y w d := by
  unfold rmsGrad
  rw [rms_congr n h, h d hd, hu d hd, Finset.sum_congr rfl fun e he => by rw [h e (Finset.mem_range.1 he), hu e (Finset.mem_range.1 he)]]

theorem latent_q (z : ℕ → ℝ) : ∀ d < 384, latent z d = z d := fun _ h => latent_eq z (by omega)
theorem latent_k (z : ℕ → ℝ) : ∀ d < 256, latent z (384 + d) = z (384 + d) := fun _ h => latent_eq z (by omega)

/-- A row's normalised numbers. -/
def unitQ (z : ℕ → ℕ → ℝ) (r d : ℕ) : ℝ := latent (z r) d * rms 384 (latent (z r))
@[inherit_doc unitQ] def unitK (z : ℕ → ℕ → ℝ) (r d : ℕ) : ℝ := latent (z r) (384 + d) * rms 256 (fun e => latent (z r) (384 + e))

theorem unitQ_eq (z : ℕ → ℕ → ℝ) (r : ℕ) {d : ℕ} (h : d < 384) : unitQ z r d = z r d * rms 384 (z r) := by
  unfold unitQ
  rw [rms_congr 384 (latent_q (z r)), latent_q _ d h]

theorem unitK_eq (z : ℕ → ℕ → ℝ) (r : ℕ) {d : ℕ} (h : d < 256) : unitK z r d = z r (384 + d) * rms 256 (fun e => z r (384 + e)) := by
  unfold unitK
  rw [rms_congr 256 (latent_k (z r)), latent_k _ d h]

/-- Products over the kernel's lanes and over the reference's columns. -/
theorem dot_padQ (f h : ℕ → ℝ) : ∑ j ∈ Finset.range 1024, padQ f j * padQ h j = ∑ j ∈ Finset.range 768, f j * h j := by
  simp only [padQ_mul]
  exact sum_padQ _

theorem dot_padK (f h : ℕ → ℝ) : ∑ j ∈ Finset.range 1536, padK f j * padK h j = ∑ j ∈ Finset.range 1024, f j * h j := by
  simp only [padK_mul]
  exact sum_padK _

theorem proj_padQ (n : ℕ) (u : ℕ → ℝ) (f : ℕ → ℕ → ℝ) (j : ℕ) :
    ∑ r ∈ Finset.range n, u r * padQ (f r) j = padQ (fun e => ∑ r ∈ Finset.range n, f r e * u r) j := by
  rw [sum_mul_padQ]
  exact congrArg (fun f => padQ f j) (funext fun e => Finset.sum_congr rfl fun r _ => mul_comm _ _)

theorem proj_padK (n : ℕ) (u : ℕ → ℝ) (f : ℕ → ℕ → ℝ) (j : ℕ) :
    ∑ r ∈ Finset.range n, u r * padK (f r) j = padK (fun e => ∑ r ∈ Finset.range n, f r e * u r) j := by
  rw [sum_mul_padK]
  exact congrArg (fun f => padK f j) (funext fun e => Finset.sum_congr rfl fun r _ => mul_comm _ _)

theorem fill_zero : (FloatOps.sitofp FTy.f32 0#32 : Ideal .f32) = ((0 : ℝ) : EReal) :=
  show (((0#32 : BitVec 32).toInt : ℝ) : EReal) = _ by simp

theorem layA_real (co : ℕ → ℕ → ℕ → ℝ) : layA (real3 co) = real2 (fun r l => tableA (co 0 r) l) := by
  funext y
  idx_vars y
  have h := y1.isLt
  pointwise [layA, real2_ix2, real3_ix3, one_word]
  unfold tableA
  split_ifs <;> first | omega | rfl | (refine congrArg (fun k => ((co _ _ k : ℝ) : EReal)) ?_; omega)

theorem layB_real (si : ℕ → ℕ → ℕ → ℝ) : layB (real3 si) = real2 (fun r l => tableB (si 0 r) l) := by
  funext y
  idx_vars y
  have h := y1.isLt
  pointwise [layB, real2_ix2, real3_ix3]
  unfold tableB
  split_ifs <;> first | omega | rfl | (refine congrArg (fun k => ((-si _ _ k : ℝ) : EReal)) ?_; omega)

theorem layC_real (si : ℕ → ℕ → ℕ → ℝ) : layC (real3 si) = real2 (fun r l => tableC (si 0 r) l) := by
  funext y
  idx_vars y
  have h := y1.isLt
  pointwise [layC, real2_ix2, real3_ix3]
  unfold tableC
  split_ifs <;> first | omega | rfl | (refine congrArg (fun k => ((si _ _ k : ℝ) : EReal)) ?_; omega)

theorem layZ_real (z : ℕ → ℕ → ℕ → ℝ) : layZ (real3 z) = real2 (fun r j => ordered (z 0 r) j) := by
  funext y
  idx_vars y
  have h := y1.isLt
  pointwise [layZ, real2_ix2, real3_ix3]
  unfold ordered
  split_ifs <;> first | omega | rfl | (refine congrArg (fun k => ((z _ _ k : ℝ) : EReal)) ?_; omega)

theorem layUq_real (w : ℕ → ℕ → ℝ) : layUq (real2 w) = real2 (fun j d => padQ (w d) j) := by
  funext y
  idx_vars y
  have h := y0.isLt
  pointwise [layUq, real2_ix2, fill_zero]
  unfold padQ
  split_ifs <;> first | omega | rfl | (refine congrArg (fun k => ((w _ k : ℝ) : EReal)) ?_; omega)

theorem layUkv_real (w : ℕ → ℕ → ℝ) : layUkv (real2 w) = real2 (fun j d => padK (w d) j) := by
  funext y
  idx_vars y
  have h := y0.isLt
  pointwise [layUkv, real2_ix2, fill_zero]
  unfold padK
  split_ifs <;> first | omega | rfl | (refine congrArg (fun k => ((w _ k : ℝ) : EReal)) ?_; omega)

theorem layHeads_real (q : ℕ → ℕ → ℕ → ℕ → ℝ) : layHeads (real4 q) = real2 (fun r j => lanes (q 0 r) j) := by
  funext y
  idx_vars y
  have h := y1.isLt
  pointwise [layHeads, real2_ix2, real4_ix4, fill_zero]
  unfold lanes
  split_ifs <;> first | omega | rfl | (refine congrArg₂ (fun k l => ((q _ _ k l : ℝ) : EReal)) ?_ ?_ <;> omega)

theorem layV_real (v : ℕ → ℕ → ℕ → ℕ → ℝ) : layV (real4 v) = real2 (fun r j => v 0 r (j / 64) (j % 64)) := by
  funext y
  idx_vars y
  have h := y1.isLt
  pointwise [layV, real2_ix2, real4_ix4]
  try (refine congrArg₂ (fun k l => ((v _ _ k l : ℝ) : EReal)) ?_ ?_ <;> omega)

theorem scale_q (g : ℕ → ℝ) : shapeCast S1x384 (real1 g : FVec Ideal S384 .f32) shapeCasts_S384_S1x384 = real2 (φ := .f32) fun _ d => g d := by
  funext y
  idx_vars y
  pointwise [real2_ix2, real1_ix1]

theorem scale_k (g : ℕ → ℝ) : shapeCast S1x256 (real1 g : FVec Ideal S256 .f32) shapeCasts_S256_S1x256 = real2 (φ := .f32) fun _ d => g d := by
  funext y
  idx_vars y
  pointwise [real2_ix2, real1_ix1]

end Cert.Mla
end
-- ==== Proof.MlaSums.lean ====
/- The reference of the latent projections' backward call: its stages on real inputs. -/
module

public import proofs.«01_k».proof.Proof.Gen.MlaReferenceIdeal.Run
public import proofs.«01_k».proof.Proof.MlaRows
public import proofs.«01_k».proof.Proof.Scalars

@[expose] public section

set_option maxRecDepth 16384

noncomputable section

namespace Cert.Mla

open Idealize.ShloMosaic Idealize.ShloMosaic.TcCoe Idealize.SL.Sem Idealize.ShloMosaic.StableHlo
open Cert.MlaReferenceIdeal Cert.MlaReferenceIdeal.Gen Cert.Reals Cert.Scalars

/-- The word of minus one half. -/
theorem neg_half_word : Ideal.ofBits .f32 0xBF000000#32 = ((-(1 / 2) : ℝ) : EReal) := by
  simp [Ideal.ofBits, Ideal.ieee, -EReal.coe_mul]; norm_num

/-- The word of 384. -/
theorem q_width_word : Ideal.ofBits .f32 0x43C00000#32 = ((384 : ℝ) : EReal) := by
  simp [Ideal.ofBits, Ideal.ieee, -EReal.coe_mul]; norm_num

/-- The word of 256. -/
theorem k_width_word : Ideal.ofBits .f32 0x43800000#32 = ((256 : ℝ) : EReal) := by
  simp [Ideal.ofBits, Ideal.ieee, -EReal.coe_mul]; norm_num

/-- The constant zero. -/
abbrev zero : FVec Ideal S_ .f32 := constant S_ .f32 0x00000000#32

/-- The sum over the two axes of length one. -/
theorem unitSum_at (x : FVec Ideal S1x4096x1 .f32) (init : EReal) (r : Fin 4096) :
    Ideal.hostReduceAdd reducesTo_S1x4096x1_S4096_d0_2 x init (ix1 r) = init + x (ix3 0 r 0) := by
  unfold Ideal.hostReduceAdd
  refine congrArg (init + ·) ?_
  refine (Finset.sum_eq_single_of_mem (ix3 0 r 0) ?_ ?_).trans rfl
  · refine Finset.mem_filter.mpr ⟨Finset.mem_univ _, ?_⟩
    funext a
    fin_cases a
    exact Fin.ext (Shape.ReducesTo.drop_apply_val reducesTo_S1x4096x1_S4096_d0_2 _ 0)
  · intro i hi ne
    have e := (Finset.mem_filter.mp hi).2
    have v : ((reducesTo_S1x4096x1_S4096_d0_2.drop i) 0).val = (i 1).val := Shape.ReducesTo.drop_apply_val reducesTo_S1x4096x1_S4096_d0_2 i 0
    rw [e] at v
    refine absurd ?_ ne
    idx_vars i
    have : r = i1 := Fin.ext v
    rw [this, Subsingleton.elim i0 0, Subsingleton.elim i2 0]

/-- The query's columns' mean square of each row plus the offset. -/
def meanQ (x : FVec Ideal S1x4096x384 .f32) : FVec Ideal S1x4096x1 .f32 :=
  addf (Host.divf (broadcastInDim S1x4096x1 ![0, 1] bcast_S1x4096_S1x4096x1_0_1 (Host.reduceAdd (mulf x x) zero reducesTo_S1x4096x384_S1x4096_d2 h_S_))
    (broadcastInDim S1x4096x1 ![] bcast_S_S1x4096x1 (constant S_ .f32 0x43C00000#32))) (broadcastInDim S1x4096x1 ![] bcast_S_S1x4096x1 (constant S_ .f32 0x358637BD#32))

/-- The query's columns' reciprocal root mean square of each row, along the row. -/
def rootQ (x : FVec Ideal S1x4096x384 .f32) : FVec Ideal S1x4096x384 .f32 :=
  broadcastInDim S1x4096x384 ![0, 1, 2] bcast_S1x4096x1_S1x4096x384_0_1_2 (Host.rsqrt (meanQ x))

/-- The scale along the rows. -/
def scaleQ (g : FVec Ideal S384 .f32) : FVec Ideal S1x4096x384 .f32 :=
  broadcastInDim S1x4096x384 ![0, 1, 2] bcast_S1x1x384_S1x4096x384_0_1_2 (broadcastInDim S1x1x384 ![2] bcast_S384_S1x1x384_2 g)

/-- What the mean square's derivative adds to each entry of a row, before the row itself. -/
def dMeanQ (x u : FVec Ideal S1x4096x384 .f32) : FVec Ideal S1x4096x384 .f32 :=
  broadcastInDim S1x4096x384 ![0, 1] bcast_S1x4096_S1x4096x384_0_1 (broadcastInDim S1x4096 ![1] bcast_S4096_S1x4096_1
    (Host.reduceAdd (Host.divf (mulf (shapeCast S1x4096x1 (Host.reduceAdd (mulf x u) zero reducesTo_S1x4096x384_S1x4096_d2 h_S_) shapeCasts_S1x4096_S1x4096x1)
      (mulf (broadcastInDim S1x4096x1 ![] bcast_S_S1x4096x1 (constant S_ .f32 0xBF000000#32)) (Host.divf (Host.rsqrt (meanQ x)) (meanQ x))))
      (broadcastInDim S1x4096x1 ![] bcast_S_S1x4096x1 (constant S_ .f32 0x43C00000#32))) zero reducesTo_S1x4096x1_S4096_d0_2 h_S_))

/-- The norm's derivative. -/
def dNormQ (x u : FVec Ideal S1x4096x384 .f32) : FVec Ideal S1x4096x384 .f32 :=
  addf (addf (mulf u (rootQ x)) (mulf x (dMeanQ x u))) (mulf (dMeanQ x u) x)

/-- The sum over the rows. -/
def rowSumQ (x : FVec Ideal S1x4096x384 .f32) : FVec Ideal S1x384 .f32 :=
  shapeCast S1x384 (Host.reduceAdd (shapeCast S1x1x384 (Host.reduceAdd x zero reducesTo_S1x4096x384_S1x384_d1 h_S_) shapeCasts_S1x384_S1x1x384)
    zero reducesTo_S1x1x384_S384_d0_1 h_S_) shapeCasts_S384_S1x384

theorem rowSumQ_at (x : FVec Ideal S1x4096x384 .f32) (i : Fin 1) (d : Fin 384) : rowSumQ x (ix2 i d) = ∑ r : Fin 4096, x (ix3 0 r d) := by
  have keep (x : FVec Ideal S1x1x384 .f32) (init : EReal) : Ideal.hostReduceAdd reducesTo_S1x1x384_S384_d0_1 x init (ix1 d) = init + x (ix3 0 0 d) := by
    unfold Ideal.hostReduceAdd
    refine congrArg (init + ·) ?_
    refine (Finset.sum_eq_single_of_mem (ix3 0 0 d) ?_ ?_).trans rfl
    · refine Finset.mem_filter.mpr ⟨Finset.mem_univ _, ?_⟩
      funext a
      fin_cases a
      exact Fin.ext (Shape.ReducesTo.drop_apply_val reducesTo_S1x1x384_S384_d0_1 _ 0)
    · intro i hi ne
      have e := (Finset.mem_filter.mp hi).2
      have v : ((reducesTo_S1x1x384_S384_d0_1.drop i) 0).val = (i 2).val := Shape.ReducesTo.drop_apply_val reducesTo_S1x1x384_S384_d0_1 i 0
      rw [e] at v
      refine absurd ?_ ne
      idx_vars i
      have : d = i2 := Fin.ext v
      rw [this, Subsingleton.elim i0 0, Subsingleton.elim i1 0]
  pointwise [rowSumQ, keep]

theorem meanQ_real (x : ℕ → ℕ → ℕ → ℝ) : meanQ (real3 x) = real3 (fun b r _ => meanSq 384 (x b r)) := by
  funext y
  idx_vars y
  pointwise [meanQ, real3_ix3]
  simp only [← EReal.coe_mul]
  rw [sum_real fun k => x 0 y1.val k * x 0 y1.val k, q_width_word, eps_word, div_real (by norm_num), ← EReal.coe_add]
  rfl

theorem rootQ_real (x : ℕ → ℕ → ℕ → ℝ) : rootQ (real3 x) = real3 (fun b r _ => rms 384 (x b r)) := by
  funext y
  idx_vars y
  pointwise [rootQ, meanQ_real, real3_ix3]
  exact rsqrt_meanSq 384 (x 0 y1.val)

theorem scaleQ_real (g : ℕ → ℝ) : scaleQ (real1 g) = real3 (fun _ _ d => g d) := by
  funext y
  idx_vars y
  pointwise [scaleQ, real1_ix1, real3_ix3]

theorem dMeanQ_real (x u : ℕ → ℕ → ℕ → ℝ) : dMeanQ (real3 x) (real3 u)
    = real3 (fun b r _ => (∑ k ∈ Finset.range 384, x b r k * u b r k) * (-(1 / 2) * (rms 384 (x b r) / meanSq 384 (x b r))) / ((384 : ℕ) : ℝ)) := by
  funext y
  idx_vars y
  have h0 : y0 = 0 := Subsingleton.elim _ _
  subst h0
  pointwise [dMeanQ, meanQ_real, unitSum_at, real3_ix3]
  rw [rsqrt_meanSq, q_width_word, neg_half_word]
  simp only [← EReal.coe_mul]
  rw [sum_real fun k => x 0 y1.val k * u 0 y1.val k, div_real (meanSq_pos _ _).ne']
  simp only [← EReal.coe_mul]
  rw [div_real (by norm_num)]
  simp

theorem dNormQ_real (x u : ℕ → ℕ → ℕ → ℝ) : dNormQ (real3 x) (real3 u) = real3 (fun b r d => rmsGrad 384 (x b r) (u b r) d) := by
  unfold dNormQ
  rw [dMeanQ_real, rootQ_real]
  funext y
  idx_vars y
  pointwise [real3_ix3]
  simp only [← EReal.coe_mul, ← EReal.coe_add]
  rw [← rmsGrad_eq]

theorem rowSumQ_real (x : ℕ → ℕ → ℕ → ℝ) : rowSumQ (real3 x) = real2 (fun _ d => ∑ r ∈ Finset.range 4096, x 0 r d) := by
  funext y
  idx_vars y
  rw [rowSumQ_at]
  pointwise [real2_ix2, real3_ix3]
  exact sum_real fun r => x 0 r y1.val

/-- The keys' columns' mean square of each row plus the offset. -/
def meanK (x : FVec Ideal S1x4096x256 .f32) : FVec Ideal S1x4096x1 .f32 :=
  addf (Host.divf (broadcastInDim S1x4096x1 ![0, 1] bcast_S1x4096_S1x4096x1_0_1 (Host.reduceAdd (mulf x x) zero reducesTo_S1x4096x256_S1x4096_d2 h_S_))
    (broadcastInDim S1x4096x1 ![] bcast_S_S1x4096x1 (constant S_ .f32 0x43800000#32))) (broadcastInDim S1x4096x1 ![] bcast_S_S1x4096x1 (constant S_ .f32 0x358637BD#32))

/-- The keys' columns' reciprocal root mean square of each row, along the row. -/
def rootK (x : FVec Ideal S1x4096x256 .f32) : FVec Ideal S1x4096x256 .f32 :=
  broadcastInDim S1x4096x256 ![0, 1, 2] bcast_S1x4096x1_S1x4096x256_0_1_2 (Host.rsqrt (meanK x))

/-- The scale along the rows. -/
def scaleK (g : FVec Ideal S256 .f32) : FVec Ideal S1x4096x256 .f32 :=
  broadcastInDim S1x4096x256 ![0, 1, 2] bcast_S1x1x256_S1x4096x256_0_1_2 (broadcastInDim S1x1x256 ![2] bcast_S256_S1x1x256_2 g)

/-- What the mean square's derivative adds to each entry of a row, before the row itself. -/
def dMeanK (x u : FVec Ideal S1x4096x256 .f32) : FVec Ideal S1x4096x256 .f32 :=
  broadcastInDim S1x4096x256 ![0, 1] bcast_S1x4096_S1x4096x256_0_1 (broadcastInDim S1x4096 ![1] bcast_S4096_S1x4096_1
    (Host.reduceAdd (Host.divf (mulf (shapeCast S1x4096x1 (Host.reduceAdd (mulf x u) zero reducesTo_S1x4096x256_S1x4096_d2 h_S_) shapeCasts_S1x4096_S1x4096x1)
      (mulf (broadcastInDim S1x4096x1 ![] bcast_S_S1x4096x1 (constant S_ .f32 0xBF000000#32)) (Host.divf (Host.rsqrt (meanK x)) (meanK x))))
      (broadcastInDim S1x4096x1 ![] bcast_S_S1x4096x1 (constant S_ .f32 0x43800000#32))) zero reducesTo_S1x4096x1_S4096_d0_2 h_S_))

/-- The norm's derivative. -/
def dNormK (x u : FVec Ideal S1x4096x256 .f32) : FVec Ideal S1x4096x256 .f32 :=
  addf (addf (mulf u (rootK x)) (mulf x (dMeanK x u))) (mulf (dMeanK x u) x)

/-- The sum over the rows. -/
def rowSumK (x : FVec Ideal S1x4096x256 .f32) : FVec Ideal S1x256 .f32 :=
  shapeCast S1x256 (Host.reduceAdd (shapeCast S1x1x256 (Host.reduceAdd x zero reducesTo_S1x4096x256_S1x256_d1 h_S_) shapeCasts_S1x256_S1x1x256)
    zero reducesTo_S1x1x256_S256_d0_1 h_S_) shapeCasts_S256_S1x256

theorem rowSumK_at (x : FVec Ideal S1x4096x256 .f32) (i : Fin 1) (d : Fin 256) : rowSumK x (ix2 i d) = ∑ r : Fin 4096, x (ix3 0 r d) := by
  have keep (x : FVec Ideal S1x1x256 .f32) (init : EReal) : Ideal.hostReduceAdd reducesTo_S1x1x256_S256_d0_1 x init (ix1 d) = init + x (ix3 0 0 d) := by
    unfold Ideal.hostReduceAdd
    refine congrArg (init + ·) ?_
    refine (Finset.sum_eq_single_of_mem (ix3 0 0 d) ?_ ?_).trans rfl
    · refine Finset.mem_filter.mpr ⟨Finset.mem_univ _, ?_⟩
      funext a
      fin_cases a
      exact Fin.ext (Shape.ReducesTo.drop_apply_val reducesTo_S1x1x256_S256_d0_1 _ 0)
    · intro i hi ne
      have e := (Finset.mem_filter.mp hi).2
      have v : ((reducesTo_S1x1x256_S256_d0_1.drop i) 0).val = (i 2).val := Shape.ReducesTo.drop_apply_val reducesTo_S1x1x256_S256_d0_1 i 0
      rw [e] at v
      refine absurd ?_ ne
      idx_vars i
      have : d = i2 := Fin.ext v
      rw [this, Subsingleton.elim i0 0, Subsingleton.elim i1 0]
  pointwise [rowSumK, keep]

theorem meanK_real (x : ℕ → ℕ → ℕ → ℝ) : meanK (real3 x) = real3 (fun b r _ => meanSq 256 (x b r)) := by
  funext y
  idx_vars y
  pointwise [meanK, real3_ix3]
  simp only [← EReal.coe_mul]
  rw [sum_real fun k => x 0 y1.val k * x 0 y1.val k, k_width_word, eps_word, div_real (by norm_num), ← EReal.coe_add]
  rfl

theorem rootK_real (x : ℕ → ℕ → ℕ → ℝ) : rootK (real3 x) = real3 (fun b r _ => rms 256 (x b r)) := by
  funext y
  idx_vars y
  pointwise [rootK, meanK_real, real3_ix3]
  exact rsqrt_meanSq 256 (x 0 y1.val)

theorem scaleK_real (g : ℕ → ℝ) : scaleK (real1 g) = real3 (fun _ _ d => g d) := by
  funext y
  idx_vars y
  pointwise [scaleK, real1_ix1, real3_ix3]

theorem dMeanK_real (x u : ℕ → ℕ → ℕ → ℝ) : dMeanK (real3 x) (real3 u)
    = real3 (fun b r _ => (∑ k ∈ Finset.range 256, x b r k * u b r k) * (-(1 / 2) * (rms 256 (x b r) / meanSq 256 (x b r))) / ((256 : ℕ) : ℝ)) := by
  funext y
  idx_vars y
  have h0 : y0 = 0 := Subsingleton.elim _ _
  subst h0
  pointwise [dMeanK, meanK_real, unitSum_at, real3_ix3]
  rw [rsqrt_meanSq, k_width_word, neg_half_word]
  simp only [← EReal.coe_mul]
  rw [sum_real fun k => x 0 y1.val k * u 0 y1.val k, div_real (meanSq_pos _ _).ne']
  simp only [← EReal.coe_mul]
  rw [div_real (by norm_num)]
  simp

theorem dNormK_real (x u : ℕ → ℕ → ℕ → ℝ) : dNormK (real3 x) (real3 u) = real3 (fun b r d => rmsGrad 256 (x b r) (u b r) d) := by
  unfold dNormK
  rw [dMeanK_real, rootK_real]
  funext y
  idx_vars y
  pointwise [real3_ix3]
  simp only [← EReal.coe_mul, ← EReal.coe_add]
  rw [← rmsGrad_eq]

theorem rowSumK_real (x : ℕ → ℕ → ℕ → ℝ) : rowSumK (real3 x) = real2 (fun _ d => ∑ r ∈ Finset.range 4096, x 0 r d) := by
  funext y
  idx_vars y
  rw [rowSumK_at]
  pointwise [real2_ix2, real3_ix3]
  exact sum_real fun r => x 0 r y1.val

/-- The columns of the query's latent. -/
def colsQ (z : FVec Ideal S1x4096x1952 .f32) : FVec Ideal S1x4096x384 .f32 :=
  extractStridedSlice S1x4096x384 ![0, 0, 0] z slices_S1x4096x1952_S1x4096x384_0_0_0

/-- The columns of the keys' latent. -/
def colsK (z : FVec Ideal S1x4096x1952 .f32) : FVec Ideal S1x4096x256 .f32 :=
  extractStridedSlice S1x4096x256 ![0, 0, 384] z slices_S1x4096x1952_S1x4096x256_0_0_384

theorem colsQ_real (z : ℕ → ℕ → ℕ → ℝ) : colsQ (real3 z) = real3 z := by
  funext y
  idx_vars y
  pointwise [colsQ, real3_ix3]

theorem colsK_real (z : ℕ → ℕ → ℕ → ℝ) : colsK (real3 z) = real3 (fun b r k => z b r (384 + k)) := by
  funext y
  idx_vars y
  pointwise [colsK, real3_ix3]

/-- The rotated columns of the query's cotangent. -/
def turnQ (q : FVec Ideal S1x4096x8x96 .f32) : FVec Ideal S1x4096x8x32 .f32 :=
  extractStridedSlice S1x4096x8x32 ![0, 0, 0, 64] q slices_S1x4096x8x96_S1x4096x8x32_0_0_0_64

/-- A table along the eight groups. -/
def alongHeads (t : FVec Ideal S1x4096x16 .f32) : FVec Ideal S1x4096x8x16 .f32 :=
  broadcastInDim S1x4096x8x16 ![0, 1, 2, 3] bcast_S1x4096x1x16_S1x4096x8x16_0_1_2_3 (broadcastInDim S1x4096x1x16 ![0, 1, 3] bcast_S1x4096x16_S1x4096x1x16_0_1_3 t)

/-- The halves of the rotated columns. -/
def firstHalf (t : FVec Ideal S1x4096x8x32 .f32) : FVec Ideal S1x4096x8x16 .f32 :=
  extractStridedSlice S1x4096x8x16 ![0, 0, 0, 0] t slices_S1x4096x8x32_S1x4096x8x16_0_0_0_0
@[inherit_doc firstHalf] def lastHalf (t : FVec Ideal S1x4096x8x32 .f32) : FVec Ideal S1x4096x8x16 .f32 :=
  extractStridedSlice S1x4096x8x16 ![0, 0, 0, 16] t slices_S1x4096x8x32_S1x4096x8x16_0_0_0_16

/-- The cotangent of the query before its rotation. -/
def beforeQ (co si : FVec Ideal S1x4096x16 .f32) (q : FVec Ideal S1x4096x8x96 .f32) : FVec Ideal S1x4096x768 .f32 :=
  shapeCast S1x4096x768 (addf (pad S1x4096x8x96 ![0, 0, 0, 64] ![0, 0, 0, 0] ![0, 0, 0, 0]
    (concatenate S1x4096x8x32 3 [⟨S1x4096x8x16, addf (mulf (lastHalf (turnQ q)) (alongHeads si)) (mulf (firstHalf (turnQ q)) (alongHeads co))⟩,
      ⟨S1x4096x8x16, addf (mulf (lastHalf (turnQ q)) (alongHeads co)) (mulf (Host.negf (firstHalf (turnQ q))) (alongHeads si))⟩]
      concatenates_S1x4096x8x16_S1x4096x8x16_S1x4096x8x32_d3) zero pads_S1x4096x8x32_S1x4096x8x96_000_000_000_6400 h_S_)
    (pad S1x4096x8x96 ![0, 0, 0, 0] ![0, 0, 0, 32] ![0, 0, 0, 0] (extractStridedSlice S1x4096x8x64 ![0, 0, 0, 0] q slices_S1x4096x8x96_S1x4096x8x64_0_0_0_0)
      zero pads_S1x4096x8x64_S1x4096x8x96_000_000_000_0320 h_S_)) shapeCasts_S1x4096x8x96_S1x4096x768

theorem beforeQ_real (co si : ℕ → ℕ → ℕ → ℝ) (q : ℕ → ℕ → ℕ → ℕ → ℝ) :
    beforeQ (real3 co) (real3 si) (real4 q) = real3 (fun b r j => backQ (co b r) (si b r) (q b r) j) := by
  funext y
  idx_vars y
  have h := y2.isLt
  pointwise [beforeQ, alongHeads, firstHalf, lastHalf, turnQ, real3_ix3, real4_ix4]
  unfold backQ unturnHead unturn
  by_cases h1 : y2.val % 96 < 64
  · rw [dif_neg (by omega), dif_pos ⟨by omega, h1⟩, if_pos h1, zero_add]
  · rw [dif_pos ⟨by omega, by omega, by omega⟩, dif_neg (show ¬ (y2.val / 96 < 8 ∧ y2.val % 96 < 64) by omega), if_neg h1, add_zero]
    by_cases h2 : y2.val % 96 - 64 < 16
    · rw [dif_pos h2, if_pos h2]
      simp only [← EReal.coe_mul, ← EReal.coe_add]
    · rw [dif_neg h2, if_neg h2, show 16 + (y2.val % 96 - 64 - 16) = y2.val % 96 - 64 by omega]
      simp only [← EReal.coe_neg, ← EReal.coe_mul, ← EReal.coe_add]

/-- The cotangent of the keys' unrotated columns and of the values. -/
def beforeK (k : FVec Ideal S1x4096x8x96 .f32) (v : FVec Ideal S1x4096x8x64 .f32) : FVec Ideal S1x4096x1024 .f32 :=
  shapeCast S1x4096x1024 (addf (pad S1x4096x8x128 ![0, 0, 0, 64] ![0, 0, 0, 0] ![0, 0, 0, 0] v zero pads_S1x4096x8x64_S1x4096x8x128_000_000_000_6400 h_S_)
    (pad S1x4096x8x128 ![0, 0, 0, 0] ![0, 0, 0, 64] ![0, 0, 0, 0] (extractStridedSlice S1x4096x8x64 ![0, 0, 0, 0] k slices_S1x4096x8x96_S1x4096x8x64_0_0_0_0)
      zero pads_S1x4096x8x64_S1x4096x8x128_000_000_000_0640 h_S_)) shapeCasts_S1x4096x8x128_S1x4096x1024

theorem beforeK_real (k v : ℕ → ℕ → ℕ → ℕ → ℝ) : beforeK (real4 k) (real4 v) = real3 (fun b r j => backK (k b r) (v b r) j) := by
  funext y
  idx_vars y
  have h := y2.isLt
  pointwise [beforeK, real3_ix3, real4_ix4]
  unfold backK
  by_cases h1 : y2.val % 128 < 64
  · rw [dif_neg (by omega), dif_pos ⟨by omega, h1⟩, if_pos h1, zero_add]
  · rw [dif_pos ⟨by omega, by omega, by omega⟩, dif_neg (by omega), if_neg h1, add_zero]

/-- The sum over the heads of the keys' rotated columns. -/
def sharedKeys (k : FVec Ideal S1x4096x8x96 .f32) : FVec Ideal S1x4096x32 .f32 :=
  broadcastInDim S1x4096x32 ![1, 2] bcast_S4096x32_S1x4096x32_1_2 (Host.reduceAdd (broadcastInDim S1x4096x1x32 ![1, 3] bcast_S4096x32_S1x4096x1x32_1_3
    (Host.reduceAdd (extractStridedSlice S1x4096x8x32 ![0, 0, 0, 64] k slices_S1x4096x8x96_S1x4096x8x32_0_0_0_64) zero reducesTo_S1x4096x8x32_S4096x32_d0_2 h_S_))
    zero reducesTo_S1x4096x1x32_S4096x32_d0_2 h_S_)

/-- The sum over the heads. -/
theorem headSum_at (x : FVec Ideal S1x4096x8x32 .f32) (init : EReal) (r : Fin 4096) (p : Fin 32) :
    Ideal.hostReduceAdd reducesTo_S1x4096x8x32_S4096x32_d0_2 x init (ix2 r p) = init + ∑ h : Fin 8, x (ix4 0 r h p) := by
  have back (i : S1x4096x8x32.Idx) (hi : i ∈ Finset.univ.filter fun i => reducesTo_S1x4096x8x32_S4096x32_d0_2.drop i = ix2 r p) : ix4 0 r (i 2) p = i := by
    have e := (Finset.mem_filter.mp hi).2
    have v : ((reducesTo_S1x4096x8x32_S4096x32_d0_2.drop i) 0).val = (i 1).val := Shape.ReducesTo.drop_apply_val reducesTo_S1x4096x8x32_S4096x32_d0_2 i 0
    have w : ((reducesTo_S1x4096x8x32_S4096x32_d0_2.drop i) 1).val = (i 3).val := Shape.ReducesTo.drop_apply_val reducesTo_S1x4096x8x32_S4096x32_d0_2 i 1
    rw [e] at v w
    idx_vars i
    have a : r = i1 := Fin.ext v
    have b : p = i3 := Fin.ext w
    rw [a, b, Subsingleton.elim i0 0]
    rfl
  unfold Ideal.hostReduceAdd
  refine congrArg (init + ·) ?_
  refine Finset.sum_nbij' (fun i => i 2) (fun h => ix4 0 r h p) (fun _ _ => Finset.mem_univ _) ?_ back (fun _ _ => rfl) fun i hi => (congrArg x (back i hi)).symm
  intro h _
  refine Finset.mem_filter.mpr ⟨Finset.mem_univ _, ?_⟩
  funext a
  fin_cases a
  · exact Fin.ext (Shape.ReducesTo.drop_apply_val reducesTo_S1x4096x8x32_S4096x32_d0_2 _ 0)
  · exact Fin.ext (Shape.ReducesTo.drop_apply_val reducesTo_S1x4096x8x32_S4096x32_d0_2 _ 1)

/-- The sum over two axes of length one. -/
theorem oneSum_at (x : FVec Ideal S1x4096x1x32 .f32) (init : EReal) (r : Fin 4096) (p : Fin 32) :
    Ideal.hostReduceAdd reducesTo_S1x4096x1x32_S4096x32_d0_2 x init (ix2 r p) = init + x (ix4 0 r 0 p) := by
  unfold Ideal.hostReduceAdd
  refine congrArg (init + ·) ?_
  refine (Finset.sum_eq_single_of_mem (ix4 0 r 0 p) ?_ ?_).trans rfl
  · refine Finset.mem_filter.mpr ⟨Finset.mem_univ _, ?_⟩
    funext a
    fin_cases a
    · exact Fin.ext (Shape.ReducesTo.drop_apply_val reducesTo_S1x4096x1x32_S4096x32_d0_2 _ 0)
    · exact Fin.ext (Shape.ReducesTo.drop_apply_val reducesTo_S1x4096x1x32_S4096x32_d0_2 _ 1)
  · intro i hi ne
    have e := (Finset.mem_filter.mp hi).2
    have v : ((reducesTo_S1x4096x1x32_S4096x32_d0_2.drop i) 0).val = (i 1).val := Shape.ReducesTo.drop_apply_val reducesTo_S1x4096x1x32_S4096x32_d0_2 i 0
    have w : ((reducesTo_S1x4096x1x32_S4096x32_d0_2.drop i) 1).val = (i 3).val := Shape.ReducesTo.drop_apply_val reducesTo_S1x4096x1x32_S4096x32_d0_2 i 1
    rw [e] at v w
    refine absurd ?_ ne
    idx_vars i
    have a : r = i1 := Fin.ext v
    have b : p = i3 := Fin.ext w
    rw [a, b, Subsingleton.elim i0 0, Subsingleton.elim i2 0]

theorem sharedKeys_real (k : ℕ → ℕ → ℕ → ℕ → ℝ) : sharedKeys (real4 k) = real3 (fun b r p => shared (k b r) p) := by
  funext y
  idx_vars y
  pointwise [sharedKeys, oneSum_at, headSum_at, real3_ix3, real4_ix4]
  exact sum_real fun h => k 0 y1.val h (64 + y2.val)

/-- The cotangent of the rotated key columns before the rotation. -/
def beforeShared (co si : FVec Ideal S1x4096x16 .f32) (t : FVec Ideal S1x4096x32 .f32) : FVec Ideal S1x4096x32 .f32 :=
  concatenate S1x4096x32 2
    [⟨S1x4096x16, addf (mulf (extractStridedSlice S1x4096x16 ![0, 0, 16] t slices_S1x4096x32_S1x4096x16_0_0_16) si)
        (mulf (extractStridedSlice S1x4096x16 ![0, 0, 0] t slices_S1x4096x32_S1x4096x16_0_0_0) co)⟩,
      ⟨S1x4096x16, addf (mulf (extractStridedSlice S1x4096x16 ![0, 0, 16] t slices_S1x4096x32_S1x4096x16_0_0_16) co)
        (mulf (Host.negf (extractStridedSlice S1x4096x16 ![0, 0, 0] t slices_S1x4096x32_S1x4096x16_0_0_0)) si)⟩]
    concatenates_S1x4096x16_S1x4096x16_S1x4096x32_d2

theorem beforeShared_real (co si t : ℕ → ℕ → ℕ → ℝ) : beforeShared (real3 co) (real3 si) (real3 t) = real3 (fun b r p => unturn (co b r) (si b r) (t b r) p) := by
  funext y
  idx_vars y
  pointwise [beforeShared, real3_ix3]
  unfold unturn
  by_cases h : y2.val < 16
  · rw [dif_pos h, if_pos h]
    simp only [← EReal.coe_mul, ← EReal.coe_add]
  · rw [dif_neg h, if_neg h, show 16 + (y2.val - 16) = y2.val by omega]
    simp only [← EReal.coe_neg, ← EReal.coe_mul, ← EReal.coe_add]

/-- The products of the cotangents with the projections. -/
def throughQ (u : FVec Ideal S1x4096x768 .f32) (w : FVec Ideal S384x768 .f32) : FVec Ideal S1x4096x384 .f32 :=
  Host.dotGeneral dot_S1x4096x768_S384x768_S1x4096x384_2_1_01_0_n_n none u w
@[inherit_doc throughQ] def throughK (u : FVec Ideal S1x4096x1024 .f32) (w : FVec Ideal S256x1024 .f32) : FVec Ideal S1x4096x256 .f32 :=
  Host.dotGeneral dot_S1x4096x1024_S256x1024_S1x4096x256_2_1_01_0_n_n none u w

theorem throughQ_real (u : ℕ → ℕ → ℕ → ℝ) (w : ℕ → ℕ → ℝ) : throughQ (real3 u) (real2 w) = real3 (fun b r d => ∑ j ∈ Finset.range 768, u b r j * w d j) := by
  funext y
  idx_vars y
  pointwise [throughQ, real2_ix2, real3_ix3]
  simp only [← EReal.coe_mul]
  exact sum_real fun j => u 0 y1.val j * w y2.val j

theorem throughK_real (u : ℕ → ℕ → ℕ → ℝ) (w : ℕ → ℕ → ℝ) : throughK (real3 u) (real2 w) = real3 (fun b r d => ∑ j ∈ Finset.range 1024, u b r j * w d j) := by
  funext y
  idx_vars y
  pointwise [throughK, real2_ix2, real3_ix3]
  simp only [← EReal.coe_mul]
  exact sum_real fun j => u 0 y1.val j * w y2.val j

/-- The cotangents times the normed and scaled rows, summed over the rows. -/
def weightQ (u : FVec Ideal S1x4096x768 .f32) (x : FVec Ideal S1x4096x384 .f32) : FVec Ideal S384x1024 .bf16 :=
  truncf .bf16 (shapeCast S384x1024 (pad S384x8x128 ![0, 0, 0] ![0, 0, 32] ![0, 0, 0] (shapeCast S384x8x96 (transpose S384x768 [1, 0]
    (Host.dotGeneral dot_S1x4096x768_S1x4096x384_S768x384_01_01_2_2_n_n none u x) transposes_S768x384_S384x768_1_0) shapeCasts_S384x768_S384x8x96)
    (sitofp .f32 (constantI S_ 32 0#32)) pads_S384x8x96_S384x8x128_000_000_0320 h_S_) shapeCasts_S384x8x128_S384x1024) bitsLt_bf16_f32

theorem int_zero : (FloatOps.sitofp FTy.f32 0#32 : Ideal .f32) = ((0 : ℝ) : EReal) := by
  show ((((0#32 : BitVec 32).toInt : ℤ) : ℝ) : EReal) = _
  simp

theorem weightQ_real (u x : ℕ → ℕ → ℕ → ℝ) : weightQ (real3 u) (real3 x)
    = real2 (fun d j => padQ (fun k => ∑ r ∈ Finset.range 4096, u 0 r k * x 0 r d) j) := by
  have e : Host.dotGeneral dot_S1x4096x768_S1x4096x384_S768x384_01_01_2_2_n_n none (real3 u : FVec Ideal S1x4096x768 .f32) (real3 x : FVec Ideal S1x4096x384 .f32)
      = (real2 fun j d => ∑ r ∈ Finset.range 4096, u 0 r j * x 0 r d : FVec Ideal S768x384 .f32) := by
    funext y
    idx_vars y
    pointwise [real2_ix2, real3_ix3]
    simp only [← EReal.coe_mul]
    rw [Fin.sum_univ_one]
    exact sum_real fun r => u 0 r y0.val * x 0 r y1.val
  unfold weightQ
  rw [e]
  funext y
  idx_vars y
  have h := y1.isLt
  pointwise [real2_ix2]
  unfold padQ
  by_cases h1 : y1.val % 128 < 96
  · rw [dif_pos ⟨by omega, h1⟩, if_pos h1, Nat.mul_comm]
  · rw [dif_neg (by omega), if_neg h1, int_zero]

/-- The keys' and values' columns in the kernel's order. -/
def weightK (u : FVec Ideal S1x4096x1024 .f32) (x : FVec Ideal S1x4096x256 .f32) : FVec Ideal S256x1536 .bf16 :=
  truncf .bf16 (concatenate S256x1536 1
    [⟨S256x1024, shapeCast S256x1024 (pad S256x8x128 ![0, 0, 0] ![0, 0, 64] ![0, 0, 0] (extractStridedSlice S256x8x64 ![0, 0, 0]
        (shapeCast S256x8x128 (transpose S256x1024 [1, 0] (Host.dotGeneral dot_S1x4096x1024_S1x4096x256_S1024x256_01_01_2_2_n_n none u x)
          transposes_S1024x256_S256x1024_1_0) shapeCasts_S256x1024_S256x8x128) slices_S256x8x128_S256x8x64_0_0_0) (sitofp .f32 (constantI S_ 32 0#32))
        pads_S256x8x64_S256x8x128_000_000_0640 h_S_) shapeCasts_S256x8x128_S256x1024⟩,
      ⟨S256x512, shapeCast S256x512 (extractStridedSlice S256x8x64 ![0, 0, 64]
        (shapeCast S256x8x128 (transpose S256x1024 [1, 0] (Host.dotGeneral dot_S1x4096x1024_S1x4096x256_S1024x256_01_01_2_2_n_n none u x)
          transposes_S1024x256_S256x1024_1_0) shapeCasts_S256x1024_S256x8x128) slices_S256x8x128_S256x8x64_0_0_64) shapeCasts_S256x8x64_S256x512⟩]
    concatenates_S256x1024_S256x512_S256x1536_d1) bitsLt_bf16_f32

theorem weightK_real (u x : ℕ → ℕ → ℕ → ℝ) : weightK (real3 u) (real3 x)
    = real2 (fun d j => padK (fun k => ∑ r ∈ Finset.range 4096, u 0 r k * x 0 r d) j) := by
  have e : Host.dotGeneral dot_S1x4096x1024_S1x4096x256_S1024x256_01_01_2_2_n_n none (real3 u : FVec Ideal S1x4096x1024 .f32) (real3 x : FVec Ideal S1x4096x256 .f32)
      = (real2 fun j d => ∑ r ∈ Finset.range 4096, u 0 r j * x 0 r d : FVec Ideal S1024x256 .f32) := by
    funext y
    idx_vars y
    pointwise [real2_ix2, real3_ix3]
    simp only [← EReal.coe_mul]
    rw [Fin.sum_univ_one]
    exact sum_real fun r => u 0 r y0.val * x 0 r y1.val
  unfold weightK
  rw [e]
  funext y
  idx_vars y
  have h := y1.isLt
  pointwise [real2_ix2]
  unfold padK
  by_cases h0 : y1.val < 1024
  · rw [dif_pos h0, if_pos h0]
    by_cases h1 : y1.val % 128 < 64
    · rw [dif_pos ⟨by omega, h1⟩, if_pos h1, show y1.val / 128 * 128 + y1.val % 128 = y1.val by omega]
    · rw [dif_neg (by omega), if_neg h1, int_zero]
  · rw [dif_neg h0, if_neg h0, Nat.mul_comm 128]

/-- The gradient of the columns: the rotated keys', the keys' latent's and the query's latent's, with zeros between and behind them. -/
def columns (t : FVec Ideal S1x4096x32 .f32) (b : FVec Ideal S1x4096x256 .f32) (a : FVec Ideal S1x4096x384 .f32) : FVec Ideal S4096x768 .bf16 :=
  truncf .bf16 (concatenate S4096x768 1 [⟨S4096x672, shapeCast S4096x672 (extractStridedSlice S1x4096x672 ![0, 0, 0] (addf (addf
      (pad S1x4096x1952 ![0, 0, 640] ![0, 0, 1280] ![0, 0, 0] t zero pads_S1x4096x32_S1x4096x1952_000_000_64012800 h_S_)
      (pad S1x4096x1952 ![0, 0, 384] ![0, 0, 1312] ![0, 0, 0] b zero pads_S1x4096x256_S1x4096x1952_000_000_38413120 h_S_))
      (pad S1x4096x1952 ![0, 0, 0] ![0, 0, 1568] ![0, 0, 0] a zero pads_S1x4096x384_S1x4096x1952_000_000_015680 h_S_))
      slices_S1x4096x1952_S1x4096x672_0_0_0) shapeCasts_S1x4096x672_S4096x672⟩,
    ⟨S4096x96, broadcastInDim S4096x96 ![] bcast_S_S4096x96 zero⟩] concatenates_S4096x672_S4096x96_S4096x768_d1) bitsLt_bf16_f32

theorem columns_real (t b a : ℕ → ℕ → ℕ → ℝ) : columns (real3 t) (real3 b) (real3 a)
    = real2 (fun r d => if d < 384 then a 0 r d else if d < 640 then b 0 r (d - 384) else if d - 640 < 32 then t 0 r (d - 640) else 0) := by
  funext y
  idx_vars y
  have h := y1.isLt
  pointwise [columns, real2_ix2, real3_ix3]
  by_cases h0 : y1.val < 384
  · rw [dif_pos (by omega), dif_neg (show ¬ (640 ≤ y1.val ∧ y1.val - 640 < 32) by omega), dif_neg (show ¬ (384 ≤ y1.val ∧ y1.val - 384 < 256) by omega), dif_pos h0, if_pos h0]
    simp
  · by_cases h1 : y1.val < 640
    · rw [dif_pos (by omega), dif_neg (show ¬ (640 ≤ y1.val ∧ y1.val - 640 < 32) by omega), dif_pos ⟨by omega, by omega⟩, dif_neg h0, if_neg h0, if_pos h1]
      simp
    · by_cases h2 : y1.val < 672
      · rw [dif_pos h2, dif_pos (show 640 ≤ y1.val ∧ y1.val - 640 < 32 from ⟨by omega, by omega⟩), dif_neg (show ¬ (384 ≤ y1.val ∧ y1.val - 384 < 256) by omega),
          dif_neg h0, if_neg h0, if_neg h1, if_pos (by omega)]
        simp
      · rw [dif_neg h2, if_neg h0, if_neg h1, if_neg (by omega)]
        rfl

section Results

variable (z : FVec Ideal S1x4096x1952 .f32) (co si : FVec Ideal S1x4096x16 .f32) (gq : FVec Ideal S384 .f32) (wq : FVec Ideal S384x768 .f32)
  (gk : FVec Ideal S256 .f32) (wk : FVec Ideal S256x1024 .f32) (q k : FVec Ideal S1x4096x8x96 .f32) (v : FVec Ideal S1x4096x8x64 .f32)

/-- The reference's arrays: the gradients of the columns, of the two projections and of the two scales. -/
def resultZ : FVec Ideal S4096x768 .bf16 :=
  columns (beforeShared co si (sharedKeys k)) (dNormK (colsK z) (mulf (throughK (beforeK k v) wk) (scaleK gk)))
    (dNormQ (colsQ z) (mulf (throughQ (beforeQ co si q) wq) (scaleQ gq)))
@[inherit_doc resultZ] def resultWq : FVec Ideal S384x1024 .bf16 :=
  weightQ (beforeQ co si q) (mulf (mulf (colsQ z) (rootQ (colsQ z))) (scaleQ gq))
@[inherit_doc resultZ] def resultWk : FVec Ideal S256x1536 .bf16 :=
  weightK (beforeK k v) (mulf (mulf (colsK z) (rootK (colsK z))) (scaleK gk))
@[inherit_doc resultZ] def resultGq : FVec Ideal S1x384 .f32 :=
  rowSumQ (mulf (mulf (colsQ z) (rootQ (colsQ z))) (throughQ (beforeQ co si q) wq))
@[inherit_doc resultZ] def resultGk : FVec Ideal S1x256 .f32 :=
  rowSumK (mulf (mulf (colsK z) (rootK (colsK z))) (throughK (beforeK k v) wk))

end Results

theorem mul_real3 {a b c : ℕ} {φ : FTy} (f g : ℕ → ℕ → ℕ → ℝ) : mulf (real3 f : FVec Ideal ⟨3, ![a, b, c]⟩ φ) (real3 g) = real3 (fun i j k => f i j k * g i j k) := by
  funext y
  exact (EReal.coe_mul _ _).symm

section Reals

variable (z co si : ℕ → ℕ → ℕ → ℝ) (gq gk : ℕ → ℝ) (wq wk : ℕ → ℕ → ℝ) (q k v : ℕ → ℕ → ℕ → ℕ → ℝ)

theorem resultZ_real : resultZ (real3 z) (real3 co) (real3 si) (real1 gq) (real2 wq) (real1 gk) (real2 wk) (real4 q) (real4 k) (real4 v)
    = real2 (fun r d => if d < 384 then rmsGrad 384 (z 0 r) (fun e => (∑ j ∈ Finset.range 768, backQ (co 0 r) (si 0 r) (q 0 r) j * wq e j) * gq e) d
        else if d < 640 then rmsGrad 256 (fun e => z 0 r (384 + e)) (fun e => (∑ j ∈ Finset.range 1024, backK (k 0 r) (v 0 r) j * wk e j) * gk e) (d - 384)
        else if d - 640 < 32 then unturn (co 0 r) (si 0 r) (shared (k 0 r)) (d - 640) else 0) := by
  unfold resultZ
  rw [sharedKeys_real, beforeShared_real, beforeK_real, throughK_real, scaleK_real, mul_real3, colsK_real, dNormK_real,
    beforeQ_real, throughQ_real, scaleQ_real, mul_real3, colsQ_real, dNormQ_real, columns_real]

theorem resultWq_real : resultWq (real3 z) (real3 co) (real3 si) (real1 gq) (real4 q)
    = real2 (fun d j => padQ (fun e => ∑ r ∈ Finset.range 4096, backQ (co 0 r) (si 0 r) (q 0 r) e * (z 0 r d * rms 384 (z 0 r) * gq d)) j) := by
  unfold resultWq
  rw [beforeQ_real, colsQ_real, rootQ_real, scaleQ_real, mul_real3, mul_real3, weightQ_real]

theorem resultWk_real : resultWk (real3 z) (real1 gk) (real4 k) (real4 v)
    = real2 (fun d j => padK (fun e => ∑ r ∈ Finset.range 4096, backK (k 0 r) (v 0 r) e * (z 0 r (384 + d) * rms 256 (fun e => z 0 r (384 + e)) * gk d)) j) := by
  unfold resultWk
  rw [beforeK_real, colsK_real, rootK_real, scaleK_real, mul_real3, mul_real3, weightK_real]

theorem resultGq_real : resultGq (real3 z) (real3 co) (real3 si) (real2 wq) (real4 q)
    = real2 (fun _ d => ∑ r ∈ Finset.range 4096, z 0 r d * rms 384 (z 0 r) * ∑ j ∈ Finset.range 768, backQ (co 0 r) (si 0 r) (q 0 r) j * wq d j) := by
  unfold resultGq
  rw [beforeQ_real, throughQ_real, colsQ_real, rootQ_real, mul_real3, mul_real3, rowSumQ_real]

theorem resultGk_real : resultGk (real3 z) (real2 wk) (real4 k) (real4 v)
    = real2 (fun _ d => ∑ r ∈ Finset.range 4096, z 0 r (384 + d) * rms 256 (fun e => z 0 r (384 + e)) * ∑ j ∈ Finset.range 1024, backK (k 0 r) (v 0 r) j * wk d j) := by
  unfold resultGk
  rw [beforeK_real, throughK_real, colsK_real, rootK_real, mul_real3, mul_real3, rowSumK_real]

end Reals

/-- The reference's five arrays, by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v178) = resultZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v179) = resultWq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7))
      ∧ r.2.mem ((c.tc : Thread nD τ).loc main_v180) = resultWk (m ((c.tc : Thread nD τ).loc main_arg0)) (m ((c.tc : Thread nD τ).loc main_arg5)) (m ((c.tc : Thread nD τ).loc main_arg8)) (m ((c.tc : Thread nD τ).loc main_arg9))
      ∧ r.2.mem ((c.tc : Thread nD τ).loc main_v181) = resultGq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7))
      ∧ r.2.mem ((c.tc : Thread nD τ).loc main_v182) = resultGk (m ((c.tc : Thread nD τ).loc main_arg0)) (m ((c.tc : Thread nD τ).loc main_arg6)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Value.run m ρ

end Cert.Mla
end
-- ==== Proof.MlaFinite.lean ====
/- The precondition of the latent projections' backward call. -/
module

public import proofs.«01_k».proof.Proof.Gen.Pre_mla_finite
public import proofs.«01_k».proof.Proof.Scalars
public import Idealize.ShloMosaic.Lib.ReduceAll
public import proofs.«01_k».proof.Proof.Reals

@[expose] public section

noncomputable section

namespace Cert.Mla

open Idealize.ShloMosaic Cert.Reals Cert.Scalars Cert.Pre_mla_finite

variable [Facts] (z : FVec Ideal S1x4096x1952 .f32) (co si : FVec Ideal S1x4096x16 .f32) (gq : FVec Ideal S384 .f32) (wq : FVec Ideal S384x768 .f32)
  (gk : FVec Ideal S256 .f32) (wk : FVec Ideal S256x1024 .f32) (q k : FVec Ideal S1x4096x8x96 .f32) (v : FVec Ideal S1x4096x8x64 .f32)

/-- The precondition says that no entry of the arrays is infinite. -/
theorem finite_of_pre (h : fn z co si gq wq gk wk q k v = fun _ => 1#1) :
    (∀ y, z y ≠ ⊥ ∧ z y ≠ ⊤) ∧ (∀ y, co y ≠ ⊥ ∧ co y ≠ ⊤) ∧ (∀ y, si y ≠ ⊥ ∧ si y ≠ ⊤) ∧ (∀ y, gq y ≠ ⊥ ∧ gq y ≠ ⊤) ∧ (∀ y, wq y ≠ ⊥ ∧ wq y ≠ ⊤)
      ∧ (∀ y, gk y ≠ ⊥ ∧ gk y ≠ ⊤) ∧ (∀ y, wk y ≠ ⊥ ∧ wk y ≠ ⊤) ∧ (∀ y, q y ≠ ⊥ ∧ q y ≠ ⊤) ∧ (∀ y, k y ≠ ⊥ ∧ k y ≠ ⊤) ∧ (∀ y, v y ≠ ⊥ ∧ v y ≠ ⊤) := by
  have e := congrFun h (fun i => i.elim0)
  dsimp only [fn, fn_part1, fn_part2] at e
  obtain ⟨e, ev⟩ := IntOp.andi_eq_one.1 e
  obtain ⟨e, ek⟩ := IntOp.andi_eq_one.1 e
  obtain ⟨e, eq⟩ := IntOp.andi_eq_one.1 e
  obtain ⟨e, ewk⟩ := IntOp.andi_eq_one.1 e
  obtain ⟨e, egk⟩ := IntOp.andi_eq_one.1 e
  obtain ⟨e, ewq⟩ := IntOp.andi_eq_one.1 e
  obtain ⟨e, egq⟩ := IntOp.andi_eq_one.1 e
  obtain ⟨e, es⟩ := IntOp.andi_eq_one.1 e
  obtain ⟨ez, ec⟩ := IntOp.andi_eq_one.1 e
  have f {x : EReal} (h : Ideal.cmp .olt (max x (-x)) (Ideal.ofBits .f32 0x7F800000#32) = 1#1) : x ≠ ⊥ ∧ x ≠ ⊤ :=
    finite_of_lt ((congrArg (Ideal.cmp .olt (max x (-x))) top_word).symm.trans h)
  exact ⟨fun y => f (Host.reduce_andi_all _ _ _ _ _ ez y), fun y => f (Host.reduce_andi_all _ _ _ _ _ ec y), fun y => f (Host.reduce_andi_all _ _ _ _ _ es y),
    fun y => f (Host.reduce_andi_all _ _ _ _ _ egq y), fun y => f (Host.reduce_andi_all _ _ _ _ _ ewq y), fun y => f (Host.reduce_andi_all _ _ _ _ _ egk y),
    fun y => f (Host.reduce_andi_all _ _ _ _ _ ewk y), fun y => f (Host.reduce_andi_all _ _ _ _ _ eq y), fun y => f (Host.reduce_andi_all _ _ _ _ _ ek y),
    fun y => f (Host.reduce_andi_all _ _ _ _ _ ev y)⟩

end Cert.Mla
end
-- ==== Proof.MlaValue.lean ====
/- The backward call of the latent projections computes their gradients. -/
module

public import proofs.«01_k».proof.Proof.Gen.MlaKernelIdeal.Value
public import proofs.«01_k».proof.Proof.MlaStore
public import proofs.«01_k».proof.Proof.MlaLay
public import proofs.«01_k».proof.Proof.MlaSums
public import proofs.«01_k».proof.Proof.MlaFinite
public import proofs.«01_k».proof.Defs
public import Idealize.ShloMosaic.Lib.Claim

@[expose] public section

set_option maxRecDepth 16384

noncomputable section

namespace Cert.Mla

open Idealize.ShloMosaic Idealize.ShloMosaic.TcCoe Idealize.SL.Sem Idealize.ShloMosaic.StableHlo
open Cert.MlaKernelIdeal Cert.MlaKernelIdeal.Gen Cert.Reals Cert.Scalars Cert.Tables

section Kernel

variable (m : (ℓ : Loc nD τ sig) → Buf (Elt Ideal) ℓ) (c : Dev nD)

/-- The arrays the kernel is given. -/
theorem operands : V m c main_v4 = layA (m ((c.tc : Thread nD τ).loc main_arg1)) ∧ V m c main_v9 = layB (m ((c.tc : Thread nD τ).loc main_arg2))
    ∧ V m c main_v13 = layC (m ((c.tc : Thread nD τ).loc main_arg2)) ∧ V m c main_v22 = layZ (m ((c.tc : Thread nD τ).loc main_arg0))
    ∧ V m c main_v48 = layUq (m ((c.tc : Thread nD τ).loc main_arg4)) ∧ V m c main_v49 = layUkv (m ((c.tc : Thread nD τ).loc main_arg6))
    ∧ V m c main_v38 = layHeads (m ((c.tc : Thread nD τ).loc main_arg7)) ∧ V m c main_v42 = layHeads (m ((c.tc : Thread nD τ).loc main_arg8))
    ∧ V m c main_v45 = layV (m ((c.tc : Thread nD τ).loc main_arg9))
    ∧ V m c main_v46 = shapeCast S1x384 (m ((c.tc : Thread nD τ).loc main_arg3)) shapeCasts_S384_S1x384
    ∧ V m c main_v47 = shapeCast S1x256 (m ((c.tc : Thread nD τ).loc main_arg5)) shapeCasts_S256_S1x256 := by
  simp only [V, hostOps0, hostOps0_1, hostOps0_2, hostOps0_3, hostOps0_4, hostOps0_5, hostOps0_6, hostOps0_7, hostOps0_8, List.flatten_cons, List.flatten_nil, List.append_nil, List.cons_append,
    List.nil_append, TRef.binary, TRef.nullary, TRef.ternary, TRef.unary, TRef.toBuf, TRef.ofBuf, cast_eq]
  after_results_simp
  refine ⟨rfl, rfl, rfl, rfl, rfl, rfl, rfl, rfl, rfl, rfl, rfl⟩

theorem block_index : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![t.val, 0] ∧ win0_6.index t = ![t.val, 0] ∧ win0_7.index t = ![0, 0]
    ∧ win0_8.index t = ![0, 0] ∧ win0_9.index t = ![0, 0] ∧ win0_10.index t = ![0, 0] ∧ win0_11.index t = ![t.val, 0] :=
  (by decide +kernel : ∀ t : Fin grid0.N, _)

/-- The rows of a block. -/
def rowsOf (t : ℕ) (f : ℕ → ℕ → ℝ) (r j : ℕ) : ℝ := f (1024 * t + r) j

variable {co si : ℕ → ℕ → ℝ} {z : ℕ → ℕ → ℝ} {q k v : ℕ → ℕ → ℕ → ℝ} {gq gk : ℕ → ℝ} {wq wk : ℕ → ℕ → ℝ}

/-- The kernel's arrays, as functions. -/
structure Holds (co si z : ℕ → ℕ → ℝ) (gq : ℕ → ℝ) (wq : ℕ → ℕ → ℝ) (gk : ℕ → ℝ) (wk : ℕ → ℕ → ℝ) (q k v : ℕ → ℕ → ℕ → ℝ) : Prop where
  q : V m c main_v38 = real2 (φ := .bf16) fun r j => lanes (q r) j
  k : V m c main_v42 = real2 (φ := .bf16) fun r j => lanes (k r) j
  v : V m c main_v45 = real2 (φ := .bf16) fun r j => v r (j / 64) (j % 64)
  z : V m c main_v22 = real2 (φ := .bf16) fun r j => ordered (z r) j
  ta : V m c main_v4 = real2 (φ := .f32) fun r j => tableA (co r) j
  tb : V m c main_v9 = real2 (φ := .f32) fun r j => tableB (si r) j
  tc : V m c main_v13 = real2 (φ := .f32) fun r j => tableC (si r) j
  gq : V m c main_v46 = real2 (φ := .f32) fun _ d => gq d
  gk : V m c main_v47 = real2 (φ := .f32) fun _ d => gk d
  wq : V m c main_v48 = real2 (φ := .bf16) fun j d => padQ (wq d) j
  wk : V m c main_v49 = real2 (φ := .bf16) fun j d => padK (wk d) j

variable {m c} (H : Holds m c co si z gq wq gk wk q k v)
include H

theorem block_q (t : Fin cfg0.N) : (iblk m c 0 t : FVec Ideal S1024x1024 .bf16) = (real2 (rowsOf t.val (fun r => lanes (q r))) : FVec Ideal S1024x1024 .bf16) := by
  unfold iblk
  rw [show V m c (Pipeline.arrRef spec0 0) = _ from H.q]
  funext y
  show ((((fun r => lanes (q r)) : ℕ → ℕ → ℝ) (win0_0.index t 0 * 1024 + 1 * (y 0).val) (win0_0.index t 1 * 1024 + 1 * (y 1).val) : ℝ) : EReal) = _
  rw [(block_index t).1]
  show ((((fun r => lanes (q r)) : ℕ → ℕ → ℝ) (t.val * 1024 + 1 * (y 0).val) (0 * 1024 + 1 * (y 1).val) : ℝ) : EReal) = ((((fun r => lanes (q r)) : ℕ → ℕ → ℝ) (1024 * t.val + (y 0).val) (y 1).val : ℝ) : EReal)
  rw [Nat.mul_comm t.val, one_mul, one_mul, zero_mul, zero_add]

theorem block_k (t : Fin cfg0.N) : (iblk m c 1 t : FVec Ideal S1024x1024 .bf16) = (real2 (rowsOf t.val (fun r => lanes (k r))) : FVec Ideal S1024x1024 .bf16) := by
  unfold iblk
  rw [show V m c (Pipeline.arrRef spec0 1) = _ from H.k]
  funext y
  show ((((fun r => lanes (k r)) : ℕ → ℕ → ℝ) (win0_1.index t 0 * 1024 + 1 * (y 0).val) (win0_1.index t 1 * 1024 + 1 * (y 1).val) : ℝ) : EReal) = _
  rw [(block_index t).2.1]
  show ((((fun r => lanes (k r)) : ℕ → ℕ → ℝ) (t.val * 1024 + 1 * (y 0).val) (0 * 1024 + 1 * (y 1).val) : ℝ) : EReal) = ((((fun r => lanes (k r)) : ℕ → ℕ → ℝ) (1024 * t.val + (y 0).val) (y 1).val : ℝ) : EReal)
  rw [Nat.mul_comm t.val, one_mul, one_mul, zero_mul, zero_add]

theorem block_v (t : Fin cfg0.N) : (iblk m c 2 t : FVec Ideal S1024x512 .bf16) = (real2 (rowsOf t.val (fun r j => v r (j / 64) (j % 64))) : FVec Ideal S1024x512 .bf16) := by
  unfold iblk
  rw [show V m c (Pipeline.arrRef spec0 2) = _ from H.v]
  funext y
  show ((((fun r j => v r (j / 64) (j % 64)) : ℕ → ℕ → ℝ) (win0_2.index t 0 * 1024 + 1 * (y 0).val) (win0_2.index t 1 * 512 + 1 * (y 1).val) : ℝ) : EReal) = _
  rw [(block_index t).2.2.1]
  show ((((fun r j => v r (j / 64) (j % 64)) : ℕ → ℕ → ℝ) (t.val * 1024 + 1 * (y 0).val) (0 * 512 + 1 * (y 1).val) : ℝ) : EReal) = ((((fun r j => v r (j / 64) (j % 64)) : ℕ → ℕ → ℝ) (1024 * t.val + (y 0).val) (y 1).val : ℝ) : EReal)
  rw [Nat.mul_comm t.val, one_mul, one_mul, zero_mul, zero_add]

theorem block_a (t : Fin cfg0.N) : (iblk m c 4 t : FVec Ideal S1024x128 .f32) = (real2 (rowsOf t.val (fun r => tableA (co r))) : FVec Ideal S1024x128 .f32) := by
  unfold iblk
  rw [show V m c (Pipeline.arrRef spec0 4) = _ from H.ta]
  funext y
  show ((((fun r => tableA (co r)) : ℕ → ℕ → ℝ) (win0_4.index t 0 * 1024 + 1 * (y 0).val) (win0_4.index t 1 * 128 + 1 * (y 1).val) : ℝ) : EReal) = _
  rw [(block_index t).2.2.2.2.1]
  show ((((fun r => tableA (co r)) : ℕ → ℕ → ℝ) (t.val * 1024 + 1 * (y 0).val) (0 * 128 + 1 * (y 1).val) : ℝ) : EReal) = ((((fun r => tableA (co r)) : ℕ → ℕ → ℝ) (1024 * t.val + (y 0).val) (y 1).val : ℝ) : EReal)
  rw [Nat.mul_comm t.val, one_mul, one_mul, zero_mul, zero_add]

theorem block_b (t : Fin cfg0.N) : (iblk m c 5 t : FVec Ideal S1024x128 .f32) = (real2 (rowsOf t.val (fun r => tableB (si r))) : FVec Ideal S1024x128 .f32) := by
  unfold iblk
  rw [show V m c (Pipeline.arrRef spec0 5) = _ from H.tb]
  funext y
  show ((((fun r => tableB (si r)) : ℕ → ℕ → ℝ) (win0_5.index t 0 * 1024 + 1 * (y 0).val) (win0_5.index t 1 * 128 + 1 * (y 1).val) : ℝ) : EReal) = _
  rw [(block_index t).2.2.2.2.2.1]
  show ((((fun r => tableB (si r)) : ℕ → ℕ → ℝ) (t.val * 1024 + 1 * (y 0).val) (0 * 128 + 1 * (y 1).val) : ℝ) : EReal) = ((((fun r => tableB (si r)) : ℕ → ℕ → ℝ) (1024 * t.val + (y 0).val) (y 1).val : ℝ) : EReal)
  rw [Nat.mul_comm t.val, one_mul, one_mul, zero_mul, zero_add]

theorem block_c (t : Fin cfg0.N) : (iblk m c 6 t : FVec Ideal S1024x128 .f32) = (real2 (rowsOf t.val (fun r => tableC (si r))) : FVec Ideal S1024x128 .f32) := by
  unfold iblk
  rw [show V m c (Pipeline.arrRef spec0 6) = _ from H.tc]
  funext y
  show ((((fun r => tableC (si r)) : ℕ → ℕ → ℝ) (win0_6.index t 0 * 1024 + 1 * (y 0).val) (win0_6.index t 1 * 128 + 1 * (y 1).val) : ℝ) : EReal) = _
  rw [(block_index t).2.2.2.2.2.2.1]
  show ((((fun r => tableC (si r)) : ℕ → ℕ → ℝ) (t.val * 1024 + 1 * (y 0).val) (0 * 128 + 1 * (y 1).val) : ℝ) : EReal) = ((((fun r => tableC (si r)) : ℕ → ℕ → ℝ) (1024 * t.val + (y 0).val) (y 1).val : ℝ) : EReal)
  rw [Nat.mul_comm t.val, one_mul, one_mul, zero_mul, zero_add]

theorem block_gq (t : Fin cfg0.N) : (iblk m c 7 t : FVec Ideal S1x384 .f32) = (real2 (fun _ d => gq d) : FVec Ideal S1x384 .f32) := by
  unfold iblk
  rw [show V m c (Pipeline.arrRef spec0 7) = _ from H.gq]
  funext y
  show ((((fun _ d => gq d) : ℕ → ℕ → ℝ) (win0_7.index t 0 * 1 + 1 * (y 0).val) (win0_7.index t 1 * 384 + 1 * (y 1).val) : ℝ) : EReal) = _
  rw [(block_index t).2.2.2.2.2.2.2.1]
  show ((((fun _ d => gq d) : ℕ → ℕ → ℝ) (0 * 1 + 1 * (y 0).val) (0 * 384 + 1 * (y 1).val) : ℝ) : EReal) = ((((fun _ d => gq d) : ℕ → ℕ → ℝ) (y 0).val (y 1).val : ℝ) : EReal)
  simp only [one_mul, zero_mul, zero_add]

theorem block_gk (t : Fin cfg0.N) : (iblk m c 8 t : FVec Ideal S1x256 .f32) = (real2 (fun _ d => gk d) : FVec Ideal S1x256 .f32) := by
  unfold iblk
  rw [show V m c (Pipeline.arrRef spec0 8) = _ from H.gk]
  funext y
  show ((((fun _ d => gk d) : ℕ → ℕ → ℝ) (win0_8.index t 0 * 1 + 1 * (y 0).val) (win0_8.index t 1 * 256 + 1 * (y 1).val) : ℝ) : EReal) = _
  rw [(block_index t).2.2.2.2.2.2.2.2.1]
  show ((((fun _ d => gk d) : ℕ → ℕ → ℝ) (0 * 1 + 1 * (y 0).val) (0 * 256 + 1 * (y 1).val) : ℝ) : EReal) = ((((fun _ d => gk d) : ℕ → ℕ → ℝ) (y 0).val (y 1).val : ℝ) : EReal)
  simp only [one_mul, zero_mul, zero_add]

theorem block_wq (t : Fin cfg0.N) : (iblk m c 9 t : FVec Ideal S1024x384 .bf16) = (real2 (fun j d => padQ (wq d) j) : FVec Ideal S1024x384 .bf16) := by
  unfold iblk
  rw [show V m c (Pipeline.arrRef spec0 9) = _ from H.wq]
  funext y
  show ((((fun j d => padQ (wq d) j) : ℕ → ℕ → ℝ) (win0_9.index t 0 * 1024 + 1 * (y 0).val) (win0_9.index t 1 * 384 + 1 * (y 1).val) : ℝ) : EReal) = _
  rw [(block_index t).2.2.2.2.2.2.2.2.2.1]
  show ((((fun j d => padQ (wq d) j) : ℕ → ℕ → ℝ) (0 * 1024 + 1 * (y 0).val) (0 * 384 + 1 * (y 1).val) : ℝ) : EReal) = ((((fun j d => padQ (wq d) j) : ℕ → ℕ → ℝ) (y 0).val (y 1).val : ℝ) : EReal)
  simp only [one_mul, zero_mul, zero_add]

theorem block_wk (t : Fin cfg0.N) : (iblk m c 10 t : FVec Ideal S1536x256 .bf16) = (real2 (fun j d => padK (wk d) j) : FVec Ideal S1536x256 .bf16) := by
  unfold iblk
  rw [show V m c (Pipeline.arrRef spec0 10) = _ from H.wk]
  funext y
  show ((((fun j d => padK (wk d) j) : ℕ → ℕ → ℝ) (win0_10.index t 0 * 1536 + 1 * (y 0).val) (win0_10.index t 1 * 256 + 1 * (y 1).val) : ℝ) : EReal) = _
  rw [(block_index t).2.2.2.2.2.2.2.2.2.2.1]
  show ((((fun j d => padK (wk d) j) : ℕ → ℕ → ℝ) (0 * 1536 + 1 * (y 0).val) (0 * 256 + 1 * (y 1).val) : ℝ) : EReal) = ((((fun j d => padK (wk d) j) : ℕ → ℕ → ℝ) (y 0).val (y 1).val : ℝ) : EReal)
  simp only [one_mul, zero_mul, zero_add]

theorem block_z (t : Fin cfg0.N) : (X0_3 m c t : FVec Ideal S1024x768 .bf16) = (real2 (rowsOf t.val fun r => latent (z r)) : FVec Ideal S1024x768 .bf16) := by
  unfold X0_3 Pipeline.Window.fill
  funext y
  rw [dif_pos (moved0_3 t y)]
  unfold iblk
  rw [show V m c (Pipeline.arrRef spec0 3) = _ from H.z]
  show ((ordered (z (win0_3.index t 0 * 1024 + 1 * (y 0).val)) (win0_3.index t 1 * 768 + 1 * (y 1).val) : ℝ) : EReal) = _
  rw [(block_index t).2.2.2.1]
  show ((ordered (z (t.val * 1024 + 1 * (y 0).val)) (1 * 768 + 1 * (y 1).val) : ℝ) : EReal) = ((ordered (z (1024 * t.val + (y 0).val)) (768 + (y 1).val) : ℝ) : EReal)
  rw [Nat.mul_comm t.val, one_mul, one_mul, one_mul]

omit H in
/-- What the kernel stores of a block's query cotangent: the cotangent before the rotation. -/
theorem turned_at (t r j : ℕ) : turnLanes (rowsOf t (fun r => tableA (co r)) r) (rowsOf t (fun r => tableB (si r)) r) (rowsOf t (fun r => tableC (si r)) r)
    (fun l => rowsOf t (fun r => lanes (q r)) r (128 * (j / 128) + l)) (j % 128) = rowsOf t (fun r => padQ (backQ (co r) (si r) (q r))) r j :=
  turned_lanes (co (1024 * t + r)) (si (1024 * t + r)) (q (1024 * t + r)) j

omit H in
/-- What it stores of the cotangents of keys and values. -/
theorem kept_at (t r j : ℕ) (hj : j < 1536) : (if j < 1024 then if j % 128 < 64 then rowsOf t (fun r => lanes (k r)) r j else 0
      else rowsOf t (fun r j => v r (j / 64) (j % 64)) r (j - 1024)) = rowsOf t (fun r => padK (backK (k r) (v r))) r j :=
  kept_lanes (k (1024 * t + r)) (v (1024 * t + r)) j hj

omit H in
/-- The cotangent of the columns the groups of keys share. -/
theorem shared_at (t r l : ℕ) (hl : l < 128) : (if l < 32 then turnLanes (rowsOf t (fun r => tableA (co r)) r) (rowsOf t (fun r => tableB (si r)) r)
      (rowsOf t (fun r => tableC (si r)) r) (fun l => if 64 ≤ l then ∑ h ∈ Finset.range 8, rowsOf t (fun r => lanes (k r)) r (128 * h + l) else 0) (64 + l) else 0)
    = rowsOf t (fun r l => if l < 32 then unturn (co r) (si r) (shared (k r)) l else 0) r l :=
  shared_lanes (co (1024 * t + r)) (si (1024 * t + r)) (k (1024 * t + r)) l hl

/-- What row `r` adds to the scales' gradients and to the projections' gradients. -/
def gainQ (co si z : ℕ → ℕ → ℝ) (q : ℕ → ℕ → ℕ → ℝ) (wq : ℕ → ℕ → ℝ) (r d : ℕ) : ℝ :=
  (∑ j ∈ Finset.range 1024, padQ (backQ (co r) (si r) (q r)) j * padQ (wq d) j) * unitQ z r d
@[inherit_doc gainQ] def gainK (z : ℕ → ℕ → ℝ) (k v : ℕ → ℕ → ℕ → ℝ) (wk : ℕ → ℕ → ℝ) (r d : ℕ) : ℝ :=
  (∑ j ∈ Finset.range 1536, padK (backK (k r) (v r)) j * padK (wk d) j) * unitK z r d
@[inherit_doc gainQ] def projQ (co si z : ℕ → ℕ → ℝ) (q : ℕ → ℕ → ℕ → ℝ) (gq : ℕ → ℝ) (d r j : ℕ) : ℝ :=
  unitQ z r d * gq d * padQ (backQ (co r) (si r) (q r)) j
@[inherit_doc gainQ] def projK (z : ℕ → ℕ → ℝ) (k v : ℕ → ℕ → ℕ → ℝ) (gk : ℕ → ℝ) (d r j : ℕ) : ℝ :=
  unitK z r d * gk d * padK (backK (k r) (v r)) j

set_option maxHeartbeats 2000000 in
/-- The sums the kernel carries from block to block. -/
theorem sums_at (n : ℕ) (h : n < cfg0.N) :
    (outsAt0 m c n h).2.2.2.1 = (real2 fun _ d => upTo (1024 * (n + 1)) (gainQ co si z q wq · d) : FVec Ideal S1x384 .f32)
    ∧ (outsAt0 m c n h).2.2.2.2.1 = (real2 fun _ d => upTo (1024 * (n + 1)) (gainK z k v wk · d) : FVec Ideal S1x256 .f32)
    ∧ (outsAt0 m c n h).2.2.2.2.2.1 = (real2 fun d j => upTo (1024 * (n + 1)) (projQ co si z q gq d · j) : FVec Ideal S384x1024 .f32)
    ∧ (outsAt0 m c n h).2.2.2.2.2.2 = (real2 fun d j => upTo (1024 * (n + 1)) (projK z k v gk d · j) : FVec Ideal S256x1536 .f32) := by
  have hn : n < 4 := lt_of_lt_of_eq h N_0
  have first (f : ℕ → ℝ) : ∑ r ∈ Finset.range 1024, f (1024 * 0 + r) = upTo (1024 * (0 + 1)) f := by
    rw [← upTo_step]; unfold upTo; simp
  induction n with
  | zero =>
    have e := outsAt0_A m c ⟨0, h⟩ rfl (by show ¬ 1 ≤ 0; decide) rfl (by show ¬ 1 ≤ 0; decide) rfl (by show ¬ 1 ≤ 0; decide) rfl (by show ¬ 1 ≤ 0; decide) (by show ¬ 0 % 4 = 3; decide)
    rw [show outsAt0 m c 0 h = _ from e]
    refine ⟨?_, ?_, ?_, ?_⟩
    · frame_out
      rw [block_a H, block_b H, block_c H, block_q H, kept_a, kept_b, kept_c, queries_stored _ _ _ _ (turned_at _), block_z H, block_wq H, unit_q]
      refine (gain_q _ _ _).trans ?_
      exact congrArg (fun f => (real2 f : FVec Ideal S1x384 .f32)) (funext fun _ => funext fun d => first (gainQ co si z q wq · d))
    · frame_out
      rw [block_k H, block_v H, keys_stored _ _ (kept_at _), block_z H, block_wk H, unit_k]
      refine (gain_k _ _ _).trans ?_
      exact congrArg (fun f => (real2 f : FVec Ideal S1x256 .f32)) (funext fun _ => funext fun d => first (gainK z k v wk · d))
    · frame_out
      rw [block_a H, block_b H, block_c H, block_q H, kept_a, kept_b, kept_c, queries_stored _ _ _ _ (turned_at _), block_z H, block_gq H, scaled_q]
      refine (weight_q_first _ _).trans ?_
      exact congrArg (fun f => (real2 f : FVec Ideal S384x1024 .f32)) (funext fun d => funext fun j => first (projQ co si z q gq d · j))
    · frame_out
      rw [block_k H, block_v H, keys_stored _ _ (kept_at _), block_z H, block_gk H, scaled_k]
      refine (weight_k_first _ _).trans ?_
      exact congrArg (fun f => (real2 f : FVec Ideal S256x1536 .f32)) (funext fun d => funext fun j => first (projK z k v gk d · j))
  | succ n ih =>
    obtain ⟨i1, i2, i3, i4⟩ := ih (by omega) (by omega)
    have eC (h3 : (n + 1) % 4 = 3) := outsAt0_C m c ⟨n + 1, h⟩ (by show ¬ (n + 1) % 4 = 0; omega) (by show 1 ≤ n + 1; omega) (by show ¬ (n + 1) % 4 = 0; omega) (by show 1 ≤ n + 1; omega) (by show ¬ (n + 1) % 4 = 0; omega) (by show 1 ≤ n + 1; omega) (by show ¬ (n + 1) % 4 = 0; omega) (by show 1 ≤ n + 1; omega) h3
    have eB (h3 : ¬ (n + 1) % 4 = 3) := outsAt0_B m c ⟨n + 1, h⟩ (by show ¬ (n + 1) % 4 = 0; omega) (by show 1 ≤ n + 1; omega) (by show ¬ (n + 1) % 4 = 0; omega) (by show 1 ≤ n + 1; omega) (by show ¬ (n + 1) % 4 = 0; omega) (by show 1 ≤ n + 1; omega) (by show ¬ (n + 1) % 4 = 0; omega) (by show 1 ≤ n + 1; omega) h3
    have next (f : ℕ → ℝ) : upTo (1024 * (n + 1)) f + ∑ r ∈ Finset.range 1024, f (1024 * (n + 1) + r) = upTo (1024 * (n + 1 + 1)) f := upTo_step (n + 1) f
    refine ⟨?_, ?_, ?_, ?_⟩
    · by_cases h3 : (n + 1) % 4 = 3 <;> [rw [show outsAt0 m c (n + 1) h = _ from eC h3]; rw [show outsAt0 m c (n + 1) h = _ from eB h3]] <;> frame_out <;>
        rw [block_a H, block_b H, block_c H, block_q H, kept_a, kept_b, kept_c, queries_stored _ _ _ _ (turned_at _), block_z H, block_wq H, unit_q, gain_q, show (outsAt0 m c (n + 1 - 1) _).2.2.2.1 = _ from i1] <;>
        exact (gain_q_step _ _).trans (congrArg (fun f => (real2 f : FVec Ideal S1x384 .f32)) (funext fun _ => funext fun d => next (gainQ co si z q wq · d)))
    · by_cases h3 : (n + 1) % 4 = 3 <;> [rw [show outsAt0 m c (n + 1) h = _ from eC h3]; rw [show outsAt0 m c (n + 1) h = _ from eB h3]] <;> frame_out <;>
        rw [block_k H, block_v H, keys_stored _ _ (kept_at _), block_z H, block_wk H, unit_k, gain_k, show (outsAt0 m c (n + 1 - 1) _).2.2.2.2.1 = _ from i2] <;>
        exact (gain_k_step _ _).trans (congrArg (fun f => (real2 f : FVec Ideal S1x256 .f32)) (funext fun _ => funext fun d => next (gainK z k v wk · d)))
    · by_cases h3 : (n + 1) % 4 = 3 <;> [rw [show outsAt0 m c (n + 1) h = _ from eC h3]; rw [show outsAt0 m c (n + 1) h = _ from eB h3]] <;> frame_out <;>
        rw [block_a H, block_b H, block_c H, block_q H, kept_a, kept_b, kept_c, queries_stored _ _ _ _ (turned_at _), block_z H, block_gq H, scaled_q, show (outsAt0 m c (n + 1 - 1) _).2.2.2.2.2.1 = _ from i3] <;>
        exact (congrArg (k0_pay61 _ _) (Memref.IsWhole.read_unread _ _)).trans ((weight_q_step _ _ _).trans
          (congrArg (fun f => (real2 f : FVec Ideal S384x1024 .f32)) (funext fun d => funext fun j => next (projQ co si z q gq d · j))))
    · by_cases h3 : (n + 1) % 4 = 3 <;> [rw [show outsAt0 m c (n + 1) h = _ from eC h3]; rw [show outsAt0 m c (n + 1) h = _ from eB h3]] <;> frame_out <;>
        rw [block_k H, block_v H, keys_stored _ _ (kept_at _), block_z H, block_gk H, scaled_k, show (outsAt0 m c (n + 1 - 1) _).2.2.2.2.2.2 = _ from i4] <;>
        exact (congrArg (k0_pay64 _ _) (Memref.IsWhole.read_unread _ _)).trans ((weight_k_step _ _ _).trans
          (congrArg (fun f => (real2 f : FVec Ideal S256x1536 .f32)) (funext fun d => funext fun j => next (projK z k v gk d · j))))

/-- The projections' gradients, written at the last point. -/
theorem proj_last (h : 3 < cfg0.N) : (outsAt0 m c 3 h).2.1 = (real2 fun d j => upTo 4096 (projQ co si z q gq d · j) : FVec Ideal S384x1024 .bf16)
    ∧ (outsAt0 m c 3 h).2.2.1 = (real2 fun d j => upTo 4096 (projK z k v gk d · j) : FVec Ideal S256x1536 .bf16) := by
  obtain ⟨-, -, i3, i4⟩ := sums_at H 2 (by omega)
  have e := outsAt0_C m c ⟨3, h⟩ (by show ¬ 3 % 4 = 0; decide) (by show 1 ≤ 3; decide) (by show ¬ 3 % 4 = 0; decide) (by show 1 ≤ 3; decide) (by show ¬ 3 % 4 = 0; decide) (by show 1 ≤ 3; decide) (by show ¬ 3 % 4 = 0; decide) (by show 1 ≤ 3; decide) rfl
  rw [show outsAt0 m c 3 h = _ from e]
  constructor
  · frame_out
    rw [block_a H, block_b H, block_c H, block_q H, kept_a, kept_b, kept_c, queries_stored _ _ _ _ (turned_at _), block_z H, block_gq H, scaled_q, show (outsAt0 m c (3 - 1) _).2.2.2.2.2.1 = _ from i3]
    exact (congrArg k0_pay1 ((congrArg (k0_pay61 _ _) (Memref.IsWhole.read_unread _ _)).trans ((weight_q_step _ _ _).trans
      (congrArg (fun f => (real2 f : FVec Ideal S384x1024 .f32)) (funext fun d => funext fun j => upTo_step 3 (projQ co si z q gq d · j)))))).trans (kept_wq _)
  · frame_out
    rw [block_k H, block_v H, keys_stored _ _ (kept_at _), block_z H, block_gk H, scaled_k, show (outsAt0 m c (3 - 1) _).2.2.2.2.2.2 = _ from i4]
    exact (congrArg k0_pay2 ((congrArg (k0_pay64 _ _) (Memref.IsWhole.read_unread _ _)).trans ((weight_k_step _ _ _).trans
      (congrArg (fun f => (real2 f : FVec Ideal S256x1536 .f32)) (funext fun d => funext fun j => upTo_step 3 (projK z k v gk d · j)))))).trans (kept_wk _)

/-- The gradient of the columns of the first projection, row by row. -/
def colGrad (co si z : ℕ → ℕ → ℝ) (gq : ℕ → ℝ) (wq : ℕ → ℕ → ℝ) (gk : ℕ → ℝ) (wk : ℕ → ℕ → ℝ) (q k v : ℕ → ℕ → ℕ → ℝ) (r d : ℕ) : ℝ :=
  if d < 384 then rmsGrad 384 (latent (z r)) (fun e => (∑ j ∈ Finset.range 1024, padQ (backQ (co r) (si r) (q r)) j * padQ (wq e) j) * gq e) d
  else if d < 640 then rmsGrad 256 (fun e => latent (z r) (384 + e)) (fun e => (∑ j ∈ Finset.range 1536, padK (backK (k r) (v r)) j * padK (wk e) j) * gk e) (d - 384)
  else if d - 640 < 32 then unturn (co r) (si r) (shared (k r)) (d - 640) else 0

omit H in
/-- The reference's arrays are the kernel's functions. -/
theorem colGrad_eq (r d : ℕ) : colGrad co si z gq wq gk wk q k v r d
    = if d < 384 then rmsGrad 384 (z r) (fun e => (∑ j ∈ Finset.range 768, backQ (co r) (si r) (q r) j * wq e j) * gq e) d
      else if d < 640 then rmsGrad 256 (fun e => z r (384 + e)) (fun e => (∑ j ∈ Finset.range 1024, backK (k r) (v r) j * wk e j) * gk e) (d - 384)
      else if d - 640 < 32 then unturn (co r) (si r) (shared (k r)) (d - 640) else 0 := by
  unfold colGrad
  simp only [dot_padQ, dot_padK]
  split_ifs with h0 h1
  · exact rmsGrad_congr 384 (latent_q _) (fun _ _ => rfl) h0
  · exact rmsGrad_congr 256 (latent_k _) (fun _ _ => rfl) (by omega)
  · rfl
  · rfl

omit H in
@[inherit_doc colGrad_eq] theorem projQ_eq {d : ℕ} (h : d < 384) (j : ℕ) : upTo 4096 (projQ co si z q gq d · j)
    = padQ (fun e => ∑ r ∈ Finset.range 4096, backQ (co r) (si r) (q r) e * (z r d * rms 384 (z r) * gq d)) j := by
  refine (proj_padQ 4096 (fun r => unitQ z r d * gq d) (fun r => backQ (co r) (si r) (q r)) j).trans ?_
  simp only [unitQ_eq z _ h]

omit H in
@[inherit_doc colGrad_eq] theorem projK_eq {d : ℕ} (h : d < 256) (j : ℕ) : upTo 4096 (projK z k v gk d · j)
    = padK (fun e => ∑ r ∈ Finset.range 4096, backK (k r) (v r) e * (z r (384 + d) * rms 256 (fun e => z r (384 + e)) * gk d)) j := by
  refine (proj_padK 4096 (fun r => unitK z r d * gk d) (fun r => backK (k r) (v r)) j).trans ?_
  simp only [unitK_eq z _ h]

omit H in
@[inherit_doc colGrad_eq] theorem gainQ_eq {d : ℕ} (h : d < 384) : upTo 4096 (gainQ co si z q wq · d)
    = ∑ r ∈ Finset.range 4096, z r d * rms 384 (z r) * ∑ j ∈ Finset.range 768, backQ (co r) (si r) (q r) j * wq d j := by
  unfold upTo gainQ
  simp only [dot_padQ, unitQ_eq z _ h]
  exact Finset.sum_congr rfl fun r _ => mul_comm _ _

omit H in
@[inherit_doc colGrad_eq] theorem gainK_eq {d : ℕ} (h : d < 256) : upTo 4096 (gainK z k v wk · d)
    = ∑ r ∈ Finset.range 4096, z r (384 + d) * rms 256 (fun e => z r (384 + e)) * ∑ j ∈ Finset.range 1024, backK (k r) (v r) j * wk d j := by
  unfold upTo gainK
  simp only [dot_padK, unitK_eq z _ h]
  exact Finset.sum_congr rfl fun r _ => mul_comm _ _

theorem columns_at (t : Fin cfg0.N) : (outsAt0 m c t.val t.isLt).1 = (real2 (rowsOf t.val (colGrad co si z gq wq gk wk q k v)) : FVec Ideal S1024x768 .bf16) := by
  have ht : t.val < 4 := lt_of_lt_of_eq t.isLt N_0
  by_cases h : t.val % 4 = 0
  · rw [outsAt0_A m c t h (by omega) h (by omega) h (by omega) h (by omega) (by omega)]
    frame_out
    rw [block_a H, block_b H, block_c H, block_q H, kept_a, kept_b, kept_c, queries_stored _ _ _ _ (turned_at _), block_k H, block_v H, keys_stored _ _ (kept_at _), shared_stored _ _ _ _ (shared_at _), block_z H, block_gq H, block_gk H, block_wq H, block_wk H, kept_gq, kept_gk, root_q, root_k, unit_q, unit_k]
    exact columns_block _ _ _ _ _ _ _ _
  · by_cases h3 : t.val % 4 = 3 <;> [rw [outsAt0_C m c t h (by omega) h (by omega) h (by omega) h (by omega) h3]; rw [outsAt0_B m c t h (by omega) h (by omega) h (by omega) h (by omega) h3]] <;>
      frame_out <;>
      rw [block_a H, block_b H, block_c H, block_q H, kept_a, kept_b, kept_c, queries_stored _ _ _ _ (turned_at _), block_k H, block_v H, keys_stored _ _ (kept_at _), shared_stored _ _ _ _ (shared_at _), block_z H, block_gq H, block_gk H, block_wq H, block_wk H, kept_gq, kept_gk, root_q, root_k, unit_q, unit_k] <;>
      exact columns_block _ _ _ _ _ _ _ _

/-- The kernel's arrays. -/
theorem columns_final : (dats m 0 c).arrAt 11 (cfgs 0).N = (real2 (φ := .bf16) (colGrad co si z gq wq gk wk q k v) : FVec Ideal S4096x768 .bf16) := by
  refine (dats m 0 c).arrAt_eq_of_covers 11 _ (by decide +kernel) fun t _ y => ?_
  blk_simp
  rw [after0_11, columns_at H]
  show _ = ((colGrad co si z gq wq gk wk q k v (win0_11.index t 0 * 1024 + 1 * (y 0).val) (win0_11.index t 1 * 768 + 1 * (y 1).val) : ℝ) : EReal)
  rw [(block_index t).2.2.2.2.2.2.2.2.2.2.2]
  show ((colGrad co si z gq wq gk wk q k v (1024 * t.val + (y 0).val) (y 1).val : ℝ) : EReal)
    = ((colGrad co si z gq wq gk wk q k v (t.val * 1024 + 1 * (y 0).val) (0 * 768 + 1 * (y 1).val) : ℝ) : EReal)
  rw [Nat.mul_comm t.val, one_mul, one_mul, zero_mul, zero_add]

@[inherit_doc columns_final] theorem projQ_final : (dats m 0 c).arrAt 12 (cfgs 0).N = (real2 (φ := .bf16) fun d j => upTo 4096 (projQ co si z q gq d · j) : FVec Ideal S384x1024 .bf16) := by
  refine (dats m 0 c).arrAt_eq_of_after_last 12 t0_3 (by decide +kernel) _ fun j => ?_
  blk_simp
  rw [after0_12]
  exact congrFun (proj_last H _).1 j

@[inherit_doc columns_final] theorem projK_final : (dats m 0 c).arrAt 13 (cfgs 0).N = (real2 (φ := .bf16) fun d j => upTo 4096 (projK z k v gk d · j) : FVec Ideal S256x1536 .bf16) := by
  refine (dats m 0 c).arrAt_eq_of_after_last 13 t0_3 (by decide +kernel) _ fun j => ?_
  blk_simp
  rw [after0_13]
  exact congrFun (proj_last H _).2 j

@[inherit_doc columns_final] theorem gainQ_final : (dats m 0 c).arrAt 14 (cfgs 0).N = (real2 (φ := .f32) fun _ d => upTo 4096 (gainQ co si z q wq · d) : FVec Ideal S1x384 .f32) := by
  refine (dats m 0 c).arrAt_eq_of_after_last 14 t0_3 (by decide +kernel) _ fun j => ?_
  blk_simp
  rw [after0_14]
  exact congrFun (sums_at H 3 _).1 j

@[inherit_doc columns_final] theorem gainK_final : (dats m 0 c).arrAt 15 (cfgs 0).N = (real2 (φ := .f32) fun _ d => upTo 4096 (gainK z k v wk · d) : FVec Ideal S1x256 .f32) := by
  refine (dats m 0 c).arrAt_eq_of_after_last 15 t0_3 (by decide +kernel) _ fun j => ?_
  blk_simp
  rw [after0_15]
  exact congrFun (sums_at H 3 _).2.1 j

omit H in
/-- Real arguments and what the kernel is given of them. -/
theorem holds_of {z co si : ℕ → ℕ → ℕ → ℝ} {q k v : ℕ → ℕ → ℕ → ℕ → ℝ}
    (hz : m ((c.tc : Thread nD τ).loc main_arg0) = real3 (φ := .f32) z) (hc : m ((c.tc : Thread nD τ).loc main_arg1) = real3 (φ := .f32) co)
    (hs : m ((c.tc : Thread nD τ).loc main_arg2) = real3 (φ := .f32) si) (hgq : m ((c.tc : Thread nD τ).loc main_arg3) = real1 (φ := .f32) gq)
    (hwq : m ((c.tc : Thread nD τ).loc main_arg4) = real2 (φ := .f32) wq) (hgk : m ((c.tc : Thread nD τ).loc main_arg5) = real1 (φ := .f32) gk)
    (hwk : m ((c.tc : Thread nD τ).loc main_arg6) = real2 (φ := .f32) wk) (hq : m ((c.tc : Thread nD τ).loc main_arg7) = real4 (φ := .f32) q)
    (hk : m ((c.tc : Thread nD τ).loc main_arg8) = real4 (φ := .f32) k) (hv : m ((c.tc : Thread nD τ).loc main_arg9) = real4 (φ := .f32) v) :
    Holds m c (co 0) (si 0) (z 0) gq wq gk wk (q 0) (k 0) (v 0) := by
  obtain ⟨e4, e9, e13, e22, e48, e49, e38, e42, e45, e46, e47⟩ := operands m c
  refine ⟨?_, ?_, ?_, ?_, ?_, ?_, ?_, ?_, ?_, ?_, ?_⟩
  · rw [e38, hq]; exact layHeads_real q
  · rw [e42, hk]; exact layHeads_real k
  · rw [e45, hv]; exact layV_real v
  · rw [e22, hz]; exact layZ_real z
  · rw [e4, hc]; exact layA_real co
  · rw [e9, hs]; exact layB_real si
  · rw [e13, hs]; exact layC_real si
  · rw [e46, hgq]; exact scale_q gq
  · rw [e47, hgk]; exact scale_k gk
  · rw [e48, hwq]; exact layUq_real wq
  · rw [e49, hwk]; exact layUkv_real wk

end Kernel

/-- Where the precondition holds, the arguments are arrays of real numbers. -/
theorem reals_of_pre [Cert.Pre_mla_finite.Facts] {m : (ℓ : Loc nD τ sig) → Buf (Elt Ideal) ℓ} (h : Pre_MlaKernelIdeal_mla_finite m) (c : Dev nD) :
    ∃ (z co si : ℕ → ℕ → ℕ → ℝ) (gq : ℕ → ℝ) (wq : ℕ → ℕ → ℝ) (gk : ℕ → ℝ) (wk : ℕ → ℕ → ℝ) (q k v : ℕ → ℕ → ℕ → ℕ → ℝ),
      m ((c.tc : Thread nD τ).loc main_arg0) = real3 (φ := .f32) z ∧ m ((c.tc : Thread nD τ).loc main_arg1) = real3 (φ := .f32) co
      ∧ m ((c.tc : Thread nD τ).loc main_arg2) = real3 (φ := .f32) si ∧ m ((c.tc : Thread nD τ).loc main_arg3) = real1 (φ := .f32) gq
      ∧ m ((c.tc : Thread nD τ).loc main_arg4) = real2 (φ := .f32) wq ∧ m ((c.tc : Thread nD τ).loc main_arg5) = real1 (φ := .f32) gk
      ∧ m ((c.tc : Thread nD τ).loc main_arg6) = real2 (φ := .f32) wk ∧ m ((c.tc : Thread nD τ).loc main_arg7) = real4 (φ := .f32) q
      ∧ m ((c.tc : Thread nD τ).loc main_arg8) = real4 (φ := .f32) k ∧ m ((c.tc : Thread nD τ).loc main_arg9) = real4 (φ := .f32) v
      ∧ Holds m c (co 0) (si 0) (z 0) gq wq gk wk (q 0) (k 0) (v 0) := by
  obtain ⟨ez, ec, es, egq, ewq, egk, ewk, eq, ek, ev⟩ := finite_of_pre _ _ _ _ _ _ _ _ _ _ (h c)
  obtain ⟨z, hz⟩ := exists_real3 _ ez
  obtain ⟨co, hc⟩ := exists_real3 _ ec
  obtain ⟨si, hs⟩ := exists_real3 _ es
  obtain ⟨gq, hgq⟩ := exists_real1 _ egq
  obtain ⟨wq, hwq⟩ := exists_real2 _ ewq
  obtain ⟨gk, hgk⟩ := exists_real1 _ egk
  obtain ⟨wk, hwk⟩ := exists_real2 _ ewk
  obtain ⟨q, hq⟩ := exists_real4 _ eq
  obtain ⟨k, hk⟩ := exists_real4 _ ek
  obtain ⟨v, hv⟩ := exists_real4 _ ev
  exact ⟨z, co, si, gq, wq, gk, wk, q, k, v, hz, hc, hs, hgq, hwq, hgk, hwk, hq, hk, hv, holds_of hz hc hs hgq hwq hgk hwk hq hk hv⟩

/-- The kernel's five arrays. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50_0) = (dats m 0 c).arrAt 11 (cfgs 0).N
      ∧ r.2.mem ((c.tc : Thread nD τ).loc main_v50_1) = (dats m 0 c).arrAt 12 (cfgs 0).N
      ∧ r.2.mem ((c.tc : Thread nD τ).loc main_v50_2) = (dats m 0 c).arrAt 13 (cfgs 0).N
      ∧ r.2.mem ((c.tc : Thread nD τ).loc main_v50_3) = (dats m 0 c).arrAt 14 (cfgs 0).N
      ∧ r.2.mem ((c.tc : Thread nD τ).loc main_v50_4) = (dats m 0 c).arrAt 15 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h.1 c).1 11, (h.1 c).1 12, (h.1 c).1 13, (h.1 c).1 14, (h.1 c).1 15, h.2 c⟩)
    (θ_run_and (run_main m ρ) (frame_of m ρ (dats m) (A_eq m) (run_main m ρ)))

set_option maxHeartbeats 2000000 in
/-- The call's arrays are the gradients of the latent projections. -/
theorem algebraic [Cert.Pre_mla_finite.Facts] : Cert.algebraic_MlaKernelIdeal_MlaReferenceIdeal_pre_mla_finite := by
  intro m ρ m' ρ' hpre hagree
  choose z co si gq wq gk wk q k v hz hc hs hgq hwq hgk hwk hq hk hv H using reals_of_pre hpre
  refine ⟨fun c => (dats m 0 c).arrAt 11 (cfgs 0).N, fun c => (dats m 0 c).arrAt 12 (cfgs 0).N, fun c => (dats m 0 c).arrAt 13 (cfgs 0).N,
    fun c => (dats m 0 c).arrAt 14 (cfgs 0).N, fun c => (dats m 0 c).arrAt 15 (cfgs 0).N, run_arrays m ρ, ?_⟩
  refine (θ_run _ _ _).mono (fun r h c => ?_) (run_stages m' ρ')
  obtain ⟨h0, h1, h2, h3, h4, ha⟩ := h c
  obtain ⟨e0, e1, e2, e3, e4, e5, e6, e7, e8, e9⟩ := hagree c
  rw [e0, e1, e2, e3, e4, e5, e6, e7, e8, e9, hz, hc, hs, hgq, hwq, hgk, hwk, hq, hk, hv] at h0
  rw [e0, e1, e2, e3, e7, hz, hc, hs, hgq, hq] at h1
  rw [e0, e5, e8, e9, hz, hgk, hk, hv] at h2
  rw [e0, e1, e2, e4, e7, hz, hc, hs, hwq, hq] at h3
  rw [e0, e6, e8, e9, hz, hwk, hk, hv] at h4
  refine ⟨h0.trans ?_, h1.trans ?_, h2.trans ?_, h3.trans ?_, h4.trans ?_, ha⟩
  · refine (resultZ_real _ _ _ _ _ _ _ _ _ _).trans (Eq.trans ?_ (columns_final (H c)).symm)
    exact congrArg (fun f => (real2 f : FVec Ideal S4096x768 .bf16)) (funext fun r => funext fun d => (colGrad_eq r d).symm)
  · refine (resultWq_real _ _ _ _ _).trans (Eq.trans ?_ (projQ_final (H c)).symm)
    exact funext fun y => congrArg (fun x : ℝ => (x : EReal)) (projQ_eq (y 0).isLt (y 1).val).symm
  · refine (resultWk_real _ _ _ _).trans (Eq.trans ?_ (projK_final (H c)).symm)
    exact funext fun y => congrArg (fun x : ℝ => (x : EReal)) (projK_eq (y 0).isLt (y 1).val).symm
  · refine (resultGq_real _ _ _ _ _).trans (Eq.trans ?_ (gainQ_final (H c)).symm)
    exact funext fun y => congrArg (fun x : ℝ => (x : EReal)) (gainQ_eq (y 1).isLt).symm
  · refine (resultGk_real _ _ _ _).trans (Eq.trans ?_ (gainK_final (H c)).symm)
    exact funext fun y => congrArg (fun x : ℝ => (x : EReal)) (gainK_eq (y 1).isLt).symm

end Cert.Mla
end
-- ==== Proof.MlaClaim.lean ====
/- The claims about the backward call of the latent projections. -/
module

public import proofs.«01_k».proof.Proof.MlaValue
public import proofs.«01_k».proof.Proof.Gen.MlaKernel.Frame

@[expose] public section

set_option maxRecDepth 16384

noncomputable section

namespace Cert.Mla

open Idealize.ShloMosaic Idealize.SL.Sem

/-- Every run ends, its arguments unchanged and its semaphores at rest. -/
theorem frame_kernel : Cert.quiescent_MlaKernel :=
  fun m ρ _ => Cert.MlaKernel.Gen.frame m ρ

/-- The same on the extended reals. -/
theorem frame_ideal : Cert.quiescent_MlaKernelIdeal :=
  fun m ρ _ => Cert.MlaKernelIdeal.Gen.frame m ρ

/-- The same of finite arguments. -/
theorem frame_ideal_finite [Cert.Pre_mla_finite.Facts] : Cert.quiescent_MlaKernelIdeal_pre_mla_finite :=
  fun m ρ _ => Cert.MlaKernelIdeal.Gen.frame m ρ

/-- Every run of the reference ends, its arguments unchanged; it has no semaphore. -/
theorem frame_reference : Cert.quiescent_MlaReferenceIdeal := fun m ρ _ =>
  (θ_run Cert.MlaReferenceIdeal.defs _ _).mono
    (fun r h => ⟨fun c => (h c).2.2.2.2.2, sem_eq_zero_of_no_sems (by decide) r.2⟩)
    (Cert.MlaReferenceIdeal.Value.run (F := Ideal) m ρ)

/-- The same of finite arguments. -/
theorem frame_reference_finite [Cert.Pre_mla_finite.Facts] : Cert.quiescent_MlaReferenceIdeal_pre_mla_finite :=
  fun m ρ _ => frame_reference m ρ trivial

/-- Idealizing changes no operation but those named. -/
theorem preserves : Cert.preserves_MlaKernel_MlaKernelIdeal := trivial

end Cert.Mla

end
-- ==== Proof.AttnfStep.lean ====
module

public import proofs.«01_k».proof.Proof.Gen.AttnfKernelIdeal.Value
public import proofs.«01_k».proof.Proof.AttnArith
public import Idealize.ShloMosaic.Lib.VecWindow

/-! One step of the attention's forward kernel, a block of 512 queries against a block of 512 keys, on plain arrays; the trips of
    the kernel's loops are such steps. Stated over any arithmetic. -/

@[expose] public section

set_option maxRecDepth 16384

noncomputable section

namespace Cert.AttnfKernelIdeal.Gen

open Idealize.ShloMosaic Idealize.ShloMosaic.TcCoe Idealize.ShloMosaic.Tactic

variable {F : FTy → Type} [FloatOps F] [Named F]

/-- The scores of a block, those of later keys masked on the diagonal. -/
def scores (masked : Bool) (q k : FVec F S512x128 .bf16) : FVec F S512x512 .f32 :=
  let s := matmul dot_S512x128_S512x128_S512x512_1_1_0_0_n_n none (shapeCast S512x128 q shapeCasts_S512x128_S512x128)
    (shapeCast S512x128 k shapeCasts_S512x128_S512x128) (constant S512x512 .f32 0x00000000#32)
  match masked with
  | true => select (cmpi .sle (iota .tc S512x512 32 [1] iota_S512x512_d1_w32) (iota .tc S512x512 32 [0] iota_S512x512_d0_w32)) s
      (broadcast S512x512 (Named.named κ "mask" 0xF149F2CA#32 : F .f32))
  | false => s

/-- The greatest score so far. -/
def topStep (s : FVec F S512x512 .f32) (t : FVec F S512x1 .f32) : FVec F S512x1 .f32 :=
  maximumf t (shapeCast S512x1 (multiReduction .maximumf [1] S512 s 0xFF800000#32 reduces_S512x512_S512 (.inl rfl) rfl) shapeCasts_S512_S512x1)

/-- The exponentials of a block. -/
def expOf (s : FVec F S512x512 .f32) (t : FVec F S512x1 .f32) : FVec F S512x512 .f32 :=
  exp2 (mulf (subf s (broadcastTo S512x512 (topStep s t) broadcasts_S512x1_S512x512))
    (broadcast S512x512 (Named.named κ "scale_log2e" 0x3E16C740#32 : F .f32)))

/-- What the sums so far are multiplied by when the greatest score moves. -/
def fade (s : FVec F S512x512 .f32) (t : FVec F S512x1 .f32) : FVec F S512x1 .f32 :=
  exp2 (mulf (subf t (topStep s t)) (broadcast S512x1 (Named.named κ "scale_log2e" 0x3E16C740#32 : F .f32)))

/-- The sums of the exponentials after a block. -/
def sumStep (s : FVec F S512x512 .f32) (t l : FVec F S512x1 .f32) : FVec F S512x1 .f32 :=
  addf (mulf (fade s t) l)
    (shapeCast S512x1 (multiReduction .add [1] S512 (expOf s t) 0x00000000#32 reduces_S512x512_S512 (.inl rfl) rfl) shapeCasts_S512_S512x1)

/-- The values' sums after a block. -/
def outStep (s : FVec F S512x512 .f32) (v : FVec F S512x128 .bf16) (t : FVec F S512x1 .f32) (a : FVec F S512x128 .f32) : FVec F S512x128 .f32 :=
  addf (mulf (broadcastTo S512x128 (fade s t) broadcasts_S512x1_S512x128) a)
    (matmul dot_S512x512_S512x128_S512x128_1_0_0_1_n_n none (truncf .bf16 (expOf s t) bitsLt_bf16_f32)
      (shapeCast S512x128 v shapeCasts_S512x128_S512x128) (constant S512x128 .f32 0x00000000#32))

/-- What a trip carries: for each of the two heads the greatest score, the sum of the exponentials and the values' sums. -/
abbrev Carry (F : FTy → Type) : Type :=
  FVec F S512x1 .f32 × FVec F S512x1 .f32 × FVec F S512x128 .f32 × FVec F S512x1 .f32 × FVec F S512x1 .f32 × FVec F S512x128 .f32

/-- What is carried after a block. -/
def blockStep (masked : Bool) (q0 k0 q1 k1 v : FVec F S512x128 .bf16) (s : Carry F) : Carry F :=
  (topStep (scores masked q0 k0) s.1, sumStep (scores masked q0 k0) s.1 s.2.1, outStep (scores masked q0 k0) v s.1 s.2.2.1,
    topStep (scores masked q1 k1) s.2.2.2.1, sumStep (scores masked q1 k1) s.2.2.2.1 s.2.2.2.2.1,
    outStep (scores masked q1 k1) v s.2.2.2.1 s.2.2.2.2.2)

omit [Named F] in
/-- A load from a whole buffer is a window of what it holds. -/
theorem window_eq {s : Shape} {e : EltTy} {arg : Memref sig .tc .vmem s e} (f : BufTy.Contents (Elt F) arg.view.ty) (x : Vec F s e)
    (hx : arg.view.read (Elt F) f = x)
    {off off' size : Fin s.rank → ℕ} (he : off = off') (inb' : ∀ a, off' a + size a ≤ s.size a) :
    VecWindow.window x off' size inb' = arg.view.readAt (Elt F) (Rect.unit off size (by rw [he]; exact inb')).toLoadRect f := by
  rw [View.readAt_unit arg.view _ _ he inb', hx]

/-- The lanes of one head of a query block. -/
abbrev queryHalf {e : EltTy} (x : Vec F S512x256 e) (h : Fin 2) : Vec F S512x128 e :=
  VecWindow.window x ![0, 128 * h.val] S512x128.size (fun a => by
    match a with
    | ⟨0, _⟩ => show 0 + 512 ≤ 512; omega
    | ⟨1, _⟩ => show 128 * h.val + 128 ≤ 256; omega)

/-- The lanes of one head of key block `n`. -/
abbrev keyHalf {e : EltTy} (x : Vec F S4096x256 e) (n : ℕ) (hn : n < 8) (h : Fin 2) : Vec F S512x128 e :=
  VecWindow.window x ![512 * n, 128 * h.val] S512x128.size (fun a => by
    match a with
    | ⟨0, _⟩ => show 512 * n + 512 ≤ 4096; omega
    | ⟨1, _⟩ => show 128 * h.val + 128 ≤ 256; omega)

/-- Value block `n`. -/
abbrev valueRows {e : EltTy} (x : Vec F S4096x128 e) (n : ℕ) (hn : n < 8) : Vec F S512x128 e :=
  VecWindow.window x ![512 * n, 0] S512x128.size (fun a => by
    match a with
    | ⟨0, _⟩ => show 512 * n + 512 ≤ 4096; omega
    | ⟨1, _⟩ => show 0 + 128 ≤ 128; omega)

variable (x0 : Vec F S512x256 .bf16) (x1 : Vec F S4096x256 .bf16) (x2 : Vec F S4096x128 .bf16)

/-- One step against key block `n`. -/
def stepAt (masked : Bool) (n : ℕ) (hn : n < 8) (s : Carry F) : Carry F :=
  blockStep masked (queryHalf x0 0) (keyHalf x1 n hn 0) (queryHalf x0 1) (keyHalf x1 n hn 1) (valueRows x2 n hn) s

/-- The steps against the first `n` key blocks. -/
def stepsTo (s : Carry F) : ℕ → Carry F
  | 0 => s
  | n + 1 => if h : n < 8 then stepAt x0 x1 x2 false n h (stepsTo s n) else stepsTo s n

theorem stepsTo_succ (s : Carry F) (n : ℕ) (h : n < 8) : stepsTo x0 x1 x2 s (n + 1) = stepAt x0 x1 x2 false n h (stepsTo x0 x1 x2 s n) := by
  rw [stepsTo, dif_pos h]

section Offsets

theorem off1_even : ∀ (i : grid0.Coords) (k : Fin (k0_t1_loop i).trips), k0_off1 i k 0#32 = ![512 * (2 * k.val), 128 * (0 : Fin 2).val] := by decide +kernel
theorem off1_odd : ∀ (i : grid0.Coords) (k : Fin (k0_t1_loop i).trips), k0_off1 i k 1#32 = ![512 * (2 * k.val + 1), 128 * (0 : Fin 2).val] := by decide +kernel
theorem off2_even : ∀ (i : grid0.Coords) (k : Fin (k0_t1_loop i).trips), k0_off2 i k 0#32 = ![512 * (2 * k.val), 0] := by decide +kernel
theorem off2_odd : ∀ (i : grid0.Coords) (k : Fin (k0_t1_loop i).trips), k0_off2 i k 1#32 = ![512 * (2 * k.val + 1), 0] := by decide +kernel
theorem off3_even : ∀ (i : grid0.Coords) (k : Fin (k0_t1_loop i).trips), k0_off3 i k 0#32 = ![512 * (2 * k.val), 128 * (1 : Fin 2).val] := by decide +kernel
theorem off3_odd : ∀ (i : grid0.Coords) (k : Fin (k0_t1_loop i).trips), k0_off3 i k 1#32 = ![512 * (2 * k.val + 1), 128 * (1 : Fin 2).val] := by decide +kernel
theorem off7_eq : ∀ (i : grid0.Coords) (k : Fin (k0_t3_loop i).trips), k0_off7 i k = ![512 * (2 * ((i 1).val / 2)), 128 * (0 : Fin 2).val] := by decide +kernel
theorem off8_eq : ∀ (i : grid0.Coords) (k : Fin (k0_t3_loop i).trips), k0_off8 i k = ![512 * (2 * ((i 1).val / 2)), 0] := by decide +kernel
theorem off9_eq : ∀ (i : grid0.Coords) (k : Fin (k0_t3_loop i).trips), k0_off9 i k = ![512 * (2 * ((i 1).val / 2)), 128 * (1 : Fin 2).val] := by decide +kernel
theorem off13_eq : ∀ i : grid0.Coords, k0_off13 i = ![512 * (i 1).val, 128 * (0 : Fin 2).val] := by decide +kernel
theorem off14_eq : ∀ i : grid0.Coords, k0_off14 i = ![512 * (i 1).val, 0] := by decide +kernel
theorem off15_eq : ∀ i : grid0.Coords, k0_off15 i = ![512 * (i 1).val, 128 * (1 : Fin 2).val] := by decide +kernel
theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, (k0_t3_loop i).trips = (i 1).val % 2 := by decide +kernel
theorem trips4 : ∀ i : grid0.Coords, (k0_t4_loop i).trips = 0 := by decide +kernel
theorem pair_odd : ∀ (i : grid0.Coords) (k : Fin (k0_t1_loop i).trips), 2 * k.val + 1 < 8 := by decide +kernel
theorem pair_even (i : grid0.Coords) (k : Fin (k0_t1_loop i).trips) : 2 * k.val < 8 := by have := pair_odd i k; omega
theorem rest_bound : ∀ i : grid0.Coords, 2 * ((i 1).val / 2) < 8 := by decide +kernel

end Offsets

section Trips

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x128 .bf16) (harg4 : arg4.IsWhole) (arg5 : Memref sig .tc .vmem S512x128 .f32) (harg5 : arg5.IsWhole)
  (arg6 : Memref sig .tc .vmem S512x256 .f32) (harg6 : arg6.IsWhole) (𝒱 : Variants) (bd : Option 𝒱.V)

set_option maxHeartbeats 4000000 in
/-- A trip of the loop over pairs of key blocks is two steps. -/
theorem pairTrip (k : Fin (k0_t1_loop i).trips) (acc : Carry F) :
    tripR_k0_t1 (F := F) 𝒱 c bd i arg2 harg2 arg3 harg3 arg4 harg4 arg5 harg5 arg6 harg6 (harg2.unread x0) (harg3.unread x1) (harg4.unread x2) k acc
      = stepAt x0 x1 x2 false (2 * k.val + 1) (pair_odd i k) (stepAt x0 x1 x2 false (2 * k.val) (pair_even i k) acc) := by
  unfold tripR_k0_t1 trip_k0_t1
  dsimp only
  simp only [stepAt]
  rw [(show keyHalf x1 (2 * k.val) (pair_even i k) 0 = _ from window_eq (arg := arg3) _ _ (harg3.read_unread _) (off1_even i k) _),
    (show keyHalf x1 (2 * k.val) (pair_even i k) 1 = _ from window_eq (arg := arg3) _ _ (harg3.read_unread _) (off3_even i k) _),
    (show valueRows x2 (2 * k.val) (pair_even i k) = _ from window_eq (arg := arg4) _ _ (harg4.read_unread _) (off2_even i k) _),
    (show keyHalf x1 (2 * k.val + 1) (pair_odd i k) 0 = _ from window_eq (arg := arg3) _ _ (harg3.read_unread _) (off1_odd i k) _),
    (show keyHalf x1 (2 * k.val + 1) (pair_odd i k) 1 = _ from window_eq (arg := arg3) _ _ (harg3.read_unread _) (off3_odd i k) _),
    (show valueRows x2 (2 * k.val + 1) (pair_odd i k) = _ from window_eq (arg := arg4) _ _ (harg4.read_unread _) (off2_odd i k) _),
    (show queryHalf x0 0 = _ from window_eq (arg := arg2) (off := ![0, 0]) _ _ (harg2.read_unread _) rfl _),
    (show queryHalf x0 1 = _ from window_eq (arg := arg2) (off := ![0, 128]) _ _ (harg2.read_unread _) rfl _)]
  rfl

/-- The loop over pairs of key blocks, up to a trip. -/
theorem pairs_state (init : Carry F) (k : ℕ) (hk : k ≤ (k0_t1_loop i).trips) :
    st_k0_t1 (F := F) 𝒱 c bd i arg2 harg2 arg3 harg3 arg4 harg4 arg5 harg5 arg6 harg6 (harg2.unread x0) (harg3.unread x1) (harg4.unread x2) init k
      = stepsTo x0 x1 x2 init (2 * k) := by
  induction k with
  | zero => rfl
  | succ k ih =>
    refine (st_k0_t1_succ (F := F) 𝒱 c bd i arg2 harg2 arg3 harg3 arg4 harg4 arg5 harg5 arg6 harg6 (harg2.unread x0) (harg3.unread x1) (harg4.unread x2) init ⟨k, by omega⟩).trans ?_
    rw [pairTrip, ih (by omega), show 2 * (k + 1) = 2 * k + 1 + 1 by omega, stepsTo_succ _ _ _ _ _ (pair_odd i ⟨k, by omega⟩),
      stepsTo_succ _ _ _ _ _ (pair_even i ⟨k, by omega⟩)]

variable (arg1 : BitVec 32) (u0 u1 : IVec S512x512 32) (w0 w1 : FVec F S512x1 .f32) (w2 : FVec F S512x128 .f32) (w3 w4 : FVec F S512x1 .f32)
  (w5 : FVec F S512x128 .f32) (u31 : BitVec 32) (u36 : BitVec 1) (u37 u39 : BitVec 32)

set_option maxHeartbeats 4000000 in
/-- The trip over an odd last block is a step. -/
theorem restTrip (k : Fin (k0_t3_loop i).trips) (acc : Carry F) :
    tripR_k0_t3 (F := F) 𝒱 c bd i arg2 harg2 arg3 harg3 arg4 harg4 arg5 harg5 arg6 harg6 arg1 u0 u1 w0 w1 w2 w3 w4 w5 u31 u36 u37 u39
        (harg2.unread x0) (harg3.unread x1) (harg4.unread x2) k acc
      = stepAt x0 x1 x2 false (2 * ((i 1).val / 2)) (rest_bound i) acc := by
  unfold tripR_k0_t3 trip_k0_t3
  dsimp only
  simp only [stepAt]
  rw [(show keyHalf x1 (2 * ((i 1).val / 2)) (rest_bound i) 0 = _ from window_eq (arg := arg3) _ _ (harg3.read_unread _) (off7_eq i k) _),
    (show keyHalf x1 (2 * ((i 1).val / 2)) (rest_bound i) 1 = _ from window_eq (arg := arg3) _ _ (harg3.read_unread _) (off9_eq i k) _),
    (show valueRows x2 (2 * ((i 1).val / 2)) (rest_bound i) = _ from window_eq (arg := arg4) _ _ (harg4.read_unread _) (off8_eq i k) _),
    (show queryHalf x0 0 = _ from window_eq (arg := arg2) (off := ![0, 0]) _ _ (harg2.read_unread _) rfl _),
    (show queryHalf x0 1 = _ from window_eq (arg := arg2) (off := ![0, 128]) _ _ (harg2.read_unread _) rfl _)]
  rfl

/-- The loop over an odd last block ends with every block before the diagonal one done. -/
theorem rest_state (init : Carry F) :
    st_k0_t3 (F := F) 𝒱 c bd i arg2 harg2 arg3 harg3 arg4 harg4 arg5 harg5 arg6 harg6 arg1 u0 u1 w0 w1 w2 w3 w4 w5 u31 u36 u37 u39
        (harg2.unread x0) (harg3.unread x1) (harg4.unread x2) (stepsTo x0 x1 x2 init (2 * ((i 1).val / 2))) (k0_t3_loop i).trips
      = stepsTo x0 x1 x2 init (i 1).val := by
  have ht := trips3 i
  rcases Nat.mod_two_eq_zero_or_one (i 1).val with h | h
  · rw [ht, h]
    exact congrArg (stepsTo x0 x1 x2 init) (by omega)
  · refine Eq.trans (congrArg _ (ht.trans h)) ?_
    refine (st_k0_t3_succ (F := F) 𝒱 c bd i arg2 harg2 arg3 harg3 arg4 harg4 arg5 harg5 arg6 harg6 arg1 u0 u1 w0 w1 w2 w3 w4 w5 u31 u36 u37 u39
      (harg2.unread x0) (harg3.unread x1) (harg4.unread x2) (stepsTo x0 x1 x2 init (2 * ((i 1).val / 2))) ⟨0, by omega⟩).trans ?_
    rw [restTrip]
    exact (stepsTo_succ x0 x1 x2 init _ (rest_bound i)).symm.trans (congrArg (stepsTo x0 x1 x2 init) (by omega))

end Trips

/-- What is carried before the first block. -/
def initCarry : Carry F := (k0_pay55, k0_pay56, k0_pay57, k0_pay55, k0_pay56, k0_pay57)

theorem coord_lt (i : grid0.Coords) : (i 1).val < 8 := (i 1).isLt

/-- What is carried after the diagonal block, the last of block `n` of the queries. -/
def lastCarry (n : ℕ) (hn : n < 8) : Carry F := stepAt x0 x1 x2 true n hn (stepsTo x0 x1 x2 initCarry n)

/-- A head's logarithms of the row sums, over 128 lanes. -/
def logOf (t l : FVec F S512x1 .f32) : FVec F S512x128 .f32 :=
  broadcastTo S512x128 (shapeCast S512x1 (addf (mulf t (broadcast S512x1 (Named.named κ "scale" 0x3DD105EC#32 : F .f32))) (log l)) shapeCasts_S512x1_S512x1) broadcasts_S512x1_S512x128

/-- The values' averages of a pair of heads: the first head's in the first 64 lanes, the second's in the others. -/
def outOfCarry (s : Carry F) : FVec F S512x128 .f32 :=
  k0_pay2 (divf s.2.2.1 (broadcastTo S512x128 s.2.1 broadcasts_S512x1_S512x128)) (divf s.2.2.2.2.2 (broadcastTo S512x128 s.2.2.2.2.1 broadcasts_S512x1_S512x128))

end Cert.AttnfKernelIdeal.Gen
-- ==== Proof.AttnfArith.lean ====
/- One step of the attention's forward kernel over the real numbers: a block of 512 queries against a block of 512 keys. -/
module

public import proofs.«01_k».proof.Proof.AttnfStep
public import proofs.«01_k».proof.Proof.AttnSoftmax

@[expose] public section

set_option maxRecDepth 16384

noncomputable section

namespace Cert.Attnf

open Idealize.ShloMosaic Idealize.ShloMosaic.TcCoe Cert.Attn
open Cert.AttnfKernelIdeal Cert.AttnfKernelIdeal.Gen

theorem mask_word : Named.named (F := Ideal) κ "mask" (φ := .f32) 0xF149F2CA#32 = ⊥ :=
  IdealRules.named_const.ideal_named_scalar _ _ _ _ rfl
theorem scale_word : Named.named (F := Ideal) κ "scale" (φ := .f32) 0x3DD105EC#32 = ((scale : ℝ) : EReal) :=
  IdealRules.named_const.ideal_named_scalar _ _ _ _ rfl
theorem scale_log2e_word : Named.named (F := Ideal) κ "scale_log2e" (φ := .f32) 0x3E16C740#32 = ((scale * log2e : ℝ) : EReal) :=
  IdealRules.named_const.ideal_named_scalar _ _ _ _ rfl

/-- A power of two at a scaled number is an exponential. -/
theorem power_exp (x : ℝ) : Real.rpow 2 (x * (scale * log2e)) = Real.exp (x * scale) := by
  show (2 : ℝ) ^ (x * (scale * log2e)) = _
  rw [Real.rpow_def_of_pos (by norm_num)]
  congr 1
  have h : Real.log 2 ≠ 0 := (Real.log_pos (by norm_num)).ne'
  unfold log2e
  field_simp

theorem scores_lift (masked : Bool) (q k : ℕ → ℕ → ℝ) (r c : Fin 512) :
    scores (F := Ideal) masked (lift q) (lift k) (ix2 r c) = if masked = true → c.val ≤ r.val then ((score q k r.val c.val : ℝ) : EReal) else ⊥ := by
  have h : (∑ x : Fin 128, lift (a := 512) (b := 128) (φ := .bf16) q (ix2 r x) * lift (a := 512) (b := 128) (φ := .bf16) k (ix2 c x))
      = ((score q k r.val c.val : ℝ) : EReal) := by
    simp only [lift_ix2, ← EReal.coe_mul]
    exact sum_coe fun l => q r.val l * k c.val l
  cases masked
  · pointwise [scores, h]
    simp
  · pointwise [scores, h, mask_word]
    unfold Scalar.select
    simp only [sle_ofNat, true_imp_iff]

/-- What the sums hold of a block of scores: exponentials relative to no maximum, over the keys seen so far. Before the first
    block nothing is summed and the greatest score is below every number. -/
def Carried (W : ℕ → ℝ) (A : ℕ → ℕ → ℝ) (t l : FVec Ideal S512x1 .f32) (a : FVec Ideal S512x128 .f32) : Prop :=
  ((t = fun _ => ⊥) ∧ (l = fun _ => ((0 : ℝ) : EReal)) ∧ (a = fun _ => ((0 : ℝ) : EReal)) ∧ (∀ r, W r = 0) ∧ ∀ r d, A r d = 0)
  ∨ ∃ M : ℕ → ℝ, t = lift (φ := .f32) (fun r _ => M r) ∧ l = lift (φ := .f32) (fun r _ => Real.exp (-(M r * scale)) * W r)
      ∧ a = lift (φ := .f32) fun r d => Real.exp (-(M r * scale)) * A r d

variable (masked : Bool) (q k v : ℕ → ℕ → ℝ)

open Classical in
/-- An exponential, none for a key not seen. -/
def term (r c : ℕ) : ℝ := if sees masked r c then Real.exp (score q k r c * scale) else 0

theorem top_lift (t : FVec Ideal S512x1 .f32) (ht : ∀ y, t y ≠ ⊤) :
    ∃ M : ℕ → ℝ, topStep (scores (F := Ideal) masked (lift q) (lift k)) t = lift (φ := .f32) fun r _ => M r := by
  obtain ⟨f, hf⟩ := exists_lift (topStep (scores (F := Ideal) masked (lift q) (lift k)) t) (fun y => by
    obtain ⟨a, b, rfl⟩ : ∃ a b, y = ix2 a b := ⟨y 0, y 1, eq_ix2 y⟩
    pointwise [topStep, scores_lift]
    rw [Cert.Scalars.bot_word]
    refine ⟨(lt_max_iff.mpr (Or.inr ((Finset.lt_fold_max _).mpr (Or.inr ⟨(⟨0, by norm_num⟩ : Fin 512), Finset.mem_univ _, ?_⟩)))).ne',
      (max_lt (lt_top_iff_ne_top.mpr (ht _)) ((Finset.fold_max_lt _).mpr ⟨bot_lt_top, fun x _ => ?_⟩)).ne⟩
    · rw [if_pos fun _ => Nat.zero_le _]; exact EReal.bot_lt_coe _
    · split
      · exact EReal.coe_lt_top _
      · exact bot_lt_top)
  refine ⟨fun r => f r 0, hf.trans (lift_congr _ _ fun r _ l hl => ?_)⟩
  rw [show l = 0 by omega]

variable {t l : FVec Ideal S512x1 .f32} {a : FVec Ideal S512x128 .f32} {M : ℕ → ℝ}

theorem exp_lift (hM : topStep (scores (F := Ideal) masked (lift q) (lift k)) t = lift (φ := .f32) fun r _ => M r) :
    expOf (scores (F := Ideal) masked (lift q) (lift k)) t = lift (φ := .f32) fun r c => Real.exp (-(M r * scale)) * term masked q k r c := by
  refine eq_lift _ _ fun r c => ?_
  pointwise [expOf, hM, scores_lift, lift_ix2, scale_log2e_word]
  unfold term sees
  split
  · rw [← EReal.coe_sub, ← EReal.coe_mul, ← Real.exp_add]
    refine (congrArg Real.toEReal (power_exp _)).trans ?_
    congr 2
    ring
  · rw [EReal.bot_sub, EReal.bot_mul_coe_of_pos (mul_pos scale_pos log2e_pos), mul_zero]; rfl

theorem fade_bot (hM : topStep (scores (F := Ideal) masked (lift q) (lift k)) (fun _ => ⊥) = lift (φ := .f32) fun r _ => M r) :
    fade (scores (F := Ideal) masked (lift q) (lift k)) (fun _ => ⊥) = fun _ => ((0 : ℝ) : EReal) := by
  funext y
  obtain ⟨x, z, rfl⟩ : ∃ x z, y = ix2 x z := ⟨y 0, y 1, eq_ix2 y⟩
  pointwise [fade, hM, lift_ix2, scale_log2e_word]
  rw [EReal.bot_sub, EReal.bot_mul_coe_of_pos (mul_pos scale_pos log2e_pos)]; rfl

theorem fade_lift (M₀ : ℕ → ℝ) (hM : topStep (scores (F := Ideal) masked (lift q) (lift k)) (lift (φ := .f32) fun r _ => M₀ r) = lift (φ := .f32) fun r _ => M r) :
    fade (scores (F := Ideal) masked (lift q) (lift k)) (lift (φ := .f32) fun r _ => M₀ r) = lift (φ := .f32) fun r _ => Real.exp ((M₀ r - M r) * scale) := by
  refine eq_lift _ _ fun r c => ?_
  pointwise [fade, hM, lift_ix2, scale_log2e_word]
  rw [← EReal.coe_sub, ← EReal.coe_mul]
  exact congrArg Real.toEReal (power_exp _)

theorem sum_lift (e f g : ℕ → ℕ → ℝ) (hf : fade (scores (F := Ideal) masked (lift q) (lift k)) t = lift (φ := .f32) f)
    (he : expOf (scores (F := Ideal) masked (lift q) (lift k)) t = lift (φ := .f32) e) :
    sumStep (scores (F := Ideal) masked (lift q) (lift k)) t (lift (φ := .f32) g)
      = lift (φ := .f32) fun r l => f r l * g r l + ∑ c ∈ Finset.range 512, e r c := by
  refine eq_lift _ _ fun r c => ?_
  pointwise [sumStep, hf, he, lift_ix2]
  rw [sum_coe fun c => e r.val c, ← EReal.coe_mul, ← EReal.coe_add]

theorem out_lift (e f g : ℕ → ℕ → ℝ) (hf : fade (scores (F := Ideal) masked (lift q) (lift k)) t = lift (φ := .f32) f)
    (he : expOf (scores (F := Ideal) masked (lift q) (lift k)) t = lift (φ := .f32) e) :
    outStep (scores (F := Ideal) masked (lift q) (lift k)) (lift v) t (lift (φ := .f32) g)
      = lift (φ := .f32) fun r d => f r 0 * g r d + ∑ c ∈ Finset.range 512, e r c * v c d := by
  refine eq_lift _ _ fun r c => ?_
  pointwise [outStep, hf, he, lift_ix2]
  simp only [← EReal.coe_mul]
  rw [sum_coe fun x => e r.val x * v x c.val, ← EReal.coe_add]

theorem carried_step {W : ℕ → ℝ} {A : ℕ → ℕ → ℝ} (h : Carried W A t l a) :
    Carried (fun r => W r + ∑ c ∈ Finset.range 512, term masked q k r c) (fun r d => A r d + ∑ c ∈ Finset.range 512, term masked q k r c * v c d)
      (topStep (scores (F := Ideal) masked (lift q) (lift k)) t) (sumStep (scores (F := Ideal) masked (lift q) (lift k)) t l)
      (outStep (scores (F := Ideal) masked (lift q) (lift k)) (lift v) t a) := by
  refine Or.inr ?_
  rcases h with ⟨rfl, rfl, rfl, hW, hA⟩ | ⟨M₀, rfl, rfl, rfl⟩
  · obtain ⟨M, hM⟩ := top_lift masked q k (fun _ => ⊥) (fun _ => bot_ne_top)
    refine ⟨M, hM, ?_, ?_⟩
    · refine (sum_lift masked q k _ (fun _ _ => 0) (fun _ _ => 0) (fade_bot masked q k hM) (exp_lift masked q k hM)).trans ?_
      congr 1; funext r _
      beta_reduce
      rw [hW, ← Finset.mul_sum]; ring
    · refine (out_lift masked q k v _ (fun _ _ => 0) (fun _ _ => 0) (fade_bot masked q k hM) (exp_lift masked q k hM)).trans ?_
      congr 1; funext r d
      beta_reduce
      rw [hA, zero_add, mul_zero, zero_add, Finset.mul_sum]
      exact Finset.sum_congr rfl fun c _ => by ring
  · obtain ⟨M, hM⟩ := top_lift masked q k (lift (φ := .f32) fun r _ => M₀ r) (fun _ => EReal.coe_ne_top _)
    have hx (r : ℕ) : Real.exp ((M₀ r - M r) * scale) * Real.exp (-(M₀ r * scale)) = Real.exp (-(M r * scale)) := by
      rw [← Real.exp_add]; congr 1; ring
    refine ⟨M, hM, ?_, ?_⟩
    · refine (sum_lift masked q k _ _ _ (fade_lift masked q k M₀ hM) (exp_lift masked q k hM)).trans ?_
      congr 1; funext r _
      rw [← mul_assoc, hx, ← Finset.mul_sum]; ring
    · refine (out_lift masked q k v _ _ _ (fade_lift masked q k M₀ hM) (exp_lift masked q k hM)).trans ?_
      congr 1; funext r d
      rw [← mul_assoc, hx, mul_add, Finset.mul_sum]
      congr 1
      exact Finset.sum_congr rfl fun c _ => by ring

end Cert.Attnf
-- ==== Proof.AttnfPoint.lean ====
/- What the body of the attention's forward kernel leaves at a grid point, over any arithmetic. -/
module

public import proofs.«01_k».proof.Proof.AttnfStep

@[expose] public section

set_option maxRecDepth 16384

noncomputable section

namespace Cert.AttnfKernelIdeal.Gen

open Idealize.ShloMosaic Idealize.ShloMosaic.TcCoe Idealize.ShloMosaic.Tactic

variable {F : FTy → Type} [FloatOps F] [Named F]
variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x128 .bf16) (harg4 : arg4.IsWhole) (arg5 : Memref sig .tc .vmem S512x128 .f32) (harg5 : arg5.IsWhole)
  (arg6 : Memref sig .tc .vmem S512x256 .f32) (harg6 : arg6.IsWhole)
  (x0 : Vec F S512x256 .bf16) (x1 : Vec F S4096x256 .bf16) (x2 : Vec F S4096x128 .bf16)

variable (arg1 : BitVec 32) (u0 u1 : IVec S512x512 32) (w0 w1 : FVec F S512x1 .f32) (w2 : FVec F S512x128 .f32) (w3 w4 : FVec F S512x1 .f32)
  (w5 : FVec F S512x128 .f32) (u26 u31 : BitVec 32) (u36 : BitVec 1) (u37 u39 : BitVec 32)

theorem pairs_done (init : Carry F) (n : ℕ) (hn : n = (k0_t1_loop i).trips) :
    st_k0_t1 (F := F) Variants.none c none i arg2 harg2 arg3 harg3 arg4 harg4 arg5 harg5 arg6 harg6 (harg2.unread x0) (harg3.unread x1) (harg4.unread x2) init n
      = stepsTo x0 x1 x2 init (2 * ((i 1).val / 2)) := by
  rw [pairs_state _ _ _ _ _ _ _ _ _ _ _ _ _ _ _ _ _ _ _ hn.le, hn, trips1]

theorem no_pair_left (init : Carry F) (n : ℕ) (hn : n = (k0_t2_loop i).trips) :
    st_k0_t2 (F := F) Variants.none c none i arg2 harg2 arg3 harg3 arg4 harg4 arg5 harg5 arg6 harg6 u26 (harg2.unread x0) (harg3.unread x1) (harg4.unread x2) init n
      = init := by
  rw [hn, trips2]; rfl

theorem rest_done (init : Carry F) (n : ℕ) (hn : n = (k0_t3_loop i).trips) :
    st_k0_t3 (F := F) Variants.none c none i arg2 harg2 arg3 harg3 arg4 harg4 arg5 harg5 arg6 harg6 arg1 u0 u1 w0 w1 w2 w3 w4 w5 u31 u36 u37 u39
        (harg2.unread x0) (harg3.unread x1) (harg4.unread x2) (stepsTo x0 x1 x2 init (2 * ((i 1).val / 2))) n
      = stepsTo x0 x1 x2 init (i 1).val := by
  rw [hn, rest_state]

theorem no_rest_left (init : Carry F) (n : ℕ) (hn : n = (k0_t4_loop i).trips) :
    st_k0_t4 (F := F) Variants.none c none i arg2 harg2 arg3 harg3 arg4 harg4 arg5 harg5 arg6 harg6 arg1 u0 u1 w0 w1 w2 w3 w4 w5 u31 u36 u37 u39
        (harg2.unread x0) (harg3.unread x1) (harg4.unread x2) init n
      = init := by
  rw [hn, trips4]; rfl

omit [FloatOps F] [Named F] in
/-- A load from a whole array is a window. -/
theorem ld_window {s : Shape} {e : EltTy} (x : Vec F s e) {off off' size : Fin s.rank → ℕ} (he : off = off') (inb' : ∀ a, off' a + size a ≤ s.size a) :
    VecWindow.window x off' size inb' = View.ld x (Rect.unit off size (by rw [he]; exact inb')) := by
  subst he
  rfl

set_option maxHeartbeats 4000000 in
/-- What a point leaves of the averages. -/
theorem out_point : out0_A_3 c i arg2 harg2 arg3 harg3 arg4 harg4 arg5 harg5 arg6 harg6 x0 x1 x2
    = outOfCarry (lastCarry x0 x1 x2 (i 1).val (coord_lt i)) := by
  frame_out
  rw [pairs_done c i arg2 harg2 arg3 harg3 arg4 harg4 arg5 harg5 arg6 harg6 x0 x1 x2 _ _ rfl]
  rw [no_pair_left c i arg2 harg2 arg3 harg3 arg4 harg4 arg5 harg5 arg6 harg6 x0 x1 x2 _ _ _ rfl]
  rw [rest_done c i arg2 harg2 arg3 harg3 arg4 harg4 arg5 harg5 arg6 harg6 x0 x1 x2 _ _ _ _ _ _ _ _ _ _ _ _ _ _ _ rfl]
  rw [no_rest_left c i arg2 harg2 arg3 harg3 arg4 harg4 arg5 harg5 arg6 harg6 x0 x1 x2 _ _ _ _ _ _ _ _ _ _ _ _ _ _ _ rfl]
  simp only [lastCarry, stepAt]
  rw [(show keyHalf x1 (i 1).val (coord_lt i) 0 = _ from ld_window _ (off13_eq i) _),
    (show keyHalf x1 (i 1).val (coord_lt i) 1 = _ from ld_window _ (off15_eq i) _),
    (show valueRows x2 (i 1).val (coord_lt i) = _ from ld_window _ (off14_eq i) _),
    (show queryHalf x0 0 = _ from ld_window (off := ![0, 0]) x0 (by rfl) _),
    (show queryHalf x0 1 = _ from ld_window (off := ![0, 128]) x0 (by rfl) _)]
  rfl

/-- The logarithms of a pair of heads, each over its 128 lanes. -/
def logsOfCarry (s : Carry F) : FVec F S512x256 .f32 :=
  View.canon (Val := Elt F) (s := S512x256) (e := .f32) [⟨Rect.unit ![0, 128] ![512, 128] inb_S512x256_S512x128_0_128, logOf s.2.2.2.1 s.2.2.2.2.1⟩,
    ⟨Rect.unit ![0, 0] ![512, 128] inb_S512x256_S512x128_0_0, logOf s.1 s.2.1⟩]

set_option maxHeartbeats 4000000 in
/-- What a point leaves of the logarithms. -/
theorem log_point : out0_A_4 c i arg2 harg2 arg3 harg3 arg4 harg4 arg5 harg5 arg6 harg6 x0 x1 x2
    = logsOfCarry (lastCarry x0 x1 x2 (i 1).val (coord_lt i)) := by
  frame_out
  rw [pairs_done c i arg2 harg2 arg3 harg3 arg4 harg4 arg5 harg5 arg6 harg6 x0 x1 x2 _ _ rfl]
  rw [no_pair_left c i arg2 harg2 arg3 harg3 arg4 harg4 arg5 harg5 arg6 harg6 x0 x1 x2 _ _ _ rfl]
  rw [rest_done c i arg2 harg2 arg3 harg3 arg4 harg4 arg5 harg5 arg6 harg6 x0 x1 x2 _ _ _ _ _ _ _ _ _ _ _ _ _ _ _ rfl]
  rw [no_rest_left c i arg2 harg2 arg3 harg3 arg4 harg4 arg5 harg5 arg6 harg6 x0 x1 x2 _ _ _ _ _ _ _ _ _ _ _ _ _ _ _ rfl]
  simp only [lastCarry, stepAt, logsOfCarry, blockStep]
  rw [(show keyHalf x1 (i 1).val (coord_lt i) 0 = _ from ld_window _ (off13_eq i) _),
    (show keyHalf x1 (i 1).val (coord_lt i) 1 = _ from ld_window _ (off15_eq i) _),
    (show queryHalf x0 0 = _ from ld_window (off := ![0, 0]) x0 (by rfl) _),
    (show queryHalf x0 1 = _ from ld_window (off := ![0, 128]) x0 (by rfl) _)]
  rfl

end Cert.AttnfKernelIdeal.Gen
-- ==== Proof.AttnfRows.lean ====
/- A point of the attention's forward kernel over the real numbers: a block of queries against every block of keys up to its own. -/
module

public import proofs.«01_k».proof.Proof.AttnfArith
public import proofs.«01_k».proof.Proof.AttnfPoint
public import proofs.«01_k».proof.Proof.Reals
public import Idealize.ShloMosaic.Lib.Pipeline.ValueKit

@[expose] public section

set_option maxRecDepth 16384

noncomputable section

namespace Cert.Attnf

open Idealize.ShloMosaic Idealize.ShloMosaic.TcCoe Cert.Attn
open Cert.AttnfKernelIdeal Cert.AttnfKernelIdeal.Gen

/-- A sum over the keys a query sees, split where its own block begins. -/
theorem seen_sum (f : ℕ → ℝ) (n r : ℕ) (hn : n < 8) (hr : r < 512) :
    (∑ C ∈ Finset.range (512 * n), f C) + (∑ c ∈ Finset.range 512, if c ≤ r then f (512 * n + c) else 0)
      = ∑ C ∈ Finset.range 4096, if C ≤ 512 * n + r then f C else 0 := by
  obtain ⟨d, hd⟩ : ∃ d, 4096 = 512 * n + 512 + d := ⟨4096 - (512 * n + 512), by omega⟩
  rw [hd, Finset.sum_range_add, Finset.sum_range_add]
  rw [Finset.sum_congr rfl fun C hC => if_pos (show C ≤ 512 * n + r by have := Finset.mem_range.mp hC; omega),
    Finset.sum_eq_zero (s := Finset.range d) fun C _ => if_neg (show ¬ 512 * n + 512 + C ≤ 512 * n + r by omega), add_zero]
  congr 1
  exact Finset.sum_congr rfl fun c _ => by simp

variable (x0 x1 x2 : ℕ → ℕ → ℝ)

/-- An exponential of head `h`: query row `r`, key row `C`. -/
def expAt (h r C : ℕ) : ℝ := Real.exp ((∑ l ∈ Finset.range 128, x0 r (128 * h + l) * x1 C (128 * h + l)) * scale)

theorem term_block (h n r c : ℕ) : term false (shift 0 (128 * h) x0) (shift (512 * n) (128 * h) x1) r c = expAt x0 x1 h r (512 * n + c) := by
  unfold term
  rw [if_pos (show sees false r c from fun e => absurd e (by decide))]
  unfold expAt score shift
  simp only [Nat.zero_add]

theorem term_last (h n r c : ℕ) : term true (shift 0 (128 * h) x0) (shift (512 * n) (128 * h) x1) r c = if c ≤ r then expAt x0 x1 h r (512 * n + c) else 0 := by
  unfold term
  by_cases hc : c ≤ r
  · rw [if_pos (show sees true r c from fun _ => hc), if_pos hc]
    unfold expAt score shift
    simp only [Nat.zero_add]
  · rw [if_neg (show ¬ sees true r c from fun e => hc (e rfl)), if_neg hc]

/-- Both heads' sums. -/
def Both (W : ℕ → ℕ → ℝ) (A : ℕ → ℕ → ℕ → ℝ) (s : Carry Ideal) : Prop :=
  Carried (W 0) (A 0) s.1 s.2.1 s.2.2.1 ∧ Carried (W 1) (A 1) s.2.2.2.1 s.2.2.2.2.1 s.2.2.2.2.2

theorem both_step (masked : Bool) (n : ℕ) (hn : n < 8) {W : ℕ → ℕ → ℝ} {A : ℕ → ℕ → ℕ → ℝ} {s : Carry Ideal} (hs : Both W A s) :
    Both (fun h r => W h r + ∑ c ∈ Finset.range 512, term masked (shift 0 (128 * h) x0) (shift (512 * n) (128 * h) x1) r c)
      (fun h r d => A h r d + ∑ c ∈ Finset.range 512, term masked (shift 0 (128 * h) x0) (shift (512 * n) (128 * h) x1) r c * x2 (512 * n + c) d)
      (stepAt (F := Ideal) (lift (φ := .bf16) x0) (lift (φ := .bf16) x1) (lift (φ := .bf16) x2) masked n hn s) := by
  have hv : shift (512 * n) 0 x2 = fun c d => x2 (512 * n + c) d := by funext c d; unfold shift; rw [Nat.zero_add]
  have e0 (h : Fin 2) : queryHalf (F := Ideal) (e := .bf16) (lift (φ := .bf16) x0) h = lift (φ := .bf16) (shift 0 (128 * h.val) x0) := window_lift x0 0 (128 * h.val) _
  have e1 (h : Fin 2) : keyHalf (F := Ideal) (e := .bf16) (lift (φ := .bf16) x1) n hn h = lift (φ := .bf16) (shift (512 * n) (128 * h.val) x1) := window_lift x1 (512 * n) (128 * h.val) _
  have e2 : valueRows (F := Ideal) (e := .bf16) (lift (φ := .bf16) x2) n hn = lift (φ := .bf16) (fun c d => x2 (512 * n + c) d) := (window_lift x2 (512 * n) 0 _).trans (by rw [hv])
  unfold stepAt
  rw [e0, e0, e1, e1, e2]
  exact ⟨carried_step masked _ _ _ hs.1, carried_step masked _ _ _ hs.2⟩

theorem both_steps (n : ℕ) (hn : n < 8) :
    Both (fun h r => ∑ C ∈ Finset.range (512 * n), expAt x0 x1 h r C) (fun h r d => ∑ C ∈ Finset.range (512 * n), expAt x0 x1 h r C * x2 C d)
      (stepsTo (F := Ideal) (lift (φ := .bf16) x0) (lift (φ := .bf16) x1) (lift (φ := .bf16) x2) initCarry n) := by
  induction n with
  | zero =>
    have hi : Carried (fun _ => 0) (fun _ _ => 0) (k0_pay55 (F := Ideal)) k0_pay56 k0_pay57 := by
      refine Or.inl ⟨?_, ?_, ?_, fun _ => rfl, fun _ _ => rfl⟩
      · funext y
        pointwise [k0_pay55, mask_word]
      · funext y
        pointwise [k0_pay56]
        rfl
      · funext y
        pointwise [k0_pay57]
        rfl
    exact ⟨hi, hi⟩
  | succ n ih =>
    rw [stepsTo_succ _ _ _ _ _ (by omega)]
    have h := both_step x0 x1 x2 false n (by omega) (ih (by omega))
    simp only [term_block] at h
    simp only [show 512 * (n + 1) = 512 * n + 512 by ring, Finset.sum_range_add]
    exact h

/-- The sum of the exponentials a query sees. -/
def seenSum (n h r : ℕ) : ℝ := (∑ C ∈ Finset.range (512 * n), expAt x0 x1 h r C) + ∑ c ∈ Finset.range 512, if c ≤ r then expAt x0 x1 h r (512 * n + c) else 0

/-- The sum of the values a query sees, each times its exponential. -/
def seenVals (n h r d : ℕ) : ℝ :=
  (∑ C ∈ Finset.range (512 * n), expAt x0 x1 h r C * x2 C d) + ∑ c ∈ Finset.range 512, if c ≤ r then expAt x0 x1 h r (512 * n + c) * x2 (512 * n + c) d else 0

theorem seenSum_pos (n h r : ℕ) : 0 < seenSum x0 x1 n h r := by
  refine add_pos_of_nonneg_of_pos (Finset.sum_nonneg fun _ _ => (Real.exp_pos _).le) ?_
  refine Finset.sum_pos' (fun c _ => ?_) ⟨0, Finset.mem_range.mpr (by norm_num), ?_⟩
  · split
    · exact (Real.exp_pos _).le
    · exact le_rfl
  · rw [if_pos (Nat.zero_le _)]; exact Real.exp_pos _

theorem both_last (n : ℕ) (hn : n < 8) :
    Both (seenSum x0 x1 n) (seenVals x0 x1 x2 n) (lastCarry (F := Ideal) (lift (φ := .bf16) x0) (lift (φ := .bf16) x1) (lift (φ := .bf16) x2) n hn) := by
  have h := both_step x0 x1 x2 true n hn (both_steps x0 x1 x2 n hn)
  simp only [term_last, ite_mul, zero_mul] at h
  exact h

theorem carried_real {W : ℕ → ℝ} {A : ℕ → ℕ → ℝ} {t l : FVec Ideal S512x1 .f32} {a : FVec Ideal S512x128 .f32} (h : Carried W A t l a) (hW : ∀ r, 0 < W r) :
    divf a (broadcastTo S512x128 l broadcasts_S512x1_S512x128) = lift (φ := .f32) (fun r d => A r d / W r)
      ∧ logOf (F := Ideal) t l = lift (φ := .f32) fun r _ => Real.log (W r) := by
  rcases h with ⟨_, _, _, h0, _⟩ | ⟨M, rfl, rfl, rfl⟩
  · exact absurd (h0 0) (hW 0).ne'
  constructor
  · refine eq_lift _ _ fun r d => ?_
    pointwise [lift_ix2]
    rw [Cert.Reals.div_real (mul_pos (Real.exp_pos _) (hW r.val)).ne', mul_div_mul_left _ _ (Real.exp_pos _).ne']
  · refine eq_lift _ _ fun r d => ?_
    pointwise [logOf, lift_ix2, scale_word]
    rw [Ideal.log_coe, if_neg (not_le.mpr (mul_pos (Real.exp_pos _) (hW r.val))), ← EReal.coe_mul, ← EReal.coe_add,
      Real.log_mul (Real.exp_pos _).ne' (hW r.val).ne', Real.log_exp]
    congr 1; ring

theorem slt_lane : ∀ l : Fin 128, (IntOp.cmpi .slt (BitVec.ofNat 32 l.val) 64#32 = 1) ↔ l.val < 64 := by decide +kernel

theorem outs_real {W : ℕ → ℕ → ℝ} {A : ℕ → ℕ → ℕ → ℝ} {s : Carry Ideal} (h : Both W A s) (hW : ∀ h r, 0 < W h r) :
    outOfCarry s = lift (a := 512) (b := 128) (φ := .f32) fun r X => A (X / 64) r X / W (X / 64) r := by
  unfold outOfCarry
  rw [(carried_real h.1 (hW 0)).1, (carried_real h.2 (hW 1)).1]
  refine eq_lift _ _ fun r l => ?_
  pointwise [k0_pay2, lift_ix2]
  unfold Scalar.select
  simp only [slt_lane l]
  by_cases hl : l.val < 64
  · rw [if_pos hl, show l.val / 64 = 0 by omega]
  · rw [if_neg hl, show l.val / 64 = 1 by omega]

theorem logs_real {W : ℕ → ℕ → ℝ} {A : ℕ → ℕ → ℕ → ℝ} {s : Carry Ideal} (h : Both W A s) (hW : ∀ h r, 0 < W h r) :
    logsOfCarry s = lift (a := 512) (b := 256) (φ := .f32) fun r X => Real.log (W (X / 128) r) := by
  unfold logsOfCarry
  rw [(carried_real h.1 (hW 0)).2, (carried_real h.2 (hW 1)).2]
  funext y
  canon_tiles x h
  · show ((Real.log (W 1 (x 0).val) : ℝ) : EReal) = ((Real.log (W ((y 1).val / 128) (y 0).val) : ℝ) : EReal)
    rw [show (y 1).val / 128 = 1 by omega, show (y 0).val = (x 0).val by omega]
  · show ((Real.log (W 0 (x 0).val) : ℝ) : EReal) = ((Real.log (W ((y 1).val / 128) (y 0).val) : ℝ) : EReal)
    rw [show (y 1).val / 128 = 0 by omega, show (y 0).val = (x 0).val by omega]

end Cert.Attnf
-- ==== Proof.AttnfFinal.lean ====
/- What the attention's forward kernel leaves in its two result arrays, over the real numbers. -/
module

public import proofs.«01_k».proof.Proof.AttnfRows

@[expose] public section

set_option maxRecDepth 16384

noncomputable section

namespace Cert.Attnf

open Idealize.ShloMosaic Idealize.ShloMosaic.TcCoe Idealize.ShloMosaic.StableHlo Cert.Attn
open Cert.AttnfKernelIdeal Cert.AttnfKernelIdeal.Gen

/-- Block `t` of each window: the pair of heads `t / 8`, the block of queries `t % 8`. -/
theorem block_index : ∀ t : Fin cfg0.N, win0_0.index t = ![t.val % 8, t.val / 8] ∧ win0_1.index t = ![0, t.val / 8]
    ∧ win0_2.index t = ![0, t.val / 8] ∧ win0_3.index t = ![t.val % 8, t.val / 8] ∧ win0_4.index t = ![t.val % 8, t.val / 8] :=
  (by decide +kernel : ∀ t : Fin grid0.N, _)

theorem block_coord : ∀ t : Fin cfg0.N, ((grid0.coords t) 1).val = t.val % 8 := (by decide +kernel : ∀ t : Fin grid0.N, _)

variable (m : (ℓ : Loc nD τ sig) → Buf (Elt Ideal) ℓ) (c : Dev nD)

/-- The arrays the kernel is given. -/
theorem operands :
    V m c main_v2 = padded (m ((c.tc : Thread nD τ).loc main_arg0))
    ∧ V m c main_v5 = padded (m ((c.tc : Thread nD τ).loc main_arg1))
    ∧ V m c main_v7 = headless (m ((c.tc : Thread nD τ).loc main_arg2)) := by
  simp only [V, hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp
  refine ⟨rfl, rfl, rfl⟩

variable (q k v : ℕ → ℕ → ℝ)

/-- The kernel's arrays are matrices of real numbers. -/
structure Holds : Prop where
  hq : V m c (Pipeline.arrRef spec0 0) = lift (φ := .bf16) q
  hk : V m c (Pipeline.arrRef spec0 1) = lift (φ := .bf16) k
  hv : V m c (Pipeline.arrRef spec0 2) = lift (φ := .bf16) v

/-- The sum of the exponentials row `R` of head `h` sees. -/
def rowTotal (h R : ℕ) : ℝ := ∑ C ∈ Finset.range 4096, if C ≤ R then expAt q k h R C else 0

/-- The sum of the values the row sees, each times its exponential. -/
def rowValues (h R X : ℕ) : ℝ := ∑ C ∈ Finset.range 4096, if C ≤ R then expAt q k h R C * v C X else 0

theorem expAt_block (p i h r C : ℕ) : expAt (shift (512 * i) (256 * p) q) (shift 0 (256 * p) k) h r C = expAt q k (2 * p + h) (512 * i + r) C := by
  unfold expAt shift
  congr 2
  refine Finset.sum_congr rfl fun l _ => ?_
  rw [show 256 * p + (128 * h + l) = 128 * (2 * p + h) + l by ring, Nat.zero_add]

theorem total_block (p i h r : ℕ) (hi : i < 8) (hr : r < 512) :
    seenSum (shift (512 * i) (256 * p) q) (shift 0 (256 * p) k) i h r = rowTotal q k (2 * p + h) (512 * i + r) := by
  unfold seenSum rowTotal
  simp only [expAt_block]
  exact seen_sum (fun C => expAt q k (2 * p + h) (512 * i + r) C) i r hi hr

theorem values_block (p i h r X : ℕ) (hi : i < 8) (hr : r < 512) :
    seenVals (shift (512 * i) (256 * p) q) (shift 0 (256 * p) k) (shift 0 (128 * p) v) i h r X = rowValues q k v (2 * p + h) (512 * i + r) (128 * p + X) := by
  unfold seenVals rowValues
  simp only [expAt_block]
  unfold shift
  simp only [Nat.zero_add]
  exact seen_sum (fun C => expAt q k (2 * p + h) (512 * i + r) C * v C (128 * p + X)) i r hi hr

variable {m c q k v} (H : Holds m c q k v)
include H

theorem block_q (t : Fin cfg0.N) : (iblk m c 0 t : FVec Ideal S512x256 .bf16) = lift (φ := .bf16) (shift (512 * (t.val % 8)) (256 * (t.val / 8)) q) := by
  unfold iblk
  rw [H.hq]
  funext y
  have e := block_index t
  blk_simp
  blk_point [lift, shift, e]
  simp only [Nat.mul_comm]

theorem block_k (t : Fin cfg0.N) : (iblk m c 1 t : FVec Ideal S4096x256 .bf16) = lift (φ := .bf16) (shift 0 (256 * (t.val / 8)) k) := by
  unfold iblk
  rw [H.hk]
  funext y
  have e := block_index t
  blk_simp
  blk_point [lift, shift, e]
  simp only [Nat.mul_comm]

theorem block_v (t : Fin cfg0.N) : (iblk m c 2 t : FVec Ideal S4096x128 .bf16) = lift (φ := .bf16) (shift 0 (128 * (t.val / 8)) v) := by
  unfold iblk
  rw [H.hv]
  funext y
  have e := block_index t
  blk_simp
  blk_point [lift, shift, e]
  simp only [Nat.mul_comm]

theorem carry_point (t : Fin cfg0.N) (n : ℕ) (hn : n < 8) (e : n = t.val % 8) :
    Both (seenSum (shift (512 * (t.val % 8)) (256 * (t.val / 8)) q) (shift 0 (256 * (t.val / 8)) k) (t.val % 8))
      (seenVals (shift (512 * (t.val % 8)) (256 * (t.val / 8)) q) (shift 0 (256 * (t.val / 8)) k) (shift 0 (128 * (t.val / 8)) v) (t.val % 8))
      (lastCarry (F := Ideal) (iblk m c 0 t) (iblk m c 1 t) (iblk m c 2 t) n hn) := by
  subst e
  have b := both_last (shift (512 * (t.val % 8)) (256 * (t.val / 8)) q) (shift 0 (256 * (t.val / 8)) k) (shift 0 (128 * (t.val / 8)) v) (t.val % 8) hn
  rw [← block_q H t, ← block_k H t, ← block_v H t] at b
  exact b

/-- The averages. -/
theorem out_final : (dats m 0 c).arrAt 3 (cfgs 0).N
    = lift (a := 4096) (b := 512) (φ := .f32) fun R X => rowValues q k v (X / 64) R X / rowTotal q k (X / 64) R := by
  refine (dats m 0 c).arrAt_eq_of_covers 3 _ (by decide +kernel) fun t ht y => ?_
  have e := block_index t
  have hb := outs_real (carry_point H t ((grid0.coords t) 1).val (coord_lt _) (block_coord t)) fun h r => seenSum_pos _ _ _ h r
  blk_simp
  rw [after0_3]
  unfold outsAt0
  dsimp only
  rw [out_point, hb]
  blk_point [lift, e]
  have h0 : (y 0).val < 512 := (y 0).isLt
  have h1 : (y 1).val < 128 := (y 1).isLt
  rw [total_block q k _ _ _ _ (Nat.mod_lt _ (by norm_num)) h0, values_block q k v _ _ _ _ _ (Nat.mod_lt _ (by norm_num)) h0]
  rw [show (t.val / 8 * 128 + (y 1).val) / 64 = 2 * (t.val / 8) + (y 1).val / 64 by omega, Nat.mul_comm (t.val % 8) 512, Nat.mul_comm (t.val / 8) 128]

/-- The logarithms of the sums. -/
theorem log_final : (dats m 0 c).arrAt 4 (cfgs 0).N
    = lift (a := 4096) (b := 1024) (φ := .f32) fun R X => Real.log (rowTotal q k (X / 128) R) := by
  refine (dats m 0 c).arrAt_eq_of_covers 4 _ (by decide +kernel) fun t ht y => ?_
  have e := block_index t
  have hb := logs_real (carry_point H t ((grid0.coords t) 1).val (coord_lt _) (block_coord t)) fun h r => seenSum_pos _ _ _ h r
  blk_simp
  rw [after0_4]
  unfold outsAt0
  dsimp only
  rw [log_point, hb]
  blk_point [lift, e]
  have h0 : (y 0).val < 512 := (y 0).isLt
  have h1 : (y 1).val < 256 := (y 1).isLt
  rw [total_block q k _ _ _ _ (Nat.mod_lt _ (by norm_num)) h0]
  rw [show (t.val / 8 * 256 + (y 1).val) / 128 = 2 * (t.val / 8) + (y 1).val / 128 by omega, Nat.mul_comm (t.val % 8) 512]

end Cert.Attnf
-- ==== Proof.AttnfFinite.lean ====
/- The precondition of the attention's forward kernel: no entry of its arguments is infinite. -/
module

public import proofs.«01_k».proof.Proof.AttnfFinal
public import proofs.«01_k».proof.Proof.AttnValue
public import proofs.«01_k».proof.Proof.Gen.Pre_attnf_finite

@[expose] public section

set_option maxRecDepth 16384

noncomputable section

namespace Cert.Attnf

open Idealize.ShloMosaic Idealize.ShloMosaic.TcCoe Cert.Attn Cert.Scalars

section pre
open Cert.Pre_attnf_finite
variable [Facts] (q k : FVec Ideal S4096x8x96 .f32) (v : FVec Ideal S4096x8x64 .f32)

theorem finite_of_pre (h : fn q k v = fun _ => 1#1) : (∀ y, q y ≠ ⊥ ∧ q y ≠ ⊤) ∧ (∀ y, k y ≠ ⊥ ∧ k y ≠ ⊤) ∧ ∀ y, v y ≠ ⊥ ∧ v y ≠ ⊤ := by
  have e := congrFun h (fun i => i.elim0)
  dsimp only [fn] at e
  obtain ⟨e, ev⟩ := IntOp.andi_eq_one.1 e
  obtain ⟨eq, ek⟩ := IntOp.andi_eq_one.1 e
  refine ⟨fun y => ne_of_lt_top ?_, fun y => ne_of_lt_top ?_, fun y => ne_of_lt_top ?_⟩
  · exact (congrArg (Ideal.cmp .olt (max (q y) (-q y))) top_word).symm.trans (Host.reduce_andi_all _ _ _ _ _ eq y)
  · exact (congrArg (Ideal.cmp .olt (max (k y) (-k y))) top_word).symm.trans (Host.reduce_andi_all _ _ _ _ _ ek y)
  · exact (congrArg (Ideal.cmp .olt (max (v y) (-v y))) top_word).symm.trans (Host.reduce_andi_all _ _ _ _ _ ev y)
end pre

open Cert.AttnfKernelIdeal Cert.AttnfKernelIdeal.Gen
variable (m : (ℓ : Loc nD τ sig) → Buf (Elt Ideal) ℓ)

/-- Where the precondition holds, the arguments are arrays of real numbers. -/
theorem reals_of_pre [Cert.Pre_attnf_finite.Facts] (h : Pre_AttnfKernelIdeal_attnf_finite m) (c : Dev nD) :
    ∃ q k v : ℕ → ℕ → ℕ → ℝ, (m ((c.tc : Thread nD τ).loc main_arg0) : FVec Ideal S4096x8x96 .f32) = lift3 (φ := .f32) q
      ∧ (m ((c.tc : Thread nD τ).loc main_arg1) : FVec Ideal S4096x8x96 .f32) = lift3 (φ := .f32) k
      ∧ (m ((c.tc : Thread nD τ).loc main_arg2) : FVec Ideal S4096x8x64 .f32) = lift3 (φ := .f32) v := by
  obtain ⟨e0, e1, e2⟩ := finite_of_pre _ _ _ (h c)
  obtain ⟨q, hq⟩ := exists_lift3 _ e0
  obtain ⟨k, hk⟩ := exists_lift3 _ e1
  obtain ⟨v, hv⟩ := exists_lift3 _ e2
  exact ⟨q, k, v, hq, hk, hv⟩

end Cert.Attnf
-- ==== Proof.AttnfSums.lean ====
/- The reference of the attention's forward kernel: its two results in stages. -/
module

public import proofs.«01_k».proof.Proof.AttnReference
public import proofs.«01_k».proof.Proof.Gen.AttnfReferenceIdeal.Run

@[expose] public section

set_option maxRecDepth 16384

noncomputable section

namespace Cert.Attnf

open Idealize.ShloMosaic Idealize.ShloMosaic.TcCoe Cert.Attn
open Cert.AttnfReferenceIdeal Cert.AttnfReferenceIdeal.Gen

/-- The logarithms of the softmax's denominators, over 128 lanes a head. -/
def lanesOf (w : FVec Ideal S8x4096x4096 .f32) (t : FVec Ideal S8x4096 .f32) : FVec Ideal S4096x1024 .f32 :=
  shapeCast _ (broadcastInDim S4096x8x128 ![0, 1, 2] bcast_S4096x8x1_S4096x8x128_0_1_2 (broadcastInDim S4096x8x1 ![0, 1] bcast_S4096x8_S4096x8x1_0_1
    (transpose S4096x8 [1, 0] (addf t (Host.log (totalOf w))) transposes_S8x4096_S4096x8_1_0))) shapeCasts_S4096x8x128_S4096x1024

/-- The reference's two results. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = outOf (refWeights (m ((c.tc : Thread nD τ).loc main_arg0)) (m ((c.tc : Thread nD τ).loc main_arg1))) (m ((c.tc : Thread nD τ).loc main_arg2))
      ∧ r.2.mem ((c.tc : Thread nD τ).loc main_v36) = lanesOf (weightsOf (scoresOf (m ((c.tc : Thread nD τ).loc main_arg0)) (m ((c.tc : Thread nD τ).loc main_arg1))) (topOf (scoresOf (m ((c.tc : Thread nD τ).loc main_arg0)) (m ((c.tc : Thread nD τ).loc main_arg1)))))
          (topOf (scoresOf (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

variable (q k : ℕ → ℕ → ℕ → ℝ) (M : ℕ → ℕ → ℝ)

theorem lanesOf_lift : lanesOf (lift3 (φ := .f32) (weight q k M)) (lift (φ := .f32) M)
    = lift (φ := .f32) fun r X => M (X / 128) r + Real.log (rowSum q k M (X / 128) r) := by
  funext y
  pointwise [lanesOf, totalOf_lift, lift, lift3]
  rw [Ideal.log_coe, if_neg (not_le.mpr (rowSum_pos q k M _ _)), EReal.coe_add]

end Cert.Attnf
-- ==== Proof.AttnfValue.lean ====
/- The attention's forward kernel and its reference end with the same averages and the same logarithms of the row sums. -/
module

public import proofs.«01_k».proof.Proof.AttnfFinite
public import proofs.«01_k».proof.Proof.AttnfSums
public import proofs.«01_k».proof.Proof.Gen.AttnfKernelIdeal.Value

@[expose] public section

set_option maxRecDepth 16384

noncomputable section

namespace Cert.Attnf

open Idealize.ShloMosaic Idealize.ShloMosaic.TcCoe Cert.Attn

section reals
variable (q k v : ℕ → ℕ → ℕ → ℝ) (M : ℕ → ℕ → ℝ)

theorem expAt_wide (h r c : ℕ) : expAt (wide q) (wide k) h r c = Real.exp (headScore q k h r c) := by
  unfold expAt headScore
  rw [wide_score]

theorem weight_eq (h r c : ℕ) : weight q k M h r c = Real.exp (-M h r) * if c ≤ r then expAt (wide q) (wide k) h r c else 0 := by
  unfold weight
  rw [expAt_wide]
  split
  · rw [← Real.exp_add]; congr 1; ring
  · rw [mul_zero]

theorem rowSum_eq (h r : ℕ) : rowSum q k M h r = Real.exp (-M h r) * rowTotal (wide q) (wide k) h r := by
  unfold rowSum rowTotal
  rw [Finset.mul_sum]
  exact Finset.sum_congr rfl fun c _ => weight_eq q k M h r c

include M in
theorem rowTotal_pos (h r : ℕ) : 0 < rowTotal (wide q) (wide k) h r := by
  have e := rowSum_pos q k M h r
  rw [rowSum_eq] at e
  exact (mul_pos_iff_of_pos_left (Real.exp_pos _)).mp e

theorem average_eq (r X : ℕ) : rowValues (wide q) (wide k) (flat v) (X / 64) r X / rowTotal (wide q) (wide k) (X / 64) r
    = ∑ c ∈ Finset.range 4096, v c (X / 64) (X % 64) * (weight q k M (X / 64) r c / rowSum q k M (X / 64) r) := by
  unfold rowValues
  rw [Finset.sum_div]
  refine Finset.sum_congr rfl fun c _ => ?_
  rw [weight_eq, rowSum_eq, mul_div_mul_left _ _ (Real.exp_pos _).ne']
  split
  · unfold flat; ring
  · simp

theorem log_eq (h r : ℕ) : Real.log (rowTotal (wide q) (wide k) h r) = M h r + Real.log (rowSum q k M h r) := by
  rw [rowSum_eq, Real.log_mul (Real.exp_pos _).ne' (rowTotal_pos q k M h r).ne', Real.log_exp]
  ring

end reals

open Cert.AttnfKernelIdeal Cert.AttnfKernelIdeal.Gen
variable (m : (ℓ : Loc nD τ sig) → Buf (Elt Ideal) ℓ)

/-- The launch ends with the two arrays of the proof data, the arguments unchanged. -/
theorem run_arrays (ρ : Dev nD → PrngReg) : θ_run defs (onTc (τ := τ) (main (F := Ideal))) ⟨m, fun _ => 0, ρ⟩ fun r => ∀ c : Dev nD,
    r.2.mem ((c.tc : Thread nD τ).loc main_v8_0) = (dats m 0 c).arrAt 3 (cfgs 0).N
    ∧ r.2.mem ((c.tc : Thread nD τ).loc main_v8_1) = (dats m 0 c).arrAt 4 (cfgs 0).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h.1 c).1 3, (h.1 c).1 4, h.2 c⟩)
    (θ_run_and (run_main m ρ) (frame_of m ρ (dats m) (A_eq m) (run_main m ρ)))

/-- The attention's forward kernel and the attention end with the same two arrays. -/
theorem algebraic [Cert.Pre_attnf_finite.Facts] : Cert.algebraic_AttnfKernelIdeal_AttnfReferenceIdeal_pre_attnf_finite := by
  intro m g m' g' hpre hagree
  choose q k v hq hk hv using reals_of_pre m hpre
  choose M hM using fun c => topOf_lift (q c) (k c)
  refine ⟨fun c => (dats m 0 c).arrAt 3 (cfgs 0).N, fun c => (dats m 0 c).arrAt 4 (cfgs 0).N, run_arrays m g, ?_⟩
  refine (θ_run _ _ _).mono (fun r h c => ?_) (run_stages m' g')
  have a := operands m c
  rw [hq, hk, hv, padded_lift, padded_lift, headless_lift] at a
  have H : Holds m c (wide (q c)) (wide (k c)) (flat (v c)) := ⟨a.1, a.2.1, a.2.2⟩
  obtain ⟨h0, h1, ha⟩ := h c
  obtain ⟨e0, e1, e2⟩ := hagree c
  rw [e0.trans (hq c), e1.trans (hk c), e2.trans (hv c), refWeights_lift (q c) (k c) (M c) (hM c), outOf_lift] at h0
  rw [e0.trans (hq c), e1.trans (hk c), hM c, weightsOf_lift, lanesOf_lift] at h1
  refine ⟨h0.trans ?_, h1.trans ?_, ha⟩
  · show _ = (dats m 0 c).arrAt 3 (cfgs 0).N
    rw [out_final H]
    exact congrArg (fun f => (lift f : FVec Ideal S4096x512 .f32)) (funext fun r => funext fun X => (average_eq _ _ _ (M c) r X).symm)
  · show _ = (dats m 0 c).arrAt 4 (cfgs 0).N
    rw [log_final H]
    exact congrArg (fun f => (lift f : FVec Ideal S4096x1024 .f32)) (funext fun r => funext fun X => (log_eq _ _ (M c) (X / 128) r).symm)

end Cert.Attnf
-- ==== Proof.AttnfBits.lean ====
/- The frame of the attention's forward kernel over the machine's own numbers: the idealised form's, each named constant read as
   the word it stands for. -/
module

public import proofs.«01_k».proof.Defs
public import proofs.«01_k».proof.Proof.Gen.AttnfKernelIdeal.Value
public import proofs.«01_k».proof.Proof.Gen.AttnfKernel
public import Idealize.ShloMosaic.Lib.Claim

@[expose] public section

set_option maxRecDepth 16384

noncomputable section

namespace Cert.Attnf

open Idealize.ShloMosaic Idealize.ShloMosaic.TcCoe Idealize.ShloMosaic.Tactic Idealize.SL

/-- A named constant of the machine's numbers: its word. -/
def wordOf : Named Bits where
  named _ _ {φ} bits := FloatOps.ofBits φ bits

local instance : Named Bits := wordOf

theorem quiescent_kernel : Cert.quiescent_AttnfKernel := fun m ρ _ => by
  refine cast ?_ (Cert.AttnfKernelIdeal.Gen.frame (F := Bits) m ρ)
  sl_kernel_rfl

end Cert.Attnf
-- ==== Proof.AttnfClaim.lean ====
/- The claims about the attention's forward call. -/
module

public import proofs.«01_k».proof.Proof.AttnfValue
public import proofs.«01_k».proof.Proof.AttnfBits

@[expose] public section

set_option maxRecDepth 16384

noncomputable section

namespace Cert.Attnf

open Idealize.ShloMosaic Idealize.SL.Sem

/-- On the extended reals every run ends, its arguments unchanged and its semaphores at rest. -/
theorem quiescent_ideal : Cert.quiescent_AttnfKernelIdeal := fun m ρ _ => Cert.AttnfKernelIdeal.Gen.frame m ρ

/-- The same of finite arguments. -/
theorem quiescent_ideal_finite [Cert.Pre_attnf_finite.Facts] : Cert.quiescent_AttnfKernelIdeal_pre_attnf_finite :=
  fun m ρ _ => Cert.AttnfKernelIdeal.Gen.frame m ρ

/-- The reference ends too, its arguments unchanged; it has no semaphore. -/
theorem quiescent_reference : Cert.quiescent_AttnfReferenceIdeal := fun m ρ _ =>
  (θ_run Cert.AttnfReferenceIdeal.defs _ _).mono
    (fun r h => ⟨fun c => (h c).2.2, sem_eq_zero_of_no_sems (by decide) r.2⟩)
    (Cert.AttnfReferenceIdeal.Value.run (F := Ideal) m ρ)

/-- The same of finite arguments. -/
theorem quiescent_reference_finite [Cert.Pre_attnf_finite.Facts] : Cert.quiescent_AttnfReferenceIdeal_pre_attnf_finite :=
  fun m ρ _ => quiescent_reference m ρ trivial

/-- Idealizing changes no operation but the three named constants. -/
theorem preserves : Cert.preserves_AttnfKernel_AttnfKernelIdeal :=
  ⟨IdealRules.named_const.statement Cert.AttnfKernelIdeal.κ "mask" .f32 0xF149F2CA#32 ⊥ rfl,
    IdealRules.named_const.statement Cert.AttnfKernelIdeal.κ "scale_log2e" .f32 0x3E16C740#32
      (((Real.sqrt 96)⁻¹ * (Real.log 2)⁻¹ : ℝ) : EReal) rfl,
    IdealRules.named_const.statement Cert.AttnfKernelIdeal.κ "scale" .f32 0x3DD105EC#32 (((Real.sqrt 96)⁻¹ : ℝ) : EReal) rfl⟩

end Cert.Attnf
-- ==== Proof.PrefRows.lean ====
/- The forward projection into the mix: a row's entries, and the kernel's order of the columns. -/
module

public import proofs.«01_k».proof.Proof.Tables

@[expose] public section

noncomputable section

namespace Cert.Pref

open Idealize.ShloMosaic

/-- The reciprocal root mean square of a row of 1024 numbers. -/
def root (x : ℕ → EReal) : EReal :=
  Ideal.rsqrt (Ideal.div (∑ d : Fin 1024, x d.val * x d.val) (Ideal.ofBits FTy.f32 1149239296#32) + Ideal.ofBits FTy.f32 897988541#32)

/-- The normed and scaled row times a column. -/
def entry (x g w : ℕ → EReal) : EReal := ∑ d : Fin 1024, x d.val * root x * g d.val * w d.val

theorem entry_zero (x g : ℕ → EReal) : entry x g (fun _ => 0) = 0 := by
  unfold entry
  simp only [mul_zero, Finset.sum_const_zero]

/-- The kernel's order of the projection's columns: the convolution's, the latents', 96 zeros, the gate's. -/
def order (f : ℕ → EReal) (j : ℕ) : EReal :=
  if j < 768 then f (1184 + j) else if j < 1440 then f (j - 768) else if j < 1536 then 0 else f (672 + (j - 1536))

end Cert.Pref
end
-- ==== Proof.PrefSums.lean ====
/- The reference of the forward projection into the mix, by stage. -/
module

public import proofs.«01_k».proof.Proof.Gen.PrefReferenceIdeal.Run
public import proofs.«01_k».proof.Proof.PrefRows

@[expose] public section

set_option maxRecDepth 16384

noncomputable section

namespace Cert.Pref

open Idealize.ShloMosaic Idealize.ShloMosaic.TcCoe Idealize.SL.Sem Idealize.ShloMosaic.StableHlo
open Cert.PrefReferenceIdeal Cert.PrefReferenceIdeal.Gen Cert.Tables

/-- Each row's reciprocal root mean square, along the row. -/
def rootRow (x : FVec Ideal S1x4096x1024 .f32) : FVec Ideal S1x4096x1024 .f32 :=
  broadcastInDim S1x4096x1024 ![0, 1, 2] bcast_S1x4096x1_S1x4096x1024_0_1_2 (Host.rsqrt (addf
    (Host.divf (broadcastInDim S1x4096x1 ![0, 1] bcast_S1x4096_S1x4096x1_0_1 (Host.reduceAdd (mulf x x) (constant S_ .f32 0x00000000#32) reducesTo_S1x4096x1024_S1x4096_d2 h_S_))
      (broadcastInDim S1x4096x1 ![] bcast_S_S1x4096x1 (constant S_ .f32 0x44800000#32))) (broadcastInDim S1x4096x1 ![] bcast_S_S1x4096x1 (constant S_ .f32 0x358637BD#32))))

theorem rootRow_tab (x : ℕ → ℕ → ℕ → EReal) : rootRow (tab3 x) = tab3 (φ := .f32) fun b r _ => root (x b r) := by
  funext y
  idx_vars y
  pointwise [rootRow, tab3_ix3]
  rfl

/-- The scale along the rows. -/
def scaleRow (g : FVec Ideal S1024 .f32) : FVec Ideal S1x4096x1024 .f32 :=
  broadcastInDim S1x4096x1024 ![0, 1, 2] bcast_S1x1x1024_S1x4096x1024_0_1_2 (broadcastInDim S1x1x1024 ![2] bcast_S1024_S1x1x1024_2 g)

theorem scaleRow_tab (g : ℕ → EReal) : scaleRow (tab1 g) = tab3 (φ := .f32) fun _ _ d => g d := by
  funext y
  idx_vars y
  pointwise [scaleRow, tab1_ix1, tab3_ix3]

/-- The projection of the normed rows. -/
def projected (x : FVec Ideal S1x4096x1024 .f32) (g : FVec Ideal S1024 .f32) (w : FVec Ideal S1024x1952 .f32) : FVec Ideal S1x4096x1952 .f32 :=
  Host.dotGeneral dot_S1x4096x1024_S1024x1952_S1x4096x1952_2_0_01_1_n_n none (mulf (mulf x (rootRow x)) (scaleRow g)) w

theorem projected_tab (x : ℕ → ℕ → ℕ → EReal) (g : ℕ → EReal) (w : ℕ → ℕ → EReal) :
    projected (tab3 x) (tab1 g) (tab2 w) = tab3 (φ := .f32) fun b r j => entry (x b r) g fun d => w d j := by
  funext y
  idx_vars y
  pointwise [projected, rootRow_tab, scaleRow_tab, tab3_ix3, tab2_ix2]
  rfl

/-- Its columns in the kernel's order. -/
def laid (z : FVec Ideal S1x4096x1952 .f32) : FVec Ideal S4096x2048 .bf16 :=
  truncf .bf16 (concatenate S4096x2048 1
    [⟨S4096x768, shapeCast S4096x768 (extractStridedSlice S1x4096x768 ![0, 0, 1184] z slices_S1x4096x1952_S1x4096x768_0_0_1184) shapeCasts_S1x4096x768_S4096x768⟩,
     ⟨S4096x672, shapeCast S4096x672 (extractStridedSlice S1x4096x672 ![0, 0, 0] z slices_S1x4096x1952_S1x4096x672_0_0_0) shapeCasts_S1x4096x672_S4096x672⟩,
     ⟨S4096x96, broadcastInDim S4096x96 ![] bcast_S_S4096x96 (constant S_ .f32 0x00000000#32)⟩,
     ⟨S4096x512, shapeCast S4096x512 (extractStridedSlice S1x4096x512 ![0, 0, 672] z slices_S1x4096x1952_S1x4096x512_0_0_672) shapeCasts_S1x4096x512_S4096x512⟩]
    concatenates_S4096x768_S4096x672_S4096x96_S4096x512_S4096x2048_d1) bitsLt_bf16_f32

theorem laid_at (z : ℕ → ℕ → ℕ → EReal) : laid (tab3 z) = tab2 (φ := .bf16) fun r j => order (z 0 r) j := by
  funext y
  idx_vars y
  pointwise [laid, tab3_ix3, tab2_ix2]
  unfold order
  split_ifs <;> first | rfl | omega | exact congrArg _ (by omega)

/-- An entry of a column put in order. -/
theorem order_entry (x g : ℕ → EReal) (w : ℕ → ℕ → EReal) (j : ℕ) : order (fun j => entry x g fun d => w d j) j = entry x g fun d => order (w d) j := by
  unfold order
  split_ifs <;> first | rfl | exact (entry_zero x g).symm

theorem laid_tab (x : ℕ → ℕ → ℕ → EReal) (g : ℕ → EReal) (w : ℕ → ℕ → EReal) :
    laid (projected (tab3 x) (tab1 g) (tab2 w)) = tab2 (φ := .bf16) fun r j => entry (x 0 r) g fun d => order (w d) j := by
  rw [projected_tab, laid_at]
  exact congrArg tab2 (funext fun r => funext fun j => order_entry _ _ _ _)

theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = laid (projected (m ((c.tc : Thread nD τ).loc main_arg0)) (m ((c.tc : Thread nD τ).loc main_arg1))
        (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Pref
end
-- ==== Proof.PrefValue.lean ====
/- The forward call of the mix's first norm and of the projection into the mix computes the projection of the normed rows. -/
module

public import proofs.«01_k».proof.Proof.Gen.PrefKernelIdeal.Value
public import proofs.«01_k».proof.Proof.PrefSums
public import proofs.«01_k».proof.Defs
public import proofs.«01_k».proof.Proof.PrefRows
public import Idealize.ShloMosaic.Lib.Claim

@[expose] public section

set_option maxRecDepth 16384

noncomputable section

namespace Cert.Pref

open Idealize.ShloMosaic Idealize.ShloMosaic.TcCoe Idealize.SL.Sem Idealize.ShloMosaic.StableHlo
open Cert.PrefKernelIdeal Cert.PrefKernelIdeal.Gen Cert.Tables

section Kernel

variable (X W : ℕ → ℕ → EReal) (G : ℕ → EReal)

theorem block_rows : k0_pay1 (F := Ideal) (tab2 (φ := .f32) X) (tab2 (φ := .f32) fun _ d => G d) (tab2 (φ := .bf16) W)
    = (tab2 fun r j => entry (X r) G (W j) : FVec Ideal S1024x2048 .bf16) := by
  funext y
  idx_vars y
  pointwise [k0_pay1, tab2_ix2]
  rfl

/-- The projection's columns in the kernel's order, as rows. -/
def ordered (w : FVec Ideal S1024x1952 .f32) : FVec Ideal S2048x1024 .bf16 :=
  truncf .bf16 (concatenate S2048x1024 0
    [⟨S768x1024, extractStridedSlice S768x1024 ![1184, 0] (transpose S1952x1024 [1, 0] w transposes_S1024x1952_S1952x1024_1_0) slices_S1952x1024_S768x1024_1184_0⟩,
     ⟨S672x1024, extractStridedSlice S672x1024 ![0, 0] (transpose S1952x1024 [1, 0] w transposes_S1024x1952_S1952x1024_1_0) slices_S1952x1024_S672x1024_0_0⟩,
     ⟨S96x1024, broadcastInDim S96x1024 ![] bcast_S_S96x1024 (constant S_ .f32 0x00000000#32)⟩,
     ⟨S512x1024, extractStridedSlice S512x1024 ![672, 0] (transpose S1952x1024 [1, 0] w transposes_S1024x1952_S1952x1024_1_0) slices_S1952x1024_S512x1024_672_0⟩]
    concatenates_S768x1024_S672x1024_S96x1024_S512x1024_S2048x1024_d0) bitsLt_bf16_f32

theorem ordered_tab : ordered (tab2 (φ := .f32) W) = tab2 (φ := .bf16) fun j d => order (W d) j := by
  funext y
  idx_vars y
  pointwise [ordered, tab2_ix2]
  unfold order
  split_ifs <;> first | rfl | omega | exact congrArg _ (by omega)

/-- The rows' one batch. -/
def batch (x : FVec Ideal S1x4096x1024 .f32) : FVec Ideal S4096x1024 .f32 := shapeCast S4096x1024 x shapeCasts_S1x4096x1024_S4096x1024

theorem batch_tab (x : ℕ → ℕ → ℕ → EReal) : batch (tab3 x) = tab2 (φ := .f32) (x 0) := by
  funext y
  idx_vars y
  pointwise [batch, tab3_ix3, tab2_ix2]

/-- The scale as a row. -/
def asRow (g : FVec Ideal S1024 .f32) : FVec Ideal S1x1024 .f32 := shapeCast S1x1024 g shapeCasts_S1024_S1x1024

theorem asRow_tab (g : ℕ → EReal) : asRow (tab1 g) = tab2 (φ := .f32) fun _ d => g d := by
  funext y
  idx_vars y
  pointwise [asRow, tab1_ix1, tab2_ix2]

variable (m : (ℓ : Loc nD τ sig) → Buf (Elt Ideal) ℓ) (c : Dev nD)

/-- The arrays the kernel is given. -/
theorem operands : V m c main_v8 = ordered (m ((c.tc : Thread nD τ).loc main_arg2))
    ∧ V m c main_v9 = batch (m ((c.tc : Thread nD τ).loc main_arg0))
    ∧ V m c main_v10 = asRow (m ((c.tc : Thread nD τ).loc main_arg1)) := by
  simp only [V, hostOps0, List.flatten_cons, List.flatten_nil, List.append_nil, List.cons_append, List.nil_append, TRef.binary, TRef.nullary, TRef.ternary, TRef.unary, TRef.toBuf, TRef.ofBuf, cast_eq]
  after_results_simp
  refine ⟨rfl, rfl, rfl⟩

theorem block_index : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The kernel's arrays, as functions. -/
structure Holds : Prop where
  x : V m c main_v9 = tab2 (φ := .f32) X
  g : V m c main_v10 = tab2 (φ := .f32) fun _ d => G d
  w : V m c main_v8 = tab2 (φ := .bf16) W

variable {X W G m c} (H : Holds X W G m c)
include H

theorem block_x (t : Fin cfg0.N) : (iblk m c 0 t : FVec Ideal S1024x1024 .f32) = tab2 (φ := .f32) fun r d => X (1024 * t.val + r) d := by
  unfold iblk
  rw [show V m c (Pipeline.arrRef spec0 0) = _ from H.x]
  funext y
  have e := block_index t
  blk_simp
  blk_point [tab2, e]
  simp only [Nat.mul_comm]

theorem block_g (t : Fin cfg0.N) : (iblk m c 1 t : FVec Ideal S1x1024 .f32) = tab2 (φ := .f32) fun _ d => G d := by
  unfold iblk
  rw [show V m c (Pipeline.arrRef spec0 1) = _ from H.g]
  funext y
  have e := block_index t
  blk_simp
  blk_point [tab2, e]

theorem block_w (t : Fin cfg0.N) : (iblk m c 2 t : FVec Ideal S2048x1024 .bf16) = tab2 (φ := .bf16) W := by
  unfold iblk
  rw [show V m c (Pipeline.arrRef spec0 2) = _ from H.w]
  funext y
  have e := block_index t
  blk_simp
  blk_point [tab2, e]

/-- The kernel's array. -/
theorem final : (dats m 0 c).arrAt 3 (cfgs 0).N = (tab2 (φ := .bf16) fun r j => entry (X r) G (W j) : FVec Ideal S4096x2048 .bf16) := by
  refine (dats m 0 c).arrAt_eq_of_covers 3 _ (by decide +kernel) fun t _ y => ?_
  blk_simp
  rw [after0_3]
  have e := (block_index t).2.2.2
  have o : out0_3 (F := Ideal) (iblk m c 0 t) (iblk m c 1 t) (iblk m c 2 t) = (tab2 fun r j => entry (X (1024 * t.val + r)) G (W j) : FVec Ideal S1024x2048 .bf16) := by
    rw [block_x H, block_g H, block_w H, ← block_rows]
    frame_out
  rw [o]
  show entry (X (1024 * t.val + (y 0).val)) G (W (y 1).val) = entry (X (win0_3.index t 0 * 1024 + 1 * (y 0).val)) G (W (win0_3.index t 1 * 2048 + 1 * (y 1).val))
  rw [e]
  show _ = entry (X (t.val * 1024 + 1 * (y 0).val)) G (W (0 * 2048 + 1 * (y 1).val))
  rw [Nat.mul_comm t.val, one_mul, one_mul, zero_mul, zero_add]

omit H in
/-- The arguments and what the kernel is given of them. -/
theorem arguments (m : (ℓ : Loc nD τ sig) → Buf (Elt Ideal) ℓ) (c : Dev nD) : ∃ (x : ℕ → ℕ → ℕ → EReal) (g : ℕ → EReal) (w : ℕ → ℕ → EReal),
    m ((c.tc : Thread nD τ).loc main_arg0) = tab3 (φ := .f32) x ∧ m ((c.tc : Thread nD τ).loc main_arg1) = tab1 (φ := .f32) g
      ∧ m ((c.tc : Thread nD τ).loc main_arg2) = tab2 (φ := .f32) w ∧ Holds (x 0) (fun j d => order (w d) j) g m c := by
  obtain ⟨x, hx, -⟩ := exists_tab3 (φ := .f32) (m ((c.tc : Thread nD τ).loc main_arg0))
  obtain ⟨g, hg, -⟩ := exists_tab1 (φ := .f32) (m ((c.tc : Thread nD τ).loc main_arg1))
  obtain ⟨w, hw, -⟩ := exists_tab2 (φ := .f32) (m ((c.tc : Thread nD τ).loc main_arg2))
  obtain ⟨e, f, h⟩ := operands m c
  refine ⟨x, g, w, hx, hg, hw, ?_, ?_, ?_⟩
  · rw [f, hx]; exact batch_tab x
  · rw [h, hg]; exact asRow_tab g
  · rw [e, hw]; exact ordered_tab w

end Kernel

/-- The call's array is the projection of the normed rows, its columns in the kernel's order. -/
theorem algebraic : Cert.algebraic_PrefKernelIdeal_PrefReferenceIdeal := by
  intro m g m' g' _ hagree
  refine ⟨fun c => (dats m 0 c).arrAt 3 (cfgs 0).N, Cert.PrefKernelIdeal.Value.run_blocks m g, ?_⟩
  refine (θ_run _ _ _).mono (fun r h c => ?_) (run_stages m' g')
  obtain ⟨x, a, w, hx, ha, hw, H⟩ := arguments m c
  obtain ⟨h0, rest⟩ := h c
  obtain ⟨e0, e1, e2⟩ := hagree c
  rw [e0.trans hx, e1.trans ha, e2.trans hw, laid_tab] at h0
  exact ⟨h0.trans (final H).symm, rest⟩

end Cert.Pref
end
-- ==== Proof.PrefClaim.lean ====
/- The five claims about the forward call of the mix's first norm and projection. -/
module

public import proofs.«01_k».proof.Proof.PrefValue
public import proofs.«01_k».proof.Proof.Gen.PrefKernel.Frame

@[expose] public section

set_option maxRecDepth 16384

noncomputable section

namespace Cert.Pref

open Idealize.ShloMosaic Idealize.SL.Sem

/-- Every run ends, its arguments unchanged and its semaphores at rest. -/
theorem frame_kernel : Cert.quiescent_PrefKernel :=
  fun m ρ _ => Cert.PrefKernel.Gen.frame m ρ

/-- The same on the extended reals. -/
theorem frame_ideal : Cert.quiescent_PrefKernelIdeal :=
  fun m ρ _ => Cert.PrefKernelIdeal.Gen.frame m ρ

/-- Every run of the reference ends, its arguments unchanged; it has no semaphore. -/
theorem frame_reference : Cert.quiescent_PrefReferenceIdeal := fun m ρ _ =>
  (θ_run Cert.PrefReferenceIdeal.defs _ _).mono
    (fun r h => ⟨fun c => (h c).2, sem_eq_zero_of_no_sems (by decide) r.2⟩)
    (Cert.PrefReferenceIdeal.Value.run (F := Ideal) m ρ)

/-- Idealizing changes no operation but those named. -/
theorem preserves : Cert.preserves_PrefKernel_PrefKernelIdeal := trivial

end Cert.Pref

end
-- ==== Proof.MlafRows.lean ====
/- The latent projections' forward call: a row's numbers, as the reference and as the kernel computes them. -/
module

public import proofs.«01_k».proof.Proof.Tables

@[expose] public section

noncomputable section

namespace Cert.Mlaf

open Idealize.ShloMosaic

/-- The reciprocal root mean square of a row's 384 or 256 numbers. -/
def rootQ (x : ℕ → EReal) : EReal :=
  Ideal.rsqrt (Ideal.div (∑ d : Fin 384, x d.val * x d.val) (Ideal.ofBits FTy.f32 0x43C00000#32) + Ideal.ofBits FTy.f32 0x358637BD#32)
@[inherit_doc rootQ] def rootK (x : ℕ → EReal) : EReal :=
  Ideal.rsqrt (Ideal.div (∑ d : Fin 256, x d.val * x d.val) (Ideal.ofBits FTy.f32 0x43800000#32) + Ideal.ofBits FTy.f32 0x358637BD#32)

/-- The normed and scaled latents times a column: the queries' first 384 columns, the keys' and values' 256 behind them. -/
def query (z g w : ℕ → EReal) : EReal := ∑ d : Fin 384, z d.val * rootQ z * g d.val * w d.val
@[inherit_doc query] def keyval (z g w : ℕ → EReal) : EReal :=
  ∑ d : Fin 256, z (384 + d.val) * rootK (fun e => z (384 + e)) * g d.val * w d.val

theorem query_zero (z g : ℕ → EReal) : query z g (fun _ => 0) = 0 := by
  unfold query; simp only [mul_zero, Finset.sum_const_zero]
theorem keyval_zero (z g : ℕ → EReal) : keyval z g (fun _ => 0) = 0 := by
  unfold keyval; simp only [mul_zero, Finset.sum_const_zero]

theorem query_congr {z z' : ℕ → EReal} (h : ∀ d < 384, z d = z' d) (g w : ℕ → EReal) : query z g w = query z' g w := by
  have e : rootQ z = rootQ z' := by
    unfold rootQ
    rw [Finset.sum_congr rfl fun d _ => by rw [h d.val d.isLt]]
  unfold query
  rw [e]
  exact Finset.sum_congr rfl fun d _ => by rw [h d.val d.isLt]
theorem keyval_congr {z z' : ℕ → EReal} (h : ∀ d < 256, z (384 + d) = z' (384 + d)) (g w : ℕ → EReal) : keyval z g w = keyval z' g w := by
  have e : rootK (fun e => z (384 + e)) = rootK (fun e => z' (384 + e)) := by
    unfold rootK
    rw [Finset.sum_congr rfl fun d _ => by beta_reduce; rw [h d.val d.isLt]]
  unfold keyval
  rw [e]
  exact Finset.sum_congr rfl fun d _ => by rw [h d.val d.isLt]

/-- A group's 96 columns filled up to 128 lanes. -/
def padQ (f : ℕ → EReal) (j : ℕ) : EReal := if j % 128 < 96 then f (96 * (j / 128) + j % 128) else 0

/-- The keys' 64 columns of a group filled up to 128 lanes, the values' columns behind them all. -/
def padK (f : ℕ → EReal) (j : ℕ) : EReal :=
  if j < 1024 then if j % 128 < 64 then f (128 * (j / 128) + j % 128) else 0 else f (128 * ((j - 1024) / 64) + 64 + (j - 1024) % 64)

theorem query_pad (z g : ℕ → EReal) (w : ℕ → ℕ → EReal) (j : ℕ) : query z g (fun d => padQ (w d) j) = padQ (fun k => query z g fun d => w d k) j := by
  unfold padQ
  split_ifs
  · rfl
  · exact query_zero z g

theorem keyval_pad (z g : ℕ → EReal) (w : ℕ → ℕ → EReal) (j : ℕ) : keyval z g (fun d => padK (w d) j) = padK (fun k => keyval z g fun d => w d k) j := by
  unfold padK
  split_ifs
  · rfl
  · exact keyval_zero z g
  · rfl

/-- A row of the first projection in the kernel's order. -/
def ordered (z : ℕ → EReal) (j : ℕ) : EReal := if j < 768 then z (1184 + j) else if j < 1440 then z (j - 768) else if j < 1536 then 0 else z (j - 864)

/-- The 768 columns of it that the kernel reads. -/
def latent (z : ℕ → EReal) (j : ℕ) : EReal := ordered z (768 + j)

theorem latent_eq (z : ℕ → EReal) {j : ℕ} (h : j < 672) : latent z j = z j := by
  unfold latent ordered
  rw [if_neg (by omega), if_pos (by omega)]
  exact congrArg z (by omega)

theorem latent_zero (z : ℕ → EReal) {j : ℕ} (h : 672 ≤ j) (h' : j < 768) : latent z j = 0 := by
  unfold latent ordered
  rw [if_neg (by omega), if_neg (by omega), if_pos (by omega)]

theorem query_latent (z g w : ℕ → EReal) : query (latent z) g w = query z g w := query_congr (fun _ h => latent_eq z (by omega)) g w
theorem keyval_latent (z g w : ℕ → EReal) : keyval (latent z) g w = keyval z g w := keyval_congr (fun _ h => latent_eq z (by omega)) g w

/-- The rotation of lanes 64 to 96, the first 64 kept. -/
def turned (co si t : ℕ → EReal) (l : ℕ) : EReal :=
  if l < 64 then t l else if l < 80 then t l * co (l - 64) - t (l + 16) * si (l - 64) else if l < 96 then t l * co (l - 80) + t (l - 16) * si (l - 80) else 0

/-- The kernel's three tables. -/
def tableA (co : ℕ → EReal) (l : ℕ) : EReal := if l < 64 then 1 else if l < 80 then co (l - 64) else if l < 96 then co (l - 80) else 0
@[inherit_doc tableA] def tableB (si : ℕ → EReal) (l : ℕ) : EReal := if l < 64 then 0 else if l < 80 then -si (l - 64) else 0
@[inherit_doc tableA] def tableC (si : ℕ → EReal) (l : ℕ) : EReal := if l < 80 then 0 else if l < 96 then si (l - 80) else 0

/-- The kernel's rotation: a block of 128 lanes and its two rolls, weighted by the tables. -/
def spun (a b c t : ℕ → EReal) (l : ℕ) : EReal := t l * a l + t ((l + 16) % 128) * b l + t ((l + 112) % 128) * c l

theorem spun_eq (co si t : ℕ → EReal) {l : ℕ} (h : l < 128) : spun (tableA co) (tableB si) (tableC si) t l = turned co si t l := by
  unfold spun turned tableA tableB tableC
  by_cases h1 : l < 64
  · simp only [if_pos h1, if_pos (show l < 80 by omega), mul_one, mul_zero, add_zero]
  · by_cases h2 : l < 80
    · simp only [if_neg h1, if_pos h2, mul_zero, add_zero, mul_neg, ← sub_eq_add_neg, show (l + 16) % 128 = l + 16 by omega]
    · by_cases h3 : l < 96
      · simp only [if_neg h1, if_neg h2, if_pos h3, mul_zero, add_zero, show (l + 112) % 128 = l - 16 by omega]
      · simp only [if_neg h1, if_neg h2, if_neg h3, mul_zero, add_zero]

/-- The queries' lanes. -/
def qLane (co si z g : ℕ → EReal) (w : ℕ → ℕ → EReal) (j : ℕ) : EReal :=
  turned co si (fun l => query z g fun d => w d (96 * (j / 128) + l)) (j % 128)

/-- The keys' lanes: the head's own 64, the shared rotated 32, and 32 zeros. -/
def kLane (co si z g : ℕ → EReal) (w : ℕ → ℕ → EReal) (j : ℕ) : EReal :=
  if j % 128 < 64 then keyval z g fun d => w d (128 * (j / 128) + j % 128) else turned co si (fun l => z (640 + (l - 64))) (j % 128)

/-- The values' lanes. -/
def vLane (z g : ℕ → EReal) (w : ℕ → ℕ → EReal) (j : ℕ) : EReal := keyval z g fun d => w d (128 * (j / 64) + 64 + j % 64)

/-- The rotation looks at lanes below 96 only. -/
theorem turned_congr (co si : ℕ → EReal) {t u : ℕ → EReal} {l : ℕ} (h : ∀ k, k < 96 → (64 ≤ l → 64 ≤ k) → t k = u k) :
    turned co si t l = turned co si u l := by
  unfold turned
  split_ifs with h1 h2 h3
  · exact h l (by omega) (by omega)
  · rw [h l (by omega) (by omega), h (l + 16) (by omega) (by omega)]
  · rw [h l (by omega) (by omega), h (l - 16) (by omega) (by omega)]
  · rfl

/-- What the kernel makes of the padded queries. -/
theorem spun_query (co si z g : ℕ → EReal) (w : ℕ → ℕ → EReal) (j : ℕ) :
    spun (tableA co) (tableB si) (tableC si) (fun l => query (latent z) g fun d => padQ (w d) (128 * (j / 128) + l)) (j % 128) = qLane co si z g w j := by
  rw [spun_eq co si _ (Nat.mod_lt _ (by decide))]
  refine turned_congr co si fun k hk _ => ?_
  rw [query_pad]
  unfold padQ
  rw [if_pos (by omega), show (128 * (j / 128) + k) / 128 = j / 128 by omega, show (128 * (j / 128) + k) % 128 = k by omega]
  exact query_latent z g _

/-- What it makes of the padded keys. -/
theorem spun_key (co si z g : ℕ → EReal) (w : ℕ → ℕ → EReal) {j : ℕ} (hj : j < 1024) :
    keyval (latent z) g (fun d => padK (w d) (128 * (j / 128) + j % 128))
      + spun (tableA co) (tableB si) (tableC si) (fun l => latent z (640 + (l + 64) % 128)) (j % 128) = kLane co si z g w j := by
  have hl : j % 128 < 128 := Nat.mod_lt _ (by decide)
  rw [keyval_pad, spun_eq co si _ hl]
  unfold padK kLane
  rw [if_pos (by omega), show (128 * (j / 128) + j % 128) / 128 = j / 128 by omega, show (128 * (j / 128) + j % 128) % 128 = j % 128 by omega]
  split_ifs with h
  · rw [show turned co si (fun l => latent z (640 + (l + 64) % 128)) (j % 128) = 0 from ?_, add_zero]
    · exact keyval_latent z g _
    · unfold turned
      rw [if_pos h]
      exact latent_zero z (by omega) (by omega)
  · rw [zero_add]
    refine turned_congr co si fun k hk h64 => ?_
    rw [latent_eq z (by have := h64 (by omega); omega)]
    exact congrArg z (by have := h64 (by omega); omega)

/-- And of the values. -/
theorem padded_value (z g : ℕ → EReal) (w : ℕ → ℕ → EReal) (j : ℕ) : keyval (latent z) g (fun d => padK (w d) (1024 + j)) = vLane z g w j := by
  rw [keyval_latent]
  unfold padK vLane
  rw [show 1024 + j - 1024 = j by omega]
  simp only [if_neg (show ¬ 1024 + j < 1024 by omega)]

end Cert.Mlaf
end
-- ==== Proof.MlafBlock.lean ====
/- The latent projections' forward call: what the kernel computes of a block of rows. -/
module

public import proofs.«01_k».proof.Proof.Gen.MlafKernelIdeal.Value
public import proofs.«01_k».proof.Proof.MlafRows
public import proofs.«01_k».proof.Proof.Scalars

@[expose] public section

set_option maxRecDepth 16384

noncomputable section

namespace Cert.Mlaf

open Idealize.ShloMosaic Idealize.ShloMosaic.TcCoe Idealize.SL.Sem Idealize.ShloMosaic.StableHlo
open Cert.MlafKernelIdeal Cert.MlafKernelIdeal.Gen Cert.Tables Cert.Scalars

variable (A B C Z : ℕ → ℕ → EReal) (G : ℕ → EReal) (W : ℕ → ℕ → EReal)

/-- The queries before the rotation. -/
theorem queries_block : k0_pay10 (F := Ideal) (k0_pay9 (tab2 (φ := .bf16) Z) (tab2 (φ := .f32) fun _ d => G d)) (tab2 (φ := .bf16) W)
    = (tab2 fun r j => query (Z r) G (W j) : FVec Ideal S1024x1024 .f32) := by
  funext y
  idx_vars y
  pointwise [k0_pay10, k0_pay9, k0_pay4, tab2_ix2]
  rfl

/-- The keys before the rotated part is added, and the values. -/
theorem keyvals_block : k0_pay11 (F := Ideal) (k0_pay8 (tab2 (φ := .bf16) Z) (tab2 (φ := .f32) fun _ d => G d)) (tab2 (φ := .bf16) W)
    = (tab2 fun r j => keyval (Z r) G (W j) : FVec Ideal S1024x1536 .f32) := by
  funext y
  idx_vars y
  pointwise [k0_pay11, k0_pay8, k0_pay4, tab2_ix2]
  rfl

/-- The rotated key that the heads share. -/
theorem shared_block : k0_pay12 (F := Ideal) (k0_pay4 (tab2 (φ := .bf16) Z)) (k0_pay5 (tab2 (φ := .f32) A)) (k0_pay6 (tab2 (φ := .f32) B)) (k0_pay7 (tab2 (φ := .f32) C))
    = (tab2 fun r l => spun (A r) (B r) (C r) (fun l => Z r (640 + (l + 64) % 128)) l : FVec Ideal S1024x128 .f32) := by
  funext y
  idx_vars y
  pointwise [k0_pay12, k0_pay4, k0_pay5, k0_pay6, k0_pay7, tab2_ix2]
  unfold spun
  rfl

/-- A head's queries rotated. -/
theorem turn_tile {D : FVec Ideal S1024x1024 .f32} {Q : ℕ → ℕ → EReal} (hD : D = tab2 Q) (o : ℕ) (hs : S1024x1024.Slices ![0, o] S1024x128) :
    (truncf .bf16 (addf (addf (mulf (extractStridedSlice S1024x128 ![0, o] D hs) (k0_pay5 (tab2 (φ := .f32) A)))
      (mulf (dynamicRotate 1 112#32 none (extractStridedSlice S1024x128 ![0, o] D hs) rotates_S1024x128_d1) (k0_pay6 (tab2 (φ := .f32) B))))
      (mulf (dynamicRotate 1 16#32 none (extractStridedSlice S1024x128 ![0, o] D hs) rotates_S1024x128_d1) (k0_pay7 (tab2 (φ := .f32) C)))) bitsLt_bf16_f32 : FVec Ideal S1024x128 .bf16)
    = (tab2 fun r l => spun (A r) (B r) (C r) (fun l => Q r (o + l)) l : FVec Ideal S1024x128 .bf16) := by
  subst hD
  funext y
  idx_vars y
  pointwise [k0_pay5, k0_pay6, k0_pay7, tab2_ix2]
  rfl

/-- A head's keys. -/
theorem key_tile {D : FVec Ideal S1024x1536 .f32} {K : FVec Ideal S1024x128 .f32} {P Q : ℕ → ℕ → EReal} (hD : D = tab2 P) (hK : K = tab2 Q) (o : ℕ)
    (hs : S1024x1536.Slices ![0, o] S1024x128) :
    (truncf .bf16 (addf (extractStridedSlice S1024x128 ![0, o] D hs) K) bitsLt_bf16_f32 : FVec Ideal S1024x128 .bf16)
    = (tab2 fun r l => P r (o + l) + Q r l : FVec Ideal S1024x128 .bf16) := by
  subst hD hK
  funext y
  idx_vars y
  pointwise [tab2_ix2]

/-- The values. -/
theorem values_block (P : ℕ → ℕ → EReal) : k0_pay3 (F := Ideal) (tab2 (φ := .f32) P) = (tab2 fun r j => P r (1024 + j) : FVec Ideal S1024x512 .bf16) := by
  funext y
  idx_vars y
  pointwise [k0_pay3, tab2_ix2]

end Cert.Mlaf
end
-- ==== Proof.MlafTiles.lean ====
/- The latent projections' forward call: what the kernel leaves of a block of rows. -/
module

public import proofs.«01_k».proof.Proof.MlafBlock
public import Idealize.ShloMosaic.Lib.Pipeline.ValueKit.Tiles

@[expose] public section

set_option maxRecDepth 16384

noncomputable section

namespace Cert.Mlaf

open Idealize.ShloMosaic Idealize.ShloMosaic.TcCoe Idealize.SL.Sem Idealize.ShloMosaic.StableHlo
open Cert.MlafKernelIdeal Cert.MlafKernelIdeal.Gen Cert.Tables

variable (A B C Z : ℕ → ℕ → EReal) (G K : ℕ → EReal) (W U : ℕ → ℕ → EReal)
  (m : (ℓ : Loc nD τ sig) → Buf (Elt Ideal) ℓ) (c : Dev nD) (t : Fin cfg0.N)

/-- A block's arrays, as functions. -/
structure Block : Prop where
  z : (X0_0 m c t : FVec Ideal S1024x768 .bf16) = tab2 (φ := .bf16) Z
  ta : (iblk m c 1 t : FVec Ideal S1024x128 .f32) = tab2 (φ := .f32) A
  tb : (iblk m c 2 t : FVec Ideal S1024x128 .f32) = tab2 (φ := .f32) B
  tc : (iblk m c 3 t : FVec Ideal S1024x128 .f32) = tab2 (φ := .f32) C
  gq : (iblk m c 4 t : FVec Ideal S1x384 .f32) = tab2 (φ := .f32) fun _ d => G d
  gk : (iblk m c 5 t : FVec Ideal S1x256 .f32) = tab2 (φ := .f32) fun _ d => K d
  wq : (iblk m c 6 t : FVec Ideal S1024x384 .bf16) = tab2 (φ := .bf16) W
  wk : (iblk m c 7 t : FVec Ideal S1536x256 .bf16) = tab2 (φ := .bf16) U

variable {A B C Z G K W U m c t} (H : Block A B C Z G K W U m c t)
include H

/-- The rotated queries. -/
theorem queries_out : (outsAt0 m c t).1
    = (tab2 fun r j => spun (A r) (B r) (C r) (fun l => query (Z r) G (W (128 * (j / 128) + l))) (j % 128) : FVec Ideal S1024x1024 .bf16) := by
  unfold outsAt0
  dsimp only
  rw [H.z, H.ta, H.tb, H.tc, H.gq, H.gk, H.wq, H.wk]
  frame_out
  funext y
  have e (n : ℕ) {l r : ℕ} (hl : l < 128) (h0 : (y 0).val = r) (h1 : (y 1).val = 128 * n + l) :
      spun (A r) (B r) (C r) (fun l => query (Z r) G (W (128 * n + l))) l
        = (tab2 fun r j => spun (A r) (B r) (C r) (fun l => query (Z r) G (W (128 * (j / 128) + l))) (j % 128) : FVec Ideal S1024x1024 .bf16) y := by
    show _ = spun (A (y 0).val) (B (y 0).val) (C (y 0).val) (fun l => query (Z (y 0).val) G (W (128 * ((y 1).val / 128) + l))) ((y 1).val % 128)
    rw [h0, show (y 1).val / 128 = n by omega, show (y 1).val % 128 = l by omega]
  canon_tiles x h
  · exact (congrFun (turn_tile A B C (queries_block Z G W) 896 slices_S1024x1024_o0_896_S1024x128) x).trans (e 7 x1_lt h0 (by omega))
  · exact (congrFun (turn_tile A B C (queries_block Z G W) 768 slices_S1024x1024_o0_768_S1024x128) x).trans (e 6 x1_lt h0 (by omega))
  · exact (congrFun (turn_tile A B C (queries_block Z G W) 640 slices_S1024x1024_o0_640_S1024x128) x).trans (e 5 x1_lt h0 (by omega))
  · exact (congrFun (turn_tile A B C (queries_block Z G W) 512 slices_S1024x1024_o0_512_S1024x128) x).trans (e 4 x1_lt h0 (by omega))
  · exact (congrFun (turn_tile A B C (queries_block Z G W) 384 slices_S1024x1024_o0_384_S1024x128) x).trans (e 3 x1_lt h0 (by omega))
  · exact (congrFun (turn_tile A B C (queries_block Z G W) 256 slices_S1024x1024_o0_256_S1024x128) x).trans (e 2 x1_lt h0 (by omega))
  · exact (congrFun (turn_tile A B C (queries_block Z G W) 128 slices_S1024x1024_o0_128_S1024x128) x).trans (e 1 x1_lt h0 (by omega))
  · exact (congrFun (turn_tile A B C (queries_block Z G W) 0 slices_S1024x1024_o0_0_S1024x128) x).trans (e 0 x1_lt h0 (by omega))

/-- The keys. -/
theorem keys_out : (outsAt0 m c t).2.1
    = (tab2 fun r j => keyval (Z r) K (U (128 * (j / 128) + j % 128)) + spun (A r) (B r) (C r) (fun l => Z r (640 + (l + 64) % 128)) (j % 128) : FVec Ideal S1024x1024 .bf16) := by
  unfold outsAt0
  dsimp only
  rw [H.z, H.ta, H.tb, H.tc, H.gq, H.gk, H.wq, H.wk]
  frame_out
  funext y
  have e (n : ℕ) {l r : ℕ} (hl : l < 128) (h0 : (y 0).val = r) (h1 : (y 1).val = 128 * n + l) :
      keyval (Z r) K (U (128 * n + l)) + spun (A r) (B r) (C r) (fun l => Z r (640 + (l + 64) % 128)) l
        = (tab2 fun r j => keyval (Z r) K (U (128 * (j / 128) + j % 128)) + spun (A r) (B r) (C r) (fun l => Z r (640 + (l + 64) % 128)) (j % 128) :
          FVec Ideal S1024x1024 .bf16) y := by
    show _ = keyval (Z (y 0).val) K (U (128 * ((y 1).val / 128) + (y 1).val % 128))
      + spun (A (y 0).val) (B (y 0).val) (C (y 0).val) (fun l => Z (y 0).val (640 + (l + 64) % 128)) ((y 1).val % 128)
    rw [h0, show (y 1).val / 128 = n by omega, show (y 1).val % 128 = l by omega]
  canon_tiles x h
  · exact (congrFun (key_tile (keyvals_block Z K U) (shared_block A B C Z) 896 slices_S1024x1536_o0_896_S1024x128) x).trans (e 7 x1_lt h0 (by omega))
  · exact (congrFun (key_tile (keyvals_block Z K U) (shared_block A B C Z) 768 slices_S1024x1536_o0_768_S1024x128) x).trans (e 6 x1_lt h0 (by omega))
  · exact (congrFun (key_tile (keyvals_block Z K U) (shared_block A B C Z) 640 slices_S1024x1536_o0_640_S1024x128) x).trans (e 5 x1_lt h0 (by omega))
  · exact (congrFun (key_tile (keyvals_block Z K U) (shared_block A B C Z) 512 slices_S1024x1536_o0_512_S1024x128) x).trans (e 4 x1_lt h0 (by omega))
  · exact (congrFun (key_tile (keyvals_block Z K U) (shared_block A B C Z) 384 slices_S1024x1536_o0_384_S1024x128) x).trans (e 3 x1_lt h0 (by omega))
  · exact (congrFun (key_tile (keyvals_block Z K U) (shared_block A B C Z) 256 slices_S1024x1536_o0_256_S1024x128) x).trans (e 2 x1_lt h0 (by omega))
  · exact (congrFun (key_tile (keyvals_block Z K U) (shared_block A B C Z) 128 slices_S1024x1536_o0_128_S1024x128) x).trans (e 1 x1_lt h0 (by omega))
  · exact (congrFun (key_tile (keyvals_block Z K U) (shared_block A B C Z) 0 slices_S1024x1536_o0_0_S1024x128) x).trans (e 0 x1_lt h0 (by omega))

/-- The values. -/
theorem values_out : (outsAt0 m c t).2.2 = (tab2 fun r j => keyval (Z r) K (U (1024 + j)) : FVec Ideal S1024x512 .bf16) := by
  unfold outsAt0
  dsimp only
  rw [H.z, H.ta, H.tb, H.tc, H.gq, H.gk, H.wq, H.wk]
  frame_out
  rw [keyvals_block, values_block]

end Cert.Mlaf
end
-- ==== Proof.MlafLay.lean ====
/- The latent projections' forward call: the arrays the kernel is given, made of its arguments. -/
module

public import proofs.«01_k».proof.Proof.Gen.MlafKernelIdeal.Skeleton
public import proofs.«01_k».proof.Proof.MlafRows
public import proofs.«01_k».proof.Proof.Scalars

@[expose] public section

set_option maxRecDepth 16384

noncomputable section

namespace Cert.Mlaf

open Idealize.ShloMosaic Idealize.ShloMosaic.TcCoe Idealize.SL.Sem Idealize.ShloMosaic.StableHlo
open Cert.MlafKernelIdeal Cert.MlafKernelIdeal.Gen Cert.Tables Cert.Scalars

/-- The three tables of the rotation. -/
def layA (co : FVec Ideal S1x4096x16 .f32) : FVec Ideal S4096x128 .f32 :=
  concatenate S4096x128 1 [⟨S4096x64, broadcastInDim S4096x64 ![] bcast_S_S4096x64 (constant S_ .f32 0x3F800000#32)⟩,
    ⟨S4096x16, shapeCast S4096x16 co shapeCasts_S1x4096x16_S4096x16⟩, ⟨S4096x16, shapeCast S4096x16 co shapeCasts_S1x4096x16_S4096x16⟩,
    ⟨S4096x32, broadcastInDim S4096x32 ![] bcast_S_S4096x32 (constant S_ .f32 0x00000000#32)⟩] concatenates_S4096x64_S4096x16_S4096x16_S4096x32_S4096x128_d1
@[inherit_doc layA] def layB (si : FVec Ideal S1x4096x16 .f32) : FVec Ideal S4096x128 .f32 :=
  concatenate S4096x128 1 [⟨S4096x64, broadcastInDim S4096x64 ![] bcast_S_S4096x64 (constant S_ .f32 0x00000000#32)⟩,
    ⟨S4096x16, Host.negf (shapeCast S4096x16 si shapeCasts_S1x4096x16_S4096x16)⟩,
    ⟨S4096x48, broadcastInDim S4096x48 ![] bcast_S_S4096x48 (constant S_ .f32 0x00000000#32)⟩] concatenates_S4096x64_S4096x16_S4096x48_S4096x128_d1
@[inherit_doc layA] def layC (si : FVec Ideal S1x4096x16 .f32) : FVec Ideal S4096x128 .f32 :=
  concatenate S4096x128 1 [⟨S4096x80, broadcastInDim S4096x80 ![] bcast_S_S4096x80 (constant S_ .f32 0x00000000#32)⟩,
    ⟨S4096x16, shapeCast S4096x16 si shapeCasts_S1x4096x16_S4096x16⟩,
    ⟨S4096x32, broadcastInDim S4096x32 ![] bcast_S_S4096x32 (constant S_ .f32 0x00000000#32)⟩] concatenates_S4096x80_S4096x16_S4096x32_S4096x128_d1

/-- The columns of the first projection in the kernel's order. -/
def layZ (z : FVec Ideal S1x4096x1952 .f32) : FVec Ideal S4096x2048 .bf16 :=
  truncf .bf16 (concatenate S4096x2048 1
    [⟨S4096x768, shapeCast S4096x768 (extractStridedSlice S1x4096x768 ![0, 0, 1184] z slices_S1x4096x1952_S1x4096x768_0_0_1184) shapeCasts_S1x4096x768_S4096x768⟩,
      ⟨S4096x672, shapeCast S4096x672 (extractStridedSlice S1x4096x672 ![0, 0, 0] z slices_S1x4096x1952_S1x4096x672_0_0_0) shapeCasts_S1x4096x672_S4096x672⟩,
      ⟨S4096x96, broadcastInDim S4096x96 ![] bcast_S_S4096x96 (constant S_ .f32 0x00000000#32)⟩,
      ⟨S4096x512, shapeCast S4096x512 (extractStridedSlice S1x4096x512 ![0, 0, 672] z slices_S1x4096x1952_S1x4096x512_0_0_672) shapeCasts_S1x4096x512_S4096x512⟩]
    concatenates_S4096x768_S4096x672_S4096x96_S4096x512_S4096x2048_d1) bitsLt_bf16_f32

/-- The query's second projection, a group's 96 rows filled up to 128. -/
def layUq (w : FVec Ideal S384x768 .f32) : FVec Ideal S1024x384 .bf16 :=
  truncf .bf16 (shapeCast S1024x384 (pad S8x128x384 ![0, 0, 0] ![0, 32, 0] ![0, 0, 0]
    (shapeCast S8x96x384 (transpose S768x384 [1, 0] w transposes_S384x768_S768x384_1_0) shapeCasts_S768x384_S8x96x384) (sitofp .f32 (constantI S_ 32 0#32))
    pads_S8x96x384_S8x128x384_000_0320_000 h_S_) shapeCasts_S8x128x384_S1024x384) bitsLt_bf16_f32

/-- The second projection of keys and values, the keys' 64 rows of a group filled up to 128, the values' rows behind. -/
def layUkv (w : FVec Ideal S256x1024 .f32) : FVec Ideal S1536x256 .bf16 :=
  truncf .bf16 (concatenate S1536x256 0
    [⟨S1024x256, shapeCast S1024x256 (pad S8x128x256 ![0, 0, 0] ![0, 64, 0] ![0, 0, 0] (extractStridedSlice S8x64x256 ![0, 0, 0]
        (shapeCast S8x128x256 (transpose S1024x256 [1, 0] w transposes_S256x1024_S1024x256_1_0) shapeCasts_S1024x256_S8x128x256) slices_S8x128x256_S8x64x256_0_0_0)
        (sitofp .f32 (constantI S_ 32 0#32)) pads_S8x64x256_S8x128x256_000_0640_000 h_S_) shapeCasts_S8x128x256_S1024x256⟩,
      ⟨S512x256, shapeCast S512x256 (extractStridedSlice S8x64x256 ![0, 64, 0]
        (shapeCast S8x128x256 (transpose S1024x256 [1, 0] w transposes_S256x1024_S1024x256_1_0) shapeCasts_S1024x256_S8x128x256) slices_S8x128x256_S8x64x256_0_64_0)
        shapeCasts_S8x64x256_S512x256⟩] concatenates_S1024x256_S512x256_S1536x256_d0) bitsLt_bf16_f32

/-- The scales as rows. -/
def layGq (g : FVec Ideal S384 .f32) : FVec Ideal S1x384 .f32 := shapeCast S1x384 g shapeCasts_S384_S1x384
@[inherit_doc layGq] def layGk (g : FVec Ideal S256 .f32) : FVec Ideal S1x256 .f32 := shapeCast S1x256 g shapeCasts_S256_S1x256

theorem fill_zero : (FloatOps.sitofp FTy.f32 0#32 : Ideal .f32) = 0 :=
  show (((0#32 : BitVec 32).toInt : ℝ) : EReal) = _ by simp

theorem layA_tab (co : ℕ → ℕ → ℕ → EReal) : layA (tab3 co) = tab2 (φ := .f32) fun r l => tableA (co 0 r) l := by
  funext y
  idx_vars y
  have h := y1.isLt
  pointwise [layA, tab2_ix2, tab3_ix3, one_word, EReal.coe_one]
  unfold tableA
  split_ifs <;> first | omega | rfl | exact congrArg _ (by omega)

theorem layB_tab (si : ℕ → ℕ → ℕ → EReal) : layB (tab3 si) = tab2 (φ := .f32) fun r l => tableB (si 0 r) l := by
  funext y
  idx_vars y
  have h := y1.isLt
  pointwise [layB, tab2_ix2, tab3_ix3]
  unfold tableB
  split_ifs <;> first | omega | rfl | exact congrArg (fun k => -si _ _ k) (by omega)

theorem layC_tab (si : ℕ → ℕ → ℕ → EReal) : layC (tab3 si) = tab2 (φ := .f32) fun r l => tableC (si 0 r) l := by
  funext y
  idx_vars y
  have h := y1.isLt
  pointwise [layC, tab2_ix2, tab3_ix3]
  unfold tableC
  split_ifs <;> first | omega | rfl | exact congrArg _ (by omega)

theorem layZ_tab (z : ℕ → ℕ → ℕ → EReal) : layZ (tab3 z) = tab2 (φ := .bf16) fun r j => ordered (z 0 r) j := by
  funext y
  idx_vars y
  have h := y1.isLt
  pointwise [layZ, tab2_ix2, tab3_ix3]
  unfold ordered
  split_ifs <;> first | omega | rfl | exact congrArg _ (by omega)

theorem layUq_tab (w : ℕ → ℕ → EReal) : layUq (tab2 w) = tab2 (φ := .bf16) fun j d => padQ (w d) j := by
  funext y
  idx_vars y
  have h := y0.isLt
  pointwise [layUq, tab2_ix2, fill_zero]
  unfold padQ
  split_ifs <;> first | omega | rfl | exact congrArg _ (by omega)

theorem layUkv_tab (w : ℕ → ℕ → EReal) : layUkv (tab2 w) = tab2 (φ := .bf16) fun j d => padK (w d) j := by
  funext y
  idx_vars y
  have h := y0.isLt
  pointwise [layUkv, tab2_ix2, fill_zero]
  unfold padK
  split_ifs <;> first | omega | rfl | exact congrArg _ (by omega)

theorem layGq_tab (g : ℕ → EReal) : layGq (tab1 g) = tab2 (φ := .f32) fun _ d => g d := by
  funext y
  idx_vars y
  pointwise [layGq, tab1_ix1, tab2_ix2]

theorem layGk_tab (g : ℕ → EReal) : layGk (tab1 g) = tab2 (φ := .f32) fun _ d => g d := by
  funext y
  idx_vars y
  pointwise [layGk, tab1_ix1, tab2_ix2]

end Cert.Mlaf
end
-- ==== Proof.MlafSums.lean ====
/- The reference of the latent projections' forward call, by stage. -/
module

public import proofs.«01_k».proof.Proof.Gen.MlafReferenceIdeal.Run
public import proofs.«01_k».proof.Proof.MlafRows

@[expose] public section

set_option maxRecDepth 16384

noncomputable section

namespace Cert.Mlaf

open Idealize.ShloMosaic Idealize.ShloMosaic.TcCoe Idealize.SL.Sem Idealize.ShloMosaic.StableHlo
open Cert.MlafReferenceIdeal Cert.MlafReferenceIdeal.Gen Cert.Tables

/-- The array of rank four of a function's values. -/
def tab4 {a b c d : ℕ} {φ : FTy} (f : ℕ → ℕ → ℕ → ℕ → EReal) : FVec Ideal ⟨4, ![a, b, c, d]⟩ φ := fun y => f (y 0).val (y 1).val (y 2).val (y 3).val

theorem tab4_ix4 {a b c d : ℕ} {φ : FTy} (f : ℕ → ℕ → ℕ → ℕ → EReal) (i : Fin a) (j : Fin b) (k : Fin c) (l : Fin d) :
    tab4 (φ := φ) f (ix4 i j k l) = f i.val j.val k.val l.val := rfl

/-- The latents a row's queries are made of, and those its keys and values are made of. -/
def colsQ (z : FVec Ideal S1x4096x1952 .f32) : FVec Ideal S1x4096x384 .f32 := extractStridedSlice S1x4096x384 ![0, 0, 0] z slices_S1x4096x1952_S1x4096x384_0_0_0
@[inherit_doc colsQ] def colsK (z : FVec Ideal S1x4096x1952 .f32) : FVec Ideal S1x4096x256 .f32 := extractStridedSlice S1x4096x256 ![0, 0, 384] z slices_S1x4096x1952_S1x4096x256_0_0_384

theorem colsQ_tab (z : ℕ → ℕ → ℕ → EReal) : colsQ (tab3 z) = tab3 (φ := .f32) z := by
  funext y
  idx_vars y
  pointwise [colsQ, tab3_ix3]

theorem colsK_tab (z : ℕ → ℕ → ℕ → EReal) : colsK (tab3 z) = tab3 (φ := .f32) fun b r d => z b r (384 + d) := by
  funext y
  idx_vars y
  pointwise [colsK, tab3_ix3]

/-- Each row's reciprocal root mean square, along the row. -/
def rootRowQ (x : FVec Ideal S1x4096x384 .f32) : FVec Ideal S1x4096x384 .f32 :=
  broadcastInDim S1x4096x384 ![0, 1, 2] bcast_S1x4096x1_S1x4096x384_0_1_2 (Host.rsqrt (addf
    (Host.divf (broadcastInDim S1x4096x1 ![0, 1] bcast_S1x4096_S1x4096x1_0_1 (Host.reduceAdd (mulf x x) (constant S_ .f32 0x00000000#32) reducesTo_S1x4096x384_S1x4096_d2 h_S_))
      (broadcastInDim S1x4096x1 ![] bcast_S_S1x4096x1 (constant S_ .f32 0x43C00000#32))) (broadcastInDim S1x4096x1 ![] bcast_S_S1x4096x1 (constant S_ .f32 0x358637BD#32))))
@[inherit_doc rootRowQ] def rootRowK (x : FVec Ideal S1x4096x256 .f32) : FVec Ideal S1x4096x256 .f32 :=
  broadcastInDim S1x4096x256 ![0, 1, 2] bcast_S1x4096x1_S1x4096x256_0_1_2 (Host.rsqrt (addf
    (Host.divf (broadcastInDim S1x4096x1 ![0, 1] bcast_S1x4096_S1x4096x1_0_1 (Host.reduceAdd (mulf x x) (constant S_ .f32 0x00000000#32) reducesTo_S1x4096x256_S1x4096_d2 h_S_))
      (broadcastInDim S1x4096x1 ![] bcast_S_S1x4096x1 (constant S_ .f32 0x43800000#32))) (broadcastInDim S1x4096x1 ![] bcast_S_S1x4096x1 (constant S_ .f32 0x358637BD#32))))

theorem rootRowQ_tab (x : ℕ → ℕ → ℕ → EReal) : rootRowQ (tab3 x) = tab3 (φ := .f32) fun b r _ => rootQ (x b r) := by
  funext y
  idx_vars y
  pointwise [rootRowQ, tab3_ix3]
  rfl

theorem rootRowK_tab (x : ℕ → ℕ → ℕ → EReal) : rootRowK (tab3 x) = tab3 (φ := .f32) fun b r _ => rootK (x b r) := by
  funext y
  idx_vars y
  pointwise [rootRowK, tab3_ix3]
  rfl

/-- The scale along the rows. -/
def scaleRowQ (g : FVec Ideal S384 .f32) : FVec Ideal S1x4096x384 .f32 :=
  broadcastInDim S1x4096x384 ![0, 1, 2] bcast_S1x1x384_S1x4096x384_0_1_2 (broadcastInDim S1x1x384 ![2] bcast_S384_S1x1x384_2 g)
@[inherit_doc scaleRowQ] def scaleRowK (g : FVec Ideal S256 .f32) : FVec Ideal S1x4096x256 .f32 :=
  broadcastInDim S1x4096x256 ![0, 1, 2] bcast_S1x1x256_S1x4096x256_0_1_2 (broadcastInDim S1x1x256 ![2] bcast_S256_S1x1x256_2 g)

theorem scaleRowQ_tab (g : ℕ → EReal) : scaleRowQ (tab1 g) = tab3 (φ := .f32) fun _ _ d => g d := by
  funext y
  idx_vars y
  pointwise [scaleRowQ, tab1_ix1, tab3_ix3]

theorem scaleRowK_tab (g : ℕ → EReal) : scaleRowK (tab1 g) = tab3 (φ := .f32) fun _ _ d => g d := by
  funext y
  idx_vars y
  pointwise [scaleRowK, tab1_ix1, tab3_ix3]

/-- The heads' queries before the rotation, and their keys and values. -/
def headsQ (z : FVec Ideal S1x4096x1952 .f32) (g : FVec Ideal S384 .f32) (w : FVec Ideal S384x768 .f32) : FVec Ideal S1x4096x8x96 .f32 :=
  shapeCast S1x4096x8x96 (Host.dotGeneral dot_S1x4096x384_S384x768_S1x4096x768_2_0_01_1_n_n none (mulf (mulf (colsQ z) (rootRowQ (colsQ z))) (scaleRowQ g)) w)
    shapeCasts_S1x4096x768_S1x4096x8x96
@[inherit_doc headsQ] def headsK (z : FVec Ideal S1x4096x1952 .f32) (g : FVec Ideal S256 .f32) (w : FVec Ideal S256x1024 .f32) : FVec Ideal S1x4096x8x128 .f32 :=
  shapeCast S1x4096x8x128 (Host.dotGeneral dot_S1x4096x256_S256x1024_S1x4096x1024_2_0_01_1_n_n none (mulf (mulf (colsK z) (rootRowK (colsK z))) (scaleRowK g)) w)
    shapeCasts_S1x4096x1024_S1x4096x8x128

theorem headsQ_tab (z : ℕ → ℕ → ℕ → EReal) (g : ℕ → EReal) (w : ℕ → ℕ → EReal) :
    headsQ (tab3 z) (tab1 g) (tab2 w) = tab4 (φ := .f32) fun b r h l => query (z b r) g fun d => w d (96 * h + l) := by
  funext y
  idx_vars y
  pointwise [headsQ, colsQ_tab, rootRowQ_tab, scaleRowQ_tab, tab3_ix3, tab2_ix2, tab4_ix4]
  rw [Nat.mul_comm y2.val]
  rfl

theorem headsK_tab (z : ℕ → ℕ → ℕ → EReal) (g : ℕ → EReal) (w : ℕ → ℕ → EReal) :
    headsK (tab3 z) (tab1 g) (tab2 w) = tab4 (φ := .f32) fun b r h l => keyval (z b r) g fun d => w d (128 * h + l) := by
  funext y
  idx_vars y
  pointwise [headsK, colsK_tab, rootRowK_tab, scaleRowK_tab, tab3_ix3, tab2_ix2, tab4_ix4]
  rw [Nat.mul_comm y2.val]
  rfl

/-- The cosines or sines along the heads. -/
def wave (co : FVec Ideal S1x4096x16 .f32) : FVec Ideal S1x4096x8x16 .f32 :=
  broadcastInDim S1x4096x8x16 ![0, 1, 2, 3] bcast_S1x4096x1x16_S1x4096x8x16_0_1_2_3 (broadcastInDim S1x4096x1x16 ![0, 1, 3] bcast_S1x4096x16_S1x4096x1x16_0_1_3 co)

theorem wave_tab (co : ℕ → ℕ → ℕ → EReal) : wave (tab3 co) = tab4 (φ := .f32) fun b r _ l => co b r l := by
  funext y
  idx_vars y
  pointwise [wave, tab3_ix3, tab4_ix4]

/-- The halves of a head's last 32 queries. -/
def half0 (q : FVec Ideal S1x4096x8x96 .f32) : FVec Ideal S1x4096x8x16 .f32 :=
  extractStridedSlice S1x4096x8x16 ![0, 0, 0, 0] (extractStridedSlice S1x4096x8x32 ![0, 0, 0, 64] q slices_S1x4096x8x96_S1x4096x8x32_0_0_0_64) slices_S1x4096x8x32_S1x4096x8x16_0_0_0_0
@[inherit_doc half0] def half1 (q : FVec Ideal S1x4096x8x96 .f32) : FVec Ideal S1x4096x8x16 .f32 :=
  extractStridedSlice S1x4096x8x16 ![0, 0, 0, 16] (extractStridedSlice S1x4096x8x32 ![0, 0, 0, 64] q slices_S1x4096x8x96_S1x4096x8x32_0_0_0_64) slices_S1x4096x8x32_S1x4096x8x16_0_0_0_16

theorem half0_tab (q : ℕ → ℕ → ℕ → ℕ → EReal) : half0 (tab4 q) = tab4 (φ := .f32) fun b r h l => q b r h (64 + l) := by
  funext y
  idx_vars y
  pointwise [half0, tab4_ix4]

theorem half1_tab (q : ℕ → ℕ → ℕ → ℕ → EReal) : half1 (tab4 q) = tab4 (φ := .f32) fun b r h l => q b r h (80 + l) := by
  funext y
  idx_vars y
  pointwise [half1, tab4_ix4]
  exact congrArg _ (by omega)

/-- The queries, their last 32 columns rotated. -/
def turnHeads (q : FVec Ideal S1x4096x8x96 .f32) (co si : FVec Ideal S1x4096x16 .f32) : FVec Ideal S1x4096x8x96 .f32 :=
  concatenate S1x4096x8x96 3 [⟨S1x4096x8x64, extractStridedSlice S1x4096x8x64 ![0, 0, 0, 0] q slices_S1x4096x8x96_S1x4096x8x64_0_0_0_0⟩,
    ⟨S1x4096x8x32, concatenate S1x4096x8x32 3 [⟨S1x4096x8x16, subf (mulf (half0 q) (wave co)) (mulf (half1 q) (wave si))⟩,
      ⟨S1x4096x8x16, addf (mulf (half1 q) (wave co)) (mulf (half0 q) (wave si))⟩] concatenates_S1x4096x8x16_S1x4096x8x16_S1x4096x8x32_d3⟩]
    concatenates_S1x4096x8x64_S1x4096x8x32_S1x4096x8x96_d3

theorem turnHeads_tab (q : ℕ → ℕ → ℕ → ℕ → EReal) (co si : ℕ → ℕ → ℕ → EReal) :
    turnHeads (tab4 q) (tab3 co) (tab3 si) = tab4 (φ := .f32) fun b r h l => turned (co b r) (si b r) (q b r h) l := by
  funext y
  idx_vars y
  have h := y3.isLt
  pointwise [turnHeads, half0_tab, half1_tab, wave_tab, tab4_ix4]
  unfold turned
  split_ifs <;> first | omega | rfl | skip
  · rw [show 64 + (y3.val - 64) = y3.val by omega, show 80 + (y3.val - 64) = y3.val + 16 by omega]
  · rw [show 80 + (y3.val - 64 - 16) = y3.val by omega, show 64 + (y3.val - 64 - 16) = y3.val - 16 by omega, show y3.val - 64 - 16 = y3.val - 80 by omega]

/-- The halves of the 32 columns that the heads share. -/
def part0 (z : FVec Ideal S1x4096x1952 .f32) : FVec Ideal S1x4096x16 .f32 :=
  extractStridedSlice S1x4096x16 ![0, 0, 0] (extractStridedSlice S1x4096x32 ![0, 0, 640] z slices_S1x4096x1952_S1x4096x32_0_0_640) slices_S1x4096x32_S1x4096x16_0_0_0
@[inherit_doc part0] def part1 (z : FVec Ideal S1x4096x1952 .f32) : FVec Ideal S1x4096x16 .f32 :=
  extractStridedSlice S1x4096x16 ![0, 0, 16] (extractStridedSlice S1x4096x32 ![0, 0, 640] z slices_S1x4096x1952_S1x4096x32_0_0_640) slices_S1x4096x32_S1x4096x16_0_0_16

theorem part0_tab (z : ℕ → ℕ → ℕ → EReal) : part0 (tab3 z) = tab3 (φ := .f32) fun b r l => z b r (640 + l) := by
  funext y
  idx_vars y
  pointwise [part0, tab3_ix3]

theorem part1_tab (z : ℕ → ℕ → ℕ → EReal) : part1 (tab3 z) = tab3 (φ := .f32) fun b r l => z b r (656 + l) := by
  funext y
  idx_vars y
  pointwise [part1, tab3_ix3]
  exact congrArg _ (by omega)

/-- The keys: a head's own 64 columns, and behind them the shared 32, rotated. -/
def joinHeads (k : FVec Ideal S1x4096x8x128 .f32) (z : FVec Ideal S1x4096x1952 .f32) (co si : FVec Ideal S1x4096x16 .f32) : FVec Ideal S1x4096x8x96 .f32 :=
  concatenate S1x4096x8x96 3 [⟨S1x4096x8x64, extractStridedSlice S1x4096x8x64 ![0, 0, 0, 0] k slices_S1x4096x8x128_S1x4096x8x64_0_0_0_0⟩,
    ⟨S1x4096x8x32, broadcastInDim S1x4096x8x32 ![0, 1, 2, 3] bcast_S1x4096x1x32_S1x4096x8x32_0_1_2_3 (broadcastInDim S1x4096x1x32 ![0, 1, 3] bcast_S1x4096x32_S1x4096x1x32_0_1_3
      (concatenate S1x4096x32 2 [⟨S1x4096x16, subf (mulf (part0 z) co) (mulf (part1 z) si)⟩, ⟨S1x4096x16, addf (mulf (part1 z) co) (mulf (part0 z) si)⟩]
        concatenates_S1x4096x16_S1x4096x16_S1x4096x32_d2))⟩]
    concatenates_S1x4096x8x64_S1x4096x8x32_S1x4096x8x96_d3

theorem joinHeads_tab (k : ℕ → ℕ → ℕ → ℕ → EReal) (z co si : ℕ → ℕ → ℕ → EReal) :
    joinHeads (tab4 k) (tab3 z) (tab3 co) (tab3 si)
      = tab4 (φ := .f32) fun b r h l => if l < 64 then k b r h l else turned (co b r) (si b r) (fun l => z b r (640 + (l - 64))) l := by
  funext y
  idx_vars y
  have h := y3.isLt
  pointwise [joinHeads, part0_tab, part1_tab, tab3_ix3, tab4_ix4]
  unfold turned
  split_ifs <;> first | omega | rfl | skip
  · beta_reduce
    rw [show 656 + (y3.val - 64) = 640 + (y3.val + 16 - 64) by omega]
  · beta_reduce
    rw [show 656 + (y3.val - 64 - 16) = 640 + (y3.val - 64) by omega, show 640 + (y3.val - 64 - 16) = 640 + (y3.val - 16 - 64) by omega,
      show y3.val - 64 - 16 = y3.val - 80 by omega]

/-- A head's 96 columns filled up to 128 lanes, and the values' columns side by side. -/
def lay96 (q : FVec Ideal S1x4096x8x96 .f32) : FVec Ideal S4096x1024 .bf16 :=
  truncf .bf16 (shapeCast S4096x1024 (pad S4096x8x128 ![0, 0, 0] ![0, 0, 32] ![0, 0, 0] (shapeCast S4096x8x96 q shapeCasts_S1x4096x8x96_S4096x8x96)
    (sitofp .f32 (constantI S_ 32 0#32)) pads_S4096x8x96_S4096x8x128_000_000_0320 h_S_) shapeCasts_S4096x8x128_S4096x1024) bitsLt_bf16_f32
@[inherit_doc lay96] def lay64 (k : FVec Ideal S1x4096x8x128 .f32) : FVec Ideal S4096x512 .bf16 :=
  truncf .bf16 (shapeCast S4096x512 (shapeCast S4096x8x64 (extractStridedSlice S1x4096x8x64 ![0, 0, 0, 64] k slices_S1x4096x8x128_S1x4096x8x64_0_0_0_64)
    shapeCasts_S1x4096x8x64_S4096x8x64) shapeCasts_S4096x8x64_S4096x512) bitsLt_bf16_f32

theorem filled_zero : (FloatOps.sitofp FTy.f32 0#32 : Ideal .f32) = 0 :=
  show (((0#32 : BitVec 32).toInt : ℝ) : EReal) = _ by simp

theorem lay96_tab (q : ℕ → ℕ → ℕ → ℕ → EReal) : lay96 (tab4 q) = tab2 (φ := .bf16) fun r j => if j % 128 < 96 then q 0 r (j / 128) (j % 128) else 0 := by
  funext y
  idx_vars y
  have h := y1.isLt
  pointwise [lay96, tab4_ix4, tab2_ix2, filled_zero]
  split_ifs <;> first | rfl | omega

theorem lay64_tab (k : ℕ → ℕ → ℕ → ℕ → EReal) : lay64 (tab4 k) = tab2 (φ := .bf16) fun r j => k 0 r (j / 64) (64 + j % 64) := by
  funext y
  idx_vars y
  have h := y1.isLt
  pointwise [lay64, tab4_ix4, tab2_ix2]

theorem queries_tab (z co si : ℕ → ℕ → ℕ → EReal) (g : ℕ → EReal) (w : ℕ → ℕ → EReal) :
    lay96 (turnHeads (headsQ (tab3 z) (tab1 g) (tab2 w)) (tab3 co) (tab3 si)) = tab2 (φ := .bf16) fun r j => qLane (co 0 r) (si 0 r) (z 0 r) g w j := by
  rw [headsQ_tab, turnHeads_tab, lay96_tab]
  refine congrArg tab2 (funext fun r => funext fun j => ?_)
  split_ifs with h
  · rfl
  · unfold qLane turned
    rw [if_neg (by omega), if_neg (by omega), if_neg h]

theorem keys_tab (z co si : ℕ → ℕ → ℕ → EReal) (g : ℕ → EReal) (w : ℕ → ℕ → EReal) :
    lay96 (joinHeads (headsK (tab3 z) (tab1 g) (tab2 w)) (tab3 z) (tab3 co) (tab3 si)) = tab2 (φ := .bf16) fun r j => kLane (co 0 r) (si 0 r) (z 0 r) g w j := by
  rw [headsK_tab, joinHeads_tab, lay96_tab]
  refine congrArg tab2 (funext fun r => funext fun j => ?_)
  unfold kLane turned
  split_ifs <;> first | rfl | omega

theorem values_tab (z : ℕ → ℕ → ℕ → EReal) (g : ℕ → EReal) (w : ℕ → ℕ → EReal) :
    lay64 (headsK (tab3 z) (tab1 g) (tab2 w)) = tab2 (φ := .bf16) fun r j => vLane (z 0 r) g w j := by
  rw [headsK_tab, lay64_tab]
  refine congrArg tab2 (funext fun r => funext fun j => ?_)
  unfold vLane
  simp only [Nat.add_assoc]

theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68) = lay96 (turnHeads (headsQ (m ((c.tc : Thread nD τ).loc main_arg0)) (m ((c.tc : Thread nD τ).loc main_arg3))
        (m ((c.tc : Thread nD τ).loc main_arg4))) (m ((c.tc : Thread nD τ).loc main_arg1)) (m ((c.tc : Thread nD τ).loc main_arg2)))
      ∧ r.2.mem ((c.tc : Thread nD τ).loc main_v72) = lay96 (joinHeads (headsK (m ((c.tc : Thread nD τ).loc main_arg0)) (m ((c.tc : Thread nD τ).loc main_arg5))
        (m ((c.tc : Thread nD τ).loc main_arg6))) (m ((c.tc : Thread nD τ).loc main_arg0)) (m ((c.tc : Thread nD τ).loc main_arg1)) (m ((c.tc : Thread nD τ).loc main_arg2)))
      ∧ r.2.mem ((c.tc : Thread nD τ).loc main_v75) = lay64 (headsK (m ((c.tc : Thread nD τ).loc main_arg0)) (m ((c.tc : Thread nD τ).loc main_arg5))
        (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Mlaf
end
-- ==== Proof.MlafValue.lean ====
/- The latent projections' forward call computes the queries, keys and values. -/
module

public import proofs.«01_k».proof.Proof.MlafTiles
public import proofs.«01_k».proof.Proof.MlafLay
public import proofs.«01_k».proof.Proof.MlafSums
public import proofs.«01_k».proof.Defs
public import Idealize.ShloMosaic.Lib.Claim

@[expose] public section

set_option maxRecDepth 16384

noncomputable section

namespace Cert.Mlaf

open Idealize.ShloMosaic Idealize.ShloMosaic.TcCoe Idealize.SL.Sem Idealize.ShloMosaic.StableHlo
open Cert.MlafKernelIdeal Cert.MlafKernelIdeal.Gen Cert.Tables

section Kernel

variable (m : (ℓ : Loc nD τ sig) → Buf (Elt Ideal) ℓ) (c : Dev nD)

set_option maxHeartbeats 1000000 in
/-- The arrays the kernel is given. -/
theorem operands : V m c (Pipeline.arrRef spec0 0) = layZ (m ((c.tc : Thread nD τ).loc main_arg0))
    ∧ V m c (Pipeline.arrRef spec0 1) = layA (m ((c.tc : Thread nD τ).loc main_arg1)) ∧ V m c (Pipeline.arrRef spec0 2) = layB (m ((c.tc : Thread nD τ).loc main_arg2))
    ∧ V m c (Pipeline.arrRef spec0 3) = layC (m ((c.tc : Thread nD τ).loc main_arg2)) ∧ V m c (Pipeline.arrRef spec0 4) = layGq (m ((c.tc : Thread nD τ).loc main_arg3))
    ∧ V m c (Pipeline.arrRef spec0 5) = layGk (m ((c.tc : Thread nD τ).loc main_arg5)) ∧ V m c (Pipeline.arrRef spec0 6) = layUq (m ((c.tc : Thread nD τ).loc main_arg4))
    ∧ V m c (Pipeline.arrRef spec0 7) = layUkv (m ((c.tc : Thread nD τ).loc main_arg6)) := by
  simp only [V, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp
  refine ⟨rfl, rfl, rfl, rfl, rfl, rfl, rfl, rfl⟩

theorem block_index : ∀ t : Fin cfg0.N, win0_0.index t = ![t.val, 1] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- The rows of a block. -/
def rowsOf (t : ℕ) (f : ℕ → ℕ → EReal) (r j : ℕ) : EReal := f (1024 * t + r) j

variable (co si z : ℕ → ℕ → EReal) (gq gk : ℕ → EReal) (wq wk : ℕ → ℕ → EReal)

/-- The kernel's arrays, as functions. -/
structure Holds : Prop where
  z : V m c (Pipeline.arrRef spec0 0) = tab2 (φ := .bf16) fun r j => ordered (z r) j
  ta : V m c (Pipeline.arrRef spec0 1) = tab2 (φ := .f32) fun r l => tableA (co r) l
  tb : V m c (Pipeline.arrRef spec0 2) = tab2 (φ := .f32) fun r l => tableB (si r) l
  tc : V m c (Pipeline.arrRef spec0 3) = tab2 (φ := .f32) fun r l => tableC (si r) l
  gq : V m c (Pipeline.arrRef spec0 4) = tab2 (φ := .f32) fun _ d => gq d
  gk : V m c (Pipeline.arrRef spec0 5) = tab2 (φ := .f32) fun _ d => gk d
  wq : V m c (Pipeline.arrRef spec0 6) = tab2 (φ := .bf16) fun j d => padQ (wq d) j
  wk : V m c (Pipeline.arrRef spec0 7) = tab2 (φ := .bf16) fun j d => padK (wk d) j

variable {m c co si z gq gk wq wk} (H : Holds m c co si z gq gk wq wk)
include H

theorem block_z (t : Fin cfg0.N) : (X0_0 m c t : FVec Ideal S1024x768 .bf16) = tab2 (φ := .bf16) (rowsOf t.val fun r => latent (z r)) := by
  unfold X0_0 Pipeline.Window.fill
  funext y
  rw [dif_pos (moved0_0 t y)]
  unfold iblk
  rw [show V m c (Pipeline.arrRef spec0 0) = _ from H.z]
  show ordered (z (win0_0.index t 0 * 1024 + 1 * (y 0).val)) (win0_0.index t 1 * 768 + 1 * (y 1).val) = _
  rw [(block_index t).1]
  show ordered (z (t.val * 1024 + 1 * (y 0).val)) (1 * 768 + 1 * (y 1).val) = ordered (z (1024 * t.val + (y 0).val)) (768 + (y 1).val)
  rw [Nat.mul_comm t.val, one_mul, one_mul, one_mul]

theorem block_ta (t : Fin cfg0.N) : (iblk m c 1 t : FVec Ideal S1024x128 .f32) = tab2 (φ := .f32) (rowsOf t.val fun r => tableA (co r)) := by
  unfold iblk
  rw [show V m c (Pipeline.arrRef spec0 1) = _ from H.ta]
  funext y
  have e := block_index t
  blk_simp
  blk_point [tab2, rowsOf, e]
  simp only [Nat.mul_comm]

theorem block_tb (t : Fin cfg0.N) : (iblk m c 2 t : FVec Ideal S1024x128 .f32) = tab2 (φ := .f32) (rowsOf t.val fun r => tableB (si r)) := by
  unfold iblk
  rw [show V m c (Pipeline.arrRef spec0 2) = _ from H.tb]
  funext y
  have e := block_index t
  blk_simp
  blk_point [tab2, rowsOf, e]
  simp only [Nat.mul_comm]

theorem block_tc (t : Fin cfg0.N) : (iblk m c 3 t : FVec Ideal S1024x128 .f32) = tab2 (φ := .f32) (rowsOf t.val fun r => tableC (si r)) := by
  unfold iblk
  rw [show V m c (Pipeline.arrRef spec0 3) = _ from H.tc]
  funext y
  have e := block_index t
  blk_simp
  blk_point [tab2, rowsOf, e]
  simp only [Nat.mul_comm]

theorem block_gq (t : Fin cfg0.N) : (iblk m c 4 t : FVec Ideal S1x384 .f32) = tab2 (φ := .f32) fun _ d => gq d := by
  unfold iblk
  rw [show V m c (Pipeline.arrRef spec0 4) = _ from H.gq]
  funext y
  have e := block_index t
  blk_simp
  blk_point [tab2, rowsOf, e]

theorem block_gk (t : Fin cfg0.N) : (iblk m c 5 t : FVec Ideal S1x256 .f32) = tab2 (φ := .f32) fun _ d => gk d := by
  unfold iblk
  rw [show V m c (Pipeline.arrRef spec0 5) = _ from H.gk]
  funext y
  have e := block_index t
  blk_simp
  blk_point [tab2, rowsOf, e]

theorem block_wq (t : Fin cfg0.N) : (iblk m c 6 t : FVec Ideal S1024x384 .bf16) = tab2 (φ := .bf16) fun j d => padQ (wq d) j := by
  unfold iblk
  rw [show V m c (Pipeline.arrRef spec0 6) = _ from H.wq]
  funext y
  have e := block_index t
  blk_simp
  blk_point [tab2, rowsOf, e]

theorem block_wk (t : Fin cfg0.N) : (iblk m c 7 t : FVec Ideal S1536x256 .bf16) = tab2 (φ := .bf16) fun j d => padK (wk d) j := by
  unfold iblk
  rw [show V m c (Pipeline.arrRef spec0 7) = _ from H.wk]
  funext y
  have e := block_index t
  blk_simp
  blk_point [tab2, rowsOf, e]

/-- A block's arrays. -/
theorem blocks (t : Fin cfg0.N) : Block (rowsOf t.val fun r => tableA (co r)) (rowsOf t.val fun r => tableB (si r)) (rowsOf t.val fun r => tableC (si r))
    (rowsOf t.val fun r => latent (z r)) gq gk (fun j d => padQ (wq d) j) (fun j d => padK (wk d) j) m c t :=
  ⟨block_z H t, block_ta H t, block_tb H t, block_tc H t, block_gq H t, block_gk H t, block_wq H t, block_wk H t⟩

/-- The queries. -/
theorem final_queries : (dats m 0 c).arrAt 8 (cfgs 0).N = (tab2 (φ := .bf16) fun r j => qLane (co r) (si r) (z r) gq wq j : FVec Ideal S4096x1024 .bf16) := by
  refine (dats m 0 c).arrAt_eq_of_covers 8 _ (by decide +kernel) fun t _ y => ?_
  blk_simp
  rw [after0_8, queries_out (blocks H t)]
  have e : win0_8.index t = ![t.val, 0] := (block_index t).2.2.2.2.2.2.2.2.1
  have h1 : (y 1).val < 1024 := (y 1).isLt
  have o : ∀ r : ℕ, ∀ j < 1024, spun (tableA (co (1024 * t.val + r))) (tableB (si (1024 * t.val + r))) (tableC (si (1024 * t.val + r)))
      (fun l => query (latent (z (1024 * t.val + r))) gq fun d => padQ (wq d) (128 * (j / 128) + l)) (j % 128) = qLane (co (1024 * t.val + r)) (si (1024 * t.val + r)) (z (1024 * t.val + r)) gq wq j := fun r j hj => spun_query _ _ _ _ _ _
  refine (o (y 0).val (y 1).val h1).trans ?_
  show qLane (co (1024 * t.val + (y 0).val)) (si (1024 * t.val + (y 0).val)) (z (1024 * t.val + (y 0).val)) gq wq (y 1).val = qLane (co (win0_8.index t 0 * 1024 + 1 * (y 0).val)) (si (win0_8.index t 0 * 1024 + 1 * (y 0).val)) (z (win0_8.index t 0 * 1024 + 1 * (y 0).val)) gq wq (win0_8.index t 1 * 1024 + 1 * (y 1).val)
  rw [e]
  show _ = qLane (co (t.val * 1024 + 1 * (y 0).val)) (si (t.val * 1024 + 1 * (y 0).val)) (z (t.val * 1024 + 1 * (y 0).val)) gq wq (0 * 1024 + 1 * (y 1).val)
  rw [Nat.mul_comm t.val, one_mul, one_mul, zero_mul, zero_add]

/-- The keys. -/
theorem final_keys : (dats m 0 c).arrAt 9 (cfgs 0).N = (tab2 (φ := .bf16) fun r j => kLane (co r) (si r) (z r) gk wk j : FVec Ideal S4096x1024 .bf16) := by
  refine (dats m 0 c).arrAt_eq_of_covers 9 _ (by decide +kernel) fun t _ y => ?_
  blk_simp
  rw [after0_9, keys_out (blocks H t)]
  have e : win0_9.index t = ![t.val, 0] := (block_index t).2.2.2.2.2.2.2.2.2.1
  have h1 : (y 1).val < 1024 := (y 1).isLt
  have o : ∀ r : ℕ, ∀ j < 1024, keyval (latent (z (1024 * t.val + r))) gk (fun d => padK (wk d) (128 * (j / 128) + j % 128))
      + spun (tableA (co (1024 * t.val + r))) (tableB (si (1024 * t.val + r))) (tableC (si (1024 * t.val + r)))
        (fun l => latent (z (1024 * t.val + r)) (640 + (l + 64) % 128)) (j % 128) = kLane (co (1024 * t.val + r)) (si (1024 * t.val + r)) (z (1024 * t.val + r)) gk wk j := fun r j hj => spun_key _ _ _ _ _ hj
  refine (o (y 0).val (y 1).val h1).trans ?_
  show kLane (co (1024 * t.val + (y 0).val)) (si (1024 * t.val + (y 0).val)) (z (1024 * t.val + (y 0).val)) gk wk (y 1).val = kLane (co (win0_9.index t 0 * 1024 + 1 * (y 0).val)) (si (win0_9.index t 0 * 1024 + 1 * (y 0).val)) (z (win0_9.index t 0 * 1024 + 1 * (y 0).val)) gk wk (win0_9.index t 1 * 1024 + 1 * (y 1).val)
  rw [e]
  show _ = kLane (co (t.val * 1024 + 1 * (y 0).val)) (si (t.val * 1024 + 1 * (y 0).val)) (z (t.val * 1024 + 1 * (y 0).val)) gk wk (0 * 1024 + 1 * (y 1).val)
  rw [Nat.mul_comm t.val, one_mul, one_mul, zero_mul, zero_add]

/-- The values. -/
theorem final_values : (dats m 0 c).arrAt 10 (cfgs 0).N = (tab2 (φ := .bf16) fun r j => vLane (z r) gk wk j : FVec Ideal S4096x512 .bf16) := by
  refine (dats m 0 c).arrAt_eq_of_covers 10 _ (by decide +kernel) fun t _ y => ?_
  blk_simp
  rw [after0_10, values_out (blocks H t)]
  have e : win0_10.index t = ![t.val, 0] := (block_index t).2.2.2.2.2.2.2.2.2.2
  have h1 : (y 1).val < 512 := (y 1).isLt
  have o : ∀ r : ℕ, ∀ j < 512, keyval (latent (z (1024 * t.val + r))) gk (fun d => padK (wk d) (1024 + j)) = vLane (z (1024 * t.val + r)) gk wk j := fun r j hj => padded_value _ _ _ _
  refine (o (y 0).val (y 1).val h1).trans ?_
  show vLane (z (1024 * t.val + (y 0).val)) gk wk (y 1).val = vLane (z (win0_10.index t 0 * 1024 + 1 * (y 0).val)) gk wk (win0_10.index t 1 * 512 + 1 * (y 1).val)
  rw [e]
  show _ = vLane (z (t.val * 1024 + 1 * (y 0).val)) gk wk (0 * 512 + 1 * (y 1).val)
  rw [Nat.mul_comm t.val, one_mul, one_mul, zero_mul, zero_add]

omit H in
/-- The arguments and what the kernel is given of them. -/
theorem arguments (m : (ℓ : Loc nD τ sig) → Buf (Elt Ideal) ℓ) (c : Dev nD) : ∃ (z co si : ℕ → ℕ → ℕ → EReal) (gq : ℕ → EReal) (wq : ℕ → ℕ → EReal) (gk : ℕ → EReal) (wk : ℕ → ℕ → EReal),
    (m ((c.tc : Thread nD τ).loc main_arg0) = tab3 (φ := .f32) z ∧ m ((c.tc : Thread nD τ).loc main_arg1) = tab3 (φ := .f32) co
      ∧ m ((c.tc : Thread nD τ).loc main_arg2) = tab3 (φ := .f32) si ∧ m ((c.tc : Thread nD τ).loc main_arg3) = tab1 (φ := .f32) gq
      ∧ m ((c.tc : Thread nD τ).loc main_arg4) = tab2 (φ := .f32) wq ∧ m ((c.tc : Thread nD τ).loc main_arg5) = tab1 (φ := .f32) gk
      ∧ m ((c.tc : Thread nD τ).loc main_arg6) = tab2 (φ := .f32) wk) ∧ Holds m c (co 0) (si 0) (z 0) gq gk wq wk := by
  obtain ⟨z, hz, -⟩ := exists_tab3 (φ := .f32) (m ((c.tc : Thread nD τ).loc main_arg0))
  obtain ⟨co, hc, -⟩ := exists_tab3 (φ := .f32) (m ((c.tc : Thread nD τ).loc main_arg1))
  obtain ⟨si, hs, -⟩ := exists_tab3 (φ := .f32) (m ((c.tc : Thread nD τ).loc main_arg2))
  obtain ⟨gq, hgq, -⟩ := exists_tab1 (φ := .f32) (m ((c.tc : Thread nD τ).loc main_arg3))
  obtain ⟨wq, hwq, -⟩ := exists_tab2 (φ := .f32) (m ((c.tc : Thread nD τ).loc main_arg4))
  obtain ⟨gk, hgk, -⟩ := exists_tab1 (φ := .f32) (m ((c.tc : Thread nD τ).loc main_arg5))
  obtain ⟨wk, hwk, -⟩ := exists_tab2 (φ := .f32) (m ((c.tc : Thread nD τ).loc main_arg6))
  obtain ⟨e0, e1, e2, e3, e4, e5, e6, e7⟩ := operands m c
  refine ⟨z, co, si, gq, wq, gk, wk, ⟨hz, hc, hs, hgq, hwq, hgk, hwk⟩, ?_, ?_, ?_, ?_, ?_, ?_, ?_, ?_⟩
  · rw [e0, hz]; exact layZ_tab z
  · rw [e1, hc]; exact layA_tab co
  · rw [e2, hs]; exact layB_tab si
  · rw [e3, hs]; exact layC_tab si
  · rw [e4, hgq]; exact layGq_tab gq
  · rw [e5, hgk]; exact layGk_tab gk
  · rw [e6, hwq]; exact layUq_tab wq
  · rw [e7, hwk]; exact layUkv_tab wk

end Kernel

/-- The call's arrays are the queries, the keys and the values of the reference. -/
theorem algebraic : Cert.algebraic_MlafKernelIdeal_MlafReferenceIdeal := by
  intro m g m' g' _ hagree
  refine ⟨fun c => (dats m 0 c).arrAt 8 (cfgs 0).N, fun c => (dats m 0 c).arrAt 9 (cfgs 0).N, fun c => (dats m 0 c).arrAt 10 (cfgs 0).N,
    Cert.MlafKernelIdeal.Value.run_blocks m g, ?_⟩
  refine (θ_run _ _ _).mono (fun r h c => ?_) (run_stages m' g')
  obtain ⟨z, co, si, gq, wq, gk, wk, ⟨hz, hc, hs, hgq, hwq, hgk, hwk⟩, H⟩ := arguments m c
  obtain ⟨h0, h1, h2, rest⟩ := h c
  obtain ⟨a0, a1, a2, a3, a4, a5, a6⟩ := hagree c
  rw [a0.trans hz, a1.trans hc, a2.trans hs, a3.trans hgq, a4.trans hwq, queries_tab] at h0
  rw [a0.trans hz, a1.trans hc, a2.trans hs, a5.trans hgk, a6.trans hwk, keys_tab] at h1
  rw [a0.trans hz, a5.trans hgk, a6.trans hwk, values_tab] at h2
  exact ⟨h0.trans (final_queries H).symm, h1.trans (final_keys H).symm, h2.trans (final_values H).symm, rest⟩

end Cert.Mlaf
end
-- ==== Proof.MlafClaim.lean ====
/- The five claims about the latent projections' forward call. -/
module

public import proofs.«01_k».proof.Proof.MlafValue
public import proofs.«01_k».proof.Proof.Gen.MlafKernel.Frame

@[expose] public section

set_option maxRecDepth 16384

noncomputable section

namespace Cert.Mlaf

open Idealize.ShloMosaic Idealize.SL.Sem

/-- Every run ends, its arguments unchanged and its semaphores at rest. -/
theorem frame_kernel : Cert.quiescent_MlafKernel :=
  fun m ρ _ => Cert.MlafKernel.Gen.frame m ρ

/-- The same on the extended reals. -/
theorem frame_ideal : Cert.quiescent_MlafKernelIdeal :=
  fun m ρ _ => Cert.MlafKernelIdeal.Gen.frame m ρ

/-- Every run of the reference ends, its arguments unchanged; it has no semaphore. -/
theorem frame_reference : Cert.quiescent_MlafReferenceIdeal := fun m ρ _ =>
  (θ_run Cert.MlafReferenceIdeal.defs _ _).mono
    (fun r h => ⟨fun c => (h c).2.2.2, sem_eq_zero_of_no_sems (by decide) r.2⟩)
    (Cert.MlafReferenceIdeal.Value.run (F := Ideal) m ρ)

/-- Idealizing changes no operation but those named. -/
theorem preserves : Cert.preserves_MlafKernel_MlafKernelIdeal := trivial

end Cert.Mlaf

end
-- ==== Proof.FfnSums.lean ====
/- The reference of the feed-forward block's backward call: its stages on real inputs. -/
module

public import proofs.«01_k».proof.Proof.Gen.FfnReferenceIdeal.Run
public import proofs.«01_k».proof.Proof.PreSums
public import proofs.«01_k».proof.Proof.Reals
public import proofs.«01_k».proof.Proof.Scalars

@[expose] public section

set_option maxRecDepth 16384

noncomputable section

namespace Cert.Ffn

open Idealize.ShloMosaic Idealize.ShloMosaic.TcCoe Idealize.SL.Sem Idealize.ShloMosaic.StableHlo
open Cert.Reals Cert.Scalars

/-- The call's arguments as functions: the rows, the cotangent, the scales of the two norms and the three weights. -/
structure Inputs where
  x : ℕ → ℕ → ℝ
  ct : ℕ → ℕ → ℝ
  pre : ℕ → ℝ
  post : ℕ → ℝ
  gate : ℕ → ℕ → ℝ
  up : ℕ → ℕ → ℝ
  down : ℕ → ℕ → ℝ

namespace Inputs

variable (I : Inputs)

/-- The rows divided by their root mean squares. -/
def unit (r d : ℕ) : ℝ := I.x r d * rms 1024 (I.x r)
/-- The rows after the first norm. -/
def hid (r d : ℕ) : ℝ := I.unit r d * I.pre d
/-- What the gate's weight makes of them. -/
def a (r j : ℕ) : ℝ := ∑ d ∈ Finset.range 1024, I.hid r d * I.gate d j
/-- What the other weight makes of them. -/
def b (r j : ℕ) : ℝ := ∑ d ∈ Finset.range 1024, I.hid r d * I.up d j
/-- The logistic function of the gate. -/
def sg (r j : ℕ) : ℝ := 1 / (1 + Real.exp (-I.a r j))
/-- The gated rows. -/
def s (r j : ℕ) : ℝ := I.a r j * I.sg r j * I.b r j
/-- The block's rows before the second norm. -/
def f (r d : ℕ) : ℝ := ∑ j ∈ Finset.range 2816, I.s r j * I.down j d
/-- These rows divided by their root mean squares. -/
def funit (r d : ℕ) : ℝ := I.f r d * rms 1024 (I.f r)
/-- The gradient of the second norm's input. -/
def df (r d : ℕ) : ℝ := rmsGrad 1024 (I.f r) (fun k => I.ct r k * I.post k) d
/-- The gradient of the gated rows. -/
def ds (r j : ℕ) : ℝ := ∑ d ∈ Finset.range 1024, I.df r d * I.down j d
/-- The gradient of the gate. -/
def da (r j : ℕ) : ℝ := I.ds r j * I.b r j * (I.sg r j * (1 + I.a r j * (1 - I.sg r j)))
/-- The gradient of the other product. -/
def db (r j : ℕ) : ℝ := I.ds r j * (I.a r j * I.sg r j)
/-- The gradient of the first norm's output. -/
def dh (r d : ℕ) : ℝ := ∑ j ∈ Finset.range 2816, I.da r j * I.gate d j + ∑ j ∈ Finset.range 2816, I.db r j * I.up d j
/-- The gradient of the first norm's input. -/
def dx (r d : ℕ) : ℝ := rmsGrad 1024 (I.x r) (fun k => I.dh r k * I.pre k) d
/-- What a row adds to the gradient of the first norm's scale. -/
def dpre (r d : ℕ) : ℝ := I.dh r d * I.unit r d
/-- What a row adds to the gradient of the second norm's scale. -/
def dpost (r d : ℕ) : ℝ := I.ct r d * I.funit r d
/-- The two gradients beside each other. -/
def dab (r j : ℕ) : ℝ := if j < 2816 then I.da r j else I.db r (j - 2816)

end Inputs

open Cert.FfnReferenceIdeal Cert.FfnReferenceIdeal.Gen

/-- The rows after the first norm. -/
def hidden (x : FVec Ideal S1x4096x1024 .f32) (g : FVec Ideal S1024 .f32) : FVec Ideal S1x4096x1024 .f32 :=
  mulf (mulf x (Cert.Pre.rootRow x)) (Cert.Pre.scaleRow g)

/-- A product with one of the first two weights. -/
def along (h : FVec Ideal S1x4096x1024 .f32) (w : FVec Ideal S1024x2816 .f32) : FVec Ideal S1x4096x2816 .f32 :=
  Host.dotGeneral dot_S1x4096x1024_S1024x2816_S1x4096x2816_2_0_01_1_n_n none h w

/-- Ones. -/
def ones : FVec Ideal S1x4096x2816 .f32 := broadcastInDim S1x4096x2816 ![] bcast_S_S1x4096x2816 (constant S_ .f32 0x3F800000#32)

/-- The logistic function. -/
def logistic (u : FVec Ideal S1x4096x2816 .f32) : FVec Ideal S1x4096x2816 .f32 := Host.divf ones (addf ones (Host.exp (Host.negf u)))

/-- The gated rows, from the two products. -/
def gated (u v : FVec Ideal S1x4096x2816 .f32) : FVec Ideal S1x4096x2816 .f32 := mulf (mulf u (logistic u)) v

/-- The product with the third weight. -/
def back (s : FVec Ideal S1x4096x2816 .f32) (w : FVec Ideal S2816x1024 .f32) : FVec Ideal S1x4096x1024 .f32 :=
  Host.dotGeneral dot_S1x4096x2816_S2816x1024_S1x4096x1024_2_0_01_1_n_n none s w

/-- The block's rows before the second norm. -/
def forward (x : FVec Ideal S1x4096x1024 .f32) (g : FVec Ideal S1024 .f32) (wg wu : FVec Ideal S1024x2816 .f32) (wd : FVec Ideal S2816x1024 .f32) :
    FVec Ideal S1x4096x1024 .f32 := back (gated (along (hidden x g) wg) (along (hidden x g) wu)) wd

/-- The gradient of a norm's input, from that of the rows divided by their roots. -/
def dNormed (x u : FVec Ideal S1x4096x1024 .f32) : FVec Ideal S1x4096x1024 .f32 :=
  addf (addf (mulf u (Cert.Pre.rootRow x)) (mulf x (Cert.Pre.dMean x u))) (mulf (Cert.Pre.dMean x u) x)

/-- The gradient of the gated rows. -/
def dGated (v : FVec Ideal S1x4096x1024 .f32) (w : FVec Ideal S2816x1024 .f32) : FVec Ideal S1x4096x2816 .f32 :=
  Host.dotGeneral dot_S1x4096x1024_S2816x1024_S1x4096x2816_2_1_01_0_n_n none v w

/-- The gradient of the gate. -/
def dGate (u v z : FVec Ideal S1x4096x2816 .f32) : FVec Ideal S1x4096x2816 .f32 :=
  addf (mulf (mulf z v) (logistic u)) (mulf (mulf u (mulf z v)) (mulf (logistic u) (subf ones (logistic u))))

/-- The gradient of the other product. -/
def dUp (u z : FVec Ideal S1x4096x2816 .f32) : FVec Ideal S1x4096x2816 .f32 := mulf (mulf u (logistic u)) z

/-- The gradient of the first norm's output. -/
def dHidden (z y : FVec Ideal S1x4096x2816 .f32) (wg wu : FVec Ideal S1024x2816 .f32) : FVec Ideal S1x4096x1024 .f32 :=
  addf (Host.dotGeneral dot_S1x4096x2816_S1024x2816_S1x4096x1024_2_1_01_0_n_n none y wu)
    (Host.dotGeneral dot_S1x4096x2816_S1024x2816_S1x4096x1024_2_1_01_0_n_n none z wg)

/-- The cotangent, at its own shape. -/
def same (d : FVec Ideal S1x4096x1024 .f32) : FVec Ideal S1x4096x1024 .f32 := shapeCast S1x4096x1024 d shapeCasts_S1x4096x1024_S1x4096x1024

variable (I : Inputs)

theorem hidden_real : hidden (real3 fun _ => I.x) (real1 I.pre) = real3 (fun _ => I.hid) := by
  unfold hidden
  rw [Cert.Pre.rootRow_real, Cert.Pre.scaleRow_real]
  funext y
  idx_vars y
  pointwise [real3_ix3]
  rw [← EReal.coe_mul, ← EReal.coe_mul]
  rfl

theorem along_real (h : ℕ → ℕ → ℝ) (w : ℕ → ℕ → ℝ) : along (real3 fun _ => h) (real2 w) = real3 (fun _ r j => ∑ d ∈ Finset.range 1024, h r d * w d j) := by
  funext y
  idx_vars y
  pointwise [along, real2_ix2, real3_ix3]
  simp only [← EReal.coe_mul]
  exact sum_real fun d => h y1.val d * w d y2.val

theorem back_real (s : ℕ → ℕ → ℝ) (w : ℕ → ℕ → ℝ) : back (real3 fun _ => s) (real2 w) = real3 (fun _ r d => ∑ j ∈ Finset.range 2816, s r j * w j d) := by
  funext y
  idx_vars y
  pointwise [back, real2_ix2, real3_ix3]
  simp only [← EReal.coe_mul]
  exact sum_real fun j => s y1.val j * w j y2.val

theorem dGated_real (v : ℕ → ℕ → ℝ) (w : ℕ → ℕ → ℝ) : dGated (real3 fun _ => v) (real2 w) = real3 (fun _ r j => ∑ d ∈ Finset.range 1024, v r d * w j d) := by
  funext y
  idx_vars y
  pointwise [dGated, real2_ix2, real3_ix3]
  simp only [← EReal.coe_mul]
  exact sum_real fun d => v y1.val d * w y2.val d

theorem dHidden_real (z y : ℕ → ℕ → ℝ) (wg wu : ℕ → ℕ → ℝ) : dHidden (real3 fun _ => z) (real3 fun _ => y) (real2 wg) (real2 wu)
    = real3 (fun _ r d => ∑ j ∈ Finset.range 2816, z r j * wg d j + ∑ j ∈ Finset.range 2816, y r j * wu d j) := by
  funext i
  idx_vars i
  pointwise [dHidden, real2_ix2, real3_ix3]
  simp only [← EReal.coe_mul]
  rw [sum_real fun j => z i1.val j * wg i2.val j, sum_real fun j => y i1.val j * wu i2.val j, ← EReal.coe_add, add_comm]

/-- The logistic function of a real number. -/
theorem logistic_one (u : ℝ) : Ideal.div 1 (1 + Ideal.exp ((-u : ℝ) : EReal)) = ((1 / (1 + Real.exp (-u)) : ℝ) : EReal) := by
  rw [Ideal.exp_coe, ← EReal.coe_one, ← EReal.coe_add, div_real (by positivity)]

theorem logistic_real (u : ℕ → ℕ → ℝ) : logistic (real3 fun _ => u) = real3 (fun _ r j => 1 / (1 + Real.exp (-u r j))) := by
  funext y
  idx_vars y
  pointwise [logistic, ones, real3_ix3]
  rw [← EReal.coe_neg]
  exact logistic_one _

theorem gated_real (u v : ℕ → ℕ → ℝ) : gated (real3 fun _ => u) (real3 fun _ => v) = real3 (fun _ r j => u r j * (1 / (1 + Real.exp (-u r j))) * v r j) := by
  unfold gated
  rw [logistic_real]
  funext y
  idx_vars y
  pointwise [real3_ix3]
  rw [← EReal.coe_mul, ← EReal.coe_mul]

theorem dGate_real (u v z : ℕ → ℕ → ℝ) : dGate (real3 fun _ => u) (real3 fun _ => v) (real3 fun _ => z)
    = real3 (fun _ r j => z r j * v r j * (1 / (1 + Real.exp (-u r j)) * (1 + u r j * (1 - 1 / (1 + Real.exp (-u r j)))))) := by
  unfold dGate
  rw [logistic_real]
  funext y
  idx_vars y
  pointwise [ones, real3_ix3]
  rw [← EReal.coe_one]
  simp only [← EReal.coe_mul, ← EReal.coe_sub, ← EReal.coe_add]
  refine congrArg _ ?_
  ring

theorem dUp_real (u z : ℕ → ℕ → ℝ) : dUp (real3 fun _ => u) (real3 fun _ => z) = real3 (fun _ r j => z r j * (u r j * (1 / (1 + Real.exp (-u r j))))) := by
  unfold dUp
  rw [logistic_real]
  funext y
  idx_vars y
  pointwise [real3_ix3]
  rw [← EReal.coe_mul, ← EReal.coe_mul, mul_comm]

theorem dNormed_real (x u : ℕ → ℕ → ℝ) : dNormed (real3 fun _ => x) (real3 fun _ => u) = real3 (fun _ r d => rmsGrad 1024 (x r) (u r) d) := by
  unfold dNormed
  rw [Cert.Pre.rootRow_real, Cert.Pre.dMean_real]
  funext y
  idx_vars y
  pointwise [real3_ix3]
  simp only [← EReal.coe_mul, ← EReal.coe_add]
  rw [← rmsGrad_eq]

theorem same_real (d : ℕ → ℕ → ℝ) : same (real3 fun _ => d) = real3 (fun _ => d) := by
  funext y
  idx_vars y
  pointwise [same, real3_ix3]

theorem forward_real : forward (real3 fun _ => I.x) (real1 I.pre) (real2 I.gate) (real2 I.up) (real2 I.down) = real3 (fun _ => I.f) := by
  unfold forward
  rw [hidden_real, along_real, along_real]
  refine (congrArg (back · (real2 I.down)) (gated_real I.a I.b)).trans ?_
  exact back_real I.s I.down

/-- The gradient of the second norm's input. -/
def dForward (x : FVec Ideal S1x4096x1024 .f32) (g p : FVec Ideal S1024 .f32) (wg wu : FVec Ideal S1024x2816 .f32) (wd : FVec Ideal S2816x1024 .f32)
    (d : FVec Ideal S1x4096x1024 .f32) : FVec Ideal S1x4096x1024 .f32 := dNormed (forward x g wg wu wd) (mulf (same d) (Cert.Pre.scaleRow p))

theorem dForward_real : dForward (real3 fun _ => I.x) (real1 I.pre) (real1 I.post) (real2 I.gate) (real2 I.up) (real2 I.down) (real3 fun _ => I.ct)
    = real3 (fun _ => I.df) := by
  unfold dForward
  rw [forward_real, same_real, Cert.Pre.scaleRow_real]
  have e : mulf (real3 fun _ => I.ct) (real3 fun _ _ d => I.post d) = (real3 fun _ r d => I.ct r d * I.post d : FVec Ideal S1x4096x1024 .f32) := by
    funext y
    idx_vars y
    pointwise [real3_ix3]
    rw [← EReal.coe_mul]
  exact (congrArg (dNormed _) e).trans (dNormed_real I.f _)

section Stages

variable (x : FVec Ideal S1x4096x1024 .f32) (g p : FVec Ideal S1024 .f32) (wg wu : FVec Ideal S1024x2816 .f32) (wd : FVec Ideal S2816x1024 .f32)
  (d : FVec Ideal S1x4096x1024 .f32)

/-- The gradient of the gate, of the arguments. -/
def stageA : FVec Ideal S1x4096x2816 .f32 := dGate (along (hidden x g) wg) (along (hidden x g) wu) (dGated (dForward x g p wg wu wd d) wd)
/-- The gradient of the other product, of the arguments. -/
def stageB : FVec Ideal S1x4096x2816 .f32 := dUp (along (hidden x g) wg) (dGated (dForward x g p wg wu wd d) wd)
/-- The gradient of the first norm's output, of the arguments. -/
def stageH : FVec Ideal S1x4096x1024 .f32 := dHidden (stageA x g p wg wu wd d) (stageB x g p wg wu wd d) wg wu

end Stages

theorem stageA_real : stageA (real3 fun _ => I.x) (real1 I.pre) (real1 I.post) (real2 I.gate) (real2 I.up) (real2 I.down) (real3 fun _ => I.ct)
    = real3 (fun _ => I.da) := by
  unfold stageA
  rw [hidden_real, along_real, along_real, dForward_real, dGated_real]
  exact dGate_real I.a I.b I.ds

theorem stageB_real : stageB (real3 fun _ => I.x) (real1 I.pre) (real1 I.post) (real2 I.gate) (real2 I.up) (real2 I.down) (real3 fun _ => I.ct)
    = real3 (fun _ => I.db) := by
  unfold stageB
  rw [hidden_real, along_real, dForward_real, dGated_real]
  exact dUp_real I.a I.ds

theorem stageH_real : stageH (real3 fun _ => I.x) (real1 I.pre) (real1 I.post) (real2 I.gate) (real2 I.up) (real2 I.down) (real3 fun _ => I.ct)
    = real3 (fun _ => I.dh) := by
  unfold stageH
  rw [stageA_real, stageB_real]
  exact dHidden_real I.da I.db I.gate I.up

/-- The batch's rows as a matrix. -/
def flat (x : FVec Ideal S1x4096x1024 .f32) : FVec Ideal S4096x1024 .f32 := shapeCast S4096x1024 x shapeCasts_S1x4096x1024_S4096x1024
@[inherit_doc flat] def flatWide (x : FVec Ideal S1x4096x2816 .f32) : FVec Ideal S4096x2816 .f32 := shapeCast S4096x2816 x shapeCasts_S1x4096x2816_S4096x2816
/-- The two gradients beside each other. -/
def beside (u v : FVec Ideal S1x4096x2816 .f32) : FVec Ideal S4096x5632 .bf16 :=
  truncf .bf16 (concatenate S4096x5632 1 [⟨S4096x2816, flatWide u⟩, ⟨S4096x2816, flatWide v⟩] concatenates_S4096x2816_S4096x2816_S4096x5632_d1) bitsLt_bf16_f32

theorem flat_real (x : ℕ → ℕ → ℝ) : flat (real3 fun _ => x) = real2 x := by
  funext y
  idx_vars y
  pointwise [flat, real2_ix2, real3_ix3]

theorem cast_real (x : ℕ → ℕ → ℝ) : truncf .bf16 (flat (real3 fun _ => x)) bitsLt_bf16_f32 = real2 x := by
  rw [flat_real]
  funext y
  idx_vars y
  pointwise [real2_ix2]

theorem castWide_real (x : ℕ → ℕ → ℝ) : truncf .bf16 (flatWide (real3 fun _ => x)) bitsLt_bf16_f32 = real2 x := by
  funext y
  idx_vars y
  pointwise [flatWide, real2_ix2, real3_ix3]

theorem beside_real (u v : ℕ → ℕ → ℝ) : beside (real3 fun _ => u) (real3 fun _ => v) = real2 (fun r j => if j < 2816 then u r j else v r (j - 2816)) := by
  funext y
  idx_vars y
  pointwise [beside, flatWide, real2_ix2, real3_ix3]
  split_ifs <;> rfl

theorem summed_real (u v : ℕ → ℕ → ℝ) : Cert.Pre.scaleSum (mulf (real3 fun _ => u) (real3 fun _ => v))
    = real2 (fun _ d => ∑ r ∈ Finset.range 4096, u r d * v r d) := by
  funext y
  idx_vars y
  rw [Cert.Pre.scaleSum_at]
  pointwise [real2_ix2, real3_ix3]
  simp only [← EReal.coe_mul]
  exact sum_real fun r => u r y1.val * v r y1.val

end Cert.Ffn
end
-- ==== Proof.FfnBlock.lean ====
/- The feed-forward block's backward call: what the kernel computes from a block of 256 rows. -/
module

public import proofs.«01_k».proof.Proof.FfnSums
public import proofs.«01_k».proof.Proof.Gen.FfnKernelIdeal.Frame.Runs

@[expose] public section

set_option maxRecDepth 16384

noncomputable section

namespace Cert.Ffn

open Idealize.ShloMosaic Idealize.ShloMosaic.TcCoe Idealize.SL.Sem
open Cert.FfnKernelIdeal Cert.FfnKernelIdeal.Gen Cert.Reals Cert.Scalars

variable (I : Inputs) (t : ℕ)

/-- The block's rows. -/
abbrev rows (f : ℕ → ℕ → ℝ) : FVec Ideal S256x1024 .f32 := real2 fun r d => f (256 * t + r) d
/-- The block's rows in the narrow type. -/
abbrev rowsN (f : ℕ → ℕ → ℝ) : FVec Ideal S256x1024 .bf16 := real2 fun r d => f (256 * t + r) d
/-- A scale. -/
abbrev scale (g : ℕ → ℝ) : FVec Ideal S1x1024 .f32 := real2 fun _ d => g d
/-- The first two weights, one above the other, turned. -/
def both (j d : ℕ) : ℝ := if j < 2816 then I.gate d j else I.up d (j - 2816)
/-- These weights, as the kernel keeps them. -/
abbrev wide (f : ℕ → ℕ → ℝ) : FVec Ideal S5632x1024 .bf16 := real2 f
/-- The third weight, as the kernel keeps it. -/
abbrev third (f : ℕ → ℕ → ℝ) : FVec Ideal S2816x1024 .bf16 := real2 f
/-- The block's rows of two gradients beside each other. -/
abbrev rowsW (f : ℕ → ℕ → ℝ) : FVec Ideal S256x5632 .bf16 := real2 fun r j => f (256 * t + r) j
/-- A tile of 256 columns. -/
abbrev sq (f : ℕ → ℕ → ℝ) : FVec Ideal S256x256 .f32 := real2 f
/-- The two products beside each other. -/
def ab (r j : ℕ) : ℝ := if j < 2816 then I.a r j else I.b r (j - 2816)

theorem root_x (X : ℕ → ℕ → ℝ) (r : Fin 256) : k0_pay9 (F := Ideal) (rows t X) (ix2 r 0) = ((rms 1024 (X (256 * t + r.val)) : ℝ) : EReal) := by
  pointwise [k0_pay9, k0_pay8, real2_ix2]
  simp only [← EReal.coe_mul]
  rw [sum_real fun x => X (256 * t + r.val) x * X (256 * t + r.val) x, kilo_word, eps_word, div_real (by norm_num), ← EReal.coe_add]
  exact rsqrt_meanSq 1024 (X (256 * t + r.val))

theorem unit_x (X : ℕ → ℕ → ℝ) : k0_pay10 (F := Ideal) (rows t X) = rows t (fun r d => X r d * rms 1024 (X r)) := by
  funext y
  idx_vars y
  pointwise [k0_pay10, k0_pay8, root_x, real2_ix2]
  rw [← EReal.coe_mul]

theorem hid_x : k0_pay11 (F := Ideal) (scale I.pre) (rows t I.x) = rowsN t I.hid := by
  funext y
  idx_vars y
  pointwise [k0_pay11, k0_pay6, unit_x, real2_ix2]
  rw [← EReal.coe_mul]
  rfl

theorem ab_x : k0_pay12 (F := Ideal) (rowsN t I.hid) (wide (both I)) = (real2 fun r j => ab I (256 * t + r) j : FVec Ideal S256x5632 .f32) := by
  funext y
  idx_vars y
  pointwise [k0_pay12, real2_ix2]
  simp only [← EReal.coe_mul]
  rw [sum_real fun d => I.hid (256 * t + y0.val) d * both I y1.val d]
  unfold ab both
  split_ifs <;> rfl

theorem unit_f (X : ℕ → ℕ → ℝ) : k0_pay29 (F := Ideal) (rows t X) = rows t (fun r d => X r d * rms 1024 (X r)) := unit_x t X

theorem root_f (X : ℕ → ℕ → ℝ) (r : Fin 256) : k0_pay28 (F := Ideal) (rows t X) (ix2 r 0) = ((rms 1024 (X (256 * t + r.val)) : ℝ) : EReal) := root_x t X r

theorem same_rows (X : ℕ → ℕ → ℝ) : k0_pay5 (F := Ideal) (rows t X) = rows t X := by
  funext y
  idx_vars y
  pointwise [k0_pay5]

theorem same_scale (g : ℕ → ℝ) : k0_pay7 (F := Ideal) (scale g) = scale g := by
  funext y
  idx_vars y
  pointwise [k0_pay7]

theorem same_scale' (g : ℕ → ℝ) : k0_pay6 (F := Ideal) (scale g) = scale g := same_scale g

theorem dpost_x : k0_pay30 (F := Ideal) (rows t I.ct) (rows t I.f)
    = (real2 fun _ d => ∑ r ∈ Finset.range 256, I.dpost (256 * t + r) d : FVec Ideal S1x1024 .f32) := by
  funext y
  idx_vars y
  pointwise [k0_pay30, unit_f, real2_ix2]
  simp only [← EReal.coe_mul]
  exact sum_real fun x => I.dpost (256 * t + x) y1.val

theorem df_x : k0_pay31 (F := Ideal) (rows t I.ct) (scale I.post) (rows t I.f) = rowsN t I.df := by
  funext y
  idx_vars y
  pointwise [k0_pay31, k0_pay27, unit_f, real2_ix2]
  rw [root_f]
  simp only [← EReal.coe_mul]
  rw [sum_real fun x => I.ct (256 * t + y0.val) x * I.post x * (I.f (256 * t + y0.val) x * rms 1024 (I.f (256 * t + y0.val))), kilo_word, div_real (by norm_num)]
  simp only [← EReal.coe_mul, ← EReal.coe_sub]
  rfl

theorem ds_x : k0_pay32 (F := Ideal) (rowsN t I.df) (third I.down) = (real2 fun r j => I.ds (256 * t + r) j : FVec Ideal S256x2816 .f32) := by
  funext y
  idx_vars y
  pointwise [k0_pay32, real2_ix2]
  simp only [← EReal.coe_mul]
  exact sum_real fun d => I.df (256 * t + y0.val) d * I.down y1.val d

theorem ds_same (X : ℕ → ℕ → ℝ) : k0_pay33 (F := Ideal) (real2 (φ := .f32) X) = real2 (φ := .f32) X := by
  funext y
  idx_vars y
  pointwise [k0_pay33]

/-- The logistic function of a real number, as the kernel writes it. -/
theorem sig_x (a : ℕ → ℕ → ℝ) (r l : Fin 256) : k0_pay34 (F := Ideal) (sq a) (ix2 r l) = ((1 / (1 + Real.exp (-a r.val l.val)) : ℝ) : EReal) := by
  pointwise [k0_pay34, real2_ix2]
  rw [zero_sub, ← EReal.coe_neg]
  exact logistic_one _

theorem gate_x (a b : ℕ → ℕ → ℝ) : k0_pay13 (F := Ideal) (sq a) (sq b)
    = (real2 fun r l => a r l * (1 / (1 + Real.exp (-a r l))) * b r l : FVec Ideal S256x256 .bf16) := by
  have e : k0_pay13 (F := Ideal) (sq a) (sq b) = truncf .bf16 (mulf (mulf (sq a) (k0_pay34 (F := Ideal) (sq a))) (sq b)) bitsLt_bf16_f32 := rfl
  rw [e]
  funext y
  idx_vars y
  pointwise [sig_x, real2_ix2]
  rw [← EReal.coe_mul, ← EReal.coe_mul]

theorem da_x (a b z : ℕ → ℕ → ℝ) : k0_pay35 (F := Ideal) (sq a) (sq b) (sq z)
    = (real2 fun r l => z r l * b r l * (1 / (1 + Real.exp (-a r l)) * (1 + a r l * (1 - 1 / (1 + Real.exp (-a r l))))) : FVec Ideal S256x256 .bf16) := by
  funext y
  idx_vars y
  pointwise [k0_pay35, sig_x, real2_ix2]
  rw [← EReal.coe_one]
  simp only [← EReal.coe_mul, ← EReal.coe_sub, ← EReal.coe_add]

theorem db_x (a z : ℕ → ℕ → ℝ) : k0_pay36 (F := Ideal) (sq a) (sq z)
    = (real2 fun r l => z r l * (a r l * (1 / (1 + Real.exp (-a r l)))) : FVec Ideal S256x256 .bf16) := by
  funext y
  idx_vars y
  pointwise [k0_pay36, sig_x, real2_ix2]
  rw [← EReal.coe_mul, ← EReal.coe_mul]

theorem dh_x : k0_pay72 (F := Ideal) (rowsW t I.dab) (wide (both I)) = rows t I.dh := by
  funext y
  idx_vars y
  pointwise [k0_pay72, real2_ix2]
  simp only [← EReal.coe_mul]
  rw [sum_real fun j => I.dab (256 * t + y0.val) j * both I j y1.val]
  refine congrArg _ ?_
  rw [show 5632 = 2816 + 2816 from rfl, Finset.sum_range_add]
  unfold Inputs.dh
  refine congrArg₂ _ (Finset.sum_congr rfl fun j hj => ?_) (Finset.sum_congr rfl fun j _ => ?_)
  · rw [Finset.mem_range] at hj
    unfold Inputs.dab both
    rw [if_pos hj, if_pos hj]
  · unfold Inputs.dab both
    rw [if_neg (by omega), if_neg (by omega), show 2816 + j - 2816 = j by omega]

theorem dx_x (u : FVec Ideal S256x1 .f32) (hu : u = k0_pay9 (F := Ideal) (rows t I.x)) :
    k0_pay73 (F := Ideal) (scale I.pre) u (rows t I.unit) (rowsW t I.dab) (wide (both I)) = rows t I.dx := by
  subst hu
  funext y
  idx_vars y
  pointwise [k0_pay73, dh_x, real2_ix2]
  rw [root_x]
  simp only [← EReal.coe_mul]
  rw [sum_real fun x => I.dh (256 * t + y0.val) x * I.pre x * I.unit (256 * t + y0.val) x, kilo_word, div_real (by norm_num)]
  simp only [← EReal.coe_mul, ← EReal.coe_sub]
  rfl

theorem out_x : k0_pay2 (F := Ideal) (rows t I.ct) (rows t I.dx) = rows t (fun r d => I.ct r d + I.dx r d) := by
  funext y
  idx_vars y
  pointwise [k0_pay2, real2_ix2]
  rw [← EReal.coe_add]

theorem dpre_x : k0_pay1 (F := Ideal) (rows t I.unit) (rows t I.dh)
    = (real2 fun _ d => ∑ r ∈ Finset.range 256, I.dpre (256 * t + r) d : FVec Ideal S1x1024 .f32) := by
  funext y
  idx_vars y
  pointwise [k0_pay1, real2_ix2]
  simp only [← EReal.coe_mul]
  exact sum_real fun x => I.dpre (256 * t + x) y1.val

/-- The first `n` rows' sum. -/
abbrev upTo (n : ℕ) (f : ℕ → ℝ) : ℝ := ∑ r ∈ Finset.range n, f r

theorem upTo_step (f : ℕ → ℝ) : upTo (256 * t) f + ∑ r ∈ Finset.range 256, f (256 * t + r) = upTo (256 * (t + 1)) f := by
  unfold upTo
  rw [Nat.mul_succ, Finset.sum_range_add]

/-- A block's sum added to that of the rows before. -/
theorem sum_step (f : ℕ → ℕ → ℝ) : k0_pay4 (F := Ideal) (real2 (φ := .f32) fun _ d => ∑ r ∈ Finset.range 256, f (256 * t + r) d) (real2 (φ := .f32) fun _ d => upTo (256 * t) (f · d))
    = (real2 fun _ d => upTo (256 * (t + 1)) (f · d) : FVec Ideal S1x1024 .f32) := by
  funext y
  idx_vars y
  pointwise [k0_pay4, real2_ix2]
  rw [← EReal.coe_add, upTo_step]

end Cert.Ffn
end
-- ==== Proof.FfnStore.lean ====
/- The feed-forward block's backward call: what the kernel writes tile by tile, and what it reads back. -/
module

public import proofs.«01_k».proof.Proof.FfnBlock
public import Idealize.ShloMosaic.Lib.Pipeline.ValueKit.Tiles

@[expose] public section

set_option maxRecDepth 16384

noncomputable section

namespace Cert.Ffn

open Idealize.ShloMosaic Idealize.ShloMosaic.TcCoe Idealize.SL.Sem
open Cert.FfnKernelIdeal Cert.FfnKernelIdeal.Gen Cert.Reals Cert.Scalars

theorem narrow_inb {o : ℕ} (h : o + 256 ≤ 2816) : ∀ a, (![0, o] : Fin 2 → ℕ) a + (![256, 256] : Fin 2 → ℕ) a ≤ S256x2816.size a
  | ⟨0, _⟩ => Nat.le_refl 256
  | ⟨1, _⟩ => h

theorem wide_inb {o : ℕ} (h : o + 256 ≤ 5632) : ∀ a, (![0, o] : Fin 2 → ℕ) a + (![256, 256] : Fin 2 → ℕ) a ≤ S256x5632.size a
  | ⟨0, _⟩ => Nat.le_refl 256
  | ⟨1, _⟩ => h

/-- A tile of 256 columns of an array, at the array's index. -/
theorem at_tile {w : ℕ} {G : ℕ → ℕ → ℝ} {o : ℕ} (y : (⟨2, ![256, w]⟩ : Shape).Idx) {p : FVec Ideal S256x256 .bf16} (hp : p = real2 fun r l => G r (o + l)) :
    View.TileAt (Val := Elt Ideal) (e := .bf16) y ![0, o] ![256, 256] p ((real2 G : FVec Ideal ⟨2, ![256, w]⟩ .bf16) y) := by
  intro x h
  have h0 : (y 0).val = 0 + (x 0).val := h 0
  have h1 : (y 1).val = o + (x 1).val := h 1
  subst hp
  show ((G (x 0).val (o + (x 1).val) : ℝ) : EReal) = ((G (y 0).val (y 1).val : ℝ) : EReal)
  rw [h0, h1, zero_add]

variable (I : Inputs) (t : ℕ)

/-- A tile of the two products, read back from where they were stored whole. -/
theorem word_ab {A : FVec Ideal S256x5632 .f32} (hA : A = real2 fun r j => ab I (256 * t + r) j) (v : View sig .tc .vmem S256x5632 .f32) (o : ℕ)
    (inb : ∀ a, (![0, o] : Fin 2 → ℕ) a + (![256, 256] : Fin 2 → ℕ) a ≤ S256x5632.size a)
    (inb' : ∀ a, (![0, 0] : Fin 2 → ℕ) a + (![256, 5632] : Fin 2 → ℕ) a ≤ S256x5632.size a) :
    v.readCov (Val := Elt Ideal) [⟨Rect.unit ![0, 0] ![256, 5632] inb', A⟩] (Rect.unit ![0, o] ![256, 256] inb).toLoadRect
    = sq fun r l => ab I (256 * t + r) (o + l) := by
  subst hA
  rw [View.readCov_eq_canon']
  simp (disch := decide) only [View.canon_cons_unit_lit']
  funext y
  show ((ab I (256 * t + (0 + 1 * (y 0).val)) (o + 1 * (y 1).val) : ℝ) : EReal) = ((ab I (256 * t + (y 0).val) (o + (y 1).val) : ℝ) : EReal)
  rw [one_mul, one_mul, zero_add]

/-- A tile of the gated rows' gradient, read back from where it was stored whole. -/
theorem word_ds {A : FVec Ideal S256x2816 .f32} (hA : A = real2 fun r j => I.ds (256 * t + r) j) (v : View sig .tc .vmem S256x2816 .f32) (o : ℕ)
    (inb : ∀ a, (![0, o] : Fin 2 → ℕ) a + (![256, 256] : Fin 2 → ℕ) a ≤ S256x2816.size a)
    (inb' : ∀ a, (![0, 0] : Fin 2 → ℕ) a + (![256, 2816] : Fin 2 → ℕ) a ≤ S256x2816.size a) :
    v.readCov (Val := Elt Ideal) [⟨Rect.unit ![0, 0] ![256, 2816] inb', A⟩] (Rect.unit ![0, o] ![256, 256] inb).toLoadRect
    = sq fun r l => I.ds (256 * t + r) (o + l) := by
  subst hA
  rw [View.readCov_eq_canon']
  simp (disch := decide) only [View.canon_cons_unit_lit']
  funext y
  show ((I.ds (256 * t + (0 + 1 * (y 0).val)) (o + 1 * (y 1).val) : ℝ) : EReal) = ((I.ds (256 * t + (y 0).val) (o + (y 1).val) : ℝ) : EReal)
  rw [one_mul, one_mul, zero_add]

/-- Of two tiles of the products at the same place, the gated rows. -/
theorem gate_tile (o : ℕ) (ho : o + 256 ≤ 2816) {p q : FVec Ideal S256x256 .f32} (hp : p = sq fun r l => ab I (256 * t + r) (o + l))
    (hq : q = sq fun r l => ab I (256 * t + r) (2816 + o + l)) :
    k0_pay13 (F := Ideal) p q = (real2 fun r l => I.s (256 * t + r) (o + l) : FVec Ideal S256x256 .bf16) := by
  subst hp hq
  rw [gate_x]
  funext y
  have h := (y 1).isLt
  have hy : (y 1).val < 256 := h
  unfold real2 ab
  dsimp only
  simp only [if_pos (show o + (y 1).val < 2816 by omega), if_neg (show ¬ 2816 + o + (y 1).val < 2816 by omega), show 2816 + o + (y 1).val - 2816 = o + (y 1).val by omega]
  rfl

/-- Of the tiles at the same place, the gradient of the gate. -/
theorem da_tile (o : ℕ) (ho : o + 256 ≤ 2816) {p q z : FVec Ideal S256x256 .f32} (hp : p = sq fun r l => ab I (256 * t + r) (o + l))
    (hq : q = sq fun r l => ab I (256 * t + r) (2816 + o + l)) (hz : z = sq fun r l => I.ds (256 * t + r) (o + l)) :
    k0_pay35 (F := Ideal) p q z = (real2 fun r l => I.dab (256 * t + r) (o + l) : FVec Ideal S256x256 .bf16) := by
  subst hp hq hz
  rw [da_x]
  funext y
  have h := (y 1).isLt
  have hy : (y 1).val < 256 := h
  unfold real2 ab Inputs.dab
  dsimp only
  simp only [if_pos (show o + (y 1).val < 2816 by omega), if_neg (show ¬ 2816 + o + (y 1).val < 2816 by omega), show 2816 + o + (y 1).val - 2816 = o + (y 1).val by omega]
  rfl

/-- Of the tiles at the same place, the gradient of the other product. -/
theorem db_tile (o : ℕ) (ho : o + 256 ≤ 2816) {p z : FVec Ideal S256x256 .f32} (hp : p = sq fun r l => ab I (256 * t + r) (o + l))
    (hz : z = sq fun r l => I.ds (256 * t + r) (o + l)) :
    k0_pay36 (F := Ideal) p z = (real2 fun r l => I.dab (256 * t + r) (2816 + o + l) : FVec Ideal S256x256 .bf16) := by
  subst hp hz
  rw [db_x]
  funext y
  have h := (y 1).isLt
  have hy : (y 1).val < 256 := h
  unfold real2 ab Inputs.dab
  dsimp only
  simp only [if_pos (show o + (y 1).val < 2816 by omega), if_neg (show ¬ 2816 + o + (y 1).val < 2816 by omega), show 2816 + o + (y 1).val - 2816 = o + (y 1).val by omega]
  rfl

/-- A tile of the two products, read back. -/
abbrev tileA (v : View sig .tc .vmem S256x5632 .f32) (A : FVec Ideal S256x5632 .f32) (o : ℕ)
    (inb : ∀ a, (![0, o] : Fin 2 → ℕ) a + (![256, 256] : Fin 2 → ℕ) a ≤ S256x5632.size a) : FVec Ideal S256x256 .f32 :=
  v.readCov (Val := Elt Ideal) [⟨Rect.unit ![0, 0] ![256, 5632] inb_S256x5632_S256x5632_0_0, A⟩] (Rect.unit (s := S256x5632) ![0, o] ![256, 256] inb).toLoadRect

/-- A tile of the gated rows' gradient, read back. -/
abbrev tileZ (z : View sig .tc .vmem S256x2816 .f32) (Z : FVec Ideal S256x2816 .f32) (o : ℕ)
    (inb : ∀ a, (![0, o] : Fin 2 → ℕ) a + (![256, 256] : Fin 2 → ℕ) a ≤ S256x2816.size a) : FVec Ideal S256x256 .f32 :=
  z.readCov (Val := Elt Ideal) [⟨Rect.unit ![0, 0] ![256, 2816] inb_S256x2816_S256x2816_0_0, Z⟩] (Rect.unit (s := S256x2816) ![0, o] ![256, 256] inb).toLoadRect

/-- The gated rows, tile by tile from the last. -/
theorem gated_stored (v : View sig .tc .vmem S256x5632 .f32) {A : FVec Ideal S256x5632 .f32} (hA : A = real2 fun r j => ab I (256 * t + r) j) :
    View.canon (Val := Elt Ideal) (s := S256x2816) (e := .bf16) (List.ofFn fun k : Fin 11 =>
      ⟨Rect.unit ![0, 2560 - 256 * k.val] ![256, 256] (narrow_inb (by omega)), k0_pay13 (F := Ideal) (tileA v A (2560 - 256 * k.val) (wide_inb (by omega))) (tileA v A (5376 - 256 * k.val) (wide_inb (by omega)))⟩)
    = (real2 fun r j => I.s (256 * t + r) j : FVec Ideal S256x2816 .bf16) := by
  funext y
  have y0 : (y 0).val < 256 := (y 0).isLt
  have y1 : (y 1).val < 2816 := (y 1).isLt
  refine View.canon_ofFn_unit_eq_of_forall _ _ _ _ y _ ⟨⟨10 - (y 1).val / 256, by omega⟩, fun a => ?_⟩ fun k => at_tile y ?_
  · match a with
    | ⟨0, _⟩ => exact ⟨Nat.zero_le _, by show (y 0).val < 0 + 256; omega⟩
    | ⟨1, _⟩ =>
      show 2560 - 256 * (10 - (y 1).val / 256) ≤ (y 1).val ∧ (y 1).val < 2560 - 256 * (10 - (y 1).val / 256) + 256
      omega
  · exact gate_tile I t _ (by omega) (word_ab I t hA v _ _ _) ((word_ab I t hA v _ _ _).trans (congrArg (fun q => sq fun r l => ab I (256 * t + r) (q + l)) (by omega)))

/-- Where the gradients' tiles are stored: the two of each pair of places in turn, from the last. -/
abbrev pairAt (k : ℕ) : ℕ := if k % 2 = 0 then 5376 - 256 * (k / 2) else 2560 - 256 * (k / 2)

theorem pairAt_le {k : ℕ} (hk : k < 22) : pairAt k + 256 ≤ 5632 := by unfold pairAt; split <;> omega

/-- What is stored there. -/
abbrev pairTile (v : View sig .tc .vmem S256x5632 .f32) (A : FVec Ideal S256x5632 .f32) (z : View sig .tc .vmem S256x2816 .f32) (Z : FVec Ideal S256x2816 .f32) (k : ℕ) : FVec Ideal S256x256 .bf16 :=
  if k % 2 = 0 then k0_pay36 (F := Ideal) (tileA v A (2560 - 256 * (k / 2)) (wide_inb (by omega))) (tileZ z Z (2560 - 256 * (k / 2)) (narrow_inb (by omega)))
  else k0_pay35 (F := Ideal) (tileA v A (2560 - 256 * (k / 2)) (wide_inb (by omega))) (tileA v A (5376 - 256 * (k / 2)) (wide_inb (by omega))) (tileZ z Z (2560 - 256 * (k / 2)) (narrow_inb (by omega)))

/-- The gradients of the two products, tile by tile. -/
theorem grads_stored (v : View sig .tc .vmem S256x5632 .f32) {A : FVec Ideal S256x5632 .f32} (hA : A = real2 fun r j => ab I (256 * t + r) j)
    (z : View sig .tc .vmem S256x2816 .f32) {Z : FVec Ideal S256x2816 .f32} (hZ : Z = real2 fun r j => I.ds (256 * t + r) j) :
    View.canon (Val := Elt Ideal) (s := S256x5632) (e := .bf16) (List.ofFn fun k : Fin 22 =>
      ⟨Rect.unit ![0, pairAt k.val] ![256, 256] (wide_inb (pairAt_le k.isLt)), pairTile v A z Z k.val⟩)
    = rowsW t I.dab := by
  funext y
  have y0 : (y 0).val < 256 := (y 0).isLt
  have y1 : (y 1).val < 5632 := (y 1).isLt
  refine View.canon_ofFn_unit_eq_of_forall _ _ _ _ y _
    ⟨⟨if (y 1).val < 2816 then 21 - 2 * ((y 1).val / 256) else 42 - 2 * ((y 1).val / 256), by split <;> omega⟩, fun a => ?_⟩ fun k => at_tile y ?_
  · match a with
    | ⟨0, _⟩ => exact ⟨Nat.zero_le _, by show (y 0).val < 0 + 256; omega⟩
    | ⟨1, _⟩ =>
      show pairAt (if (y 1).val < 2816 then _ else _) ≤ (y 1).val ∧ (y 1).val < pairAt (if (y 1).val < 2816 then _ else _) + 256
      unfold pairAt
      split <;> split <;> omega
  · have hk := k.isLt
    have hq : 5376 - 256 * (k.val / 2) = 2816 + (2560 - 256 * (k.val / 2)) := by omega
    unfold pairAt pairTile
    split
    · exact (db_tile I t _ (by omega) (word_ab I t hA v _ _ _) (word_ds I t hZ z _ _ _)).trans (congrArg (fun q => (real2 fun r l => I.dab (256 * t + r) (q + l) : FVec Ideal S256x256 .bf16)) hq.symm)
    · exact da_tile I t _ (by omega) (word_ab I t hA v _ _ _) ((word_ab I t hA v _ _ _).trans (congrArg (fun q => sq fun r l => ab I (256 * t + r) (q + l)) hq)) (word_ds I t hZ z _ _ _)

end Cert.Ffn
end
-- ==== Proof.FfnRun.lean ====
module

public import proofs.«01_k».proof.Proof.Gen.FfnKernelIdeal.Frame.Runs

/-! The body of the feed-forward's backward kernel at one grid point, run once: at the first point, where it copies both weight
    matrices out of the packed array by twenty-four transfers and waits for them, and at a later one, where they are in place. -/

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer at some contents. -/
abbrev Any (c : Dev nD) {s : Shape} {e : EltTy} (M : Memref sig .tc .vmem s e) : sProp 𝕄 :=
  iprop(∃ d, owns (c : Thread nD τ) M fullShare d)

/-- A buffer holding some stores. -/
abbrev Lands (c : Dev nD) {s : Shape} {e : EltTy} (M : Memref sig .tc .vmem s e) (L : List (View.Piece (Elt F) s e)) : sProp 𝕄 :=
  iprop(∃ f, M.view.loc (c : Thread nD τ) ↦[M.view.set]{fullShare} M.view.writes (Elt F) f L)

/-- The transfers' counters, all at zero. -/
abbrev Cells (c : Dev nD) : sProp 𝕄 :=
  iprop(semVal ((c : Thread nD τ), SemLoc.dma 20) 0 ∗ semVal ((c : Thread nD τ), SemLoc.dma 21) 0 ∗ semVal ((c : Thread nD τ), SemLoc.dma 22) 0
    ∗ semVal ((c : Thread nD τ), SemLoc.dma 23) 0 ∗ semVal ((c : Thread nD τ), SemLoc.dma 24) 0 ∗ semVal ((c : Thread nD τ), SemLoc.dma 25) 0
    ∗ semVal ((c : Thread nD τ), SemLoc.dma 26) 0 ∗ semVal ((c : Thread nD τ), SemLoc.dma 27) 0 ∗ semVal ((c : Thread nD τ), SemLoc.dma 28) 0
    ∗ semVal ((c : Thread nD τ), SemLoc.dma 29) 0 ∗ semVal ((c : Thread nD τ), SemLoc.dma 30) 0 ∗ semVal ((c : Thread nD τ), SemLoc.dma 31) 0
    ∗ semVal ((c : Thread nD τ), SemLoc.dma 32) 0 ∗ semVal ((c : Thread nD τ), SemLoc.dma 33) 0 ∗ semVal ((c : Thread nD τ), SemLoc.dma 34) 0
    ∗ semVal ((c : Thread nD τ), SemLoc.dma 35) 0 ∗ semVal ((c : Thread nD τ), SemLoc.dma 36) 0 ∗ semVal ((c : Thread nD τ), SemLoc.dma 37) 0
    ∗ semVal ((c : Thread nD τ), SemLoc.dma 38) 0 ∗ semVal ((c : Thread nD τ), SemLoc.dma 39) 0 ∗ semVal ((c : Thread nD τ), SemLoc.dma 40) 0
    ∗ semVal ((c : Thread nD τ), SemLoc.dma 41) 0 ∗ semVal ((c : Thread nD τ), SemLoc.dma 42) 0 ∗ semVal ((c : Thread nD τ), SemLoc.dma 43) 0)

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg6 : Memref sig .tc .vmem S1x1024 .f32) (harg6 : arg6.IsWhole) (arg7 : Memref sig .tc .vmem S256x1024 .f32) (harg7 : arg7.IsWhole)
  (arg8 : Memref sig .tc .vmem S256x1024 .bf16) (harg8 : arg8.IsWhole) (arg9 : Memref sig .tc .vmem S256x5632 .bf16) (harg9 : arg9.IsWhole)
  (arg10 : Memref sig .tc .vmem S256x2816 .bf16) (harg10 : arg10.IsWhole) (arg11 : Memref sig .tc .vmem S256x1024 .bf16) (harg11 : arg11.IsWhole)
  (arg12 : Memref sig .tc .vmem S1x1024 .f32) (harg12 : arg12.IsWhole) (arg13 : Memref sig .tc .vmem S1x1024 .f32) (harg13 : arg13.IsWhole)
  (arg14 : Memref sig .tc .vmem S256x5632 .f32) (harg14 : arg14.IsWhole) (arg15 : Memref sig .tc .vmem S256x2816 .f32) (harg15 : arg15.IsWhole)
  (arg16 : Memref sig .tc .vmem S5632x1024 .bf16) (harg16 : arg16.IsWhole) (arg17 : Memref sig .tc .vmem S2816x1024 .bf16) (harg17 : arg17.IsWhole)
  (x0 x1 x2 : Vec F S256x1024 .f32) (x3 x4 : Vec F S1x1024 .f32) (fh : HbBuf0 (F := F) c hbM0_0)

/-- The blocks the body reads. -/
abbrev Ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg6 fullShare x4)

/-- What the body leaves: the blocks it reads, its stores, the weights as said, the counters and the packed array. -/
abbrev Leaves (p7 : List (View.Piece (Elt F) S256x1024 .f32)) (p8 : List (View.Piece (Elt F) S256x1024 .bf16)) (p9 : List (View.Piece (Elt F) S256x5632 .bf16)) (p10 : List (View.Piece (Elt F) S256x2816 .bf16)) (p11 : List (View.Piece (Elt F) S256x1024 .bf16)) (p12 : List (View.Piece (Elt F) S1x1024 .f32)) (p13 : List (View.Piece (Elt F) S1x1024 .f32)) (Wt : sProp 𝕄) : sProp 𝕄 :=
  iprop(Ins c arg1 arg2 arg3 arg4 arg6 x0 x1 x2 x3 x4
    ∗ Lands c arg7 p7 ∗ Lands c arg8 p8 ∗ Lands c arg9 p9 ∗ Lands c arg10 p10 ∗ Lands c arg11 p11 ∗ Lands c arg12 p12 ∗ Lands c arg13 p13
    ∗ Any c arg14 ∗ Any c arg15 ∗ Wt ∗ Cells c ∗ hbPt0 c hbM0_0 fh)

/-- The body at a point. -/
abbrev body : Prog (TpuEff nD τ sig (Elt F) Λ₀ .tc) PUnit :=
  cc0_ffn_bwd i arg1 harg1 arg2 harg2 arg3 harg3 arg4 harg4 (Memref.whole main_v24) (Memref.isWhole_whole _) arg6 harg6 arg7 harg7 arg8 harg8 arg9 harg9 arg10 harg10 arg11 harg11 arg12 harg12 arg13 harg13 arg14 harg14 arg15 harg15 arg16 harg16 arg17 harg17 cc0_scratch4

set_option maxHeartbeats 16000000 in
set_option sl_exec.rejoinHeartbeats 2000000 in
set_option sl_exec.dmaWindow true in
set_option sl_exec.dmaWindowSet true in
/-- The run at the first point: every result's block is stored, and both weight matrices are copied in. -/
def runFirst (hc0 : cond0_0 i) (hc1 : cond0_1 i) (hc2 : ¬ cond0_2 i) (hc3 : cond0_3 i) (hc4 : ¬ cond0_4 i) :
    Σ' (p7 : List (View.Piece (Elt F) S256x1024 .f32)), Σ' (p8 : List (View.Piece (Elt F) S256x1024 .bf16)), Σ' (p9 : List (View.Piece (Elt F) S256x5632 .bf16)), Σ' (p10 : List (View.Piece (Elt F) S256x2816 .bf16)), Σ' (p11 : List (View.Piece (Elt F) S256x1024 .bf16)), Σ' (p12 : List (View.Piece (Elt F) S1x1024 .f32)), Σ' (p13 : List (View.Piece (Elt F) S1x1024 .f32)), Σ' (p16 : List (View.Piece (Elt F) S5632x1024 .bf16)), { p17 : List (View.Piece (Elt F) S2816x1024 .bf16) // ∀ (W : Waits sig Unit) (K : PUnit → sProp 𝕄),
        iprop(Ins c arg1 arg2 arg3 arg4 arg6 x0 x1 x2 x3 x4
          ∗ Any c arg7 ∗ Any c arg8 ∗ Any c arg9 ∗ Any c arg10 ∗ Any c arg11 ∗ Any c arg12 ∗ Any c arg13
          ∗ Any c arg14 ∗ Any c arg15 ∗ Any c arg16 ∗ Any c arg17 ∗ Cells c ∗ hbPt0 c hbM0_0 fh ∗ owes (c : Thread nD τ) 0 W

            ∗ (iprop(Leaves c arg1 arg2 arg3 arg4 arg6 arg7 arg8 arg9 arg10 arg11 arg12 arg13 arg14 arg15 x0 x1 x2 x3 x4 fh p7 p8 p9 p10 p11 p12 p13 iprop(Lands c arg16 p16
            ∗ Lands c arg17 p17) ∗ (∃ W', owes (c : Thread nD τ) 0 W')) -∗ K ⟨⟩))
        ⊢ wp frame (wpE (defs₀ (F := F)) Variants.none c none) Set.univ
            (body i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun W K => ?run⟩
  case run =>
    unfold body
    simp only [cc0_ffn_bwd_eq_skeleton]; unfold cc0_ffn_bwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold Leaves Ins Cells Any owns
    iintro ⟨⟨⟨%f0, %hf0, H0⟩, ⟨%f1, %hf1, H1⟩, ⟨%f2, %hf2, H2⟩, ⟨%f3, %hf3, H3⟩, ⟨%f4, %hf4, H4⟩⟩,
      ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩,
      ⟨Q0, Q1, Q2, Q3, Q4, Q5, Q6, Q7, Q8, Q9, Q10, Q11, Q12, Q13, Q14, Q15, Q16, Q17, Q18, Q19, Q20, Q21, Q22, Q23⟩, Hh, HW, Hk⟩
    obtain rfl := harg1.eq_unread hf0; obtain rfl := harg2.eq_unread hf1; obtain rfl := harg3.eq_unread hf2; obtain rfl := harg4.eq_unread hf3; obtain rfl := harg6.eq_unread hf4
    sl_exec (disch := first | sl_exact hc0 | sl_exact hc1 | sl_exact hc2 | sl_exact hc3 | sl_exact hc4)
    sl_step
    iapply Hk
    isplitr [HW]
    swap; · iexists _; iexact HW
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _; isplitr; · ipureintro; exact harg6.read_unread _
      iexact H4
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _; iexists _; isplitr
      swap; · iexact H14
      ipureintro; rfl
    isplitl [H15]
    · iexists _; iexists _; isplitr
      swap; · iexact H15
      ipureintro; rfl
    isplitl [H16 H17]
    · isplitl [H16]; · iexists _; iexact H16
      iexists _; iexact H17
    isplitr [Hh]
    swap; · iexact Hh
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    iexact Q23

set_option maxHeartbeats 16000000 in
/-- The run at a later point: the weight matrices are in place, and the two rows of sums are added to. -/
def runLater (hc0 : ¬ cond0_0 i) (hc1 : ¬ cond0_1 i) (hc2 : cond0_2 i) (hc3 : ¬ cond0_3 i) (hc4 : cond0_4 i)
    (r12 r13 : Vec F S1x1024 .f32) (w16 : Vec F S5632x1024 .bf16) (w17 : Vec F S2816x1024 .bf16) :
    Σ' (p7 : List (View.Piece (Elt F) S256x1024 .f32)), Σ' (p8 : List (View.Piece (Elt F) S256x1024 .bf16)), Σ' (p9 : List (View.Piece (Elt F) S256x5632 .bf16)), Σ' (p10 : List (View.Piece (Elt F) S256x2816 .bf16)), Σ' (p11 : List (View.Piece (Elt F) S256x1024 .bf16)), Σ' (p12 : List (View.Piece (Elt F) S1x1024 .f32)), Σ' (p13 : List (View.Piece (Elt F) S1x1024 .f32)), Σ' (p16 : List (View.Piece (Elt F) S5632x1024 .bf16)), { p17 : List (View.Piece (Elt F) S2816x1024 .bf16) // ∀ (W : Waits sig Unit) (K : PUnit → sProp 𝕄),
        iprop(Ins c arg1 arg2 arg3 arg4 arg6 x0 x1 x2 x3 x4
          ∗ Any c arg7 ∗ Any c arg8 ∗ Any c arg9 ∗ Any c arg10 ∗ Any c arg11 ∗ owns (c : Thread nD τ) arg12 fullShare r12 ∗ owns (c : Thread nD τ) arg13 fullShare r13
          ∗ Any c arg14 ∗ Any c arg15 ∗ owns (c : Thread nD τ) arg16 fullShare w16 ∗ owns (c : Thread nD τ) arg17 fullShare w17 ∗ Cells c
            ∗ hbPt0 c hbM0_0 fh ∗ owes (c : Thread nD τ) 0 W

            ∗ (iprop(Leaves c arg1 arg2 arg3 arg4 arg6 arg7 arg8 arg9 arg10 arg11 arg12 arg13 arg14 arg15 x0 x1 x2 x3 x4 fh p7 p8 p9 p10 p11 p12 p13 iprop(owns (c : Thread nD τ) arg16 fullShare w16
            ∗ owns (c : Thread nD τ) arg17 fullShare w17) ∗ (∃ W', owes (c : Thread nD τ) 0 W')) -∗ K ⟨⟩))
        ⊢ wp frame (wpE (defs₀ (F := F)) Variants.none c none) Set.univ
            (body i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, [], [], fun W K => ?run⟩
  case run =>
    unfold body
    simp only [cc0_ffn_bwd_eq_skeleton]; unfold cc0_ffn_bwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold Leaves Ins Cells Any owns
    iintro ⟨⟨⟨%f0, %hf0, H0⟩, ⟨%f1, %hf1, H1⟩, ⟨%f2, %hf2, H2⟩, ⟨%f3, %hf3, H3⟩, ⟨%f4, %hf4, H4⟩⟩,
      ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%d14, %f14, -, H14⟩, ⟨%d15, %f15, -, H15⟩, ⟨%f16, %hf16, H16⟩, ⟨%f17, %hf17, H17⟩,
      ⟨Q0, Q1, Q2, Q3, Q4, Q5, Q6, Q7, Q8, Q9, Q10, Q11, Q12, Q13, Q14, Q15, Q16, Q17, Q18, Q19, Q20, Q21, Q22, Q23⟩, Hh, HW, Hk⟩
    obtain rfl := harg1.eq_unread hf0; obtain rfl := harg2.eq_unread hf1; obtain rfl := harg3.eq_unread hf2; obtain rfl := harg4.eq_unread hf3; obtain rfl := harg6.eq_unread hf4; obtain rfl := harg12.eq_unread hf12; obtain rfl := harg13.eq_unread hf13; obtain rfl := harg16.eq_unread hf16; obtain rfl := harg17.eq_unread hf17
    sl_exec (disch := first | sl_exact hc0 | sl_exact hc1 | sl_exact hc2 | sl_exact hc3 | sl_exact hc4)
    sl_step
    iapply Hk
    isplitr [HW]
    swap; · iexists _; iexact HW
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _; isplitr; · ipureintro; exact harg6.read_unread _
      iexact H4
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _; iexists _; isplitr
      swap; · iexact H14
      ipureintro; rfl
    isplitl [H15]
    · iexists _; iexists _; isplitr
      swap; · iexact H15
      ipureintro; rfl
    isplitl [H16 H17]
    · isplitl [H16]
      · iexists _; isplitr; · ipureintro; exact harg16.read_unread _
        iexact H16
      iexists _; isplitr; · ipureintro; exact harg17.read_unread _
      iexact H17
    isplitr [Hh]
    swap; · iexact Hh
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    iexact Q23

end Cert.FfnKernelIdeal.Gen

end
-- ==== Proof.FfnFrame.lean ====
module

public import proofs.«01_k».proof.Proof.FfnRun
public import Idealize.ShloMosaic.Lib.Claim

/-! The feed-forward's backward kernel runs to its end: what every block holds after every point, the body's obligation at a
    point, the whole run, and the arguments unchanged. Stated over any arithmetic. -/

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- Stores that tile a buffer say all it holds. -/
theorem owns_of_lands {s : Shape} {e : EltTy} (M : Memref sig .tc .vmem s e) (V' : View sig .tc .vmem s e)
    (L : List (View.Piece (Elt F) s e)) (size : Fin s.rank → ℕ) (h : View.Piece.tiledL L size = true) :
    (Lands c M L : sProp 𝕄) ⊢ owns (c : Thread nD τ) M fullShare (V'.read (Elt F) (V'.writes (Elt F) V'.junk L)) := by
  iintro ⟨%f, H⟩
  unfold owns; iexists _; isplitr
  swap; · iexact H
  ipureintro
  exact View.read_writes_of_cover _ _ _ _ _ (View.cover_of_tiledL L size h)

/-- What the point leaves: the seven results' blocks and the two weight matrices. -/
structure Left (F : FTy → Type) where
  b7 : Vec F S256x1024 .f32
  b8 : Vec F S256x1024 .bf16
  b9 : Vec F S256x5632 .bf16
  b10 : Vec F S256x2816 .bf16
  b11 : Vec F S256x1024 .bf16
  b12 : Vec F S1x1024 .f32
  b13 : Vec F S1x1024 .f32
  w16 : Vec F S5632x1024 .bf16
  w17 : Vec F S2816x1024 .bf16

theorem first_conds (t : Fin cfg0.N) (h : t.val = 0) : cond0_0 (grid0.coords t) ∧ cond0_1 (grid0.coords t)
    ∧ ¬ cond0_2 (grid0.coords t) ∧ cond0_3 (grid0.coords t) ∧ ¬ cond0_4 (grid0.coords t) :=
  ⟨(hcond0_0 t).mpr (by omega), (hcond0_1 t).mpr (by omega), fun g => absurd ((hcond0_2 t).mp g) (by omega),
    (hcond0_3 t).mpr (by omega), fun g => absurd ((hcond0_4 t).mp g) (by omega)⟩

theorem later_conds (t : Fin cfg0.N) (h : t.val ≠ 0) : ¬ cond0_0 (grid0.coords t) ∧ ¬ cond0_1 (grid0.coords t)
    ∧ cond0_2 (grid0.coords t) ∧ ¬ cond0_3 (grid0.coords t) ∧ cond0_4 (grid0.coords t) := by
  have hN : t.val < 16 := lt_of_lt_of_eq t.isLt N_0
  exact ⟨fun g => absurd ((hcond0_0 t).mp g) (by omega), fun g => absurd ((hcond0_1 t).mp g) (by omega),
    (hcond0_2 t).mpr (by omega), fun g => absurd ((hcond0_3 t).mp g) (by omega), (hcond0_4 t).mpr (by omega)⟩

/-- The run at the first point. -/
abbrev firstAt (t : Fin cfg0.N) (h : t.val = 0) :=
  runFirst c (grid0.coords t)
    (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t)
    scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (V m c main_v24)
    (first_conds t h).1 (first_conds t h).2.1 (first_conds t h).2.2.1 (first_conds t h).2.2.2.1 (first_conds t h).2.2.2.2

/-- The run at a later point, after what the point before left. -/
abbrev laterAt (t : Fin cfg0.N) (h : t.val ≠ 0) (e : Left F) :=
  runLater c (grid0.coords t)
    (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t)
    scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (V m c main_v24)
    (later_conds t h).1 (later_conds t h).2.1 (later_conds t h).2.2.1 (later_conds t h).2.2.2.1 (later_conds t h).2.2.2.2
    e.b12 e.b13 e.w16 e.w17

/-- What the first point leaves. -/
def leftFirst (t : Fin cfg0.N) (h : t.val = 0) : Left F where
  b7 := VO0_5.read (Elt F) (VO0_5.writes (Elt F) VO0_5.junk (firstAt m c t h).1)
  b8 := VO0_6.read (Elt F) (VO0_6.writes (Elt F) VO0_6.junk (firstAt m c t h).2.1)
  b9 := VO0_7.read (Elt F) (VO0_7.writes (Elt F) VO0_7.junk (firstAt m c t h).2.2.1)
  b10 := VO0_8.read (Elt F) (VO0_8.writes (Elt F) VO0_8.junk (firstAt m c t h).2.2.2.1)
  b11 := VO0_9.read (Elt F) (VO0_9.writes (Elt F) VO0_9.junk (firstAt m c t h).2.2.2.2.1)
  b12 := VO0_10.read (Elt F) (VO0_10.writes (Elt F) VO0_10.junk (firstAt m c t h).2.2.2.2.2.1)
  b13 := VO0_11.read (Elt F) (VO0_11.writes (Elt F) VO0_11.junk (firstAt m c t h).2.2.2.2.2.2.1)
  w16 := VS0_2.read (Elt F) (VS0_2.writes (Elt F) VS0_2.junk (firstAt m c t h).2.2.2.2.2.2.2.1)
  w17 := VS0_3.read (Elt F) (VS0_3.writes (Elt F) VS0_3.junk (firstAt m c t h).2.2.2.2.2.2.2.2.1)

/-- What a later point leaves. -/
def leftLater (t : Fin cfg0.N) (h : t.val ≠ 0) (e : Left F) : Left F where
  b7 := VO0_5.read (Elt F) (VO0_5.writes (Elt F) VO0_5.junk (laterAt m c t h e).1)
  b8 := VO0_6.read (Elt F) (VO0_6.writes (Elt F) VO0_6.junk (laterAt m c t h e).2.1)
  b9 := VO0_7.read (Elt F) (VO0_7.writes (Elt F) VO0_7.junk (laterAt m c t h e).2.2.1)
  b10 := VO0_8.read (Elt F) (VO0_8.writes (Elt F) VO0_8.junk (laterAt m c t h e).2.2.2.1)
  b11 := VO0_9.read (Elt F) (VO0_9.writes (Elt F) VO0_9.junk (laterAt m c t h e).2.2.2.2.1)
  b12 := VO0_10.read (Elt F) (VO0_10.writes (Elt F) VO0_10.junk (laterAt m c t h e).2.2.2.2.2.1)
  b13 := VO0_11.read (Elt F) (VO0_11.writes (Elt F) VO0_11.junk (laterAt m c t h e).2.2.2.2.2.2.1)
  w16 := e.w16
  w17 := e.w17

/-- What each point leaves. -/
def left : (n : ℕ) → n < cfg0.N → Left F
  | 0, hn => leftFirst m c ⟨0, hn⟩ rfl
  | n + 1, hn => leftLater m c ⟨n + 1, hn⟩ (Nat.succ_ne_zero n) (left n (Nat.lt_of_succ_lt hn))

/-- What the point before left. -/
abbrev before (t : Fin cfg0.N) : Left F := left m c (t.val - 1) (Nat.lt_of_le_of_lt (Nat.sub_le _ _) t.isLt)

theorem left_first (t : Fin cfg0.N) (h : t.val = 0) : left m c t.val t.isLt = leftFirst m c t h := by
  obtain ⟨n, hn⟩ := t
  cases n with
  | zero => rfl
  | succ n => exact absurd h (Nat.succ_ne_zero n)

theorem left_later (t : Fin cfg0.N) (h : t.val ≠ 0) : left m c t.val t.isLt = leftLater m c t h (before m c t) := by
  obtain ⟨n, hn⟩ := t
  cases n with
  | zero => exact absurd rfl h
  | succ n => rfl

/-- Before the first point the scratch holds anything, before a later one the weights are what the point before left. -/
def PhiS : (n : ℕ) → n ≤ cfg0.N → sProp 𝕄
  | 0, _ => Pipeline.ΦD osem0 spec0 H0 (V m) c
  | n + 1, hn => iprop(iprop(Any c scM0_0 ∗ Any c scM0_1 ∗ owns (c : Thread nD τ) scM0_2 fullShare (left m c n hn).w16
      ∗ owns (c : Thread nD τ) scM0_3 fullShare (left m c n hn).w17) ∗ (∃ r, prngReg c r) ∗ Cells c ∗ hbPt0 c hbM0_0 (V m c main_v24))

theorem PhiS_pos (n : ℕ) (h : n ≤ cfg0.N) (hz : n ≠ 0) : PhiS m c n h
    = iprop(iprop(Any c scM0_0 ∗ Any c scM0_1 ∗ owns (c : Thread nD τ) scM0_2 fullShare (left m c (n - 1) (by omega)).w16
      ∗ owns (c : Thread nD τ) scM0_3 fullShare (left m c (n - 1) (by omega)).w17) ∗ (∃ r, prngReg c r) ∗ Cells c
      ∗ hbPt0 c hbM0_0 (V m c main_v24)) := by
  cases n with
  | zero => exact absurd rfl hz
  | succ n => rfl

/-- The proof data: the arrays as the region finds them, what each window's buffer holds after a point, and the weights. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (left m c t.val t.isLt).b7
    | ⟨6, _⟩ => (left m c t.val t.isLt).b8
    | ⟨7, _⟩ => (left m c t.val t.isLt).b9
    | ⟨8, _⟩ => (left m c t.val t.isLt).b10
    | ⟨9, _⟩ => (left m c t.val t.isLt).b11
    | ⟨10, _⟩ => (left m c t.val t.isLt).b12
    | ⟨11, _⟩ => (left m c t.val t.isLt).b13
  Φ t := PhiS m c t.val (Nat.le_of_lt_succ t.isLt)
  q _ := fullShare
  owed _ := 0

theorem A_eq (w : Fin cfg0.W) : (dats m 0 c).A w = V m c (Pipeline.arrRef spec0 w) := by
  dsimp only [dats]

theorem PhiS_castSucc (t : Fin cfg0.N) : (dats m 0 c).Φ t.castSucc = PhiS m c t.val (Nat.le_of_lt t.isLt) := by
  dsimp only [dats]; exact Pipeline.Dat.Φ_castSucc (PhiS m c) t

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = (left m c t.val t.isLt).b7 := by dsimp only [dats]
theorem after0_6 (t : Fin cfg0.N) : (dats m 0 c).after 6 t = (left m c t.val t.isLt).b8 := by dsimp only [dats]
theorem after0_7 (t : Fin cfg0.N) : (dats m 0 c).after 7 t = (left m c t.val t.isLt).b9 := by dsimp only [dats]
theorem after0_8 (t : Fin cfg0.N) : (dats m 0 c).after 8 t = (left m c t.val t.isLt).b10 := by dsimp only [dats]
theorem after0_9 (t : Fin cfg0.N) : (dats m 0 c).after 9 t = (left m c t.val t.isLt).b11 := by dsimp only [dats]
theorem after0_10 (t : Fin cfg0.N) : (dats m 0 c).after 10 t = (left m c t.val t.isLt).b12 := by dsimp only [dats]
theorem after0_11 (t : Fin cfg0.N) : (dats m 0 c).after 11 t = (left m c t.val t.isLt).b13 := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d

/-- A row of sums is added to at every point. -/
theorem live10 (t : Fin cfg0.N) : cfg0.idle 10 (grid0.coords t) = false := by
  by_cases h : t.val = 0
  · have g := first_conds t h
    exact liveAt0_10_A t g.1 g.2.1 g.2.2.1 g.2.2.2.1 g.2.2.2.2
  · have g := later_conds t h
    exact liveAt0_10_B t g.1 g.2.1 g.2.2.1 g.2.2.2.1 g.2.2.2.2

/-- At a later point it holds what the point before left. -/
theorem before0_10 (t : Fin cfg0.N) (h : t.val ≠ 0) (d) : (dats m 0 c).before 10 t d = (before m c t).b12 := by
  have g := later_conds t h
  rw [Dat.before_out_traj _ 10 rfl (fun _ _ => rfl)
      (fun t' _ hi _ => absurd hi (by rw [live10 t']; exact Bool.false_ne_true)) t.val t rfl d,
    if_neg (by rw [notFresh0_10_B t g.1 g.2.1 g.2.2.1 g.2.2.2.1 g.2.2.2.2]; exact Bool.false_ne_true)]
  dsimp only [dats]

/-- A row of sums is added to at every point. -/
theorem live11 (t : Fin cfg0.N) : cfg0.idle 11 (grid0.coords t) = false := by
  by_cases h : t.val = 0
  · have g := first_conds t h
    exact liveAt0_11_A t g.1 g.2.1 g.2.2.1 g.2.2.2.1 g.2.2.2.2
  · have g := later_conds t h
    exact liveAt0_11_B t g.1 g.2.1 g.2.2.1 g.2.2.2.1 g.2.2.2.2

/-- At a later point it holds what the point before left. -/
theorem before0_11 (t : Fin cfg0.N) (h : t.val ≠ 0) (d) : (dats m 0 c).before 11 t d = (before m c t).b13 := by
  have g := later_conds t h
  rw [Dat.before_out_traj _ 11 rfl (fun _ _ => rfl)
      (fun t' _ hi _ => absurd hi (by rw [live11 t']; exact Bool.false_ne_true)) t.val t rfl d,
    if_neg (by rw [notFresh0_11_B t g.1 g.2.1 g.2.2.1 g.2.2.2.1 g.2.2.2.2]; exact Bool.false_ne_true)]
  dsimp only [dats]

/-- What the body is called with at a point. -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns. -/
def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (dats m 0 c).leavesExact 10 t
    ∗ (dats m 0 c).leavesExact 11 t)

set_option maxHeartbeats 12800000 in
/-- The body at any point: the run of the case that the point is in. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiS_castSucc, show (dats m 0 c).Φ t.succ = PhiS m c (t.val + 1) t.isLt from rfl, PhiS_pos m c (t.val + 1) _ (Nat.succ_ne_zero _)]
  unfold Dat.owesAt Pipeline.owesWithin
  rw [show (dats m 0 c).owed t.castSucc = 0 from rfl, show (dats m 0 c).owed t.succ = 0 from rfl,
    show (dats m 0 c).leavesExact 10 t = owns (c : Thread nD τ) (ms0_10 t) fullShare ((dats m 0 c).after 10 t) from by
      unfold Dat.leavesExact; rw [live10 t],
    show (dats m 0 c).leavesExact 11 t = owns (c : Thread nD τ) (ms0_11 t) fullShare ((dats m 0 c).after 11 t) from by
      unfold Dat.leavesExact; rw [live11 t]]
  simp only [after0_0, after0_1, after0_2, after0_3, after0_4, after0_5, after0_6, after0_7, after0_8, after0_9, after0_10, after0_11, Nat.add_sub_cancel]
  by_cases h : t.val = 0
  · rw [left_first m c t h]
    rw [show PhiS m c t.val (Nat.le_of_lt t.isLt) = Pipeline.ΦD osem0 spec0 H0 (V m) c from by
      obtain ⟨n, hn⟩ := t; cases n with | zero => rfl | succ n => exact absurd h (Nat.succ_ne_zero n), PhiD0_eq]
    iintro ⟨⟨⟨S0, S1, S2, S3⟩, Hg, HQ, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((firstAt m c t h).2.2.2.2.2.2.2.2.2 W _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [S0]; · iexact S0
    isplitl [S1]; · iexact S1
    isplitl [S2]; · iexact S2
    isplitl [S3]; · iexact S3
    isplitl [HQ]; · iexact HQ
    isplitl [Hh]; · iexact Hh
    isplitl [HW]; · iexact HW
    iintro ⟨⟨⟨H0, H1, H2, H3, H4⟩, H5, H6, H7, H8, H9, H10, H11, S0, S1, ⟨S2, S3⟩, HQ, Hh⟩, ⟨%W', HW⟩⟩
    isplitl [S0 S1 S2 S3 Hg HQ Hh]
    · isplitl [S0 S1 S2 S3]
      · isplitl [S0]; · iexact S0
        isplitl [S1]; · iexact S1
        isplitl [S2]; · iapply (owns_of_lands c scM0_2 VS0_2 _ S352x1024.size (by sl_kernel_rfl)); iexact S2
        iapply (owns_of_lands c scM0_3 VS0_3 _ S352x1024.size (by sl_kernel_rfl)); iexact S3
      isplitl [Hg]; · iexact Hg
      isplitl [HQ]; · iexact HQ
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iapply (owns_of_lands c (ms0_5 t) VO0_5 _ S256x1024.size (by sl_kernel_rfl)); iexact H5
    isplitl [H6]; · iapply (owns_of_lands c (ms0_6 t) VO0_6 _ S256x1024.size (by sl_kernel_rfl)); iexact H6
    isplitl [H7]; · iapply (owns_of_lands c (ms0_7 t) VO0_7 _ S256x256.size (by sl_kernel_rfl)); iexact H7
    isplitl [H8]; · iapply (owns_of_lands c (ms0_8 t) VO0_8 _ S256x256.size (by sl_kernel_rfl)); iexact H8
    isplitl [H9]; · iapply (owns_of_lands c (ms0_9 t) VO0_9 _ S256x1024.size (by sl_kernel_rfl)); iexact H9
    isplitl [H10]; · iapply (owns_of_lands c (ms0_10 t) VO0_10 _ S1x1024.size (by sl_kernel_rfl)); iexact H10
    iapply (owns_of_lands c (ms0_11 t) VO0_11 _ S1x1024.size (by sl_kernel_rfl)); iexact H11
  · rw [left_later m c t h, PhiS_pos m c t.val _ h]
    simp only [before0_10 m c t h, before0_11 m c t h]
    iintro ⟨⟨⟨S0, S1, S2, S3⟩, Hg, HQ, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((laterAt m c t h (before m c t)).2.2.2.2.2.2.2.2.2 W _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    isplitl [H11]; · iexact H11
    isplitl [S0]; · iexact S0
    isplitl [S1]; · iexact S1
    isplitl [S2]; · iexact S2
    isplitl [S3]; · iexact S3
    isplitl [HQ]; · iexact HQ
    isplitl [Hh]; · iexact Hh
    isplitl [HW]; · iexact HW
    iintro ⟨⟨⟨H0, H1, H2, H3, H4⟩, H5, H6, H7, H8, H9, H10, H11, S0, S1, ⟨S2, S3⟩, HQ, Hh⟩, ⟨%W', HW⟩⟩
    isplitl [S0 S1 S2 S3 Hg HQ Hh]
    · isplitl [S0 S1 S2 S3]
      · isplitl [S0]; · iexact S0
        isplitl [S1]; · iexact S1
        isplitl [S2]; · iexact S2
        iexact S3
      isplitl [Hg]; · iexact Hg
      isplitl [HQ]; · iexact HQ
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iapply (owns_of_lands c (ms0_5 t) VO0_5 _ S256x1024.size (by sl_kernel_rfl)); iexact H5
    isplitl [H6]; · iapply (owns_of_lands c (ms0_6 t) VO0_6 _ S256x1024.size (by sl_kernel_rfl)); iexact H6
    isplitl [H7]; · iapply (owns_of_lands c (ms0_7 t) VO0_7 _ S256x256.size (by sl_kernel_rfl)); iexact H7
    isplitl [H8]; · iapply (owns_of_lands c (ms0_8 t) VO0_8 _ S256x256.size (by sl_kernel_rfl)); iexact H8
    isplitl [H9]; · iapply (owns_of_lands c (ms0_9 t) VO0_9 _ S256x1024.size (by sl_kernel_rfl)); iexact H9
    isplitl [H10]; · iapply (owns_of_lands c (ms0_10 t) VO0_10 _ S1x1024.size (by sl_kernel_rfl)); iexact H10
    iapply (owns_of_lands c (ms0_11 t) VO0_11 _ S1x1024.size (by sl_kernel_rfl)); iexact H11

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-- Before the first point the invariant is what the launch hands over. -/
theorem hin : Pipeline.ΦD osem0 spec0 H0 (V m) c ⊢ (dats m 0 c).Φ 0 := by
  rw [show (dats m 0 c).Φ 0 = Pipeline.ΦD osem0 spec0 H0 (V m) c from rfl]

/-- After the last point the invariant gives it back. -/
theorem hout : (dats m 0 c).Φ (Fin.last cfg0.N) ⊢ Pipeline.ΦD osem0 spec0 H0 (V m) c := by
  rw [show (dats m 0 c).Φ (Fin.last cfg0.N) = PhiS m c cfg0.N (Nat.le_refl _) from rfl, PhiS_pos m c cfg0.N _ (by rw [show cfg0.N = 16 from N_0]; decide), PhiD0_eq]
  iintro ⟨⟨S0, S1, S2, S3⟩, Hg, HQ, Hh⟩
  isplitl [S0 S1 S2 S3]
  · isplitl [S0]; · iexact S0
    isplitl [S1]; · iexact S1
    isplitl [S2]; · iexists _; iexact S2
    iexists _; iexact S3
  isplitl [Hg]; · iexact Hg
  isplitl [HQ]; · iexact HQ
  iexact Hh

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch: every array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnKernelIdeal.Gen

end
-- ==== Proof.FfnLater.lean ====
/- The feed-forward block's backward call: what a point after the first leaves. -/
module

public import proofs.«01_k».proof.Proof.FfnStore
public import proofs.«01_k».proof.Proof.FfnFrame
public import Idealize.ShloMosaic.Lib.Pipeline.Value

@[expose] public section

set_option maxRecDepth 16384

noncomputable section

namespace Cert.Ffn

open Idealize.ShloMosaic Idealize.ShloMosaic.TcCoe Idealize.SL.Sem
open Cert.FfnKernelIdeal Cert.FfnKernelIdeal.Gen Cert.Reals Cert.Scalars

section Words

variable (I : Inputs) (t : ℕ) (c : Dev nD)
  (arg1 : Memref sig .tc .vmem S256x1024 .f32) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg6 : Memref sig .tc .vmem S1x1024 .f32) (harg6 : arg6.IsWhole) (arg8 : Memref sig .tc .vmem S256x1024 .bf16)
  (arg9 : Memref sig .tc .vmem S256x5632 .bf16) (arg11 : Memref sig .tc .vmem S256x1024 .bf16)
  (arg14 : Memref sig .tc .vmem S256x5632 .f32) (arg15 : Memref sig .tc .vmem S256x2816 .f32)
  (arg16 : Memref sig .tc .vmem S5632x1024 .bf16) (harg16 : arg16.IsWhole) (arg17 : Memref sig .tc .vmem S2816x1024 .bf16) (harg17 : arg17.IsWhole)

theorem later_hid : runLater.sl.v25 (F := Ideal) c arg1 harg1 arg4 harg4 arg8 (rows t I.x) (scale I.pre) = rowsN t I.hid := by
  unfold runLater.sl.v25 runLater.sl.H8_1
  simp (disch := decide) only [View.readCov_cons_unit_lit', View.readAt_eq_ld, View.ld_unit_lit', Memref.IsWhole.read_unread]
  exact hid_x I t

theorem later_ab : k0_pay12 (runLater.sl.v25 (F := Ideal) c arg1 harg1 arg4 harg4 arg8 (rows t I.x) (scale I.pre))
    (View.readAt (Elt Ideal) arg16.view (Rect.unit ![0, 0] S5632x1024.size inb_S5632x1024_S5632x1024_0_0).toLoadRect (harg16.unread (wide (both I))))
    = (real2 fun r j => ab I (256 * t + r) j : FVec Ideal S256x5632 .f32) := by
  rw [later_hid]
  simp (disch := decide) only [View.readAt_eq_ld, View.ld_unit_lit', Memref.IsWhole.read_unread]
  exact ab_x I t

theorem later_ct : runLater.sl.r (F := Ideal) c arg3 harg3 (rows t I.ct) = rows t I.ct := by
  unfold runLater.sl.r
  simp (disch := decide) only [View.readAt_eq_ld, View.ld_unit_lit', Memref.IsWhole.read_unread]
  exact same_rows t I.ct

theorem later_df_written : View.canon (runLater.sl.H11_1 (F := Ideal) c arg2 harg2 arg3 harg3 arg6 harg6 (rows t I.f) (rows t I.ct) (scale I.post)) = rowsN t I.df := by
  unfold runLater.sl.H11_1 runLater.sl.r_2
  rw [later_ct]
  simp (disch := decide) only [View.canon_cons_unit_lit', View.readAt_eq_ld, View.ld_unit_lit', Memref.IsWhole.read_unread]
  rw [same_scale]
  exact df_x I t

theorem later_df : runLater.sl.v204 (F := Ideal) c arg2 harg2 arg3 harg3 arg6 harg6 arg11 (rows t I.f) (rows t I.ct) (scale I.post) = rowsN t I.df := by
  unfold runLater.sl.v204
  rw [View.readCov_eq_canon', later_df_written]
  funext y
  show ((I.df (256 * t + (0 + 1 * (y 0).val)) (0 + 1 * (y 1).val) : ℝ) : EReal) = ((I.df (256 * t + (y 0).val) (y 1).val : ℝ) : EReal)
  simp only [one_mul, zero_add]

theorem later_ds : k0_pay33 (runLater.sl.r_9 (F := Ideal) c arg2 harg2 arg3 harg3 arg6 harg6 arg11 arg17 harg17 (rows t I.f) (rows t I.ct) (scale I.post) (third I.down))
    = (real2 fun r j => I.ds (256 * t + r) j : FVec Ideal S256x2816 .f32) := by
  unfold runLater.sl.r_9
  rw [later_df]
  simp (disch := decide) only [View.readAt_eq_ld, View.ld_unit_lit', Memref.IsWhole.read_unread]
  rw [ds_x]
  exact ds_same _

theorem later_dab_written : View.canon (runLater.sl.H9_22 (F := Ideal) c arg1 harg1 arg2 harg2 arg3 harg3 arg4 harg4 arg6 harg6 arg8 arg11 arg14 arg15 arg16 harg16 arg17 harg17
    (rows t I.x) (rows t I.f) (rows t I.ct) (scale I.pre) (scale I.post) (wide (both I)) (third I.down)) = rowsW t I.dab :=
  grads_stored I t arg14.view (later_ab I t c arg1 harg1 arg4 harg4 arg8 arg16 harg16) arg15.view
    (later_ds I t c arg2 harg2 arg3 harg3 arg6 harg6 arg11 arg17 harg17)

theorem later_dab : runLater.sl.v475 (F := Ideal) c arg1 harg1 arg2 harg2 arg3 harg3 arg4 harg4 arg6 harg6 arg8 arg9 arg11 arg14 arg15 arg16 harg16 arg17 harg17
    (rows t I.x) (rows t I.f) (rows t I.ct) (scale I.pre) (scale I.post) (wide (both I)) (third I.down) = rowsW t I.dab := by
  unfold runLater.sl.v475
  rw [View.readCov_eq_canon', later_dab_written]
  funext y
  show ((I.dab (256 * t + (0 + 1 * (y 0).val)) (0 + 1 * (y 1).val) : ℝ) : EReal) = ((I.dab (256 * t + (y 0).val) (y 1).val : ℝ) : EReal)
  simp only [one_mul, zero_add]

theorem later_unit : runLater.sl.r_4 (F := Ideal) c arg1 harg1 (rows t I.x) = rows t I.unit := by
  unfold runLater.sl.r_4
  simp (disch := decide) only [View.readAt_eq_ld, View.ld_unit_lit', Memref.IsWhole.read_unread]
  exact unit_x t I.x

theorem later_dh : runLater.sl.r_18 (F := Ideal) c arg1 harg1 arg2 harg2 arg3 harg3 arg4 harg4 arg6 harg6 arg8 arg9 arg11 arg14 arg15 arg16 harg16 arg17 harg17
    (rows t I.x) (rows t I.f) (rows t I.ct) (scale I.pre) (scale I.post) (wide (both I)) (third I.down) = rows t I.dh := by
  unfold runLater.sl.r_18
  rw [later_dab]
  simp (disch := decide) only [View.readAt_eq_ld, View.ld_unit_lit', Memref.IsWhole.read_unread]
  exact dh_x I t

theorem later_dx : runLater.sl.r_19 (F := Ideal) c arg1 harg1 arg2 harg2 arg3 harg3 arg4 harg4 arg6 harg6 arg8 arg9 arg11 arg14 arg15 arg16 harg16 arg17 harg17
    (rows t I.x) (rows t I.f) (rows t I.ct) (scale I.pre) (scale I.post) (wide (both I)) (third I.down) = rows t I.dx := by
  unfold runLater.sl.r_19 runLater.sl.r_1 runLater.sl.r_3
  rw [later_dab, later_unit]
  simp (disch := decide) only [View.readAt_eq_ld, View.ld_unit_lit', Memref.IsWhole.read_unread]
  rw [same_scale']
  exact dx_x I t _ rfl

theorem later_dpost : runLater.sl.r_8 (F := Ideal) c arg2 harg2 arg3 harg3 (rows t I.f) (rows t I.ct)
    = (real2 fun _ d => ∑ r ∈ Finset.range 256, I.dpost (256 * t + r) d : FVec Ideal S1x1024 .f32) := by
  unfold runLater.sl.r_8
  rw [later_ct]
  simp (disch := decide) only [View.readAt_eq_ld, View.ld_unit_lit', Memref.IsWhole.read_unread]
  exact dpost_x I t

end Words

/-- The sum of the first `n` rows. -/
abbrev total (n : ℕ) (f : ℕ → ℕ → ℝ) : FVec Ideal S1x1024 .f32 := real2 fun _ d => upTo n (f · d)

/-- The blocks a point is given. -/
structure Given (I : Inputs) (m : (ℓ : Loc nD τ sig) → Buf (Elt Ideal) ℓ) (c : Dev nD) (t : Fin cfg0.N) : Prop where
  x : iblk m c 0 t = rows t.val I.x
  f : iblk m c 1 t = rows t.val I.f
  ct : iblk m c 2 t = rows t.val I.ct
  pre : iblk m c 3 t = scale I.pre
  post : iblk m c 4 t = scale I.post

/-- What a point leaves, but for the two sums. -/
structure Leaves (I : Inputs) (t : ℕ) (e : Left Ideal) : Prop where
  dx : e.b7 = rows t fun r d => I.ct r d + I.dx r d
  hid : e.b8 = rowsN t I.hid
  dab : e.b9 = rowsW t I.dab
  s : e.b10 = (real2 fun r j => I.s (256 * t + r) j : FVec Ideal S256x2816 .bf16)
  df : e.b11 = rowsN t I.df
  both : e.w16 = wide (both I)
  down : e.w17 = third I.down
  dpre : e.b12 = total (256 * (t + 1)) I.dpre
  dpost : e.b13 = total (256 * (t + 1)) I.dpost

variable {I : Inputs} {m : (ℓ : Loc nD τ sig) → Buf (Elt Ideal) ℓ} {c : Dev nD}

set_option maxHeartbeats 1600000 in
/-- A later point adds its block's sums to those before. -/
theorem later_leaves (t : Fin cfg0.N) (h : t.val ≠ 0) (e : Left Ideal) (G : Given I m c t) (hw : e.w16 = wide (both I)) (hd : e.w17 = third I.down)
    (h12 : e.b12 = total (256 * t.val) I.dpre) (h13 : e.b13 = total (256 * t.val) I.dpost) :
    Leaves I t.val (leftLater m c t h e) where
  dx := by
    dsimp only [leftLater]
    rw [View.read_writes_junk_eq_canon]
    unfold laterAt runLater
    dsimp only
    rw [G.x, G.f, G.ct, G.pre, G.post, hw, hd, later_ct, later_dx]
    simp (disch := decide) only [View.canon_cons_unit_lit']
    exact out_x I t.val
  hid := by
    dsimp only [leftLater]
    rw [View.read_writes_junk_eq_canon]
    unfold laterAt runLater
    dsimp only
    rw [G.x, G.pre]
    unfold runLater.sl.H8_1
    simp (disch := decide) only [View.canon_cons_unit_lit', View.readAt_eq_ld, View.ld_unit_lit', Memref.IsWhole.read_unread]
    exact hid_x I t.val
  dab := by
    dsimp only [leftLater]
    rw [View.read_writes_junk_eq_canon]
    unfold laterAt runLater
    dsimp only
    rw [G.x, G.f, G.ct, G.pre, G.post, hw, hd]
    exact later_dab_written ..
  s := by
    dsimp only [leftLater]
    rw [View.read_writes_junk_eq_canon]
    unfold laterAt runLater
    dsimp only
    rw [G.x, G.pre, hw]
    exact gated_stored I t.val _ (later_ab I t.val c (ms0_0 t) (hs0_0 t) (ms0_3 t) (hs0_3 t) (ms0_6 t) scM0_2 (Memref.isWhole_whole _))
  df := by
    dsimp only [leftLater]
    rw [View.read_writes_junk_eq_canon]
    unfold laterAt runLater
    dsimp only
    rw [G.f, G.ct, G.post]
    exact later_df_written ..
  both := hw
  down := hd
  dpre := by
    dsimp only [leftLater]
    rw [View.read_writes_junk_eq_canon]
    unfold laterAt runLater
    dsimp only
    rw [G.x, G.f, G.ct, G.pre, G.post, hw, hd, h12, later_unit, later_dh]
    simp (disch := decide) only [View.canon_cons_unit_lit', View.readAt_eq_ld, View.ld_unit_lit', Memref.IsWhole.read_unread]
    exact (congrArg (k0_pay4 · _) (dpre_x I t.val)).trans (sum_step t.val I.dpre)
  dpost := by
    dsimp only [leftLater]
    rw [View.read_writes_junk_eq_canon]
    unfold laterAt runLater
    dsimp only
    rw [G.f, G.ct, h13, later_dpost]
    simp (disch := decide) only [View.canon_cons_unit_lit', View.readAt_eq_ld, View.ld_unit_lit', Memref.IsWhole.read_unread]
    exact sum_step t.val I.dpost

end Cert.Ffn
end
-- ==== Proof.FfnCopy.lean ====
/- The feed-forward block's backward call: the weights' copies. -/
module

public import proofs.«01_k».proof.Proof.FfnLater
public import Idealize.ShloMosaic.Lib.Pipeline.ValueKit.Tiles
public import Idealize.ShloMosaic.Lib.Pipeline.Value

@[expose] public section

set_option maxRecDepth 16384

noncomputable section

namespace Cert.Ffn

open Idealize.ShloMosaic Idealize.ShloMosaic.TcCoe Idealize.SL.Sem
open Cert.FfnKernelIdeal Cert.FfnKernelIdeal.Gen Cert.Reals Cert.Scalars

theorem slab_flat : S1x352x1024.ShapeCasts S352x1024 := by decide

/-- A tile of 352 rows of an array, at the array's index. -/
theorem at_rows {n : ℕ} {G : ℕ → ℕ → ℝ} {o : ℕ} (y : (⟨2, ![n, 1024]⟩ : Shape).Idx) {p : FVec Ideal S352x1024 .bf16} (hp : p = real2 fun r l => G (o + r) l) :
    View.TileAt (Val := Elt Ideal) (e := .bf16) y ![o, 0] S352x1024.size p ((real2 G : FVec Ideal ⟨2, ![n, 1024]⟩ .bf16) y) := by
  intro x h
  have h0 : (y 0).val = o + (x 0).val := h 0
  have h1 : (y 1).val = 0 + (x 1).val := h 1
  subst hp
  show ((G (o + (x 0).val) (x 1).val : ℝ) : EReal) = ((G (y 0).val (y 1).val : ℝ) : EReal)
  rw [h0, h1, zero_add]

theorem part_inb {s o : ℕ} (hs : s < 8) (ho : o + 352 ≤ 1056) : ∀ a, (![s, o, 0] : Fin 3 → ℕ) a + S1x352x1024.size a ≤ S8x1056x1024.size a
  | ⟨0, _⟩ => hs
  | ⟨1, _⟩ => ho
  | ⟨2, _⟩ => Nat.le_refl 1024

theorem rows_inb {n o : ℕ} (h : o + 352 ≤ n) : ∀ a, (![o, 0] : Fin 2 → ℕ) a + S352x1024.size a ≤ (⟨2, ![n, 1024]⟩ : Shape).size a
  | ⟨0, _⟩ => h
  | ⟨1, _⟩ => Nat.le_refl 1024

theorem slab_squeezed : S1x352x1024.Squeezes S352x1024 := by decide

/-- What a copy takes: 352 rows of one of the eight parts. -/
abbrev taken (w : FVec Ideal S8x1056x1024 .bf16) (s o : ℕ) (h : ∀ a, (![s, o, 0] : Fin 3 → ℕ) a + S1x352x1024.size a ≤ S8x1056x1024.size a) : FVec Ideal S352x1024 .bf16 :=
  ReadAs.same.apply (View.read (Elt Ideal) (((Memref.whole main_v24).slice (Rect.unit ![s, o, 0] S1x352x1024.size h) (fun _ => rfl)).squeeze S352x1024 slab_squeezed).view w)

/-- A part of the packed weights, copied. -/
theorem copied {s o : ℕ} (h1) (h2) (h3) (p : ℕ → ℕ → ℕ → ℝ) :
    (ReadAs.same.apply (View.read (Elt Ideal) (((Memref.whole main_v24).slice (Rect.unit ![s, o, 0] S1x352x1024.size h1) h2).squeeze S352x1024 h3).view
      (real3 p : FVec Ideal S8x1056x1024 .bf16)) : FVec Ideal S352x1024 .bf16) = real2 (φ := .bf16) fun r d => p s (o + r) d := by
  funext y
  have e : (fun i : S1x352x1024.Idx => (real3 p : FVec Ideal S8x1056x1024 .bf16) ((Rect.unit (s := S8x1056x1024) ![s, o, 0] S1x352x1024.size h1).emb i))
      = (real3 fun a r d => p (s + a) (o + r) d : FVec Ideal S1x352x1024 .bf16) := by
    funext i
    show ((p (s + 1 * (i 0).val) (o + 1 * (i 1).val) (0 + 1 * (i 2).val) : ℝ) : EReal) = ((p (s + (i 0).val) (o + (i 1).val) (i 2).val : ℝ) : EReal)
    simp only [one_mul, zero_add]
  refine (congrFun (congrArg (fun v : FVec Ideal S1x352x1024 .bf16 => shapeCast S352x1024 v slab_flat) e) y).trans ?_
  idx_vars y
  pointwise [real2_ix2, real3_ix3]

/-- The packed weights: of each of the eight parts 352 columns of each of the first two and 352 rows of the third. -/
def packed (I : Inputs) (s k d : ℕ) : ℝ :=
  if k < 352 then I.gate d (352 * s + k) else if k < 704 then I.up d (352 * s + (k - 352)) else I.down (352 * s + (k - 704)) d

theorem gate_part (I : Inputs) {s q : ℕ} (hq : q = 352 * s) (hs : q < 2816) :
    (real2 (fun r d => packed I s (0 + r) d) : FVec Ideal S352x1024 .bf16) = real2 fun r l => both I (q + r) l := by
  funext y
  have h0 : (y 0).val < 352 := (y 0).isLt
  show ((packed I s (0 + (y 0).val) (y 1).val : ℝ) : EReal) = ((both I (q + (y 0).val) (y 1).val : ℝ) : EReal)
  unfold packed both
  rw [if_pos (by omega), if_pos (by omega), zero_add, hq]

theorem up_part (I : Inputs) {s q : ℕ} (hq : q = 2816 + 352 * s) :
    (real2 (fun r d => packed I s (352 + r) d) : FVec Ideal S352x1024 .bf16) = real2 fun r l => both I (q + r) l := by
  funext y
  have h0 : (y 0).val < 352 := (y 0).isLt
  show ((packed I s (352 + (y 0).val) (y 1).val : ℝ) : EReal) = ((both I (q + (y 0).val) (y 1).val : ℝ) : EReal)
  unfold packed both
  rw [if_neg (by omega), if_pos (by omega), if_neg (by omega), show 352 * s + (352 + (y 0).val - 352) = q + (y 0).val - 2816 by omega]

theorem down_part (I : Inputs) {s q : ℕ} (hq : q = 352 * s) :
    (real2 (fun r d => packed I s (704 + r) d) : FVec Ideal S352x1024 .bf16) = real2 fun r l => I.down (q + r) l := by
  funext y
  have h0 : (y 0).val < 352 := (y 0).isLt
  show ((packed I s (704 + (y 0).val) (y 1).val : ℝ) : EReal) = ((I.down (q + (y 0).val) (y 1).val : ℝ) : EReal)
  unfold packed
  rw [if_neg (by omega), if_neg (by omega), show 352 * s + (704 + (y 0).val - 704) = q + (y 0).val by omega]

section Copies

variable (I : Inputs) (c : Dev nD)

/-- The packed array as the kernel holds it. -/
abbrev held : HbBuf0 (F := Ideal) c hbM0_0 := (real3 (packed I) : FVec Ideal S8x1056x1024 .bf16)

/-- Where the copies of the first two weights go: of each part, from the last, the second weight's rows and then the first's. -/
abbrev rowAt (k : ℕ) : ℕ := if k % 2 = 0 then 5280 - 352 * (k / 2) else 2464 - 352 * (k / 2)

theorem rowAt_le {k : ℕ} (hk : k < 16) : rowAt k + 352 ≤ 5632 := by unfold rowAt; split <;> omega

/-- What is copied there. -/
abbrev pairTaken (w : FVec Ideal S8x1056x1024 .bf16) (k : ℕ) : FVec Ideal S352x1024 .bf16 :=
  if k % 2 = 0 then taken w (7 - k / 2) 352 (part_inb (by omega) (by decide)) else taken w (7 - k / 2) 0 (part_inb (by omega) (by decide))

/-- The first two weights, as copied. -/
theorem both_copied : View.canon (Val := Elt Ideal) (s := S5632x1024) (e := .bf16) (List.ofFn fun k : Fin 16 =>
    ⟨Rect.unit ![rowAt k.val, 0] S352x1024.size (rows_inb (rowAt_le k.isLt)), pairTaken (held I c) k.val⟩) = wide (both I) := by
  funext y
  have y0 : (y 0).val < 5632 := (y 0).isLt
  have y1 : (y 1).val < 1024 := (y 1).isLt
  refine View.canon_ofFn_unit_eq_of_forall _ _ _ _ y _
    ⟨⟨if (y 0).val < 2816 then 15 - 2 * ((y 0).val / 352) else 30 - 2 * ((y 0).val / 352), by split <;> omega⟩, fun a => ?_⟩ fun k => at_rows y ?_
  · match a with
    | ⟨0, _⟩ =>
      show rowAt (if (y 0).val < 2816 then _ else _) ≤ (y 0).val ∧ (y 0).val < rowAt (if (y 0).val < 2816 then _ else _) + 352
      unfold rowAt
      split <;> split <;> omega
    | ⟨1, _⟩ => exact ⟨Nat.zero_le _, by show (y 1).val < 0 + 1024; omega⟩
  · have hk := k.isLt
    unfold rowAt pairTaken
    split
    · exact (copied _ _ _ (packed I)).trans (up_part I (by omega))
    · exact (copied _ _ _ (packed I)).trans (gate_part I (by omega) (by omega))

/-- The third weight, as copied. -/
theorem down_copied : View.canon (Val := Elt Ideal) (s := S2816x1024) (e := .bf16) (List.ofFn fun k : Fin 8 =>
    ⟨Rect.unit ![2464 - 352 * k.val, 0] S352x1024.size (rows_inb (by omega)), taken (held I c) (7 - k.val) 704 (part_inb (by omega) (by decide))⟩) = third I.down := by
  funext y
  have y0 : (y 0).val < 2816 := (y 0).isLt
  have y1 : (y 1).val < 1024 := (y 1).isLt
  refine View.canon_ofFn_unit_eq_of_forall _ _ _ _ y _ ⟨⟨7 - (y 0).val / 352, by omega⟩, fun a => ?_⟩ fun k => at_rows y ?_
  · match a with
    | ⟨0, _⟩ =>
      show 2464 - 352 * (7 - (y 0).val / 352) ≤ (y 0).val ∧ (y 0).val < 2464 - 352 * (7 - (y 0).val / 352) + 352
      omega
    | ⟨1, _⟩ => exact ⟨Nat.zero_le _, by show (y 1).val < 0 + 1024; omega⟩
  · exact (copied _ _ _ (packed I)).trans (down_part I (by omega))

theorem first_both (arg16 : Memref sig .tc .vmem S5632x1024 .bf16) : runFirst.sl.v27 (F := Ideal) c arg16 (held I c) = wide (both I) := by
  unfold runFirst.sl.v27
  rw [View.readCov_eq_canon', show View.canon (Val := Elt Ideal) _ = wide (both I) from both_copied I c]
  funext y
  show ((both I (0 + 1 * (y 0).val) (0 + 1 * (y 1).val) : ℝ) : EReal) = ((both I (y 0).val (y 1).val : ℝ) : EReal)
  simp only [one_mul, zero_add]

theorem first_down (arg17 : Memref sig .tc .vmem S2816x1024 .bf16) : runFirst.sl.v206 (F := Ideal) c arg17 (held I c) = third I.down := by
  unfold runFirst.sl.v206
  rw [View.readCov_eq_canon', show View.canon (Val := Elt Ideal) _ = third I.down from down_copied I c]
  funext y
  show ((I.down (0 + 1 * (y 0).val) (0 + 1 * (y 1).val) : ℝ) : EReal) = ((I.down (y 0).val (y 1).val : ℝ) : EReal)
  simp only [one_mul, zero_add]

end Copies

end Cert.Ffn
end
-- ==== Proof.FfnFirst.lean ====
/- The feed-forward block's backward call: what the first point leaves. -/
module

public import proofs.«01_k».proof.Proof.FfnCopy
public import Idealize.ShloMosaic.Lib.Pipeline.Value

@[expose] public section

set_option maxRecDepth 16384

noncomputable section

namespace Cert.Ffn

open Idealize.ShloMosaic Idealize.ShloMosaic.TcCoe Idealize.SL.Sem
open Cert.FfnKernelIdeal Cert.FfnKernelIdeal.Gen Cert.Reals Cert.Scalars

section Words

variable (I : Inputs) (t : ℕ) (c : Dev nD)
  (arg1 : Memref sig .tc .vmem S256x1024 .f32) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg6 : Memref sig .tc .vmem S1x1024 .f32) (harg6 : arg6.IsWhole) (arg8 : Memref sig .tc .vmem S256x1024 .bf16)
  (arg9 : Memref sig .tc .vmem S256x5632 .bf16) (arg11 : Memref sig .tc .vmem S256x1024 .bf16)
  (arg14 : Memref sig .tc .vmem S256x5632 .f32) (arg15 : Memref sig .tc .vmem S256x2816 .f32)
  (arg16 : Memref sig .tc .vmem S5632x1024 .bf16) (arg17 : Memref sig .tc .vmem S2816x1024 .bf16)

theorem first_hid : runFirst.sl.v25 (F := Ideal) c arg1 harg1 arg4 harg4 arg8 (rows t I.x) (scale I.pre) = rowsN t I.hid := by
  unfold runFirst.sl.v25 runFirst.sl.H8_1
  simp (disch := decide) only [View.readCov_cons_unit_lit', View.readAt_eq_ld, View.ld_unit_lit', Memref.IsWhole.read_unread]
  exact hid_x I t

theorem first_ab : k0_pay12 (runFirst.sl.v25 (F := Ideal) c arg1 harg1 arg4 harg4 arg8 (rows t I.x) (scale I.pre))
    (runFirst.sl.v27 (F := Ideal) c arg16 (held I c))
    = (real2 fun r j => ab I (256 * t + r) j : FVec Ideal S256x5632 .f32) := by
  rw [first_hid, first_both]
  exact ab_x I t

theorem first_ct : runFirst.sl.r (F := Ideal) c arg3 harg3 (rows t I.ct) = rows t I.ct := by
  unfold runFirst.sl.r
  simp (disch := decide) only [View.readAt_eq_ld, View.ld_unit_lit', Memref.IsWhole.read_unread]
  exact same_rows t I.ct

theorem first_df_written : View.canon (runFirst.sl.H11_1 (F := Ideal) c arg2 harg2 arg3 harg3 arg6 harg6 (rows t I.f) (rows t I.ct) (scale I.post)) = rowsN t I.df := by
  unfold runFirst.sl.H11_1 runFirst.sl.r_2
  rw [first_ct]
  simp (disch := decide) only [View.canon_cons_unit_lit', View.readAt_eq_ld, View.ld_unit_lit', Memref.IsWhole.read_unread]
  rw [same_scale]
  exact df_x I t

theorem first_df : runFirst.sl.v204 (F := Ideal) c arg2 harg2 arg3 harg3 arg6 harg6 arg11 (rows t I.f) (rows t I.ct) (scale I.post) = rowsN t I.df := by
  unfold runFirst.sl.v204
  rw [View.readCov_eq_canon', first_df_written]
  funext y
  show ((I.df (256 * t + (0 + 1 * (y 0).val)) (0 + 1 * (y 1).val) : ℝ) : EReal) = ((I.df (256 * t + (y 0).val) (y 1).val : ℝ) : EReal)
  simp only [one_mul, zero_add]

theorem first_ds : k0_pay33 (runFirst.sl.r_9 (F := Ideal) c arg2 harg2 arg3 harg3 arg6 harg6 arg11 arg17 (rows t I.f) (rows t I.ct) (scale I.post) (held I c))
    = (real2 fun r j => I.ds (256 * t + r) j : FVec Ideal S256x2816 .f32) := by
  unfold runFirst.sl.r_9
  rw [first_df, first_down, ds_x]
  exact ds_same _

theorem first_dab_written : View.canon (runFirst.sl.H9_22 (F := Ideal) c arg1 harg1 arg2 harg2 arg3 harg3 arg4 harg4 arg6 harg6 arg8 arg11 arg14 arg15 arg16 arg17
    (rows t I.x) (rows t I.f) (rows t I.ct) (scale I.pre) (scale I.post) (held I c)) = rowsW t I.dab :=
  grads_stored I t arg14.view (first_ab I t c arg1 harg1 arg4 harg4 arg8 arg16) arg15.view
    (first_ds I t c arg2 harg2 arg3 harg3 arg6 harg6 arg11 arg17)

theorem first_dab : runFirst.sl.v475 (F := Ideal) c arg1 harg1 arg2 harg2 arg3 harg3 arg4 harg4 arg6 harg6 arg8 arg9 arg11 arg14 arg15 arg16 arg17
    (rows t I.x) (rows t I.f) (rows t I.ct) (scale I.pre) (scale I.post) (held I c) = rowsW t I.dab := by
  unfold runFirst.sl.v475
  rw [View.readCov_eq_canon', first_dab_written]
  funext y
  show ((I.dab (256 * t + (0 + 1 * (y 0).val)) (0 + 1 * (y 1).val) : ℝ) : EReal) = ((I.dab (256 * t + (y 0).val) (y 1).val : ℝ) : EReal)
  simp only [one_mul, zero_add]

theorem first_unit : runFirst.sl.r_4 (F := Ideal) c arg1 harg1 (rows t I.x) = rows t I.unit := by
  unfold runFirst.sl.r_4
  simp (disch := decide) only [View.readAt_eq_ld, View.ld_unit_lit', Memref.IsWhole.read_unread]
  exact unit_x t I.x

theorem first_dh : runFirst.sl.r_18 (F := Ideal) c arg1 harg1 arg2 harg2 arg3 harg3 arg4 harg4 arg6 harg6 arg8 arg9 arg11 arg14 arg15 arg16 arg17
    (rows t I.x) (rows t I.f) (rows t I.ct) (scale I.pre) (scale I.post) (held I c) = rows t I.dh := by
  unfold runFirst.sl.r_18
  rw [first_dab, first_both]
  exact dh_x I t

theorem first_dx : runFirst.sl.r_19 (F := Ideal) c arg1 harg1 arg2 harg2 arg3 harg3 arg4 harg4 arg6 harg6 arg8 arg9 arg11 arg14 arg15 arg16 arg17
    (rows t I.x) (rows t I.f) (rows t I.ct) (scale I.pre) (scale I.post) (held I c) = rows t I.dx := by
  unfold runFirst.sl.r_19 runFirst.sl.r_1 runFirst.sl.r_3
  rw [first_dab, first_unit, first_both]
  simp (disch := decide) only [View.readAt_eq_ld, View.ld_unit_lit', Memref.IsWhole.read_unread]
  rw [same_scale']
  exact dx_x I t _ rfl

theorem first_dpost : runFirst.sl.r_8 (F := Ideal) c arg2 harg2 arg3 harg3 (rows t I.f) (rows t I.ct)
    = (real2 fun _ d => ∑ r ∈ Finset.range 256, I.dpost (256 * t + r) d : FVec Ideal S1x1024 .f32) := by
  unfold runFirst.sl.r_8
  rw [first_ct]
  simp (disch := decide) only [View.readAt_eq_ld, View.ld_unit_lit', Memref.IsWhole.read_unread]
  exact dpost_x I t

end Words

variable {I : Inputs} {m : (ℓ : Loc nD τ sig) → Buf (Elt Ideal) ℓ} {c : Dev nD}

theorem first_sum (f : ℕ → ℕ → ℝ) : (real2 fun _ d => ∑ r ∈ Finset.range 256, f (256 * 0 + r) d : FVec Ideal S1x1024 .f32) = total (256 * (0 + 1)) f := by
  funext y
  show ((∑ r ∈ Finset.range 256, f (256 * 0 + r) (y 1).val : ℝ) : EReal) = ((∑ r ∈ Finset.range (256 * (0 + 1)), f r (y 1).val : ℝ) : EReal)
  simp only [mul_zero, zero_add, mul_one]

set_option maxHeartbeats 1600000 in
/-- The first point's sums are its block's. -/
theorem first_leaves (t : Fin cfg0.N) (h : t.val = 0) (G : Given I m c t) (hw : V m c main_v24 = held I c) :
    Leaves I t.val (leftFirst m c t h) where
  dx := by
    dsimp only [leftFirst]
    rw [View.read_writes_junk_eq_canon]
    unfold firstAt runFirst
    dsimp only
    rw [G.x, G.f, G.ct, G.pre, G.post, hw, first_ct, first_dx]
    simp (disch := decide) only [View.canon_cons_unit_lit']
    exact out_x I t.val
  hid := by
    dsimp only [leftFirst]
    rw [View.read_writes_junk_eq_canon]
    unfold firstAt runFirst
    dsimp only
    rw [G.x, G.pre]
    unfold runFirst.sl.H8_1
    simp (disch := decide) only [View.canon_cons_unit_lit', View.readAt_eq_ld, View.ld_unit_lit', Memref.IsWhole.read_unread]
    exact hid_x I t.val
  dab := by
    dsimp only [leftFirst]
    rw [View.read_writes_junk_eq_canon]
    unfold firstAt runFirst
    dsimp only
    rw [G.x, G.f, G.ct, G.pre, G.post, hw]
    exact first_dab_written ..
  s := by
    dsimp only [leftFirst]
    rw [View.read_writes_junk_eq_canon]
    unfold firstAt runFirst
    dsimp only
    rw [G.x, G.pre, hw]
    exact gated_stored I t.val _ (first_ab I t.val c (ms0_0 t) (hs0_0 t) (ms0_3 t) (hs0_3 t) (ms0_6 t) scM0_2)
  df := by
    dsimp only [leftFirst]
    rw [View.read_writes_junk_eq_canon]
    unfold firstAt runFirst
    dsimp only
    rw [G.f, G.ct, G.post]
    exact first_df_written ..
  both := by
    dsimp only [leftFirst]
    rw [View.read_writes_junk_eq_canon]
    unfold firstAt runFirst
    dsimp only
    rw [hw]
    exact both_copied I c
  down := by
    dsimp only [leftFirst]
    rw [View.read_writes_junk_eq_canon]
    unfold firstAt runFirst
    dsimp only
    rw [hw]
    exact down_copied I c
  dpre := by
    dsimp only [leftFirst]
    rw [View.read_writes_junk_eq_canon]
    unfold firstAt runFirst
    dsimp only
    rw [G.x, G.f, G.ct, G.pre, G.post, hw, first_unit, first_dh]
    simp (disch := decide) only [View.canon_cons_unit_lit']
    refine (dpre_x I t.val).trans ?_
    rw [h]
    exact first_sum I.dpre
  dpost := by
    dsimp only [leftFirst]
    rw [View.read_writes_junk_eq_canon]
    unfold firstAt runFirst
    dsimp only
    rw [G.f, G.ct, first_dpost]
    simp (disch := decide) only [View.canon_cons_unit_lit']
    rw [h]
    exact first_sum I.dpost

end Cert.Ffn
end
-- ==== Proof.FfnStages.lean ====
/- The feed-forward block's backward call: the reference's seven arrays. -/
module

public import proofs.«01_k».proof.Proof.FfnSums
public import proofs.«01_k».proof.Proof.Gen.FfnReferenceIdeal.Run

@[expose] public section

set_option maxRecDepth 16384

noncomputable section

namespace Cert.Ffn

open Idealize.ShloMosaic Idealize.ShloMosaic.TcCoe Idealize.SL.Sem Idealize.ShloMosaic.StableHlo
open Cert.FfnReferenceIdeal Cert.FfnReferenceIdeal.Gen Cert.Reals Cert.Scalars

section Results

variable (x : FVec Ideal S1x4096x1024 .f32) (g p : FVec Ideal S1024 .f32) (wg wu : FVec Ideal S1024x2816 .f32) (wd : FVec Ideal S2816x1024 .f32)
  (d : FVec Ideal S1x4096x1024 .f32)

/-- The gradient of the block's input, with what passes by. -/
def outIn : FVec Ideal S4096x1024 .f32 := flat (addf d (dNormed x (mulf (stageH x g p wg wu wd d) (Cert.Pre.scaleRow g))))
/-- The rows after the first norm. -/
def outHid : FVec Ideal S4096x1024 .bf16 := truncf .bf16 (flat (hidden x g)) bitsLt_bf16_f32
/-- The gradients of the two products, beside each other. -/
def outBoth : FVec Ideal S4096x5632 .bf16 := beside (stageA x g p wg wu wd d) (stageB x g p wg wu wd d)
/-- The gated rows. -/
def outGated : FVec Ideal S4096x2816 .bf16 := truncf .bf16 (flatWide (gated (along (hidden x g) wg) (along (hidden x g) wu))) bitsLt_bf16_f32
/-- The gradient of the second norm's input. -/
def outForward : FVec Ideal S4096x1024 .bf16 := truncf .bf16 (flat (dForward x g p wg wu wd d)) bitsLt_bf16_f32
/-- The gradient of the first norm's scale. -/
def outPre : FVec Ideal S1x1024 .f32 := Cert.Pre.scaleSum (mulf (mulf x (Cert.Pre.rootRow x)) (stageH x g p wg wu wd d))
/-- The gradient of the second norm's scale. -/
def outPost : FVec Ideal S1x1024 .f32 := Cert.Pre.scaleSum (mulf (mulf (forward x g wg wu wd) (Cert.Pre.rootRow (forward x g wg wu wd))) (same d))

end Results

variable (I : Inputs)

theorem outIn_real : outIn (real3 fun _ => I.x) (real1 I.pre) (real1 I.post) (real2 I.gate) (real2 I.up) (real2 I.down) (real3 fun _ => I.ct) = real2 fun r d => I.ct r d + I.dx r d := by
  unfold outIn
  rw [stageH_real, Cert.Pre.scaleRow_real]
  have e : mulf (real3 fun _ => I.dh) (real3 fun _ _ d => I.pre d) = (real3 fun _ r d => I.dh r d * I.pre d : FVec Ideal S1x4096x1024 .f32) := by
    funext y
    idx_vars y
    pointwise [real3_ix3]
    rw [← EReal.coe_mul]
  have s : addf (real3 fun _ => I.ct) (real3 fun _ => I.dx) = (real3 fun _ r d => I.ct r d + I.dx r d : FVec Ideal S1x4096x1024 .f32) := by
    funext y
    idx_vars y
    pointwise [real3_ix3]
    rw [← EReal.coe_add]
  refine (congrArg (fun u => flat (addf _ (dNormed _ u))) e).trans ?_
  refine (congrArg (fun u => flat (addf _ u)) (dNormed_real I.x fun r d => I.dh r d * I.pre d)).trans ?_
  exact (congrArg flat s).trans (flat_real _)

theorem outHid_real : outHid (real3 fun _ => I.x) (real1 I.pre) = real2 I.hid := by
  unfold outHid
  rw [hidden_real, cast_real]

theorem outBoth_real : outBoth (real3 fun _ => I.x) (real1 I.pre) (real1 I.post) (real2 I.gate) (real2 I.up) (real2 I.down) (real3 fun _ => I.ct) = real2 I.dab := by
  unfold outBoth
  rw [stageA_real, stageB_real, beside_real]
  rfl

theorem outGated_real : outGated (real3 fun _ => I.x) (real1 I.pre) (real2 I.gate) (real2 I.up) = real2 I.s := by
  unfold outGated
  rw [hidden_real, along_real, along_real]
  refine (congrArg (fun u => truncf .bf16 (flatWide u) bitsLt_bf16_f32) (gated_real I.a I.b)).trans ?_
  exact castWide_real I.s

theorem outForward_real : outForward (real3 fun _ => I.x) (real1 I.pre) (real1 I.post) (real2 I.gate) (real2 I.up) (real2 I.down) (real3 fun _ => I.ct) = real2 I.df := by
  unfold outForward
  rw [dForward_real, cast_real]

/-- Rows divided by their roots. -/
theorem unit_real (x : ℕ → ℕ → ℝ) : mulf (real3 fun _ => x) (Cert.Pre.rootRow (real3 fun _ => x))
    = (real3 fun _ r d => x r d * rms 1024 (x r) : FVec Ideal S1x4096x1024 .f32) := by
  rw [Cert.Pre.rootRow_real]
  funext y
  idx_vars y
  pointwise [real3_ix3]
  rw [← EReal.coe_mul]

theorem outPre_real : outPre (real3 fun _ => I.x) (real1 I.pre) (real1 I.post) (real2 I.gate) (real2 I.up) (real2 I.down) (real3 fun _ => I.ct) = real2 fun _ d => ∑ r ∈ Finset.range 4096, I.dpre r d := by
  unfold outPre
  rw [stageH_real, unit_real]
  refine (summed_real I.unit I.dh).trans ?_
  exact congrArg (fun f => (real2 f : FVec Ideal S1x1024 .f32)) (funext fun _ => funext fun d => Finset.sum_congr rfl fun r _ => mul_comm _ _)

theorem outPost_real : outPost (real3 fun _ => I.x) (real1 I.pre) (real2 I.gate) (real2 I.up) (real2 I.down) (real3 fun _ => I.ct)
    = real2 fun _ d => ∑ r ∈ Finset.range 4096, I.dpost r d := by
  unfold outPost
  rw [forward_real, same_real, unit_real]
  refine (summed_real I.funit I.ct).trans ?_
  exact congrArg (fun f => (real2 f : FVec Ideal S1x1024 .f32)) (funext fun _ => funext fun d => Finset.sum_congr rfl fun r _ => mul_comm _ _)

/-- The reference's seven arrays, by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = outIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v94) = outHid (m ((c.tc : Thread nD τ).loc main_arg0)) (m ((c.tc : Thread nD τ).loc main_arg1))
      ∧ r.2.mem ((c.tc : Thread nD τ).loc main_v95) = outBoth (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v97) = outGated (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v99) = outForward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v100) = outPre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v101) = outPost (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Ffn
end
-- ==== Proof.FfnFinite.lean ====
/- The precondition of the feed-forward block's backward call. -/
module

public import proofs.«01_k».proof.Proof.Gen.Pre_ffn_finite
public import proofs.«01_k».proof.Proof.Scalars
public import Idealize.ShloMosaic.Lib.ReduceAll
public import proofs.«01_k».proof.Proof.Reals

@[expose] public section

noncomputable section

namespace Cert.Ffn

open Idealize.ShloMosaic Cert.Reals Cert.Scalars Cert.Pre_ffn_finite

variable [Facts] (x : FVec Ideal S1x4096x1024 .f32) (g p : FVec Ideal S1024 .f32) (wg wu : FVec Ideal S1024x2816 .f32) (wd : FVec Ideal S2816x1024 .f32)
  (d : FVec Ideal S1x4096x1024 .f32)

/-- The precondition says that no entry of the arrays is infinite. -/
theorem finite_of_pre (h : fn x g p wg wu wd d = fun _ => 1#1) :
    (∀ y, x y ≠ ⊥ ∧ x y ≠ ⊤) ∧ (∀ y, g y ≠ ⊥ ∧ g y ≠ ⊤) ∧ (∀ y, p y ≠ ⊥ ∧ p y ≠ ⊤) ∧ (∀ y, wg y ≠ ⊥ ∧ wg y ≠ ⊤) ∧ (∀ y, wu y ≠ ⊥ ∧ wu y ≠ ⊤) ∧ (∀ y, wd y ≠ ⊥ ∧ wd y ≠ ⊤) ∧ (∀ y, d y ≠ ⊥ ∧ d y ≠ ⊤) := by
  have e := congrFun h (fun i => i.elim0)
  dsimp only [fn, fn_part1] at e
  obtain ⟨e, ed⟩ := IntOp.andi_eq_one.1 e
  obtain ⟨e, ewd⟩ := IntOp.andi_eq_one.1 e
  obtain ⟨e, ewu⟩ := IntOp.andi_eq_one.1 e
  obtain ⟨e, ewg⟩ := IntOp.andi_eq_one.1 e
  obtain ⟨e, ep⟩ := IntOp.andi_eq_one.1 e
  obtain ⟨ex, eg⟩ := IntOp.andi_eq_one.1 e
  refine ⟨fun y => finite_of_lt ?_, fun y => finite_of_lt ?_, fun y => finite_of_lt ?_, fun y => finite_of_lt ?_, fun y => finite_of_lt ?_, fun y => finite_of_lt ?_, fun y => finite_of_lt ?_⟩
  · exact (congrArg (Ideal.cmp .olt (max (x y) (-x y))) top_word).symm.trans (Host.reduce_andi_all _ _ _ _ _ ex y)
  · exact (congrArg (Ideal.cmp .olt (max (g y) (-g y))) top_word).symm.trans (Host.reduce_andi_all _ _ _ _ _ eg y)
  · exact (congrArg (Ideal.cmp .olt (max (p y) (-p y))) top_word).symm.trans (Host.reduce_andi_all _ _ _ _ _ ep y)
  · exact (congrArg (Ideal.cmp .olt (max (wg y) (-wg y))) top_word).symm.trans (Host.reduce_andi_all _ _ _ _ _ ewg y)
  · exact (congrArg (Ideal.cmp .olt (max (wu y) (-wu y))) top_word).symm.trans (Host.reduce_andi_all _ _ _ _ _ ewu y)
  · exact (congrArg (Ideal.cmp .olt (max (wd y) (-wd y))) top_word).symm.trans (Host.reduce_andi_all _ _ _ _ _ ewd y)
  · exact (congrArg (Ideal.cmp .olt (max (d y) (-d y))) top_word).symm.trans (Host.reduce_andi_all _ _ _ _ _ ed y)

end Cert.Ffn
end
-- ==== Proof.FfnValue.lean ====
/- The feed-forward block's backward call computes the gradients of the block. -/
module

public import proofs.«01_k».proof.Proof.FfnFirst
public import proofs.«01_k».proof.Proof.FfnStages
public import proofs.«01_k».proof.Proof.FfnFinite
public import proofs.«01_k».proof.Defs
public import Idealize.ShloMosaic.Lib.Claim
public import Idealize.ShloMosaic.Lib.Pipeline.ValueKit

@[expose] public section

set_option maxRecDepth 16384

noncomputable section

namespace Cert.Ffn

open Idealize.ShloMosaic Idealize.ShloMosaic.TcCoe Idealize.SL.Sem Idealize.ShloMosaic.StableHlo
open Cert.FfnKernelIdeal Cert.FfnKernelIdeal.Gen Cert.Reals Cert.Scalars

/-- The packed weights: the transposes of the first two and the third, each cut into eight parts of 352 rows. -/
def pack (wg wu : FVec Ideal S1024x2816 .f32) (wd : FVec Ideal S2816x1024 .f32) : FVec Ideal S8x1056x1024 .bf16 :=
  truncf .bf16 (concatenate S8x1056x1024 1
    [⟨S8x352x1024, shapeCast S8x352x1024 (transpose S2816x1024 [1, 0] wg transposes_S1024x2816_S2816x1024_1_0) shapeCasts_S2816x1024_S8x352x1024⟩,
      ⟨S8x352x1024, shapeCast S8x352x1024 (transpose S2816x1024 [1, 0] wu transposes_S1024x2816_S2816x1024_1_0) shapeCasts_S2816x1024_S8x352x1024⟩,
      ⟨S8x352x1024, shapeCast S8x352x1024 wd shapeCasts_S2816x1024_S8x352x1024⟩]
    concatenates_S8x352x1024_S8x352x1024_S8x352x1024_S8x1056x1024_d1) bitsLt_bf16_f32

theorem pack_real (I : Inputs) : pack (real2 I.gate) (real2 I.up) (real2 I.down) = real3 (packed I) := by
  funext y
  idx_vars y
  have h := y1.isLt
  pointwise [pack, real2_ix2, real3_ix3]
  unfold packed
  split_ifs <;> first | omega | rfl | (congr 2; omega) | (congr 3; omega)

theorem row_real (g : ℕ → ℝ) : shapeCast S1x1024 (real1 g : FVec Ideal S1024 .f32) shapeCasts_S1024_S1x1024 = scale g := by
  funext y
  idx_vars y
  pointwise [real2_ix2, real1_ix1]

section Kernel

variable (m : (ℓ : Loc nD τ sig) → Buf (Elt Ideal) ℓ) (c : Dev nD)

/-- The arrays the kernel is given. -/
theorem operands : V m c main_v24 = pack (m ((c.tc : Thread nD τ).loc main_arg3)) (m ((c.tc : Thread nD τ).loc main_arg4)) (m ((c.tc : Thread nD τ).loc main_arg5)) ∧ V m c main_v25 = flat (m ((c.tc : Thread nD τ).loc main_arg0))
    ∧ V m c main_v26 = flat (forward (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) ∧ V m c main_v27 = flat (m ((c.tc : Thread nD τ).loc main_arg6))
    ∧ V m c main_v28 = shapeCast S1x1024 (m ((c.tc : Thread nD τ).loc main_arg1)) shapeCasts_S1024_S1x1024
    ∧ V m c main_v29 = shapeCast S1x1024 (m ((c.tc : Thread nD τ).loc main_arg2)) shapeCasts_S1024_S1x1024 := by
  simp only [V, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  refine ⟨rfl, rfl, rfl, rfl, rfl, rfl⟩

theorem block_index : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

variable {I : Inputs}

/-- The kernel's arrays, as functions. -/
structure Holds (I : Inputs) : Prop where
  w : V m c main_v24 = held I c
  x : V m c main_v25 = real2 (φ := .f32) I.x
  f : V m c main_v26 = real2 (φ := .f32) I.f
  ct : V m c main_v27 = real2 (φ := .f32) I.ct
  pre : V m c main_v28 = real2 (φ := .f32) fun _ d => I.pre d
  post : V m c main_v29 = real2 (φ := .f32) fun _ d => I.post d

variable {m c}

/-- Real arguments and what the kernel is given of them. -/
theorem holds_of (h0 : m ((c.tc : Thread nD τ).loc main_arg0) = real3 (φ := .f32) fun _ => I.x) (h1 : m ((c.tc : Thread nD τ).loc main_arg1) = real1 (φ := .f32) I.pre) (h2 : m ((c.tc : Thread nD τ).loc main_arg2) = real1 (φ := .f32) I.post)
    (h3 : m ((c.tc : Thread nD τ).loc main_arg3) = real2 (φ := .f32) I.gate) (h4 : m ((c.tc : Thread nD τ).loc main_arg4) = real2 (φ := .f32) I.up) (h5 : m ((c.tc : Thread nD τ).loc main_arg5) = real2 (φ := .f32) I.down)
    (h6 : m ((c.tc : Thread nD τ).loc main_arg6) = real3 (φ := .f32) fun _ => I.ct) : Holds m c I := by
  obtain ⟨ew, ex, ef, ec, eg, ep⟩ := operands m c
  refine ⟨?_, ?_, ?_, ?_, ?_, ?_⟩
  · rw [ew, h3, h4, h5]; exact pack_real I
  · rw [ex, h0]; exact flat_real I.x
  · rw [ef, h0, h1, h3, h4, h5]; exact (congrArg flat (forward_real I)).trans (flat_real I.f)
  · rw [ec, h6]; exact flat_real I.ct
  · rw [eg, h1]; exact row_real I.pre
  · rw [ep, h2]; exact row_real I.post

variable (H : Holds m c I)
include H

theorem block_x (t : Fin cfg0.N) : (iblk m c 0 t : FVec Ideal S256x1024 .f32) = rows t.val I.x := by
  unfold iblk
  rw [show V m c (Pipeline.arrRef spec0 0) = _ from H.x]
  funext y
  show ((I.x (win0_0.index t 0 * 256 + 1 * (y 0).val) (win0_0.index t 1 * 1024 + 1 * (y 1).val) : ℝ) : EReal) = ((I.x (256 * t.val + (y 0).val) (y 1).val : ℝ) : EReal)
  rw [(block_index t).1]
  show ((I.x (t.val * 256 + 1 * (y 0).val) (0 * 1024 + 1 * (y 1).val) : ℝ) : EReal) = _
  rw [Nat.mul_comm t.val, one_mul, one_mul, zero_mul, zero_add]

theorem block_f (t : Fin cfg0.N) : (iblk m c 1 t : FVec Ideal S256x1024 .f32) = rows t.val I.f := by
  unfold iblk
  rw [show V m c (Pipeline.arrRef spec0 1) = _ from H.f]
  funext y
  show ((I.f (win0_1.index t 0 * 256 + 1 * (y 0).val) (win0_1.index t 1 * 1024 + 1 * (y 1).val) : ℝ) : EReal) = ((I.f (256 * t.val + (y 0).val) (y 1).val : ℝ) : EReal)
  rw [(block_index t).2.1]
  show ((I.f (t.val * 256 + 1 * (y 0).val) (0 * 1024 + 1 * (y 1).val) : ℝ) : EReal) = _
  rw [Nat.mul_comm t.val, one_mul, one_mul, zero_mul, zero_add]

theorem block_ct (t : Fin cfg0.N) : (iblk m c 2 t : FVec Ideal S256x1024 .f32) = rows t.val I.ct := by
  unfold iblk
  rw [show V m c (Pipeline.arrRef spec0 2) = _ from H.ct]
  funext y
  show ((I.ct (win0_2.index t 0 * 256 + 1 * (y 0).val) (win0_2.index t 1 * 1024 + 1 * (y 1).val) : ℝ) : EReal) = ((I.ct (256 * t.val + (y 0).val) (y 1).val : ℝ) : EReal)
  rw [(block_index t).2.2.1]
  show ((I.ct (t.val * 256 + 1 * (y 0).val) (0 * 1024 + 1 * (y 1).val) : ℝ) : EReal) = _
  rw [Nat.mul_comm t.val, one_mul, one_mul, zero_mul, zero_add]

theorem block_pre (t : Fin cfg0.N) : (iblk m c 3 t : FVec Ideal S1x1024 .f32) = scale I.pre := by
  unfold iblk
  rw [show V m c (Pipeline.arrRef spec0 3) = _ from H.pre]
  funext y
  show ((I.pre (win0_3.index t 1 * 1024 + 1 * (y 1).val) : ℝ) : EReal) = ((I.pre (y 1).val : ℝ) : EReal)
  rw [(block_index t).2.2.2.1]
  show ((I.pre (0 * 1024 + 1 * (y 1).val) : ℝ) : EReal) = _
  rw [one_mul, zero_mul, zero_add]

theorem block_post (t : Fin cfg0.N) : (iblk m c 4 t : FVec Ideal S1x1024 .f32) = scale I.post := by
  unfold iblk
  rw [show V m c (Pipeline.arrRef spec0 4) = _ from H.post]
  funext y
  show ((I.post (win0_4.index t 1 * 1024 + 1 * (y 1).val) : ℝ) : EReal) = ((I.post (y 1).val : ℝ) : EReal)
  rw [(block_index t).2.2.2.2.1]
  show ((I.post (0 * 1024 + 1 * (y 1).val) : ℝ) : EReal) = _
  rw [one_mul, zero_mul, zero_add]

theorem given_at (t : Fin cfg0.N) : Given I m c t := ⟨block_x H t, block_f H t, block_ct H t, block_pre H t, block_post H t⟩

/-- What each point leaves. -/
theorem leaves_at (n : ℕ) (h : n < cfg0.N) : Leaves I n (left m c n h) := by
  induction n with
  | zero =>
    rw [show left m c 0 h = _ from left_first m c ⟨0, h⟩ rfl]
    exact first_leaves ⟨0, h⟩ rfl (given_at H _) H.w
  | succ n ih =>
    have L := ih (Nat.lt_of_succ_lt h)
    rw [show left m c (n + 1) h = _ from left_later m c ⟨n + 1, h⟩ (Nat.succ_ne_zero n)]
    exact later_leaves ⟨n + 1, h⟩ (Nat.succ_ne_zero n) _ (given_at H _) L.both L.down L.dpre L.dpost

/-- The kernel's first array. -/
theorem in_final : (dats m 0 c).arrAt 5 (cfgs 0).N = (real2 (φ := .f32) (fun r d => I.ct r d + I.dx r d) : FVec Ideal S4096x1024 .f32) := by
  refine (dats m 0 c).arrAt_eq_of_covers 5 _ (by decide +kernel) fun t _ y => ?_
  blk_simp
  rw [after0_5, (leaves_at H t.val t.isLt).dx]
  have e := (block_index t).2.2.2.2.2.1
  show ((I.ct (256 * t.val + (y 0).val) ((y 1).val) + I.dx (256 * t.val + (y 0).val) ((y 1).val) : ℝ) : EReal)
    = ((I.ct (win0_5.index t 0 * 256 + 1 * (y 0).val) (win0_5.index t 1 * 1024 + 1 * (y 1).val) + I.dx (win0_5.index t 0 * 256 + 1 * (y 0).val) (win0_5.index t 1 * 1024 + 1 * (y 1).val) : ℝ) : EReal)
  rw [e]
  show _ = ((I.ct (t.val * 256 + 1 * (y 0).val) (0 * 1024 + 1 * (y 1).val) + I.dx (t.val * 256 + 1 * (y 0).val) (0 * 1024 + 1 * (y 1).val) : ℝ) : EReal)
  rw [Nat.mul_comm t.val, one_mul, one_mul, zero_mul, zero_add]

/-- The kernel's second array. -/
theorem hid_final : (dats m 0 c).arrAt 6 (cfgs 0).N = (real2 (φ := .bf16) I.hid : FVec Ideal S4096x1024 .bf16) := by
  refine (dats m 0 c).arrAt_eq_of_covers 6 _ (by decide +kernel) fun t _ y => ?_
  blk_simp
  rw [after0_6, (leaves_at H t.val t.isLt).hid]
  have e := (block_index t).2.2.2.2.2.2.1
  show ((I.hid (256 * t.val + (y 0).val) ((y 1).val) : ℝ) : EReal)
    = ((I.hid (win0_6.index t 0 * 256 + 1 * (y 0).val) (win0_6.index t 1 * 1024 + 1 * (y 1).val) : ℝ) : EReal)
  rw [e]
  show _ = ((I.hid (t.val * 256 + 1 * (y 0).val) (0 * 1024 + 1 * (y 1).val) : ℝ) : EReal)
  rw [Nat.mul_comm t.val, one_mul, one_mul, zero_mul, zero_add]

/-- The kernel's third array. -/
theorem both_final : (dats m 0 c).arrAt 7 (cfgs 0).N = (real2 (φ := .bf16) I.dab : FVec Ideal S4096x5632 .bf16) := by
  refine (dats m 0 c).arrAt_eq_of_covers 7 _ (by decide +kernel) fun t _ y => ?_
  blk_simp
  rw [after0_7, (leaves_at H t.val t.isLt).dab]
  have e := (block_index t).2.2.2.2.2.2.2.1
  show ((I.dab (256 * t.val + (y 0).val) ((y 1).val) : ℝ) : EReal)
    = ((I.dab (win0_7.index t 0 * 256 + 1 * (y 0).val) (win0_7.index t 1 * 5632 + 1 * (y 1).val) : ℝ) : EReal)
  rw [e]
  show _ = ((I.dab (t.val * 256 + 1 * (y 0).val) (0 * 5632 + 1 * (y 1).val) : ℝ) : EReal)
  rw [Nat.mul_comm t.val, one_mul, one_mul, zero_mul, zero_add]

/-- The kernel's fourth array. -/
theorem gated_final : (dats m 0 c).arrAt 8 (cfgs 0).N = (real2 (φ := .bf16) I.s : FVec Ideal S4096x2816 .bf16) := by
  refine (dats m 0 c).arrAt_eq_of_covers 8 _ (by decide +kernel) fun t _ y => ?_
  blk_simp
  rw [after0_8, (leaves_at H t.val t.isLt).s]
  have e := (block_index t).2.2.2.2.2.2.2.2.1
  show ((I.s (256 * t.val + (y 0).val) ((y 1).val) : ℝ) : EReal)
    = ((I.s (win0_8.index t 0 * 256 + 1 * (y 0).val) (win0_8.index t 1 * 2816 + 1 * (y 1).val) : ℝ) : EReal)
  rw [e]
  show _ = ((I.s (t.val * 256 + 1 * (y 0).val) (0 * 2816 + 1 * (y 1).val) : ℝ) : EReal)
  rw [Nat.mul_comm t.val, one_mul, one_mul, zero_mul, zero_add]

/-- The kernel's fifth array. -/
theorem forward_final : (dats m 0 c).arrAt 9 (cfgs 0).N = (real2 (φ := .bf16) I.df : FVec Ideal S4096x1024 .bf16) := by
  refine (dats m 0 c).arrAt_eq_of_covers 9 _ (by decide +kernel) fun t _ y => ?_
  blk_simp
  rw [after0_9, (leaves_at H t.val t.isLt).df]
  have e := (block_index t).2.2.2.2.2.2.2.2.2
  show ((I.df (256 * t.val + (y 0).val) ((y 1).val) : ℝ) : EReal)
    = ((I.df (win0_9.index t 0 * 256 + 1 * (y 0).val) (win0_9.index t 1 * 1024 + 1 * (y 1).val) : ℝ) : EReal)
  rw [e]
  show _ = ((I.df (t.val * 256 + 1 * (y 0).val) (0 * 1024 + 1 * (y 1).val) : ℝ) : EReal)
  rw [Nat.mul_comm t.val, one_mul, one_mul, zero_mul, zero_add]

/-- The kernel's sixth array. -/
theorem pre_final : (dats m 0 c).arrAt 10 (cfgs 0).N = (real2 (φ := .f32) fun _ d => ∑ r ∈ Finset.range 4096, I.dpre r d : FVec Ideal S1x1024 .f32) := by
  refine (dats m 0 c).arrAt_eq_of_after_last 10 t0_15 (by decide +kernel) _ fun j => ?_
  blk_simp
  rw [after0_10]
  exact congrFun (leaves_at H 15 _).dpre j

/-- The kernel's seventh array. -/
theorem post_final : (dats m 0 c).arrAt 11 (cfgs 0).N = (real2 (φ := .f32) fun _ d => ∑ r ∈ Finset.range 4096, I.dpost r d : FVec Ideal S1x1024 .f32) := by
  refine (dats m 0 c).arrAt_eq_of_after_last 11 t0_15 (by decide +kernel) _ fun j => ?_
  blk_simp
  rw [after0_11]
  exact congrFun (leaves_at H 15 _).dpost j

end Kernel

/-- Where the precondition holds, the arguments are arrays of real numbers. -/
theorem reals_of_pre [Cert.Pre_ffn_finite.Facts] {m : (ℓ : Loc nD τ sig) → Buf (Elt Ideal) ℓ} (h : Pre_FfnKernelIdeal_ffn_finite m) (c : Dev nD) :
    ∃ I : Inputs, m ((c.tc : Thread nD τ).loc main_arg0) = real3 (φ := .f32) (fun _ => I.x) ∧ m ((c.tc : Thread nD τ).loc main_arg1) = real1 (φ := .f32) I.pre
      ∧ m ((c.tc : Thread nD τ).loc main_arg2) = real1 (φ := .f32) I.post ∧ m ((c.tc : Thread nD τ).loc main_arg3) = real2 (φ := .f32) I.gate
      ∧ m ((c.tc : Thread nD τ).loc main_arg4) = real2 (φ := .f32) I.up ∧ m ((c.tc : Thread nD τ).loc main_arg5) = real2 (φ := .f32) I.down
      ∧ m ((c.tc : Thread nD τ).loc main_arg6) = real3 (φ := .f32) (fun _ => I.ct) := by
  obtain ⟨ex, eg, ep, eu, ev, ew, ed⟩ := finite_of_pre _ _ _ _ _ _ _ (h c)
  obtain ⟨x, hx⟩ := exists_real3 _ ex
  obtain ⟨g, hg⟩ := exists_real1 _ eg
  obtain ⟨p, hp⟩ := exists_real1 _ ep
  obtain ⟨u, hu⟩ := exists_real2 _ eu
  obtain ⟨v, hv⟩ := exists_real2 _ ev
  obtain ⟨w, hw⟩ := exists_real2 _ ew
  obtain ⟨d, hd⟩ := exists_real3 _ ed
  have one (f : ℕ → ℕ → ℕ → ℝ) : (real3 f : FVec Ideal S1x4096x1024 .f32) = real3 fun _ => f 0 := by
    funext y
    show ((f (y 0).val (y 1).val (y 2).val : ℝ) : EReal) = ((f 0 (y 1).val (y 2).val : ℝ) : EReal)
    rw [show (y 0).val = 0 from Nat.lt_one_iff.1 (y 0).isLt]
  exact ⟨⟨x 0, d 0, g, p, u, v, w⟩, hx.trans (one x), hg, hp, hu, hv, hw, hd.trans (one d)⟩

/-- The kernel's seven arrays. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30_0) = (dats m 0 c).arrAt 5 (cfgs 0).N
      ∧ r.2.mem ((c.tc : Thread nD τ).loc main_v30_1) = (dats m 0 c).arrAt 6 (cfgs 0).N
      ∧ r.2.mem ((c.tc : Thread nD τ).loc main_v30_2) = (dats m 0 c).arrAt 7 (cfgs 0).N
      ∧ r.2.mem ((c.tc : Thread nD τ).loc main_v30_3) = (dats m 0 c).arrAt 8 (cfgs 0).N
      ∧ r.2.mem ((c.tc : Thread nD τ).loc main_v30_4) = (dats m 0 c).arrAt 9 (cfgs 0).N
      ∧ r.2.mem ((c.tc : Thread nD τ).loc main_v30_5) = (dats m 0 c).arrAt 10 (cfgs 0).N
      ∧ r.2.mem ((c.tc : Thread nD τ).loc main_v30_6) = (dats m 0 c).arrAt 11 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1 5, (h.1 c).1 6, (h.1 c).1 7, (h.1 c).1 8, (h.1 c).1 9, (h.1 c).1 10, (h.1 c).1 11, h.2.1 c⟩)
    (θ_run_and (run_main m ρ) (frame m ρ))

end Cert.Ffn
end
-- ==== Proof.FfnEqual.lean ====
/- The feed-forward block's backward call and its reference agree. -/
module

public import proofs.«01_k».proof.Proof.FfnValue

@[expose] public section

set_option maxRecDepth 16384

noncomputable section

namespace Cert.Ffn

open Idealize.ShloMosaic Idealize.ShloMosaic.TcCoe Idealize.SL.Sem Idealize.ShloMosaic.StableHlo
open Cert.FfnKernelIdeal Cert.FfnKernelIdeal.Gen Cert.Reals Cert.Scalars

set_option maxHeartbeats 2000000 in
/-- The call's arrays are the gradients of the block. -/
theorem algebraic [Cert.Pre_ffn_finite.Facts] : Cert.algebraic_FfnKernelIdeal_FfnReferenceIdeal_pre_ffn_finite := by
  intro m ρ m' ρ' hpre hagree
  choose I hx hg hp hu hv hw hd using reals_of_pre hpre
  have H (c : Dev nD) : Holds m c (I c) := holds_of (hx c) (hg c) (hp c) (hu c) (hv c) (hw c) (hd c)
  refine ⟨fun c => (dats m 0 c).arrAt 5 (cfgs 0).N, fun c => (dats m 0 c).arrAt 6 (cfgs 0).N, fun c => (dats m 0 c).arrAt 7 (cfgs 0).N, fun c => (dats m 0 c).arrAt 8 (cfgs 0).N, fun c => (dats m 0 c).arrAt 9 (cfgs 0).N, fun c => (dats m 0 c).arrAt 10 (cfgs 0).N, fun c => (dats m 0 c).arrAt 11 (cfgs 0).N, run_arrays m ρ, ?_⟩
  refine (θ_run _ _ _).mono (fun r h c => ?_) (run_stages m' ρ')
  obtain ⟨h0, h1, h2, h3, h4, h5, h6, ha⟩ := h c
  obtain ⟨e0, e1, e2, e3, e4, e5, e6⟩ := hagree c
  rw [e0, e1, e2, e3, e4, e5, e6, hx, hg, hp, hu, hv, hw, hd] at h0 h2 h4 h5
  rw [e0, e1, hx, hg] at h1
  rw [e0, e1, e3, e4, hx, hg, hu, hv] at h3
  rw [e0, e1, e3, e4, e5, e6, hx, hg, hu, hv, hw, hd] at h6
  exact ⟨h0.trans ((outIn_real (I c)).trans (in_final (H c)).symm), h1.trans ((outHid_real (I c)).trans (hid_final (H c)).symm),
    h2.trans ((outBoth_real (I c)).trans (both_final (H c)).symm), h3.trans ((outGated_real (I c)).trans (gated_final (H c)).symm),
    h4.trans ((outForward_real (I c)).trans (forward_final (H c)).symm), h5.trans ((outPre_real (I c)).trans (pre_final (H c)).symm),
    h6.trans ((outPost_real (I c)).trans (post_final (H c)).symm), ha⟩

end Cert.Ffn
end
-- ==== Proof.FfnClaim.lean ====
/- The claims about the feed-forward's backward call. -/
module

public import proofs.«01_k».proof.Defs
public import proofs.«01_k».proof.Proof.FfnEqual
public import proofs.«01_k».proof.Proof.Gen.FfnKernel
public import proofs.«01_k».proof.Proof.Gen.FfnReferenceIdeal.Run
public import Idealize.ShloMosaic.Lib.Claim

@[expose] public section

set_option maxRecDepth 16384

noncomputable section

namespace Cert.Ffn

open Idealize.ShloMosaic Idealize.ShloMosaic.TcCoe Idealize.ShloMosaic.Tactic
open Idealize.SL Idealize.SL.RA Idealize.SL.BI

/-- The kernel over the machine's own numbers has its idealised form's text, so one run serves both. -/
theorem run_kernel (m : (ℓ : Loc Cert.FfnKernel.nD Cert.FfnKernel.τ Cert.FfnKernel.sig) → Buf (Elt Bits) ℓ)
    (ρ : Dev Cert.FfnKernel.nD → PrngReg) :
    θ_run Cert.FfnKernel.defs (onTc (τ := Cert.FfnKernel.τ) (Cert.FfnKernel.main (F := Bits))) ⟨m, fun _ => 0, ρ⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0) := by
  refine cast ?_ (Cert.FfnKernelIdeal.Gen.frame (F := Bits) m ρ)
  sl_kernel_rfl

/-- Every run of the kernel ends, its arguments unchanged and its semaphores at rest. -/
theorem frame_kernel : Cert.quiescent_FfnKernel := fun m ρ _ => run_kernel m ρ

/-- The same on the extended reals. -/
theorem frame_ideal : Cert.quiescent_FfnKernelIdeal := fun m ρ _ => Cert.FfnKernelIdeal.Gen.frame m ρ

/-- The same of finite arguments. -/
theorem frame_ideal_finite [Cert.Pre_ffn_finite.Facts] : Cert.quiescent_FfnKernelIdeal_pre_ffn_finite := fun m ρ _ => Cert.FfnKernelIdeal.Gen.frame m ρ

/-- Every run of the reference ends, its arguments unchanged; it has no semaphore. -/
theorem frame_reference : Cert.quiescent_FfnReferenceIdeal := fun m ρ _ =>
  (θ_run Cert.FfnReferenceIdeal.defs _ _).mono
    (fun r h => ⟨fun c => (h c).2.2.2.2.2.2.2, sem_eq_zero_of_no_sems (by decide) r.2⟩)
    (Cert.FfnReferenceIdeal.Value.run (F := Ideal) m ρ)

/-- The same of finite arguments. -/
theorem frame_reference_finite [Cert.Pre_ffn_finite.Facts] : Cert.quiescent_FfnReferenceIdeal_pre_ffn_finite :=
  fun m ρ _ => frame_reference m ρ trivial

/-- Idealizing changes no operation. -/
theorem preserves : Cert.preserves_FfnKernel_FfnKernelIdeal := trivial

end Cert.Ffn

end
-- ==== Proof.lean ====
/- The claims of this directory (`Cert.Claim`, in Defs.lean), each from the module that proves it.
   The claims about one call are together in the module named after it. -/
module

public import proofs.«01_k».proof.Defs
public import proofs.«01_k».proof.Proof.LossClaim
public import proofs.«01_k».proof.Proof.AttnClaim
public import proofs.«01_k».proof.Proof.ConvClaim
public import proofs.«01_k».proof.Proof.PreClaim
public import proofs.«01_k».proof.Proof.MlaClaim
public import proofs.«01_k».proof.Proof.AttnfClaim
public import proofs.«01_k».proof.Proof.PrefClaim
public import proofs.«01_k».proof.Proof.MlafClaim
public import proofs.«01_k».proof.Proof.FfnClaim
public import proofs.«01_k».proof.Proof.Gen.Pre_attn_finite
public import proofs.«01_k».proof.Proof.Gen.Pre_pre_in_finite
public import proofs.«01_k».proof.Proof.Gen.Pre_mla_finite
public import proofs.«01_k».proof.Proof.Gen.Pre_attnf_finite
public import proofs.«01_k».proof.Proof.Gen.Pre_ffn_finite

@[expose] public section

noncomputable section

namespace Cert.Proof

/-- Every claim holds. -/
theorem claim : Cert.Claim :=
  ⟨Cert.LossKernel.Gen.facts, Cert.LossKernelIdeal.Gen.facts, Cert.LossReferenceIdeal.Gen.facts, Cert.AttnKernel.Gen.facts, Cert.AttnKernelIdeal.Gen.facts, Cert.AttnReferenceIdeal.Gen.facts, Cert.ConvKernel.Gen.facts, Cert.ConvKernelIdeal.Gen.facts, Cert.ConvReferenceIdeal.Gen.facts, Cert.PreKernel.Gen.facts, Cert.PreKernelIdeal.Gen.facts, Cert.PreReferenceIdeal.Gen.facts, Cert.MlaKernel.Gen.facts, Cert.MlaKernelIdeal.Gen.facts, Cert.MlaReferenceIdeal.Gen.facts, Cert.AttnfKernel.Gen.facts, Cert.AttnfKernelIdeal.Gen.facts, Cert.AttnfReferenceIdeal.Gen.facts, Cert.PrefKernel.Gen.facts, Cert.PrefKernelIdeal.Gen.facts, Cert.PrefReferenceIdeal.Gen.facts, Cert.MlafKernel.Gen.facts, Cert.MlafKernelIdeal.Gen.facts, Cert.MlafReferenceIdeal.Gen.facts, Cert.FfnKernel.Gen.facts, Cert.FfnKernelIdeal.Gen.facts, Cert.FfnReferenceIdeal.Gen.facts, Cert.Pre_attn_finite.Gen.facts, Cert.Pre_pre_in_finite.Gen.facts, Cert.Pre_mla_finite.Gen.facts, Cert.Pre_attnf_finite.Gen.facts, Cert.Pre_ffn_finite.Gen.facts,
    Cert.Loss.frame_kernel,
    Cert.Loss.frame_ideal,
    Cert.Loss.frame_reference,
    Cert.Attn.quiescent_kernel,
    Cert.Attn.quiescent_ideal,
    Cert.Attn.quiescent_ideal_finite,
    Cert.Attn.quiescent_reference,
    Cert.Attn.quiescent_reference_finite,
    Cert.Conv.frame_kernel,
    Cert.Conv.frame_ideal,
    Cert.Conv.frame_reference,
    Cert.Pre.frame_kernel,
    Cert.Pre.frame_ideal,
    Cert.Pre.frame_ideal_finite,
    Cert.Pre.frame_reference,
    Cert.Pre.frame_reference_finite,
    Cert.Mla.frame_kernel,
    Cert.Mla.frame_ideal,
    Cert.Mla.frame_ideal_finite,
    Cert.Mla.frame_reference,
    Cert.Mla.frame_reference_finite,
    Cert.Attnf.quiescent_kernel,
    Cert.Attnf.quiescent_ideal,
    Cert.Attnf.quiescent_ideal_finite,
    Cert.Attnf.quiescent_reference,
    Cert.Attnf.quiescent_reference_finite,
    Cert.Pref.frame_kernel,
    Cert.Pref.frame_ideal,
    Cert.Pref.frame_reference,
    Cert.Mlaf.frame_kernel,
    Cert.Mlaf.frame_ideal,
    Cert.Mlaf.frame_reference,
    Cert.Ffn.frame_kernel,
    Cert.Ffn.frame_ideal,
    Cert.Ffn.frame_ideal_finite,
    Cert.Ffn.frame_reference,
    Cert.Ffn.frame_reference_finite,
    Cert.Loss.preserves,
    Cert.Loss.algebraic,
    Cert.Attn.preserves,
    Cert.Attn.algebraic,
    Cert.Conv.preserves,
    Cert.Conv.algebraic,
    Cert.Pre.preserves,
    Cert.Pre.algebraic,
    Cert.Mla.preserves,
    Cert.Mla.algebraic,
    Cert.Attnf.preserves,
    Cert.Attnf.algebraic,
    Cert.Pref.preserves,
    Cert.Pref.algebraic,
    Cert.Mlaf.preserves,
    Cert.Mlaf.algebraic,
    Cert.Ffn.preserves,
    Cert.Ffn.algebraic⟩

end Cert.Proof

end
